-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_ffn [hPre_finite_ffn : Cert.Pre_finite_ffn.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_ffn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_ffn [hPre_finite_ffn : Cert.Pre_finite_ffn.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_ffn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite_ffn [hKernel2Ideal : Cert.Kernel2Ideal.Facts] [hPre_finite_ffn : Cert.Pre_finite_ffn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_ffn m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_finite_ffn [hReference2Ideal : Cert.Reference2Ideal.Facts] [hPre_finite_ffn : Cert.Pre_finite_ffn.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_ffn m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v104_0)) (v1 : (c : Dev Cert.KernelIdeal.nD) → Buf (Elt Ideal) ((c.tc : Thread Cert.KernelIdeal.nD Cert.KernelIdeal.τ).loc Cert.KernelIdeal.main_v104_1)) (v2 : (c : Dev Cert.KernelIdeal.nD) → Buf (Elt Ideal) ((c.tc : Thread Cert.KernelIdeal.nD Cert.KernelIdeal.τ).loc Cert.KernelIdeal.main_v104_2)) (v3 : (c : Dev Cert.KernelIdeal.nD) → Buf (Elt Ideal) ((c.tc : Thread Cert.KernelIdeal.nD Cert.KernelIdeal.τ).loc Cert.KernelIdeal.main_v104_3)) (v4 : (c : Dev Cert.KernelIdeal.nD) → Buf (Elt Ideal) ((c.tc : Thread Cert.KernelIdeal.nD Cert.KernelIdeal.τ).loc Cert.KernelIdeal.main_v104_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104_0) = v0 c
          ∧ r.2.mem ((c.tc : Thread Cert.KernelIdeal.nD Cert.KernelIdeal.τ).loc Cert.KernelIdeal.main_v104_1) = v1 c
          ∧ r.2.mem ((c.tc : Thread Cert.KernelIdeal.nD Cert.KernelIdeal.τ).loc Cert.KernelIdeal.main_v104_2) = v2 c
          ∧ r.2.mem ((c.tc : Thread Cert.KernelIdeal.nD Cert.KernelIdeal.τ).loc Cert.KernelIdeal.main_v104_3) = v3 c
          ∧ r.2.mem ((c.tc : Thread Cert.KernelIdeal.nD Cert.KernelIdeal.τ).loc Cert.KernelIdeal.main_v104_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_v148) = v1 c
          ∧ r.2.mem ((c.tc : Thread Cert.ReferenceIdeal.nD Cert.ReferenceIdeal.τ).loc Cert.ReferenceIdeal.main_v149) = v2 c
          ∧ r.2.mem ((c.tc : Thread Cert.ReferenceIdeal.nD Cert.ReferenceIdeal.τ).loc Cert.ReferenceIdeal.main_v146) = v3 c
          ∧ r.2.mem ((c.tc : Thread Cert.ReferenceIdeal.nD Cert.ReferenceIdeal.τ).loc Cert.ReferenceIdeal.main_v151) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal_pre_finite_ffn [hKernel2Ideal : Cert.Kernel2Ideal.Facts] [hReference2Ideal : Cert.Reference2Ideal.Facts] [hPre_finite_ffn : Cert.Pre_finite_ffn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_ffn m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v44_0)) (v1 : (c : Dev Cert.Kernel2Ideal.nD) → Buf (Elt Ideal) ((c.tc : Thread Cert.Kernel2Ideal.nD Cert.Kernel2Ideal.τ).loc Cert.Kernel2Ideal.main_v44_1)) (v2 : (c : Dev Cert.Kernel2Ideal.nD) → Buf (Elt Ideal) ((c.tc : Thread Cert.Kernel2Ideal.nD Cert.Kernel2Ideal.τ).loc Cert.Kernel2Ideal.main_v44_2)) (v3 : (c : Dev Cert.Kernel2Ideal.nD) → Buf (Elt Ideal) ((c.tc : Thread Cert.Kernel2Ideal.nD Cert.Kernel2Ideal.τ).loc Cert.Kernel2Ideal.main_v44_3)) (v4 : (c : Dev Cert.Kernel2Ideal.nD) → Buf (Elt Ideal) ((c.tc : Thread Cert.Kernel2Ideal.nD Cert.Kernel2Ideal.τ).loc Cert.Kernel2Ideal.main_v44_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v44_0) = v0 c
          ∧ r.2.mem ((c.tc : Thread Cert.Kernel2Ideal.nD Cert.Kernel2Ideal.τ).loc Cert.Kernel2Ideal.main_v44_1) = v1 c
          ∧ r.2.mem ((c.tc : Thread Cert.Kernel2Ideal.nD Cert.Kernel2Ideal.τ).loc Cert.Kernel2Ideal.main_v44_2) = v2 c
          ∧ r.2.mem ((c.tc : Thread Cert.Kernel2Ideal.nD Cert.Kernel2Ideal.τ).loc Cert.Kernel2Ideal.main_v44_3) = v3 c
          ∧ r.2.mem ((c.tc : Thread Cert.Kernel2Ideal.nD Cert.Kernel2Ideal.τ).loc Cert.Kernel2Ideal.main_v44_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v93) = v0 c
          ∧ r.2.mem ((c.tc : Thread Cert.Reference2Ideal.nD Cert.Reference2Ideal.τ).loc Cert.Reference2Ideal.main_v94) = v1 c
          ∧ r.2.mem ((c.tc : Thread Cert.Reference2Ideal.nD Cert.Reference2Ideal.τ).loc Cert.Reference2Ideal.main_v100) = v2 c
          ∧ r.2.mem ((c.tc : Thread Cert.Reference2Ideal.nD Cert.Reference2Ideal.τ).loc Cert.Reference2Ideal.main_v101) = v3 c
          ∧ r.2.mem ((c.tc : Thread Cert.Reference2Ideal.nD Cert.Reference2Ideal.τ).loc Cert.Reference2Ideal.main_v92) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v10_0)) (v1 : (c : Dev Cert.Kernel5Ideal.nD) → Buf (Elt Ideal) ((c.tc : Thread Cert.Kernel5Ideal.nD Cert.Kernel5Ideal.τ).loc Cert.Kernel5Ideal.main_v10_1)) (v2 : (c : Dev Cert.Kernel5Ideal.nD) → Buf (Elt Ideal) ((c.tc : Thread Cert.Kernel5Ideal.nD Cert.Kernel5Ideal.τ).loc Cert.Kernel5Ideal.main_v10_2)) (v3 : (c : Dev Cert.Kernel5Ideal.nD) → Buf (Elt Ideal) ((c.tc : Thread Cert.Kernel5Ideal.nD Cert.Kernel5Ideal.τ).loc Cert.Kernel5Ideal.main_v10_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10_0) = v0 c
          ∧ r.2.mem ((c.tc : Thread Cert.Kernel5Ideal.nD Cert.Kernel5Ideal.τ).loc Cert.Kernel5Ideal.main_v10_1) = v1 c
          ∧ r.2.mem ((c.tc : Thread Cert.Kernel5Ideal.nD Cert.Kernel5Ideal.τ).loc Cert.Kernel5Ideal.main_v10_2) = v2 c
          ∧ r.2.mem ((c.tc : Thread Cert.Kernel5Ideal.nD Cert.Kernel5Ideal.τ).loc Cert.Kernel5Ideal.main_v10_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v34) = v0 c
          ∧ r.2.mem ((c.tc : Thread Cert.Reference5Ideal.nD Cert.Reference5Ideal.τ).loc Cert.Reference5Ideal.main_v35) = v1 c
          ∧ r.2.mem ((c.tc : Thread Cert.Reference5Ideal.nD Cert.Reference5Ideal.τ).loc Cert.Reference5Ideal.main_v41) = v2 c
          ∧ r.2.mem ((c.tc : Thread Cert.Reference5Ideal.nD Cert.Reference5Ideal.τ).loc Cert.Reference5Ideal.main_v42) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)) →
    ∃ (v0 : (c : Dev Cert.Kernel10Ideal.nD) → Buf (Elt Ideal) ((c.tc : Thread Cert.Kernel10Ideal.nD Cert.Kernel10Ideal.τ).loc Cert.Kernel10Ideal.main_v21_0)) (v1 : (c : Dev Cert.Kernel10Ideal.nD) → Buf (Elt Ideal) ((c.tc : Thread Cert.Kernel10Ideal.nD Cert.Kernel10Ideal.τ).loc Cert.Kernel10Ideal.main_v21_1)) (v2 : (c : Dev Cert.Kernel10Ideal.nD) → Buf (Elt Ideal) ((c.tc : Thread Cert.Kernel10Ideal.nD Cert.Kernel10Ideal.τ).loc Cert.Kernel10Ideal.main_v21_2)) (v3 : (c : Dev Cert.Kernel10Ideal.nD) → Buf (Elt Ideal) ((c.tc : Thread Cert.Kernel10Ideal.nD Cert.Kernel10Ideal.τ).loc Cert.Kernel10Ideal.main_v21_3)) (v4 : (c : Dev Cert.Kernel10Ideal.nD) → Buf (Elt Ideal) ((c.tc : Thread Cert.Kernel10Ideal.nD Cert.Kernel10Ideal.τ).loc Cert.Kernel10Ideal.main_v21_4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v21_0) = v0 c
          ∧ r.2.mem ((c.tc : Thread Cert.Kernel10Ideal.nD Cert.Kernel10Ideal.τ).loc Cert.Kernel10Ideal.main_v21_1) = v1 c
          ∧ r.2.mem ((c.tc : Thread Cert.Kernel10Ideal.nD Cert.Kernel10Ideal.τ).loc Cert.Kernel10Ideal.main_v21_2) = v2 c
          ∧ r.2.mem ((c.tc : Thread Cert.Kernel10Ideal.nD Cert.Kernel10Ideal.τ).loc Cert.Kernel10Ideal.main_v21_3) = v3 c
          ∧ r.2.mem ((c.tc : Thread Cert.Kernel10Ideal.nD Cert.Kernel10Ideal.τ).loc Cert.Kernel10Ideal.main_v21_4) = v4 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v55) = v0 c
          ∧ r.2.mem ((c.tc : Thread Cert.Reference10Ideal.nD Cert.Reference10Ideal.τ).loc Cert.Reference10Ideal.main_v56) = v1 c
          ∧ r.2.mem ((c.tc : Thread Cert.Reference10Ideal.nD Cert.Reference10Ideal.τ).loc Cert.Reference10Ideal.main_v62) = v2 c
          ∧ r.2.mem ((c.tc : Thread Cert.Reference10Ideal.nD Cert.Reference10Ideal.τ).loc Cert.Reference10Ideal.main_v63) = v3 c
          ∧ r.2.mem ((c.tc : Thread Cert.Reference10Ideal.nD Cert.Reference10Ideal.τ).loc Cert.Reference10Ideal.main_v64) = v4 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v4_0)) (v1 : (c : Dev Cert.Kernel12Ideal.nD) → Buf (Elt Ideal) ((c.tc : Thread Cert.Kernel12Ideal.nD Cert.Kernel12Ideal.τ).loc Cert.Kernel12Ideal.main_v4_1)) (v2 : (c : Dev Cert.Kernel12Ideal.nD) → Buf (Elt Ideal) ((c.tc : Thread Cert.Kernel12Ideal.nD Cert.Kernel12Ideal.τ).loc Cert.Kernel12Ideal.main_v4_2)) (v3 : (c : Dev Cert.Kernel12Ideal.nD) → Buf (Elt Ideal) ((c.tc : Thread Cert.Kernel12Ideal.nD Cert.Kernel12Ideal.τ).loc Cert.Kernel12Ideal.main_v4_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4_0) = v0 c
          ∧ r.2.mem ((c.tc : Thread Cert.Kernel12Ideal.nD Cert.Kernel12Ideal.τ).loc Cert.Kernel12Ideal.main_v4_1) = v1 c
          ∧ r.2.mem ((c.tc : Thread Cert.Kernel12Ideal.nD Cert.Kernel12Ideal.τ).loc Cert.Kernel12Ideal.main_v4_2) = v2 c
          ∧ r.2.mem ((c.tc : Thread Cert.Kernel12Ideal.nD Cert.Kernel12Ideal.τ).loc Cert.Kernel12Ideal.main_v4_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v24) = v0 c
          ∧ r.2.mem ((c.tc : Thread Cert.Reference12Ideal.nD Cert.Reference12Ideal.τ).loc Cert.Reference12Ideal.main_v25) = v1 c
          ∧ r.2.mem ((c.tc : Thread Cert.Reference12Ideal.nD Cert.Reference12Ideal.τ).loc Cert.Reference12Ideal.main_v26) = v2 c
          ∧ r.2.mem ((c.tc : Thread Cert.Reference12Ideal.nD Cert.Reference12Ideal.τ).loc Cert.Reference12Ideal.main_v27) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v7) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v4_0)) (v1 : (c : Dev Cert.Kernel16Ideal.nD) → Buf (Elt Ideal) ((c.tc : Thread Cert.Kernel16Ideal.nD Cert.Kernel16Ideal.τ).loc Cert.Kernel16Ideal.main_v4_1)) (v2 : (c : Dev Cert.Kernel16Ideal.nD) → Buf (Elt Ideal) ((c.tc : Thread Cert.Kernel16Ideal.nD Cert.Kernel16Ideal.τ).loc Cert.Kernel16Ideal.main_v4_2)) (v3 : (c : Dev Cert.Kernel16Ideal.nD) → Buf (Elt Ideal) ((c.tc : Thread Cert.Kernel16Ideal.nD Cert.Kernel16Ideal.τ).loc Cert.Kernel16Ideal.main_v4_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v4_0) = v0 c
          ∧ r.2.mem ((c.tc : Thread Cert.Kernel16Ideal.nD Cert.Kernel16Ideal.τ).loc Cert.Kernel16Ideal.main_v4_1) = v1 c
          ∧ r.2.mem ((c.tc : Thread Cert.Kernel16Ideal.nD Cert.Kernel16Ideal.τ).loc Cert.Kernel16Ideal.main_v4_2) = v2 c
          ∧ r.2.mem ((c.tc : Thread Cert.Kernel16Ideal.nD Cert.Kernel16Ideal.τ).loc Cert.Kernel16Ideal.main_v4_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v24) = v0 c
          ∧ r.2.mem ((c.tc : Thread Cert.Reference16Ideal.nD Cert.Reference16Ideal.τ).loc Cert.Reference16Ideal.main_v25) = v1 c
          ∧ r.2.mem ((c.tc : Thread Cert.Reference16Ideal.nD Cert.Reference16Ideal.τ).loc Cert.Reference16Ideal.main_v26) = v2 c
          ∧ r.2.mem ((c.tc : Thread Cert.Reference16Ideal.nD Cert.Reference16Ideal.τ).loc Cert.Reference16Ideal.main_v27) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v4_0)) (v1 : (c : Dev Cert.Kernel17Ideal.nD) → Buf (Elt Ideal) ((c.tc : Thread Cert.Kernel17Ideal.nD Cert.Kernel17Ideal.τ).loc Cert.Kernel17Ideal.main_v4_1)) (v2 : (c : Dev Cert.Kernel17Ideal.nD) → Buf (Elt Ideal) ((c.tc : Thread Cert.Kernel17Ideal.nD Cert.Kernel17Ideal.τ).loc Cert.Kernel17Ideal.main_v4_2)) (v3 : (c : Dev Cert.Kernel17Ideal.nD) → Buf (Elt Ideal) ((c.tc : Thread Cert.Kernel17Ideal.nD Cert.Kernel17Ideal.τ).loc Cert.Kernel17Ideal.main_v4_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v4_0) = v0 c
          ∧ r.2.mem ((c.tc : Thread Cert.Kernel17Ideal.nD Cert.Kernel17Ideal.τ).loc Cert.Kernel17Ideal.main_v4_1) = v1 c
          ∧ r.2.mem ((c.tc : Thread Cert.Kernel17Ideal.nD Cert.Kernel17Ideal.τ).loc Cert.Kernel17Ideal.main_v4_2) = v2 c
          ∧ r.2.mem ((c.tc : Thread Cert.Kernel17Ideal.nD Cert.Kernel17Ideal.τ).loc Cert.Kernel17Ideal.main_v4_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v24) = v0 c
          ∧ r.2.mem ((c.tc : Thread Cert.Reference17Ideal.nD Cert.Reference17Ideal.τ).loc Cert.Reference17Ideal.main_v25) = v1 c
          ∧ r.2.mem ((c.tc : Thread Cert.Reference17Ideal.nD Cert.Reference17Ideal.τ).loc Cert.Reference17Ideal.main_v26) = v2 c
          ∧ r.2.mem ((c.tc : Thread Cert.Reference17Ideal.nD Cert.Reference17Ideal.τ).loc Cert.Reference17Ideal.main_v27) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v4_0)) (v1 : (c : Dev Cert.Kernel18Ideal.nD) → Buf (Elt Ideal) ((c.tc : Thread Cert.Kernel18Ideal.nD Cert.Kernel18Ideal.τ).loc Cert.Kernel18Ideal.main_v4_1)) (v2 : (c : Dev Cert.Kernel18Ideal.nD) → Buf (Elt Ideal) ((c.tc : Thread Cert.Kernel18Ideal.nD Cert.Kernel18Ideal.τ).loc Cert.Kernel18Ideal.main_v4_2)) (v3 : (c : Dev Cert.Kernel18Ideal.nD) → Buf (Elt Ideal) ((c.tc : Thread Cert.Kernel18Ideal.nD Cert.Kernel18Ideal.τ).loc Cert.Kernel18Ideal.main_v4_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v4_0) = v0 c
          ∧ r.2.mem ((c.tc : Thread Cert.Kernel18Ideal.nD Cert.Kernel18Ideal.τ).loc Cert.Kernel18Ideal.main_v4_1) = v1 c
          ∧ r.2.mem ((c.tc : Thread Cert.Kernel18Ideal.nD Cert.Kernel18Ideal.τ).loc Cert.Kernel18Ideal.main_v4_2) = v2 c
          ∧ r.2.mem ((c.tc : Thread Cert.Kernel18Ideal.nD Cert.Kernel18Ideal.τ).loc Cert.Kernel18Ideal.main_v4_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v24) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v26) = v2 c
          ∧ r.2.mem ((c.tc : Thread Cert.Reference18Ideal.nD Cert.Reference18Ideal.τ).loc Cert.Reference18Ideal.main_v27) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg1) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v4_0)) (v1 : (c : Dev Cert.Kernel20Ideal.nD) → Buf (Elt Ideal) ((c.tc : Thread Cert.Kernel20Ideal.nD Cert.Kernel20Ideal.τ).loc Cert.Kernel20Ideal.main_v4_1)) (v2 : (c : Dev Cert.Kernel20Ideal.nD) → Buf (Elt Ideal) ((c.tc : Thread Cert.Kernel20Ideal.nD Cert.Kernel20Ideal.τ).loc Cert.Kernel20Ideal.main_v4_2)) (v3 : (c : Dev Cert.Kernel20Ideal.nD) → Buf (Elt Ideal) ((c.tc : Thread Cert.Kernel20Ideal.nD Cert.Kernel20Ideal.τ).loc Cert.Kernel20Ideal.main_v4_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v4_0) = v0 c
          ∧ r.2.mem ((c.tc : Thread Cert.Kernel20Ideal.nD Cert.Kernel20Ideal.τ).loc Cert.Kernel20Ideal.main_v4_1) = v1 c
          ∧ r.2.mem ((c.tc : Thread Cert.Kernel20Ideal.nD Cert.Kernel20Ideal.τ).loc Cert.Kernel20Ideal.main_v4_2) = v2 c
          ∧ r.2.mem ((c.tc : Thread Cert.Kernel20Ideal.nD Cert.Kernel20Ideal.τ).loc Cert.Kernel20Ideal.main_v4_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v24) = v0 c
          ∧ r.2.mem ((c.tc : Thread Cert.Reference20Ideal.nD Cert.Reference20Ideal.τ).loc Cert.Reference20Ideal.main_v25) = v1 c
          ∧ r.2.mem ((c.tc : Thread Cert.Reference20Ideal.nD Cert.Reference20Ideal.τ).loc Cert.Reference20Ideal.main_v26) = v2 c
          ∧ r.2.mem ((c.tc : Thread Cert.Reference20Ideal.nD Cert.Reference20Ideal.τ).loc Cert.Reference20Ideal.main_v27) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v4_0)) (v1 : (c : Dev Cert.Kernel21Ideal.nD) → Buf (Elt Ideal) ((c.tc : Thread Cert.Kernel21Ideal.nD Cert.Kernel21Ideal.τ).loc Cert.Kernel21Ideal.main_v4_1)) (v2 : (c : Dev Cert.Kernel21Ideal.nD) → Buf (Elt Ideal) ((c.tc : Thread Cert.Kernel21Ideal.nD Cert.Kernel21Ideal.τ).loc Cert.Kernel21Ideal.main_v4_2)) (v3 : (c : Dev Cert.Kernel21Ideal.nD) → Buf (Elt Ideal) ((c.tc : Thread Cert.Kernel21Ideal.nD Cert.Kernel21Ideal.τ).loc Cert.Kernel21Ideal.main_v4_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v4_0) = v0 c
          ∧ r.2.mem ((c.tc : Thread Cert.Kernel21Ideal.nD Cert.Kernel21Ideal.τ).loc Cert.Kernel21Ideal.main_v4_1) = v1 c
          ∧ r.2.mem ((c.tc : Thread Cert.Kernel21Ideal.nD Cert.Kernel21Ideal.τ).loc Cert.Kernel21Ideal.main_v4_2) = v2 c
          ∧ r.2.mem ((c.tc : Thread Cert.Kernel21Ideal.nD Cert.Kernel21Ideal.τ).loc Cert.Kernel21Ideal.main_v4_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v24) = v0 c
          ∧ r.2.mem ((c.tc : Thread Cert.Reference21Ideal.nD Cert.Reference21Ideal.τ).loc Cert.Reference21Ideal.main_v25) = v1 c
          ∧ r.2.mem ((c.tc : Thread Cert.Reference21Ideal.nD Cert.Reference21Ideal.τ).loc Cert.Reference21Ideal.main_v26) = v2 c
          ∧ r.2.mem ((c.tc : Thread Cert.Reference21Ideal.nD Cert.Reference21Ideal.τ).loc Cert.Reference21Ideal.main_v27) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v4_0)) (v1 : (c : Dev Cert.Kernel22Ideal.nD) → Buf (Elt Ideal) ((c.tc : Thread Cert.Kernel22Ideal.nD Cert.Kernel22Ideal.τ).loc Cert.Kernel22Ideal.main_v4_1)) (v2 : (c : Dev Cert.Kernel22Ideal.nD) → Buf (Elt Ideal) ((c.tc : Thread Cert.Kernel22Ideal.nD Cert.Kernel22Ideal.τ).loc Cert.Kernel22Ideal.main_v4_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v4_0) = v0 c
          ∧ r.2.mem ((c.tc : Thread Cert.Kernel22Ideal.nD Cert.Kernel22Ideal.τ).loc Cert.Kernel22Ideal.main_v4_1) = v1 c
          ∧ r.2.mem ((c.tc : Thread Cert.Kernel22Ideal.nD Cert.Kernel22Ideal.τ).loc Cert.Kernel22Ideal.main_v4_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v24) = v0 c
          ∧ r.2.mem ((c.tc : Thread Cert.Reference22Ideal.nD Cert.Reference22Ideal.τ).loc Cert.Reference22Ideal.main_v25) = v1 c
          ∧ r.2.mem ((c.tc : Thread Cert.Reference22Ideal.nD Cert.Reference22Ideal.τ).loc Cert.Reference22Ideal.main_v26) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v4_0)) (v1 : (c : Dev Cert.Kernel23Ideal.nD) → Buf (Elt Ideal) ((c.tc : Thread Cert.Kernel23Ideal.nD Cert.Kernel23Ideal.τ).loc Cert.Kernel23Ideal.main_v4_1)) (v2 : (c : Dev Cert.Kernel23Ideal.nD) → Buf (Elt Ideal) ((c.tc : Thread Cert.Kernel23Ideal.nD Cert.Kernel23Ideal.τ).loc Cert.Kernel23Ideal.main_v4_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v4_0) = v0 c
          ∧ r.2.mem ((c.tc : Thread Cert.Kernel23Ideal.nD Cert.Kernel23Ideal.τ).loc Cert.Kernel23Ideal.main_v4_1) = v1 c
          ∧ r.2.mem ((c.tc : Thread Cert.Kernel23Ideal.nD Cert.Kernel23Ideal.τ).loc Cert.Kernel23Ideal.main_v4_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v24) = v0 c
          ∧ r.2.mem ((c.tc : Thread Cert.Reference23Ideal.nD Cert.Reference23Ideal.τ).loc Cert.Reference23Ideal.main_v25) = v1 c
          ∧ r.2.mem ((c.tc : Thread Cert.Reference23Ideal.nD Cert.Reference23Ideal.τ).loc Cert.Reference23Ideal.main_v26) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v4_0)) (v1 : (c : Dev Cert.Kernel25Ideal.nD) → Buf (Elt Ideal) ((c.tc : Thread Cert.Kernel25Ideal.nD Cert.Kernel25Ideal.τ).loc Cert.Kernel25Ideal.main_v4_1)) (v2 : (c : Dev Cert.Kernel25Ideal.nD) → Buf (Elt Ideal) ((c.tc : Thread Cert.Kernel25Ideal.nD Cert.Kernel25Ideal.τ).loc Cert.Kernel25Ideal.main_v4_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v4_0) = v0 c
          ∧ r.2.mem ((c.tc : Thread Cert.Kernel25Ideal.nD Cert.Kernel25Ideal.τ).loc Cert.Kernel25Ideal.main_v4_1) = v1 c
          ∧ r.2.mem ((c.tc : Thread Cert.Kernel25Ideal.nD Cert.Kernel25Ideal.τ).loc Cert.Kernel25Ideal.main_v4_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v24) = v0 c
          ∧ r.2.mem ((c.tc : Thread Cert.Reference25Ideal.nD Cert.Reference25Ideal.τ).loc Cert.Reference25Ideal.main_v25) = v1 c
          ∧ r.2.mem ((c.tc : Thread Cert.Reference25Ideal.nD Cert.Reference25Ideal.τ).loc Cert.Reference25Ideal.main_v26) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v4_0)) (v1 : (c : Dev Cert.Kernel26Ideal.nD) → Buf (Elt Ideal) ((c.tc : Thread Cert.Kernel26Ideal.nD Cert.Kernel26Ideal.τ).loc Cert.Kernel26Ideal.main_v4_1)) (v2 : (c : Dev Cert.Kernel26Ideal.nD) → Buf (Elt Ideal) ((c.tc : Thread Cert.Kernel26Ideal.nD Cert.Kernel26Ideal.τ).loc Cert.Kernel26Ideal.main_v4_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v4_0) = v0 c
          ∧ r.2.mem ((c.tc : Thread Cert.Kernel26Ideal.nD Cert.Kernel26Ideal.τ).loc Cert.Kernel26Ideal.main_v4_1) = v1 c
          ∧ r.2.mem ((c.tc : Thread Cert.Kernel26Ideal.nD Cert.Kernel26Ideal.τ).loc Cert.Kernel26Ideal.main_v4_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v24) = v0 c
          ∧ r.2.mem ((c.tc : Thread Cert.Reference26Ideal.nD Cert.Reference26Ideal.τ).loc Cert.Reference26Ideal.main_v25) = v1 c
          ∧ r.2.mem ((c.tc : Thread Cert.Reference26Ideal.nD Cert.Reference26Ideal.τ).loc Cert.Reference26Ideal.main_v26) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v23) = v0 c
          ∧ r.2.mem ((c.tc : Thread Cert.Reference27Ideal.nD Cert.Reference27Ideal.τ).loc Cert.Reference27Ideal.main_v4) = v1 c
          ∧ r.2.mem ((c.tc : Thread Cert.Reference27Ideal.nD Cert.Reference27Ideal.τ).loc Cert.Reference27Ideal.main_v10) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v4_0)) (v1 : (c : Dev Cert.Kernel28Ideal.nD) → Buf (Elt Ideal) ((c.tc : Thread Cert.Kernel28Ideal.nD Cert.Kernel28Ideal.τ).loc Cert.Kernel28Ideal.main_v4_1)) (v2 : (c : Dev Cert.Kernel28Ideal.nD) → Buf (Elt Ideal) ((c.tc : Thread Cert.Kernel28Ideal.nD Cert.Kernel28Ideal.τ).loc Cert.Kernel28Ideal.main_v4_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v4_0) = v0 c
          ∧ r.2.mem ((c.tc : Thread Cert.Kernel28Ideal.nD Cert.Kernel28Ideal.τ).loc Cert.Kernel28Ideal.main_v4_1) = v1 c
          ∧ r.2.mem ((c.tc : Thread Cert.Kernel28Ideal.nD Cert.Kernel28Ideal.τ).loc Cert.Kernel28Ideal.main_v4_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v24) = v0 c
          ∧ r.2.mem ((c.tc : Thread Cert.Reference28Ideal.nD Cert.Reference28Ideal.τ).loc Cert.Reference28Ideal.main_v25) = v1 c
          ∧ r.2.mem ((c.tc : Thread Cert.Reference28Ideal.nD Cert.Reference28Ideal.τ).loc Cert.Reference28Ideal.main_v26) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v7) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)) →
    ∃ (v0 : (c : Dev Cert.Kernel30Ideal.nD) → Buf (Elt Ideal) ((c.tc : Thread Cert.Kernel30Ideal.nD Cert.Kernel30Ideal.τ).loc Cert.Kernel30Ideal.main_v3)) (v1 : (c : Dev Cert.Kernel30Ideal.nD) → Buf (Elt Ideal) ((c.tc : Thread Cert.Kernel30Ideal.nD Cert.Kernel30Ideal.τ).loc Cert.Kernel30Ideal.main_v4)) (v2 : (c : Dev Cert.Kernel30Ideal.nD) → Buf (Elt Ideal) ((c.tc : Thread Cert.Kernel30Ideal.nD Cert.Kernel30Ideal.τ).loc Cert.Kernel30Ideal.main_v6)) (v3 : (c : Dev Cert.Kernel30Ideal.nD) → Buf (Elt Ideal) ((c.tc : Thread Cert.Kernel30Ideal.nD Cert.Kernel30Ideal.τ).loc Cert.Kernel30Ideal.main_v8)) (v4 : (c : Dev Cert.Kernel30Ideal.nD) → Buf (Elt Ideal) ((c.tc : Thread Cert.Kernel30Ideal.nD Cert.Kernel30Ideal.τ).loc Cert.Kernel30Ideal.main_v9)) (v5 : (c : Dev Cert.Kernel30Ideal.nD) → Buf (Elt Ideal) ((c.tc : Thread Cert.Kernel30Ideal.nD Cert.Kernel30Ideal.τ).loc Cert.Kernel30Ideal.main_v10)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v3) = v0 c
          ∧ r.2.mem ((c.tc : Thread Cert.Kernel30Ideal.nD Cert.Kernel30Ideal.τ).loc Cert.Kernel30Ideal.main_v4) = v1 c
          ∧ r.2.mem ((c.tc : Thread Cert.Kernel30Ideal.nD Cert.Kernel30Ideal.τ).loc Cert.Kernel30Ideal.main_v6) = v2 c
          ∧ r.2.mem ((c.tc : Thread Cert.Kernel30Ideal.nD Cert.Kernel30Ideal.τ).loc Cert.Kernel30Ideal.main_v8) = v3 c
          ∧ r.2.mem ((c.tc : Thread Cert.Kernel30Ideal.nD Cert.Kernel30Ideal.τ).loc Cert.Kernel30Ideal.main_v9) = v4 c
          ∧ r.2.mem ((c.tc : Thread Cert.Kernel30Ideal.nD Cert.Kernel30Ideal.τ).loc Cert.Kernel30Ideal.main_v10) = v5 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v8) = v0 c
          ∧ r.2.mem ((c.tc : Thread Cert.Reference30Ideal.nD Cert.Reference30Ideal.τ).loc Cert.Reference30Ideal.main_v9) = v1 c
          ∧ r.2.mem ((c.tc : Thread Cert.Reference30Ideal.nD Cert.Reference30Ideal.τ).loc Cert.Reference30Ideal.main_v11) = v2 c
          ∧ r.2.mem ((c.tc : Thread Cert.Reference30Ideal.nD Cert.Reference30Ideal.τ).loc Cert.Reference30Ideal.main_v13) = v3 c
          ∧ r.2.mem ((c.tc : Thread Cert.Reference30Ideal.nD Cert.Reference30Ideal.τ).loc Cert.Reference30Ideal.main_v14) = v4 c
          ∧ r.2.mem ((c.tc : Thread Cert.Reference30Ideal.nD Cert.Reference30Ideal.τ).loc Cert.Reference30Ideal.main_v15) = v5 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)) →
    ∃ (v0 : (c : Dev Cert.Kernel31Ideal.nD) → Buf (Elt Ideal) ((c.tc : Thread Cert.Kernel31Ideal.nD Cert.Kernel31Ideal.τ).loc Cert.Kernel31Ideal.main_v8)) (v1 : (c : Dev Cert.Kernel31Ideal.nD) → Buf (Elt Ideal) ((c.tc : Thread Cert.Kernel31Ideal.nD Cert.Kernel31Ideal.τ).loc Cert.Kernel31Ideal.main_v3_0)) (v2 : (c : Dev Cert.Kernel31Ideal.nD) → Buf (Elt Ideal) ((c.tc : Thread Cert.Kernel31Ideal.nD Cert.Kernel31Ideal.τ).loc Cert.Kernel31Ideal.main_v10)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v8) = v0 c
          ∧ r.2.mem ((c.tc : Thread Cert.Kernel31Ideal.nD Cert.Kernel31Ideal.τ).loc Cert.Kernel31Ideal.main_v3_0) = v1 c
          ∧ r.2.mem ((c.tc : Thread Cert.Kernel31Ideal.nD Cert.Kernel31Ideal.τ).loc Cert.Kernel31Ideal.main_v10) = v2 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v24) = v0 c
          ∧ r.2.mem ((c.tc : Thread Cert.Reference31Ideal.nD Cert.Reference31Ideal.τ).loc Cert.Reference31Ideal.main_v50) = v1 c
          ∧ r.2.mem ((c.tc : Thread Cert.Reference31Ideal.nD Cert.Reference31Ideal.τ).loc Cert.Reference31Ideal.main_v36) = v2 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)) →
    ∃ (v0 : (c : Dev Cert.Kernel32Ideal.nD) → Buf (Elt Ideal) ((c.tc : Thread Cert.Kernel32Ideal.nD Cert.Kernel32Ideal.τ).loc Cert.Kernel32Ideal.main_v1)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v1) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v37) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)) →
    ∃ (v0 : (c : Dev Cert.Kernel33Ideal.nD) → Buf (Elt Ideal) ((c.tc : Thread Cert.Kernel33Ideal.nD Cert.Kernel33Ideal.τ).loc Cert.Kernel33Ideal.main_v2)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v2) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v5) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hPre_finite_ffn : Cert.Pre_finite_ffn.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite_ffn (hKernel2Ideal := hKernel2Ideal) (hPre_finite_ffn := hPre_finite_ffn)
    ∧ quiescent_Reference2Ideal (hReference2Ideal := hReference2Ideal)
    ∧ quiescent_Reference2Ideal_pre_finite_ffn (hReference2Ideal := hReference2Ideal) (hPre_finite_ffn := hPre_finite_ffn)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite_ffn (hKernel2Ideal := hKernel2Ideal) (hReference2Ideal := hReference2Ideal) (hPre_finite_ffn := hPre_finite_ffn)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
-- ==== Pre_finite_ffn.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : IVec S_ 1 := andi main_v3 main_v7
  let main_v33 : IVec S_ 1 := andi main_v32 main_v11
  let main_v34 : IVec S_ 1 := andi main_v33 main_v15
  let main_v35 : IVec S_ 1 := andi main_v34 main_v19
  let main_v36 : IVec S_ 1 := andi main_v35 main_v23
  let main_v37 : IVec S_ 1 := andi main_v36 main_v27
  let main_v38 : IVec S_ 1 := andi main_v37 main_v31
  main_v38

def fn_part1 {F : FTy → Type} [FloatOps F] (main_arg4 : FVec F S1024 .f32) (main_arg5 : FVec F S1024x5632 .f32) (main_arg6 : FVec F S2816x1024 .f32) (main_arg7 : FVec F S8192x1024 .f32) (main_v3 : IVec S_ 1) (main_v7 : IVec S_ 1) (main_v11 : IVec S_ 1) (main_v15 : IVec S_ 1) : IVec S_ 1 :=
  let main_v16 : FVec F S1024 .f32 := Host.absf main_arg4
  let main_cst_6 : FVec F S_ .f32 := constant S_ .f32 0x7F800000#32
  let main_v17 : FVec F S1024 .f32 := broadcastInDim S1024 ![] bcast_S_S1024 main_cst_6
  let main_v18 : IVec S1024 1 := cmpf .olt main_v16 main_v17
  let main_c_7 : IVec S_ 1 := constantI S_ 1 1#1
  let main_v19 : IVec S_ 1 := (fun x v => Host.reduce IntOp.andi x v reducesTo_S1024_S_d0 h_S_) main_v18 main_c_7
  let main_v20 : FVec F S1024x5632 .f32 := Host.absf main_arg5
  let main_cst_8 : FVec F S_ .f32 := constant S_ .f32 0x7F800000#32
  let main_v21 : FVec F S1024x5632 .f32 := broadcastInDim S1024x5632 ![] bcast_S_S1024x5632 main_cst_8
  let main_v22 : IVec S1024x5632 1 := cmpf .olt main_v20 main_v21
  let main_c_9 : IVec S_ 1 := constantI S_ 1 1#1
  let main_v23 : IVec S_ 1 := (fun x v => Host.reduce IntOp.andi x v reducesTo_S1024x5632_S_d0_1 h_S_) main_v22 main_c_9
  let main_v24 : FVec F S2816x1024 .f32 := Host.absf main_arg6
  let main_cst_10 : FVec F S_ .f32 := constant S_ .f32 0x7F800000#32
  let main_v25 : FVec F S2816x1024 .f32 := broadcastInDim S2816x1024 ![] bcast_S_S2816x1024 main_cst_10
  let main_v26 : IVec S2816x1024 1 := cmpf .olt main_v24 main_v25
  let main_c_11 : IVec S_ 1 := constantI S_ 1 1#1
  let main_v27 : IVec S_ 1 := (fun x v => Host.reduce IntOp.andi x v reducesTo_S2816x1024_S_d0_1 h_S_) main_v26 main_c_11
  let main_v28 : FVec F S8192x1024 .f32 := Host.absf main_arg7
  let main_cst_12 : FVec F S_ .f32 := constant S_ .f32 0x7F800000#32
  let main_v29 : FVec F S8192x1024 .f32 := broadcastInDim S8192x1024 ![] bcast_S_S8192x1024 main_cst_12
  let main_v30 : IVec S8192x1024 1 := cmpf .olt main_v28 main_v29
  let main_c_13 : IVec S_ 1 := constantI S_ 1 1#1
  let main_v31 : IVec S_ 1 := (fun x v => Host.reduce IntOp.andi x v reducesTo_S8192x1024_S_d0_1 h_S_) main_v30 main_c_13
  fn_part2 (F := F) main_v3 main_v7 main_v11 main_v15 main_v19 main_v23 main_v27 main_v31

def fn {F : FTy → Type} [FloatOps F] (main_arg0 : FVec F S8192x1024 .f32) (main_arg1 : FVec F S1024 .f32) (main_arg2 : FVec F S1024 .f32) (main_arg3 : FVec F S1024 .f32) (main_arg4 : FVec F S1024 .f32) (main_arg5 : FVec F S1024x5632 .f32) (main_arg6 : FVec F S2816x1024 .f32) (main_arg7 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024 .f32 := Host.absf main_arg2
  let main_cst_2 : FVec F S_ .f32 := constant S_ .f32 0x7F800000#32
  let main_v9 : FVec F S1024 .f32 := broadcastInDim S1024 ![] bcast_S_S1024 main_cst_2
  let main_v10 : IVec S1024 1 := cmpf .olt main_v8 main_v9
  let main_c_3 : IVec S_ 1 := constantI S_ 1 1#1
  let main_v11 : IVec S_ 1 := (fun x v => Host.reduce IntOp.andi x v reducesTo_S1024_S_d0 h_S_) main_v10 main_c_3
  let main_v12 : FVec F S1024 .f32 := Host.absf main_arg3
  let main_cst_4 : FVec F S_ .f32 := constant S_ .f32 0x7F800000#32
  let main_v13 : FVec F S1024 .f32 := broadcastInDim S1024 ![] bcast_S_S1024 main_cst_4
  let main_v14 : IVec S1024 1 := cmpf .olt main_v12 main_v13
  let main_c_5 : IVec S_ 1 := constantI S_ 1 1#1
  let main_v15 : IVec S_ 1 := (fun x v => Host.reduce IntOp.andi x v reducesTo_S1024_S_d0 h_S_) main_v14 main_c_5
  fn_part1 (F := F) main_arg4 main_arg5 main_arg6 main_arg7 main_v3 main_v7 main_v11 main_v15
-- ==== Kernel.lean ====
abbrev S8192x1024 : Shape := ⟨2, ![8192, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x3072 : Shape := ⟨2, ![8192, 3072]⟩
abbrev S2x1024 : Shape := ⟨2, ![2, 1024]⟩
abbrev S8194x1024 : Shape := ⟨2, ![8194, 1024]⟩
abbrev S1x8192x1024 : Shape := ⟨3, ![1, 8192, 1024]⟩
abbrev S4x8192x1024 : Shape := ⟨3, ![4, 8192, 1024]⟩
abbrev S1024x4x768 : Shape := ⟨3, ![1024, 4, 768]⟩
abbrev S4x1024x768 : Shape := ⟨3, ![4, 1024, 768]⟩
abbrev S4x1024 : Shape := ⟨2, ![4, 1024]⟩
abbrev S8x1024 : Shape := ⟨2, ![8, 1024]⟩
abbrev S5x1024 : Shape := ⟨2, ![5, 1024]⟩
abbrev S512x1024 : Shape := ⟨2, ![512, 1024]⟩
abbrev S4x512x1024 : Shape := ⟨3, ![4, 512, 1024]⟩
abbrev S512x3072 : Shape := ⟨2, ![512, 3072]⟩
abbrev S520x1024 : Shape := ⟨2, ![520, 1024]⟩
abbrev S1x512x1024 : Shape := ⟨3, ![1, 512, 1024]⟩
abbrev S512x768 : Shape := ⟨2, ![512, 768]⟩
abbrev S1x1024x768 : Shape := ⟨3, ![1, 1024, 768]⟩
abbrev S1024x768 : Shape := ⟨2, ![1024, 768]⟩
abbrev S512 : Shape := ⟨1, ![512]⟩
abbrev S512x1 : Shape := ⟨2, ![512, 1]⟩

abbrev nBuf : Space → Nat
  | .hbm => 126
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x3072, .f32⟩
  | .hbm, ⟨6, _⟩ => ⟨S3x1024, .f32⟩
  | .hbm, ⟨7, _⟩ => ⟨S1024x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x3072, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S2x1024, .f32⟩
  | .hbm, ⟨41, _⟩ => ⟨S8194x1024, .f32⟩
  | .hbm, ⟨42, _⟩ => ⟨S1x1024, .f32⟩
  | .hbm, ⟨43, _⟩ => ⟨S1024, .f32⟩
  | .hbm, ⟨44, _⟩ => ⟨S8192x1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S1x1024, .f32⟩
  | .hbm, ⟨49, _⟩ => ⟨S1024, .f32⟩
  | .hbm, ⟨50, _⟩ => ⟨S8192x1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1x1024, .f32⟩
  | .hbm, ⟨56, _⟩ => ⟨S1024, .f32⟩
  | .hbm, ⟨57, _⟩ => ⟨S8192x1024, .f32⟩
  | .hbm, ⟨58, _⟩ => ⟨S1x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S1x8192x1024, .f32⟩
  | .hbm, ⟨63, _⟩ => ⟨S1x8192x1024, .f32⟩
  | .hbm, ⟨64, _⟩ => ⟨S1x8192x1024, .f32⟩
  | .hbm, ⟨65, _⟩ => ⟨S1x8192x1024, .f32⟩
  | .hbm, ⟨66, _⟩ => ⟨S4x8192x1024, .f32⟩
  | .hbm, ⟨67, _⟩ => ⟨S4x8192x1024, .bf16⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S_, .f32⟩
  | .hbm, ⟨73, _⟩ => ⟨S2x1024, .f32⟩
  | .hbm, ⟨74, _⟩ => ⟨S8194x1024, .f32⟩
  | .hbm, ⟨75, _⟩ => ⟨S1x1024, .f32⟩
  | .hbm, ⟨76, _⟩ => ⟨S1024, .f32⟩
  | .hbm, ⟨77, _⟩ => ⟨S8192x1024, .f32⟩
  | .hbm, ⟨78, _⟩ => ⟨S1x1024, .f32⟩
  | .hbm, ⟨79, _⟩ => ⟨S8192x1024, .f32⟩
  | .hbm, ⟨80, _⟩ => ⟨S8192x1024, .f32⟩
  | .hbm, ⟨81, _⟩ => ⟨S1x1024, .f32⟩
  | .hbm, ⟨82, _⟩ => ⟨S1024, .f32⟩
  | .hbm, ⟨83, _⟩ => ⟨S8192x1024, .f32⟩
  | .hbm, ⟨84, _⟩ => ⟨S1x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S1x1024, .f32⟩
  | .hbm, ⟨89, _⟩ => ⟨S1024, .f32⟩
  | .hbm, ⟨90, _⟩ => ⟨S8192x1024, .f32⟩
  | .hbm, ⟨91, _⟩ => ⟨S1x1024, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S8192x1024, .f32⟩
  | .hbm, ⟨97, _⟩ => ⟨S8192x1024, .bf16⟩
  | .hbm, ⟨98, _⟩ => ⟨S1024x4x768, .f32⟩
  | .hbm, ⟨99, _⟩ => ⟨S4x1024x768, .f32⟩
  | .hbm, ⟨100, _⟩ => ⟨S4x1024x768, .bf16⟩
  | .hbm, ⟨101, _⟩ => ⟨S1x1024, .f32⟩
  | .hbm, ⟨102, _⟩ => ⟨S1x1024, .f32⟩
  | .hbm, ⟨103, _⟩ => ⟨S1x1024, .f32⟩
  | .hbm, ⟨104, _⟩ => ⟨S1x1024, .f32⟩
  | .hbm, ⟨105, _⟩ => ⟨S_, .f32⟩
  | .hbm, ⟨106, _⟩ => ⟨S4x1024, .f32⟩
  | .hbm, ⟨107, _⟩ => ⟨S8x1024, .f32⟩
  | .hbm, ⟨108, _⟩ => ⟨S1x1024, .f32⟩
  | .hbm, ⟨109, _⟩ => ⟨S1024, .f32⟩
  | .hbm, ⟨110, _⟩ => ⟨S1x1024, .f32⟩
  | .hbm, ⟨111, _⟩ => ⟨S1024, .f32⟩
  | .hbm, ⟨112, _⟩ => ⟨S1x1024, .f32⟩
  | .hbm, ⟨113, _⟩ => ⟨S1024, .f32⟩
  | .hbm, ⟨114, _⟩ => ⟨S1x1024, .f32⟩
  | .hbm, ⟨115, _⟩ => ⟨S1x1024, .f32⟩
  | .hbm, ⟨116, _⟩ => ⟨S1x1024, .f32⟩
  | .hbm, ⟨117, _⟩ => ⟨S_, .f32⟩
  | .hbm, ⟨118, _⟩ => ⟨S5x1024, .f32⟩
  | .hbm, ⟨119, _⟩ => ⟨S8x1024, .f32⟩
  | .hbm, ⟨120, _⟩ => ⟨S1024x1024, .bf16⟩
  | .hbm, ⟨121, _⟩ => ⟨S8192x1024, .bf16⟩
  | .hbm, ⟨122, _⟩ => ⟨S8192x3072, .bf16⟩
  | .hbm, ⟨123, _⟩ => ⟨S8192x1024, .f32⟩
  | .hbm, ⟨124, _⟩ => ⟨S8x1024, .f32⟩
  | .hbm, ⟨125, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S4x512x1024, .bf16⟩
  | .local _ .vmem, ⟨5, _⟩ => ⟨S4x512x1024, .bf16⟩
  | .local _ .vmem, ⟨6, _⟩ => ⟨S4x1024x768, .bf16⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x3072, .bf16⟩
  | .local _ .vmem, ⟨15, _⟩ => ⟨S512x3072, .bf16⟩
  | .local _ .vmem, ⟨16, _⟩ => ⟨S512x1024, .f32⟩
  | .local _ .vmem, ⟨17, _⟩ => ⟨S512x1024, .f32⟩
  | .local _ .vmem, ⟨18, _⟩ => ⟨S8x1024, .f32⟩
  | .local _ .vmem, ⟨19, _⟩ => ⟨S8x1024, .f32⟩
  | .local _ .vmem, ⟨20, _⟩ => ⟨S520x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_4 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_cst_5 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_cst_6 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104_0 : Ref sig .tc := ⟨.hbm, 121, rfl⟩
abbrev main_v104_1 : Ref sig .tc := ⟨.hbm, 122, rfl⟩
abbrev main_v104_2 : Ref sig .tc := ⟨.hbm, 123, rfl⟩
abbrev main_v104_3 : Ref sig .tc := ⟨.hbm, 124, rfl⟩
abbrev main_v104_4 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S8192x1024 : Shape := ⟨2, ![8192, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x3072 : Shape := ⟨2, ![8192, 3072]⟩
abbrev S2x1024 : Shape := ⟨2, ![2, 1024]⟩
abbrev S8194x1024 : Shape := ⟨2, ![8194, 1024]⟩
abbrev S3072x1024 : Shape := ⟨2, ![3072, 1024]⟩
abbrev S4x1024 : Shape := ⟨2, ![4, 1024]⟩
abbrev S8x1024 : Shape := ⟨2, ![8, 1024]⟩
abbrev S5x1024 : Shape := ⟨2, ![5, 1024]⟩

abbrev nBuf : Space → Nat
  | .hbm => 194
  | .vmem => 0
  | .smem => 0
  | _ => 0

abbrev hbmTy0_0 (i : Nat) : BufTy := match i % 128 with
  | 0 => ⟨S8192x1024, .f32⟩
  | 1 => ⟨S1024, .f32⟩
  | 2 => ⟨S1024, .f32⟩
  | 3 => ⟨S1024, .f32⟩
  | 4 => ⟨S1024, .f32⟩
  | 5 => ⟨S1024x3072, .f32⟩
  | 6 => ⟨S3x1024, .f32⟩
  | 7 => ⟨S1024x1024, .f32⟩
  | 8 => ⟨S8192x1024, .f32⟩
  | 9 => ⟨S8192x1024, .f32⟩
  | 10 => ⟨S_, .f32⟩
  | 11 => ⟨S8192, .f32⟩
  | 12 => ⟨S8192x1, .f32⟩
  | 13 => ⟨S_, .f32⟩
  | 14 => ⟨S8192x1, .f32⟩
  | 15 => ⟨S8192x1, .f32⟩
  | 16 => ⟨S_, .f32⟩
  | 17 => ⟨S8192x1, .f32⟩
  | 18 => ⟨S8192x1, .f32⟩
  | 19 => ⟨S8192x1, .f32⟩
  | 20 => ⟨S8192x1, .f32⟩
  | 21 => ⟨S_, .f32⟩
  | 22 => ⟨S8192x1, .f32⟩
  | 23 => ⟨S8192x1, .f32⟩
  | 24 => ⟨S8192x1024, .f32⟩
  | 25 => ⟨S8192x1024, .f32⟩
  | 26 => ⟨S1x1024, .f32⟩
  | 27 => ⟨S8192x1024, .f32⟩
  | 28 => ⟨S8192x1024, .f32⟩
  | 29 => ⟨S1x1024, .f32⟩
  | 30 => ⟨S_, .f32⟩
  | 31 => ⟨S1x1024, .f32⟩
  | 32 => ⟨S1x1024, .f32⟩
  | 33 => ⟨S8192x1024, .f32⟩
  | 34 => ⟨S8192x1024, .f32⟩
  | 35 => ⟨S1x1024, .f32⟩
  | 36 => ⟨S8192x1024, .f32⟩
  | 37 => ⟨S8192x1024, .f32⟩
  | 38 => ⟨S8192x3072, .f32⟩
  | 39 => ⟨S8192x1024, .f32⟩
  | 40 => ⟨S8192x1024, .f32⟩
  | 41 => ⟨S8192x1024, .f32⟩
  | 42 => ⟨S8192x1024, .f32⟩
  | 43 => ⟨S_, .f32⟩
  | 44 => ⟨S2x1024, .f32⟩
  | 45 => ⟨S8194x1024, .f32⟩
  | 46 => ⟨S_, .f32⟩
  | 47 => ⟨S2x1024, .f32⟩
  | 48 => ⟨S1x1024, .f32⟩
  | 49 => ⟨S1024, .f32⟩
  | 50 => ⟨S8192x1024, .f32⟩
  | 51 => ⟨S1x1024, .f32⟩
  | 52 => ⟨S8192x1024, .f32⟩
  | 53 => ⟨S8192x1024, .f32⟩
  | 54 => ⟨S1x1024, .f32⟩
  | 55 => ⟨S1024, .f32⟩
  | 56 => ⟨S8192x1024, .f32⟩
  | 57 => ⟨S1x1024, .f32⟩
  | 58 => ⟨S8192x1024, .f32⟩
  | 59 => ⟨S8192x1024, .f32⟩
  | 60 => ⟨S8192x1024, .f32⟩
  | 61 => ⟨S1x1024, .f32⟩
  | 62 => ⟨S1024, .f32⟩
  | 63 => ⟨S8192x1024, .f32⟩
  | 64 => ⟨S1x1024, .f32⟩
  | 65 => ⟨S8192x1024, .f32⟩
  | 66 => ⟨S8192x1024, .f32⟩
  | 67 => ⟨S8192x1024, .f32⟩
  | 68 => ⟨S8192x1024, .f32⟩
  | 69 => ⟨S8192x1024, .f32⟩
  | 70 => ⟨S_, .f32⟩
  | 71 => ⟨S1024, .f32⟩
  | 72 => ⟨S1024, .f32⟩
  | 73 => ⟨S1x1024, .f32⟩
  | 74 => ⟨S8192x1024, .f32⟩
  | 75 => ⟨S8192x1024, .f32⟩
  | 76 => ⟨S8192x1024, .f32⟩
  | 77 => ⟨S8192x1024, .f32⟩
  | 78 => ⟨S8192x1024, .f32⟩
  | 79 => ⟨S8192x1024, .f32⟩
  | 80 => ⟨S8192x1024, .f32⟩
  | 81 => ⟨S_, .f32⟩
  | 82 => ⟨S1024, .f32⟩
  | 83 => ⟨S1x1024, .f32⟩
  | 84 => ⟨S_, .f32⟩
  | 85 => ⟨S1024, .f32⟩
  | 86 => ⟨S1024x1024, .f32⟩
  | 87 => ⟨S1024x1024, .f32⟩
  | 88 => ⟨S8192x1024, .f32⟩
  | 89 => ⟨S8192x1024, .f32⟩
  | 90 => ⟨S8192x1024, .f32⟩
  | 91 => ⟨S8192x1024, .f32⟩
  | 92 => ⟨S8192x1024, .f32⟩
  | 93 => ⟨S8192x1024, .f32⟩
  | 94 => ⟨S_, .f32⟩
  | 95 => ⟨S1024, .f32⟩
  | 96 => ⟨S1x1024, .f32⟩
  | 97 => ⟨S_, .f32⟩
  | 98 => ⟨S1024, .f32⟩
  | 99 => ⟨S_, .f32⟩
  | 100 => ⟨S8194x1024, .f32⟩
  | 101 => ⟨S1x1024, .f32⟩
  | 102 => ⟨S_, .f32⟩
  | 103 => ⟨S3x1024, .f32⟩
  | 104 => ⟨S8192x1024, .f32⟩
  | 105 => ⟨S8192x1024, .f32⟩
  | 106 => ⟨S8192x1024, .f32⟩
  | 107 => ⟨S_, .f32⟩
  | 108 => ⟨S1024, .f32⟩
  | 109 => ⟨S1x1024, .f32⟩
  | 110 => ⟨S_, .f32⟩
  | 111 => ⟨S1024, .f32⟩
  | 112 => ⟨S_, .f32⟩
  | 113 => ⟨S8194x1024, .f32⟩
  | 114 => ⟨S8194x1024, .f32⟩
  | 115 => ⟨S1x1024, .f32⟩
  | 116 => ⟨S_, .f32⟩
  | 117 => ⟨S3x1024, .f32⟩
  | 118 => ⟨S3x1024, .f32⟩
  | 119 => ⟨S8192x1024, .f32⟩
  | 120 => ⟨S8192x1024, .f32⟩
  | 121 => ⟨S8192x1024, .f32⟩
  | 122 => ⟨S_, .f32⟩
  | 123 => ⟨S1024, .f32⟩
  | 124 => ⟨S1x1024, .f32⟩
  | 125 => ⟨S_, .f32⟩
  | 126 => ⟨S1024, .f32⟩
  | 127 => ⟨S_, .f32⟩
  | _ => ⟨S8192x1024, .f32⟩

abbrev hbmTy0_1 (i : Nat) : BufTy := match i % 128 with
  | 0 => ⟨S8194x1024, .f32⟩
  | 1 => ⟨S8194x1024, .f32⟩
  | 2 => ⟨S1x1024, .f32⟩
  | 3 => ⟨S_, .f32⟩
  | 4 => ⟨S3x1024, .f32⟩
  | 5 => ⟨S3x1024, .f32⟩
  | 6 => ⟨S2x1024, .f32⟩
  | 7 => ⟨S8192x1024, .f32⟩
  | 8 => ⟨S8192x1024, .f32⟩
  | 9 => ⟨S8192x1024, .f32⟩
  | 10 => ⟨S8192x3072, .f32⟩
  | 11 => ⟨S3072x1024, .f32⟩
  | 12 => ⟨S1024x3072, .f32⟩
  | 13 => ⟨S8192x1024, .f32⟩
  | 14 => ⟨S_, .f32⟩
  | 15 => ⟨S1024, .f32⟩
  | 16 => ⟨S1x1024, .f32⟩
  | 17 => ⟨S_, .f32⟩
  | 18 => ⟨S1024, .f32⟩
  | 19 => ⟨S8192x1024, .f32⟩
  | 20 => ⟨S_, .f32⟩
  | 21 => ⟨S1024, .f32⟩
  | 22 => ⟨S1x1024, .f32⟩
  | 23 => ⟨S8192x1024, .f32⟩
  | 24 => ⟨S8192x1024, .f32⟩
  | 25 => ⟨S_, .f32⟩
  | 26 => ⟨S1024, .f32⟩
  | 27 => ⟨S8192x1024, .f32⟩
  | 28 => ⟨S_, .f32⟩
  | 29 => ⟨S1024, .f32⟩
  | 30 => ⟨S1x1024, .f32⟩
  | 31 => ⟨S8192x1024, .f32⟩
  | 32 => ⟨S8192x1024, .f32⟩
  | 33 => ⟨S_, .f32⟩
  | 34 => ⟨S1024, .f32⟩
  | 35 => ⟨S8192x1024, .f32⟩
  | 36 => ⟨S_, .f32⟩
  | 37 => ⟨S8192, .f32⟩
  | 38 => ⟨S8192x1, .f32⟩
  | 39 => ⟨S8192x1024, .f32⟩
  | 40 => ⟨S8192x1024, .f32⟩
  | 41 => ⟨S8192x1, .f32⟩
  | 42 => ⟨S_, .f32⟩
  | 43 => ⟨S8192x1, .f32⟩
  | 44 => ⟨S8192x1, .f32⟩
  | 45 => ⟨S_, .f32⟩
  | 46 => ⟨S8192, .f32⟩
  | 47 => ⟨S8192x1024, .f32⟩
  | 48 => ⟨S8192x1024, .f32⟩
  | 49 => ⟨S8192x1024, .f32⟩
  | 50 => ⟨S8192x1024, .f32⟩
  | 51 => ⟨S8192x1024, .f32⟩
  | 52 => ⟨S1x1024, .f32⟩
  | 53 => ⟨S1x1024, .f32⟩
  | 54 => ⟨S1x1024, .f32⟩
  | 55 => ⟨S1x1024, .f32⟩
  | 56 => ⟨S4x1024, .f32⟩
  | 57 => ⟨S_, .f32⟩
  | 58 => ⟨S4x1024, .f32⟩
  | 59 => ⟨S8x1024, .f32⟩
  | 60 => ⟨S8192x1024, .bf16⟩
  | 61 => ⟨S8192x3072, .bf16⟩
  | 62 => ⟨S8192x1024, .f32⟩
  | 63 => ⟨S_, .f32⟩
  | 64 => ⟨S5x1024, .f32⟩
  | 65 => ⟨S8x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_6 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_7 : Ref sig .tc := ⟨.hbm, 81, rfl⟩
abbrev main_v64 : Ref sig .tc := ⟨.hbm, 82, rfl⟩
abbrev main_v65 : Ref sig .tc := ⟨.hbm, 83, rfl⟩
abbrev main_cst_8 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_cst_9 : Ref sig .tc := ⟨.hbm, 94, rfl⟩
abbrev main_v75 : Ref sig .tc := ⟨.hbm, 95, rfl⟩
abbrev main_v76 : Ref sig .tc := ⟨.hbm, 96, rfl⟩
abbrev main_cst_10 : Ref sig .tc := ⟨.hbm, 97, rfl⟩
abbrev main_v77 : Ref sig .tc := ⟨.hbm, 98, rfl⟩
abbrev main_cst_11 : Ref sig .tc := ⟨.hbm, 99, rfl⟩
abbrev main_v78 : Ref sig .tc := ⟨.hbm, 100, rfl⟩
abbrev main_v79 : Ref sig .tc := ⟨.hbm, 101, rfl⟩
abbrev main_cst_12 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_13 : Ref sig .tc := ⟨.hbm, 107, rfl⟩
abbrev main_v84 : Ref sig .tc := ⟨.hbm, 108, rfl⟩
abbrev main_v85 : Ref sig .tc := ⟨.hbm, 109, rfl⟩
abbrev main_cst_14 : Ref sig .tc := ⟨.hbm, 110, rfl⟩
abbrev main_v86 : Ref sig .tc := ⟨.hbm, 111, rfl⟩
abbrev main_cst_15 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_16 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_17 : Ref sig .tc := ⟨.hbm, 122, rfl⟩
abbrev main_v95 : Ref sig .tc := ⟨.hbm, 123, rfl⟩
abbrev main_v96 : Ref sig .tc := ⟨.hbm, 124, rfl⟩
abbrev main_cst_18 : Ref sig .tc := ⟨.hbm, 125, rfl⟩
abbrev main_v97 : Ref sig .tc := ⟨.hbm, 126, rfl⟩
abbrev main_cst_19 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_cst_20 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_cst_21 : Ref sig .tc := ⟨.hbm, 142, rfl⟩
abbrev main_v111 : Ref sig .tc := ⟨.hbm, 143, rfl⟩
abbrev main_v112 : Ref sig .tc := ⟨.hbm, 144, rfl⟩
abbrev main_cst_22 : Ref sig .tc := ⟨.hbm, 145, rfl⟩
abbrev main_v113 : Ref sig .tc := ⟨.hbm, 146, rfl⟩
abbrev main_v114 : Ref sig .tc := ⟨.hbm, 147, rfl⟩
abbrev main_cst_23 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_cst_24 : Ref sig .tc := ⟨.hbm, 153, rfl⟩
abbrev main_v119 : Ref sig .tc := ⟨.hbm, 154, rfl⟩
abbrev main_v120 : Ref sig .tc := ⟨.hbm, 155, rfl⟩
abbrev main_cst_25 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_cst_26 : Ref sig .tc := ⟨.hbm, 161, rfl⟩
abbrev main_v125 : Ref sig .tc := ⟨.hbm, 162, rfl⟩
abbrev main_v126 : Ref sig .tc := ⟨.hbm, 163, rfl⟩
abbrev main_cst_27 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_cst_28 : Ref sig .tc := ⟨.hbm, 170, rfl⟩
abbrev main_v132 : Ref sig .tc := ⟨.hbm, 171, rfl⟩
abbrev main_v133 : Ref sig .tc := ⟨.hbm, 172, rfl⟩
abbrev main_cst_29 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_cst_30 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_cst_31 : Ref sig .tc := ⟨.hbm, 191, rfl⟩
abbrev main_v150 : Ref sig .tc := ⟨.hbm, 192, rfl⟩
abbrev main_v151 : Ref sig .tc := ⟨.hbm, 193, rfl⟩

abbrev nD : Nat := 1
abbrev τ : Topo := Topo.v7x

variable {F : FTy → Type} [FloatOps F]
-- ==== Kernel2.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩
abbrev S1024x4x1408 : Shape := ⟨3, ![1024, 4, 1408]⟩
abbrev S4x1024x1408 : Shape := ⟨3, ![4, 1024, 1408]⟩
abbrev S4x1024 : Shape := ⟨2, ![4, 1024]⟩
abbrev S8x1024 : Shape := ⟨2, ![8, 1024]⟩
abbrev S1x8192x2816 : Shape := ⟨3, ![1, 8192, 2816]⟩
abbrev S2x8192x2816 : Shape := ⟨3, ![2, 8192, 2816]⟩
abbrev S256x1024 : Shape := ⟨2, ![256, 1024]⟩
abbrev S2x256x2816 : Shape := ⟨3, ![2, 256, 2816]⟩
abbrev S2x1024x1408 : Shape := ⟨3, ![2, 1024, 1408]⟩
abbrev S256x2816 : Shape := ⟨2, ![256, 2816]⟩
abbrev S1408x1024 : Shape := ⟨2, ![1408, 1024]⟩
abbrev S256x1408 : Shape := ⟨2, ![256, 1408]⟩
abbrev S1x256x1408 : Shape := ⟨3, ![1, 256, 1408]⟩
abbrev S1x1024x1408 : Shape := ⟨3, ![1, 1024, 1408]⟩
abbrev S1024x1408 : Shape := ⟨2, ![1024, 1408]⟩
abbrev S256 : Shape := ⟨1, ![256]⟩
abbrev S256x1 : Shape := ⟨2, ![256, 1]⟩

abbrev nBuf : Space → Nat
  | .hbm => 70
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x5632, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S_, .f32⟩
  | .hbm, ⟨39, _⟩ => ⟨S8192x2816, .f32⟩
  | .hbm, ⟨40, _⟩ => ⟨S8192x2816, .f32⟩
  | .hbm, ⟨41, _⟩ => ⟨S_, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x1024, .f32⟩
  | .hbm, ⟨47, _⟩ => ⟨S8192x1024, .bf16⟩
  | .hbm, ⟨48, _⟩ => ⟨S1024x4x1408, .f32⟩
  | .hbm, ⟨49, _⟩ => ⟨S4x1024x1408, .f32⟩
  | .hbm, ⟨50, _⟩ => ⟨S4x1024x1408, .bf16⟩
  | .hbm, ⟨51, _⟩ => ⟨S1x1024, .f32⟩
  | .hbm, ⟨52, _⟩ => ⟨S1x1024, .f32⟩
  | .hbm, ⟨53, _⟩ => ⟨S1x1024, .f32⟩
  | .hbm, ⟨54, _⟩ => ⟨S1x1024, .f32⟩
  | .hbm, ⟨55, _⟩ => ⟨S_, .f32⟩
  | .hbm, ⟨56, _⟩ => ⟨S4x1024, .f32⟩
  | .hbm, ⟨57, _⟩ => ⟨S8x1024, .f32⟩
  | .hbm, ⟨58, _⟩ => ⟨S8192x2816, .f32⟩
  | .hbm, ⟨59, _⟩ => ⟨S8192x2816, .f32⟩
  | .hbm, ⟨60, _⟩ => ⟨S1x8192x2816, .f32⟩
  | .hbm, ⟨61, _⟩ => ⟨S1x8192x2816, .f32⟩
  | .hbm, ⟨62, _⟩ => ⟨S2x8192x2816, .f32⟩
  | .hbm, ⟨63, _⟩ => ⟨S2x8192x2816, .bf16⟩
  | .hbm, ⟨64, _⟩ => ⟨S2816x1024, .bf16⟩
  | .hbm, ⟨65, _⟩ => ⟨S8192x1024, .bf16⟩
  | .hbm, ⟨66, _⟩ => ⟨S8192x2816, .bf16⟩
  | .hbm, ⟨67, _⟩ => ⟨S2x8192x2816, .bf16⟩
  | .hbm, ⟨68, _⟩ => ⟨S8192x1024, .f32⟩
  | .hbm, ⟨69, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S2x256x2816, .bf16⟩
  | .local _ .vmem, ⟨4, _⟩ => ⟨S2x256x2816, .bf16⟩
  | .local _ .vmem, ⟨5, _⟩ => ⟨S2x1024x1408, .bf16⟩
  | .local _ .vmem, ⟨6, _⟩ => ⟨S2x1024x1408, .bf16⟩
  | .local _ .vmem, ⟨7, _⟩ => ⟨S2816x1024, .bf16⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x2816, .bf16⟩
  | .local _ .vmem, ⟨15, _⟩ => ⟨S256x2816, .bf16⟩
  | .local _ .vmem, ⟨16, _⟩ => ⟨S2x256x2816, .bf16⟩
  | .local _ .vmem, ⟨17, _⟩ => ⟨S2x256x2816, .bf16⟩
  | .local _ .vmem, ⟨18, _⟩ => ⟨S256x1024, .f32⟩
  | .local _ .vmem, ⟨19, _⟩ => ⟨S256x1024, .f32⟩
  | .local _ .vmem, ⟨20, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_3 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44_0 : Ref sig .tc := ⟨.hbm, 65, rfl⟩
abbrev main_v44_1 : Ref sig .tc := ⟨.hbm, 66, rfl⟩
abbrev main_v44_2 : Ref sig .tc := ⟨.hbm, 67, rfl⟩
abbrev main_v44_3 : Ref sig .tc := ⟨.hbm, 68, rfl⟩
abbrev main_v44_4 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x1024x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference2Ideal.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩
abbrev S1024x2816 : Shape := ⟨2, ![1024, 2816]⟩
abbrev S5632x1024 : Shape := ⟨2, ![5632, 1024]⟩
abbrev S4x1024 : Shape := ⟨2, ![4, 1024]⟩
abbrev S8x1024 : Shape := ⟨2, ![8, 1024]⟩
abbrev S1x8192x2816 : Shape := ⟨3, ![1, 8192, 2816]⟩
abbrev S2x8192x2816 : Shape := ⟨3, ![2, 8192, 2816]⟩

abbrev nBuf : Space → Nat
  | .hbm => 145
  | .vmem => 0
  | .smem => 0
  | _ => 0

abbrev hbmTy0_0 (i : Nat) : BufTy := match i % 128 with
  | 0 => ⟨S8192x1024, .f32⟩
  | 1 => ⟨S1024, .f32⟩
  | 2 => ⟨S1024, .f32⟩
  | 3 => ⟨S1024, .f32⟩
  | 4 => ⟨S1024, .f32⟩
  | 5 => ⟨S1024x5632, .f32⟩
  | 6 => ⟨S2816x1024, .f32⟩
  | 7 => ⟨S8192x1024, .f32⟩
  | 8 => ⟨S8192x1024, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1024, .f32⟩
  | 24 => ⟨S8192x1024, .f32⟩
  | 25 => ⟨S1x1024, .f32⟩
  | 26 => ⟨S8192x1024, .f32⟩
  | 27 => ⟨S8192x1024, .f32⟩
  | 28 => ⟨S1x1024, .f32⟩
  | 29 => ⟨S_, .f32⟩
  | 30 => ⟨S1x1024, .f32⟩
  | 31 => ⟨S1x1024, .f32⟩
  | 32 => ⟨S8192x1024, .f32⟩
  | 33 => ⟨S8192x1024, .f32⟩
  | 34 => ⟨S1x1024, .f32⟩
  | 35 => ⟨S8192x1024, .f32⟩
  | 36 => ⟨S8192x1024, .f32⟩
  | 37 => ⟨S8192x5632, .f32⟩
  | 38 => ⟨S8192x2816, .f32⟩
  | 39 => ⟨S8192x2816, .f32⟩
  | 40 => ⟨S8192x2816, .f32⟩
  | 41 => ⟨S8192x2816, .f32⟩
  | 42 => ⟨S_, .f32⟩
  | 43 => ⟨S8192x2816, .f32⟩
  | 44 => ⟨S8192x2816, .f32⟩
  | 45 => ⟨S_, .f32⟩
  | 46 => ⟨S8192x2816, .f32⟩
  | 47 => ⟨S8192x2816, .f32⟩
  | 48 => ⟨S_, .f32⟩
  | 49 => ⟨S8192x2816, .f32⟩
  | 50 => ⟨S8192x2816, .f32⟩
  | 51 => ⟨S8192x2816, .f32⟩
  | 52 => ⟨S8192x2816, .f32⟩
  | 53 => ⟨S8192x2816, .f32⟩
  | 54 => ⟨S8192x1024, .f32⟩
  | 55 => ⟨S_, .f32⟩
  | 56 => ⟨S1024, .f32⟩
  | 57 => ⟨S1024, .f32⟩
  | 58 => ⟨S1x1024, .f32⟩
  | 59 => ⟨S_, .f32⟩
  | 60 => ⟨S1x1024, .f32⟩
  | 61 => ⟨S1x1024, .f32⟩
  | 62 => ⟨S8192x1024, .f32⟩
  | 63 => ⟨S8192x1024, .f32⟩
  | 64 => ⟨S8192x1024, .f32⟩
  | 65 => ⟨S8192x1024, .f32⟩
  | 66 => ⟨S8192x1024, .f32⟩
  | 67 => ⟨S8192x1024, .f32⟩
  | 68 => ⟨S8192x1024, .f32⟩
  | 69 => ⟨S_, .f32⟩
  | 70 => ⟨S1024, .f32⟩
  | 71 => ⟨S1x1024, .f32⟩
  | 72 => ⟨S_, .f32⟩
  | 73 => ⟨S1x1024, .f32⟩
  | 74 => ⟨S1x1024, .f32⟩
  | 75 => ⟨S_, .f32⟩
  | 76 => ⟨S1024, .f32⟩
  | 77 => ⟨S1024x2816, .f32⟩
  | 78 => ⟨S2816x1024, .f32⟩
  | 79 => ⟨S8192x2816, .f32⟩
  | 80 => ⟨S8192x2816, .f32⟩
  | 81 => ⟨S8192x2816, .f32⟩
  | 82 => ⟨S8192x2816, .f32⟩
  | 83 => ⟨S8192x2816, .f32⟩
  | 84 => ⟨S8192x2816, .f32⟩
  | 85 => ⟨S8192x2816, .f32⟩
  | 86 => ⟨S8192x5632, .f32⟩
  | 87 => ⟨S5632x1024, .f32⟩
  | 88 => ⟨S1024x5632, .f32⟩
  | 89 => ⟨S8192x1024, .f32⟩
  | 90 => ⟨S_, .f32⟩
  | 91 => ⟨S1024, .f32⟩
  | 92 => ⟨S1x1024, .f32⟩
  | 93 => ⟨S_, .f32⟩
  | 94 => ⟨S1024, .f32⟩
  | 95 => ⟨S8192x1024, .f32⟩
  | 96 => ⟨S_, .f32⟩
  | 97 => ⟨S1024, .f32⟩
  | 98 => ⟨S1x1024, .f32⟩
  | 99 => ⟨S8192x1024, .f32⟩
  | 100 => ⟨S8192x1024, .f32⟩
  | 101 => ⟨S_, .f32⟩
  | 102 => ⟨S1024, .f32⟩
  | 103 => ⟨S8192x1024, .f32⟩
  | 104 => ⟨S_, .f32⟩
  | 105 => ⟨S1024, .f32⟩
  | 106 => ⟨S1x1024, .f32⟩
  | 107 => ⟨S8192x1024, .f32⟩
  | 108 => ⟨S8192x1024, .f32⟩
  | 109 => ⟨S_, .f32⟩
  | 110 => ⟨S1024, .f32⟩
  | 111 => ⟨S8192x1024, .f32⟩
  | 112 => ⟨S_, .f32⟩
  | 113 => ⟨S8192, .f32⟩
  | 114 => ⟨S8192x1, .f32⟩
  | 115 => ⟨S8192x1024, .f32⟩
  | 116 => ⟨S8192x1024, .f32⟩
  | 117 => ⟨S8192x1, .f32⟩
  | 118 => ⟨S_, .f32⟩
  | 119 => ⟨S8192x1, .f32⟩
  | 120 => ⟨S8192x1, .f32⟩
  | 121 => ⟨S_, .f32⟩
  | 122 => ⟨S8192, .f32⟩
  | 123 => ⟨S8192x1024, .f32⟩
  | 124 => ⟨S8192x1024, .f32⟩
  | 125 => ⟨S8192x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S1x1024, .f32⟩
  | 1 => ⟨S1x1024, .f32⟩
  | 2 => ⟨S1x1024, .f32⟩
  | 3 => ⟨S1x1024, .f32⟩
  | 4 => ⟨S4x1024, .f32⟩
  | 5 => ⟨S_, .f32⟩
  | 6 => ⟨S4x1024, .f32⟩
  | 7 => ⟨S8x1024, .f32⟩
  | 8 => ⟨S8192x1024, .bf16⟩
  | 9 => ⟨S8192x2816, .bf16⟩
  | 10 => ⟨S8192x2816, .f32⟩
  | 11 => ⟨S8192x2816, .f32⟩
  | 12 => ⟨S1x8192x2816, .f32⟩
  | 13 => ⟨S1x8192x2816, .f32⟩
  | 14 => ⟨S2x8192x2816, .f32⟩
  | 15 => ⟨S2x8192x2816, .bf16⟩
  | 16 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_v27_2 : Ref sig .tc := ⟨.hbm, 47, rfl⟩
abbrev main_call0_cst_1 : Ref sig .tc := ⟨.hbm, 48, rfl⟩
abbrev main_call0_v6 : Ref sig .tc := ⟨.hbm, 49, rfl⟩
abbrev main_call0_v7 : Ref sig .tc := ⟨.hbm, 50, rfl⟩
abbrev main_v27_1 : Ref sig .tc := ⟨.hbm, 51, rfl⟩
abbrev main_v27_0 : Ref sig .tc := ⟨.hbm, 52, rfl⟩
abbrev main_v28 : Ref sig .tc := ⟨.hbm, 53, rfl⟩
abbrev main_v29 : Ref sig .tc := ⟨.hbm, 54, rfl⟩
abbrev main_cst_4 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_5 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_6 : Ref sig .tc := ⟨.hbm, 69, rfl⟩
abbrev main_v42 : Ref sig .tc := ⟨.hbm, 70, rfl⟩
abbrev main_v43 : Ref sig .tc := ⟨.hbm, 71, rfl⟩
abbrev main_cst_7 : Ref sig .tc := ⟨.hbm, 72, rfl⟩
abbrev main_v44 : Ref sig .tc := ⟨.hbm, 73, rfl⟩
abbrev main_v45 : Ref sig .tc := ⟨.hbm, 74, rfl⟩
abbrev main_cst_8 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_9 : Ref sig .tc := ⟨.hbm, 90, rfl⟩
abbrev main_v57 : Ref sig .tc := ⟨.hbm, 91, rfl⟩
abbrev main_v58 : Ref sig .tc := ⟨.hbm, 92, rfl⟩
abbrev main_cst_10 : Ref sig .tc := ⟨.hbm, 93, rfl⟩
abbrev main_v59 : Ref sig .tc := ⟨.hbm, 94, rfl⟩
abbrev main_v60 : Ref sig .tc := ⟨.hbm, 95, rfl⟩
abbrev main_cst_11 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_cst_12 : Ref sig .tc := ⟨.hbm, 101, rfl⟩
abbrev main_v65 : Ref sig .tc := ⟨.hbm, 102, rfl⟩
abbrev main_v66 : Ref sig .tc := ⟨.hbm, 103, rfl⟩
abbrev main_cst_13 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_cst_14 : Ref sig .tc := ⟨.hbm, 109, rfl⟩
abbrev main_v71 : Ref sig .tc := ⟨.hbm, 110, rfl⟩
abbrev main_v72 : Ref sig .tc := ⟨.hbm, 111, rfl⟩
abbrev main_cst_15 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_cst_16 : Ref sig .tc := ⟨.hbm, 118, rfl⟩
abbrev main_v78 : Ref sig .tc := ⟨.hbm, 119, rfl⟩
abbrev main_v79 : Ref sig .tc := ⟨.hbm, 120, rfl⟩
abbrev main_cst_17 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_cst_18 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩

abbrev nD : Nat := 1
abbrev τ : Topo := Topo.v7x

variable {F : FTy → Type} [FloatOps F]
-- ==== Kernel3.lean ====
abbrev S8192x1024 : Shape := ⟨2, ![8192, 1024]⟩
abbrev S2x8192x2816 : Shape := ⟨3, ![2, 8192, 2816]⟩
abbrev S4x1024x1408 : Shape := ⟨3, ![4, 1024, 1408]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S1024x1408 : Shape := ⟨2, ![1024, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S4x1024x1408, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1408_i32 : BitVec 32 := 1408#32
  let v0 : BitVec 32 := Scalar.muli arg1 c1408_i32
  let c2816_i32 : BitVec 32 := 2816#32
  let v1 : BitVec 32 := Scalar.divsi v0 c2816_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2816_i32 c0_i32_1
  let v8 : BitVec 32 := Scalar.extui v7
  let c0_i32_2 : BitVec 32 := 0#32
  let v9 : BitVec 1 := Scalar.cmpi .slt c2816_i32 c0_i32_2
  let v10 : BitVec 32 := Scalar.extui v9
  let v11 : BitVec 32 := Scalar.subi v8 v10
  let v12 : BitVec 1 := Scalar.cmpi .ne v6 v11
  let v13 : BitVec 32 := Scalar.remsi v0 c2816_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1408_i32_4 : BitVec 32 := 1408#32
  let v18 : BitVec 32 := Scalar.muli arg1 c1408_i32_4
  let c2816_i32_5 : BitVec 32 := 2816#32
  let c0_i32_6 : BitVec 32 := 0#32
  let v19 : BitVec 1 := Scalar.cmpi .eq c2816_i32_5 c0_i32_6
  let c1_i32_7 : BitVec 32 := 1#32
  let v20 : BitVec 32 := Scalar.select v19 c1_i32_7 c2816_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1408_i32_11 : BitVec 32 := 1408#32
  let v29 : BitVec 32 := Scalar.divsi v28 c1408_i32_11
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c1408_i32_11 c0_i32_14
  let v36 : BitVec 32 := Scalar.extui v35
  let c0_i32_15 : BitVec 32 := 0#32
  let v37 : BitVec 1 := Scalar.cmpi .slt c1408_i32_11 c0_i32_15
  let v38 : BitVec 32 := Scalar.extui v37
  let v39 : BitVec 32 := Scalar.subi v36 v38
  let v40 : BitVec 1 := Scalar.cmpi .ne v34 v39
  let v41 : BitVec 32 := Scalar.remsi v28 c1408_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c0_i32_18 : BitVec 32 := 0#32
  ![v17.toNat, arg2.toNat, v45.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1408_i32 : BitVec 32 := 1408#32
  let v0 : BitVec 32 := Scalar.muli arg1 c1408_i32
  let c1408_i32_0 : BitVec 32 := 1408#32
  let v1 : BitVec 32 := Scalar.divsi v0 c1408_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1408_i32_0 c0_i32_2
  let v8 : BitVec 32 := Scalar.extui v7
  let c0_i32_3 : BitVec 32 := 0#32
  let v9 : BitVec 1 := Scalar.cmpi .slt c1408_i32_0 c0_i32_3
  let v10 : BitVec 32 := Scalar.extui v9
  let v11 : BitVec 32 := Scalar.subi v8 v10
  let v12 : BitVec 1 := Scalar.cmpi .ne v6 v11
  let v13 : BitVec 32 := Scalar.remsi v0 c1408_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1408_i32_5 : BitVec 32 := 1408#32
  let v18 : BitVec 32 := Scalar.muli arg1 c1408_i32_5
  let c1408_i32_6 : BitVec 32 := 1408#32
  let c0_i32_7 : BitVec 32 := 0#32
  let v19 : BitVec 1 := Scalar.cmpi .eq c1408_i32_6 c0_i32_7
  let c1_i32_8 : BitVec 32 := 1#32
  let v20 : BitVec 32 := Scalar.select v19 c1_i32_8 c1408_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c1408_i32_12 : BitVec 32 := 1408#32
  let v29 : BitVec 32 := Scalar.divsi v28 c1408_i32_12
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c0_i32_15 : BitVec 32 := 0#32
  let v35 : BitVec 1 := Scalar.cmpi .sgt c1408_i32_12 c0_i32_15
  let v36 : BitVec 32 := Scalar.extui v35
  let c0_i32_16 : BitVec 32 := 0#32
  let v37 : BitVec 1 := Scalar.cmpi .slt c1408_i32_12 c0_i32_16
  let v38 : BitVec 32 := Scalar.extui v37
  let v39 : BitVec 32 := Scalar.subi v36 v38
  let v40 : BitVec 1 := Scalar.cmpi .ne v34 v39
  let v41 : BitVec 32 := Scalar.remsi v28 c1408_i32_12
  let c0_i32_17 : BitVec 32 := 0#32
  let v42 : BitVec 1 := Scalar.cmpi .ne v41 c0_i32_17
  let v43 : BitVec 1 := Scalar.andi v40 v42
  let c1_i32_18 : BitVec 32 := 1#32
  let v44 : BitVec 32 := Scalar.subi v29 c1_i32_18
  let v45 : BitVec 32 := Scalar.select v43 v44 v29
  let c0_i32_19 : BitVec 32 := 0#32
  ![v17.toNat, arg0.toNat, v45.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x1024 : Shape := ⟨2, ![8192, 1024]⟩
abbrev S2x8192x2816 : Shape := ⟨3, ![2, 8192, 2816]⟩
abbrev S1x8192x2816 : Shape := ⟨3, ![1, 8192, 2816]⟩
abbrev S8192x2816 : Shape := ⟨2, ![8192, 2816]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S8192x1024, .f32⟩
  | .hbm, ⟨3, _⟩ => ⟨S1x8192x2816, .bf16⟩
  | .hbm, ⟨4, _⟩ => ⟨S8192x2816, .bf16⟩
  | .hbm, ⟨5, _⟩ => ⟨S1x8192x2816, .bf16⟩
  | .hbm, ⟨6, _⟩ => ⟨S8192x2816, .bf16⟩
  | .hbm, ⟨7, _⟩ => ⟨S8192x5632, .bf16⟩
  | .hbm, ⟨8, _⟩ => ⟨S8192x5632, .f32⟩
  | .hbm, ⟨9, _⟩ => ⟨S_, .f32⟩
  | .hbm, ⟨10, _⟩ => ⟨S1024x5632, .f32⟩
  | .hbm, ⟨11, _⟩ => ⟨S8192x5632, .f32⟩
  | .hbm, ⟨12, _⟩ => ⟨S5632x1024, .f32⟩
  | .hbm, ⟨13, _⟩ => ⟨S1024x5632, .f32⟩
  | .hbm, ⟨14, _⟩ => ⟨S1024x4x1408, .f32⟩
  | .hbm, ⟨15, _⟩ => ⟨S4x1024x1408, .f32⟩
  | .hbm, ⟨16, _⟩ => ⟨S4x1024x1408, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel4.lean ====
abbrev S8192x2816 : Shape := ⟨2, ![8192, 2816]⟩
abbrev S8192x1024 : Shape := ⟨2, ![8192, 1024]⟩
abbrev S1x8192x1024 : Shape := ⟨3, ![1, 8192, 1024]⟩
abbrev S1x2816x1024 : Shape := ⟨3, ![1, 2816, 1024]⟩
abbrev S2048x1408 : Shape := ⟨2, ![2048, 1408]⟩
abbrev S1x2048x1024 : Shape := ⟨3, ![1, 2048, 1024]⟩
abbrev S1x1408x1024 : Shape := ⟨3, ![1, 1408, 1024]⟩
abbrev S1408x1024 : Shape := ⟨2, ![1408, 1024]⟩
abbrev S2048x1024 : Shape := ⟨2, ![2048, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S1x8192x1024, .bf16⟩
  | .hbm, ⟨3, _⟩ => ⟨S1x2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg1 c1024_i32
  let c1024_i32_0 : BitVec 32 := 1024#32
  let v1 : BitVec 32 := Scalar.divsi v0 c1024_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1024_i32_5 : BitVec 32 := 1024#32
  let v18 : BitVec 32 := Scalar.muli arg1 c1024_i32_5
  let c1024_i32_6 : BitVec 32 := 1024#32
  let c0_i32_7 : BitVec 32 := 0#32
  let v19 : BitVec 1 := Scalar.cmpi .eq c1024_i32_6 c0_i32_7
  let c1_i32_8 : BitVec 32 := 1#32
  let v20 : BitVec 32 := Scalar.select v19 c1_i32_8 c1024_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c1024_i32_12 : BitVec 32 := 1024#32
  let v29 : BitVec 32 := Scalar.divsi v28 c1024_i32_12
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c0_i32_15 : BitVec 32 := 0#32
  let v35 : BitVec 1 := Scalar.cmpi .sgt c1024_i32_12 c0_i32_15
  let v36 : BitVec 32 := Scalar.extui v35
  let c0_i32_16 : BitVec 32 := 0#32
  let v37 : BitVec 1 := Scalar.cmpi .slt c1024_i32_12 c0_i32_16
  let v38 : BitVec 32 := Scalar.extui v37
  let v39 : BitVec 32 := Scalar.subi v36 v38
  let v40 : BitVec 1 := Scalar.cmpi .ne v34 v39
  let v41 : BitVec 32 := Scalar.remsi v28 c1024_i32_12
  let c0_i32_17 : BitVec 32 := 0#32
  let v42 : BitVec 1 := Scalar.cmpi .ne v41 c0_i32_17
  let v43 : BitVec 1 := Scalar.andi v40 v42
  let c1_i32_18 : BitVec 32 := 1#32
  let v44 : BitVec 32 := Scalar.subi v29 c1_i32_18
  let v45 : BitVec 32 := Scalar.select v43 v44 v29
  let c0_i32_19 : BitVec 32 := 0#32
  ![v17.toNat, arg2.toNat, v45.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg1 c1024_i32
  let c1024_i32_0 : BitVec 32 := 1024#32
  let v1 : BitVec 32 := Scalar.divsi v0 c1024_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1024_i32_5 : BitVec 32 := 1024#32
  let v18 : BitVec 32 := Scalar.muli arg1 c1024_i32_5
  let c1024_i32_6 : BitVec 32 := 1024#32
  let c0_i32_7 : BitVec 32 := 0#32
  let v19 : BitVec 1 := Scalar.cmpi .eq c1024_i32_6 c0_i32_7
  let c1_i32_8 : BitVec 32 := 1#32
  let v20 : BitVec 32 := Scalar.select v19 c1_i32_8 c1024_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c1024_i32_12 : BitVec 32 := 1024#32
  let v29 : BitVec 32 := Scalar.divsi v28 c1024_i32_12
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c0_i32_15 : BitVec 32 := 0#32
  let v35 : BitVec 1 := Scalar.cmpi .sgt c1024_i32_12 c0_i32_15
  let v36 : BitVec 32 := Scalar.extui v35
  let c0_i32_16 : BitVec 32 := 0#32
  let v37 : BitVec 1 := Scalar.cmpi .slt c1024_i32_12 c0_i32_16
  let v38 : BitVec 32 := Scalar.extui v37
  let v39 : BitVec 32 := Scalar.subi v36 v38
  let v40 : BitVec 1 := Scalar.cmpi .ne v34 v39
  let v41 : BitVec 32 := Scalar.remsi v28 c1024_i32_12
  let c0_i32_17 : BitVec 32 := 0#32
  let v42 : BitVec 1 := Scalar.cmpi .ne v41 c0_i32_17
  let v43 : BitVec 1 := Scalar.andi v40 v42
  let c1_i32_18 : BitVec 32 := 1#32
  let v44 : BitVec 32 := Scalar.subi v29 c1_i32_18
  let v45 : BitVec 32 := Scalar.select v43 v44 v29
  let c0_i32_19 : BitVec 32 := 0#32
  ![v17.toNat, arg0.toNat, v45.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩
abbrev S1x2816x1024 : Shape := ⟨3, ![1, 2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | .hbm, ⟨10, _⟩ => ⟨S1x2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S1024x4x1408 : Shape := ⟨3, ![1024, 4, 1408]⟩
abbrev S4x1024x1408 : Shape := ⟨3, ![4, 1024, 1408]⟩
abbrev S1x1024 : Shape := ⟨2, ![1, 1024]⟩
abbrev S_ : Shape := ⟨0, ![]⟩
abbrev S4x1024 : Shape := ⟨2, ![4, 1024]⟩
abbrev S8x1024 : Shape := ⟨2, ![8, 1024]⟩
abbrev S2x8192x2816 : Shape := ⟨3, ![2, 8192, 2816]⟩
abbrev S512x1024 : Shape := ⟨2, ![512, 1024]⟩
abbrev S2x1024x1408 : Shape := ⟨3, ![2, 1024, 1408]⟩
abbrev S2x512x2816 : Shape := ⟨3, ![2, 512, 2816]⟩
abbrev S512 : Shape := ⟨1, ![512]⟩
abbrev S512x1 : Shape := ⟨2, ![512, 1]⟩
abbrev S1x1024x1408 : Shape := ⟨3, ![1, 1024, 1408]⟩
abbrev S1024x1408 : Shape := ⟨2, ![1024, 1408]⟩
abbrev S512x1408 : Shape := ⟨2, ![512, 1408]⟩
abbrev S1x512x1408 : Shape := ⟨3, ![1, 512, 1408]⟩
abbrev S1408x1024 : Shape := ⟨2, ![1408, 1024]⟩

abbrev nBuf : Space → Nat
  | .hbm => 22
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S1024x4x1408, .f32⟩
  | .hbm, ⟨8, _⟩ => ⟨S4x1024x1408, .f32⟩
  | .hbm, ⟨9, _⟩ => ⟨S4x1024x1408, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S_, .f32⟩
  | .hbm, ⟨15, _⟩ => ⟨S4x1024, .f32⟩
  | .hbm, ⟨16, _⟩ => ⟨S8x1024, .f32⟩
  | .hbm, ⟨17, _⟩ => ⟨S2816x1024, .bf16⟩
  | .hbm, ⟨18, _⟩ => ⟨S8192x1024, .f32⟩
  | .hbm, ⟨19, _⟩ => ⟨S8192x1024, .bf16⟩
  | .hbm, ⟨20, _⟩ => ⟨S2x8192x2816, .bf16⟩
  | .hbm, ⟨21, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S2x1024x1408, .bf16⟩
  | .local _ .vmem, ⟨4, _⟩ => ⟨S2x1024x1408, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S2x512x2816, .bf16⟩
  | .local _ .vmem, ⟨11, _⟩ => ⟨S2x512x2816, .bf16⟩
  | .local _ .vmem, ⟨12, _⟩ => ⟨S512x1024, .bf16⟩
  | .local _ .vmem, ⟨13, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩
abbrev S1x8192x2816 : Shape := ⟨3, ![1, 8192, 2816]⟩
abbrev S2x8192x2816 : Shape := ⟨3, ![2, 8192, 2816]⟩

abbrev nBuf : Space → Nat
  | .hbm => 64
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x5632, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S_, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1024, .f32⟩
  | .hbm, ⟨49, _⟩ => ⟨S1x1024, .f32⟩
  | .hbm, ⟨50, _⟩ => ⟨S_, .f32⟩
  | .hbm, ⟨51, _⟩ => ⟨S1x1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .bf16⟩
  | .hbm, ⟨57, _⟩ => ⟨S8192x2816, .f32⟩
  | .hbm, ⟨58, _⟩ => ⟨S8192x2816, .f32⟩
  | .hbm, ⟨59, _⟩ => ⟨S1x8192x2816, .f32⟩
  | .hbm, ⟨60, _⟩ => ⟨S1x8192x2816, .f32⟩
  | .hbm, ⟨61, _⟩ => ⟨S2x8192x2816, .f32⟩
  | .hbm, ⟨62, _⟩ => ⟨S2x8192x2816, .bf16⟩
  | .hbm, ⟨63, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_4 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]
-- ==== Kernel6.lean ====
abbrev S8192x1024 : Shape := ⟨2, ![8192, 1024]⟩
abbrev S8192x3072 : Shape := ⟨2, ![8192, 3072]⟩
abbrev S1x8192x3072 : Shape := ⟨3, ![1, 8192, 3072]⟩
abbrev S4x1024x768 : Shape := ⟨3, ![4, 1024, 768]⟩
abbrev S2048x1024 : Shape := ⟨2, ![2048, 1024]⟩
abbrev S1x2048x1536 : Shape := ⟨3, ![1, 2048, 1536]⟩
abbrev S2x1024x768 : Shape := ⟨3, ![2, 1024, 768]⟩
abbrev S1x1024x768 : Shape := ⟨3, ![1, 1024, 768]⟩
abbrev S1024x768 : Shape := ⟨2, ![1024, 768]⟩
abbrev S1x2048x768 : Shape := ⟨3, ![1, 2048, 768]⟩
abbrev S2048x768 : Shape := ⟨2, ![2048, 768]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1x8192x3072, .bf16⟩
  | .hbm, ⟨3, _⟩ => ⟨S4x1024x768, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1536, .bf16⟩
  | .local _ .vmem, ⟨3, _⟩ => ⟨S1x2048x1536, .bf16⟩
  | .local _ .vmem, ⟨4, _⟩ => ⟨S2x1024x768, .bf16⟩
  | .local _ .vmem, ⟨5, _⟩ => ⟨S2x1024x768, .bf16⟩
  | .local _ .vmem, ⟨6, _⟩ => ⟨S2x1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v22 : BitVec 1 := Scalar.cmpi .eq arg2 c3_i32
  let v23 : BitVec 32 := Scalar.extui v22
  let c0_i32_19 : BitVec 32 := 0#32
  let v24 : BitVec 1 := Scalar.cmpi .ne v23 c0_i32_19
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1536_i32 : BitVec 32 := 1536#32
  let v0 : BitVec 32 := Scalar.muli arg1 c1536_i32
  let c3072_i32 : BitVec 32 := 3072#32
  let v1 : BitVec 32 := Scalar.divsi v0 c3072_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c3072_i32 c0_i32_1
  let v8 : BitVec 32 := Scalar.extui v7
  let c0_i32_2 : BitVec 32 := 0#32
  let v9 : BitVec 1 := Scalar.cmpi .slt c3072_i32 c0_i32_2
  let v10 : BitVec 32 := Scalar.extui v9
  let v11 : BitVec 32 := Scalar.subi v8 v10
  let v12 : BitVec 1 := Scalar.cmpi .ne v6 v11
  let v13 : BitVec 32 := Scalar.remsi v0 c3072_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1536_i32_4 : BitVec 32 := 1536#32
  let v18 : BitVec 32 := Scalar.muli arg1 c1536_i32_4
  let c3072_i32_5 : BitVec 32 := 3072#32
  let c0_i32_6 : BitVec 32 := 0#32
  let v19 : BitVec 1 := Scalar.cmpi .eq c3072_i32_5 c0_i32_6
  let c1_i32_7 : BitVec 32 := 1#32
  let v20 : BitVec 32 := Scalar.select v19 c1_i32_7 c3072_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1536_i32_11 : BitVec 32 := 1536#32
  let v29 : BitVec 32 := Scalar.divsi v28 c1536_i32_11
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c1536_i32_11 c0_i32_14
  let v36 : BitVec 32 := Scalar.extui v35
  let c0_i32_15 : BitVec 32 := 0#32
  let v37 : BitVec 1 := Scalar.cmpi .slt c1536_i32_11 c0_i32_15
  let v38 : BitVec 32 := Scalar.extui v37
  let v39 : BitVec 32 := Scalar.subi v36 v38
  let v40 : BitVec 1 := Scalar.cmpi .ne v34 v39
  let v41 : BitVec 32 := Scalar.remsi v28 c1536_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c0_i32_18 : BitVec 32 := 0#32
  ![v17.toNat, arg2.toNat, v45.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩
abbrev S1024x4x768 : Shape := ⟨3, ![1024, 4, 768]⟩
abbrev S4x1024x768 : Shape := ⟨3, ![4, 1024, 768]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S_, .f32⟩
  | .hbm, ⟨3, _⟩ => ⟨S1024x3072, .f32⟩
  | .hbm, ⟨4, _⟩ => ⟨S8192x1024, .f32⟩
  | .hbm, ⟨5, _⟩ => ⟨S8192x3072, .f32⟩
  | .hbm, ⟨6, _⟩ => ⟨S8192x3072, .f32⟩
  | .hbm, ⟨7, _⟩ => ⟨S3072x1024, .f32⟩
  | .hbm, ⟨8, _⟩ => ⟨S1024x3072, .f32⟩
  | .hbm, ⟨9, _⟩ => ⟨S1024x4x768, .f32⟩
  | .hbm, ⟨10, _⟩ => ⟨S4x1024x768, .f32⟩
  | .hbm, ⟨11, _⟩ => ⟨S4x1024x768, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel7.lean ====
abbrev S8192x1024 : Shape := ⟨2, ![8192, 1024]⟩
abbrev S1x8192x1024 : Shape := ⟨3, ![1, 8192, 1024]⟩
abbrev S1x1024x1024 : Shape := ⟨3, ![1, 1024, 1024]⟩
abbrev S2048x1024 : Shape := ⟨2, ![2048, 1024]⟩
abbrev S1x2048x1024 : Shape := ⟨3, ![1, 2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x8192x1024, .bf16⟩
  | .hbm, ⟨3, _⟩ => ⟨S1x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg1 c1024_i32
  let c1024_i32_0 : BitVec 32 := 1024#32
  let v1 : BitVec 32 := Scalar.divsi v0 c1024_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1024_i32_5 : BitVec 32 := 1024#32
  let v18 : BitVec 32 := Scalar.muli arg1 c1024_i32_5
  let c1024_i32_6 : BitVec 32 := 1024#32
  let c0_i32_7 : BitVec 32 := 0#32
  let v19 : BitVec 1 := Scalar.cmpi .eq c1024_i32_6 c0_i32_7
  let c1_i32_8 : BitVec 32 := 1#32
  let v20 : BitVec 32 := Scalar.select v19 c1_i32_8 c1024_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c1024_i32_12 : BitVec 32 := 1024#32
  let v29 : BitVec 32 := Scalar.divsi v28 c1024_i32_12
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c0_i32_15 : BitVec 32 := 0#32
  let v35 : BitVec 1 := Scalar.cmpi .sgt c1024_i32_12 c0_i32_15
  let v36 : BitVec 32 := Scalar.extui v35
  let c0_i32_16 : BitVec 32 := 0#32
  let v37 : BitVec 1 := Scalar.cmpi .slt c1024_i32_12 c0_i32_16
  let v38 : BitVec 32 := Scalar.extui v37
  let v39 : BitVec 32 := Scalar.subi v36 v38
  let v40 : BitVec 1 := Scalar.cmpi .ne v34 v39
  let v41 : BitVec 32 := Scalar.remsi v28 c1024_i32_12
  let c0_i32_17 : BitVec 32 := 0#32
  let v42 : BitVec 1 := Scalar.cmpi .ne v41 c0_i32_17
  let v43 : BitVec 1 := Scalar.andi v40 v42
  let c1_i32_18 : BitVec 32 := 1#32
  let v44 : BitVec 32 := Scalar.subi v29 c1_i32_18
  let v45 : BitVec 32 := Scalar.select v43 v44 v29
  let c0_i32_19 : BitVec 32 := 0#32
  ![v17.toNat, arg2.toNat, v45.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg1 c1024_i32
  let c1024_i32_0 : BitVec 32 := 1024#32
  let v1 : BitVec 32 := Scalar.divsi v0 c1024_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1024_i32_5 : BitVec 32 := 1024#32
  let v18 : BitVec 32 := Scalar.muli arg1 c1024_i32_5
  let c1024_i32_6 : BitVec 32 := 1024#32
  let c0_i32_7 : BitVec 32 := 0#32
  let v19 : BitVec 1 := Scalar.cmpi .eq c1024_i32_6 c0_i32_7
  let c1_i32_8 : BitVec 32 := 1#32
  let v20 : BitVec 32 := Scalar.select v19 c1_i32_8 c1024_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c1024_i32_12 : BitVec 32 := 1024#32
  let v29 : BitVec 32 := Scalar.divsi v28 c1024_i32_12
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c0_i32_15 : BitVec 32 := 0#32
  let v35 : BitVec 1 := Scalar.cmpi .sgt c1024_i32_12 c0_i32_15
  let v36 : BitVec 32 := Scalar.extui v35
  let c0_i32_16 : BitVec 32 := 0#32
  let v37 : BitVec 1 := Scalar.cmpi .slt c1024_i32_12 c0_i32_16
  let v38 : BitVec 32 := Scalar.extui v37
  let v39 : BitVec 32 := Scalar.subi v36 v38
  let v40 : BitVec 1 := Scalar.cmpi .ne v34 v39
  let v41 : BitVec 32 := Scalar.remsi v28 c1024_i32_12
  let c0_i32_17 : BitVec 32 := 0#32
  let v42 : BitVec 1 := Scalar.cmpi .ne v41 c0_i32_17
  let v43 : BitVec 1 := Scalar.andi v40 v42
  let c1_i32_18 : BitVec 32 := 1#32
  let v44 : BitVec 32 := Scalar.subi v29 c1_i32_18
  let v45 : BitVec 32 := Scalar.select v43 v44 v29
  let c0_i32_19 : BitVec 32 := 0#32
  ![v17.toNat, arg0.toNat, v45.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S1x1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S8192x1024 : Shape := ⟨2, ![8192, 1024]⟩
abbrev S8192x1536 : Shape := ⟨2, ![8192, 1536]⟩
abbrev S1x8192x1536 : Shape := ⟨3, ![1, 8192, 1536]⟩
abbrev S4x1024x384 : Shape := ⟨3, ![4, 1024, 384]⟩
abbrev S2048x1024 : Shape := ⟨2, ![2048, 1024]⟩
abbrev S1x2048x1536 : Shape := ⟨3, ![1, 2048, 1536]⟩
abbrev S1x1024x384 : Shape := ⟨3, ![1, 1024, 384]⟩
abbrev S1024x384 : Shape := ⟨2, ![1024, 384]⟩
abbrev S1x2048x384 : Shape := ⟨3, ![1, 2048, 384]⟩
abbrev S2048x384 : Shape := ⟨2, ![2048, 384]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S1x8192x1536, .bf16⟩
  | .hbm, ⟨3, _⟩ => ⟨S4x1024x384, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1536, .bf16⟩
  | .local _ .vmem, ⟨3, _⟩ => ⟨S1x2048x1536, .bf16⟩
  | .local _ .vmem, ⟨4, _⟩ => ⟨S4x1024x384, .bf16⟩
  | .local _ .vmem, ⟨5, _⟩ => ⟨S4x1024x384, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v40 : BitVec 1 := Scalar.cmpi .eq arg2 c3_i32
  let v41 : BitVec 32 := Scalar.extui v40
  let c0_i32_35 : BitVec 32 := 0#32
  let v42 : BitVec 1 := Scalar.cmpi .ne v41 c0_i32_35
  v42

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1536_i32 : BitVec 32 := 1536#32
  let v0 : BitVec 32 := Scalar.muli arg1 c1536_i32
  let c1536_i32_0 : BitVec 32 := 1536#32
  let v1 : BitVec 32 := Scalar.divsi v0 c1536_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1536_i32_0 c0_i32_2
  let v8 : BitVec 32 := Scalar.extui v7
  let c0_i32_3 : BitVec 32 := 0#32
  let v9 : BitVec 1 := Scalar.cmpi .slt c1536_i32_0 c0_i32_3
  let v10 : BitVec 32 := Scalar.extui v9
  let v11 : BitVec 32 := Scalar.subi v8 v10
  let v12 : BitVec 1 := Scalar.cmpi .ne v6 v11
  let v13 : BitVec 32 := Scalar.remsi v0 c1536_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1536_i32_5 : BitVec 32 := 1536#32
  let v18 : BitVec 32 := Scalar.muli arg1 c1536_i32_5
  let c1536_i32_6 : BitVec 32 := 1536#32
  let c0_i32_7 : BitVec 32 := 0#32
  let v19 : BitVec 1 := Scalar.cmpi .eq c1536_i32_6 c0_i32_7
  let c1_i32_8 : BitVec 32 := 1#32
  let v20 : BitVec 32 := Scalar.select v19 c1_i32_8 c1536_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c1536_i32_12 : BitVec 32 := 1536#32
  let v29 : BitVec 32 := Scalar.divsi v28 c1536_i32_12
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c0_i32_15 : BitVec 32 := 0#32
  let v35 : BitVec 1 := Scalar.cmpi .sgt c1536_i32_12 c0_i32_15
  let v36 : BitVec 32 := Scalar.extui v35
  let c0_i32_16 : BitVec 32 := 0#32
  let v37 : BitVec 1 := Scalar.cmpi .slt c1536_i32_12 c0_i32_16
  let v38 : BitVec 32 := Scalar.extui v37
  let v39 : BitVec 32 := Scalar.subi v36 v38
  let v40 : BitVec 1 := Scalar.cmpi .ne v34 v39
  let v41 : BitVec 32 := Scalar.remsi v28 c1536_i32_12
  let c0_i32_17 : BitVec 32 := 0#32
  let v42 : BitVec 1 := Scalar.cmpi .ne v41 c0_i32_17
  let v43 : BitVec 1 := Scalar.andi v40 v42
  let c1_i32_18 : BitVec 32 := 1#32
  let v44 : BitVec 32 := Scalar.subi v29 c1_i32_18
  let v45 : BitVec 32 := Scalar.select v43 v44 v29
  let c0_i32_19 : BitVec 32 := 0#32
  ![v17.toNat, arg2.toNat, v45.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S4x1024x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S8192x1536 : Shape := ⟨2, ![8192, 1536]⟩
abbrev S_ : Shape := ⟨0, ![]⟩
abbrev S1024x1536 : Shape := ⟨2, ![1024, 1536]⟩
abbrev S1536x1024 : Shape := ⟨2, ![1536, 1024]⟩
abbrev S1024x4x384 : Shape := ⟨3, ![1024, 4, 384]⟩
abbrev S4x1024x384 : Shape := ⟨3, ![4, 1024, 384]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S_, .f32⟩
  | .hbm, ⟨3, _⟩ => ⟨S1024x1536, .f32⟩
  | .hbm, ⟨4, _⟩ => ⟨S8192x1024, .f32⟩
  | .hbm, ⟨5, _⟩ => ⟨S8192x1536, .f32⟩
  | .hbm, ⟨6, _⟩ => ⟨S8192x1536, .f32⟩
  | .hbm, ⟨7, _⟩ => ⟨S1536x1024, .f32⟩
  | .hbm, ⟨8, _⟩ => ⟨S1024x1536, .f32⟩
  | .hbm, ⟨9, _⟩ => ⟨S1024x4x384, .f32⟩
  | .hbm, ⟨10, _⟩ => ⟨S4x1024x384, .f32⟩
  | .hbm, ⟨11, _⟩ => ⟨S4x1024x384, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel9.lean ====
abbrev S8192x512 : Shape := ⟨2, ![8192, 512]⟩
abbrev S8192x1024 : Shape := ⟨2, ![8192, 1024]⟩
abbrev S1x8192x1024 : Shape := ⟨3, ![1, 8192, 1024]⟩
abbrev S4x512x256 : Shape := ⟨3, ![4, 512, 256]⟩
abbrev S2048x512 : Shape := ⟨2, ![2048, 512]⟩
abbrev S1x2048x1024 : Shape := ⟨3, ![1, 2048, 1024]⟩
abbrev S1x512x256 : Shape := ⟨3, ![1, 512, 256]⟩
abbrev S512x256 : Shape := ⟨2, ![512, 256]⟩
abbrev S1x2048x256 : Shape := ⟨3, ![1, 2048, 256]⟩
abbrev S2048x256 : Shape := ⟨2, ![2048, 256]⟩

abbrev nBuf : Space → Nat
  | .hbm => 4
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x1024, .bf16⟩
  | .hbm, ⟨2, _⟩ => ⟨S1x8192x1024, .bf16⟩
  | .hbm, ⟨3, _⟩ => ⟨S4x512x256, .bf16⟩
  | .local _ .vmem, ⟨0, _⟩ => ⟨S2048x512, .f32⟩
  | .local _ .vmem, ⟨1, _⟩ => ⟨S2048x512, .f32⟩
  | .local _ .vmem, ⟨2, _⟩ => ⟨S1x2048x1024, .bf16⟩
  | .local _ .vmem, ⟨3, _⟩ => ⟨S1x2048x1024, .bf16⟩
  | .local _ .vmem, ⟨4, _⟩ => ⟨S4x512x256, .bf16⟩
  | .local _ .vmem, ⟨5, _⟩ => ⟨S4x512x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v41 : BitVec 1 := Scalar.cmpi .eq arg2 c3_i32
  let v42 : BitVec 32 := Scalar.extui v41
  let c0_i32_35 : BitVec 32 := 0#32
  let v43 : BitVec 1 := Scalar.cmpi .ne v42 c0_i32_35
  v43

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg1 c1024_i32
  let c1024_i32_0 : BitVec 32 := 1024#32
  let v1 : BitVec 32 := Scalar.divsi v0 c1024_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1024_i32_5 : BitVec 32 := 1024#32
  let v18 : BitVec 32 := Scalar.muli arg1 c1024_i32_5
  let c1024_i32_6 : BitVec 32 := 1024#32
  let c0_i32_7 : BitVec 32 := 0#32
  let v19 : BitVec 1 := Scalar.cmpi .eq c1024_i32_6 c0_i32_7
  let c1_i32_8 : BitVec 32 := 1#32
  let v20 : BitVec 32 := Scalar.select v19 c1_i32_8 c1024_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c1024_i32_12 : BitVec 32 := 1024#32
  let v29 : BitVec 32 := Scalar.divsi v28 c1024_i32_12
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c0_i32_15 : BitVec 32 := 0#32
  let v35 : BitVec 1 := Scalar.cmpi .sgt c1024_i32_12 c0_i32_15
  let v36 : BitVec 32 := Scalar.extui v35
  let c0_i32_16 : BitVec 32 := 0#32
  let v37 : BitVec 1 := Scalar.cmpi .slt c1024_i32_12 c0_i32_16
  let v38 : BitVec 32 := Scalar.extui v37
  let v39 : BitVec 32 := Scalar.subi v36 v38
  let v40 : BitVec 1 := Scalar.cmpi .ne v34 v39
  let v41 : BitVec 32 := Scalar.remsi v28 c1024_i32_12
  let c0_i32_17 : BitVec 32 := 0#32
  let v42 : BitVec 1 := Scalar.cmpi .ne v41 c0_i32_17
  let v43 : BitVec 1 := Scalar.andi v40 v42
  let c1_i32_18 : BitVec 32 := 1#32
  let v44 : BitVec 32 := Scalar.subi v29 c1_i32_18
  let v45 : BitVec 32 := Scalar.select v43 v44 v29
  let c0_i32_19 : BitVec 32 := 0#32
  ![v17.toNat, arg2.toNat, v45.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S4x512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩
abbrev S512x4x256 : Shape := ⟨3, ![512, 4, 256]⟩
abbrev S4x512x256 : Shape := ⟨3, ![4, 512, 256]⟩

abbrev nBuf : Space → Nat
  | .hbm => 11
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .bf16⟩
  | .hbm, ⟨2, _⟩ => ⟨S_, .f32⟩
  | .hbm, ⟨3, _⟩ => ⟨S512x1024, .f32⟩
  | .hbm, ⟨4, _⟩ => ⟨S8192x1024, .f32⟩
  | .hbm, ⟨5, _⟩ => ⟨S8192x1024, .f32⟩
  | .hbm, ⟨6, _⟩ => ⟨S1024x512, .f32⟩
  | .hbm, ⟨7, _⟩ => ⟨S512x1024, .f32⟩
  | .hbm, ⟨8, _⟩ => ⟨S512x4x256, .f32⟩
  | .hbm, ⟨9, _⟩ => ⟨S4x512x256, .f32⟩
  | .hbm, ⟨10, _⟩ => ⟨S4x512x256, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S8192x1024 : Shape := ⟨2, ![8192, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S1024x4x768 : Shape := ⟨3, ![1024, 4, 768]⟩
abbrev S4x1024x768 : Shape := ⟨3, ![4, 1024, 768]⟩
abbrev S1x1024 : Shape := ⟨2, ![1, 1024]⟩
abbrev S_ : Shape := ⟨0, ![]⟩
abbrev S4x1024 : Shape := ⟨2, ![4, 1024]⟩
abbrev S8x1024 : Shape := ⟨2, ![8, 1024]⟩
abbrev S5x1024 : Shape := ⟨2, ![5, 1024]⟩
abbrev S4x8192x1024 : Shape := ⟨3, ![4, 8192, 1024]⟩
abbrev S512x1024 : Shape := ⟨2, ![512, 1024]⟩
abbrev S4x512x1024 : Shape := ⟨3, ![4, 512, 1024]⟩
abbrev S520x1024 : Shape := ⟨2, ![520, 1024]⟩
abbrev S512 : Shape := ⟨1, ![512]⟩
abbrev S512x1 : Shape := ⟨2, ![512, 1]⟩
abbrev S1x1024x768 : Shape := ⟨3, ![1, 1024, 768]⟩
abbrev S1024x768 : Shape := ⟨2, ![1024, 768]⟩
abbrev S512x768 : Shape := ⟨2, ![512, 768]⟩
abbrev S512x3072 : Shape := ⟨2, ![512, 3072]⟩
abbrev S1x512x1024 : Shape := ⟨3, ![1, 512, 1024]⟩

abbrev nBuf : Space → Nat
  | .hbm => 36
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x3072, .f32⟩
  | .hbm, ⟨6, _⟩ => ⟨S3x1024, .f32⟩
  | .hbm, ⟨7, _⟩ => ⟨S1024x1024, .f32⟩
  | .hbm, ⟨8, _⟩ => ⟨S1024x4x768, .f32⟩
  | .hbm, ⟨9, _⟩ => ⟨S4x1024x768, .f32⟩
  | .hbm, ⟨10, _⟩ => ⟨S4x1024x768, .bf16⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S4x1024, .f32⟩
  | .hbm, ⟨17, _⟩ => ⟨S8x1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S_, .f32⟩
  | .hbm, ⟨28, _⟩ => ⟨S5x1024, .f32⟩
  | .hbm, ⟨29, _⟩ => ⟨S8x1024, .f32⟩
  | .hbm, ⟨30, _⟩ => ⟨S1024x1024, .bf16⟩
  | .hbm, ⟨31, _⟩ => ⟨S8192x1024, .f32⟩
  | .hbm, ⟨32, _⟩ => ⟨S8192x1024, .bf16⟩
  | .hbm, ⟨33, _⟩ => ⟨S4x8192x1024, .bf16⟩
  | .hbm, ⟨34, _⟩ => ⟨S8192x1024, .bf16⟩
  | .hbm, ⟨35, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S4x1024x768, .bf16⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S4x512x1024, .bf16⟩
  | .local _ .vmem, ⟨11, _⟩ => ⟨S4x512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S520x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21_0 : Ref sig .tc := ⟨.hbm, 31, rfl⟩
abbrev main_v21_1 : Ref sig .tc := ⟨.hbm, 32, rfl⟩
abbrev main_v21_2 : Ref sig .tc := ⟨.hbm, 33, rfl⟩
abbrev main_v21_3 : Ref sig .tc := ⟨.hbm, 34, rfl⟩
abbrev main_v21_4 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference10Ideal.lean ====
abbrev S8192x1024 : Shape := ⟨2, ![8192, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x3072 : Shape := ⟨2, ![8192, 3072]⟩
abbrev S2x1024 : Shape := ⟨2, ![2, 1024]⟩
abbrev S8194x1024 : Shape := ⟨2, ![8194, 1024]⟩
abbrev S1x8192x1024 : Shape := ⟨3, ![1, 8192, 1024]⟩
abbrev S4x8192x1024 : Shape := ⟨3, ![4, 8192, 1024]⟩

abbrev nBuf : Space → Nat
  | .hbm => 79
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x3072, .f32⟩
  | .hbm, ⟨6, _⟩ => ⟨S3x1024, .f32⟩
  | .hbm, ⟨7, _⟩ => ⟨S1024x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x3072, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S2x1024, .f32⟩
  | .hbm, ⟨40, _⟩ => ⟨S8194x1024, .f32⟩
  | .hbm, ⟨41, _⟩ => ⟨S1x1024, .f32⟩
  | .hbm, ⟨42, _⟩ => ⟨S1024, .f32⟩
  | .hbm, ⟨43, _⟩ => ⟨S8192x1024, .f32⟩
  | .hbm, ⟨44, _⟩ => ⟨S1x1024, .f32⟩
  | .hbm, ⟨45, _⟩ => ⟨S8192x1024, .f32⟩
  | .hbm, ⟨46, _⟩ => ⟨S8192x1024, .f32⟩
  | .hbm, ⟨47, _⟩ => ⟨S1x1024, .f32⟩
  | .hbm, ⟨48, _⟩ => ⟨S1024, .f32⟩
  | .hbm, ⟨49, _⟩ => ⟨S8192x1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S1x1024, .f32⟩
  | .hbm, ⟨55, _⟩ => ⟨S1024, .f32⟩
  | .hbm, ⟨56, _⟩ => ⟨S8192x1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S1024, .f32⟩
  | .hbm, ⟨65, _⟩ => ⟨S1024, .f32⟩
  | .hbm, ⟨66, _⟩ => ⟨S1x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .bf16⟩
  | .hbm, ⟨71, _⟩ => ⟨S1x8192x1024, .f32⟩
  | .hbm, ⟨72, _⟩ => ⟨S1x8192x1024, .f32⟩
  | .hbm, ⟨73, _⟩ => ⟨S1x8192x1024, .f32⟩
  | .hbm, ⟨74, _⟩ => ⟨S1x8192x1024, .f32⟩
  | .hbm, ⟨75, _⟩ => ⟨S4x8192x1024, .f32⟩
  | .hbm, ⟨76, _⟩ => ⟨S4x8192x1024, .bf16⟩
  | .hbm, ⟨77, _⟩ => ⟨S8192x1024, .bf16⟩
  | .hbm, ⟨78, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_4 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩

abbrev nD : Nat := 1
abbrev τ : Topo := Topo.v7x

variable {F : FTy → Type} [FloatOps F]
-- ==== Kernel12.lean ====
abbrev S4x1024x1408 : Shape := ⟨3, ![4, 1024, 1408]⟩
abbrev S4096x1408 : Shape := ⟨2, ![4096, 1408]⟩
abbrev S256x1408 : Shape := ⟨2, ![256, 1408]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S4096x1408, .f32⟩
  | .hbm, ⟨9, _⟩ => ⟨S4096x1408, .f32⟩
  | .hbm, ⟨10, _⟩ => ⟨S4096x1408, .f32⟩
  | .hbm, ⟨11, _⟩ => ⟨S4096x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel12Ideal.lean ====
abbrev S4x1024x1408 : Shape := ⟨3, ![4, 1024, 1408]⟩
abbrev S4096x1408 : Shape := ⟨2, ![4096, 1408]⟩
abbrev S256x1408 : Shape := ⟨2, ![256, 1408]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S4096x1408, .f32⟩
  | .hbm, ⟨9, _⟩ => ⟨S4096x1408, .f32⟩
  | .hbm, ⟨10, _⟩ => ⟨S4096x1408, .f32⟩
  | .hbm, ⟨11, _⟩ => ⟨S4096x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S4x1024x1408 : Shape := ⟨3, ![4, 1024, 1408]⟩
abbrev S_ : Shape := ⟨0, ![]⟩
abbrev S4096x1408 : Shape := ⟨2, ![4096, 1408]⟩

abbrev nBuf : Space → Nat
  | .hbm => 41
  | .vmem => 0
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S_, .f32⟩
  | .hbm, ⟨5, _⟩ => ⟨S4x1024x1408, .f32⟩
  | .hbm, ⟨6, _⟩ => ⟨S4x1024x1408, .f32⟩
  | .hbm, ⟨7, _⟩ => ⟨S_, .f32⟩
  | .hbm, ⟨8, _⟩ => ⟨S4x1024x1408, .f32⟩
  | .hbm, ⟨9, _⟩ => ⟨S4x1024x1408, .f32⟩
  | .hbm, ⟨10, _⟩ => ⟨S4x1024x1408, .f32⟩
  | .hbm, ⟨11, _⟩ => ⟨S_, .f32⟩
  | .hbm, ⟨12, _⟩ => ⟨S4x1024x1408, .f32⟩
  | .hbm, ⟨13, _⟩ => ⟨S4x1024x1408, .f32⟩
  | .hbm, ⟨14, _⟩ => ⟨S4x1024x1408, .f32⟩
  | .hbm, ⟨15, _⟩ => ⟨S_, .f32⟩
  | .hbm, ⟨16, _⟩ => ⟨S4x1024x1408, .f32⟩
  | .hbm, ⟨17, _⟩ => ⟨S4x1024x1408, .f32⟩
  | .hbm, ⟨18, _⟩ => ⟨S4x1024x1408, .f32⟩
  | .hbm, ⟨19, _⟩ => ⟨S_, .f32⟩
  | .hbm, ⟨20, _⟩ => ⟨S4x1024x1408, .f32⟩
  | .hbm, ⟨21, _⟩ => ⟨S4x1024x1408, .f32⟩
  | .hbm, ⟨22, _⟩ => ⟨S_, .f32⟩
  | .hbm, ⟨23, _⟩ => ⟨S4x1024x1408, .f32⟩
  | .hbm, ⟨24, _⟩ => ⟨S4x1024x1408, .f32⟩
  | .hbm, ⟨25, _⟩ => ⟨S4x1024x1408, .f32⟩
  | .hbm, ⟨26, _⟩ => ⟨S_, .f32⟩
  | .hbm, ⟨27, _⟩ => ⟨S4x1024x1408, .f32⟩
  | .hbm, ⟨28, _⟩ => ⟨S4x1024x1408, .f32⟩
  | .hbm, ⟨29, _⟩ => ⟨S4x1024x1408, .f32⟩
  | .hbm, ⟨30, _⟩ => ⟨S_, .f32⟩
  | .hbm, ⟨31, _⟩ => ⟨S4x1024x1408, .f32⟩
  | .hbm, ⟨32, _⟩ => ⟨S4x1024x1408, .f32⟩
  | .hbm, ⟨33, _⟩ => ⟨S4x1024x1408, .f32⟩
  | .hbm, ⟨34, _⟩ => ⟨S_, .f32⟩
  | .hbm, ⟨35, _⟩ => ⟨S4x1024x1408, .f32⟩
  | .hbm, ⟨36, _⟩ => ⟨S4x1024x1408, .f32⟩
  | .hbm, ⟨37, _⟩ => ⟨S4096x1408, .f32⟩
  | .hbm, ⟨38, _⟩ => ⟨S4096x1408, .f32⟩
  | .hbm, ⟨39, _⟩ => ⟨S4096x1408, .f32⟩
  | .hbm, ⟨40, _⟩ => ⟨S4096x1408, .f32⟩
  | _, _ => ⟨S4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel13.lean ====
abbrev S1024x8 : Shape := ⟨2, ![1024, 8]⟩
abbrev S4x8x2304 : Shape := ⟨3, ![4, 8, 2304]⟩
abbrev S4x1024x2304 : Shape := ⟨3, ![4, 1024, 2304]⟩
abbrev S1x8x256 : Shape := ⟨3, ![1, 8, 256]⟩
abbrev S1x1024x256 : Shape := ⟨3, ![1, 1024, 256]⟩
abbrev S1024x1 : Shape := ⟨2, ![1024, 1]⟩
abbrev S1x1x256 : Shape := ⟨3, ![1, 1, 256]⟩
abbrev S1x256 : Shape := ⟨2, ![1, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S1024x8, .f32⟩
  | .hbm, ⟨1, _⟩ => ⟨S4x8x2304, .f32⟩
  | .hbm, ⟨2, _⟩ => ⟨S4x1024x2304, .f32⟩
  | .local _ .vmem, ⟨0, _⟩ => ⟨S1024x8, .f32⟩
  | .local _ .vmem, ⟨1, _⟩ => ⟨S1x8x256, .f32⟩
  | .local _ .vmem, ⟨2, _⟩ => ⟨S1x8x256, .f32⟩
  | .local _ .vmem, ⟨3, _⟩ => ⟨S1x1024x256, .f32⟩
  | .local _ .vmem, ⟨4, _⟩ => ⟨S1x1024x256, .f32⟩
  | _, _ => ⟨S1024x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1024x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel13Ideal.lean ====
abbrev S1024x8 : Shape := ⟨2, ![1024, 8]⟩
abbrev S4x8x2304 : Shape := ⟨3, ![4, 8, 2304]⟩
abbrev S4x1024x2304 : Shape := ⟨3, ![4, 1024, 2304]⟩
abbrev S1x8x256 : Shape := ⟨3, ![1, 8, 256]⟩
abbrev S1x1024x256 : Shape := ⟨3, ![1, 1024, 256]⟩
abbrev S1024x1 : Shape := ⟨2, ![1024, 1]⟩
abbrev S1x1x256 : Shape := ⟨3, ![1, 1, 256]⟩
abbrev S1x256 : Shape := ⟨2, ![1, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S1024x8, .f32⟩
  | .hbm, ⟨1, _⟩ => ⟨S4x8x2304, .f32⟩
  | .hbm, ⟨2, _⟩ => ⟨S4x1024x2304, .f32⟩
  | .local _ .vmem, ⟨0, _⟩ => ⟨S1024x8, .f32⟩
  | .local _ .vmem, ⟨1, _⟩ => ⟨S1x8x256, .f32⟩
  | .local _ .vmem, ⟨2, _⟩ => ⟨S1x8x256, .f32⟩
  | .local _ .vmem, ⟨3, _⟩ => ⟨S1x1024x256, .f32⟩
  | .local _ .vmem, ⟨4, _⟩ => ⟨S1x1024x256, .f32⟩
  | _, _ => ⟨S1024x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1024x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S1024x8 : Shape := ⟨2, ![1024, 8]⟩
abbrev S4x8x2304 : Shape := ⟨3, ![4, 8, 2304]⟩
abbrev S_ : Shape := ⟨0, ![]⟩
abbrev S4x1024x2304 : Shape := ⟨3, ![4, 1024, 2304]⟩
abbrev S8x1024 : Shape := ⟨2, ![8, 1024]⟩
abbrev S4x2304x8 : Shape := ⟨3, ![4, 2304, 8]⟩
abbrev S4x2304x1024 : Shape := ⟨3, ![4, 2304, 1024]⟩

abbrev nBuf : Space → Nat
  | .hbm => 19
  | .vmem => 0
  | .smem => 0
  | _ => 0

abbrev bufTy : (tb : Table) → Fin (tcTables nBuf tb) → BufTy
  | .hbm, ⟨0, _⟩ => ⟨S1024x8, .f32⟩
  | .hbm, ⟨1, _⟩ => ⟨S4x8x2304, .f32⟩
  | .hbm, ⟨2, _⟩ => ⟨S_, .f32⟩
  | .hbm, ⟨3, _⟩ => ⟨S4x1024x2304, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S4x2304x8, .f32⟩
  | .hbm, ⟨15, _⟩ => ⟨S4x8x2304, .f32⟩
  | .hbm, ⟨16, _⟩ => ⟨S4x2304x8, .f32⟩
  | .hbm, ⟨17, _⟩ => ⟨S4x2304x1024, .f32⟩
  | .hbm, ⟨18, _⟩ => ⟨S4x1024x2304, .f32⟩
  | _, _ => ⟨S1024x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== Kernel16.lean ====
abbrev S4x704x1024 : Shape := ⟨3, ![4, 704, 1024]⟩
abbrev S2816x1024 : Shape := ⟨2, ![2816, 1024]⟩
abbrev S256x1024 : Shape := ⟨2, ![256, 1024]⟩

abbrev nBuf : Space → Nat
  | .hbm => 12
  | .vmem => 16
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .hbm, ⟨9, _⟩ => ⟨S2816x1024, .f32⟩
  | .hbm, ⟨10, _⟩ => ⟨S2816x1024, .f32⟩
  | .hbm, ⟨11, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel16Ideal.lean ====
abbrev S4x704x1024 : Shape := ⟨3, ![4, 704, 1024]⟩
abbrev S2816x1024 : Shape := ⟨2, ![2816, 1024]⟩
abbrev S256x1024 : Shape := ⟨2, ![256, 1024]⟩

abbrev nBuf : Space → Nat
  | .hbm => 12
  | .vmem => 16
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .hbm, ⟨9, _⟩ => ⟨S2816x1024, .f32⟩
  | .hbm, ⟨10, _⟩ => ⟨S2816x1024, .f32⟩
  | .hbm, ⟨11, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference16Ideal.lean ====
abbrev S4x704x1024 : Shape := ⟨3, ![4, 704, 1024]⟩
abbrev S_ : Shape := ⟨0, ![]⟩
abbrev S2816x1024 : Shape := ⟨2, ![2816, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S_, .f32⟩
  | .hbm, ⟨5, _⟩ => ⟨S4x704x1024, .f32⟩
  | .hbm, ⟨6, _⟩ => ⟨S4x704x1024, .f32⟩
  | .hbm, ⟨7, _⟩ => ⟨S_, .f32⟩
  | .hbm, ⟨8, _⟩ => ⟨S4x704x1024, .f32⟩
  | .hbm, ⟨9, _⟩ => ⟨S4x704x1024, .f32⟩
  | .hbm, ⟨10, _⟩ => ⟨S4x704x1024, .f32⟩
  | .hbm, ⟨11, _⟩ => ⟨S_, .f32⟩
  | .hbm, ⟨12, _⟩ => ⟨S4x704x1024, .f32⟩
  | .hbm, ⟨13, _⟩ => ⟨S4x704x1024, .f32⟩
  | .hbm, ⟨14, _⟩ => ⟨S4x704x1024, .f32⟩
  | .hbm, ⟨15, _⟩ => ⟨S_, .f32⟩
  | .hbm, ⟨16, _⟩ => ⟨S4x704x1024, .f32⟩
  | .hbm, ⟨17, _⟩ => ⟨S4x704x1024, .f32⟩
  | .hbm, ⟨18, _⟩ => ⟨S4x704x1024, .f32⟩
  | .hbm, ⟨19, _⟩ => ⟨S_, .f32⟩
  | .hbm, ⟨20, _⟩ => ⟨S4x704x1024, .f32⟩
  | .hbm, ⟨21, _⟩ => ⟨S4x704x1024, .f32⟩
  | .hbm, ⟨22, _⟩ => ⟨S_, .f32⟩
  | .hbm, ⟨23, _⟩ => ⟨S4x704x1024, .f32⟩
  | .hbm, ⟨24, _⟩ => ⟨S4x704x1024, .f32⟩
  | .hbm, ⟨25, _⟩ => ⟨S4x704x1024, .f32⟩
  | .hbm, ⟨26, _⟩ => ⟨S_, .f32⟩
  | .hbm, ⟨27, _⟩ => ⟨S4x704x1024, .f32⟩
  | .hbm, ⟨28, _⟩ => ⟨S4x704x1024, .f32⟩
  | .hbm, ⟨29, _⟩ => ⟨S4x704x1024, .f32⟩
  | .hbm, ⟨30, _⟩ => ⟨S_, .f32⟩
  | .hbm, ⟨31, _⟩ => ⟨S4x704x1024, .f32⟩
  | .hbm, ⟨32, _⟩ => ⟨S4x704x1024, .f32⟩
  | .hbm, ⟨33, _⟩ => ⟨S4x704x1024, .f32⟩
  | .hbm, ⟨34, _⟩ => ⟨S_, .f32⟩
  | .hbm, ⟨35, _⟩ => ⟨S4x704x1024, .f32⟩
  | .hbm, ⟨36, _⟩ => ⟨S4x704x1024, .f32⟩
  | .hbm, ⟨37, _⟩ => ⟨S2816x1024, .f32⟩
  | .hbm, ⟨38, _⟩ => ⟨S2816x1024, .f32⟩
  | .hbm, ⟨39, _⟩ => ⟨S2816x1024, .f32⟩
  | .hbm, ⟨40, _⟩ => ⟨S2816x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel17.lean ====
abbrev S2x1024x768 : Shape := ⟨3, ![2, 1024, 768]⟩
abbrev S2048x768 : Shape := ⟨2, ![2048, 768]⟩
abbrev S256x768 : Shape := ⟨2, ![256, 768]⟩

abbrev nBuf : Space → Nat
  | .hbm => 12
  | .vmem => 16
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S2048x768, .f32⟩
  | .hbm, ⟨5, _⟩ => ⟨S2048x768, .f32⟩
  | .hbm, ⟨6, _⟩ => ⟨S2048x768, .f32⟩
  | .hbm, ⟨7, _⟩ => ⟨S2048x768, .f32⟩
  | .hbm, ⟨8, _⟩ => ⟨S2048x768, .f32⟩
  | .hbm, ⟨9, _⟩ => ⟨S2048x768, .f32⟩
  | .hbm, ⟨10, _⟩ => ⟨S2048x768, .f32⟩
  | .hbm, ⟨11, _⟩ => ⟨S2048x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S2x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel17Ideal.lean ====
abbrev S2x1024x768 : Shape := ⟨3, ![2, 1024, 768]⟩
abbrev S2048x768 : Shape := ⟨2, ![2048, 768]⟩
abbrev S256x768 : Shape := ⟨2, ![256, 768]⟩

abbrev nBuf : Space → Nat
  | .hbm => 12
  | .vmem => 16
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S2048x768, .f32⟩
  | .hbm, ⟨5, _⟩ => ⟨S2048x768, .f32⟩
  | .hbm, ⟨6, _⟩ => ⟨S2048x768, .f32⟩
  | .hbm, ⟨7, _⟩ => ⟨S2048x768, .f32⟩
  | .hbm, ⟨8, _⟩ => ⟨S2048x768, .f32⟩
  | .hbm, ⟨9, _⟩ => ⟨S2048x768, .f32⟩
  | .hbm, ⟨10, _⟩ => ⟨S2048x768, .f32⟩
  | .hbm, ⟨11, _⟩ => ⟨S2048x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S2x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference17Ideal.lean ====
abbrev S2x1024x768 : Shape := ⟨3, ![2, 1024, 768]⟩
abbrev S_ : Shape := ⟨0, ![]⟩
abbrev S2048x768 : Shape := ⟨2, ![2048, 768]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S_, .f32⟩
  | .hbm, ⟨5, _⟩ => ⟨S2x1024x768, .f32⟩
  | .hbm, ⟨6, _⟩ => ⟨S2x1024x768, .f32⟩
  | .hbm, ⟨7, _⟩ => ⟨S_, .f32⟩
  | .hbm, ⟨8, _⟩ => ⟨S2x1024x768, .f32⟩
  | .hbm, ⟨9, _⟩ => ⟨S2x1024x768, .f32⟩
  | .hbm, ⟨10, _⟩ => ⟨S2x1024x768, .f32⟩
  | .hbm, ⟨11, _⟩ => ⟨S_, .f32⟩
  | .hbm, ⟨12, _⟩ => ⟨S2x1024x768, .f32⟩
  | .hbm, ⟨13, _⟩ => ⟨S2x1024x768, .f32⟩
  | .hbm, ⟨14, _⟩ => ⟨S2x1024x768, .f32⟩
  | .hbm, ⟨15, _⟩ => ⟨S_, .f32⟩
  | .hbm, ⟨16, _⟩ => ⟨S2x1024x768, .f32⟩
  | .hbm, ⟨17, _⟩ => ⟨S2x1024x768, .f32⟩
  | .hbm, ⟨18, _⟩ => ⟨S2x1024x768, .f32⟩
  | .hbm, ⟨19, _⟩ => ⟨S_, .f32⟩
  | .hbm, ⟨20, _⟩ => ⟨S2x1024x768, .f32⟩
  | .hbm, ⟨21, _⟩ => ⟨S2x1024x768, .f32⟩
  | .hbm, ⟨22, _⟩ => ⟨S_, .f32⟩
  | .hbm, ⟨23, _⟩ => ⟨S2x1024x768, .f32⟩
  | .hbm, ⟨24, _⟩ => ⟨S2x1024x768, .f32⟩
  | .hbm, ⟨25, _⟩ => ⟨S2x1024x768, .f32⟩
  | .hbm, ⟨26, _⟩ => ⟨S_, .f32⟩
  | .hbm, ⟨27, _⟩ => ⟨S2x1024x768, .f32⟩
  | .hbm, ⟨28, _⟩ => ⟨S2x1024x768, .f32⟩
  | .hbm, ⟨29, _⟩ => ⟨S2x1024x768, .f32⟩
  | .hbm, ⟨30, _⟩ => ⟨S_, .f32⟩
  | .hbm, ⟨31, _⟩ => ⟨S2x1024x768, .f32⟩
  | .hbm, ⟨32, _⟩ => ⟨S2x1024x768, .f32⟩
  | .hbm, ⟨33, _⟩ => ⟨S2x1024x768, .f32⟩
  | .hbm, ⟨34, _⟩ => ⟨S_, .f32⟩
  | .hbm, ⟨35, _⟩ => ⟨S2x1024x768, .f32⟩
  | .hbm, ⟨36, _⟩ => ⟨S2x1024x768, .f32⟩
  | .hbm, ⟨37, _⟩ => ⟨S2048x768, .f32⟩
  | .hbm, ⟨38, _⟩ => ⟨S2048x768, .f32⟩
  | .hbm, ⟨39, _⟩ => ⟨S2048x768, .f32⟩
  | .hbm, ⟨40, _⟩ => ⟨S2048x768, .f32⟩
  | _, _ => ⟨S2x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel18.lean ====
abbrev S2x256x1024 : Shape := ⟨3, ![2, 256, 1024]⟩
abbrev S512x1024 : Shape := ⟨2, ![512, 1024]⟩
abbrev S256x1024 : Shape := ⟨2, ![256, 1024]⟩

abbrev nBuf : Space → Nat
  | .hbm => 12
  | .vmem => 16
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel18Ideal.lean ====
abbrev S2x256x1024 : Shape := ⟨3, ![2, 256, 1024]⟩
abbrev S512x1024 : Shape := ⟨2, ![512, 1024]⟩
abbrev S256x1024 : Shape := ⟨2, ![256, 1024]⟩

abbrev nBuf : Space → Nat
  | .hbm => 12
  | .vmem => 16
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference18Ideal.lean ====
abbrev S2x256x1024 : Shape := ⟨3, ![2, 256, 1024]⟩
abbrev S_ : Shape := ⟨0, ![]⟩
abbrev S512x1024 : Shape := ⟨2, ![512, 1024]⟩

abbrev nBuf : Space → Nat
  | .hbm => 41
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S512x1024, .f32⟩
  | .hbm, ⟨38, _⟩ => ⟨S512x1024, .f32⟩
  | .hbm, ⟨39, _⟩ => ⟨S512x1024, .f32⟩
  | .hbm, ⟨40, _⟩ => ⟨S512x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel19.lean ====
abbrev S1024x768 : Shape := ⟨2, ![1024, 768]⟩
abbrev S256x768 : Shape := ⟨2, ![256, 768]⟩

abbrev nBuf : Space → Nat
  | .hbm => 8
  | .vmem => 16
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel19Ideal.lean ====
abbrev S1024x768 : Shape := ⟨2, ![1024, 768]⟩
abbrev S256x768 : Shape := ⟨2, ![256, 768]⟩

abbrev nBuf : Space → Nat
  | .hbm => 8
  | .vmem => 16
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference19Ideal.lean ====
abbrev S1024x768 : Shape := ⟨2, ![1024, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S_, .f32⟩
  | .hbm, ⟨5, _⟩ => ⟨S1024x768, .f32⟩
  | .hbm, ⟨6, _⟩ => ⟨S1024x768, .f32⟩
  | .hbm, ⟨7, _⟩ => ⟨S_, .f32⟩
  | .hbm, ⟨8, _⟩ => ⟨S1024x768, .f32⟩
  | .hbm, ⟨9, _⟩ => ⟨S1024x768, .f32⟩
  | .hbm, ⟨10, _⟩ => ⟨S1024x768, .f32⟩
  | .hbm, ⟨11, _⟩ => ⟨S_, .f32⟩
  | .hbm, ⟨12, _⟩ => ⟨S1024x768, .f32⟩
  | .hbm, ⟨13, _⟩ => ⟨S1024x768, .f32⟩
  | .hbm, ⟨14, _⟩ => ⟨S1024x768, .f32⟩
  | .hbm, ⟨15, _⟩ => ⟨S_, .f32⟩
  | .hbm, ⟨16, _⟩ => ⟨S1024x768, .f32⟩
  | .hbm, ⟨17, _⟩ => ⟨S1024x768, .f32⟩
  | .hbm, ⟨18, _⟩ => ⟨S1024x768, .f32⟩
  | .hbm, ⟨19, _⟩ => ⟨S_, .f32⟩
  | .hbm, ⟨20, _⟩ => ⟨S1024x768, .f32⟩
  | .hbm, ⟨21, _⟩ => ⟨S1024x768, .f32⟩
  | .hbm, ⟨22, _⟩ => ⟨S_, .f32⟩
  | .hbm, ⟨23, _⟩ => ⟨S1024x768, .f32⟩
  | .hbm, ⟨24, _⟩ => ⟨S1024x768, .f32⟩
  | .hbm, ⟨25, _⟩ => ⟨S1024x768, .f32⟩
  | .hbm, ⟨26, _⟩ => ⟨S_, .f32⟩
  | .hbm, ⟨27, _⟩ => ⟨S1024x768, .f32⟩
  | .hbm, ⟨28, _⟩ => ⟨S1024x768, .f32⟩
  | .hbm, ⟨29, _⟩ => ⟨S1024x768, .f32⟩
  | .hbm, ⟨30, _⟩ => ⟨S_, .f32⟩
  | .hbm, ⟨31, _⟩ => ⟨S1024x768, .f32⟩
  | .hbm, ⟨32, _⟩ => ⟨S1024x768, .f32⟩
  | .hbm, ⟨33, _⟩ => ⟨S1024x768, .f32⟩
  | .hbm, ⟨34, _⟩ => ⟨S_, .f32⟩
  | .hbm, ⟨35, _⟩ => ⟨S1024x768, .f32⟩
  | .hbm, ⟨36, _⟩ => ⟨S1024x768, .f32⟩
  | _, _ => ⟨S1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S2x1024x384 : Shape := ⟨3, ![2, 1024, 384]⟩
abbrev S2048x384 : Shape := ⟨2, ![2048, 384]⟩
abbrev S256x384 : Shape := ⟨2, ![256, 384]⟩

abbrev nBuf : Space → Nat
  | .hbm => 12
  | .vmem => 16
  | .smem => 0
  | _ => 0

abbrev bufTy : (tb : Table) → Fin (tcTables nBuf tb) → BufTy
  | .hbm, ⟨0, _⟩ => ⟨S2x1024x384, .f32⟩
  | .hbm, ⟨1, _⟩ => ⟨S2x1024x384, .f32⟩
  | .hbm, ⟨2, _⟩ => ⟨S2x1024x384, .f32⟩
  | .hbm, ⟨3, _⟩ => ⟨S2x1024x384, .f32⟩
  | .hbm, ⟨4, _⟩ => ⟨S2048x384, .f32⟩
  | .hbm, ⟨5, _⟩ => ⟨S2048x384, .f32⟩
  | .hbm, ⟨6, _⟩ => ⟨S2048x384, .f32⟩
  | .hbm, ⟨7, _⟩ => ⟨S2048x384, .f32⟩
  | .hbm, ⟨8, _⟩ => ⟨S2048x384, .f32⟩
  | .hbm, ⟨9, _⟩ => ⟨S2048x384, .f32⟩
  | .hbm, ⟨10, _⟩ => ⟨S2048x384, .f32⟩
  | .hbm, ⟨11, _⟩ => ⟨S2048x384, .f32⟩
  | .local _ .vmem, ⟨0, _⟩ => ⟨S256x384, .f32⟩
  | .local _ .vmem, ⟨1, _⟩ => ⟨S256x384, .f32⟩
  | .local _ .vmem, ⟨2, _⟩ => ⟨S256x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S256x384, .f32⟩
  | .local _ .vmem, ⟨7, _⟩ => ⟨S256x384, .f32⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | .local _ .vmem, ⟨14, _⟩ => ⟨S256x384, .f32⟩
  | .local _ .vmem, ⟨15, _⟩ => ⟨S256x384, .f32⟩
  | _, _ => ⟨S2x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel20Ideal.lean ====
abbrev S2x1024x384 : Shape := ⟨3, ![2, 1024, 384]⟩
abbrev S2048x384 : Shape := ⟨2, ![2048, 384]⟩
abbrev S256x384 : Shape := ⟨2, ![256, 384]⟩

abbrev nBuf : Space → Nat
  | .hbm => 12
  | .vmem => 16
  | .smem => 0
  | _ => 0

abbrev bufTy : (tb : Table) → Fin (tcTables nBuf tb) → BufTy
  | .hbm, ⟨0, _⟩ => ⟨S2x1024x384, .f32⟩
  | .hbm, ⟨1, _⟩ => ⟨S2x1024x384, .f32⟩
  | .hbm, ⟨2, _⟩ => ⟨S2x1024x384, .f32⟩
  | .hbm, ⟨3, _⟩ => ⟨S2x1024x384, .f32⟩
  | .hbm, ⟨4, _⟩ => ⟨S2048x384, .f32⟩
  | .hbm, ⟨5, _⟩ => ⟨S2048x384, .f32⟩
  | .hbm, ⟨6, _⟩ => ⟨S2048x384, .f32⟩
  | .hbm, ⟨7, _⟩ => ⟨S2048x384, .f32⟩
  | .hbm, ⟨8, _⟩ => ⟨S2048x384, .f32⟩
  | .hbm, ⟨9, _⟩ => ⟨S2048x384, .f32⟩
  | .hbm, ⟨10, _⟩ => ⟨S2048x384, .f32⟩
  | .hbm, ⟨11, _⟩ => ⟨S2048x384, .f32⟩
  | .local _ .vmem, ⟨0, _⟩ => ⟨S256x384, .f32⟩
  | .local _ .vmem, ⟨1, _⟩ => ⟨S256x384, .f32⟩
  | .local _ .vmem, ⟨2, _⟩ => ⟨S256x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S256x384, .f32⟩
  | .local _ .vmem, ⟨7, _⟩ => ⟨S256x384, .f32⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | .local _ .vmem, ⟨14, _⟩ => ⟨S256x384, .f32⟩
  | .local _ .vmem, ⟨15, _⟩ => ⟨S256x384, .f32⟩
  | _, _ => ⟨S2x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S2x1024x384 : Shape := ⟨3, ![2, 1024, 384]⟩
abbrev S_ : Shape := ⟨0, ![]⟩
abbrev S2048x384 : Shape := ⟨2, ![2048, 384]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x384, .f32⟩
  | .hbm, ⟨1, _⟩ => ⟨S2x1024x384, .f32⟩
  | .hbm, ⟨2, _⟩ => ⟨S2x1024x384, .f32⟩
  | .hbm, ⟨3, _⟩ => ⟨S2x1024x384, .f32⟩
  | .hbm, ⟨4, _⟩ => ⟨S_, .f32⟩
  | .hbm, ⟨5, _⟩ => ⟨S2x1024x384, .f32⟩
  | .hbm, ⟨6, _⟩ => ⟨S2x1024x384, .f32⟩
  | .hbm, ⟨7, _⟩ => ⟨S_, .f32⟩
  | .hbm, ⟨8, _⟩ => ⟨S2x1024x384, .f32⟩
  | .hbm, ⟨9, _⟩ => ⟨S2x1024x384, .f32⟩
  | .hbm, ⟨10, _⟩ => ⟨S2x1024x384, .f32⟩
  | .hbm, ⟨11, _⟩ => ⟨S_, .f32⟩
  | .hbm, ⟨12, _⟩ => ⟨S2x1024x384, .f32⟩
  | .hbm, ⟨13, _⟩ => ⟨S2x1024x384, .f32⟩
  | .hbm, ⟨14, _⟩ => ⟨S2x1024x384, .f32⟩
  | .hbm, ⟨15, _⟩ => ⟨S_, .f32⟩
  | .hbm, ⟨16, _⟩ => ⟨S2x1024x384, .f32⟩
  | .hbm, ⟨17, _⟩ => ⟨S2x1024x384, .f32⟩
  | .hbm, ⟨18, _⟩ => ⟨S2x1024x384, .f32⟩
  | .hbm, ⟨19, _⟩ => ⟨S_, .f32⟩
  | .hbm, ⟨20, _⟩ => ⟨S2x1024x384, .f32⟩
  | .hbm, ⟨21, _⟩ => ⟨S2x1024x384, .f32⟩
  | .hbm, ⟨22, _⟩ => ⟨S_, .f32⟩
  | .hbm, ⟨23, _⟩ => ⟨S2x1024x384, .f32⟩
  | .hbm, ⟨24, _⟩ => ⟨S2x1024x384, .f32⟩
  | .hbm, ⟨25, _⟩ => ⟨S2x1024x384, .f32⟩
  | .hbm, ⟨26, _⟩ => ⟨S_, .f32⟩
  | .hbm, ⟨27, _⟩ => ⟨S2x1024x384, .f32⟩
  | .hbm, ⟨28, _⟩ => ⟨S2x1024x384, .f32⟩
  | .hbm, ⟨29, _⟩ => ⟨S2x1024x384, .f32⟩
  | .hbm, ⟨30, _⟩ => ⟨S_, .f32⟩
  | .hbm, ⟨31, _⟩ => ⟨S2x1024x384, .f32⟩
  | .hbm, ⟨32, _⟩ => ⟨S2x1024x384, .f32⟩
  | .hbm, ⟨33, _⟩ => ⟨S2x1024x384, .f32⟩
  | .hbm, ⟨34, _⟩ => ⟨S_, .f32⟩
  | .hbm, ⟨35, _⟩ => ⟨S2x1024x384, .f32⟩
  | .hbm, ⟨36, _⟩ => ⟨S2x1024x384, .f32⟩
  | .hbm, ⟨37, _⟩ => ⟨S2048x384, .f32⟩
  | .hbm, ⟨38, _⟩ => ⟨S2048x384, .f32⟩
  | .hbm, ⟨39, _⟩ => ⟨S2048x384, .f32⟩
  | .hbm, ⟨40, _⟩ => ⟨S2048x384, .f32⟩
  | _, _ => ⟨S2x1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel21.lean ====
abbrev S2x512x256 : Shape := ⟨3, ![2, 512, 256]⟩
abbrev S1024x256 : Shape := ⟨2, ![1024, 256]⟩
abbrev S256x256 : Shape := ⟨2, ![256, 256]⟩

abbrev nBuf : Space → Nat
  | .hbm => 12
  | .vmem => 16
  | .smem => 0
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S2x512x256, .f32⟩
  | .hbm, ⟨3, _⟩ => ⟨S2x512x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .hbm, ⟨9, _⟩ => ⟨S1024x256, .f32⟩
  | .hbm, ⟨10, _⟩ => ⟨S1024x256, .f32⟩
  | .hbm, ⟨11, _⟩ => ⟨S1024x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S2x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference21Ideal.lean ====
abbrev S2x512x256 : Shape := ⟨3, ![2, 512, 256]⟩
abbrev S_ : Shape := ⟨0, ![]⟩
abbrev S1024x256 : Shape := ⟨2, ![1024, 256]⟩

abbrev nBuf : Space → Nat
  | .hbm => 41
  | .vmem => 0
  | .smem => 0
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S2x512x256, .f32⟩
  | .hbm, ⟨3, _⟩ => ⟨S2x512x256, .f32⟩
  | .hbm, ⟨4, _⟩ => ⟨S_, .f32⟩
  | .hbm, ⟨5, _⟩ => ⟨S2x512x256, .f32⟩
  | .hbm, ⟨6, _⟩ => ⟨S2x512x256, .f32⟩
  | .hbm, ⟨7, _⟩ => ⟨S_, .f32⟩
  | .hbm, ⟨8, _⟩ => ⟨S2x512x256, .f32⟩
  | .hbm, ⟨9, _⟩ => ⟨S2x512x256, .f32⟩
  | .hbm, ⟨10, _⟩ => ⟨S2x512x256, .f32⟩
  | .hbm, ⟨11, _⟩ => ⟨S_, .f32⟩
  | .hbm, ⟨12, _⟩ => ⟨S2x512x256, .f32⟩
  | .hbm, ⟨13, _⟩ => ⟨S2x512x256, .f32⟩
  | .hbm, ⟨14, _⟩ => ⟨S2x512x256, .f32⟩
  | .hbm, ⟨15, _⟩ => ⟨S_, .f32⟩
  | .hbm, ⟨16, _⟩ => ⟨S2x512x256, .f32⟩
  | .hbm, ⟨17, _⟩ => ⟨S2x512x256, .f32⟩
  | .hbm, ⟨18, _⟩ => ⟨S2x512x256, .f32⟩
  | .hbm, ⟨19, _⟩ => ⟨S_, .f32⟩
  | .hbm, ⟨20, _⟩ => ⟨S2x512x256, .f32⟩
  | .hbm, ⟨21, _⟩ => ⟨S2x512x256, .f32⟩
  | .hbm, ⟨22, _⟩ => ⟨S_, .f32⟩
  | .hbm, ⟨23, _⟩ => ⟨S2x512x256, .f32⟩
  | .hbm, ⟨24, _⟩ => ⟨S2x512x256, .f32⟩
  | .hbm, ⟨25, _⟩ => ⟨S2x512x256, .f32⟩
  | .hbm, ⟨26, _⟩ => ⟨S_, .f32⟩
  | .hbm, ⟨27, _⟩ => ⟨S2x512x256, .f32⟩
  | .hbm, ⟨28, _⟩ => ⟨S2x512x256, .f32⟩
  | .hbm, ⟨29, _⟩ => ⟨S2x512x256, .f32⟩
  | .hbm, ⟨30, _⟩ => ⟨S_, .f32⟩
  | .hbm, ⟨31, _⟩ => ⟨S2x512x256, .f32⟩
  | .hbm, ⟨32, _⟩ => ⟨S2x512x256, .f32⟩
  | .hbm, ⟨33, _⟩ => ⟨S2x512x256, .f32⟩
  | .hbm, ⟨34, _⟩ => ⟨S_, .f32⟩
  | .hbm, ⟨35, _⟩ => ⟨S2x512x256, .f32⟩
  | .hbm, ⟨36, _⟩ => ⟨S2x512x256, .f32⟩
  | .hbm, ⟨37, _⟩ => ⟨S1024x256, .f32⟩
  | .hbm, ⟨38, _⟩ => ⟨S1024x256, .f32⟩
  | .hbm, ⟨39, _⟩ => ⟨S1024x256, .f32⟩
  | .hbm, ⟨40, _⟩ => ⟨S1024x256, .f32⟩
  | _, _ => ⟨S2x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel22.lean ====
abbrev S4x3x256 : Shape := ⟨3, ![4, 3, 256]⟩
abbrev S12x256 : Shape := ⟨2, ![12, 256]⟩

abbrev nBuf : Space → Nat
  | .hbm => 11
  | .vmem => 7
  | .smem => 0
  | _ => 0

abbrev bufTy : (tb : Table) → Fin (tcTables nBuf tb) → BufTy
  | .hbm, ⟨0, _⟩ => ⟨S4x3x256, .f32⟩
  | .hbm, ⟨1, _⟩ => ⟨S4x3x256, .f32⟩
  | .hbm, ⟨2, _⟩ => ⟨S4x3x256, .f32⟩
  | .hbm, ⟨3, _⟩ => ⟨S4x3x256, .f32⟩
  | .hbm, ⟨4, _⟩ => ⟨S12x256, .f32⟩
  | .hbm, ⟨5, _⟩ => ⟨S12x256, .f32⟩
  | .hbm, ⟨6, _⟩ => ⟨S12x256, .f32⟩
  | .hbm, ⟨7, _⟩ => ⟨S12x256, .f32⟩
  | .hbm, ⟨8, _⟩ => ⟨S12x256, .f32⟩
  | .hbm, ⟨9, _⟩ => ⟨S12x256, .f32⟩
  | .hbm, ⟨10, _⟩ => ⟨S12x256, .f32⟩
  | .local _ .vmem, ⟨0, _⟩ => ⟨S12x256, .f32⟩
  | .local _ .vmem, ⟨1, _⟩ => ⟨S12x256, .f32⟩
  | .local _ .vmem, ⟨2, _⟩ => ⟨S12x256, .f32⟩
  | .local _ .vmem, ⟨3, _⟩ => ⟨S12x256, .f32⟩
  | .local _ .vmem, ⟨4, _⟩ => ⟨S12x256, .f32⟩
  | .local _ .vmem, ⟨5, _⟩ => ⟨S12x256, .f32⟩
  | .local _ .vmem, ⟨6, _⟩ => ⟨S12x256, .f32⟩
  | _, _ => ⟨S4x3x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel22Ideal.lean ====
abbrev S4x3x256 : Shape := ⟨3, ![4, 3, 256]⟩
abbrev S12x256 : Shape := ⟨2, ![12, 256]⟩

abbrev nBuf : Space → Nat
  | .hbm => 11
  | .vmem => 7
  | .smem => 0
  | _ => 0

abbrev bufTy : (tb : Table) → Fin (tcTables nBuf tb) → BufTy
  | .hbm, ⟨0, _⟩ => ⟨S4x3x256, .f32⟩
  | .hbm, ⟨1, _⟩ => ⟨S4x3x256, .f32⟩
  | .hbm, ⟨2, _⟩ => ⟨S4x3x256, .f32⟩
  | .hbm, ⟨3, _⟩ => ⟨S4x3x256, .f32⟩
  | .hbm, ⟨4, _⟩ => ⟨S12x256, .f32⟩
  | .hbm, ⟨5, _⟩ => ⟨S12x256, .f32⟩
  | .hbm, ⟨6, _⟩ => ⟨S12x256, .f32⟩
  | .hbm, ⟨7, _⟩ => ⟨S12x256, .f32⟩
  | .hbm, ⟨8, _⟩ => ⟨S12x256, .f32⟩
  | .hbm, ⟨9, _⟩ => ⟨S12x256, .f32⟩
  | .hbm, ⟨10, _⟩ => ⟨S12x256, .f32⟩
  | .local _ .vmem, ⟨0, _⟩ => ⟨S12x256, .f32⟩
  | .local _ .vmem, ⟨1, _⟩ => ⟨S12x256, .f32⟩
  | .local _ .vmem, ⟨2, _⟩ => ⟨S12x256, .f32⟩
  | .local _ .vmem, ⟨3, _⟩ => ⟨S12x256, .f32⟩
  | .local _ .vmem, ⟨4, _⟩ => ⟨S12x256, .f32⟩
  | .local _ .vmem, ⟨5, _⟩ => ⟨S12x256, .f32⟩
  | .local _ .vmem, ⟨6, _⟩ => ⟨S12x256, .f32⟩
  | _, _ => ⟨S4x3x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference22Ideal.lean ====
abbrev S4x3x256 : Shape := ⟨3, ![4, 3, 256]⟩
abbrev S_ : Shape := ⟨0, ![]⟩
abbrev S12x256 : Shape := ⟨2, ![12, 256]⟩

abbrev nBuf : Space → Nat
  | .hbm => 40
  | .vmem => 0
  | .smem => 0
  | _ => 0

abbrev bufTy : (tb : Table) → Fin (tcTables nBuf tb) → BufTy
  | .hbm, ⟨0, _⟩ => ⟨S4x3x256, .f32⟩
  | .hbm, ⟨1, _⟩ => ⟨S4x3x256, .f32⟩
  | .hbm, ⟨2, _⟩ => ⟨S4x3x256, .f32⟩
  | .hbm, ⟨3, _⟩ => ⟨S4x3x256, .f32⟩
  | .hbm, ⟨4, _⟩ => ⟨S_, .f32⟩
  | .hbm, ⟨5, _⟩ => ⟨S4x3x256, .f32⟩
  | .hbm, ⟨6, _⟩ => ⟨S4x3x256, .f32⟩
  | .hbm, ⟨7, _⟩ => ⟨S_, .f32⟩
  | .hbm, ⟨8, _⟩ => ⟨S4x3x256, .f32⟩
  | .hbm, ⟨9, _⟩ => ⟨S4x3x256, .f32⟩
  | .hbm, ⟨10, _⟩ => ⟨S4x3x256, .f32⟩
  | .hbm, ⟨11, _⟩ => ⟨S_, .f32⟩
  | .hbm, ⟨12, _⟩ => ⟨S4x3x256, .f32⟩
  | .hbm, ⟨13, _⟩ => ⟨S4x3x256, .f32⟩
  | .hbm, ⟨14, _⟩ => ⟨S4x3x256, .f32⟩
  | .hbm, ⟨15, _⟩ => ⟨S_, .f32⟩
  | .hbm, ⟨16, _⟩ => ⟨S4x3x256, .f32⟩
  | .hbm, ⟨17, _⟩ => ⟨S4x3x256, .f32⟩
  | .hbm, ⟨18, _⟩ => ⟨S4x3x256, .f32⟩
  | .hbm, ⟨19, _⟩ => ⟨S_, .f32⟩
  | .hbm, ⟨20, _⟩ => ⟨S4x3x256, .f32⟩
  | .hbm, ⟨21, _⟩ => ⟨S4x3x256, .f32⟩
  | .hbm, ⟨22, _⟩ => ⟨S_, .f32⟩
  | .hbm, ⟨23, _⟩ => ⟨S4x3x256, .f32⟩
  | .hbm, ⟨24, _⟩ => ⟨S4x3x256, .f32⟩
  | .hbm, ⟨25, _⟩ => ⟨S4x3x256, .f32⟩
  | .hbm, ⟨26, _⟩ => ⟨S_, .f32⟩
  | .hbm, ⟨27, _⟩ => ⟨S4x3x256, .f32⟩
  | .hbm, ⟨28, _⟩ => ⟨S4x3x256, .f32⟩
  | .hbm, ⟨29, _⟩ => ⟨S4x3x256, .f32⟩
  | .hbm, ⟨30, _⟩ => ⟨S_, .f32⟩
  | .hbm, ⟨31, _⟩ => ⟨S4x3x256, .f32⟩
  | .hbm, ⟨32, _⟩ => ⟨S4x3x256, .f32⟩
  | .hbm, ⟨33, _⟩ => ⟨S4x3x256, .f32⟩
  | .hbm, ⟨34, _⟩ => ⟨S_, .f32⟩
  | .hbm, ⟨35, _⟩ => ⟨S4x3x256, .f32⟩
  | .hbm, ⟨36, _⟩ => ⟨S4x3x256, .f32⟩
  | .hbm, ⟨37, _⟩ => ⟨S12x256, .f32⟩
  | .hbm, ⟨38, _⟩ => ⟨S12x256, .f32⟩
  | .hbm, ⟨39, _⟩ => ⟨S12x256, .f32⟩
  | _, _ => ⟨S4x3x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel23.lean ====
abbrev S4x1024x2304 : Shape := ⟨3, ![4, 1024, 2304]⟩
abbrev S4096x2304 : Shape := ⟨2, ![4096, 2304]⟩
abbrev S256x2304 : Shape := ⟨2, ![256, 2304]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x2304, .f32⟩
  | .hbm, ⟨1, _⟩ => ⟨S4x1024x2304, .f32⟩
  | .hbm, ⟨2, _⟩ => ⟨S4x1024x2304, .f32⟩
  | .hbm, ⟨3, _⟩ => ⟨S4x1024x2304, .f32⟩
  | .hbm, ⟨4, _⟩ => ⟨S4096x2304, .f32⟩
  | .hbm, ⟨5, _⟩ => ⟨S4096x2304, .f32⟩
  | .hbm, ⟨6, _⟩ => ⟨S4096x2304, .f32⟩
  | .hbm, ⟨7, _⟩ => ⟨S4096x2304, .f32⟩
  | .hbm, ⟨8, _⟩ => ⟨S4096x2304, .f32⟩
  | .hbm, ⟨9, _⟩ => ⟨S4096x2304, .f32⟩
  | .hbm, ⟨10, _⟩ => ⟨S4096x2304, .f32⟩
  | .local _ .vmem, ⟨0, _⟩ => ⟨S256x2304, .f32⟩
  | .local _ .vmem, ⟨1, _⟩ => ⟨S256x2304, .f32⟩
  | .local _ .vmem, ⟨2, _⟩ => ⟨S256x2304, .f32⟩
  | .local _ .vmem, ⟨3, _⟩ => ⟨S256x2304, .f32⟩
  | .local _ .vmem, ⟨4, _⟩ => ⟨S256x2304, .f32⟩
  | .local _ .vmem, ⟨5, _⟩ => ⟨S256x2304, .f32⟩
  | .local _ .vmem, ⟨6, _⟩ => ⟨S256x2304, .f32⟩
  | .local _ .vmem, ⟨7, _⟩ => ⟨S256x2304, .f32⟩
  | .local _ .vmem, ⟨8, _⟩ => ⟨S256x2304, .f32⟩
  | .local _ .vmem, ⟨9, _⟩ => ⟨S256x2304, .f32⟩
  | .local _ .vmem, ⟨10, _⟩ => ⟨S256x2304, .f32⟩
  | .local _ .vmem, ⟨11, _⟩ => ⟨S256x2304, .f32⟩
  | .local _ .vmem, ⟨12, _⟩ => ⟨S256x2304, .f32⟩
  | .local _ .vmem, ⟨13, _⟩ => ⟨S256x2304, .f32⟩
  | _, _ => ⟨S4x1024x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel23Ideal.lean ====
abbrev S4x1024x2304 : Shape := ⟨3, ![4, 1024, 2304]⟩
abbrev S4096x2304 : Shape := ⟨2, ![4096, 2304]⟩
abbrev S256x2304 : Shape := ⟨2, ![256, 2304]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x2304, .f32⟩
  | .hbm, ⟨1, _⟩ => ⟨S4x1024x2304, .f32⟩
  | .hbm, ⟨2, _⟩ => ⟨S4x1024x2304, .f32⟩
  | .hbm, ⟨3, _⟩ => ⟨S4x1024x2304, .f32⟩
  | .hbm, ⟨4, _⟩ => ⟨S4096x2304, .f32⟩
  | .hbm, ⟨5, _⟩ => ⟨S4096x2304, .f32⟩
  | .hbm, ⟨6, _⟩ => ⟨S4096x2304, .f32⟩
  | .hbm, ⟨7, _⟩ => ⟨S4096x2304, .f32⟩
  | .hbm, ⟨8, _⟩ => ⟨S4096x2304, .f32⟩
  | .hbm, ⟨9, _⟩ => ⟨S4096x2304, .f32⟩
  | .hbm, ⟨10, _⟩ => ⟨S4096x2304, .f32⟩
  | .local _ .vmem, ⟨0, _⟩ => ⟨S256x2304, .f32⟩
  | .local _ .vmem, ⟨1, _⟩ => ⟨S256x2304, .f32⟩
  | .local _ .vmem, ⟨2, _⟩ => ⟨S256x2304, .f32⟩
  | .local _ .vmem, ⟨3, _⟩ => ⟨S256x2304, .f32⟩
  | .local _ .vmem, ⟨4, _⟩ => ⟨S256x2304, .f32⟩
  | .local _ .vmem, ⟨5, _⟩ => ⟨S256x2304, .f32⟩
  | .local _ .vmem, ⟨6, _⟩ => ⟨S256x2304, .f32⟩
  | .local _ .vmem, ⟨7, _⟩ => ⟨S256x2304, .f32⟩
  | .local _ .vmem, ⟨8, _⟩ => ⟨S256x2304, .f32⟩
  | .local _ .vmem, ⟨9, _⟩ => ⟨S256x2304, .f32⟩
  | .local _ .vmem, ⟨10, _⟩ => ⟨S256x2304, .f32⟩
  | .local _ .vmem, ⟨11, _⟩ => ⟨S256x2304, .f32⟩
  | .local _ .vmem, ⟨12, _⟩ => ⟨S256x2304, .f32⟩
  | .local _ .vmem, ⟨13, _⟩ => ⟨S256x2304, .f32⟩
  | _, _ => ⟨S4x1024x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference23Ideal.lean ====
abbrev S4x1024x2304 : Shape := ⟨3, ![4, 1024, 2304]⟩
abbrev S_ : Shape := ⟨0, ![]⟩
abbrev S4096x2304 : Shape := ⟨2, ![4096, 2304]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x2304, .f32⟩
  | .hbm, ⟨1, _⟩ => ⟨S4x1024x2304, .f32⟩
  | .hbm, ⟨2, _⟩ => ⟨S4x1024x2304, .f32⟩
  | .hbm, ⟨3, _⟩ => ⟨S4x1024x2304, .f32⟩
  | .hbm, ⟨4, _⟩ => ⟨S_, .f32⟩
  | .hbm, ⟨5, _⟩ => ⟨S4x1024x2304, .f32⟩
  | .hbm, ⟨6, _⟩ => ⟨S4x1024x2304, .f32⟩
  | .hbm, ⟨7, _⟩ => ⟨S_, .f32⟩
  | .hbm, ⟨8, _⟩ => ⟨S4x1024x2304, .f32⟩
  | .hbm, ⟨9, _⟩ => ⟨S4x1024x2304, .f32⟩
  | .hbm, ⟨10, _⟩ => ⟨S4x1024x2304, .f32⟩
  | .hbm, ⟨11, _⟩ => ⟨S_, .f32⟩
  | .hbm, ⟨12, _⟩ => ⟨S4x1024x2304, .f32⟩
  | .hbm, ⟨13, _⟩ => ⟨S4x1024x2304, .f32⟩
  | .hbm, ⟨14, _⟩ => ⟨S4x1024x2304, .f32⟩
  | .hbm, ⟨15, _⟩ => ⟨S_, .f32⟩
  | .hbm, ⟨16, _⟩ => ⟨S4x1024x2304, .f32⟩
  | .hbm, ⟨17, _⟩ => ⟨S4x1024x2304, .f32⟩
  | .hbm, ⟨18, _⟩ => ⟨S4x1024x2304, .f32⟩
  | .hbm, ⟨19, _⟩ => ⟨S_, .f32⟩
  | .hbm, ⟨20, _⟩ => ⟨S4x1024x2304, .f32⟩
  | .hbm, ⟨21, _⟩ => ⟨S4x1024x2304, .f32⟩
  | .hbm, ⟨22, _⟩ => ⟨S_, .f32⟩
  | .hbm, ⟨23, _⟩ => ⟨S4x1024x2304, .f32⟩
  | .hbm, ⟨24, _⟩ => ⟨S4x1024x2304, .f32⟩
  | .hbm, ⟨25, _⟩ => ⟨S4x1024x2304, .f32⟩
  | .hbm, ⟨26, _⟩ => ⟨S_, .f32⟩
  | .hbm, ⟨27, _⟩ => ⟨S4x1024x2304, .f32⟩
  | .hbm, ⟨28, _⟩ => ⟨S4x1024x2304, .f32⟩
  | .hbm, ⟨29, _⟩ => ⟨S4x1024x2304, .f32⟩
  | .hbm, ⟨30, _⟩ => ⟨S_, .f32⟩
  | .hbm, ⟨31, _⟩ => ⟨S4x1024x2304, .f32⟩
  | .hbm, ⟨32, _⟩ => ⟨S4x1024x2304, .f32⟩
  | .hbm, ⟨33, _⟩ => ⟨S4x1024x2304, .f32⟩
  | .hbm, ⟨34, _⟩ => ⟨S_, .f32⟩
  | .hbm, ⟨35, _⟩ => ⟨S4x1024x2304, .f32⟩
  | .hbm, ⟨36, _⟩ => ⟨S4x1024x2304, .f32⟩
  | .hbm, ⟨37, _⟩ => ⟨S4096x2304, .f32⟩
  | .hbm, ⟨38, _⟩ => ⟨S4096x2304, .f32⟩
  | .hbm, ⟨39, _⟩ => ⟨S4096x2304, .f32⟩
  | _, _ => ⟨S4x1024x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel24.lean ====
abbrev S4x9216 : Shape := ⟨2, ![4, 9216]⟩

abbrev nBuf : Space → Nat
  | .hbm => 7
  | .vmem => 7
  | .smem => 0
  | _ => 0

abbrev bufTy : (tb : Table) → Fin (tcTables nBuf tb) → BufTy
  | .hbm, ⟨0, _⟩ => ⟨S4x9216, .f32⟩
  | .hbm, ⟨1, _⟩ => ⟨S4x9216, .f32⟩
  | .hbm, ⟨2, _⟩ => ⟨S4x9216, .f32⟩
  | .hbm, ⟨3, _⟩ => ⟨S4x9216, .f32⟩
  | .hbm, ⟨4, _⟩ => ⟨S4x9216, .f32⟩
  | .hbm, ⟨5, _⟩ => ⟨S4x9216, .f32⟩
  | .hbm, ⟨6, _⟩ => ⟨S4x9216, .f32⟩
  | .local _ .vmem, ⟨0, _⟩ => ⟨S4x9216, .f32⟩
  | .local _ .vmem, ⟨1, _⟩ => ⟨S4x9216, .f32⟩
  | .local _ .vmem, ⟨2, _⟩ => ⟨S4x9216, .f32⟩
  | .local _ .vmem, ⟨3, _⟩ => ⟨S4x9216, .f32⟩
  | .local _ .vmem, ⟨4, _⟩ => ⟨S4x9216, .f32⟩
  | .local _ .vmem, ⟨5, _⟩ => ⟨S4x9216, .f32⟩
  | .local _ .vmem, ⟨6, _⟩ => ⟨S4x9216, .f32⟩
  | _, _ => ⟨S4x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x9216 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x9216 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x9216 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x9216 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x9216 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x9216 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x9216 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel24Ideal.lean ====
abbrev S4x9216 : Shape := ⟨2, ![4, 9216]⟩

abbrev nBuf : Space → Nat
  | .hbm => 7
  | .vmem => 7
  | .smem => 0
  | _ => 0

abbrev bufTy : (tb : Table) → Fin (tcTables nBuf tb) → BufTy
  | .hbm, ⟨0, _⟩ => ⟨S4x9216, .f32⟩
  | .hbm, ⟨1, _⟩ => ⟨S4x9216, .f32⟩
  | .hbm, ⟨2, _⟩ => ⟨S4x9216, .f32⟩
  | .hbm, ⟨3, _⟩ => ⟨S4x9216, .f32⟩
  | .hbm, ⟨4, _⟩ => ⟨S4x9216, .f32⟩
  | .hbm, ⟨5, _⟩ => ⟨S4x9216, .f32⟩
  | .hbm, ⟨6, _⟩ => ⟨S4x9216, .f32⟩
  | .local _ .vmem, ⟨0, _⟩ => ⟨S4x9216, .f32⟩
  | .local _ .vmem, ⟨1, _⟩ => ⟨S4x9216, .f32⟩
  | .local _ .vmem, ⟨2, _⟩ => ⟨S4x9216, .f32⟩
  | .local _ .vmem, ⟨3, _⟩ => ⟨S4x9216, .f32⟩
  | .local _ .vmem, ⟨4, _⟩ => ⟨S4x9216, .f32⟩
  | .local _ .vmem, ⟨5, _⟩ => ⟨S4x9216, .f32⟩
  | .local _ .vmem, ⟨6, _⟩ => ⟨S4x9216, .f32⟩
  | _, _ => ⟨S4x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x9216 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x9216 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x9216 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x9216 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x9216 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x9216 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x9216 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference24Ideal.lean ====
abbrev S4x9216 : Shape := ⟨2, ![4, 9216]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x9216, .f32⟩
  | .hbm, ⟨1, _⟩ => ⟨S4x9216, .f32⟩
  | .hbm, ⟨2, _⟩ => ⟨S4x9216, .f32⟩
  | .hbm, ⟨3, _⟩ => ⟨S4x9216, .f32⟩
  | .hbm, ⟨4, _⟩ => ⟨S_, .f32⟩
  | .hbm, ⟨5, _⟩ => ⟨S4x9216, .f32⟩
  | .hbm, ⟨6, _⟩ => ⟨S4x9216, .f32⟩
  | .hbm, ⟨7, _⟩ => ⟨S_, .f32⟩
  | .hbm, ⟨8, _⟩ => ⟨S4x9216, .f32⟩
  | .hbm, ⟨9, _⟩ => ⟨S4x9216, .f32⟩
  | .hbm, ⟨10, _⟩ => ⟨S4x9216, .f32⟩
  | .hbm, ⟨11, _⟩ => ⟨S_, .f32⟩
  | .hbm, ⟨12, _⟩ => ⟨S4x9216, .f32⟩
  | .hbm, ⟨13, _⟩ => ⟨S4x9216, .f32⟩
  | .hbm, ⟨14, _⟩ => ⟨S4x9216, .f32⟩
  | .hbm, ⟨15, _⟩ => ⟨S_, .f32⟩
  | .hbm, ⟨16, _⟩ => ⟨S4x9216, .f32⟩
  | .hbm, ⟨17, _⟩ => ⟨S4x9216, .f32⟩
  | .hbm, ⟨18, _⟩ => ⟨S4x9216, .f32⟩
  | .hbm, ⟨19, _⟩ => ⟨S_, .f32⟩
  | .hbm, ⟨20, _⟩ => ⟨S4x9216, .f32⟩
  | .hbm, ⟨21, _⟩ => ⟨S4x9216, .f32⟩
  | .hbm, ⟨22, _⟩ => ⟨S_, .f32⟩
  | .hbm, ⟨23, _⟩ => ⟨S4x9216, .f32⟩
  | .hbm, ⟨24, _⟩ => ⟨S4x9216, .f32⟩
  | .hbm, ⟨25, _⟩ => ⟨S4x9216, .f32⟩
  | .hbm, ⟨26, _⟩ => ⟨S_, .f32⟩
  | .hbm, ⟨27, _⟩ => ⟨S4x9216, .f32⟩
  | .hbm, ⟨28, _⟩ => ⟨S4x9216, .f32⟩
  | .hbm, ⟨29, _⟩ => ⟨S4x9216, .f32⟩
  | .hbm, ⟨30, _⟩ => ⟨S_, .f32⟩
  | .hbm, ⟨31, _⟩ => ⟨S4x9216, .f32⟩
  | .hbm, ⟨32, _⟩ => ⟨S4x9216, .f32⟩
  | .hbm, ⟨33, _⟩ => ⟨S4x9216, .f32⟩
  | .hbm, ⟨34, _⟩ => ⟨S_, .f32⟩
  | .hbm, ⟨35, _⟩ => ⟨S4x9216, .f32⟩
  | .hbm, ⟨36, _⟩ => ⟨S4x9216, .f32⟩
  | _, _ => ⟨S4x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S2x3x256 : Shape := ⟨3, ![2, 3, 256]⟩
abbrev S6x256 : Shape := ⟨2, ![6, 256]⟩

abbrev nBuf : Space → Nat
  | .hbm => 11
  | .vmem => 7
  | .smem => 0
  | _ => 0

abbrev bufTy : (tb : Table) → Fin (tcTables nBuf tb) → BufTy
  | .hbm, ⟨0, _⟩ => ⟨S2x3x256, .f32⟩
  | .hbm, ⟨1, _⟩ => ⟨S2x3x256, .f32⟩
  | .hbm, ⟨2, _⟩ => ⟨S2x3x256, .f32⟩
  | .hbm, ⟨3, _⟩ => ⟨S2x3x256, .f32⟩
  | .hbm, ⟨4, _⟩ => ⟨S6x256, .f32⟩
  | .hbm, ⟨5, _⟩ => ⟨S6x256, .f32⟩
  | .hbm, ⟨6, _⟩ => ⟨S6x256, .f32⟩
  | .hbm, ⟨7, _⟩ => ⟨S6x256, .f32⟩
  | .hbm, ⟨8, _⟩ => ⟨S6x256, .f32⟩
  | .hbm, ⟨9, _⟩ => ⟨S6x256, .f32⟩
  | .hbm, ⟨10, _⟩ => ⟨S6x256, .f32⟩
  | .local _ .vmem, ⟨0, _⟩ => ⟨S6x256, .f32⟩
  | .local _ .vmem, ⟨1, _⟩ => ⟨S6x256, .f32⟩
  | .local _ .vmem, ⟨2, _⟩ => ⟨S6x256, .f32⟩
  | .local _ .vmem, ⟨3, _⟩ => ⟨S6x256, .f32⟩
  | .local _ .vmem, ⟨4, _⟩ => ⟨S6x256, .f32⟩
  | .local _ .vmem, ⟨5, _⟩ => ⟨S6x256, .f32⟩
  | .local _ .vmem, ⟨6, _⟩ => ⟨S6x256, .f32⟩
  | _, _ => ⟨S2x3x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S6x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S6x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S6x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S6x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S6x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel25Ideal.lean ====
abbrev S2x3x256 : Shape := ⟨3, ![2, 3, 256]⟩
abbrev S6x256 : Shape := ⟨2, ![6, 256]⟩

abbrev nBuf : Space → Nat
  | .hbm => 11
  | .vmem => 7
  | .smem => 0
  | _ => 0

abbrev bufTy : (tb : Table) → Fin (tcTables nBuf tb) → BufTy
  | .hbm, ⟨0, _⟩ => ⟨S2x3x256, .f32⟩
  | .hbm, ⟨1, _⟩ => ⟨S2x3x256, .f32⟩
  | .hbm, ⟨2, _⟩ => ⟨S2x3x256, .f32⟩
  | .hbm, ⟨3, _⟩ => ⟨S2x3x256, .f32⟩
  | .hbm, ⟨4, _⟩ => ⟨S6x256, .f32⟩
  | .hbm, ⟨5, _⟩ => ⟨S6x256, .f32⟩
  | .hbm, ⟨6, _⟩ => ⟨S6x256, .f32⟩
  | .hbm, ⟨7, _⟩ => ⟨S6x256, .f32⟩
  | .hbm, ⟨8, _⟩ => ⟨S6x256, .f32⟩
  | .hbm, ⟨9, _⟩ => ⟨S6x256, .f32⟩
  | .hbm, ⟨10, _⟩ => ⟨S6x256, .f32⟩
  | .local _ .vmem, ⟨0, _⟩ => ⟨S6x256, .f32⟩
  | .local _ .vmem, ⟨1, _⟩ => ⟨S6x256, .f32⟩
  | .local _ .vmem, ⟨2, _⟩ => ⟨S6x256, .f32⟩
  | .local _ .vmem, ⟨3, _⟩ => ⟨S6x256, .f32⟩
  | .local _ .vmem, ⟨4, _⟩ => ⟨S6x256, .f32⟩
  | .local _ .vmem, ⟨5, _⟩ => ⟨S6x256, .f32⟩
  | .local _ .vmem, ⟨6, _⟩ => ⟨S6x256, .f32⟩
  | _, _ => ⟨S2x3x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S6x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S6x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S6x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S6x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S6x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference25Ideal.lean ====
abbrev S2x3x256 : Shape := ⟨3, ![2, 3, 256]⟩
abbrev S_ : Shape := ⟨0, ![]⟩
abbrev S6x256 : Shape := ⟨2, ![6, 256]⟩

abbrev nBuf : Space → Nat
  | .hbm => 40
  | .vmem => 0
  | .smem => 0
  | _ => 0

abbrev bufTy : (tb : Table) → Fin (tcTables nBuf tb) → BufTy
  | .hbm, ⟨0, _⟩ => ⟨S2x3x256, .f32⟩
  | .hbm, ⟨1, _⟩ => ⟨S2x3x256, .f32⟩
  | .hbm, ⟨2, _⟩ => ⟨S2x3x256, .f32⟩
  | .hbm, ⟨3, _⟩ => ⟨S2x3x256, .f32⟩
  | .hbm, ⟨4, _⟩ => ⟨S_, .f32⟩
  | .hbm, ⟨5, _⟩ => ⟨S2x3x256, .f32⟩
  | .hbm, ⟨6, _⟩ => ⟨S2x3x256, .f32⟩
  | .hbm, ⟨7, _⟩ => ⟨S_, .f32⟩
  | .hbm, ⟨8, _⟩ => ⟨S2x3x256, .f32⟩
  | .hbm, ⟨9, _⟩ => ⟨S2x3x256, .f32⟩
  | .hbm, ⟨10, _⟩ => ⟨S2x3x256, .f32⟩
  | .hbm, ⟨11, _⟩ => ⟨S_, .f32⟩
  | .hbm, ⟨12, _⟩ => ⟨S2x3x256, .f32⟩
  | .hbm, ⟨13, _⟩ => ⟨S2x3x256, .f32⟩
  | .hbm, ⟨14, _⟩ => ⟨S2x3x256, .f32⟩
  | .hbm, ⟨15, _⟩ => ⟨S_, .f32⟩
  | .hbm, ⟨16, _⟩ => ⟨S2x3x256, .f32⟩
  | .hbm, ⟨17, _⟩ => ⟨S2x3x256, .f32⟩
  | .hbm, ⟨18, _⟩ => ⟨S2x3x256, .f32⟩
  | .hbm, ⟨19, _⟩ => ⟨S_, .f32⟩
  | .hbm, ⟨20, _⟩ => ⟨S2x3x256, .f32⟩
  | .hbm, ⟨21, _⟩ => ⟨S2x3x256, .f32⟩
  | .hbm, ⟨22, _⟩ => ⟨S_, .f32⟩
  | .hbm, ⟨23, _⟩ => ⟨S2x3x256, .f32⟩
  | .hbm, ⟨24, _⟩ => ⟨S2x3x256, .f32⟩
  | .hbm, ⟨25, _⟩ => ⟨S2x3x256, .f32⟩
  | .hbm, ⟨26, _⟩ => ⟨S_, .f32⟩
  | .hbm, ⟨27, _⟩ => ⟨S2x3x256, .f32⟩
  | .hbm, ⟨28, _⟩ => ⟨S2x3x256, .f32⟩
  | .hbm, ⟨29, _⟩ => ⟨S2x3x256, .f32⟩
  | .hbm, ⟨30, _⟩ => ⟨S_, .f32⟩
  | .hbm, ⟨31, _⟩ => ⟨S2x3x256, .f32⟩
  | .hbm, ⟨32, _⟩ => ⟨S2x3x256, .f32⟩
  | .hbm, ⟨33, _⟩ => ⟨S2x3x256, .f32⟩
  | .hbm, ⟨34, _⟩ => ⟨S_, .f32⟩
  | .hbm, ⟨35, _⟩ => ⟨S2x3x256, .f32⟩
  | .hbm, ⟨36, _⟩ => ⟨S2x3x256, .f32⟩
  | .hbm, ⟨37, _⟩ => ⟨S6x256, .f32⟩
  | .hbm, ⟨38, _⟩ => ⟨S6x256, .f32⟩
  | .hbm, ⟨39, _⟩ => ⟨S6x256, .f32⟩
  | _, _ => ⟨S2x3x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel26.lean ====
abbrev S1024 : Shape := ⟨1, ![1024]⟩
abbrev S1x1024 : Shape := ⟨2, ![1, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel26Ideal.lean ====
abbrev S1024 : Shape := ⟨1, ![1024]⟩
abbrev S1x1024 : Shape := ⟨2, ![1, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference26Ideal.lean ====
abbrev S1024 : Shape := ⟨1, ![1024]⟩
abbrev S_ : Shape := ⟨0, ![]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1x1024, .f32⟩
  | .hbm, ⟨38, _⟩ => ⟨S1x1024, .f32⟩
  | .hbm, ⟨39, _⟩ => ⟨S1x1024, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel27.lean ====
abbrev S1024x512 : Shape := ⟨2, ![1024, 512]⟩
abbrev S256x512 : Shape := ⟨2, ![256, 512]⟩

abbrev nBuf : Space → Nat
  | .hbm => 7
  | .vmem => 14
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel27Ideal.lean ====
abbrev S1024x512 : Shape := ⟨2, ![1024, 512]⟩
abbrev S256x512 : Shape := ⟨2, ![256, 512]⟩

abbrev nBuf : Space → Nat
  | .hbm => 7
  | .vmem => 14
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference27Ideal.lean ====
abbrev S1024x512 : Shape := ⟨2, ![1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel28.lean ====
abbrev S2048 : Shape := ⟨1, ![2048]⟩
abbrev S1x2048 : Shape := ⟨2, ![1, 2048]⟩

abbrev nBuf : Space → Nat
  | .hbm => 11
  | .vmem => 7
  | .smem => 0
  | _ => 0

abbrev bufTy : (tb : Table) → Fin (tcTables nBuf tb) → BufTy
  | .hbm, ⟨0, _⟩ => ⟨S2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference28Ideal.lean ====
abbrev S2048 : Shape := ⟨1, ![2048]⟩
abbrev S_ : Shape := ⟨0, ![]⟩
abbrev S1x2048 : Shape := ⟨2, ![1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S_, .f32⟩
  | .hbm, ⟨5, _⟩ => ⟨S2048, .f32⟩
  | .hbm, ⟨6, _⟩ => ⟨S2048, .f32⟩
  | .hbm, ⟨7, _⟩ => ⟨S_, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S_, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S_, .f32⟩
  | .hbm, ⟨16, _⟩ => ⟨S2048, .f32⟩
  | .hbm, ⟨17, _⟩ => ⟨S2048, .f32⟩
  | .hbm, ⟨18, _⟩ => ⟨S2048, .f32⟩
  | .hbm, ⟨19, _⟩ => ⟨S_, .f32⟩
  | .hbm, ⟨20, _⟩ => ⟨S2048, .f32⟩
  | .hbm, ⟨21, _⟩ => ⟨S2048, .f32⟩
  | .hbm, ⟨22, _⟩ => ⟨S_, .f32⟩
  | .hbm, ⟨23, _⟩ => ⟨S2048, .f32⟩
  | .hbm, ⟨24, _⟩ => ⟨S2048, .f32⟩
  | .hbm, ⟨25, _⟩ => ⟨S2048, .f32⟩
  | .hbm, ⟨26, _⟩ => ⟨S_, .f32⟩
  | .hbm, ⟨27, _⟩ => ⟨S2048, .f32⟩
  | .hbm, ⟨28, _⟩ => ⟨S2048, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S2048, .f32⟩
  | .hbm, ⟨34, _⟩ => ⟨S_, .f32⟩
  | .hbm, ⟨35, _⟩ => ⟨S2048, .f32⟩
  | .hbm, ⟨36, _⟩ => ⟨S2048, .f32⟩
  | .hbm, ⟨37, _⟩ => ⟨S1x2048, .f32⟩
  | .hbm, ⟨38, _⟩ => ⟨S1x2048, .f32⟩
  | .hbm, ⟨39, _⟩ => ⟨S1x2048, .f32⟩
  | _, _ => ⟨S2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel29.lean ====
abbrev S1024x8 : Shape := ⟨2, ![1024, 8]⟩
abbrev S1x8x512 : Shape := ⟨3, ![1, 8, 512]⟩
abbrev S1x1024x512 : Shape := ⟨3, ![1, 1024, 512]⟩
abbrev S1x8x256 : Shape := ⟨3, ![1, 8, 256]⟩
abbrev S1x1024x256 : Shape := ⟨3, ![1, 1024, 256]⟩
abbrev S1024x1 : Shape := ⟨2, ![1024, 1]⟩
abbrev S1x1x256 : Shape := ⟨3, ![1, 1, 256]⟩
abbrev S1x256 : Shape := ⟨2, ![1, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S1024x8, .f32⟩
  | .hbm, ⟨1, _⟩ => ⟨S1x8x512, .f32⟩
  | .hbm, ⟨2, _⟩ => ⟨S1x1024x512, .f32⟩
  | .local _ .vmem, ⟨0, _⟩ => ⟨S1024x8, .f32⟩
  | .local _ .vmem, ⟨1, _⟩ => ⟨S1x8x256, .f32⟩
  | .local _ .vmem, ⟨2, _⟩ => ⟨S1x8x256, .f32⟩
  | .local _ .vmem, ⟨3, _⟩ => ⟨S1x1024x256, .f32⟩
  | .local _ .vmem, ⟨4, _⟩ => ⟨S1x1024x256, .f32⟩
  | _, _ => ⟨S1024x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1024x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference29Ideal.lean ====
abbrev S1024x8 : Shape := ⟨2, ![1024, 8]⟩
abbrev S1x8x512 : Shape := ⟨3, ![1, 8, 512]⟩
abbrev S_ : Shape := ⟨0, ![]⟩
abbrev S1x1024x512 : Shape := ⟨3, ![1, 1024, 512]⟩
abbrev S8x1024 : Shape := ⟨2, ![8, 1024]⟩
abbrev S1x512x8 : Shape := ⟨3, ![1, 512, 8]⟩
abbrev S1x512x1024 : Shape := ⟨3, ![1, 512, 1024]⟩

abbrev nBuf : Space → Nat
  | .hbm => 19
  | .vmem => 0
  | .smem => 0
  | _ => 0

abbrev bufTy : (tb : Table) → Fin (tcTables nBuf tb) → BufTy
  | .hbm, ⟨0, _⟩ => ⟨S1024x8, .f32⟩
  | .hbm, ⟨1, _⟩ => ⟨S1x8x512, .f32⟩
  | .hbm, ⟨2, _⟩ => ⟨S_, .f32⟩
  | .hbm, ⟨3, _⟩ => ⟨S1x1024x512, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S1x512x8, .f32⟩
  | .hbm, ⟨15, _⟩ => ⟨S1x8x512, .f32⟩
  | .hbm, ⟨16, _⟩ => ⟨S1x512x8, .f32⟩
  | .hbm, ⟨17, _⟩ => ⟨S1x512x1024, .f32⟩
  | .hbm, ⟨18, _⟩ => ⟨S1x1024x512, .f32⟩
  | _, _ => ⟨S1024x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== Kernel30.lean ====
abbrev S8x464x128 : Shape := ⟨3, ![8, 464, 128]⟩
abbrev S464x128 : Shape := ⟨2, ![464, 128]⟩
abbrev S1x464x128 : Shape := ⟨3, ![1, 464, 128]⟩
abbrev S59392 : Shape := ⟨1, ![59392]⟩
abbrev S36864 : Shape := ⟨1, ![36864]⟩
abbrev S4x9216 : Shape := ⟨2, ![4, 9216]⟩
abbrev S2048 : Shape := ⟨1, ![2048]⟩
abbrev S12288 : Shape := ⟨1, ![12288]⟩
abbrev S4x3x1024 : Shape := ⟨3, ![4, 3, 1024]⟩
abbrev S6144 : Shape := ⟨1, ![6144]⟩
abbrev S2x3x1024 : Shape := ⟨3, ![2, 3, 1024]⟩
abbrev S1024 : Shape := ⟨1, ![1024]⟩

abbrev nBuf : Space → Nat
  | .hbm => 12
  | .vmem => 2
  | .smem => 0
  | _ => 0

abbrev bufTy : (tb : Table) → Fin (tcTables nBuf tb) → BufTy
  | .hbm, ⟨0, _⟩ => ⟨S8x464x128, .f32⟩
  | .hbm, ⟨1, _⟩ => ⟨S464x128, .f32⟩
  | .hbm, ⟨2, _⟩ => ⟨S59392, .f32⟩
  | .hbm, ⟨3, _⟩ => ⟨S36864, .f32⟩
  | .hbm, ⟨4, _⟩ => ⟨S4x9216, .f32⟩
  | .hbm, ⟨5, _⟩ => ⟨S2048, .f32⟩
  | .hbm, ⟨6, _⟩ => ⟨S12288, .f32⟩
  | .hbm, ⟨7, _⟩ => ⟨S4x3x1024, .f32⟩
  | .hbm, ⟨8, _⟩ => ⟨S6144, .f32⟩
  | .hbm, ⟨9, _⟩ => ⟨S2x3x1024, .f32⟩
  | .hbm, ⟨10, _⟩ => ⟨S1024, .f32⟩
  | .hbm, ⟨11, _⟩ => ⟨S1024, .f32⟩
  | .local _ .vmem, ⟨0, _⟩ => ⟨S8x464x128, .f32⟩
  | .local _ .vmem, ⟨1, _⟩ => ⟨S464x128, .f32⟩
  | _, _ => ⟨S8x464x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x464x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S464x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference30Ideal.lean ====
abbrev S8x464x128 : Shape := ⟨3, ![8, 464, 128]⟩
abbrev S8x59392 : Shape := ⟨2, ![8, 59392]⟩
abbrev S8x36864 : Shape := ⟨2, ![8, 36864]⟩
abbrev S8x2048 : Shape := ⟨2, ![8, 2048]⟩
abbrev S8x12288 : Shape := ⟨2, ![8, 12288]⟩
abbrev S8x6144 : Shape := ⟨2, ![8, 6144]⟩
abbrev S8x1024 : Shape := ⟨2, ![8, 1024]⟩
abbrev S8x4x9216 : Shape := ⟨3, ![8, 4, 9216]⟩
abbrev S_ : Shape := ⟨0, ![]⟩
abbrev S4x9216 : Shape := ⟨2, ![4, 9216]⟩
abbrev S2048 : Shape := ⟨1, ![2048]⟩
abbrev S8x4x3x1024 : Shape := ⟨4, ![8, 4, 3, 1024]⟩
abbrev S4x3x1024 : Shape := ⟨3, ![4, 3, 1024]⟩
abbrev S8x2x3x1024 : Shape := ⟨4, ![8, 2, 3, 1024]⟩
abbrev S2x3x1024 : Shape := ⟨3, ![2, 3, 1024]⟩
abbrev S1024 : Shape := ⟨1, ![1024]⟩

abbrev nBuf : Space → Nat
  | .hbm => 23
  | .vmem => 0
  | .smem => 0
  | _ => 0

abbrev bufTy : (tb : Table) → Fin (tcTables nBuf tb) → BufTy
  | .hbm, ⟨0, _⟩ => ⟨S8x464x128, .f32⟩
  | .hbm, ⟨1, _⟩ => ⟨S8x59392, .f32⟩
  | .hbm, ⟨2, _⟩ => ⟨S8x36864, .f32⟩
  | .hbm, ⟨3, _⟩ => ⟨S8x2048, .f32⟩
  | .hbm, ⟨4, _⟩ => ⟨S8x12288, .f32⟩
  | .hbm, ⟨5, _⟩ => ⟨S8x6144, .f32⟩
  | .hbm, ⟨6, _⟩ => ⟨S8x1024, .f32⟩
  | .hbm, ⟨7, _⟩ => ⟨S8x1024, .f32⟩
  | .hbm, ⟨8, _⟩ => ⟨S8x4x9216, .f32⟩
  | .hbm, ⟨9, _⟩ => ⟨S_, .f32⟩
  | .hbm, ⟨10, _⟩ => ⟨S4x9216, .f32⟩
  | .hbm, ⟨11, _⟩ => ⟨S_, .f32⟩
  | .hbm, ⟨12, _⟩ => ⟨S2048, .f32⟩
  | .hbm, ⟨13, _⟩ => ⟨S8x4x3x1024, .f32⟩
  | .hbm, ⟨14, _⟩ => ⟨S_, .f32⟩
  | .hbm, ⟨15, _⟩ => ⟨S4x3x1024, .f32⟩
  | .hbm, ⟨16, _⟩ => ⟨S8x2x3x1024, .f32⟩
  | .hbm, ⟨17, _⟩ => ⟨S_, .f32⟩
  | .hbm, ⟨18, _⟩ => ⟨S2x3x1024, .f32⟩
  | .hbm, ⟨19, _⟩ => ⟨S_, .f32⟩
  | .hbm, ⟨20, _⟩ => ⟨S1024, .f32⟩
  | .hbm, ⟨21, _⟩ => ⟨S_, .f32⟩
  | .hbm, ⟨22, _⟩ => ⟨S1024, .f32⟩
  | _, _ => ⟨S8x464x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_cst_3 : Ref sig .tc := ⟨.hbm, 19, rfl⟩
abbrev main_v14 : Ref sig .tc := ⟨.hbm, 20, rfl⟩
abbrev main_cst_4 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel31.lean ====
abbrev S8192x1024 : Shape := ⟨2, ![8192, 1024]⟩
abbrev S1024 : Shape := ⟨1, ![1024]⟩
abbrev S1x1024 : Shape := ⟨2, ![1, 1024]⟩
abbrev S_ : Shape := ⟨0, ![]⟩
abbrev S7x1024 : Shape := ⟨2, ![7, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩

abbrev nBuf : Space → Nat
  | .hbm => 19
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S_, .f32⟩
  | .hbm, ⟨5, _⟩ => ⟨S7x1024, .f32⟩
  | .hbm, ⟨6, _⟩ => ⟨S8x1024, .f32⟩
  | .hbm, ⟨7, _⟩ => ⟨S8192x1024, .f32⟩
  | .hbm, ⟨8, _⟩ => ⟨S8x1024, .f32⟩
  | .hbm, ⟨9, _⟩ => ⟨S1x1024, .f32⟩
  | .hbm, ⟨10, _⟩ => ⟨S1024, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1x1024, .f32⟩
  | .hbm, ⟨18, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference31Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]
-- ==== Kernel32.lean ====
abbrev S8x1024 : Shape := ⟨2, ![8, 1024]⟩
abbrev S4x1024x2304 : Shape := ⟨3, ![4, 1024, 2304]⟩
abbrev S4x2304 : Shape := ⟨2, ![4, 2304]⟩
abbrev S4x1x2304 : Shape := ⟨3, ![4, 1, 2304]⟩
abbrev S4x8x2304 : Shape := ⟨3, ![4, 8, 2304]⟩
abbrev S1x1024x768 : Shape := ⟨3, ![1, 1024, 768]⟩
abbrev S1x1x768 : Shape := ⟨3, ![1, 1, 768]⟩
abbrev S1x8x768 : Shape := ⟨3, ![1, 8, 768]⟩
abbrev S1024x768 : Shape := ⟨2, ![1024, 768]⟩
abbrev S8x768 : Shape := ⟨2, ![8, 768]⟩
abbrev S1x768 : Shape := ⟨2, ![1, 768]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x2304, .f32⟩
  | .hbm, ⟨2, _⟩ => ⟨S4x2304, .f32⟩
  | .hbm, ⟨3, _⟩ => ⟨S4x1x2304, .f32⟩
  | .hbm, ⟨4, _⟩ => ⟨S4x8x2304, .f32⟩
  | .local _ .vmem, ⟨0, _⟩ => ⟨S8x1024, .f32⟩
  | .local _ .vmem, ⟨1, _⟩ => ⟨S1x1024x768, .f32⟩
  | .local _ .vmem, ⟨2, _⟩ => ⟨S1x1024x768, .f32⟩
  | .local _ .vmem, ⟨3, _⟩ => ⟨S1x1x768, .f32⟩
  | .local _ .vmem, ⟨4, _⟩ => ⟨S1x1x768, .f32⟩
  | .local _ .vmem, ⟨5, _⟩ => ⟨S1x8x768, .f32⟩
  | .local _ .vmem, ⟨6, _⟩ => ⟨S1x8x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference32Ideal.lean ====
abbrev S8x1024 : Shape := ⟨2, ![8, 1024]⟩
abbrev S4x1024x2304 : Shape := ⟨3, ![4, 1024, 2304]⟩
abbrev S4x2304 : Shape := ⟨2, ![4, 2304]⟩
abbrev S_ : Shape := ⟨0, ![]⟩
abbrev S1x1024x2304 : Shape := ⟨3, ![1, 1024, 2304]⟩
abbrev S1024x2304 : Shape := ⟨2, ![1024, 2304]⟩
abbrev S8x2304 : Shape := ⟨2, ![8, 2304]⟩
abbrev S1x2304 : Shape := ⟨2, ![1, 2304]⟩
abbrev S2304 : Shape := ⟨1, ![2304]⟩
abbrev S1x8x2304 : Shape := ⟨3, ![1, 8, 2304]⟩
abbrev S4x8x2304 : Shape := ⟨3, ![4, 8, 2304]⟩

abbrev nBuf : Space → Nat
  | .hbm => 49
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x2304, .f32⟩
  | .hbm, ⟨2, _⟩ => ⟨S4x2304, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x2304, .f32⟩
  | .hbm, ⟨13, _⟩ => ⟨S1024x2304, .f32⟩
  | .hbm, ⟨14, _⟩ => ⟨S8x2304, .f32⟩
  | .hbm, ⟨15, _⟩ => ⟨S1x2304, .f32⟩
  | .hbm, ⟨16, _⟩ => ⟨S2304, .f32⟩
  | .hbm, ⟨17, _⟩ => ⟨S1x2304, .f32⟩
  | .hbm, ⟨18, _⟩ => ⟨S8x2304, .f32⟩
  | .hbm, ⟨19, _⟩ => ⟨S8x2304, .f32⟩
  | .hbm, ⟨20, _⟩ => ⟨S1x1024x2304, .f32⟩
  | .hbm, ⟨21, _⟩ => ⟨S1024x2304, .f32⟩
  | .hbm, ⟨22, _⟩ => ⟨S8x2304, .f32⟩
  | .hbm, ⟨23, _⟩ => ⟨S1x2304, .f32⟩
  | .hbm, ⟨24, _⟩ => ⟨S2304, .f32⟩
  | .hbm, ⟨25, _⟩ => ⟨S1x2304, .f32⟩
  | .hbm, ⟨26, _⟩ => ⟨S8x2304, .f32⟩
  | .hbm, ⟨27, _⟩ => ⟨S8x2304, .f32⟩
  | .hbm, ⟨28, _⟩ => ⟨S1x1024x2304, .f32⟩
  | .hbm, ⟨29, _⟩ => ⟨S1024x2304, .f32⟩
  | .hbm, ⟨30, _⟩ => ⟨S8x2304, .f32⟩
  | .hbm, ⟨31, _⟩ => ⟨S1x2304, .f32⟩
  | .hbm, ⟨32, _⟩ => ⟨S2304, .f32⟩
  | .hbm, ⟨33, _⟩ => ⟨S1x2304, .f32⟩
  | .hbm, ⟨34, _⟩ => ⟨S8x2304, .f32⟩
  | .hbm, ⟨35, _⟩ => ⟨S8x2304, .f32⟩
  | .hbm, ⟨36, _⟩ => ⟨S1x1024x2304, .f32⟩
  | .hbm, ⟨37, _⟩ => ⟨S1024x2304, .f32⟩
  | .hbm, ⟨38, _⟩ => ⟨S8x2304, .f32⟩
  | .hbm, ⟨39, _⟩ => ⟨S1x2304, .f32⟩
  | .hbm, ⟨40, _⟩ => ⟨S2304, .f32⟩
  | .hbm, ⟨41, _⟩ => ⟨S1x2304, .f32⟩
  | .hbm, ⟨42, _⟩ => ⟨S8x2304, .f32⟩
  | .hbm, ⟨43, _⟩ => ⟨S8x2304, .f32⟩
  | .hbm, ⟨44, _⟩ => ⟨S1x8x2304, .f32⟩
  | .hbm, ⟨45, _⟩ => ⟨S1x8x2304, .f32⟩
  | .hbm, ⟨46, _⟩ => ⟨S1x8x2304, .f32⟩
  | .hbm, ⟨47, _⟩ => ⟨S1x8x2304, .f32⟩
  | .hbm, ⟨48, _⟩ => ⟨S4x8x2304, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Kernel33.lean ====
abbrev S8x1024 : Shape := ⟨2, ![8, 1024]⟩
abbrev S1024x512 : Shape := ⟨2, ![1024, 512]⟩
abbrev S512 : Shape := ⟨1, ![512]⟩
abbrev S1x1024x512 : Shape := ⟨3, ![1, 1024, 512]⟩
abbrev S1x1x512 : Shape := ⟨3, ![1, 1, 512]⟩
abbrev S1x8x512 : Shape := ⟨3, ![1, 8, 512]⟩
abbrev S8x512 : Shape := ⟨2, ![8, 512]⟩
abbrev S1x512 : Shape := ⟨2, ![1, 512]⟩

abbrev nBuf : Space → Nat
  | .hbm => 6
  | .vmem => 4
  | .smem => 0
  | _ => 0

abbrev bufTy : (tb : Table) → Fin (tcTables nBuf tb) → BufTy
  | .hbm, ⟨0, _⟩ => ⟨S8x1024, .f32⟩
  | .hbm, ⟨1, _⟩ => ⟨S1024x512, .f32⟩
  | .hbm, ⟨2, _⟩ => ⟨S512, .f32⟩
  | .hbm, ⟨3, _⟩ => ⟨S1x1024x512, .f32⟩
  | .hbm, ⟨4, _⟩ => ⟨S1x1x512, .f32⟩
  | .hbm, ⟨5, _⟩ => ⟨S1x8x512, .f32⟩
  | .local _ .vmem, ⟨0, _⟩ => ⟨S8x1024, .f32⟩
  | .local _ .vmem, ⟨1, _⟩ => ⟨S1x1024x512, .f32⟩
  | .local _ .vmem, ⟨2, _⟩ => ⟨S1x1x512, .f32⟩
  | .local _ .vmem, ⟨3, _⟩ => ⟨S1x8x512, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== Reference33Ideal.lean ====
abbrev S8x1024 : Shape := ⟨2, ![8, 1024]⟩
abbrev S1024x512 : Shape := ⟨2, ![1024, 512]⟩
abbrev S512 : Shape := ⟨1, ![512]⟩
abbrev S_ : Shape := ⟨0, ![]⟩
abbrev S8x512 : Shape := ⟨2, ![8, 512]⟩
abbrev S1x512 : Shape := ⟨2, ![1, 512]⟩
abbrev S1x8x512 : Shape := ⟨3, ![1, 8, 512]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x512, .f32⟩
  | .hbm, ⟨2, _⟩ => ⟨S512, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x512, .f32⟩
  | .hbm, ⟨13, _⟩ => ⟨S1x512, .f32⟩
  | .hbm, ⟨14, _⟩ => ⟨S8x512, .f32⟩
  | .hbm, ⟨15, _⟩ => ⟨S8x512, .f32⟩
  | .hbm, ⟨16, _⟩ => ⟨S1x8x512, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Proof.Pay.lean ====
module

public import proofs.«01_k».proof.Proof.Gen.KernelIdeal.Skeleton
public import Idealize.ShloMosaic.Lib.Pipeline.ValueKit
public import Idealize.ShloMosaic.Lib.Pipeline.ReadBack
public import Idealize.ShloMosaic.PureOps.Ideal.Laws

@[expose] public section

set_option maxRecDepth 16384

noncomputable section

namespace Cert.KernelIdeal.Pay

open Cert.KernelIdeal Cert.KernelIdeal.Gen Idealize.ShloMosaic Idealize.ShloMosaic.TcCoe Idealize.SL.Sem

/-! The arithmetic of one tile, read at an index, over the extended reals. -/

theorem pay8_at (v3 : FVec Ideal S1x1024 .f32) (v7 : FVec Ideal S512x1024 .f32) (a : Fin 512) (d : Fin 1024) :
    (k0_pay8 (F := Ideal) v3 v7 (ix2 a d) : EReal) = (1 + v3 (ix2 0 d)) * v7 (ix2 a d) := by
  pointwise [k0_pay8]

theorem pay9_at (v3 : FVec Ideal S1x1024 .f32) (v7 : FVec Ideal S512x1024 .f32) (v12 : FVec Ideal S1024x1024 .bf16) (a : Fin 512) (k : Fin 1024) :
    (k0_pay9 (F := Ideal) v3 v7 v12 (ix2 a k) : EReal) = ∑ d : Fin 1024, (1 + v3 (ix2 0 d)) * v7 (ix2 a d) * (v12 (ix2 k d) : EReal) := by
  pointwise [k0_pay9, k0_pay8]

theorem pay10_at (v : FVec Ideal S1x512x1024 .bf16) (a : Fin 512) (k : Fin 1024) :
    (k0_pay10 (F := Ideal) v (ix2 a k) : EReal) = v (ix3 0 a k) := by
  pointwise [k0_pay10]

theorem pay11_at (v : FVec Ideal S1x512x1024 .bf16) (a : Fin 512) (k : Fin 1024) :
    (k0_pay11 (F := Ideal) v (ix2 a k) : EReal) = v (ix3 0 a k) := by
  pointwise [k0_pay11]

theorem pay12_at (v3 : FVec Ideal S1x1024 .f32) (v7 : FVec Ideal S512x1024 .f32) (v12 : FVec Ideal S1024x1024 .bf16)
    (v : FVec Ideal S1x512x1024 .bf16) (a : Fin 512) (k : Fin 1024) :
    (k0_pay12 (F := Ideal) v3 v7 v12 v (ix2 a k) : EReal) = (∑ d : Fin 1024, (1 + v3 (ix2 0 d)) * v7 (ix2 a d) * (v12 (ix2 k d) : EReal)) * (v (ix3 0 a k) : EReal) := by
  rw [← pay9_at]
  pointwise [k0_pay12]

theorem pay13_at (v3 : FVec Ideal S1x1024 .f32) (v7 : FVec Ideal S512x1024 .f32) (v12 : FVec Ideal S1024x1024 .bf16)
    (v : FVec Ideal S1x512x1024 .bf16) (a : Fin 512) (k : Fin 1024) :
    (k0_pay13 (F := Ideal) v3 v7 v12 v (ix2 a k) : EReal) = (∑ d : Fin 1024, (1 + v3 (ix2 0 d)) * v7 (ix2 a d) * (v12 (ix2 k d) : EReal)) * (v (ix3 0 a k) : EReal) := by
  rw [← pay9_at]
  pointwise [k0_pay13]

theorem pay14_eq (v : FVec Ideal S512x1024 .f32) : k0_pay14 v = v := by
  unfold k0_pay14
  exact shapeCast_self _ _

theorem pay15_eq (v : FVec Ideal S8x1024 .f32) : k0_pay15 v = v := by
  unfold k0_pay15
  exact shapeCast_self _ _

theorem pay5_at (i) : k0_pay5 (F := Ideal) i = 0 := by pointwise [k0_pay5]
theorem pay6_at (i) : k0_pay6 (F := Ideal) i = 0 := by pointwise [k0_pay6]
theorem pay7_at (i) : k0_pay7 (F := Ideal) i = 0 := by pointwise [k0_pay7]

theorem pay16_at (v28 v32 v33 : FVec Ideal S512x1024 .f32) (v38 v42 v47 : FVec Ideal S1x1024 .f32) (a : Fin 512) (k : Fin 1024) :
    k0_pay16 v28 v32 v33 v38 v42 v47 (ix2 a k)
      = v38 (ix2 0 k) * v28 (ix2 a k) + v42 (ix2 0 k) * v32 (ix2 a k) + v47 (ix2 0 k) * v33 (ix2 a k) := by
  pointwise [k0_pay16]

theorem pay17_at (v20 v23 : FVec Ideal S512x1024 .f32) (a : Fin 512) (k : Fin 1024) :
    k0_pay17 v20 v23 (ix2 a k) = v20 (ix2 a k) * v23 (ix2 a k) := by
  pointwise [k0_pay17]

theorem pay18_at (v20 v23 v33 : FVec Ideal S512x1024 .f32) (v53 : FVec Ideal S1x1024 .f32) (k : Fin 1024) :
    k0_pay18 v20 v23 v33 v53 (ix2 0 k)
      = v53 (ix2 0 k) + ∑ a : Fin 512, v33 (ix2 a k) * (v20 (ix2 a k) * v23 (ix2 a k)) := by
  pointwise [k0_pay18, k0_pay17]

theorem pay19_at (v20 v23 v33 : FVec Ideal S512x1024 .f32) (v53 : FVec Ideal S1x1024 .f32) (k : Fin 1024) :
    k0_pay19 v20 v23 v33 v53 (ix2 0 k)
      = v53 (ix2 0 k) + ∑ a : Fin 512, v33 (ix2 a k) * (v20 (ix2 a k) * v23 (ix2 a k)) := by
  pointwise [k0_pay19, k0_pay17]

theorem pay20_at (v28 v52 : FVec Ideal S512x1024 .f32) (v53 : FVec Ideal S1x1024 .f32) (k : Fin 1024) :
    k0_pay20 v28 v52 v53 (ix2 0 k)
      = v53 (ix2 0 k) + ∑ a : Fin 512, v28 (ix2 a k) * v52 (ix2 a k) := by
  pointwise [k0_pay20]

/-- The gradient of the gates and of the input of the convolution, side by side. -/
def cat (v20 v23 v27 v51 : Fin 1024 → EReal) (k : Fin 3072) : EReal :=
  if h : k.val < 1024 then v27 ⟨k.val, h⟩
  else if h : k.val - 1024 < 1024 then v51 ⟨k.val - 1024, h⟩ * v23 ⟨k.val - 1024, h⟩
  else v51 ⟨k.val - 1024 - 1024, by omega⟩ * v20 ⟨k.val - 1024 - 1024, by omega⟩

theorem pay21_at (v20 v23 v27 v51 : FVec Ideal S512x1024 .f32) (a : Fin 512) (k : Fin 3072) :
    (k0_pay21 (F := Ideal) v20 v23 v27 v51 (ix2 a k) : EReal)
      = cat (fun k => v20 (ix2 a k)) (fun k => v23 (ix2 a k)) (fun k => v27 (ix2 a k)) (fun k => v51 (ix2 a k)) k := by
  unfold cat
  pointwise [k0_pay21]

theorem pay22_at (v20 v23 v27 v51 : FVec Ideal S512x1024 .f32) (w0 w1 w2 w3 : FVec Ideal S1x1024x768 .bf16) (a : Fin 512) (d : Fin 1024) :
    (k0_pay22 (F := Ideal) v20 v23 v27 v51 w0 w1 w2 w3 (ix2 a d) : EReal)
      = (∑ j : Fin 768, (k0_pay21 (F := Ideal) v20 v23 v27 v51 (ix2 a ⟨j.val, by omega⟩) : EReal) * (w0 (ix3 0 d j) : EReal))
        + (∑ j : Fin 768, (k0_pay21 (F := Ideal) v20 v23 v27 v51 (ix2 a ⟨768 + j.val, by omega⟩) : EReal) * (w1 (ix3 0 d j) : EReal))
        + (∑ j : Fin 768, (k0_pay21 (F := Ideal) v20 v23 v27 v51 (ix2 a ⟨1536 + j.val, by omega⟩) : EReal) * (w2 (ix3 0 d j) : EReal))
        + (∑ j : Fin 768, (k0_pay21 (F := Ideal) v20 v23 v27 v51 (ix2 a ⟨2304 + j.val, by omega⟩) : EReal) * (w3 (ix3 0 d j) : EReal)) := by
  pointwise [k0_pay22]

theorem pay23_eq (v : FVec Ideal S512x1024 .bf16) : k0_pay23 v = v := by
  unfold k0_pay23
  exact shapeCast_self _ _

/-- The reciprocal root mean square of a row. -/
def rstd (x : Fin 1024 → EReal) : EReal :=
  Ideal.rsqrt (Ideal.div (∑ d : Fin 1024, x d * x d) (Ideal.ofBits .f32 0x44800000#32) + Ideal.ofBits .f32 0x3727C5AC#32)

theorem pay25_at (x : FVec Ideal S512x1024 .f32) (a : Fin 512) :
    (k0_pay25 (F := Ideal) x (ix2 a 0) : EReal) = rstd fun d => x (ix2 a d) := by
  unfold rstd
  pointwise [k0_pay25]

theorem pay26_at (x : FVec Ideal S512x1024 .f32) (a : Fin 512) (d : Fin 1024) :
    (k0_pay26 (F := Ideal) x (ix2 a d) : EReal) = x (ix2 a d) * rstd fun d => x (ix2 a d) := by
  rw [← pay25_at]
  pointwise [k0_pay26]

theorem pay27_at (v97 : FVec Ideal S512x1024 .f32) (sc : FVec Ideal S1x1024 .f32) (a : Fin 512) (d : Fin 1024) :
    (k0_pay27 (F := Ideal) v97 sc (ix2 a d) : EReal) = v97 (ix2 a d) * (1 + sc (ix2 0 d)) := by
  pointwise [k0_pay27]

theorem pay28_at (v97 : FVec Ideal S512x1024 .f32) (g sc : FVec Ideal S1x1024 .f32) (a : Fin 512) (d : Fin 1024) :
    (k0_pay28 (F := Ideal) v97 g sc (ix2 a d) : EReal) = v97 (ix2 a d) * (1 + sc (ix2 0 d)) * g (ix2 0 d) := by
  pointwise [k0_pay28, k0_pay27, k0_pay24]

theorem pay29_at (v97 x : FVec Ideal S512x1024 .f32) (sc acc : FVec Ideal S1x1024 .f32) (d : Fin 1024) :
    (k0_pay29 (F := Ideal) v97 x sc acc (ix2 0 d) : EReal) = acc (ix2 0 d)
      + ∑ a : Fin 512, v97 (ix2 a d) * (1 + sc (ix2 0 d)) * (x (ix2 a d) * rstd fun d => x (ix2 a d)) := by
  simp only [← pay27_at, ← pay26_at]
  pointwise [k0_pay29]

theorem pay1_at (v97 x : FVec Ideal S512x1024 .f32) (g acc : FVec Ideal S1x1024 .f32) (d : Fin 1024) :
    (k0_pay1 (F := Ideal) (k0_pay30 acc) (k0_pay31 v97 x g) (ix2 0 d) : EReal) = acc (ix2 0 d)
      + ∑ a : Fin 512, v97 (ix2 a d) * ((x (ix2 a d) * rstd fun d => x (ix2 a d)) * g (ix2 0 d)) := by
  simp only [← pay26_at]
  pointwise [k0_pay1, k0_pay30, k0_pay31, k0_pay24]

theorem pay2_at (v97 : FVec Ideal S512x1024 .f32) (acc : FVec Ideal S1x1024 .f32) (d : Fin 1024) :
    (k0_pay2 (F := Ideal) v97 acc (ix2 0 d) : EReal) = acc (ix2 0 d) + ∑ a : Fin 512, v97 (ix2 a d) := by
  pointwise [k0_pay2]

theorem pay3_at (ct : FVec Ideal S512x1024 .f32) (y : FVec Ideal S512x1024 .bf16) (acc : FVec Ideal S1x1024 .f32) (d : Fin 1024) :
    (k0_pay3 (F := Ideal) ct (k0_pay23 y) acc (ix2 0 d) : EReal) = acc (ix2 0 d)
      + ∑ a : Fin 512, ct (ix2 a d) * (y (ix2 a d) : EReal) := by
  pointwise [k0_pay3, k0_pay23]

/-- The gradient of the residual stream through the norm of a row, from the gradient of the normalized row. -/
def dnorm (x dxh : Fin 1024 → EReal) (d : Fin 1024) : EReal :=
  rstd x * (dxh d - x d * rstd x * Ideal.div (∑ e : Fin 1024, dxh e * (x e * rstd x)) (Ideal.ofBits .f32 0x44800000#32))

theorem pay4_at (ct x dxh : FVec Ideal S512x1024 .f32) (a : Fin 512) (d : Fin 1024) :
    (k0_pay4 (F := Ideal) ct (k0_pay25 x) (k0_pay26 x) dxh (ix2 a d) : EReal)
      = ct (ix2 a d) + dnorm (fun d => x (ix2 a d)) (fun d => dxh (ix2 a d)) d := by
  unfold dnorm
  simp only [← pay26_at]
  simp only [← pay25_at]
  pointwise [k0_pay4]

end Cert.KernelIdeal.Pay
-- ==== Proof.Spec.lean ====
module

public import proofs.«01_k».proof.Proof.Pay

@[expose] public section

noncomputable section

namespace Cert.ConvSpec

open Idealize.ShloMosaic Cert.KernelIdeal.Pay

/-! The backward pass of a gated short convolution, written over plain functions of the token and the feature. -/

/-- What the backward pass reads: the cotangent, the residual stream, the forward pass's products, the weights. -/
structure In where
  ct : Fin 8192 → Fin 1024 → EReal
  x : Fin 8192 → Fin 1024 → EReal
  y : Fin 8192 → Fin 1024 → EReal
  b : Fin 8192 → Fin 1024 → EReal
  cg : Fin 8192 → Fin 1024 → EReal
  u : Fin 8192 → Fin 1024 → EReal
  conv : Fin 8192 → Fin 1024 → EReal
  g : Fin 1024 → EReal
  sc : Fin 1024 → EReal
  gt : Fin 1024 → EReal
  cw : Fin 3 → Fin 1024 → EReal
  wo : Fin 1024 → Fin 1024 → EReal
  wi : Fin 1024 → Fin 3072 → EReal

/-- Row `t + n`, zero past the end. -/
def ahead (f : Fin 8192 → Fin 1024 → EReal) (n : ℕ) (t : Fin 8192) (k : Fin 1024) : EReal :=
  if h : t.val + n < 8192 then f ⟨t.val + n, h⟩ k else 0

namespace In
variable (I : In)

def dy (t : Fin 8192) (d : Fin 1024) : EReal := (1 + I.gt d) * I.ct t d
def dz (t : Fin 8192) (k : Fin 1024) : EReal := ∑ d : Fin 1024, I.dy t d * I.wo k d
def dcv (t : Fin 8192) (k : Fin 1024) : EReal := I.dz t k * I.b t k
def dv (t : Fin 8192) (k : Fin 1024) : EReal :=
  I.cw 2 k * I.dcv t k + I.cw 1 k * ahead I.dcv 1 t k + I.cw 0 k * ahead I.dcv 2 t k
def dbcu (t : Fin 8192) (j : Fin 3072) : EReal := cat (I.cg t) (I.u t) (fun k => I.dz t k * I.conv t k) (I.dv t) j
def dh (t : Fin 8192) (d : Fin 1024) : EReal := ∑ j : Fin 3072, I.dbcu t j * I.wi d j
def xh (t : Fin 8192) (d : Fin 1024) : EReal := I.x t d * rstd (I.x t)
def dxh (t : Fin 8192) (d : Fin 1024) : EReal := I.dh t d * (1 + I.sc d) * I.g d
def dx (t : Fin 8192) (d : Fin 1024) : EReal := I.ct t d + dnorm (I.x t) (I.dxh t) d

/-- The summand of row `r` of the sums over the tokens. -/
def redT (r : Fin 8) (d : Fin 1024) (t : Fin 8192) : EReal :=
  if r.val = 0 then I.dh t d * (1 + I.sc d) * I.xh t d
  else if r.val = 1 then I.dh t d * (I.xh t d * I.g d)
  else if r.val = 2 then I.dh t d
  else if r.val = 3 then I.ct t d * I.y t d
  else 0
def red (r : Fin 8) (d : Fin 1024) : EReal := ∑ t : Fin 8192, I.redT r d t

/-- The summand of row `r` of the gradient of the convolution's weights. -/
def dcwT (r : Fin 8) (d : Fin 1024) (t : Fin 8192) : EReal :=
  if r.val = 0 then ahead I.dcv 2 t d * (I.cg t d * I.u t d)
  else if r.val = 1 then ahead I.dcv 1 t d * (I.cg t d * I.u t d)
  else if r.val = 2 then I.dcv t d * (I.cg t d * I.u t d)
  else 0
def dcw (r : Fin 8) (d : Fin 1024) : EReal := ∑ t : Fin 8192, I.dcwT r d t

end In
end Cert.ConvSpec
-- ==== Proof.Blocks.lean ====
module

public import proofs.«01_k».proof.Proof.Gen.KernelIdeal.Value
public import proofs.«01_k».proof.Proof.Spec

@[expose] public section

set_option maxRecDepth 16384

noncomputable section

namespace Cert.KernelIdeal.Tile

open Cert.KernelIdeal Cert.KernelIdeal.Gen Idealize.ShloMosaic Idealize.ShloMosaic.TcCoe Idealize.SL.Sem
open Cert.KernelIdeal.Pay Cert.ConvSpec

variable (m : (ℓ : Loc nD τ sig) → Buf (Elt Ideal) ℓ)

/-- The kernel's operands as functions of the token and the feature. -/
def opnd (c : Dev nD) : In where
  ct t d := (V m c main_arg8 : FVec Ideal S8192x1024 .f32) (ix2 t d)
  x t d := (V m c main_arg0 : FVec Ideal S8192x1024 .f32) (ix2 t d)
  y t d := (V m c main_v82 : FVec Ideal S8192x1024 .bf16) (ix2 t d)
  b t d := (V m c main_v53 : FVec Ideal S4x8192x1024 .bf16) (ix3 0 t d)
  cg t d := (V m c main_v53 : FVec Ideal S4x8192x1024 .bf16) (ix3 1 t d)
  u t d := (V m c main_v53 : FVec Ideal S4x8192x1024 .bf16) (ix3 2 t d)
  conv t d := (V m c main_v53 : FVec Ideal S4x8192x1024 .bf16) (ix3 3 t d)
  g d := (V m c main_v91 : FVec Ideal S8x1024 .f32) (ix2 0 d)
  sc d := (V m c main_v91 : FVec Ideal S8x1024 .f32) (ix2 1 d)
  gt d := (V m c main_v91 : FVec Ideal S8x1024 .f32) (ix2 3 d)
  cw r d := (V m c main_v102 : FVec Ideal S8x1024 .f32) (ix2 ⟨r.val, by omega⟩ d)
  wo k d := (V m c main_v103 : FVec Ideal S1024x1024 .bf16) (ix2 k d)
  wi d j := (V m c main_v85 : FVec Ideal S4x1024x768 .bf16) (ix3 ⟨j.val / 768, by omega⟩ d ⟨j.val % 768, by omega⟩)

theorem idx : ∀ t : Fin cfg0.N,
    win0_0.index t = ![15 - t.val, 0] ∧ win0_1.index t = ![0, 0] ∧ win0_2.index t = ![0, 0] ∧ win0_3.index t = ![0, 15 - t.val, 0]
      ∧ win0_4.index t = ![0, 0, 0] ∧ win0_5.index t = ![0, 0] ∧ win0_6.index t = ![15 - t.val, 0] ∧ win0_7.index t = ![15 - t.val, 0]
      ∧ win0_8.index t = ![15 - t.val, 0] ∧ win0_9.index t = ![15 - t.val, 0] ∧ win0_10.index t = ![15 - t.val, 0]
      ∧ win0_11.index t = ![0, 0] ∧ win0_12.index t = ![0, 0] :=
  (by decide +kernel : ∀ t : Fin grid0.N, _)

theorem N16 (t : Fin cfg0.N) : t.val < 16 := t.isLt.trans_le (le_of_eq N_0)

/-- The token that row `a` of the tile of point `t` holds: the points walk the tiles from the last to the first. -/
def row (t : Fin cfg0.N) (a : Fin 512) : Fin 8192 := ⟨(15 - t.val) * 512 + a.val, by have := N16 t; omega⟩

variable (c : Dev nD) (t : Fin cfg0.N)

theorem b0 (a : Fin 512) (d : Fin 1024) : (iblk m c 0 t : FVec Ideal S512x1024 .f32) (ix2 a d) = (V m c main_arg8 : FVec Ideal S8192x1024 .f32) (ix2 (row t a) d) := by
  blk_ext [iblk, row, idx t]
theorem b6 (a : Fin 512) (d : Fin 1024) : (iblk m c 6 t : FVec Ideal S512x1024 .f32) (ix2 a d) = (V m c main_arg0 : FVec Ideal S8192x1024 .f32) (ix2 (row t a) d) := by
  blk_ext [iblk, row, idx t]
theorem b7 (a : Fin 512) (d : Fin 1024) : (iblk m c 7 t : FVec Ideal S512x1024 .bf16) (ix2 a d) = (V m c main_v82 : FVec Ideal S8192x1024 .bf16) (ix2 (row t a) d) := by
  blk_ext [iblk, row, idx t]
theorem b5 (k : Fin 1024) (d : Fin 1024) : (iblk m c 5 t : FVec Ideal S1024x1024 .bf16) (ix2 k d) = (V m c main_v103 : FVec Ideal S1024x1024 .bf16) (ix2 k d) := by
  blk_ext [iblk, idx t]
theorem b1 (r : Fin 8) (d : Fin 1024) : (iblk m c 1 t : FVec Ideal S8x1024 .f32) (ix2 r d) = (V m c main_v91 : FVec Ideal S8x1024 .f32) (ix2 r d) := by
  blk_ext [iblk, idx t]
theorem b2 (r : Fin 8) (d : Fin 1024) : (iblk m c 2 t : FVec Ideal S8x1024 .f32) (ix2 r d) = (V m c main_v102 : FVec Ideal S8x1024 .f32) (ix2 r d) := by
  blk_ext [iblk, idx t]
theorem b3 (r : Fin 4) (a : Fin 512) (d : Fin 1024) : (iblk m c 3 t : FVec Ideal S4x512x1024 .bf16) (ix3 r a d) = (V m c main_v53 : FVec Ideal S4x8192x1024 .bf16) (ix3 r (row t a) d) := by
  blk_ext [iblk, row, idx t]
theorem b4 (r : Fin 4) (d : Fin 1024) (j : Fin 768) : (iblk m c 4 t : FVec Ideal S4x1024x768 .bf16) (ix3 r d j) = (V m c main_v85 : FVec Ideal S4x1024x768 .bf16) (ix3 r d j) := by
  blk_ext [iblk, idx t]

end Cert.KernelIdeal.Tile
-- ==== Proof.Tile.lean ====
module

public import proofs.«01_k».proof.Proof.Blocks

@[expose] public section

set_option maxRecDepth 16384

noncomputable section

namespace Cert.KernelIdeal.Tile

open Cert.KernelIdeal Cert.KernelIdeal.Gen Idealize.ShloMosaic Idealize.ShloMosaic.TcCoe Idealize.SL.Sem
open Cert.KernelIdeal.Pay Cert.ConvSpec

section Pieces
variable {S : Shape} {e : EltTy} {Val : EltTy → Type} [∀ e, Nonempty (Val e)]

theorem canon_hit {off size : Fin S.rank → ℕ} (inb) (w : (Rect.unit (s := S) off size inb).shape.Idx → Val e) (L : List (View.Piece Val S e))
    (y : S.Idx) (x : (Rect.unit (s := S) off size inb).shape.Idx) (h : ∀ a, (y a).val = off a + (x a).val) :
    View.canon (⟨Rect.unit off size inb, w⟩ :: L) y = w x := by
  have : (Rect.unit (s := S) off size inb).emb x = y := Rect.emb_eq_of_coords _ _ _ fun a => by simp [h a]
  rw [← this, View.canon_cons_emb]

theorem canon_miss {off size : Fin S.rank → ℕ} (inb) (w : (Rect.unit (s := S) off size inb).shape.Idx → Val e) (L : List (View.Piece Val S e))
    (y : S.Idx) (a : Fin S.rank) (h : (y a).val < off a ∨ off a + size a ≤ (y a).val) :
    View.canon (⟨Rect.unit off size inb, w⟩ :: L) y = View.canon L y :=
  View.canon_cons_of_not_mem _ _ (Rect.not_mem_set_of_axis (Rect.unit (s := S) off size inb) y a (off a) (size a) rfl rfl rfl h)

end Pieces

/-- The blocks of one tile hold the operands `I` at the rows `ρ`. -/
structure Reads (I : In) (ρ : Fin 512 → Fin 8192) (ct x : FVec Ideal S512x1024 .f32) (y : FVec Ideal S512x1024 .bf16) (wo : FVec Ideal S1024x1024 .bf16)
    (v0 v1 v3 c0 c1 c2 : FVec Ideal S1x1024 .f32) (s0 s1 s2 s3 : FVec Ideal S1x512x1024 .bf16) (w0 w1 w2 w3 : FVec Ideal S1x1024x768 .bf16) : Prop where
  hct : ∀ (a : Fin 512) (d : Fin 1024), ct (ix2 a d) = I.ct (ρ a) d
  hx : ∀ (a : Fin 512) (d : Fin 1024), x (ix2 a d) = I.x (ρ a) d
  hy : ∀ (a : Fin 512) (d : Fin 1024), (y (ix2 a d) : EReal) = I.y (ρ a) d
  hwo : ∀ (k d : Fin 1024), (wo (ix2 k d) : EReal) = I.wo k d
  hv0 : ∀ d : Fin 1024, v0 (ix2 0 d) = I.g d
  hv1 : ∀ d : Fin 1024, v1 (ix2 0 d) = I.sc d
  hv3 : ∀ d : Fin 1024, v3 (ix2 0 d) = I.gt d
  hc0 : ∀ d : Fin 1024, c0 (ix2 0 d) = I.cw 0 d
  hc1 : ∀ d : Fin 1024, c1 (ix2 0 d) = I.cw 1 d
  hc2 : ∀ d : Fin 1024, c2 (ix2 0 d) = I.cw 2 d
  hs0 : ∀ (a : Fin 512) (d : Fin 1024), (s0 (ix3 0 a d) : EReal) = I.b (ρ a) d
  hs1 : ∀ (a : Fin 512) (d : Fin 1024), (s1 (ix3 0 a d) : EReal) = I.cg (ρ a) d
  hs2 : ∀ (a : Fin 512) (d : Fin 1024), (s2 (ix3 0 a d) : EReal) = I.u (ρ a) d
  hs3 : ∀ (a : Fin 512) (d : Fin 1024), (s3 (ix3 0 a d) : EReal) = I.conv (ρ a) d
  hw0 : ∀ (d : Fin 1024) (j : Fin 768), (w0 (ix3 0 d j) : EReal) = I.wi d ⟨0 * 768 + j.val, by omega⟩
  hw1 : ∀ (d : Fin 1024) (j : Fin 768), (w1 (ix3 0 d j) : EReal) = I.wi d ⟨1 * 768 + j.val, by omega⟩
  hw2 : ∀ (d : Fin 1024) (j : Fin 768), (w2 (ix3 0 d j) : EReal) = I.wi d ⟨2 * 768 + j.val, by omega⟩
  hw3 : ∀ (d : Fin 1024) (j : Fin 768), (w3 (ix3 0 d j) : EReal) = I.wi d ⟨3 * 768 + j.val, by omega⟩

section Values
variable {I : In} {ρ : Fin 512 → Fin 8192} {ct x : FVec Ideal S512x1024 .f32} {y : FVec Ideal S512x1024 .bf16} {wo : FVec Ideal S1024x1024 .bf16}
    {v0 v1 v3 c0 c1 c2 : FVec Ideal S1x1024 .f32} {s0 s1 s2 s3 : FVec Ideal S1x512x1024 .bf16} {w0 w1 w2 w3 : FVec Ideal S1x1024x768 .bf16}
    (h : Reads I ρ ct x y wo v0 v1 v3 c0 c1 c2 s0 s1 s2 s3 w0 w1 w2 w3)
include h

theorem dy_of (a : Fin 512) (d : Fin 1024) : (k0_pay8 (F := Ideal) v3 ct (ix2 a d) : EReal) = I.dy (ρ a) d := by
  rw [pay8_at, h.hv3, h.hct]; rfl

theorem dcv_of (a : Fin 512) (k : Fin 1024) : k0_pay13 (F := Ideal) v3 ct wo s0 (ix2 a k) = I.dcv (ρ a) k := by
  rw [pay13_at]
  simp only [h.hv3, h.hct, h.hwo, h.hs0]; rfl

theorem db_of (a : Fin 512) (k : Fin 1024) : k0_pay12 (F := Ideal) v3 ct wo s3 (ix2 a k) = I.dz (ρ a) k * I.conv (ρ a) k := by
  rw [pay12_at]
  simp only [h.hv3, h.hct, h.hwo, h.hs3]; rfl

theorem c_of (a : Fin 512) (k : Fin 1024) : k0_pay10 (F := Ideal) s1 (ix2 a k) = I.cg (ρ a) k := by rw [pay10_at, h.hs1]
theorem u_of (a : Fin 512) (k : Fin 1024) : k0_pay11 (F := Ideal) s2 (ix2 a k) = I.u (ρ a) k := by rw [pay11_at, h.hs2]

theorem red3_of (acc : FVec Ideal S1x1024 .f32) (d : Fin 1024) :
    (k0_pay3 (F := Ideal) ct (k0_pay23 y) acc (ix2 0 d) : EReal) = acc (ix2 0 d) + ∑ a : Fin 512, I.redT 3 d (ρ a) := by
  rw [pay3_at]
  simp only [h.hct, h.hy]; rfl

theorem dcw2_of (acc : FVec Ideal S1x1024 .f32) (d : Fin 1024) :
    (k0_pay20 (F := Ideal) (k0_pay13 v3 ct wo s0) (k0_pay17 (k0_pay10 s1) (k0_pay11 s2)) acc (ix2 0 d) : EReal)
      = acc (ix2 0 d) + ∑ a : Fin 512, I.dcwT 2 d (ρ a) := by
  rw [pay20_at]
  simp only [pay17_at, dcv_of h, c_of h, u_of h]; rfl

theorem dcw0_of {D2 : FVec Ideal S512x1024 .f32} (h2 : ∀ (a : Fin 512) (k : Fin 1024), D2 (ix2 a k) = ahead I.dcv 2 (ρ a) k)
    (acc : FVec Ideal S1x1024 .f32) (d : Fin 1024) :
    (k0_pay18 (F := Ideal) (k0_pay10 s1) (k0_pay11 s2) D2 acc (ix2 0 d) : EReal) = acc (ix2 0 d) + ∑ a : Fin 512, I.dcwT 0 d (ρ a) := by
  rw [pay18_at]
  simp only [h2, c_of h, u_of h]; rfl

theorem dcw1_of {D1 : FVec Ideal S512x1024 .f32} (h1 : ∀ (a : Fin 512) (k : Fin 1024), D1 (ix2 a k) = ahead I.dcv 1 (ρ a) k)
    (acc : FVec Ideal S1x1024 .f32) (d : Fin 1024) :
    (k0_pay19 (F := Ideal) (k0_pay10 s1) (k0_pay11 s2) D1 acc (ix2 0 d) : EReal) = acc (ix2 0 d) + ∑ a : Fin 512, I.dcwT 1 d (ρ a) := by
  rw [pay19_at]
  simp only [h1, c_of h, u_of h]; rfl

variable {D1 D2 : FVec Ideal S512x1024 .f32}
  (h1 : ∀ (a : Fin 512) (k : Fin 1024), D1 (ix2 a k) = ahead I.dcv 1 (ρ a) k)
  (h2 : ∀ (a : Fin 512) (k : Fin 1024), D2 (ix2 a k) = ahead I.dcv 2 (ρ a) k)
include h1 h2

theorem dv_of (a : Fin 512) (k : Fin 1024) : k0_pay16 (F := Ideal) (k0_pay13 v3 ct wo s0) D1 D2 c2 c1 c0 (ix2 a k) = I.dv (ρ a) k := by
  rw [pay16_at, dcv_of h, h1, h2, h.hc0, h.hc1, h.hc2]; rfl

theorem dbcu_of (a : Fin 512) (j : Fin 3072) :
    (k0_pay21 (F := Ideal) (k0_pay10 s1) (k0_pay11 s2) (k0_pay12 v3 ct wo s3) (k0_pay16 (k0_pay13 v3 ct wo s0) D1 D2 c2 c1 c0) (ix2 a j) : EReal)
      = I.dbcu (ρ a) j := by
  rw [pay21_at]
  simp only [c_of h, u_of h, db_of h, dv_of h h1 h2]; rfl

theorem dh_of (a : Fin 512) (d : Fin 1024) :
    k0_pay22 (F := Ideal) (k0_pay10 s1) (k0_pay11 s2) (k0_pay12 v3 ct wo s3) (k0_pay16 (k0_pay13 v3 ct wo s0) D1 D2 c2 c1 c0) w0 w1 w2 w3 (ix2 a d) = I.dh (ρ a) d := by
  rw [pay22_at]
  simp only [dbcu_of h h1 h2, h.hw0, h.hw1, h.hw2, h.hw3]
  unfold In.dh
  rw [← Fin.sum_mul_add_fin 4 768 (fun j : Fin 3072 => I.dbcu (ρ a) j * I.wi d j), Fin.sum_univ_four]
  simp only [Fin.val_zero, Fin.val_one, Fin.val_two, Nat.zero_mul, Nat.zero_add, Nat.one_mul, Nat.reduceMul]
  rfl

theorem dx_of (a : Fin 512) (d : Fin 1024) :
    (k0_pay4 (F := Ideal) ct (k0_pay25 x) (k0_pay26 x) (k0_pay28 (k0_pay22 (k0_pay10 s1) (k0_pay11 s2) (k0_pay12 v3 ct wo s3)
      (k0_pay16 (k0_pay13 v3 ct wo s0) D1 D2 c2 c1 c0) w0 w1 w2 w3) v0 v1) (ix2 a d) : EReal) = I.dx (ρ a) d := by
  rw [pay4_at]
  simp only [pay28_at, dh_of h h1 h2, h.hct, h.hx, h.hv0, h.hv1]; rfl

theorem red0_of (acc : FVec Ideal S1x1024 .f32) (d : Fin 1024) :
    (k0_pay29 (F := Ideal) (k0_pay22 (k0_pay10 s1) (k0_pay11 s2) (k0_pay12 v3 ct wo s3)
      (k0_pay16 (k0_pay13 v3 ct wo s0) D1 D2 c2 c1 c0) w0 w1 w2 w3) x v1 acc (ix2 0 d) : EReal)
      = acc (ix2 0 d) + ∑ a : Fin 512, I.redT 0 d (ρ a) := by
  rw [pay29_at]
  simp only [dh_of h h1 h2, h.hx, h.hv1]; rfl

theorem red1_of (acc : FVec Ideal S1x1024 .f32) (d : Fin 1024) :
    (k0_pay1 (F := Ideal) (k0_pay30 acc) (k0_pay31 (k0_pay22 (k0_pay10 s1) (k0_pay11 s2) (k0_pay12 v3 ct wo s3)
      (k0_pay16 (k0_pay13 v3 ct wo s0) D1 D2 c2 c1 c0) w0 w1 w2 w3) x v0) (ix2 0 d) : EReal)
      = acc (ix2 0 d) + ∑ a : Fin 512, I.redT 1 d (ρ a) := by
  rw [pay1_at]
  simp only [dh_of h h1 h2, h.hx, h.hv0]; rfl

theorem red2_of (acc : FVec Ideal S1x1024 .f32) (d : Fin 1024) :
    (k0_pay2 (F := Ideal) (k0_pay22 (k0_pay10 s1) (k0_pay11 s2) (k0_pay12 v3 ct wo s3)
      (k0_pay16 (k0_pay13 v3 ct wo s0) D1 D2 c2 c1 c0) w0 w1 w2 w3) acc (ix2 0 d) : EReal)
      = acc (ix2 0 d) + ∑ a : Fin 512, I.redT 2 d (ρ a) := by
  rw [pay2_at]
  simp only [dh_of h h1 h2]; rfl

end Values

variable (m : (ℓ : Loc nD τ sig) → Buf (Elt Ideal) ℓ) (c : Dev nD) (t : Fin cfg0.N)

/-! The tile's arithmetic over the operands. -/

theorem ld_row1 (r : ℕ) (hr : r < 8) (inb) (d : Fin 1024) :
    (View.ld (iblk m c 1 t : FVec Ideal S8x1024 .f32) (Rect.unit ![r, 0] ![1, 1024] inb) : FVec Ideal S1x1024 .f32) (ix2 0 d)
      = (V m c main_v91 : FVec Ideal S8x1024 .f32) (ix2 ⟨r, hr⟩ d) := by
  rw [← b1 m c t]
  exact View.ld_unit_apply_of _ _ _ _ _ _ (fun a => by match a with | ⟨0, _⟩ => simp | ⟨1, _⟩ => simp)

theorem ld_row2 (r : ℕ) (hr : r < 8) (inb) (d : Fin 1024) :
    (View.ld (iblk m c 2 t : FVec Ideal S8x1024 .f32) (Rect.unit ![r, 0] ![1, 1024] inb) : FVec Ideal S1x1024 .f32) (ix2 0 d)
      = (V m c main_v102 : FVec Ideal S8x1024 .f32) (ix2 ⟨r, hr⟩ d) := by
  rw [← b2 m c t]
  exact View.ld_unit_apply_of _ _ _ _ _ _ (fun a => by match a with | ⟨0, _⟩ => simp | ⟨1, _⟩ => simp)

theorem ld_s4 (r : ℕ) (hr : r < 4) (inb) (a : Fin 512) (d : Fin 1024) :
    (View.ld (iblk m c 3 t : FVec Ideal S4x512x1024 .bf16) (Rect.unit ![r, 0, 0] ![1, 512, 1024] inb) : FVec Ideal S1x512x1024 .bf16) (ix3 0 a d)
      = (V m c main_v53 : FVec Ideal S4x8192x1024 .bf16) (ix3 ⟨r, hr⟩ (row t a) d) := by
  rw [← b3 m c t]
  exact View.ld_unit_apply_of _ _ _ _ _ _ (fun a => by match a with | ⟨0, _⟩ => simp | ⟨1, _⟩ => simp | ⟨2, _⟩ => simp)

theorem ld_w4 (r : ℕ) (hr : r < 4) (inb) (d : Fin 1024) (j : Fin 768) :
    (View.ld (iblk m c 4 t : FVec Ideal S4x1024x768 .bf16) (Rect.unit ![r, 0, 0] ![1, 1024, 768] inb) : FVec Ideal S1x1024x768 .bf16) (ix3 0 d j)
      = (V m c main_v85 : FVec Ideal S4x1024x768 .bf16) (ix3 ⟨r, hr⟩ d j) := by
  rw [← b4 m c t]
  exact View.ld_unit_apply_of _ _ _ _ _ _ (fun a => by match a with | ⟨0, _⟩ => simp | ⟨1, _⟩ => simp | ⟨2, _⟩ => simp)

theorem wi_at (q : ℕ) (hq : q < 4) (d : Fin 1024) (j : Fin 768) :
    (opnd m c).wi d ⟨q * 768 + j.val, by omega⟩ = (V m c main_v85 : FVec Ideal S4x1024x768 .bf16) (ix3 ⟨q, hq⟩ d j) := by
  show (V m c main_v85 : FVec Ideal S4x1024x768 .bf16) (ix3 ⟨(q * 768 + j.val) / 768, _⟩ d ⟨(q * 768 + j.val) % 768, _⟩) = _
  congr 2 <;> apply Fin.ext <;> dsimp only <;> omega

set_option maxHeartbeats 2000000 in
theorem reads : Reads (opnd m c) (row t) (iblk m c 0 t) (iblk m c 6 t) (iblk m c 7 t) (iblk m c 5 t)
    (View.ld (iblk m c 1 t : FVec Ideal S8x1024 .f32) (Rect.unit ![0, 0] ![1, 1024] inb_S8x1024_S1x1024_0_0))
    (View.ld (iblk m c 1 t : FVec Ideal S8x1024 .f32) (Rect.unit ![1, 0] ![1, 1024] inb_S8x1024_S1x1024_1_0))
    (View.ld (iblk m c 1 t : FVec Ideal S8x1024 .f32) (Rect.unit ![3, 0] ![1, 1024] inb_S8x1024_S1x1024_3_0))
    (View.ld (iblk m c 2 t : FVec Ideal S8x1024 .f32) (Rect.unit ![0, 0] ![1, 1024] inb_S8x1024_S1x1024_0_0))
    (View.ld (iblk m c 2 t : FVec Ideal S8x1024 .f32) (Rect.unit ![1, 0] ![1, 1024] inb_S8x1024_S1x1024_1_0))
    (View.ld (iblk m c 2 t : FVec Ideal S8x1024 .f32) (Rect.unit ![2, 0] ![1, 1024] inb_S8x1024_S1x1024_2_0))
    (View.ld (iblk m c 3 t : FVec Ideal S4x512x1024 .bf16) (Rect.unit ![0, 0, 0] ![1, 512, 1024] inb_S4x512x1024_S1x512x1024_0_0_0))
    (View.ld (iblk m c 3 t : FVec Ideal S4x512x1024 .bf16) (Rect.unit ![1, 0, 0] ![1, 512, 1024] inb_S4x512x1024_S1x512x1024_1_0_0))
    (View.ld (iblk m c 3 t : FVec Ideal S4x512x1024 .bf16) (Rect.unit ![2, 0, 0] ![1, 512, 1024] inb_S4x512x1024_S1x512x1024_2_0_0))
    (View.ld (iblk m c 3 t : FVec Ideal S4x512x1024 .bf16) (Rect.unit ![3, 0, 0] ![1, 512, 1024] inb_S4x512x1024_S1x512x1024_3_0_0))
    (View.ld (iblk m c 4 t : FVec Ideal S4x1024x768 .bf16) (Rect.unit ![0, 0, 0] ![1, 1024, 768] inb_S4x1024x768_S1x1024x768_0_0_0))
    (View.ld (iblk m c 4 t : FVec Ideal S4x1024x768 .bf16) (Rect.unit ![1, 0, 0] ![1, 1024, 768] inb_S4x1024x768_S1x1024x768_1_0_0))
    (View.ld (iblk m c 4 t : FVec Ideal S4x1024x768 .bf16) (Rect.unit ![2, 0, 0] ![1, 1024, 768] inb_S4x1024x768_S1x1024x768_2_0_0))
    (View.ld (iblk m c 4 t : FVec Ideal S4x1024x768 .bf16) (Rect.unit ![3, 0, 0] ![1, 1024, 768] inb_S4x1024x768_S1x1024x768_3_0_0)) where
  hct := b0 m c t
  hx := b6 m c t
  hy := b7 m c t
  hwo := b5 m c t
  hv0 := ld_row1 m c t 0 (by decide) _
  hv1 := ld_row1 m c t 1 (by decide) _
  hv3 := ld_row1 m c t 3 (by decide) _
  hc0 := ld_row2 m c t 0 (by decide) _
  hc1 := ld_row2 m c t 1 (by decide) _
  hc2 := ld_row2 m c t 2 (by decide) _
  hs0 := ld_s4 m c t 0 (by decide) _
  hs1 := ld_s4 m c t 1 (by decide) _
  hs2 := ld_s4 m c t 2 (by decide) _
  hs3 := ld_s4 m c t 3 (by decide) _
  hw0 d j := (ld_w4 m c t 0 (by decide) _ d j).trans (wi_at m c 0 (by decide) d j).symm
  hw1 d j := (ld_w4 m c t 1 (by decide) _ d j).trans (wi_at m c 1 (by decide) d j).symm
  hw2 d j := (ld_w4 m c t 2 (by decide) _ d j).trans (wi_at m c 2 (by decide) d j).symm
  hw3 d j := (ld_w4 m c t 3 (by decide) _ d j).trans (wi_at m c 3 (by decide) d j).symm

end Cert.KernelIdeal.Tile
-- ==== Proof.Scr.lean ====
module

public import proofs.«01_k».proof.Proof.Tile
public import Idealize.ShloMosaic.Lib.WritesUnit

@[expose] public section

set_option maxRecDepth 16384

noncomputable section

namespace Cert.KernelIdeal.Tile

open Cert.KernelIdeal Cert.KernelIdeal.Gen Idealize.ShloMosaic Idealize.ShloMosaic.TcCoe Idealize.SL.Sem
open Cert.KernelIdeal.Pay Cert.ConvSpec

variable (m : (ℓ : Loc nD τ sig) → Buf (Elt Ideal) ℓ) (c : Dev nD)

/-! The rows carried from one tile to the next. -/

/-- What the carried buffer holds after point `n` at row `512 + j`: row `j` of the tile. -/
theorem scr_row (t : Fin cfg0.N) (j : Fin 8) (k : Fin 1024) :
    ((outsAt0 m c t.val t.isLt).2.2.2.2.2 : FVec Ideal S520x1024 .f32) (ix2 ⟨512 + j.val, by omega⟩ k)
      = (opnd m c).dcv (row t ⟨j.val, by omega⟩) k := by
  by_cases h0 : t.val % 16 = 0
  · rw [outsAt0_A m c t h0]; frame_open; frame_out
    rw [canon_hit _ _ _ _ (ix2 j k : S8x1024.Idx) (fun a => by match a with | ⟨0, _⟩ => rfl | ⟨1, _⟩ => simp)]
    rw [pay15_eq, View.readCov_eq_canon']
    dsimp only
    rw [canon_hit _ _ _ _ (ix2 ⟨j.val, by omega⟩ k : S512x1024.Idx) (fun a => by match a with | ⟨0, _⟩ => simp | ⟨1, _⟩ => simp), pay14_eq]
    exact dcv_of (reads m c t) _ k
  · rw [outsAt0_B m c t h0]; frame_open; frame_out
    rw [canon_hit _ _ _ _ (ix2 j k : S8x1024.Idx) (fun a => by match a with | ⟨0, _⟩ => rfl | ⟨1, _⟩ => simp)]
    rw [pay15_eq, View.readCov_eq_canon']
    dsimp only
    rw [canon_hit _ _ _ _ (ix2 ⟨j.val, by omega⟩ k : S512x1024.Idx) (fun a => by match a with | ⟨0, _⟩ => simp | ⟨1, _⟩ => simp), pay14_eq]
    exact dcv_of (reads m c t) _ k

section Ahead
variable {sp : Space} (v : View sig .tc sp S520x1024 .f32) (t : Fin cfg0.N) (n : ℕ) (hn : n < 8) (P : FVec Ideal S512x1024 .f32)
  (hP : ∀ (a : Fin 512) (k : Fin 1024), P (ix2 a k) = (opnd m c).dcv (row t a) k)
  (inb0 : ∀ a : Fin 2, (![0, 0] : Fin 2 → ℕ) a + (![512, 1024] : Fin 2 → ℕ) a ≤ S520x1024.size a)
  (inb1 : ∀ a : Fin 2, (![512, 0] : Fin 2 → ℕ) a + (![8, 1024] : Fin 2 → ℕ) a ≤ S520x1024.size a)
  (inb : ∀ a : Fin 2, (![n, 0] : Fin 2 → ℕ) a + (![512, 1024] : Fin 2 → ℕ) a ≤ S520x1024.size a)
include hn hP

/-- A row read `n` rows further on in the buffer of the last tile: zero past the end. -/
theorem ahead_A (h0 : t.val % 16 = 0) (a : Fin 512) (k : Fin 1024) :
    (v.readCov (Val := Elt Ideal) [⟨Rect.unit ![0, 0] ![512, 1024] inb0, k0_pay14 P⟩, ⟨Rect.unit ![512, 0] ![8, 1024] inb1, k0_pay5 (F := Ideal)⟩]
        (Rect.unit (s := S520x1024) ![n, 0] ![512, 1024] inb).toLoadRect (ix2 a k : S512x1024.Idx) : EReal)
      = ahead (opnd m c).dcv n (row t a) k := by
  have ht := N16 t
  rw [View.readCov_eq_canon', pay14_eq]
  dsimp only
  unfold ahead
  by_cases h : a.val + n < 512
  · rw [canon_hit _ _ _ _ (ix2 ⟨a.val + n, h⟩ k : S512x1024.Idx) (fun a => by match a with | ⟨0, _⟩ => simp; omega | ⟨1, _⟩ => simp), hP,
      dif_pos (by simp only [row]; omega)]
    congr 1; apply Fin.ext; simp only [row]; omega
  · rw [canon_miss _ _ _ _ (0 : Fin 2) (by right; simp; omega),
      canon_hit _ _ _ _ (ix2 ⟨a.val + n - 512, by omega⟩ k : S8x1024.Idx) (fun a => by match a with | ⟨0, _⟩ => simp; omega | ⟨1, _⟩ => simp),
      pay5_at, dif_neg (by simp only [row]; omega)]

/-- A row read `n` rows further on in the buffer of any other tile: past the tile, the rows the tile before carried. -/
theorem ahead_B (h0 : ¬t.val % 16 = 0) (f : v.ty.Contents (Elt Ideal)) (hlt : t.val - 1 < cfg0.N)
    (hf : v.read (Elt Ideal) f = (outsAt0 m c (t.val - 1) hlt).2.2.2.2.2) (a : Fin 512) (k : Fin 1024) :
    (View.ld (v.read (Elt Ideal) (v.writes (Elt Ideal) f [⟨Rect.unit ![0, 0] ![512, 1024] inb0, k0_pay14 P⟩])) (Rect.unit ![n, 0] ![512, 1024] inb) : FVec Ideal S512x1024 .f32) (ix2 a k)
      = ahead (opnd m c).dcv n (row t a) k := by
  have ht := N16 t
  rw [pay14_eq]
  unfold ahead
  by_cases h : a.val + n < 512
  · rw [View.ld_unit_apply_of _ _ _ _ _ (ix2 ⟨a.val + n, by omega⟩ k : S520x1024.Idx) (fun a => by match a with | ⟨0, _⟩ => simp; omega | ⟨1, _⟩ => simp)]
    rw [View.read_writes_cons_unit_of_mem _ _ inb0 _ _ _ (ix2 ⟨a.val + n, h⟩ k : S512x1024.Idx) rfl (fun a => by match a with | ⟨0, _⟩ => simp | ⟨1, _⟩ => simp), hP,
      dif_pos (by simp only [row]; omega)]
    congr 1; apply Fin.ext; simp only [row]; omega
  · rw [View.ld_unit_apply_of _ _ _ _ _ (ix2 ⟨512 + (a.val + n - 512), by omega⟩ k : S520x1024.Idx) (fun a => by match a with | ⟨0, _⟩ => simp; omega | ⟨1, _⟩ => simp)]
    rw [View.read_writes_cons_unit_of_not_mem _ _ inb0 _ _ _ rfl (0 : Fin 2) (by right; simp), View.writes_nil, hf]
    refine (scr_row m c ⟨t.val - 1, hlt⟩ ⟨a.val + n - 512, by omega⟩ k).trans ?_
    rw [dif_pos (by simp only [row]; omega)]
    congr 1; apply Fin.ext; simp only [row]; omega
end Ahead

end Cert.KernelIdeal.Tile
-- ==== Proof.Out.lean ====
module

public import proofs.«01_k».proof.Proof.Scr

@[expose] public section

set_option maxRecDepth 16384

noncomputable section

namespace Cert.KernelIdeal.Tile

open Cert.KernelIdeal Cert.KernelIdeal.Gen Idealize.ShloMosaic Idealize.ShloMosaic.TcCoe Idealize.SL.Sem
open Cert.KernelIdeal.Pay Cert.ConvSpec

variable (m : (ℓ : Loc nD τ sig) → Buf (Elt Ideal) ℓ) (c : Dev nD) (t : Fin cfg0.N)

/-! What each tile leaves in the outputs' buffers. -/

theorem out8 (a : Fin 512) (d : Fin 1024) : ((outsAt0 m c t.val t.isLt).1 : FVec Ideal S512x1024 .bf16) (ix2 a d) = (opnd m c).dy (row t a) d := by
  by_cases h0 : t.val % 16 = 0
  · rw [outsAt0_A m c t h0]; frame_open
    simp (disch := decide) only [↓ View.readCov_skip, ↓ View.readCov_cons_toLoadRect, ↓ View.readCov_fill]
    frame_out
    exact dy_of (reads m c t) a d
  · rw [outsAt0_B m c t h0]; frame_open
    simp (disch := decide) only [↓ View.readCov_skip, ↓ View.readCov_cons_toLoadRect, ↓ View.readCov_fill]
    frame_out
    exact dy_of (reads m c t) a d

theorem out9 (a : Fin 512) (j : Fin 3072) : ((outsAt0 m c t.val t.isLt).2.1 : FVec Ideal S512x3072 .bf16) (ix2 a j) = (opnd m c).dbcu (row t a) j := by
  by_cases h0 : t.val % 16 = 0
  · rw [outsAt0_A m c t h0]; frame_open
    simp (disch := decide) only [↓ View.readCov_skip, ↓ View.readCov_cons_toLoadRect, ↓ View.readCov_fill]
    frame_out
    exact dbcu_of (reads m c t)
      (ahead_A m c (View.whole cc0_scratch0) t 1 (by decide) _ (dcv_of (reads m c t)) _ _ _ h0)
      (ahead_A m c (View.whole cc0_scratch0) t 2 (by decide) _ (dcv_of (reads m c t)) _ _ _ h0) a j
  · rw [outsAt0_B m c t h0]; frame_open
    simp (disch := decide) only [↓ View.readCov_skip, ↓ View.readCov_cons_toLoadRect, ↓ View.readCov_fill]
    frame_out
    exact dbcu_of (reads m c t)
      (ahead_B m c (View.whole cc0_scratch0) t 1 (by decide) _ (dcv_of (reads m c t)) _ _ h0 _ _ (read_unread_whole _ _ _))
      (ahead_B m c (View.whole cc0_scratch0) t 2 (by decide) _ (dcv_of (reads m c t)) _ _ h0 _ _ (read_unread_whole _ _ _)) a j

theorem out10 (a : Fin 512) (d : Fin 1024) : ((outsAt0 m c t.val t.isLt).2.2.1 : FVec Ideal S512x1024 .f32) (ix2 a d) = (opnd m c).dx (row t a) d := by
  by_cases h0 : t.val % 16 = 0
  · rw [outsAt0_A m c t h0]; frame_open
    simp (disch := decide) only [↓ View.readCov_skip, ↓ View.readCov_cons_toLoadRect, ↓ View.readCov_fill]
    frame_out
    exact dx_of (reads m c t)
      (ahead_A m c (View.whole cc0_scratch0) t 1 (by decide) _ (dcv_of (reads m c t)) _ _ _ h0)
      (ahead_A m c (View.whole cc0_scratch0) t 2 (by decide) _ (dcv_of (reads m c t)) _ _ _ h0) a d
  · rw [outsAt0_B m c t h0]; frame_open
    simp (disch := decide) only [↓ View.readCov_skip, ↓ View.readCov_cons_toLoadRect, ↓ View.readCov_fill]
    frame_out
    exact dx_of (reads m c t)
      (ahead_B m c (View.whole cc0_scratch0) t 1 (by decide) _ (dcv_of (reads m c t)) _ _ h0 _ _ (read_unread_whole _ _ _))
      (ahead_B m c (View.whole cc0_scratch0) t 2 (by decide) _ (dcv_of (reads m c t)) _ _ h0 _ _ (read_unread_whole _ _ _)) a d

end Cert.KernelIdeal.Tile
-- ==== Proof.Arr.lean ====
module

public import proofs.«01_k».proof.Proof.Out
public import proofs.«01_k».proof.Proof.Gen.KernelIdeal.Value

@[expose] public section

set_option maxRecDepth 16384

noncomputable section

namespace Cert.KernelIdeal.Tile

open Cert.KernelIdeal Cert.KernelIdeal.Gen Idealize.ShloMosaic Idealize.ShloMosaic.TcCoe Idealize.SL.Sem
open Cert.KernelIdeal.Pay Cert.ConvSpec

variable (m : (ℓ : Loc nD τ sig) → Buf (Elt Ideal) ℓ) (c : Dev nD)

/-- The tiles run from the last tokens to the first; together they are all the tokens. -/
theorem sum_rows (f : Fin 8192 → EReal) : ∑ t : Fin cfg0.N, ∑ a : Fin 512, f (row t a) = ∑ l : Fin 8192, f l := by
  rw [← Equiv.sum_comp Fin.revPerm]
  refine Fin.sum_mul_add_congr ?_ (congrArg (· * 512) N_0.symm)
  intro s k hl; congr 1; apply Fin.ext
  have := N16 s
  have hN : cfg0.N = 16 := N_0
  simp only [row, Fin.revPerm_apply, Fin.val_rev]
  omega

theorem arr8 : (dats m 0 c).arrAt 8 cfg0.N = fun i : S8192x1024.Idx => (opnd m c).dy (i 0) (i 1) := by
  refine (dats m 0 c).arrAt_eq_of_covers 8 _ (by decide +kernel) fun t hf y => ?_
  blk_simp
  rw [after0_8]
  have e : ∀ f : S8192x1024.Idx → EReal, f ((win0_8.blk t).view.emb y) = f (ix2 (row t (y 0)) (y 1)) := by
    intro f; blk_ext [row, idx t]
  refine Eq.trans ?_ (e fun i => (opnd m c).dy (i 0) (i 1)).symm
  exact (congrArg _ (eq_ix2 y)).trans (out8 m c t (y 0) (y 1))

theorem arr9 : (dats m 0 c).arrAt 9 cfg0.N = fun i : S8192x3072.Idx => (opnd m c).dbcu (i 0) (i 1) := by
  refine (dats m 0 c).arrAt_eq_of_covers 9 _ (by decide +kernel) fun t hf y => ?_
  blk_simp
  rw [after0_9]
  have e : ∀ f : S8192x3072.Idx → EReal, f ((win0_9.blk t).view.emb y) = f (ix2 (row t (y 0)) (y 1)) := by
    intro f; blk_ext [row, idx t]
  refine Eq.trans ?_ (e fun i => (opnd m c).dbcu (i 0) (i 1)).symm
  exact (congrArg _ (eq_ix2 y)).trans (out9 m c t (y 0) (y 1))

theorem arr10 : (dats m 0 c).arrAt 10 cfg0.N = fun i : S8192x1024.Idx => (opnd m c).dx (i 0) (i 1) := by
  refine (dats m 0 c).arrAt_eq_of_covers 10 _ (by decide +kernel) fun t hf y => ?_
  blk_simp
  rw [after0_10]
  have e : ∀ f : S8192x1024.Idx → EReal, f ((win0_10.blk t).view.emb y) = f (ix2 (row t (y 0)) (y 1)) := by
    intro f; blk_ext [row, idx t]
  refine Eq.trans ?_ (e fun i => (opnd m c).dx (i 0) (i 1)).symm
  exact (congrArg _ (eq_ix2 y)).trans (out10 m c t (y 0) (y 1))

/-! The sums over the tokens, row by row. -/

theorem ld_row (z : FVec Ideal S8x1024 .f32) (r : ℕ) (hr : r < 8) (inb : ∀ a : Fin 2, (![r, 0] : Fin 2 → ℕ) a + (![1, 1024] : Fin 2 → ℕ) a ≤ S8x1024.size a) (d : Fin 1024) :
    (View.ld (Val := Elt Ideal) (e' := .f32) z (Rect.unit (s := S8x1024) ![r, 0] ![1, 1024] inb) : FVec Ideal S1x1024 .f32) (ix2 0 d) = z (ix2 ⟨r, hr⟩ d) :=
  View.ld_unit_apply_of _ _ _ _ _ _ (fun a => by match a with | ⟨0, _⟩ => rfl | ⟨1, _⟩ => simp)

section Rows
variable {σ : RefSig} {sp : Space} (v : View σ .tc sp S8x1024 .f32) (f : v.ty.Contents (Elt Ideal)) {T : Fin 8 → EReal} (d : Fin 1024)
  {z : FVec Ideal S8x1024 .f32} {p0 p1 p2 p3 : FVec Ideal S1x1024 .f32}
  (i0 : ∀ a : Fin 2, (![0, 0] : Fin 2 → ℕ) a + (![1, 1024] : Fin 2 → ℕ) a ≤ S8x1024.size a)
  (i1 : ∀ a : Fin 2, (![1, 0] : Fin 2 → ℕ) a + (![1, 1024] : Fin 2 → ℕ) a ≤ S8x1024.size a)
  (i2 : ∀ a : Fin 2, (![2, 0] : Fin 2 → ℕ) a + (![1, 1024] : Fin 2 → ℕ) a ≤ S8x1024.size a)
  (i3 : ∀ a : Fin 2, (![3, 0] : Fin 2 → ℕ) a + (![1, 1024] : Fin 2 → ℕ) a ≤ S8x1024.size a)
  (iz : ∀ a : Fin 2, (![0, 0] : Fin 2 → ℕ) a + (![8, 1024] : Fin 2 → ℕ) a ≤ S8x1024.size a)
  (h0 : p0 (ix2 0 d) = z (ix2 0 d) + T 0) (h1 : p1 (ix2 0 d) = z (ix2 1 d) + T 1) (h2 : p2 (ix2 0 d) = z (ix2 2 d) + T 2)
include h0 h1 h2

theorem rows3_A (hT : ∀ r : Fin 8, 3 ≤ r.val → T r = 0) (r : Fin 8) :
    (View.canon (Val := Elt Ideal) (s := S8x1024) (e := .f32) [⟨Rect.unit ![2, 0] ![1, 1024] i2, p2⟩, ⟨Rect.unit ![1, 0] ![1, 1024] i1, p1⟩,
      ⟨Rect.unit ![0, 0] ![1, 1024] i0, p0⟩, ⟨Rect.unit ![0, 0] ![8, 1024] iz, z⟩] (ix2 r d) : EReal) = z (ix2 r d) + T r := by
  match r with
  | ⟨2, _⟩ => exact (canon_hit _ _ _ _ (ix2 0 d : S1x1024.Idx) (fun a => by match a with | ⟨0, _⟩ => rfl | ⟨1, _⟩ => simp)).trans h2
  | ⟨1, _⟩ =>
    rw [canon_miss _ _ _ _ (0 : Fin 2) (by left; simp)]
    exact (canon_hit _ _ _ _ (ix2 0 d : S1x1024.Idx) (fun a => by match a with | ⟨0, _⟩ => rfl | ⟨1, _⟩ => simp)).trans h1
  | ⟨0, _⟩ =>
    rw [canon_miss _ _ _ _ (0 : Fin 2) (by left; simp), canon_miss _ _ _ _ (0 : Fin 2) (by left; simp)]
    exact (canon_hit _ _ _ _ (ix2 0 d : S1x1024.Idx) (fun a => by match a with | ⟨0, _⟩ => rfl | ⟨1, _⟩ => simp)).trans h0
  | ⟨k + 3, hk⟩ =>
    rw [canon_miss _ _ _ _ (0 : Fin 2) (by right; simp), canon_miss _ _ _ _ (0 : Fin 2) (by right; simp),
      canon_miss _ _ _ _ (0 : Fin 2) (by right; simp), hT _ (by simp), add_zero]
    exact canon_hit (S := S8x1024) iz _ _ _ (ix2 ⟨k + 3, hk⟩ d : S8x1024.Idx) (fun a => by match a with | ⟨0, _⟩ => simp | ⟨1, _⟩ => simp)

theorem rows3_B (hf : v.read (Elt Ideal) f = z) (hT : ∀ r : Fin 8, 3 ≤ r.val → T r = 0) (r : Fin 8) :
    (v.read (Elt Ideal) (v.writes (Elt Ideal) f [⟨Rect.unit ![2, 0] ![1, 1024] i2, p2⟩, ⟨Rect.unit ![1, 0] ![1, 1024] i1, p1⟩,
      ⟨Rect.unit ![0, 0] ![1, 1024] i0, p0⟩]) (ix2 r d) : EReal) = z (ix2 r d) + T r := by
  match r with
  | ⟨2, _⟩ => exact (View.read_writes_cons_unit_of_mem _ _ i2 _ _ _ (ix2 0 d : S1x1024.Idx) rfl (fun a => by match a with | ⟨0, _⟩ => rfl | ⟨1, _⟩ => simp)).trans h2
  | ⟨1, _⟩ =>
    rw [View.read_writes_cons_unit_of_not_mem _ _ i2 _ _ _ rfl (0 : Fin 2) (by left; simp)]
    exact (View.read_writes_cons_unit_of_mem _ _ i1 _ _ _ (ix2 0 d : S1x1024.Idx) rfl (fun a => by match a with | ⟨0, _⟩ => rfl | ⟨1, _⟩ => simp)).trans h1
  | ⟨0, _⟩ =>
    rw [View.read_writes_cons_unit_of_not_mem _ _ i2 _ _ _ rfl (0 : Fin 2) (by left; simp),
      View.read_writes_cons_unit_of_not_mem _ _ i1 _ _ _ rfl (0 : Fin 2) (by left; simp)]
    exact (View.read_writes_cons_unit_of_mem _ _ i0 _ _ _ (ix2 0 d : S1x1024.Idx) rfl (fun a => by match a with | ⟨0, _⟩ => rfl | ⟨1, _⟩ => simp)).trans h0
  | ⟨k + 3, hk⟩ =>
    rw [View.read_writes_cons_unit_of_not_mem _ _ i2 _ _ _ rfl (0 : Fin 2) (by right; simp),
      View.read_writes_cons_unit_of_not_mem _ _ i1 _ _ _ rfl (0 : Fin 2) (by right; simp),
      View.read_writes_cons_unit_of_not_mem _ _ i0 _ _ _ rfl (0 : Fin 2) (by right; simp), View.writes_nil, hf, hT _ (by simp), add_zero]

variable (h3 : p3 (ix2 0 d) = z (ix2 3 d) + T 3)
include h3

theorem rows4_A (hT : ∀ r : Fin 8, 4 ≤ r.val → T r = 0) (r : Fin 8) :
    (View.canon (Val := Elt Ideal) (s := S8x1024) (e := .f32) [⟨Rect.unit ![3, 0] ![1, 1024] i3, p3⟩, ⟨Rect.unit ![2, 0] ![1, 1024] i2, p2⟩,
      ⟨Rect.unit ![1, 0] ![1, 1024] i1, p1⟩, ⟨Rect.unit ![0, 0] ![1, 1024] i0, p0⟩, ⟨Rect.unit ![0, 0] ![8, 1024] iz, z⟩] (ix2 r d) : EReal)
      = z (ix2 r d) + T r := by
  match r with
  | ⟨3, _⟩ => exact (canon_hit _ _ _ _ (ix2 0 d : S1x1024.Idx) (fun a => by match a with | ⟨0, _⟩ => rfl | ⟨1, _⟩ => simp)).trans h3
  | ⟨2, _⟩ =>
    rw [canon_miss _ _ _ _ (0 : Fin 2) (by left; simp)]
    exact (canon_hit _ _ _ _ (ix2 0 d : S1x1024.Idx) (fun a => by match a with | ⟨0, _⟩ => rfl | ⟨1, _⟩ => simp)).trans h2
  | ⟨1, _⟩ =>
    rw [canon_miss _ _ _ _ (0 : Fin 2) (by left; simp), canon_miss _ _ _ _ (0 : Fin 2) (by left; simp)]
    exact (canon_hit _ _ _ _ (ix2 0 d : S1x1024.Idx) (fun a => by match a with | ⟨0, _⟩ => rfl | ⟨1, _⟩ => simp)).trans h1
  | ⟨0, _⟩ =>
    rw [canon_miss _ _ _ _ (0 : Fin 2) (by left; simp), canon_miss _ _ _ _ (0 : Fin 2) (by left; simp), canon_miss _ _ _ _ (0 : Fin 2) (by left; simp)]
    exact (canon_hit _ _ _ _ (ix2 0 d : S1x1024.Idx) (fun a => by match a with | ⟨0, _⟩ => rfl | ⟨1, _⟩ => simp)).trans h0
  | ⟨k + 4, hk⟩ =>
    rw [canon_miss _ _ _ _ (0 : Fin 2) (by right; simp), canon_miss _ _ _ _ (0 : Fin 2) (by right; simp), canon_miss _ _ _ _ (0 : Fin 2) (by right; simp),
      canon_miss _ _ _ _ (0 : Fin 2) (by right; simp), hT _ (by simp), add_zero]
    exact canon_hit (S := S8x1024) iz _ _ _ (ix2 ⟨k + 4, hk⟩ d : S8x1024.Idx) (fun a => by match a with | ⟨0, _⟩ => simp | ⟨1, _⟩ => simp)

theorem rows4_B (hf : v.read (Elt Ideal) f = z) (hT : ∀ r : Fin 8, 4 ≤ r.val → T r = 0) (r : Fin 8) :
    (v.read (Elt Ideal) (v.writes (Elt Ideal) f [⟨Rect.unit ![3, 0] ![1, 1024] i3, p3⟩, ⟨Rect.unit ![2, 0] ![1, 1024] i2, p2⟩,
      ⟨Rect.unit ![1, 0] ![1, 1024] i1, p1⟩, ⟨Rect.unit ![0, 0] ![1, 1024] i0, p0⟩]) (ix2 r d) : EReal) = z (ix2 r d) + T r := by
  match r with
  | ⟨3, _⟩ => exact (View.read_writes_cons_unit_of_mem _ _ i3 _ _ _ (ix2 0 d : S1x1024.Idx) rfl (fun a => by match a with | ⟨0, _⟩ => rfl | ⟨1, _⟩ => simp)).trans h3
  | ⟨2, _⟩ =>
    rw [View.read_writes_cons_unit_of_not_mem _ _ i3 _ _ _ rfl (0 : Fin 2) (by left; simp)]
    exact (View.read_writes_cons_unit_of_mem _ _ i2 _ _ _ (ix2 0 d : S1x1024.Idx) rfl (fun a => by match a with | ⟨0, _⟩ => rfl | ⟨1, _⟩ => simp)).trans h2
  | ⟨1, _⟩ =>
    rw [View.read_writes_cons_unit_of_not_mem _ _ i3 _ _ _ rfl (0 : Fin 2) (by left; simp),
      View.read_writes_cons_unit_of_not_mem _ _ i2 _ _ _ rfl (0 : Fin 2) (by left; simp)]
    exact (View.read_writes_cons_unit_of_mem _ _ i1 _ _ _ (ix2 0 d : S1x1024.Idx) rfl (fun a => by match a with | ⟨0, _⟩ => rfl | ⟨1, _⟩ => simp)).trans h1
  | ⟨0, _⟩ =>
    rw [View.read_writes_cons_unit_of_not_mem _ _ i3 _ _ _ rfl (0 : Fin 2) (by left; simp),
      View.read_writes_cons_unit_of_not_mem _ _ i2 _ _ _ rfl (0 : Fin 2) (by left; simp),
      View.read_writes_cons_unit_of_not_mem _ _ i1 _ _ _ rfl (0 : Fin 2) (by left; simp)]
    exact (View.read_writes_cons_unit_of_mem _ _ i0 _ _ _ (ix2 0 d : S1x1024.Idx) rfl (fun a => by match a with | ⟨0, _⟩ => rfl | ⟨1, _⟩ => simp)).trans h0
  | ⟨k + 4, hk⟩ =>
    rw [View.read_writes_cons_unit_of_not_mem _ _ i3 _ _ _ rfl (0 : Fin 2) (by right; simp),
      View.read_writes_cons_unit_of_not_mem _ _ i2 _ _ _ rfl (0 : Fin 2) (by right; simp),
      View.read_writes_cons_unit_of_not_mem _ _ i1 _ _ _ rfl (0 : Fin 2) (by right; simp),
      View.read_writes_cons_unit_of_not_mem _ _ i0 _ _ _ rfl (0 : Fin 2) (by right; simp), View.writes_nil, hf, hT _ (by simp), add_zero]

end Rows

set_option maxHeartbeats 2000000 in
theorem red_A (t : Fin cfg0.N) (r : Fin 8) (d : Fin 1024) (h0 : t.val % 16 = 0) :
    ((outsAt0 m c t.val t.isLt).2.2.2.1 : FVec Ideal S8x1024 .f32) (ix2 r d) = 0 + ∑ a : Fin 512, (opnd m c).redT r d (row t a) := by
  rw [outsAt0_A m c t h0]; frame_open
  simp (disch := decide) only [↓ View.readCov_skip, ↓ View.readCov_cons_toLoadRect, ↓ View.readCov_fill]
  frame_out
  have h1 := ahead_A m c (View.whole cc0_scratch0) t 1 (by decide) _ (dcv_of (reads m c t)) inb_S520x1024_S512x1024_0_0 inb_S520x1024_S8x1024_512_0 inb_S520x1024_S512x1024_1_0 h0
  have h2 := ahead_A m c (View.whole cc0_scratch0) t 2 (by decide) _ (dcv_of (reads m c t)) inb_S520x1024_S512x1024_0_0 inb_S520x1024_S8x1024_512_0 inb_S520x1024_S512x1024_2_0 h0
  refine Eq.trans ?_ (congrArg (· + ∑ a : Fin 512, (opnd m c).redT r d (row t a)) (pay7_at (ix2 r d)))
  exact rows4_A (T := fun r => ∑ a : Fin 512, (opnd m c).redT r d (row t a)) (z := k0_pay7) d _ _ _ _ _ ((red0_of (reads m c t) h1 h2 _ d).trans (congrArg (· + _) (ld_row _ 0 (by decide) _ d))) ((red1_of (reads m c t) h1 h2 _ d).trans (congrArg (· + _) (ld_row _ 1 (by decide) _ d))) ((red2_of (reads m c t) h1 h2 _ d).trans (congrArg (· + _) (ld_row _ 2 (by decide) _ d))) ((red3_of (reads m c t) _ d).trans (congrArg (· + _) (ld_row _ 3 (by decide) _ d)))
    (fun r hr => Finset.sum_eq_zero fun a _ => by
      simp only [In.redT]; repeat rw [if_neg (by omega)]) r

set_option maxHeartbeats 2000000 in
theorem red_B (t : Fin cfg0.N) (r : Fin 8) (d : Fin 1024) (h0 : ¬t.val % 16 = 0) :
    ((outsAt0 m c t.val t.isLt).2.2.2.1 : FVec Ideal S8x1024 .f32) (ix2 r d)
      = ((outsAt0 m c (t.val - 1) (Nat.lt_of_le_of_lt (Nat.sub_le _ _) t.isLt)).2.2.2.1 : FVec Ideal S8x1024 .f32) (ix2 r d)
        + ∑ a : Fin 512, (opnd m c).redT r d (row t a) := by
  rw [outsAt0_B m c t h0]; frame_open
  simp (disch := decide) only [↓ View.readCov_skip, ↓ View.readCov_cons_toLoadRect, ↓ View.readCov_fill]
  frame_out
  have h1 := ahead_B m c (View.whole cc0_scratch0) t 1 (by decide) _ (dcv_of (reads m c t)) inb_S520x1024_S512x1024_0_0 inb_S520x1024_S512x1024_1_0 h0 _ (Nat.lt_of_le_of_lt (Nat.sub_le _ _) t.isLt) (read_unread_whole cc0_scratch0 (Memref.isWhole_whole _) _)
  have h2 := ahead_B m c (View.whole cc0_scratch0) t 2 (by decide) _ (dcv_of (reads m c t)) inb_S520x1024_S512x1024_0_0 inb_S520x1024_S512x1024_2_0 h0 _ (Nat.lt_of_le_of_lt (Nat.sub_le _ _) t.isLt) (read_unread_whole cc0_scratch0 (Memref.isWhole_whole _) _)
  exact rows4_B (T := fun r => ∑ a : Fin 512, (opnd m c).redT r d (row t a)) _ _ d _ _ _ _ ((red0_of (reads m c t) h1 h2 _ d).trans (congrArg (· + _) (ld_row _ 0 (by decide) _ d))) ((red1_of (reads m c t) h1 h2 _ d).trans (congrArg (· + _) (ld_row _ 1 (by decide) _ d))) ((red2_of (reads m c t) h1 h2 _ d).trans (congrArg (· + _) (ld_row _ 2 (by decide) _ d))) ((red3_of (reads m c t) _ d).trans (congrArg (· + _) (ld_row _ 3 (by decide) _ d))) (Memref.IsWhole.read_unread _ _)
    (fun r hr => Finset.sum_eq_zero fun a _ => by
      simp only [In.redT]; repeat rw [if_neg (by omega)]) r

set_option maxHeartbeats 2000000 in
theorem dcw_A (t : Fin cfg0.N) (r : Fin 8) (d : Fin 1024) (h0 : t.val % 16 = 0) :
    ((outsAt0 m c t.val t.isLt).2.2.2.2.1 : FVec Ideal S8x1024 .f32) (ix2 r d) = 0 + ∑ a : Fin 512, (opnd m c).dcwT r d (row t a) := by
  rw [outsAt0_A m c t h0]; frame_open
  simp (disch := decide) only [↓ View.readCov_skip, ↓ View.readCov_cons_toLoadRect, ↓ View.readCov_fill]
  frame_out
  have h1 := ahead_A m c (View.whole cc0_scratch0) t 1 (by decide) _ (dcv_of (reads m c t)) inb_S520x1024_S512x1024_0_0 inb_S520x1024_S8x1024_512_0 inb_S520x1024_S512x1024_1_0 h0
  have h2 := ahead_A m c (View.whole cc0_scratch0) t 2 (by decide) _ (dcv_of (reads m c t)) inb_S520x1024_S512x1024_0_0 inb_S520x1024_S8x1024_512_0 inb_S520x1024_S512x1024_2_0 h0
  refine Eq.trans ?_ (congrArg (· + ∑ a : Fin 512, (opnd m c).dcwT r d (row t a)) (pay6_at (ix2 r d)))
  exact rows3_A (T := fun r => ∑ a : Fin 512, (opnd m c).dcwT r d (row t a)) (z := k0_pay6) d _ _ _ _ ((dcw0_of (reads m c t) h2 _ d).trans (congrArg (· + _) (ld_row _ 0 (by decide) _ d))) ((dcw1_of (reads m c t) h1 _ d).trans (congrArg (· + _) (ld_row _ 1 (by decide) _ d))) ((dcw2_of (reads m c t) _ d).trans (congrArg (· + _) (ld_row _ 2 (by decide) _ d)))
    (fun r hr => Finset.sum_eq_zero fun a _ => by
      simp only [In.dcwT]; repeat rw [if_neg (by omega)]) r

set_option maxHeartbeats 2000000 in
theorem dcw_B (t : Fin cfg0.N) (r : Fin 8) (d : Fin 1024) (h0 : ¬t.val % 16 = 0) :
    ((outsAt0 m c t.val t.isLt).2.2.2.2.1 : FVec Ideal S8x1024 .f32) (ix2 r d)
      = ((outsAt0 m c (t.val - 1) (Nat.lt_of_le_of_lt (Nat.sub_le _ _) t.isLt)).2.2.2.2.1 : FVec Ideal S8x1024 .f32) (ix2 r d)
        + ∑ a : Fin 512, (opnd m c).dcwT r d (row t a) := by
  rw [outsAt0_B m c t h0]; frame_open
  simp (disch := decide) only [↓ View.readCov_skip, ↓ View.readCov_cons_toLoadRect, ↓ View.readCov_fill]
  frame_out
  have h1 := ahead_B m c (View.whole cc0_scratch0) t 1 (by decide) _ (dcv_of (reads m c t)) inb_S520x1024_S512x1024_0_0 inb_S520x1024_S512x1024_1_0 h0 _ (Nat.lt_of_le_of_lt (Nat.sub_le _ _) t.isLt) (read_unread_whole cc0_scratch0 (Memref.isWhole_whole _) _)
  have h2 := ahead_B m c (View.whole cc0_scratch0) t 2 (by decide) _ (dcv_of (reads m c t)) inb_S520x1024_S512x1024_0_0 inb_S520x1024_S512x1024_2_0 h0 _ (Nat.lt_of_le_of_lt (Nat.sub_le _ _) t.isLt) (read_unread_whole cc0_scratch0 (Memref.isWhole_whole _) _)
  exact rows3_B (T := fun r => ∑ a : Fin 512, (opnd m c).dcwT r d (row t a)) _ _ d _ _ _ ((dcw0_of (reads m c t) h2 _ d).trans (congrArg (· + _) (ld_row _ 0 (by decide) _ d))) ((dcw1_of (reads m c t) h1 _ d).trans (congrArg (· + _) (ld_row _ 1 (by decide) _ d))) ((dcw2_of (reads m c t) _ d).trans (congrArg (· + _) (ld_row _ 2 (by decide) _ d))) (Memref.IsWhole.read_unread _ _)
    (fun r hr => Finset.sum_eq_zero fun a _ => by
      simp only [In.dcwT]; repeat rw [if_neg (by omega)]) r

/-- The running sums after the last tile, as one array. -/
theorem arr11 : (dats m 0 c).arrAt 11 cfg0.N = fun i : S8x1024.Idx => (opnd m c).red (i 0) (i 1) := by
  refine (dats m 0 c).arrAt_eq_of_after_last 11 t0_15 (by decide +kernel) _ fun j => ?_
  blk_simp
  obtain ⟨r, d, rfl⟩ : ∃ r d, j = ix2 r d := ⟨_, _, eq_ix2 j⟩
  rw [after0_11, Pipeline.eq_sum_fin_of_reset_step_apply_last (fun n h => (outsAt0 m c n h).2.2.2.1) 16 (fun _ => 0)
    (fun t i => ∑ a : Fin 512, (opnd m c).redT (i 0) (i 1) (row t a))
    (fun t h i => (congrArg _ (eq_ix2 i)).trans (red_A m c t (i 0) (i 1) h)) (fun t h i => by
      rw [eq_ix2 i]; exact red_B m c t (i 0) (i 1) h) (le_of_eq N_0) t0_15 rfl, zero_add]
  exact sum_rows fun l => (opnd m c).redT r d l

theorem arr12 : (dats m 0 c).arrAt 12 cfg0.N = fun i : S8x1024.Idx => (opnd m c).dcw (i 0) (i 1) := by
  refine (dats m 0 c).arrAt_eq_of_after_last 12 t0_15 (by decide +kernel) _ fun j => ?_
  blk_simp
  obtain ⟨r, d, rfl⟩ : ∃ r d, j = ix2 r d := ⟨_, _, eq_ix2 j⟩
  rw [after0_12, Pipeline.eq_sum_fin_of_reset_step_apply_last (fun n h => (outsAt0 m c n h).2.2.2.2.1) 16 (fun _ => 0)
    (fun t i => ∑ a : Fin 512, (opnd m c).dcwT (i 0) (i 1) (row t a))
    (fun t h i => (congrArg _ (eq_ix2 i)).trans (dcw_A m c t (i 0) (i 1) h)) (fun t h i => by
      rw [eq_ix2 i]; exact dcw_B m c t (i 0) (i 1) h) (le_of_eq N_0) t0_15 rfl, zero_add]
  exact sum_rows fun l => (opnd m c).dcwT r d l

end Cert.KernelIdeal.Tile
-- ==== Proof.Host.lean ====
module

public import proofs.«01_k».proof.Proof.Blocks
public import proofs.«01_k».proof.Proof.Gen.ReferenceIdeal.Read
public import Idealize.ShloMosaic.Lib.StableHlo.ReadAt

@[expose] public section

set_option maxRecDepth 16384

noncomputable section

namespace Cert.KernelIdeal.Tile

open Cert.KernelIdeal Cert.KernelIdeal.Gen Idealize.ShloMosaic Idealize.ShloMosaic.TcCoe Idealize.SL.Sem
open Cert.ReferenceIdeal.Read

variable (m : (ℓ : Loc nD τ sig) → Buf (Elt Ideal) ℓ) (c : Dev nD)

/-! What the host leaves in the arrays that the call reads, as the reference's own values of the arguments. -/

theorem V_v82 : (V m c main_v82 : FVec Ideal S8192x1024 .bf16) = fun i => (val_main_v53 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) i : EReal) := by
  entry_read
  rfl

/-- Four arrays stacked along a new first axis. -/
def stk (a b c d : FVec Ideal S1x8192x1024 .f32) : FVec Ideal S4x8192x1024 .bf16 :=
  truncf .bf16 (concatenate S4x8192x1024 0 [⟨S1x8192x1024, a⟩, ⟨S1x8192x1024, b⟩, ⟨S1x8192x1024, c⟩, ⟨S1x8192x1024, d⟩] concatenates_S1x8192x1024_S1x8192x1024_S1x8192x1024_S1x8192x1024_S4x8192x1024_d0) bitsLt_bf16_f32

theorem stk0 (a b c d : FVec Ideal S1x8192x1024 .f32) (t k) : (stk a b c d (ix3 0 t k) : EReal) = a (ix3 0 t k) := by pointwise [stk]
theorem stk1 (a b c d : FVec Ideal S1x8192x1024 .f32) (t k) : (stk a b c d (ix3 1 t k) : EReal) = b (ix3 0 t k) := by pointwise [stk]
theorem stk2 (a b c d : FVec Ideal S1x8192x1024 .f32) (t k) : (stk a b c d (ix3 2 t k) : EReal) = c (ix3 0 t k) := by pointwise [stk]
theorem stk3 (a b c d : FVec Ideal S1x8192x1024 .f32) (t k) : (stk a b c d (ix3 3 t k) : EReal) = d (ix3 0 t k) := by pointwise [stk]

set_option maxHeartbeats 2000000 in
theorem V_v53 : (V m c main_v53 : FVec Ideal S4x8192x1024 .bf16) = stk (broadcastInDim S1x8192x1024 ![1, 2] bcast_S8192x1024_S1x8192x1024_1_2 (val_main_v25 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)))) (broadcastInDim S1x8192x1024 ![1, 2] bcast_S8192x1024_S1x8192x1024_1_2 (val_main_v26 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)))) (broadcastInDim S1x8192x1024 ![1, 2] bcast_S8192x1024_S1x8192x1024_1_2 (val_main_v27 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)))) (broadcastInDim S1x8192x1024 ![1, 2] bcast_S8192x1024_S1x8192x1024_1_2 (val_main_v51 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)))) := by
  unfold_abbrev_sides
  after_reads_simp
  rfl

theorem V_v53_0 (t : Fin 8192) (k : Fin 1024) : ((V m c main_v53 : FVec Ideal S4x8192x1024 .bf16) (ix3 0 t k) : EReal) = val_main_v25 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (ix2 t k) := by
  rw [V_v53, stk0]
  generalize val_main_v25 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) = B
  pointwise

theorem V_v53_1 (t : Fin 8192) (k : Fin 1024) : ((V m c main_v53 : FVec Ideal S4x8192x1024 .bf16) (ix3 1 t k) : EReal) = val_main_v26 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (ix2 t k) := by
  rw [V_v53, stk1]
  generalize val_main_v26 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) = B
  pointwise

theorem V_v53_2 (t : Fin 8192) (k : Fin 1024) : ((V m c main_v53 : FVec Ideal S4x8192x1024 .bf16) (ix3 2 t k) : EReal) = val_main_v27 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (ix2 t k) := by
  rw [V_v53, stk2]
  generalize val_main_v27 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) = B
  pointwise

theorem V_v53_3 (t : Fin 8192) (k : Fin 1024) : ((V m c main_v53 : FVec Ideal S4x8192x1024 .bf16) (ix3 3 t k) : EReal) = val_main_v51 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (ix2 t k) := by
  rw [V_v53, stk3]
  generalize val_main_v51 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) = B
  pointwise

theorem V_v91_0 (d : Fin 1024) : ((V m c main_v91 : FVec Ideal S8x1024 .f32) (ix2 0 d) : EReal) = (m ((c.tc : Thread nD τ).loc main_arg1) : FVec Ideal S1024 .f32) (ix1 d) := by
  unfold_abbrev_sides
  after_reads_at
  rw [StableHlo.reshape_result']
  after_reads_at

theorem V_v91_1 (d : Fin 1024) : ((V m c main_v91 : FVec Ideal S8x1024 .f32) (ix2 1 d) : EReal) = (m ((c.tc : Thread nD τ).loc main_arg3) : FVec Ideal S1024 .f32) (ix1 d) := by
  unfold_abbrev_sides
  after_reads_at
  rw [StableHlo.reshape_result']
  after_reads_at

theorem V_v91_3 (d : Fin 1024) : ((V m c main_v91 : FVec Ideal S8x1024 .f32) (ix2 3 d) : EReal) = (m ((c.tc : Thread nD τ).loc main_arg4) : FVec Ideal S1024 .f32) (ix1 d) := by
  unfold_abbrev_sides
  after_reads_at
  rw [StableHlo.reshape_result']
  after_reads_at

theorem V_v102_0 (d : Fin 1024) : ((V m c main_v102 : FVec Ideal S8x1024 .f32) (ix2 0 d) : EReal) = (m ((c.tc : Thread nD τ).loc main_arg6) : FVec Ideal S3x1024 .f32) (ix2 0 d) := by
  unfold_abbrev_sides
  after_reads_at
  rw [StableHlo.reshape_result']
  after_reads_at

theorem V_v102_1 (d : Fin 1024) : ((V m c main_v102 : FVec Ideal S8x1024 .f32) (ix2 1 d) : EReal) = (m ((c.tc : Thread nD τ).loc main_arg6) : FVec Ideal S3x1024 .f32) (ix2 1 d) := by
  unfold_abbrev_sides
  after_reads_at
  rw [StableHlo.reshape_result']
  after_reads_at

theorem V_v102_2 (d : Fin 1024) : ((V m c main_v102 : FVec Ideal S8x1024 .f32) (ix2 2 d) : EReal) = (m ((c.tc : Thread nD τ).loc main_arg6) : FVec Ideal S3x1024 .f32) (ix2 2 d) := by
  unfold_abbrev_sides
  after_reads_at
  rw [StableHlo.reshape_result']
  after_reads_at

theorem V_v103 (k d : Fin 1024) : ((V m c main_v103 : FVec Ideal S1024x1024 .bf16) (ix2 k d) : EReal) = (m ((c.tc : Thread nD τ).loc main_arg7) : FVec Ideal S1024x1024 .f32) (ix2 k d) := by
  unfold_abbrev_sides
  after_reads_at

theorem V_v85 (d : Fin 1024) (j : Fin 3072) : ((V m c main_v85 : FVec Ideal S4x1024x768 .bf16) (ix3 ⟨j.val / 768, by omega⟩ d ⟨j.val % 768, by omega⟩) : EReal)
    = (m ((c.tc : Thread nD τ).loc main_arg5) : FVec Ideal S1024x3072 .f32) (ix2 d j) := by
  unfold_abbrev_sides
  after_reads_at
  exact congrArg (fun k => (m (c.tc.loc main_arg5) : FVec Ideal S1024x3072 .f32) (ix2 d k)) (Fin.ext (Nat.div_add_mod' _ _))

/-- The operands as functions of the arguments. -/
def opr (x0 : FVec Ideal S8192x1024 .f32) (x1 x2 x3 x4 : FVec Ideal S1024 .f32) (x5 : FVec Ideal S1024x3072 .f32) (x6 : FVec Ideal S3x1024 .f32)
    (x7 : FVec Ideal S1024x1024 .f32) (x8 : FVec Ideal S8192x1024 .f32) : ConvSpec.In where
  ct t d := x8 (ix2 t d)
  x t d := x0 (ix2 t d)
  y t d := val_main_v53 (F := Ideal) x0 x1 x2 x3 x5 x6 x7 (ix2 t d)
  b t d := val_main_v25 (F := Ideal) x0 x1 x2 x3 x5 (ix2 t d)
  cg t d := val_main_v26 (F := Ideal) x0 x1 x2 x3 x5 (ix2 t d)
  u t d := val_main_v27 (F := Ideal) x0 x1 x2 x3 x5 (ix2 t d)
  conv t d := val_main_v51 (F := Ideal) x0 x1 x2 x3 x5 x6 (ix2 t d)
  g d := x1 (ix1 d)
  sc d := x3 (ix1 d)
  gt d := x4 (ix1 d)
  cw r d := x6 (ix2 r d)
  wo k d := x7 (ix2 k d)
  wi d j := x5 (ix2 d j)

theorem opnd_eq : opnd m c = opr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [opnd, opr, ConvSpec.In.mk.injEq]
  refine ⟨?_, ?_, ?_, ?_, ?_, ?_, ?_, ?_, ?_, ?_, ?_, ?_, ?_⟩
  · exact funext₂ fun t d => congrFun (V_main_arg8 m c) (ix2 t d)
  · exact funext₂ fun t d => congrFun (V_main_arg0 m c) (ix2 t d)
  · exact funext₂ fun t d => congrFun (V_v82 m c) (ix2 t d)
  · exact funext₂ fun t d => V_v53_0 m c t d
  · exact funext₂ fun t d => V_v53_1 m c t d
  · exact funext₂ fun t d => V_v53_2 m c t d
  · exact funext₂ fun t d => V_v53_3 m c t d
  · exact funext fun d => V_v91_0 m c d
  · exact funext fun d => V_v91_1 m c d
  · exact funext fun d => V_v91_3 m c d
  · refine funext₂ fun r d => ?_
    match r with
    | ⟨0, _⟩ => exact V_v102_0 m c d
    | ⟨1, _⟩ => exact V_v102_1 m c d
    | ⟨2, _⟩ => exact V_v102_2 m c d
  · exact funext₂ fun k d => V_v103 m c k d
  · exact funext₂ fun d j => V_v85 m c d j

end Cert.KernelIdeal.Tile
-- ==== Proof.Ref.lean ====
module

public import proofs.«01_k».proof.Proof.Host

@[expose] public section

set_option maxRecDepth 16384

noncomputable section

namespace Cert.ReferenceIdeal.Conv

open Cert.ReferenceIdeal Cert.ReferenceIdeal.Gen Idealize.ShloMosaic Idealize.ShloMosaic.TcCoe Idealize.SL.Sem
open Cert.ReferenceIdeal.Read Cert.ConvSpec Cert.KernelIdeal.Pay Cert.KernelIdeal.Tile

variable (x0 : FVec Ideal S8192x1024 .f32) (x1 x2 x3 x4 : FVec Ideal S1024 .f32) (x5 : FVec Ideal S1024x3072 .f32) (x6 : FVec Ideal S3x1024 .f32)
    (x7 : FVec Ideal S1024x1024 .f32) (x8 : FVec Ideal S8192x1024 .f32)

/-! The reference's values, stage by stage, in the words of `ConvSpec`. -/

theorem dy_at (t : Fin 8192) (d : Fin 1024) : ((val_main_v62 (F := Ideal) x4 x8) (ix2 t d) : EReal) = (opr x0 x1 x2 x3 x4 x5 x6 x7 x8).dy t d := by
  pointwise [val_main_v62, val_main_v61, val_main_v60, val_main_v56, val_main_v55, val_main_v54, val_main_cst_6, In.dy, opr]

theorem dz_at (t : Fin 8192) (d : Fin 1024) : ((val_main_v69 (F := Ideal) x4 x7 x8) (ix2 t d) : EReal) = (opr x0 x1 x2 x3 x4 x5 x6 x7 x8).dz t d := by
  rw [In.dz]
  simp only [← dy_at]
  generalize e : (val_main_v62 (F := Ideal) x4 x8) = D
  rw [val_main_v69, e]
  pointwise [opr]

theorem dcv_at (t : Fin 8192) (d : Fin 1024) : ((val_main_v70 (F := Ideal) x0 x1 x2 x3 x4 x5 x7 x8) (ix2 t d) : EReal) = (opr x0 x1 x2 x3 x4 x5 x6 x7 x8).dcv t d := by
  rw [In.dcv, ← dz_at, mul_comm, val_main_v70]
  pointwise [opr]

theorem db_at (t : Fin 8192) (d : Fin 1024) : ((val_main_v71 (F := Ideal) x0 x1 x2 x3 x4 x5 x6 x7 x8) (ix2 t d) : EReal) = (opr x0 x1 x2 x3 x4 x5 x6 x7 x8).dz t d * (opr x0 x1 x2 x3 x4 x5 x6 x7 x8).conv t d := by
  rw [← dz_at, val_main_v71]
  pointwise [opr]

theorem tap2_at (t : Fin 8192) (d : Fin 1024) : ((val_main_v73 (F := Ideal) x0 x1 x2 x3 x4 x5 x6 x7 x8) (ix2 t d) : EReal) = (opr x0 x1 x2 x3 x4 x5 x6 x7 x8).cw 2 d * (opr x0 x1 x2 x3 x4 x5 x6 x7 x8).dcv t d := by
  rw [← dcv_at]
  generalize e : (val_main_v70 (F := Ideal) x0 x1 x2 x3 x4 x5 x7 x8) = D
  rw [val_main_v73, e]
  pointwise [val_main_v72, val_main_v48, val_main_v46, val_main_v45, opr]

theorem tap1_at (t : Fin 8192) (d : Fin 1024) : ((val_main_v82 (F := Ideal) x0 x1 x2 x3 x4 x5 x6 x7 x8) (ix2 t d) : EReal) = (opr x0 x1 x2 x3 x4 x5 x6 x7 x8).cw 1 d * (opr x0 x1 x2 x3 x4 x5 x6 x7 x8).dcv t d := by
  rw [← dcv_at]
  generalize e : (val_main_v70 (F := Ideal) x0 x1 x2 x3 x4 x5 x7 x8) = D
  rw [val_main_v82, e]
  pointwise [val_main_v81, val_main_v41, val_main_v39, val_main_v38, opr]

theorem tap0_at (t : Fin 8192) (d : Fin 1024) : ((val_main_v93 (F := Ideal) x0 x1 x2 x3 x4 x5 x6 x7 x8) (ix2 t d) : EReal) = (opr x0 x1 x2 x3 x4 x5 x6 x7 x8).cw 0 d * (opr x0 x1 x2 x3 x4 x5 x6 x7 x8).dcv t d := by
  rw [← dcv_at]
  generalize e : (val_main_v70 (F := Ideal) x0 x1 x2 x3 x4 x5 x7 x8) = D
  rw [val_main_v93, e]
  pointwise [val_main_v92, val_main_v35, val_main_v33, val_main_v32, opr]

theorem dv_at (t : Fin 8192) (d : Fin 1024) : ((val_main_v104 (F := Ideal) x0 x1 x2 x3 x4 x5 x6 x7 x8) (ix2 t d) : EReal) = (opr x0 x1 x2 x3 x4 x5 x6 x7 x8).dv t d := by
  rw [In.dv, ← tap2_at, val_main_v104, val_main_v99, val_main_v88, val_main_v78, val_main_v87, val_main_v98]
  have h1 : (opr x0 x1 x2 x3 x4 x5 x6 x7 x8).cw 1 d * ahead (opr x0 x1 x2 x3 x4 x5 x6 x7 x8).dcv 1 t d = if h : t.val + 1 < 8192 then (val_main_v82 (F := Ideal) x0 x1 x2 x3 x4 x5 x6 x7 x8) (ix2 ⟨t.val + 1, h⟩ d) else 0 := by
    unfold ahead
    by_cases h : t.val + 1 < 8192
    · rw [dif_pos h, dif_pos h, tap1_at]
    · rw [dif_neg h, dif_neg h, mul_zero]
  have h0 : (opr x0 x1 x2 x3 x4 x5 x6 x7 x8).cw 0 d * ahead (opr x0 x1 x2 x3 x4 x5 x6 x7 x8).dcv 2 t d = if h : t.val + 2 < 8192 then (val_main_v93 (F := Ideal) x0 x1 x2 x3 x4 x5 x6 x7 x8) (ix2 ⟨t.val + 2, h⟩ d) else 0 := by
    unfold ahead
    by_cases h : t.val + 2 < 8192
    · rw [dif_pos h, dif_pos h, tap0_at]
    · rw [dif_neg h, dif_neg h, mul_zero]
  rw [h1, h0]
  generalize (val_main_v73 (F := Ideal) x0 x1 x2 x3 x4 x5 x6 x7 x8) = D2
  generalize (val_main_v82 (F := Ideal) x0 x1 x2 x3 x4 x5 x6 x7 x8) = D1
  generalize (val_main_v93 (F := Ideal) x0 x1 x2 x3 x4 x5 x6 x7 x8) = D0
  pointwise [val_main_cst_11, val_main_cst_15, val_main_cst_19]
  refine congrArg₂ (· + ·) (congrArg₂ (· + ·) rfl ?_) ?_
  · refine dite_congr (propext (by omega)) (fun h => ?_) fun _ => rfl
    exact congrArg D1 (congrArg (ix2 · d) (Fin.ext (by show 2 + t.val - 1 = t.val + 1; omega)))
  · refine dite_congr (propext (by omega)) (fun h => ?_) fun _ => rfl
    exact congrArg D0 (congrArg (ix2 · d) (Fin.ext (by show 2 + t.val = t.val + 2; omega)))

theorem dbcu_at (t : Fin 8192) (j : Fin 3072) : ((val_main_v107 (F := Ideal) x0 x1 x2 x3 x4 x5 x6 x7 x8) (ix2 t j) : EReal) = (opr x0 x1 x2 x3 x4 x5 x6 x7 x8).dbcu t j := by
  have hc : ∀ d, (val_main_v105 (F := Ideal) x0 x1 x2 x3 x4 x5 x6 x7 x8) (ix2 t d) = (opr x0 x1 x2 x3 x4 x5 x6 x7 x8).dv t d * (opr x0 x1 x2 x3 x4 x5 x6 x7 x8).cg t d := by
    intro d
    rw [val_main_v105, ← dv_at, mul_comm]
    generalize (val_main_v104 (F := Ideal) x0 x1 x2 x3 x4 x5 x6 x7 x8) = D
    pointwise [opr]
  have hb : ∀ d, (val_main_v106 (F := Ideal) x0 x1 x2 x3 x4 x5 x6 x7 x8) (ix2 t d) = (opr x0 x1 x2 x3 x4 x5 x6 x7 x8).dv t d * (opr x0 x1 x2 x3 x4 x5 x6 x7 x8).u t d := by
    intro d
    rw [val_main_v106, ← dv_at]
    generalize (val_main_v104 (F := Ideal) x0 x1 x2 x3 x4 x5 x6 x7 x8) = D
    pointwise [opr]
  rw [In.dbcu]
  unfold cat
  simp only [← hc, ← hb, ← db_at]
  rw [val_main_v107]
  generalize (val_main_v71 (F := Ideal) x0 x1 x2 x3 x4 x5 x6 x7 x8) = D2
  generalize (val_main_v105 (F := Ideal) x0 x1 x2 x3 x4 x5 x6 x7 x8) = D1
  generalize (val_main_v106 (F := Ideal) x0 x1 x2 x3 x4 x5 x6 x7 x8) = D0
  pointwise

theorem dh_at (t : Fin 8192) (d : Fin 1024) : ((val_main_v110 (F := Ideal) x0 x1 x2 x3 x4 x5 x6 x7 x8) (ix2 t d) : EReal) = (opr x0 x1 x2 x3 x4 x5 x6 x7 x8).dh t d := by
  rw [In.dh]
  simp only [← dbcu_at]
  generalize e : (val_main_v107 (F := Ideal) x0 x1 x2 x3 x4 x5 x6 x7 x8) = D
  rw [val_main_v110, e]
  pointwise [opr]

theorem xh_at (t : Fin 8192) (d : Fin 1024) : ((val_main_v12 (F := Ideal) x0) (ix2 t d) : EReal) = (opr x0 x1 x2 x3 x4 x5 x6 x7 x8).xh t d := by
  pointwise [val_main_v12, val_main_v11, val_main_v7, val_main_v6, val_main_v5, val_main_v4, val_main_v3, val_main_v2, val_main_v1, val_main_v0,
    val_main_cst, val_main_cst_0, val_main_cst_1, In.xh, opr, rstd]

theorem gate_row (d : Fin 1024) : ((val_main_v66 (F := Ideal) x0 x1 x2 x3 x5 x6 x7 x8) (ix1 d) : EReal) = ∑ t : Fin 8192, (opr x0 x1 x2 x3 x4 x5 x6 x7 x8).ct t d * (opr x0 x1 x2 x3 x4 x5 x6 x7 x8).y t d := by
  rw [val_main_v66, val_main_v65, val_main_v64, val_main_v63]
  generalize e : (val_main_v53 (F := Ideal) x0 x1 x2 x3 x5 x6 x7) = Y
  pointwise [val_main_v60, val_main_cst_7, val_main_cst_8, opr, e]
  exact Fin.sum_univ_one _

theorem shift_row (d : Fin 1024) : ((val_main_v113 (F := Ideal) x0 x1 x2 x3 x4 x5 x6 x7 x8) (ix1 d) : EReal) = ∑ t : Fin 8192, (opr x0 x1 x2 x3 x4 x5 x6 x7 x8).dh t d := by
  simp only [← dh_at]
  rw [val_main_v113, val_main_v112, val_main_v111]
  generalize (val_main_v110 (F := Ideal) x0 x1 x2 x3 x4 x5 x6 x7 x8) = D
  pointwise [val_main_cst_21, val_main_cst_22]
  exact Fin.sum_univ_one _

theorem scale_row (d : Fin 1024) : ((val_main_v119 (F := Ideal) x0 x1 x2 x3 x4 x5 x6 x7 x8) (ix1 d) : EReal) = ∑ t : Fin 8192, (opr x0 x1 x2 x3 x4 x5 x6 x7 x8).dh t d * ((opr x0 x1 x2 x3 x4 x5 x6 x7 x8).xh t d * (opr x0 x1 x2 x3 x4 x5 x6 x7 x8).g d) := by
  simp only [← dh_at, ← xh_at]
  rw [val_main_v119, val_main_v116, val_main_v115, val_main_v114, val_main_v15]
  generalize (val_main_v110 (F := Ideal) x0 x1 x2 x3 x4 x5 x6 x7 x8) = D
  generalize (val_main_v12 (F := Ideal) x0) = X
  have hc : ∀ t, D (ix2 t d) * (X (ix2 t d) * (opr x0 x1 x2 x3 x4 x5 x6 x7 x8).g d) = X (ix2 t d) * x1 (ix1 d) * D (ix2 t d) := fun t => mul_comm _ _
  simp only [hc]
  pointwise [val_main_v14, val_main_v13, val_main_cst_23, val_main_cst_24]
  exact Fin.sum_univ_one _

theorem g_row (d : Fin 1024) : ((val_main_v125 (F := Ideal) x0 x1 x2 x3 x4 x5 x6 x7 x8) (ix1 d) : EReal) = ∑ t : Fin 8192, (opr x0 x1 x2 x3 x4 x5 x6 x7 x8).dh t d * (1 + (opr x0 x1 x2 x3 x4 x5 x6 x7 x8).sc d) * (opr x0 x1 x2 x3 x4 x5 x6 x7 x8).xh t d := by
  simp only [← dh_at, ← xh_at]
  rw [val_main_v125, val_main_v122, val_main_v121, val_main_v120, val_main_v118]
  generalize (val_main_v110 (F := Ideal) x0 x1 x2 x3 x4 x5 x6 x7 x8) = D
  generalize (val_main_v12 (F := Ideal) x0) = X
  have hc : ∀ t, D (ix2 t d) * (1 + (opr x0 x1 x2 x3 x4 x5 x6 x7 x8).sc d) * X (ix2 t d) = X (ix2 t d) * (D (ix2 t d) * (1 + x3 (ix1 d))) := fun t => mul_comm _ _
  simp only [hc]
  pointwise [val_main_v117, val_main_v18, val_main_v17, val_main_v16, val_main_cst_3, val_main_cst_25, val_main_cst_26]
  exact Fin.sum_univ_one _

theorem red_at (r : Fin 8) (d : Fin 1024) : ((val_main_v146 (F := Ideal) x0 x1 x2 x3 x4 x5 x6 x7 x8) (ix2 r d) : EReal) = (opr x0 x1 x2 x3 x4 x5 x6 x7 x8).red r d := by
  have e : ∀ d, (val_main_v125 (F := Ideal) x0 x1 x2 x3 x4 x5 x6 x7 x8) (ix1 d) = (opr x0 x1 x2 x3 x4 x5 x6 x7 x8).red 0 d := fun d => g_row ..
  have e1 : ∀ d, (val_main_v119 (F := Ideal) x0 x1 x2 x3 x4 x5 x6 x7 x8) (ix1 d) = (opr x0 x1 x2 x3 x4 x5 x6 x7 x8).red 1 d := fun d => scale_row ..
  have e2 : ∀ d, (val_main_v113 (F := Ideal) x0 x1 x2 x3 x4 x5 x6 x7 x8) (ix1 d) = (opr x0 x1 x2 x3 x4 x5 x6 x7 x8).red 2 d := fun d => shift_row ..
  have e3 : ∀ d, (val_main_v66 (F := Ideal) x0 x1 x2 x3 x5 x6 x7 x8) (ix1 d) = (opr x0 x1 x2 x3 x4 x5 x6 x7 x8).red 3 d := fun d => gate_row ..
  have e4 : ∀ r : Fin 8, 4 ≤ r.val → (opr x0 x1 x2 x3 x4 x5 x6 x7 x8).red r d = 0 := by
    intro r h
    have hz : ∀ t, (opr x0 x1 x2 x3 x4 x5 x6 x7 x8).redT r d t = 0 := by
      intro t
      unfold In.redT
      rw [if_neg (by omega), if_neg (by omega), if_neg (by omega), if_neg (by omega)]
    rw [In.red]
    simp only [hz, Finset.sum_const_zero]
  rw [val_main_v146, val_main_v144, val_main_v140, val_main_v141, val_main_v142, val_main_v143]
  generalize (val_main_v125 (F := Ideal) x0 x1 x2 x3 x4 x5 x6 x7 x8) = D0 at e ⊢
  generalize (val_main_v119 (F := Ideal) x0 x1 x2 x3 x4 x5 x6 x7 x8) = D1 at e1 ⊢
  generalize (val_main_v113 (F := Ideal) x0 x1 x2 x3 x4 x5 x6 x7 x8) = D2 at e2 ⊢
  generalize (val_main_v66 (F := Ideal) x0 x1 x2 x3 x5 x6 x7 x8) = D3 at e3 ⊢
  generalize (opr x0 x1 x2 x3 x4 x5 x6 x7 x8).red = R at *
  obtain rfl | rfl | rfl | rfl | rfl | rfl | rfl | rfl : r = 0 ∨ r = 1 ∨ r = 2 ∨ r = 3 ∨ r = 4 ∨ r = 5 ∨ r = 6 ∨ r = 7 := by
    revert r; decide
  · refine Eq.trans ?_ (e d)
    pointwise
  · refine Eq.trans ?_ (e1 d)
    pointwise
  · refine Eq.trans ?_ (e2 d)
    pointwise
  · refine Eq.trans ?_ (e3 d)
    pointwise
  · refine Eq.trans ?_ (e4 4 (by decide)).symm
    pointwise [val_main_v145, val_main_cst_30]
  · refine Eq.trans ?_ (e4 5 (by decide)).symm
    pointwise [val_main_v145, val_main_cst_30]
  · refine Eq.trans ?_ (e4 6 (by decide)).symm
    pointwise [val_main_v145, val_main_cst_30]
  · refine Eq.trans ?_ (e4 7 (by decide)).symm
    pointwise [val_main_v145, val_main_cst_30]

/-- A sum against a row shifted down is the sum of the other factor shifted up. -/
theorem sum_shift (f : Fin 8192 → Fin 1024 → EReal) (w : Fin 8192 → EReal) (n : ℕ) (hn : n ≤ 8192) (d : Fin 1024) :
    ∑ t : Fin 8192, f t d * (if h : t.val < n then 0 else w ⟨t.val - n, by omega⟩) = ∑ t : Fin 8192, ahead f n t d * w t := by
  have h1 := Fin.sum_univ_eq_sum_range (fun i => if h : i < 8192 then f ⟨i, h⟩ d * (if h' : i < n then 0 else w ⟨i - n, by omega⟩) else 0) 8192
  have h2 := Fin.sum_univ_eq_sum_range (fun i => if h : i < 8192 then ahead f n ⟨i, h⟩ d * w ⟨i, h⟩ else 0) 8192
  have e1 : ∀ i : Fin 8192, (if h : i.val < 8192 then f ⟨i.val, h⟩ d * (if h' : i.val < n then 0 else w ⟨i.val - n, by omega⟩) else 0)
      = f i d * (if h' : i.val < n then 0 else w ⟨i.val - n, by omega⟩) := fun i => dif_pos i.isLt
  have e2 : ∀ i : Fin 8192, (if h : i.val < 8192 then ahead f n ⟨i.val, h⟩ d * w ⟨i.val, h⟩ else 0) = ahead f n i d * w i := fun i => dif_pos i.isLt
  simp only [e1] at h1
  simp only [e2] at h2
  rw [h1, h2]

  have hl : ∀ F : ℕ → EReal, ∑ i ∈ Finset.range 8192, F i = ∑ i ∈ Finset.range n, F i + ∑ i ∈ Finset.range (8192 - n), F (n + i) := fun F => by
    rw [← Finset.sum_range_add, Nat.add_sub_cancel' hn]
  have hr : ∀ F : ℕ → EReal, ∑ i ∈ Finset.range 8192, F i = ∑ i ∈ Finset.range (8192 - n), F i + ∑ i ∈ Finset.range n, F (8192 - n + i) := fun F => by
    rw [← Finset.sum_range_add, Nat.sub_add_cancel hn]
  rw [hl, hr, Finset.sum_eq_zero (s := Finset.range n), Finset.sum_eq_zero (s := Finset.range n), zero_add, add_zero]
  · refine Finset.sum_congr rfl fun i hi => ?_
    have hi' := Finset.mem_range.mp hi
    have hx : i + n < 8192 := by omega
    rw [dif_pos (by omega), dif_neg (by omega), dif_pos (by omega), ahead, dif_pos hx]
    have a1 : (⟨n + i, by omega⟩ : Fin 8192) = ⟨i + n, hx⟩ := Fin.ext (Nat.add_comm n i)
    have a2 : (⟨n + i - n, by omega⟩ : Fin 8192) = ⟨i, by omega⟩ := Fin.ext (by show n + i - n = i; omega)
    rw [a1, a2]
  · intro i hi
    have hi' := Finset.mem_range.mp hi
    rw [dif_pos (by omega), ahead, dif_neg (show ¬ (8192 - n + i) + n < 8192 by omega), zero_mul]
  · intro i hi
    have hi' := Finset.mem_range.mp hi
    rw [dif_pos (by omega), dif_pos hi', mul_zero]

theorem dcw2_row (d : Fin 1024) : ((val_main_v77 (F := Ideal) x0 x1 x2 x3 x4 x5 x7 x8) (ix1 d) : EReal) = ∑ t : Fin 8192, (opr x0 x1 x2 x3 x4 x5 x6 x7 x8).dcv t d * ((opr x0 x1 x2 x3 x4 x5 x6 x7 x8).cg t d * (opr x0 x1 x2 x3 x4 x5 x6 x7 x8).u t d) := by

  simp only [← dcv_at]
  rw [val_main_v77, val_main_v76, val_main_v75, val_main_v74, val_main_v47, val_main_v30, val_main_v28]
  generalize (val_main_v70 (F := Ideal) x0 x1 x2 x3 x4 x5 x7 x8) = D
  generalize e1 : (val_main_v26 (F := Ideal) x0 x1 x2 x3 x5) = C
  generalize e2 : (val_main_v27 (F := Ideal) x0 x1 x2 x3 x5) = U
  pointwise [val_main_v29, val_main_cst_4, val_main_cst_9, val_main_cst_10, opr, e1, e2]
  refine (Fin.sum_univ_one _).trans ?_
  rfl

theorem dcw1_row (d : Fin 1024) : ((val_main_v86 (F := Ideal) x0 x1 x2 x3 x4 x5 x7 x8) (ix1 d) : EReal) = ∑ t : Fin 8192, ahead (opr x0 x1 x2 x3 x4 x5 x6 x7 x8).dcv 1 t d * ((opr x0 x1 x2 x3 x4 x5 x6 x7 x8).cg t d * (opr x0 x1 x2 x3 x4 x5 x6 x7 x8).u t d) := by

  rw [← sum_shift (opr x0 x1 x2 x3 x4 x5 x6 x7 x8).dcv (fun t => (opr x0 x1 x2 x3 x4 x5 x6 x7 x8).cg t d * (opr x0 x1 x2 x3 x4 x5 x6 x7 x8).u t d) 1 (by decide) d]
  simp only [← dcv_at]
  rw [val_main_v86, val_main_v85, val_main_v84, val_main_v83, val_main_v40, val_main_v30, val_main_v28]
  generalize (val_main_v70 (F := Ideal) x0 x1 x2 x3 x4 x5 x7 x8) = D
  generalize e1 : (val_main_v26 (F := Ideal) x0 x1 x2 x3 x5) = C
  generalize e2 : (val_main_v27 (F := Ideal) x0 x1 x2 x3 x5) = U
  refine Eq.trans (b := ∑ t : Fin 8192, D (ix2 t d) * (if h : 1 + t.val < 2 then (0 : EReal)
    else C (ix2 ⟨1 + t.val - 2, by omega⟩ d) * U (ix2 ⟨1 + t.val - 2, by omega⟩ d))) ?_ ?_
  rotate_left
  · refine Finset.sum_congr rfl fun t _ => congrArg (D (ix2 t d) * ·) ?_
    subst e1 e2
    by_cases h : t.val < 1
    · rw [dif_pos (by omega), dif_pos h]
    · rw [dif_neg (by omega), dif_neg h]
      have e : (⟨1 + t.val - 2, by omega⟩ : Fin 8192) = ⟨t.val - 1, by omega⟩ := Fin.ext (by show 1 + t.val - 2 = t.val - 1; omega)
      rw [e]
      rfl
  pointwise [val_main_v29, val_main_cst_4, val_main_cst_13, val_main_cst_14, opr, e1, e2]
  refine (Fin.sum_univ_one _).trans ?_
  rfl

theorem dcw0_row (d : Fin 1024) : ((val_main_v97 (F := Ideal) x0 x1 x2 x3 x4 x5 x7 x8) (ix1 d) : EReal) = ∑ t : Fin 8192, ahead (opr x0 x1 x2 x3 x4 x5 x6 x7 x8).dcv 2 t d * ((opr x0 x1 x2 x3 x4 x5 x6 x7 x8).cg t d * (opr x0 x1 x2 x3 x4 x5 x6 x7 x8).u t d) := by

  rw [← sum_shift (opr x0 x1 x2 x3 x4 x5 x6 x7 x8).dcv (fun t => (opr x0 x1 x2 x3 x4 x5 x6 x7 x8).cg t d * (opr x0 x1 x2 x3 x4 x5 x6 x7 x8).u t d) 2 (by decide) d]
  simp only [← dcv_at]
  rw [val_main_v97, val_main_v96, val_main_v95, val_main_v94, val_main_v34, val_main_v30, val_main_v28]
  generalize (val_main_v70 (F := Ideal) x0 x1 x2 x3 x4 x5 x7 x8) = D
  generalize e1 : (val_main_v26 (F := Ideal) x0 x1 x2 x3 x5) = C
  generalize e2 : (val_main_v27 (F := Ideal) x0 x1 x2 x3 x5) = U
  pointwise [val_main_v29, val_main_cst_4, val_main_cst_17, val_main_cst_18, opr, e1, e2]
  refine (Fin.sum_univ_one _).trans ?_
  rfl

theorem dcw_at (r : Fin 8) (d : Fin 1024) : ((val_main_v151 (F := Ideal) x0 x1 x2 x3 x4 x5 x7 x8) (ix2 r d) : EReal) = (opr x0 x1 x2 x3 x4 x5 x6 x7 x8).dcw r d := by
  have e : ∀ d, (val_main_v97 (F := Ideal) x0 x1 x2 x3 x4 x5 x7 x8) (ix1 d) = (opr x0 x1 x2 x3 x4 x5 x6 x7 x8).dcw 0 d := fun d => dcw0_row ..
  have e1 : ∀ d, (val_main_v86 (F := Ideal) x0 x1 x2 x3 x4 x5 x7 x8) (ix1 d) = (opr x0 x1 x2 x3 x4 x5 x6 x7 x8).dcw 1 d := fun d => dcw1_row ..
  have e2 : ∀ d, (val_main_v77 (F := Ideal) x0 x1 x2 x3 x4 x5 x7 x8) (ix1 d) = (opr x0 x1 x2 x3 x4 x5 x6 x7 x8).dcw 2 d := fun d => dcw2_row ..
  have e3 : ∀ r : Fin 8, 3 ≤ r.val → (opr x0 x1 x2 x3 x4 x5 x6 x7 x8).dcw r d = 0 := by
    intro r h
    have hz : ∀ t, (opr x0 x1 x2 x3 x4 x5 x6 x7 x8).dcwT r d t = 0 := by
      intro t
      unfold In.dcwT
      rw [if_neg (by omega), if_neg (by omega), if_neg (by omega)]
    rw [In.dcw]
    simp only [hz, Finset.sum_const_zero]
  rw [val_main_v151, val_main_v102, val_main_v91, val_main_v80, val_main_v90, val_main_v101, val_main_v79, val_main_v89, val_main_v100]
  generalize (val_main_v97 (F := Ideal) x0 x1 x2 x3 x4 x5 x7 x8) = D0 at e ⊢
  generalize (val_main_v86 (F := Ideal) x0 x1 x2 x3 x4 x5 x7 x8) = D1 at e1 ⊢
  generalize (val_main_v77 (F := Ideal) x0 x1 x2 x3 x4 x5 x7 x8) = D2 at e2 ⊢
  generalize (opr x0 x1 x2 x3 x4 x5 x6 x7 x8).dcw = R at *
  obtain rfl | rfl | rfl | rfl | rfl | rfl | rfl | rfl : r = 0 ∨ r = 1 ∨ r = 2 ∨ r = 3 ∨ r = 4 ∨ r = 5 ∨ r = 6 ∨ r = 7 := by
    revert r; decide
  · refine Eq.trans ?_ (e d)
    pointwise [val_main_v150, val_main_cst_12, val_main_cst_16, val_main_cst_20, val_main_cst_31]
  · refine Eq.trans ?_ (e1 d)
    pointwise [val_main_v150, val_main_cst_12, val_main_cst_16, val_main_cst_20, val_main_cst_31]
  · refine Eq.trans ?_ (e2 d)
    pointwise [val_main_v150, val_main_cst_12, val_main_cst_16, val_main_cst_20, val_main_cst_31]
  · refine Eq.trans ?_ (e3 3 (by decide)).symm
    pointwise [val_main_v150, val_main_cst_12, val_main_cst_16, val_main_cst_20, val_main_cst_31]
  · refine Eq.trans ?_ (e3 4 (by decide)).symm
    pointwise [val_main_v150, val_main_cst_12, val_main_cst_16, val_main_cst_20, val_main_cst_31]
  · refine Eq.trans ?_ (e3 5 (by decide)).symm
    pointwise [val_main_v150, val_main_cst_12, val_main_cst_16, val_main_cst_20, val_main_cst_31]
  · refine Eq.trans ?_ (e3 6 (by decide)).symm
    pointwise [val_main_v150, val_main_cst_12, val_main_cst_16, val_main_cst_20, val_main_cst_31]
  · refine Eq.trans ?_ (e3 7 (by decide)).symm
    pointwise [val_main_v150, val_main_cst_12, val_main_cst_16, val_main_cst_20, val_main_cst_31]

end Cert.ReferenceIdeal.Conv
-- ==== Proof.Finite.lean ====
module

public import Idealize.ShloMosaic.PureOps.Ideal.Laws

@[expose] public section

noncomputable section

namespace Cert.Finite

open Idealize.ShloMosaic

/-! Extended reals that are real, and the arithmetic that keeps them so. -/

/-- The value is a real number. -/
def Re (v : EReal) : Prop := ∃ r : ℝ, v = (r : EReal)

theorem re_coe (r : ℝ) : Re (r : EReal) := ⟨r, rfl⟩
theorem re_zero : Re 0 := ⟨0, rfl⟩
theorem re_one : Re 1 := ⟨1, rfl⟩
theorem Re.add {a b : EReal} (ha : Re a) (hb : Re b) : Re (a + b) := by
  obtain ⟨x, rfl⟩ := ha; obtain ⟨y, rfl⟩ := hb; exact ⟨x + y, (EReal.coe_add x y).symm⟩
theorem Re.mul {a b : EReal} (ha : Re a) (hb : Re b) : Re (a * b) := by
  obtain ⟨x, rfl⟩ := ha; obtain ⟨y, rfl⟩ := hb; exact ⟨x * y, (EReal.coe_mul x y).symm⟩

theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem re_sum {ι : Type} (s : Finset ι) {f : ι → EReal} (h : ∀ i, Re (f i)) : Re (∑ i ∈ s, f i) := by
  choose g hg using h
  exact ⟨∑ i ∈ s, g i, by simp only [hg]; exact sum_coe s g⟩

theorem re_dite {p : Prop} [Decidable p] {f : p → EReal} {g : ¬ p → EReal} (hf : ∀ h, Re (f h)) (hg : ∀ h, Re (g h)) : Re (dite p f g) := by
  by_cases h : p
  · rw [dif_pos h]; exact hf h
  · rw [dif_neg h]; exact hg h

/-- A value whose magnitude is below the top is real. -/
theorem re_of_abs_lt {v : EReal} (h : max v (-v) < ⊤) : Re v := by
  induction v using EReal.rec with
  | bot => simp at h
  | coe r => exact ⟨r, rfl⟩
  | top => simp at h

theorem ofBits_1024 : Ideal.ofBits .f32 0x44800000#32 = ((1024 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul, -EReal.coe_neg]; norm_num
theorem ofBits_top : Ideal.ofBits .f32 0x7F800000#32 = ⊤ := by
  simp [Ideal.ofBits, Ideal.ieee]
theorem ofBits_eps : ∃ e : ℝ, 0 < e ∧ Ideal.ofBits .f32 0x3727C5AC#32 = (e : EReal) := by
  refine ⟨_, ?_, by simp [Ideal.ofBits, Ideal.ieee, -EReal.coe_mul]; rfl⟩
  norm_num

end Cert.Finite
-- ==== Proof.Norm.lean ====
module

public import proofs.«01_k».proof.Proof.Pay
public import proofs.«01_k».proof.Proof.Finite

@[expose] public section

noncomputable section

namespace Cert.Norm

open Idealize.ShloMosaic Cert.KernelIdeal.Pay Cert.Finite

/-! The gradient of a row's normalisation: the way it is written by differentiation, and the way it is written with one correction. -/

/-- The mean square of a row, with the small constant. -/
def msq (x : Fin 1024 → EReal) : EReal :=
  Ideal.div (∑ d : Fin 1024, x d * x d) (Ideal.ofBits .f32 0x44800000#32) + Ideal.ofBits .f32 0x3727C5AC#32

theorem rstd_eq (x : Fin 1024 → EReal) : rstd x = Ideal.rsqrt (msq x) := rfl

theorem msq_pos {x : Fin 1024 → EReal} (hx : ∀ d, Re (x d)) : ∃ z : ℝ, 0 < z ∧ msq x = (z : EReal) := by
  choose X hX using hx
  obtain ⟨e, he, h⟩ := ofBits_eps
  refine ⟨(∑ d, X d * X d) * (1 / 1024) + e, ?_, ?_⟩
  · have : 0 ≤ ∑ d : Fin 1024, X d * X d := Finset.sum_nonneg fun d _ => mul_self_nonneg _
    positivity
  · rw [msq, h, ofBits_1024, Ideal.div_coe (by norm_num)]
    simp only [hX, ← EReal.coe_mul]
    rw [sum_coe, ← EReal.coe_mul, ← EReal.coe_add]

theorem rsqrt_pos {z : ℝ} (h : 0 < z) : Ideal.rsqrt (z : EReal) = (((Real.sqrt z)⁻¹ : ℝ) : EReal) := by
  rw [Ideal.rsqrt_coe, if_neg (not_lt.mpr h.le), if_neg h.ne']

theorem re_rstd {x : Fin 1024 → EReal} (hx : ∀ d, Re (x d)) : Re (rstd x) := by
  obtain ⟨z, hz, e⟩ := msq_pos hx
  rw [rstd_eq, e, rsqrt_pos hz]
  exact re_coe _

theorem mul_self_nn (v : EReal) : 0 ≤ v * v := by
  induction v using EReal.rec with
  | bot => simp
  | coe r => rw [← EReal.coe_mul]; exact_mod_cast mul_self_nonneg r
  | top => simp

/-- A nonnegative real factor comes out of a sum, whatever the terms. -/
theorem sum_mul_nn {ι : Type} (s : Finset ι) (f : ι → EReal) {c : ℝ} (hc : 0 ≤ c) : ∑ i ∈ s, f i * (c : EReal) = (∑ i ∈ s, f i) * (c : EReal) := by
  classical
  induction s using Finset.induction_on with
  | empty => simp
  | insert a s ha ih =>
    rw [Finset.sum_insert ha, Finset.sum_insert ha, ih, EReal.right_distrib_of_nonneg_of_ne_top (by exact_mod_cast hc) (EReal.coe_ne_top c)]

theorem add_self (S : EReal) (a : ℝ) : S * (a : EReal) + S * (a : EReal) = S * ((a + a : ℝ) : EReal) := by
  rcases le_total 0 a with h | h
  · rw [EReal.coe_add, EReal.left_distrib_of_nonneg (by exact_mod_cast h) (by exact_mod_cast h)]
  · have hn : (0 : EReal) ≤ ((-a : ℝ) : EReal) := by exact_mod_cast neg_nonneg.mpr h
    have e := EReal.left_distrib_of_nonneg (c := -S) hn hn
    rw [← EReal.coe_add, EReal.coe_neg, ← neg_add, EReal.coe_neg, neg_mul_neg, neg_mul_neg] at e
    exact e.symm

/-- A row with an infinite entry has no scale left. -/
theorem msq_top {x : Fin 1024 → EReal} (hx : ¬ ∀ d, Re (x d)) : msq x = ⊤ := by
  obtain ⟨d, hd⟩ := not_forall.mp hx
  have hq : x d * x d = ⊤ := by
    generalize x d = v at hd
    induction v using EReal.rec with
    | bot => simp
    | coe r => exact absurd (re_coe r) hd
    | top => simp
  have hs : ∑ d : Fin 1024, x d * x d = ⊤ :=
    top_le_iff.mp (hq ▸ Finset.single_le_sum (f := fun d => x d * x d) (fun e _ => mul_self_nn (x e)) (Finset.mem_univ d))
  obtain ⟨e, he, h⟩ := ofBits_eps
  rw [msq, hs, h, ofBits_1024, Ideal.div_coe (by norm_num), EReal.top_mul_coe_of_pos (by norm_num), EReal.top_add_coe]

/-- The gradient as differentiation writes it. -/
theorem dnorm_eq (x w : Fin 1024 → EReal) (d : Fin 1024) :
    w d * rstd x
        + x d * Ideal.div ((∑ e : Fin 1024, x e * w e) * (Ideal.ofBits .f32 0xBF000000#32 * Ideal.div (rstd x) (msq x))) (Ideal.ofBits .f32 0x44800000#32)
        + Ideal.div ((∑ e : Fin 1024, x e * w e) * (Ideal.ofBits .f32 0xBF000000#32 * Ideal.div (rstd x) (msq x))) (Ideal.ofBits .f32 0x44800000#32) * x d
      = dnorm x w d := by
  by_cases hx : ∀ d, Re (x d)
  · obtain ⟨z, hz, e⟩ := msq_pos hx
    have hr : rstd x = (((Real.sqrt z)⁻¹ : ℝ) : EReal) := by rw [rstd_eq, e, rsqrt_pos hz]
    have hr0 : 0 ≤ (Real.sqrt z)⁻¹ := inv_nonneg.mpr (Real.sqrt_nonneg z)
    have hq : (Real.sqrt z)⁻¹ * (Real.sqrt z)⁻¹ = 1 / z := by
      rw [← mul_inv, Real.mul_self_sqrt hz.le, one_div]
    rw [dnorm, hr, e, ofBits_1024, ofBits_neg_half, Ideal.div_coe hz.ne', Ideal.div_coe (by norm_num), Ideal.div_coe (by norm_num), ← hq]
    generalize (Real.sqrt z)⁻¹ = r at hr0
    have hs : ∑ e, w e * (x e * (r : EReal)) = (∑ e, x e * w e) * (r : EReal) := by
      rw [← sum_mul_nn _ _ hr0]
      exact Finset.sum_congr rfl fun e _ => by rw [mul_comm (x e) (w e), mul_assoc]
    rw [hs]
    generalize ∑ e, x e * w e = S
    obtain ⟨X, hX⟩ := hx d
    rw [hX]
    generalize w d = W
    have e1 : S * (((-(1 / 2) : ℝ) : EReal) * ((r : EReal) * ((r * r : ℝ) : EReal))) * ((1 / 1024 : ℝ) : EReal) * (X : EReal)
        = S * ((-(1 / 2) * (r * (r * r)) * (1 / 1024) * X : ℝ) : EReal) := by
      simp only [EReal.coe_mul, mul_assoc]
    have e2 : (r : EReal) * -((X : EReal) * r * (S * (r : EReal) * ((1 / 1024 : ℝ) : EReal)))
        = S * ((-(1 / 2) * (r * (r * r)) * (1 / 1024) * X + -(1 / 2) * (r * (r * r)) * (1 / 1024) * X : ℝ) : EReal) := by
      have : (-(1 / 2) * (r * (r * r)) * (1 / 1024) * X + -(1 / 2) * (r * (r * r)) * (1 / 1024) * X : ℝ) = -(r * (X * (r * (r * (1 / 1024))))) := by ring
      rw [this, EReal.coe_neg, mul_neg, mul_neg]
      simp only [EReal.coe_mul]
      congr 1
      ac_rfl
    rw [mul_comm (X : EReal), e1, sub_eq_add_neg, EReal.left_distrib_of_nonneg_of_ne_top (by exact_mod_cast hr0) (EReal.coe_ne_top r), e2, ← add_self, add_assoc, mul_comm W]
  · have hr : rstd x = 0 := by rw [rstd_eq, msq_top hx]; rfl
    have hd : Ideal.div 0 (⊤ : EReal) = 0 := by simp [Ideal.div]
    rw [dnorm, hr, msq_top hx, hd, mul_zero, mul_zero, ofBits_1024, Ideal.div_coe (by norm_num)]
    simp

end Cert.Norm
-- ==== Proof.Dx.lean ====
module

public import proofs.«01_k».proof.Proof.Ref
public import proofs.«01_k».proof.Proof.Norm

@[expose] public section

set_option maxRecDepth 16384

noncomputable section

namespace Cert.ReferenceIdeal.Conv

open Cert.ReferenceIdeal Cert.ReferenceIdeal.Gen Idealize.ShloMosaic Idealize.ShloMosaic.TcCoe Idealize.SL.Sem
open Cert.ReferenceIdeal.Read Cert.ConvSpec Cert.KernelIdeal.Pay Cert.KernelIdeal.Tile Cert.Finite Cert.Norm

variable (x0 : FVec Ideal S8192x1024 .f32) (x1 x2 x3 x4 : FVec Ideal S1024 .f32) (x5 : FVec Ideal S1024x3072 .f32) (x6 : FVec Ideal S3x1024 .f32)
    (x7 : FVec Ideal S1024x1024 .f32) (x8 : FVec Ideal S8192x1024 .f32)

/-! The gradient of the residual stream, and the five results as arrays. -/

theorem dxh_at (t : Fin 8192) (d : Fin 1024) : ((val_main_v124 (F := Ideal) x0 x1 x2 x3 x4 x5 x6 x7 x8) (ix2 t d) : EReal) = (opr x0 x1 x2 x3 x4 x5 x6 x7 x8).dxh t d := by
  rw [In.dxh, ← dh_at, val_main_v124, val_main_v118]
  generalize (val_main_v110 (F := Ideal) x0 x1 x2 x3 x4 x5 x6 x7 x8) = D
  pointwise [val_main_v117, val_main_v18, val_main_v17, val_main_v16, val_main_v123, val_main_v13, val_main_v14, val_main_cst_3, opr]

theorem half_at (t : Fin 8192) : ((val_main_v10 (F := Ideal) x0) (ix2 t 0) : EReal)
    = Ideal.ofBits .f32 0xBF000000#32 * Ideal.div (rstd ((opr x0 x1 x2 x3 x4 x5 x6 x7 x8).x t)) (msq ((opr x0 x1 x2 x3 x4 x5 x6 x7 x8).x t)) := by
  pointwise [val_main_v10, val_main_v9, val_main_v8, val_main_v7, val_main_v6, val_main_v5, val_main_v4, val_main_v3, val_main_v2, val_main_v1, val_main_v0,
    val_main_cst, val_main_cst_0, val_main_cst_1, val_main_cst_2, opr, rstd, msq]

theorem corr_at (t : Fin 8192) (d : Fin 1024) : ((val_main_v135 (F := Ideal) x0 x1 x2 x3 x4 x5 x6 x7 x8) (ix2 t d) : EReal)
    = Ideal.div ((∑ e : Fin 1024, (opr x0 x1 x2 x3 x4 x5 x6 x7 x8).x t e * (opr x0 x1 x2 x3 x4 x5 x6 x7 x8).dxh t e) * (Ideal.ofBits .f32 0xBF000000#32 * Ideal.div (rstd ((opr x0 x1 x2 x3 x4 x5 x6 x7 x8).x t)) (msq ((opr x0 x1 x2 x3 x4 x5 x6 x7 x8).x t))))
        (Ideal.ofBits .f32 0x44800000#32) := by
  rw [← half_at]
  simp only [← dxh_at]
  rw [val_main_v135, val_main_v134, val_main_v133, val_main_v131, val_main_v128, val_main_v127, val_main_v126]
  generalize (val_main_v124 (F := Ideal) x0 x1 x2 x3 x4 x5 x6 x7 x8) = D
  generalize (val_main_v10 (F := Ideal) x0) = Q
  pointwise [val_main_v132, val_main_cst_27, val_main_cst_28, val_main_cst_29, opr]
  exact Fin.sum_univ_one _

theorem rstd_at (t : Fin 8192) (d : Fin 1024) : ((val_main_v129 (F := Ideal) x0) (ix2 t d) : EReal) = rstd ((opr x0 x1 x2 x3 x4 x5 x6 x7 x8).x t) := by
  pointwise [val_main_v129, val_main_v7, val_main_v6, val_main_v5, val_main_v4, val_main_v3, val_main_v2, val_main_v1, val_main_v0,
    val_main_cst, val_main_cst_0, val_main_cst_1, opr, rstd]

theorem dx_at (t : Fin 8192) (d : Fin 1024) : ((val_main_v149 (F := Ideal) x0 x1 x2 x3 x4 x5 x6 x7 x8) (ix2 t d) : EReal) = (opr x0 x1 x2 x3 x4 x5 x6 x7 x8).dx t d := by
  have hd := dnorm_eq ((opr x0 x1 x2 x3 x4 x5 x6 x7 x8).x t) ((opr x0 x1 x2 x3 x4 x5 x6 x7 x8).dxh t) d
  rw [In.dx, ← hd, ← corr_at _ _ _ _ _ _ _ _ _ t d, ← dxh_at, ← rstd_at x0 x1 x2 x3 x4 x5 x6 x7 x8 t d, val_main_v149, val_main_v139, val_main_v137, val_main_v130, val_main_v136, val_main_v138]
  generalize (val_main_v124 (F := Ideal) x0 x1 x2 x3 x4 x5 x6 x7 x8) = D
  generalize (val_main_v129 (F := Ideal) x0) = R
  generalize (val_main_v135 (F := Ideal) x0 x1 x2 x3 x4 x5 x6 x7 x8) = Q
  pointwise [val_main_v60, opr]

theorem dy_arr : (val_main_v147 (F := Ideal) x4 x8) = fun i : S8192x1024.Idx => (opr x0 x1 x2 x3 x4 x5 x6 x7 x8).dy (i 0) (i 1) := by
  funext i
  rw [eq_ix2 i]
  exact dy_at x0 x1 x2 x3 x4 x5 x6 x7 x8 (i 0) (i 1)

theorem dbcu_arr : (val_main_v148 (F := Ideal) x0 x1 x2 x3 x4 x5 x6 x7 x8) = fun i : S8192x3072.Idx => (opr x0 x1 x2 x3 x4 x5 x6 x7 x8).dbcu (i 0) (i 1) := by
  funext i
  rw [eq_ix2 i]
  exact dbcu_at x0 x1 x2 x3 x4 x5 x6 x7 x8 (i 0) (i 1)

theorem dx_arr : (val_main_v149 (F := Ideal) x0 x1 x2 x3 x4 x5 x6 x7 x8) = fun i : S8192x1024.Idx => (opr x0 x1 x2 x3 x4 x5 x6 x7 x8).dx (i 0) (i 1) := by
  funext i
  rw [eq_ix2 i]
  exact dx_at x0 x1 x2 x3 x4 x5 x6 x7 x8 (i 0) (i 1)

theorem red_arr : (val_main_v146 (F := Ideal) x0 x1 x2 x3 x4 x5 x6 x7 x8) = fun i : S8x1024.Idx => (opr x0 x1 x2 x3 x4 x5 x6 x7 x8).red (i 0) (i 1) := by
  funext i
  rw [eq_ix2 i]
  exact red_at x0 x1 x2 x3 x4 x5 x6 x7 x8 (i 0) (i 1)

theorem dcw_arr : (val_main_v151 (F := Ideal) x0 x1 x2 x3 x4 x5 x7 x8) = fun i : S8x1024.Idx => (opr x0 x1 x2 x3 x4 x5 x6 x7 x8).dcw (i 0) (i 1) := by
  funext i
  rw [eq_ix2 i]
  exact dcw_at x0 x1 x2 x3 x4 x5 x6 x7 x8 (i 0) (i 1)

end Cert.ReferenceIdeal.Conv
-- ==== Proof.WgradIn.lean ====
module

public import proofs.«01_k».proof.Proof.Gen.Kernel3Ideal.Value
public import Idealize.ShloMosaic.Lib.Pipeline.ValueKit
public import Idealize.ShloMosaic.Lib.Pipeline.ReadBack
public import Idealize.ShloMosaic.PureOps.Ideal.Laws

@[expose] public section

set_option maxRecDepth 16384

noncomputable section

namespace Cert.Kernel3Ideal.Tile

open Cert.Kernel3Ideal Cert.Kernel3Ideal.Gen Idealize.ShloMosaic Idealize.ShloMosaic.TcCoe Idealize.SL.Sem

/-! The gradient of the first product's weights: one column block, summed over the tokens tile by tile. -/

theorem pay1_at (i) : k0_pay1 (F := Ideal) i = 0 := by pointwise [k0_pay1]

theorem pay2_at (h : FVec Ideal S2048x1024 .bf16) (acc : FVec Ideal S1024x1408 .f32) (b : FVec Ideal S1x2048x1408 .bf16) (i : Fin 1024) (j : Fin 1408) :
    (k0_pay2 (F := Ideal) h acc b (ix2 i j) : EReal) = acc (ix2 i j) + ∑ a : Fin 2048, (h (ix2 a i) : EReal) * (b (ix3 0 a j) : EReal) := by
  pointwise [k0_pay2]

theorem pay3_at (acc : FVec Ideal S1024x1408 .f32) (q : Fin 1) (i : Fin 1024) (j : Fin 1408) :
    (k0_pay3 (F := Ideal) acc (ix3 q i j) : EReal) = acc (ix2 i j) := by
  pointwise [k0_pay3]

/-- The result: for column block `q`, `∑ token, h token i · d (half of q) token (column of q)`. -/
def dw (h : FVec Ideal S8192x1024 .bf16) (b : FVec Ideal S2x8192x2816 .bf16) (q : Fin 4) (i : Fin 1024) (j : Fin 1408) : EReal :=
  ∑ l : Fin 8192, (h (ix2 l i) : EReal) * (b (ix3 ⟨q.val / 2, by omega⟩ l ⟨q.val % 2 * 1408 + j.val, by omega⟩) : EReal)

variable (m : (ℓ : Loc nD τ sig) → Buf (Elt Ideal) ℓ) (c : Dev nD)

theorem idx : ∀ t : Fin cfg0.N, win0_0.index t = ![t.val % 4, 0] ∧ win0_1.index t = ![t.val / 8, t.val % 4, t.val / 4 % 2]
    ∧ win0_2.index t = ![t.val / 4, 0, 0] :=
  (by decide +kernel : ∀ t : Fin grid0.N, _)

theorem N16 (t : Fin cfg0.N) : t.val < 16 := t.isLt.trans_le (le_of_eq N_0)

/-- The token of row `a` of the tile that point `t` reads. -/
def row (t : Fin cfg0.N) (a : Fin 2048) : Fin 8192 := ⟨t.val % 4 * 2048 + a.val, by omega⟩

/-- What point `t` adds. -/
def part (h : FVec Ideal S8192x1024 .bf16) (b : FVec Ideal S2x8192x2816 .bf16) (t : Fin cfg0.N) (i : Fin 1024) (j : Fin 1408) : EReal :=
  ∑ a : Fin 2048, (h (ix2 (row t a) i) : EReal) * (b (ix3 ⟨t.val / 8, by have := N16 t; omega⟩ (row t a) ⟨t.val / 4 % 2 * 1408 + j.val, by omega⟩) : EReal)

abbrev term : Fin cfg0.N → Fin 1024 → Fin 1408 → EReal := part (V m c main_arg0) (V m c main_arg1)

section Point
variable (t : Fin cfg0.N)

theorem b0 (a : Fin 2048) (d : Fin 1024) : (iblk m c 0 t : FVec Ideal S2048x1024 .bf16) (ix2 a d) = (V m c main_arg0 : FVec Ideal S8192x1024 .bf16) (ix2 (row t a) d) := by
  blk_ext [iblk, row, idx t]
theorem b1 (a : Fin 2048) (j : Fin 1408) : (iblk m c 1 t : FVec Ideal S1x2048x1408 .bf16) (ix3 0 a j)
    = (V m c main_arg1 : FVec Ideal S2x8192x2816 .bf16) (ix3 ⟨t.val / 8, by have := N16 t; omega⟩ (row t a) ⟨t.val / 4 % 2 * 1408 + j.val, by omega⟩) := by
  blk_ext [iblk, row, idx t]

theorem acc_of (acc : FVec Ideal S1024x1408 .f32) (i : Fin 1024) (j : Fin 1408) :
    (k0_pay2 (F := Ideal) (iblk m c 0 t) acc (iblk m c 1 t) (ix2 i j) : EReal) = acc (ix2 i j) + term m c t i j := by
  rw [pay2_at]
  simp only [b0, b1]
  rfl

theorem sc_A (h : t.val % 4 = 0) (i : Fin 1024) (j : Fin 1408) :
    ((outsAt0 m c t.val t.isLt).2 : FVec Ideal S1024x1408 .f32) (ix2 i j) = 0 + term m c t i j := by
  rw [outsAt0_A m c t h (by omega)]; frame_open
  simp (disch := decide) only [↓ View.readCov_skip, ↓ View.readCov_cons_toLoadRect, ↓ View.readCov_fill]
  frame_out
  exact (acc_of m c t _ i j).trans (congrArg (· + _) (pay1_at _))

theorem sc_B (h : ¬ t.val % 4 = 0) (i : Fin 1024) (j : Fin 1408) :
    ((outsAt0 m c t.val t.isLt).2 : FVec Ideal S1024x1408 .f32) (ix2 i j)
      = ((outsAt0 m c (t.val - 1) (Nat.lt_of_le_of_lt (Nat.sub_le _ _) t.isLt)).2 : FVec Ideal S1024x1408 .f32) (ix2 i j) + term m c t i j := by
  by_cases h1 : t.val % 4 = 3
  · rw [outsAt0_C m c t h h1]; frame_open
    simp (disch := decide) only [↓ View.readCov_skip, ↓ View.readCov_cons_toLoadRect, ↓ View.readCov_fill]
    frame_out
    exact (acc_of m c t _ i j).trans (congrArg (· + _) (congrFun (read_unread_whole cc0_scratch0 (Memref.isWhole_whole _) _) _))
  · rw [outsAt0_B m c t h h1]; frame_open
    simp (disch := decide) only [↓ View.readCov_skip, ↓ View.readCov_cons_toLoadRect, ↓ View.readCov_fill]
    frame_out
    exact (acc_of m c t _ i j).trans (congrArg (· + _) (congrFun (read_unread_whole cc0_scratch0 (Memref.isWhole_whole _) _) _))

theorem out_C (h : t.val % 4 = 3) (q : Fin 1) (i : Fin 1024) (j : Fin 1408) :
    ((outsAt0 m c t.val t.isLt).1 : FVec Ideal S1x1024x1408 .bf16) (ix3 q i j)
      = ((outsAt0 m c t.val t.isLt).2 : FVec Ideal S1024x1408 .f32) (ix2 i j) := by
  rw [outsAt0_C m c t (by omega) h]; frame_open
  simp (disch := decide) only [↓ View.readCov_skip, ↓ View.readCov_cons_toLoadRect, ↓ View.readCov_fill]
  frame_out
  exact pay3_at _ q i j

end Point

/-- The four tiles of tokens are all the tokens. -/
theorem sum_rows (h : FVec Ideal S8192x1024 .bf16) (b : FVec Ideal S2x8192x2816 .bf16) (t : Fin cfg0.N) (ht : t.val % 4 = 3) (i : Fin 1024) (j : Fin 1408) (q : Fin 4)
    (hq : q.val = t.val / 4) (hl : ∀ s : Fin 4, 4 * (t.val / 4) + s.val < cfg0.N) :
    ∑ s : Fin 4, part h b ⟨4 * (t.val / 4) + s.val, hl s⟩ i j = dw h b q i j := by
  refine Fin.sum_mul_add_congr ?_ rfl
  intro s k hl
  have e1 : (4 * (t.val / 4) + s.val) % 4 = s.val := by omega
  have e2 : (4 * (t.val / 4) + s.val) / 8 = q.val / 2 := by omega
  have e3 : (4 * (t.val / 4) + s.val) / 4 % 2 = q.val % 2 := by omega
  simp only [row, e1, e2, e3]

theorem arr2 : (dats m 0 c).arrAt 2 cfg0.N = fun i : S4x1024x1408.Idx => dw (V m c main_arg0) (V m c main_arg1) (i 0) (i 1) (i 2) := by
  refine (dats m 0 c).arrAt_eq_of_covers 2 _ (by decide +kernel) fun t hf y => ?_
  blk_simp
  rw [after0_2]
  have hm : t.val % 4 = 3 := (flush0_2 t).mp hf
  have ht := N16 t
  have e : ∀ f : S4x1024x1408.Idx → EReal, f ((win0_2.blk t).view.emb y) = f (ix3 (⟨t.val / 4, by omega⟩ : Fin 4) (y 1) (y 2)) := by
    intro f; blk_ext [idx t]
  refine Eq.trans ?_ (e fun i => dw (V m c main_arg0) (V m c main_arg1) (i 0) (i 1) (i 2)).symm
  refine (congrArg _ (eq_ix3 y)).trans ((out_C m c t hm _ _ _).trans ?_)
  rw [Pipeline.eq_sum_fin_of_reset_step_apply_of_flush (fun n h => (outsAt0 m c n h).2) 4 (fun _ => 0)
    (fun t i => term m c t (i 0) (i 1))
    (fun t h i => (congrArg _ (eq_ix2 i)).trans (sc_A m c t h (i 0) (i 1))) (fun t h i => by
      rw [eq_ix2 i]; exact sc_B m c t h (i 0) (i 1)) t hm, zero_add]
  exact sum_rows (V m c main_arg0) (V m c main_arg1) t hm (y 1) (y 2) ⟨t.val / 4, by omega⟩ rfl _

end Cert.Kernel3Ideal.Tile
-- ==== Proof.WgradOut.lean ====
module

public import proofs.«01_k».proof.Proof.Gen.Kernel4Ideal.Value
public import Idealize.ShloMosaic.Lib.Pipeline.ValueKit
public import Idealize.ShloMosaic.Lib.Pipeline.ReadBack
public import Idealize.ShloMosaic.PureOps.Ideal.Laws
public import Idealize.ShloMosaic.Lib.StableHlo.ReadAt

@[expose] public section

set_option maxRecDepth 16384

noncomputable section

namespace Cert.Kernel4Ideal.Tile

open Cert.Kernel4Ideal Cert.Kernel4Ideal.Gen Idealize.ShloMosaic Idealize.ShloMosaic.TcCoe Idealize.SL.Sem

/-! The gradient of the second product's weights: one row block, summed over the tokens tile by tile. -/

theorem pay1_at (i) : k0_pay1 (F := Ideal) i = 0 := by pointwise [k0_pay1]

theorem pay2_at (u : FVec Ideal S2048x1408 .bf16) (acc : FVec Ideal S1408x1024 .f32) (b : FVec Ideal S1x2048x1024 .bf16) (i : Fin 1408) (j : Fin 1024) :
    (k0_pay2 (F := Ideal) u acc b (ix2 i j) : EReal) = acc (ix2 i j) + ∑ a : Fin 2048, (u (ix2 a i) : EReal) * (b (ix3 0 a j) : EReal) := by
  pointwise [k0_pay2]

theorem pay3_at (acc : FVec Ideal S1408x1024 .f32) (q : Fin 1) (i : Fin 1408) (j : Fin 1024) :
    (k0_pay3 (F := Ideal) acc (ix3 q i j) : EReal) = acc (ix2 i j) := by
  pointwise [k0_pay3]

/-- The result: `∑ token, u token i · dy token j`. -/
def dw (u : FVec Ideal S8192x2816 .bf16) (dy : FVec Ideal S8192x1024 .bf16) (i : Fin 2816) (j : Fin 1024) : EReal :=
  ∑ l : Fin 8192, (u (ix2 l i) : EReal) * (dy (ix2 l j) : EReal)

/-- What one tile of tokens adds. -/
def part (u : FVec Ideal S8192x2816 .bf16) (dy : FVec Ideal S8192x1024 .bf16) (i : Fin 2816) (j : Fin 1024) (s : Fin 4) : EReal :=
  ∑ a : Fin 2048, (u (ix2 ⟨s.val * 2048 + a.val, by omega⟩ i) : EReal) * (dy (ix2 ⟨s.val * 2048 + a.val, by omega⟩ j) : EReal)

theorem sum_part (u : FVec Ideal S8192x2816 .bf16) (dy : FVec Ideal S8192x1024 .bf16) (i : Fin 2816) (j : Fin 1024) : ∑ s : Fin 4, part u dy i j s = dw u dy i j :=
  Fin.sum_mul_add_fin 4 2048 fun l => (u (ix2 l i) : EReal) * (dy (ix2 l j) : EReal)

variable (m : (ℓ : Loc nD τ sig) → Buf (Elt Ideal) ℓ) (c : Dev nD)

theorem idx : ∀ t : Fin cfg0.N, win0_0.index t = ![t.val % 4, t.val / 4] ∧ win0_1.index t = ![0, t.val % 4, 0]
    ∧ win0_2.index t = ![0, t.val / 4, 0] :=
  (by decide +kernel : ∀ t : Fin grid0.N, _)

theorem N8 (t : Fin cfg0.N) : t.val < 8 := t.isLt.trans_le (le_of_eq N_0)

theorem V_v0 (r : Fin 1) (l : Fin 8192) (j : Fin 1024) : ((V m c main_v0 : FVec Ideal S1x8192x1024 .bf16) (ix3 r l j) : EReal) = (V m c main_arg1 : FVec Ideal S8192x1024 .bf16) (ix2 l j) := by
  unfold_abbrev_sides
  after_reads_at

def term (t : Fin cfg0.N) (i : Fin 1408) (j : Fin 1024) : EReal :=
  part (V m c main_arg0) (V m c main_arg1) ⟨t.val / 4 * 1408 + i.val, by have := N8 t; omega⟩ j ⟨t.val % 4, by omega⟩

section Point
variable (t : Fin cfg0.N)

theorem b0 (a : Fin 2048) (i : Fin 1408) : (iblk m c 0 t : FVec Ideal S2048x1408 .bf16) (ix2 a i)
    = (V m c main_arg0 : FVec Ideal S8192x2816 .bf16) (ix2 ⟨t.val % 4 * 2048 + a.val, by omega⟩ ⟨t.val / 4 * 1408 + i.val, by have := N8 t; omega⟩) := by
  blk_ext [iblk, idx t]
theorem b1 (a : Fin 2048) (j : Fin 1024) : (iblk m c 1 t : FVec Ideal S1x2048x1024 .bf16) (ix3 0 a j)
    = (V m c main_v0 : FVec Ideal S1x8192x1024 .bf16) (ix3 0 ⟨t.val % 4 * 2048 + a.val, by omega⟩ j) := by
  blk_ext [iblk, idx t]
theorem b1d (a : Fin 2048) (j : Fin 1024) : (iblk m c 1 t : FVec Ideal S1x2048x1024 .bf16) (ix3 0 a j)
    = (V m c main_arg1 : FVec Ideal S8192x1024 .bf16) (ix2 ⟨t.val % 4 * 2048 + a.val, by omega⟩ j) :=
  (b1 m c t a j).trans (V_v0 m c 0 _ j)

theorem acc_of (acc : FVec Ideal S1408x1024 .f32) (i : Fin 1408) (j : Fin 1024) :
    (k0_pay2 (F := Ideal) (iblk m c 0 t) acc (iblk m c 1 t) (ix2 i j) : EReal) = acc (ix2 i j) + term m c t i j := by
  rw [pay2_at]
  simp only [b0, b1d]
  rfl

theorem sc_A (h : t.val % 4 = 0) (i : Fin 1408) (j : Fin 1024) :
    ((outsAt0 m c t.val t.isLt).2 : FVec Ideal S1408x1024 .f32) (ix2 i j) = 0 + term m c t i j := by
  rw [outsAt0_A m c t h (by omega)]; frame_open
  simp (disch := decide) only [↓ View.readCov_skip, ↓ View.readCov_cons_toLoadRect, ↓ View.readCov_fill]
  frame_out
  exact (acc_of m c t _ i j).trans (congrArg (· + _) (pay1_at _))

theorem sc_B (h : ¬ t.val % 4 = 0) (i : Fin 1408) (j : Fin 1024) :
    ((outsAt0 m c t.val t.isLt).2 : FVec Ideal S1408x1024 .f32) (ix2 i j)
      = ((outsAt0 m c (t.val - 1) (Nat.lt_of_le_of_lt (Nat.sub_le _ _) t.isLt)).2 : FVec Ideal S1408x1024 .f32) (ix2 i j) + term m c t i j := by
  by_cases h1 : t.val % 4 = 3
  · rw [outsAt0_C m c t h h1]; frame_open
    simp (disch := decide) only [↓ View.readCov_skip, ↓ View.readCov_cons_toLoadRect, ↓ View.readCov_fill]
    frame_out
    exact (acc_of m c t _ i j).trans (congrArg (· + _) (congrFun (read_unread_whole cc0_scratch0 (Memref.isWhole_whole _) _) _))
  · rw [outsAt0_B m c t h h1]; frame_open
    simp (disch := decide) only [↓ View.readCov_skip, ↓ View.readCov_cons_toLoadRect, ↓ View.readCov_fill]
    frame_out
    exact (acc_of m c t _ i j).trans (congrArg (· + _) (congrFun (read_unread_whole cc0_scratch0 (Memref.isWhole_whole _) _) _))

theorem out_C (h : t.val % 4 = 3) (q : Fin 1) (i : Fin 1408) (j : Fin 1024) :
    ((outsAt0 m c t.val t.isLt).1 : FVec Ideal S1x1408x1024 .bf16) (ix3 q i j)
      = ((outsAt0 m c t.val t.isLt).2 : FVec Ideal S1408x1024 .f32) (ix2 i j) := by
  rw [outsAt0_C m c t (by omega) h]; frame_open
  simp (disch := decide) only [↓ View.readCov_skip, ↓ View.readCov_cons_toLoadRect, ↓ View.readCov_fill]
  frame_out
  exact pay3_at _ q i j

end Point

theorem arr2 : (dats m 0 c).arrAt 2 cfg0.N = fun i : S1x2816x1024.Idx => dw (V m c main_arg0) (V m c main_arg1) (i 1) (i 2) := by
  refine (dats m 0 c).arrAt_eq_of_covers 2 _ (by decide +kernel) fun t hf y => ?_
  blk_simp
  rw [after0_2]
  have hm : t.val % 4 = 3 := (flush0_2 t).mp hf
  have ht := N8 t
  have e : ∀ f : S1x2816x1024.Idx → EReal, f ((win0_2.blk t).view.emb y) = f (ix3 (0 : Fin 1) (⟨t.val / 4 * 1408 + (y 1).val, by have : (y 1).val < 1408 := (y 1).isLt; omega⟩ : Fin 2816) (y 2)) := by
    intro f; blk_ext [idx t]
  refine Eq.trans ?_ (e fun i => dw (V m c main_arg0) (V m c main_arg1) (i 1) (i 2)).symm
  refine (congrArg _ (eq_ix3 y)).trans ((out_C m c t hm _ _ _).trans ?_)
  rw [Pipeline.eq_sum_fin_of_reset_step_apply_of_flush (fun n h => (outsAt0 m c n h).2) 4 (fun _ => 0)
    (fun t i => term m c t (i 0) (i 1))
    (fun t h i => (congrArg _ (eq_ix2 i)).trans (sc_A m c t h (i 0) (i 1))) (fun t h i => by
      rw [eq_ix2 i]; exact sc_B m c t h (i 0) (i 1)) t hm, zero_add]
  refine Eq.trans (Finset.sum_congr rfl fun s _ => ?_) (sum_part (V m c main_arg0) (V m c main_arg1) ⟨t.val / 4 * 1408 + (y 1).val, by have : (y 1).val < 1408 := (y 1).isLt; omega⟩ (y 2))
  have e1 : (4 * (t.val / 4) + s.val) % 4 = s.val := by omega
  have e2 : (4 * (t.val / 4) + s.val) / 4 = t.val / 4 := by omega
  simp only [term, e1, e2]
  rfl

end Cert.Kernel4Ideal.Tile
-- ==== Proof.WgradRef.lean ====
module

public import proofs.«01_k».proof.Proof.WgradIn
public import proofs.«01_k».proof.Proof.WgradOut
public import proofs.«01_k».proof.Proof.Gen.Reference3Ideal.Read
public import proofs.«01_k».proof.Proof.Gen.Reference4Ideal.Read

@[expose] public section

set_option maxRecDepth 16384

noncomputable section

namespace Cert.Reference4Ideal.Wgrad

open Cert.Reference4Ideal Cert.Reference4Ideal.Gen Idealize.ShloMosaic Idealize.ShloMosaic.TcCoe Idealize.SL.Sem
open Cert.Reference4Ideal.Read

/-- The reference's gradient of the second product's weights. -/
theorem dw_eq (u : FVec Ideal S8192x2816 .bf16) (dy : FVec Ideal S8192x1024 .bf16) (q : Fin 1) (i : Fin 2816) (j : Fin 1024) :
    (val_main_v7 (F := Ideal) u dy (ix3 q i j) : EReal) = Cert.Kernel4Ideal.Tile.dw u dy i j := by
  pointwise [val_main_v7, val_main_v6, val_main_v5, val_main_v4, val_main_v3, val_main_v1, Cert.Kernel4Ideal.Tile.dw]
  exact Finset.sum_congr rfl fun l _ => mul_comm _ _

end Cert.Reference4Ideal.Wgrad

namespace Cert.Reference3Ideal.Wgrad

open Cert.Reference3Ideal Cert.Reference3Ideal.Gen Idealize.ShloMosaic Idealize.ShloMosaic.TcCoe Idealize.SL.Sem
open Cert.Reference3Ideal.Read

/-- The two halves of the cotangent side by side. -/
theorem cols (b : FVec Ideal S2x8192x2816 .bf16) (l : Fin 8192) (k : Fin 5632) :
    (val_main_v6 (F := Ideal) b (ix2 l k) : EReal) = b (ix3 ⟨k.val / 2816, by omega⟩ l ⟨k.val % 2816, by omega⟩) := by
  pointwise [val_main_v6, val_main_v5, val_main_v4, val_main_v3, val_main_v2, val_main_v1]
  split
  · rename_i h; congr 2 <;> first | rfl | (ext; simp; omega)
  · rename_i h; congr 2 <;> first | rfl | (ext; simp; omega)

/-- The reference's gradient of the first product's weights. -/
theorem dw_eq (h : FVec Ideal S8192x1024 .bf16) (b : FVec Ideal S2x8192x2816 .bf16) (q : Fin 4) (i : Fin 1024) (j : Fin 1408) :
    (val_main_v13 (F := Ideal) h b (ix3 q i j) : EReal) = Cert.Kernel3Ideal.Tile.dw h b q i j := by
  rw [val_main_v13, val_main_v12, val_main_v11, val_main_v10, val_main_v9]
  have e := cols b
  generalize val_main_v6 (F := Ideal) b = D at *
  pointwise [val_main_v0, Cert.Kernel3Ideal.Tile.dw]
  refine Finset.sum_congr rfl fun l _ => ?_
  rw [e, mul_comm]
  have e1 : (q.val * 1408 + j.val) / 2816 = q.val / 2 := by omega
  have e2 : (q.val * 1408 + j.val) % 2816 = q.val % 2 * 1408 + j.val := by omega
  simp only [e1, e2]

end Cert.Reference3Ideal.Wgrad
-- ==== Proof.WgradAlg.lean ====
module

public import proofs.«01_k».proof.Defs
public import proofs.«01_k».proof.Proof.WgradRef
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Read
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Read
public import proofs.«01_k».proof.Proof.Gen.Reference4Ideal.Run

@[expose] public section

set_option maxRecDepth 16384

noncomputable section

/-! The two weight-gradient products: frames, and the kernel's result is the reference's. -/

namespace Cert.Proof

open Idealize.ShloMosaic Idealize.ShloMosaic.TcCoe Idealize.SL.Sem

theorem frame_k3 : Cert.quiescent_Kernel3 := fun m ρ _ => Cert.Kernel3.Gen.frame m ρ
theorem frame_i3 : Cert.quiescent_Kernel3Ideal := fun m ρ _ => Cert.Kernel3Ideal.Gen.frame m ρ
theorem frame_r3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The result as one array over the two arguments. -/
def res3 (a : FVec Ideal Cert.Kernel3Ideal.S8192x1024 .bf16) (b : FVec Ideal Cert.Kernel3Ideal.S2x8192x2816 .bf16) : Cert.Kernel3Ideal.S4x1024x1408.Idx → EReal := fun i => Cert.Kernel3Ideal.Tile.dw a b (i 0) (i 1) (i 2)

theorem ref3 (a : FVec Ideal Cert.Kernel3Ideal.S8192x1024 .bf16) (b : FVec Ideal Cert.Kernel3Ideal.S2x8192x2816 .bf16) : Cert.Reference3Ideal.Read.val_main_v13 (F := Ideal) a b = res3 a b :=
  funext fun i => (congrArg _ (eq_ix3 i)).trans (Cert.Reference3Ideal.Wgrad.dw_eq a b (i 0) (i 1) (i 2))

theorem algebraic3 : Cert.algebraic_Kernel3Ideal_Reference3Ideal := by
  intro m ρ m' ρ' _ hag
  refine ⟨fun c => res3 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)), ?_, ?_⟩
  · refine (θ_run Cert.Kernel3Ideal.defs _ _).mono (fun r h c => ?_) (Cert.Kernel3Ideal.Value.run_blocks (F := Ideal) m ρ)
    obtain ⟨h0, hk⟩ := h c
    exact ⟨h0.trans (Cert.Kernel3Ideal.Tile.arr2 m c), hk⟩
  · refine (θ_run Cert.Reference3Ideal.defs _ _).mono (fun r h c => ?_) (Cert.Reference3Ideal.Value.run (F := Ideal) m' ρ')
    obtain ⟨h0, hk⟩ := h c
    obtain ⟨a0, a1⟩ := hag c
    have e : res3 (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) = res3 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) := by
      rw [a0, a1]
    exact ⟨h0.trans ((Cert.Reference3Ideal.Read.val_main_v13_eq _ _).trans ((ref3 _ _).trans e)), hk⟩

theorem frame_k4 : Cert.quiescent_Kernel4 := fun m ρ _ => Cert.Kernel4.Gen.frame m ρ
theorem frame_i4 : Cert.quiescent_Kernel4Ideal := fun m ρ _ => Cert.Kernel4Ideal.Gen.frame m ρ
theorem frame_r4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The result as one array over the two arguments. -/
def res4 (a : FVec Ideal Cert.Kernel4Ideal.S8192x2816 .bf16) (b : FVec Ideal Cert.Kernel4Ideal.S8192x1024 .bf16) : Cert.Kernel4Ideal.S1x2816x1024.Idx → EReal := fun i => Cert.Kernel4Ideal.Tile.dw a b (i 1) (i 2)

theorem ref4 (a : FVec Ideal Cert.Kernel4Ideal.S8192x2816 .bf16) (b : FVec Ideal Cert.Kernel4Ideal.S8192x1024 .bf16) : Cert.Reference4Ideal.Read.val_main_v7 (F := Ideal) a b = res4 a b :=
  funext fun i => (congrArg _ (eq_ix3 i)).trans (Cert.Reference4Ideal.Wgrad.dw_eq a b (i 0) (i 1) (i 2))

theorem algebraic4 : Cert.algebraic_Kernel4Ideal_Reference4Ideal := by
  intro m ρ m' ρ' _ hag
  refine ⟨fun c => res4 (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)), ?_, ?_⟩
  · refine (θ_run Cert.Kernel4Ideal.defs _ _).mono (fun r h c => ?_) (Cert.Kernel4Ideal.Value.run_blocks (F := Ideal) m ρ)
    obtain ⟨h0, hk⟩ := h c
    exact ⟨h0.trans (Cert.Kernel4Ideal.Tile.arr2 m c), hk⟩
  · refine (θ_run Cert.Reference4Ideal.defs _ _).mono (fun r h c => ?_) (Cert.Reference4Ideal.Value.run (F := Ideal) m' ρ')
    obtain ⟨h0, hk⟩ := h c
    obtain ⟨a0, a1⟩ := hag c
    have e : res4 (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) = res4 (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) := by
      rw [a0, a1]
    exact ⟨h0.trans ((Cert.Reference4Ideal.Read.val_main_v7_eq _ _).trans ((ref4 _ _).trans e)), hk⟩

end Cert.Proof
-- ==== Proof.FfnSpec.lean ====
module

public import proofs.«01_k».proof.Proof.Arr

@[expose] public section

set_option maxRecDepth 16384

noncomputable section

namespace Cert.FfnSpec

open Idealize.ShloMosaic Cert.KernelIdeal.Pay

/-- The operands of an FFN layer on one device, over the extended reals, and the cotangent of its output. -/
structure In where
  ct : Fin 8192 → Fin 1024 → EReal
  x : Fin 8192 → Fin 1024 → EReal
  g : Fin 1024 → EReal
  sc : Fin 1024 → EReal
  sh : Fin 1024 → EReal
  gt : Fin 1024 → EReal
  wi : Fin 1024 → Fin 5632 → EReal
  wo : Fin 2816 → Fin 1024 → EReal

namespace In
variable (I : In)

/-- One half. -/
def half : EReal := Ideal.ofBits .f32 0x3F000000#32

/-- The normed and modulated tokens. -/
def hn (t : Fin 8192) (d : Fin 1024) : EReal := I.x t d * rstd (I.x t) * I.g d * (1 + I.sc d) + I.sh d
/-- The first product. -/
def ab (t : Fin 8192) (j : Fin 5632) : EReal := ∑ d : Fin 1024, I.hn t d * I.wi d j
/-- Its two halves. -/
def a (t : Fin 8192) (k : Fin 2816) : EReal := I.ab t ⟨k.val, by omega⟩
def b (t : Fin 8192) (k : Fin 2816) : EReal := I.ab t ⟨2816 + k.val, by omega⟩
def u (t : Fin 8192) (k : Fin 2816) : EReal := I.a t k * Ideal.logistic (I.a t k) * I.b t k
/-- The second product. -/
def y (t : Fin 8192) (d : Fin 1024) : EReal := ∑ k : Fin 2816, I.u t k * I.wo k d
/-- The layer's output. -/
def xo (t : Fin 8192) (d : Fin 1024) : EReal := I.x t d + half * (1 + I.gt d) * I.y t d

/-- The cotangent of the second product. -/
def dy (t : Fin 8192) (d : Fin 1024) : EReal := half * (1 + I.gt d) * I.ct t d
/-- The cotangent of its left operand. -/
def du (t : Fin 8192) (k : Fin 2816) : EReal := ∑ d : Fin 1024, I.dy t d * I.wo k d
/-- The cotangents of the first product's two halves. -/
def da (t : Fin 8192) (k : Fin 2816) : EReal :=
  I.du t k * I.b t k * (Ideal.logistic (I.a t k) * (1 + I.a t k * (1 - Ideal.logistic (I.a t k))))
def db (t : Fin 8192) (k : Fin 2816) : EReal := I.du t k * (I.a t k * Ideal.logistic (I.a t k))
/-- The two halves, one on the other. -/
def dab (q : Fin 2) (t : Fin 8192) (k : Fin 2816) : EReal := if q.val = 0 then I.da t k else I.db t k
/-- The cotangent of the normed and modulated tokens. -/
def dh (t : Fin 8192) (d : Fin 1024) : EReal :=
  (∑ k : Fin 2816, I.da t k * I.wi d ⟨k.val, by omega⟩) + ∑ k : Fin 2816, I.db t k * I.wi d ⟨2816 + k.val, by omega⟩
def dhn (t : Fin 8192) (d : Fin 1024) : EReal := I.dh t d * (1 + I.sc d)
def xh (t : Fin 8192) (d : Fin 1024) : EReal := I.x t d * rstd (I.x t)
/-- The gradient of the layer's input. -/
def dx (t : Fin 8192) (d : Fin 1024) : EReal := I.ct t d + dnorm (I.x t) (fun e => I.dhn t e * I.g e) d
/-- What one token adds to the gradients of the layer's vectors, one vector to a row. -/
def redT (r : Fin 8) (d : Fin 1024) (t : Fin 8192) : EReal :=
  if r.val = 0 then I.dhn t d * I.xh t d
  else if r.val = 1 then I.dh t d * (I.xh t d * I.g d)
  else if r.val = 2 then I.dh t d
  else if r.val = 3 then half * (I.ct t d * I.y t d)
  else 0
def red (r : Fin 8) (d : Fin 1024) : EReal := ∑ t : Fin 8192, I.redT r d t

end In

theorem half_eq : In.half = ((2⁻¹ : ℝ) : EReal) := by
  unfold In.half
  simp [Ideal.ofBits, Ideal.ieee, -EReal.coe_mul]
  norm_num

/-- A sum of halves is half the sum. -/
theorem half_mul_sum {n : ℕ} (f : Fin n → EReal) : In.half * ∑ a : Fin n, f a = ∑ a : Fin n, In.half * f a := by
  rw [half_eq]
  refine Finset.induction_on (Finset.univ : Finset (Fin n)) (by simp) fun a s ha ih => ?_
  rw [Finset.sum_insert ha, Finset.sum_insert ha, ← ih, EReal.left_distrib_of_nonneg_of_ne_top (by exact_mod_cast (by norm_num : (0:ℝ) ≤ 2⁻¹)) (EReal.coe_ne_top _)]

/-- The operands of the layer as functions of its arguments. -/
def ofArgs (x : FVec Ideal ⟨2, ![8192, 1024]⟩ .f32) (g sh sc gt : FVec Ideal ⟨1, ![1024]⟩ .f32) (wi : FVec Ideal ⟨2, ![1024, 5632]⟩ .f32)
    (wo : FVec Ideal ⟨2, ![2816, 1024]⟩ .f32) (ct : FVec Ideal ⟨2, ![8192, 1024]⟩ .f32) : In where
  ct t d := ct (ix2 t d)
  x t d := x (ix2 t d)
  g d := g (ix1 d)
  sc d := sc (ix1 d)
  sh d := sh (ix1 d)
  gt d := gt (ix1 d)
  wi d j := wi (ix2 d j)
  wo k d := wo (ix2 k d)

theorem sum_halves (f : Fin 2816 → EReal) :
    (∑ k : Fin 1408, f ⟨k.val, by omega⟩) + ∑ k : Fin 1408, f ⟨1408 + k.val, by omega⟩ = ∑ k : Fin 2816, f k := by
  rw [← Fin.sum_mul_add_fin 2 1408 f, Fin.sum_univ_two]
  refine congrArg₂ (· + ·) (Finset.sum_congr rfl fun k _ => ?_) (Finset.sum_congr rfl fun k _ => ?_) <;> congr 2
  simp

/-- The two halves of the layer's columns, each in two blocks, summed block by block. -/
theorem sum_blocks (f g : Fin 2816 → EReal) :
    ((∑ k : Fin 1408, f ⟨k.val, by omega⟩) + ∑ k : Fin 1408, g ⟨k.val, by omega⟩)
      + ((∑ k : Fin 1408, f ⟨1408 + k.val, by omega⟩) + ∑ k : Fin 1408, g ⟨1408 + k.val, by omega⟩)
      = (∑ k : Fin 2816, f k) + ∑ k : Fin 2816, g k := by
  rw [add_add_add_comm, sum_halves, sum_halves]

end Cert.FfnSpec
-- ==== Proof.FfnPay.lean ====
module

public import proofs.«01_k».proof.Proof.FfnSpec
public import proofs.«01_k».proof.Proof.Gen.Kernel2Ideal.Value

@[expose] public section

set_option maxRecDepth 16384

noncomputable section

namespace Cert.Kernel2Ideal.Tile

open Cert.Kernel2Ideal Cert.Kernel2Ideal.Gen Idealize.ShloMosaic Idealize.ShloMosaic.TcCoe Idealize.SL.Sem
open Cert.FfnSpec
open Cert.KernelIdeal.Pay (rstd dnorm)

/-! What the payloads of one tile hold at an index. -/

theorem pay4_at (v : FVec Ideal S1x1024 .f32) (ct : FVec Ideal S256x1024 .f32) (a : Fin 256) (d : Fin 1024) :
    (k0_pay4 (F := Ideal) v ct (ix2 a d) : EReal) = In.half * (1 + v (ix2 0 d)) * ct (ix2 a d) := by
  unfold In.half
  pointwise [k0_pay4]

theorem pay19_at (dy : FVec Ideal S256x1024 .bf16) (o : FVec Ideal S1408x1024 .bf16) (a : Fin 256) (k : Fin 1408) :
    (k0_pay19 (F := Ideal) dy o (ix2 a k) : EReal) = ∑ d : Fin 1024, (dy (ix2 a d) : EReal) * (o (ix2 k d) : EReal) := by
  pointwise [k0_pay19]

theorem pay5_at (v : FVec Ideal S1x1024 .f32) (ct : FVec Ideal S256x1024 .f32) (o : FVec Ideal S1408x1024 .bf16) (a : Fin 256) (k : Fin 1408) :
    (k0_pay5 (F := Ideal) v ct o (ix2 a k) : EReal) = ∑ d : Fin 1024, (k0_pay4 (F := Ideal) v ct (ix2 a d) : EReal) * (o (ix2 k d) : EReal) := by
  rw [k0_pay5]
  generalize k0_pay4 (F := Ideal) v ct = z
  pointwise []

theorem pay6_at (s : FVec Ideal S1x256x1408 .bf16) (a : Fin 256) (k : Fin 1408) : (k0_pay6 (F := Ideal) s (ix2 a k) : EReal) = s (ix3 0 a k) := by
  pointwise [k0_pay6]
theorem pay7_at (s : FVec Ideal S1x256x1408 .bf16) (a : Fin 256) (k : Fin 1408) : (k0_pay7 (F := Ideal) s (ix2 a k) : EReal) = s (ix3 0 a k) := by
  pointwise [k0_pay7]
theorem pay20_at (s : FVec Ideal S1x256x1408 .bf16) (a : Fin 256) (k : Fin 1408) : (k0_pay20 (F := Ideal) s (ix2 a k) : EReal) = s (ix3 0 a k) := by
  pointwise [k0_pay20]
theorem pay21_at (s : FVec Ideal S1x256x1408 .bf16) (a : Fin 256) (k : Fin 1408) : (k0_pay21 (F := Ideal) s (ix2 a k) : EReal) = s (ix3 0 a k) := by
  pointwise [k0_pay21]

theorem pay8_at (s : FVec Ideal S1x256x1408 .bf16) (a : Fin 256) (k : Fin 1408) :
    (k0_pay8 (F := Ideal) s (ix2 a k) : EReal) = Ideal.logistic (s (ix3 0 a k)) := by
  rw [← pay6_at s a k, k0_pay8]; rfl
theorem pay22_at (s : FVec Ideal S1x256x1408 .bf16) (a : Fin 256) (k : Fin 1408) :
    (k0_pay22 (F := Ideal) s (ix2 a k) : EReal) = Ideal.logistic (s (ix3 0 a k)) := by
  rw [← pay20_at s a k, k0_pay22]; rfl
theorem pay9_at (s : FVec Ideal S1x256x1408 .bf16) (a : Fin 256) (k : Fin 1408) :
    (k0_pay9 (F := Ideal) s (ix2 a k) : EReal) = s (ix3 0 a k) * Ideal.logistic (s (ix3 0 a k)) := by
  rw [← pay8_at s a k, ← pay6_at s a k, k0_pay9]; rfl
theorem pay23_at (s : FVec Ideal S1x256x1408 .bf16) (a : Fin 256) (k : Fin 1408) :
    (k0_pay23 (F := Ideal) s (ix2 a k) : EReal) = s (ix3 0 a k) * Ideal.logistic (s (ix3 0 a k)) := by
  rw [← pay22_at s a k, ← pay20_at s a k, k0_pay23]; rfl
theorem pay10_at (s s' : FVec Ideal S1x256x1408 .bf16) (a : Fin 256) (k : Fin 1408) :
    (k0_pay10 (F := Ideal) s s' (ix2 a k) : EReal) = s (ix3 0 a k) * Ideal.logistic (s (ix3 0 a k)) * s' (ix3 0 a k) := by
  rw [← pay9_at s a k, ← pay7_at s' a k, k0_pay10]; rfl
theorem pay24_at (s s' : FVec Ideal S1x256x1408 .bf16) (a : Fin 256) (k : Fin 1408) :
    (k0_pay24 (F := Ideal) s s' (ix2 a k) : EReal) = s (ix3 0 a k) * Ideal.logistic (s (ix3 0 a k)) * s' (ix3 0 a k) := by
  rw [← pay23_at s a k, ← pay21_at s' a k, k0_pay24]; rfl

theorem pay11_at (v : FVec Ideal S1x1024 .f32) (ct : FVec Ideal S256x1024 .f32) (o : FVec Ideal S1408x1024 .bf16) (s : FVec Ideal S1x256x1408 .bf16)
    (a : Fin 256) (k : Fin 1408) :
    (k0_pay11 (F := Ideal) v ct o s (ix2 a k) : EReal) = k0_pay5 (F := Ideal) v ct o (ix2 a k) * s (ix3 0 a k) := by
  rw [← pay7_at s a k, k0_pay11]; rfl

theorem pay12_at (s : FVec Ideal S1x256x1408 .bf16) (a : Fin 256) (k : Fin 1408) :
    (k0_pay12 (F := Ideal) s (ix2 a k) : EReal) = s (ix3 0 a k) * (1 - Ideal.logistic (s (ix3 0 a k))) := by
  rw [← pay8_at s a k, ← pay6_at s a k, k0_pay12]
  generalize k0_pay8 (F := Ideal) s = z
  generalize k0_pay6 (F := Ideal) s = z'
  pointwise []

theorem pay14_at (v23 v28 v31 : FVec Ideal S256x1408 .f32) (a : Fin 256) (k : Fin 1408) :
    (k0_pay14 (F := Ideal) v23 v28 v31 k0_pay13 (ix2 a k) : EReal) = v28 (ix2 a k) * (v23 (ix2 a k) * (1 + v31 (ix2 a k))) := by
  pointwise [k0_pay14, k0_pay13]

theorem pay15_at (x y : FVec Ideal S256x1408 .f32) (a : Fin 256) (k : Fin 1408) :
    (k0_pay15 (F := Ideal) x y (ix2 a k) : EReal) = x (ix2 a k) * y (ix2 a k) := by
  pointwise [k0_pay15]
theorem pay26_at (x y : FVec Ideal S256x1408 .f32) (a : Fin 256) (k : Fin 1408) :
    (k0_pay26 (F := Ideal) x y (ix2 a k) : EReal) = x (ix2 a k) * y (ix2 a k) := by
  pointwise [k0_pay26]

theorem pay25_at (v54 v57 v60 v61 : FVec Ideal S256x1408 .f32) (a : Fin 256) (k : Fin 1408) :
    (k0_pay25 (F := Ideal) v54 v57 v60 v61 (ix2 a k) : EReal)
      = v54 (ix2 a k) * v60 (ix2 a k) * (v61 (ix2 a k) * (1 + v57 (ix2 a k) * (1 - v61 (ix2 a k)))) := by
  pointwise [k0_pay25]

theorem pay16_at (v23 v28 v31 v32 : FVec Ideal S256x1408 .f32) (q : Fin 1) (a : Fin 256) (k : Fin 1408) :
    (k0_pay16 (F := Ideal) v23 v28 v31 v32 (ix3 q a k) : EReal) = k0_pay14 (F := Ideal) v23 v28 v31 v32 (ix2 a k) := by
  rw [k0_pay16]
  generalize k0_pay14 (F := Ideal) v23 v28 v31 v32 = z
  pointwise []
theorem pay17_at (x y : FVec Ideal S256x1408 .f32) (q : Fin 1) (a : Fin 256) (k : Fin 1408) :
    (k0_pay17 (F := Ideal) x y (ix3 q a k) : EReal) = k0_pay15 (F := Ideal) x y (ix2 a k) := by
  rw [k0_pay17]
  generalize k0_pay15 (F := Ideal) x y = z
  pointwise []
theorem pay27_at (v54 v57 v60 v61 : FVec Ideal S256x1408 .f32) (q : Fin 1) (a : Fin 256) (k : Fin 1408) :
    (k0_pay27 (F := Ideal) v54 v57 v60 v61 (ix3 q a k) : EReal) = k0_pay25 (F := Ideal) v54 v57 v60 v61 (ix2 a k) := by
  rw [k0_pay27]
  generalize k0_pay25 (F := Ideal) v54 v57 v60 v61 = z
  pointwise []
theorem pay28_at (x y : FVec Ideal S256x1408 .f32) (q : Fin 1) (a : Fin 256) (k : Fin 1408) :
    (k0_pay28 (F := Ideal) x y (ix3 q a k) : EReal) = k0_pay26 (F := Ideal) x y (ix2 a k) := by
  rw [k0_pay28]
  generalize k0_pay26 (F := Ideal) x y = z
  pointwise []

theorem pay18_at (v16 v23 v24 v28 v31 v32 : FVec Ideal S256x1408 .f32) (wa wb : FVec Ideal S1x1024x1408 .bf16) (a : Fin 256) (d : Fin 1024) :
    (k0_pay18 (F := Ideal) v16 v23 v24 v28 v31 v32 wa wb (ix2 a d) : EReal)
      = (∑ k : Fin 1408, (k0_pay14 (F := Ideal) v23 v28 v31 v32 (ix2 a k) : EReal) * (wa (ix3 0 d k) : EReal))
        + ∑ k : Fin 1408, (k0_pay15 (F := Ideal) v16 v24 (ix2 a k) : EReal) * (wb (ix3 0 d k) : EReal) := by
  rw [k0_pay18]
  generalize k0_pay14 (F := Ideal) v23 v28 v31 v32 = z
  generalize k0_pay15 (F := Ideal) v16 v24 = z'
  pointwise []

theorem pay29_at (v51 : FVec Ideal S256x1024 .f32) (v54 v57 v60 v61 v62 : FVec Ideal S256x1408 .f32) (wa wb : FVec Ideal S1x1024x1408 .bf16) (a : Fin 256) (d : Fin 1024) :
    (k0_pay29 (F := Ideal) v51 v54 v57 v60 v61 v62 wa wb (ix2 a d) : EReal)
      = v51 (ix2 a d) + ((∑ k : Fin 1408, (k0_pay25 (F := Ideal) v54 v57 v60 v61 (ix2 a k) : EReal) * (wa (ix3 0 d k) : EReal))
        + ∑ k : Fin 1408, (k0_pay26 (F := Ideal) v54 v62 (ix2 a k) : EReal) * (wb (ix3 0 d k) : EReal)) := by
  rw [k0_pay29]
  generalize k0_pay25 (F := Ideal) v54 v57 v60 v61 = z
  generalize k0_pay26 (F := Ideal) v54 v62 = z'
  pointwise []

theorem pay32_at (x : FVec Ideal S256x1024 .f32) (a : Fin 256) : (k0_pay32 (F := Ideal) x (ix2 a 0) : EReal) = rstd fun d => x (ix2 a d) := by
  unfold rstd
  pointwise [k0_pay32]

theorem pay33_at (x : FVec Ideal S256x1024 .f32) (a : Fin 256) (d : Fin 1024) :
    (k0_pay33 (F := Ideal) x (ix2 a d) : EReal) = x (ix2 a d) * rstd fun d => x (ix2 a d) := by
  rw [← pay32_at, k0_pay33]
  generalize k0_pay32 (F := Ideal) x = z
  pointwise []

theorem pay34_at (dh : FVec Ideal S256x1024 .f32) (sc : FVec Ideal S1x1024 .f32) (a : Fin 256) (d : Fin 1024) :
    (k0_pay34 (F := Ideal) dh sc (ix2 a d) : EReal) = dh (ix2 a d) * (1 + sc (ix2 0 d)) := by
  pointwise [k0_pay34]

theorem pay35_at (dh : FVec Ideal S256x1024 .f32) (g sc : FVec Ideal S1x1024 .f32) (a : Fin 256) (d : Fin 1024) :
    (k0_pay35 (F := Ideal) dh (k0_pay31 g) sc (ix2 a d) : EReal) = dh (ix2 a d) * (1 + sc (ix2 0 d)) * g (ix2 0 d) := by
  rw [← pay34_at, k0_pay35]
  generalize k0_pay34 (F := Ideal) dh sc = z
  pointwise [k0_pay31]

theorem pay36_at (dh x : FVec Ideal S256x1024 .f32) (sc acc : FVec Ideal S1x1024 .f32) (d : Fin 1024) :
    (k0_pay36 (F := Ideal) dh x sc acc (ix2 0 d) : EReal)
      = acc (ix2 0 d) + ∑ a : Fin 256, dh (ix2 a d) * (1 + sc (ix2 0 d)) * (x (ix2 a d) * rstd fun d => x (ix2 a d)) := by
  simp only [← pay34_at, ← pay33_at]
  rw [k0_pay36]
  generalize k0_pay34 (F := Ideal) dh sc = z
  generalize k0_pay33 (F := Ideal) x = z'
  pointwise []

theorem pay37_at (dh x : FVec Ideal S256x1024 .f32) (g acc : FVec Ideal S1x1024 .f32) (d : Fin 1024) :
    (k0_pay37 (F := Ideal) dh x (k0_pay31 g) acc (ix2 0 d) : EReal)
      = acc (ix2 0 d) + ∑ a : Fin 256, dh (ix2 a d) * (x (ix2 a d) * rstd (fun d => x (ix2 a d)) * g (ix2 0 d)) := by
  simp only [← pay33_at]
  rw [k0_pay37]
  generalize k0_pay33 (F := Ideal) x = z'
  pointwise [k0_pay31]

theorem pay38_at (dh : FVec Ideal S256x1024 .f32) (acc : FVec Ideal S1x1024 .f32) (d : Fin 1024) :
    (k0_pay38 (F := Ideal) dh acc (ix2 0 d) : EReal) = acc (ix2 0 d) + ∑ a : Fin 256, dh (ix2 a d) := by
  pointwise [k0_pay38]

theorem pay1_at (ct : FVec Ideal S256x1024 .f32) (y : FVec Ideal S256x1024 .bf16) (acc : FVec Ideal S1x1024 .f32) (d : Fin 1024) :
    (k0_pay1 (F := Ideal) ct (k0_pay30 y) acc (ix2 0 d) : EReal)
      = acc (ix2 0 d) + In.half * ∑ a : Fin 256, ct (ix2 a d) * (y (ix2 a d) : EReal) := by
  unfold In.half
  pointwise [k0_pay1, k0_pay30]

theorem pay2_at (ct x dxh : FVec Ideal S256x1024 .f32) (a : Fin 256) (d : Fin 1024) :
    (k0_pay2 (F := Ideal) ct (k0_pay32 x) (k0_pay33 x) dxh (ix2 a d) : EReal)
      = ct (ix2 a d) + dnorm (fun d => x (ix2 a d)) (fun d => dxh (ix2 a d)) d := by
  unfold dnorm
  simp only [← pay33_at]
  rw [← pay32_at, k0_pay2]
  generalize k0_pay33 (F := Ideal) x = z
  generalize k0_pay32 (F := Ideal) x = z'
  pointwise []

theorem pay3_at (i : S8x1024.Idx) : (k0_pay3 (F := Ideal) i : EReal) = 0 := by
  pointwise [k0_pay3]

end Cert.Kernel2Ideal.Tile
-- ==== Proof.FfnRef.lean ====
module

public import proofs.«01_k».proof.Proof.FfnSpec
public import proofs.«01_k».proof.Proof.Norm
public import proofs.«01_k».proof.Proof.Gen.Reference2Ideal.Read

@[expose] public section

set_option maxRecDepth 16384

noncomputable section

namespace Cert.Reference2Ideal.Ffn

open Cert.Reference2Ideal Cert.Reference2Ideal.Gen Idealize.ShloMosaic Idealize.ShloMosaic.TcCoe Idealize.SL.Sem
open Cert.Reference2Ideal.Read Cert.FfnSpec Cert.KernelIdeal.Pay Cert.Finite Cert.Norm

variable (x0 : FVec Ideal S8192x1024 .f32) (x1 x2 x3 x4 : FVec Ideal S1024 .f32) (x5 : FVec Ideal S1024x5632 .f32) (x6 : FVec Ideal S2816x1024 .f32)
  (x7 : FVec Ideal S8192x1024 .f32)

/-! The reference's values, stage by stage, in the words of `FfnSpec`. -/

/-- The operands. -/
abbrev opr : In := ofArgs x0 x1 x2 x3 x4 x5 x6 x7

theorem xh_at (t : Fin 8192) (d : Fin 1024) : (val_main_v12 (F := Ideal) x0 (ix2 t d) : EReal) = (opr x0 x1 x2 x3 x4 x5 x6 x7).xh t d := by
  unfold In.xh rstd
  pointwise [val_main_v12, val_main_v11, val_main_v7, val_main_v6, val_main_v5, val_main_v4, val_main_v3, val_main_v2, val_main_v1, val_main_v0, val_main_cst, val_main_cst_0, val_main_cst_1, ofArgs]

theorem xg_at (t : Fin 8192) (d : Fin 1024) : (val_main_v15 (F := Ideal) x0 x1 (ix2 t d) : EReal) = (opr x0 x1 x2 x3 x4 x5 x6 x7).xh t d * (opr x0 x1 x2 x3 x4 x5 x6 x7).g d := by
  rw [← xh_at, val_main_v15]
  generalize val_main_v12 (F := Ideal) x0 = D
  pointwise [val_main_v14, val_main_v13, ofArgs]

theorem hn_at (t : Fin 8192) (d : Fin 1024) : (val_main_v23 (F := Ideal) x0 x1 x2 x3 (ix2 t d) : EReal) = (opr x0 x1 x2 x3 x4 x5 x6 x7).hn t d := by
  rw [show (opr x0 x1 x2 x3 x4 x5 x6 x7).hn t d = (opr x0 x1 x2 x3 x4 x5 x6 x7).xh t d * (opr x0 x1 x2 x3 x4 x5 x6 x7).g d * (1 + (opr x0 x1 x2 x3 x4 x5 x6 x7).sc d) + (opr x0 x1 x2 x3 x4 x5 x6 x7).sh d from rfl, ← xg_at, val_main_v23, val_main_v20]
  generalize val_main_v15 (F := Ideal) x0 x1 = D
  pointwise [val_main_v19, val_main_v18, val_main_v17, val_main_v16, val_main_v22, val_main_v21, val_main_cst_3, ofArgs]

theorem ab_at (t : Fin 8192) (j : Fin 5632) : (val_main_v24 (F := Ideal) x0 x1 x2 x3 x5 (ix2 t j) : EReal) = (opr x0 x1 x2 x3 x4 x5 x6 x7).ab t j := by
  unfold In.ab
  simp only [← hn_at]
  rw [val_main_v24]
  generalize val_main_v23 (F := Ideal) x0 x1 x2 x3 = D
  pointwise [ofArgs]

theorem a_at (t : Fin 8192) (k : Fin 2816) : (val_main_v25 (F := Ideal) x0 x1 x2 x3 x5 (ix2 t k) : EReal) = (opr x0 x1 x2 x3 x4 x5 x6 x7).a t k := by
  unfold In.a
  rw [← ab_at, val_main_v25]
  generalize val_main_v24 (F := Ideal) x0 x1 x2 x3 x5 = D
  pointwise []

theorem b_at (t : Fin 8192) (k : Fin 2816) : (val_main_v26 (F := Ideal) x0 x1 x2 x3 x5 (ix2 t k) : EReal) = (opr x0 x1 x2 x3 x4 x5 x6 x7).b t k := by
  unfold In.b
  rw [← ab_at, val_main_v26]
  generalize val_main_v24 (F := Ideal) x0 x1 x2 x3 x5 = D
  pointwise []

theorem sg_at (t : Fin 8192) (k : Fin 2816) : (val_main_v27_2 (F := Ideal) x0 x1 x2 x3 x5 (ix2 t k) : EReal) = Ideal.logistic ((opr x0 x1 x2 x3 x4 x5 x6 x7).a t k) := by
  rw [← a_at, val_main_v27_2, val_main_call0_v3, val_main_call0_v1, val_main_call0_v0]
  generalize val_main_v25 (F := Ideal) x0 x1 x2 x3 x5 = D
  pointwise [val_main_call0_v4, val_main_call0_v2, val_main_call0_cst, val_main_call0_cst_0]
  rfl

theorem sl_at (t : Fin 8192) (k : Fin 2816) : (val_main_v27_0 (F := Ideal) x0 x1 x2 x3 x5 (ix2 t k) : EReal) = (opr x0 x1 x2 x3 x4 x5 x6 x7).a t k * Ideal.logistic ((opr x0 x1 x2 x3 x4 x5 x6 x7).a t k) := by
  rw [← sg_at, ← a_at, val_main_v27_0]
  generalize val_main_v27_2 (F := Ideal) x0 x1 x2 x3 x5 = E
  generalize val_main_v25 (F := Ideal) x0 x1 x2 x3 x5 = D
  pointwise []

theorem sp_at (t : Fin 8192) (k : Fin 2816) : (val_main_v27_1 (F := Ideal) x0 x1 x2 x3 x5 (ix2 t k) : EReal) = Ideal.logistic ((opr x0 x1 x2 x3 x4 x5 x6 x7).a t k) * (1 - Ideal.logistic ((opr x0 x1 x2 x3 x4 x5 x6 x7).a t k)) := by
  rw [← sg_at, val_main_v27_1, val_main_call0_v7]
  generalize val_main_v27_2 (F := Ideal) x0 x1 x2 x3 x5 = E
  pointwise [val_main_call0_v6, val_main_call0_cst_1]

theorem u_at (t : Fin 8192) (k : Fin 2816) : (val_main_v28 (F := Ideal) x0 x1 x2 x3 x5 (ix2 t k) : EReal) = (opr x0 x1 x2 x3 x4 x5 x6 x7).u t k := by
  unfold In.u
  rw [← sl_at, ← b_at, val_main_v28]
  generalize val_main_v27_0 (F := Ideal) x0 x1 x2 x3 x5 = D
  generalize val_main_v26 (F := Ideal) x0 x1 x2 x3 x5 = E
  pointwise []

theorem y_at (t : Fin 8192) (d : Fin 1024) : (val_main_v29 (F := Ideal) x0 x1 x2 x3 x5 x6 (ix2 t d) : EReal) = (opr x0 x1 x2 x3 x4 x5 x6 x7).y t d := by
  unfold In.y
  simp only [← u_at]
  rw [val_main_v29]
  generalize val_main_v28 (F := Ideal) x0 x1 x2 x3 x5 = D
  pointwise [ofArgs]

theorem dy_at (t : Fin 8192) (d : Fin 1024) : (val_main_v40 (F := Ideal) x4 x7 (ix2 t d) : EReal) = (opr x0 x1 x2 x3 x4 x5 x6 x7).dy t d := by
  unfold In.dy In.half
  pointwise [val_main_v40, val_main_v39, val_main_v38, val_main_v34, val_main_v33, val_main_v32, val_main_v31, val_main_v30, val_main_cst_4, val_main_cst_5, ofArgs]

theorem du_at (t : Fin 8192) (k : Fin 2816) : (val_main_v49 (F := Ideal) x4 x6 x7 (ix2 t k) : EReal) = (opr x0 x1 x2 x3 x4 x5 x6 x7).du t k := by
  unfold In.du
  simp only [← dy_at]
  rw [val_main_v49]
  generalize val_main_v40 (F := Ideal) x4 x7 = D
  pointwise [ofArgs]

theorem db_at (t : Fin 8192) (k : Fin 2816) : (val_main_v50 (F := Ideal) x0 x1 x2 x3 x4 x5 x6 x7 (ix2 t k) : EReal) = (opr x0 x1 x2 x3 x4 x5 x6 x7).db t k := by
  unfold In.db
  rw [mul_comm, ← du_at, ← sl_at, val_main_v50]
  generalize val_main_v49 (F := Ideal) x4 x6 x7 = D
  generalize val_main_v27_0 (F := Ideal) x0 x1 x2 x3 x5 = E
  pointwise []

theorem gy_at (t : Fin 8192) (d : Fin 1024) : (val_main_v41 (F := Ideal) x0 x1 x2 x3 x5 x6 x7 (ix2 t d) : EReal) = (opr x0 x1 x2 x3 x4 x5 x6 x7).ct t d * (opr x0 x1 x2 x3 x4 x5 x6 x7).y t d := by
  rw [← y_at, val_main_v41]
  generalize val_main_v29 (F := Ideal) x0 x1 x2 x3 x5 x6 = D
  pointwise [val_main_v38, ofArgs]

theorem dgt_at (d : Fin 1024) : (val_main_v46 (F := Ideal) x0 x1 x2 x3 x5 x6 x7 (ix1 d) : EReal) = ∑ t : Fin 8192, In.half * ((opr x0 x1 x2 x3 x4 x5 x6 x7).ct t d * (opr x0 x1 x2 x3 x4 x5 x6 x7).y t d) := by
  rw [← half_mul_sum]
  simp only [← gy_at]
  unfold In.half
  rw [val_main_v46, val_main_v45, val_main_v43, val_main_v42]
  generalize val_main_v41 (F := Ideal) x0 x1 x2 x3 x5 x6 x7 = D
  pointwise [val_main_v44, val_main_cst_6, val_main_cst_7, val_main_cst_8]
  exact Fin.sum_univ_one _

/-- The two ways to write the derivative of the gate's activation. -/
theorem silu_eq {D a : EReal} (hD : Re D) (ha : Re a) :
    D * Ideal.logistic a + a * D * (Ideal.logistic a * (1 - Ideal.logistic a)) = D * (Ideal.logistic a * (1 + a * (1 - Ideal.logistic a))) := by
  obtain ⟨D, rfl⟩ := hD
  obtain ⟨a, rfl⟩ := ha
  rw [Ideal.logistic_coe]
  generalize (1 + Real.exp (-a))⁻¹ = q
  rw [← EReal.coe_one]
  norm_cast
  ring

theorem re_half : Re In.half := half_eq ▸ re_coe _
theorem re_logistic {a : EReal} (ha : Re a) : Re (Ideal.logistic a) := by
  obtain ⟨a, rfl⟩ := ha
  rw [Ideal.logistic_coe]; exact re_coe _
theorem re_sub {a b : EReal} (ha : Re a) (hb : Re b) : Re (a - b) := by
  obtain ⟨a, rfl⟩ := ha; obtain ⟨b, rfl⟩ := hb; exact ⟨a - b, (EReal.coe_sub a b).symm⟩

/-- Every operand is a real number. -/
structure Reals (I : In) : Prop where
  ct : ∀ t d, Re (I.ct t d)
  x : ∀ t d, Re (I.x t d)
  g : ∀ d, Re (I.g d)
  sc : ∀ d, Re (I.sc d)
  sh : ∀ d, Re (I.sh d)
  gt : ∀ d, Re (I.gt d)
  wi : ∀ d j, Re (I.wi d j)
  wo : ∀ k d, Re (I.wo k d)

section Re
variable {I : In} (h : Reals I)
include h

theorem re_hn (t : Fin 8192) (d : Fin 1024) : Re (I.hn t d) :=
  ((((h.x t d).mul (re_rstd (h.x t))).mul (h.g d)).mul (re_one.add (h.sc d))).add (h.sh d)
theorem re_ab (t : Fin 8192) (j : Fin 5632) : Re (I.ab t j) := re_sum _ fun d => (re_hn h t d).mul (h.wi d j)
theorem re_du (t : Fin 8192) (k : Fin 2816) : Re (I.du t k) :=
  re_sum _ fun d => ((re_half.mul (re_one.add (h.gt d))).mul (h.ct t d)).mul (h.wo k d)
theorem re_dub (t : Fin 8192) (k : Fin 2816) : Re (I.du t k * I.b t k) := (re_du h t k).mul (re_ab h t _)
theorem re_da (t : Fin 8192) (k : Fin 2816) : Re (I.da t k) :=
  have hs := re_logistic (re_ab h t ⟨k.val, by omega⟩)
  (re_dub h t k).mul (hs.mul (re_one.add ((re_ab h t ⟨k.val, by omega⟩).mul (re_sub re_one hs))))
theorem re_db (t : Fin 8192) (k : Fin 2816) : Re (I.db t k) := (re_du h t k).mul ((re_ab h t _).mul (re_logistic (re_ab h t _)))
theorem re_dh (t : Fin 8192) (d : Fin 1024) : Re (I.dh t d) :=
  (re_sum _ fun k => (re_da h t k).mul (h.wi d _)).add (re_sum _ fun k => (re_db h t k).mul (h.wi d _))
theorem re_dxh (t : Fin 8192) (d : Fin 1024) : Re (I.dhn t d * I.g d) := ((re_dh h t d).mul (re_one.add (h.sc d))).mul (h.g d)
end Re

theorem dub_at (t : Fin 8192) (k : Fin 2816) : (val_main_v51 (F := Ideal) x0 x1 x2 x3 x4 x5 x6 x7 (ix2 t k) : EReal) = (opr x0 x1 x2 x3 x4 x5 x6 x7).du t k * (opr x0 x1 x2 x3 x4 x5 x6 x7).b t k := by
  rw [← du_at, ← b_at, val_main_v51]
  generalize val_main_v49 (F := Ideal) x4 x6 x7 = D
  generalize val_main_v26 (F := Ideal) x0 x1 x2 x3 x5 = E
  pointwise []

theorem half_at (t : Fin 8192) : (val_main_v10 (F := Ideal) x0 (ix2 t 0) : EReal) = Ideal.ofBits .f32 0xBF000000#32 * Ideal.div (rstd ((opr x0 x1 x2 x3 x4 x5 x6 x7).x t)) (msq ((opr x0 x1 x2 x3 x4 x5 x6 x7).x t)) := by
  pointwise [val_main_v10, val_main_v9, val_main_v8, val_main_cst_2, val_main_v7, val_main_v6, val_main_v5, val_main_v4, val_main_v3, val_main_v2, val_main_v1, val_main_v0, val_main_cst, val_main_cst_0, val_main_cst_1, ofArgs, rstd, msq]

theorem rstd_at (t : Fin 8192) (d : Fin 1024) : (val_main_v75 (F := Ideal) x0 (ix2 t d) : EReal) = rstd ((opr x0 x1 x2 x3 x4 x5 x6 x7).x t) := by
  pointwise [val_main_v75, val_main_v7, val_main_v6, val_main_v5, val_main_v4, val_main_v3, val_main_v2, val_main_v1, val_main_v0, val_main_cst, val_main_cst_0, val_main_cst_1, ofArgs, rstd]

section Fin
variable (h : Reals (opr x0 x1 x2 x3 x4 x5 x6 x7))
include h

theorem da_at (t : Fin 8192) (k : Fin 2816) : (val_main_v52 (F := Ideal) x0 x1 x2 x3 x4 x5 x6 x7 (ix2 t k) : EReal) = (opr x0 x1 x2 x3 x4 x5 x6 x7).da t k := by
  unfold In.da
  have ha : Re ((opr x0 x1 x2 x3 x4 x5 x6 x7).a t k) := re_ab h t _
  rw [← silu_eq (re_dub h t k) ha, ← dub_at, ← sp_at, ← sg_at]
  rw [← a_at, val_main_v52, val_main_call1_v2, val_main_call1_v1, val_main_call1_v0]
  generalize val_main_v51 (F := Ideal) x0 x1 x2 x3 x4 x5 x6 x7 = D
  generalize val_main_v25 (F := Ideal) x0 x1 x2 x3 x5 = E
  generalize val_main_v27_2 (F := Ideal) x0 x1 x2 x3 x5 = G
  generalize val_main_v27_1 (F := Ideal) x0 x1 x2 x3 x5 = H
  pointwise []

theorem dab_lo (t : Fin 8192) (k : Fin 2816) : (val_main_v53 (F := Ideal) x0 x1 x2 x3 x4 x5 x6 x7 (ix2 t ⟨k.val, by omega⟩) : EReal) = (opr x0 x1 x2 x3 x4 x5 x6 x7).da t k := by
  rw [← da_at x0 x1 x2 x3 x4 x5 x6 x7 h, val_main_v53]
  generalize val_main_v52 (F := Ideal) x0 x1 x2 x3 x4 x5 x6 x7 = D
  generalize val_main_v50 (F := Ideal) x0 x1 x2 x3 x4 x5 x6 x7 = E
  pointwise []

theorem dab_hi (t : Fin 8192) (k : Fin 2816) : (val_main_v53 (F := Ideal) x0 x1 x2 x3 x4 x5 x6 x7 (ix2 t ⟨2816 + k.val, by omega⟩) : EReal) = (opr x0 x1 x2 x3 x4 x5 x6 x7).db t k := by
  rw [← db_at, val_main_v53]
  generalize val_main_v52 (F := Ideal) x0 x1 x2 x3 x4 x5 x6 x7 = D
  generalize val_main_v50 (F := Ideal) x0 x1 x2 x3 x4 x5 x6 x7 = E
  pointwise []

theorem dh_at (t : Fin 8192) (d : Fin 1024) : (val_main_v56 (F := Ideal) x0 x1 x2 x3 x4 x5 x6 x7 (ix2 t d) : EReal) = (opr x0 x1 x2 x3 x4 x5 x6 x7).dh t d := by
  have e : (val_main_v56 (F := Ideal) x0 x1 x2 x3 x4 x5 x6 x7 (ix2 t d) : EReal) = ∑ j : Fin 5632, (val_main_v53 (F := Ideal) x0 x1 x2 x3 x4 x5 x6 x7 (ix2 t j) : EReal) * (opr x0 x1 x2 x3 x4 x5 x6 x7).wi d j := by
    rw [val_main_v56]
    generalize val_main_v53 (F := Ideal) x0 x1 x2 x3 x4 x5 x6 x7 = D
    pointwise [ofArgs]
  rw [e]
  unfold In.dh
  simp only [← dab_lo x0 x1 x2 x3 x4 x5 x6 x7 h, ← dab_hi x0 x1 x2 x3 x4 x5 x6 x7 h]
  exact (Fin.sum_univ_add (a := 2816) (b := 2816) fun j : Fin 5632 => (val_main_v53 (F := Ideal) x0 x1 x2 x3 x4 x5 x6 x7 (ix2 t j) : EReal) * (opr x0 x1 x2 x3 x4 x5 x6 x7).wi d j)

theorem dhn_at (t : Fin 8192) (d : Fin 1024) : (val_main_v64 (F := Ideal) x0 x1 x2 x3 x4 x5 x6 x7 (ix2 t d) : EReal) = (opr x0 x1 x2 x3 x4 x5 x6 x7).dhn t d := by
  unfold In.dhn
  rw [← dh_at x0 x1 x2 x3 x4 x5 x6 x7 h, val_main_v64]
  generalize val_main_v56 (F := Ideal) x0 x1 x2 x3 x4 x5 x6 x7 = D
  pointwise [val_main_v63, val_main_v18, val_main_v17, val_main_v16, val_main_cst_3, ofArgs]

theorem dxh_at (t : Fin 8192) (d : Fin 1024) : (val_main_v70 (F := Ideal) x0 x1 x2 x3 x4 x5 x6 x7 (ix2 t d) : EReal) = (opr x0 x1 x2 x3 x4 x5 x6 x7).dhn t d * (opr x0 x1 x2 x3 x4 x5 x6 x7).g d := by
  rw [← dhn_at x0 x1 x2 x3 x4 x5 x6 x7 h, val_main_v70]
  generalize val_main_v64 (F := Ideal) x0 x1 x2 x3 x4 x5 x6 x7 = D
  pointwise [val_main_v69, val_main_v13, ofArgs]

theorem dsh_at (d : Fin 1024) : (val_main_v59 (F := Ideal) x0 x1 x2 x3 x4 x5 x6 x7 (ix1 d) : EReal) = ∑ t : Fin 8192, (opr x0 x1 x2 x3 x4 x5 x6 x7).dh t d := by
  simp only [← dh_at x0 x1 x2 x3 x4 x5 x6 x7 h]
  rw [val_main_v59, val_main_v58, val_main_v57]
  generalize val_main_v56 (F := Ideal) x0 x1 x2 x3 x4 x5 x6 x7 = D
  pointwise [val_main_cst_9, val_main_cst_10]
  exact Fin.sum_univ_one _

theorem dsc_at (d : Fin 1024) : (val_main_v65 (F := Ideal) x0 x1 x2 x3 x4 x5 x6 x7 (ix1 d) : EReal) = ∑ t : Fin 8192, (opr x0 x1 x2 x3 x4 x5 x6 x7).dh t d * ((opr x0 x1 x2 x3 x4 x5 x6 x7).xh t d * (opr x0 x1 x2 x3 x4 x5 x6 x7).g d) := by
  simp only [← dh_at x0 x1 x2 x3 x4 x5 x6 x7 h, ← xg_at x0 x1 x2 x3 x4 x5 x6 x7]
  simp only [mul_comm (val_main_v56 (F := Ideal) x0 x1 x2 x3 x4 x5 x6 x7 (ix2 _ _) : EReal)]
  rw [val_main_v65, val_main_v62, val_main_v61, val_main_v60]
  generalize val_main_v56 (F := Ideal) x0 x1 x2 x3 x4 x5 x6 x7 = D
  generalize val_main_v15 (F := Ideal) x0 x1 = E
  pointwise [val_main_cst_11, val_main_cst_12]
  exact Fin.sum_univ_one _

theorem dg_at (d : Fin 1024) : (val_main_v71 (F := Ideal) x0 x1 x2 x3 x4 x5 x6 x7 (ix1 d) : EReal) = ∑ t : Fin 8192, (opr x0 x1 x2 x3 x4 x5 x6 x7).dhn t d * (opr x0 x1 x2 x3 x4 x5 x6 x7).xh t d := by
  simp only [← dhn_at x0 x1 x2 x3 x4 x5 x6 x7 h, ← xh_at x0 x1 x2 x3 x4 x5 x6 x7]
  simp only [mul_comm (val_main_v64 (F := Ideal) x0 x1 x2 x3 x4 x5 x6 x7 (ix2 _ _) : EReal)]
  rw [val_main_v71, val_main_v68, val_main_v67, val_main_v66]
  generalize val_main_v64 (F := Ideal) x0 x1 x2 x3 x4 x5 x6 x7 = D
  generalize val_main_v12 (F := Ideal) x0 = E
  pointwise [val_main_cst_13, val_main_cst_14]
  exact Fin.sum_univ_one _

theorem red_at (r : Fin 8) (d : Fin 1024) : (val_main_v92 (F := Ideal) x0 x1 x2 x3 x4 x5 x6 x7 (ix2 r d) : EReal) = (opr x0 x1 x2 x3 x4 x5 x6 x7).red r d := by
  unfold In.red
  have e0 := dg_at x0 x1 x2 x3 x4 x5 x6 x7 h d
  have e1 := dsc_at x0 x1 x2 x3 x4 x5 x6 x7 h d
  have e2 := dsh_at x0 x1 x2 x3 x4 x5 x6 x7 h d
  have e3 := dgt_at x0 x1 x2 x3 x4 x5 x6 x7 d
  rw [val_main_v92, val_main_v90, val_main_v86, val_main_v87, val_main_v88, val_main_v89]
  generalize val_main_v71 (F := Ideal) x0 x1 x2 x3 x4 x5 x6 x7 = D0 at e0 ⊢
  generalize val_main_v65 (F := Ideal) x0 x1 x2 x3 x4 x5 x6 x7 = D1 at e1 ⊢
  generalize val_main_v59 (F := Ideal) x0 x1 x2 x3 x4 x5 x6 x7 = D2 at e2 ⊢
  generalize val_main_v46 (F := Ideal) x0 x1 x2 x3 x5 x6 x7 = D3 at e3 ⊢
  match r with
  | ⟨0, _⟩ => refine Eq.trans ?_ e0; pointwise []
  | ⟨1, _⟩ => refine Eq.trans ?_ e1; pointwise []
  | ⟨2, _⟩ => refine Eq.trans ?_ e2; pointwise []
  | ⟨3, _⟩ => refine Eq.trans ?_ e3; pointwise []
  | ⟨4, _⟩ => refine Eq.trans (b := (0 : EReal)) ?_ (Finset.sum_eq_zero fun _ _ => rfl).symm; pointwise [val_main_v91, val_main_cst_18]
  | ⟨5, _⟩ => refine Eq.trans (b := (0 : EReal)) ?_ (Finset.sum_eq_zero fun _ _ => rfl).symm; pointwise [val_main_v91, val_main_cst_18]
  | ⟨6, _⟩ => refine Eq.trans (b := (0 : EReal)) ?_ (Finset.sum_eq_zero fun _ _ => rfl).symm; pointwise [val_main_v91, val_main_cst_18]
  | ⟨7, _⟩ => refine Eq.trans (b := (0 : EReal)) ?_ (Finset.sum_eq_zero fun _ _ => rfl).symm; pointwise [val_main_v91, val_main_cst_18]

theorem corr_at (t : Fin 8192) (d : Fin 1024) : (val_main_v81 (F := Ideal) x0 x1 x2 x3 x4 x5 x6 x7 (ix2 t d) : EReal) = Ideal.div ((∑ e : Fin 1024, (opr x0 x1 x2 x3 x4 x5 x6 x7).x t e * ((opr x0 x1 x2 x3 x4 x5 x6 x7).dhn t e * (opr x0 x1 x2 x3 x4 x5 x6 x7).g e)) * (Ideal.ofBits .f32 0xBF000000#32 * Ideal.div (rstd ((opr x0 x1 x2 x3 x4 x5 x6 x7).x t)) (msq ((opr x0 x1 x2 x3 x4 x5 x6 x7).x t)))) (Ideal.ofBits .f32 0x44800000#32) := by
  rw [← half_at]
  simp only [← dxh_at x0 x1 x2 x3 x4 x5 x6 x7 h]
  rw [val_main_v81, val_main_v80, val_main_v79, val_main_v77, val_main_v74, val_main_v73, val_main_v72]
  generalize val_main_v70 (F := Ideal) x0 x1 x2 x3 x4 x5 x6 x7 = D
  generalize val_main_v10 (F := Ideal) x0 = Q
  pointwise [val_main_v78, val_main_cst_15, val_main_cst_16, val_main_cst_17, ofArgs]
  exact Fin.sum_univ_one _

theorem dx_at (t : Fin 8192) (d : Fin 1024) : (val_main_v101 (F := Ideal) x0 x1 x2 x3 x4 x5 x6 x7 (ix2 t d) : EReal) = (opr x0 x1 x2 x3 x4 x5 x6 x7).dx t d := by
  have hd := dnorm_eq ((opr x0 x1 x2 x3 x4 x5 x6 x7).x t) (fun e => (opr x0 x1 x2 x3 x4 x5 x6 x7).dhn t e * (opr x0 x1 x2 x3 x4 x5 x6 x7).g e) d
  rw [In.dx, ← hd, ← corr_at x0 x1 x2 x3 x4 x5 x6 x7 h t d, ← dxh_at x0 x1 x2 x3 x4 x5 x6 x7 h, ← rstd_at x0 x1 x2 x3 x4 x5 x6 x7 t d, val_main_v101, val_main_v85, val_main_v83, val_main_v76, val_main_v82, val_main_v84]
  generalize val_main_v70 (F := Ideal) x0 x1 x2 x3 x4 x5 x6 x7 = D
  generalize val_main_v75 (F := Ideal) x0 = R
  generalize val_main_v81 (F := Ideal) x0 x1 x2 x3 x4 x5 x6 x7 = Q
  refine Eq.trans ?_ (congrArg (· + _) rfl)
  pointwise [ofArgs]

theorem halves_at (q : Fin 2) (t : Fin 8192) (k : Fin 2816) : (val_main_v100 (F := Ideal) x0 x1 x2 x3 x4 x5 x6 x7 (ix3 q t k) : EReal) = (opr x0 x1 x2 x3 x4 x5 x6 x7).dab q t k := by
  unfold In.dab
  rw [← dab_lo x0 x1 x2 x3 x4 x5 x6 x7 h, ← dab_hi x0 x1 x2 x3 x4 x5 x6 x7 h, val_main_v100, val_main_v99, val_main_v98, val_main_v97, val_main_v96, val_main_v95]
  generalize val_main_v53 (F := Ideal) x0 x1 x2 x3 x4 x5 x6 x7 = D
  obtain rfl | rfl : q = 0 ∨ q = 1 := by revert q; decide
  · refine Eq.trans (b := D (ix2 t ⟨k.val, by omega⟩)) ?_ rfl
    pointwise []
  · refine Eq.trans (b := D (ix2 t ⟨2816 + k.val, by omega⟩)) ?_ rfl
    pointwise []

end Fin

end Cert.Reference2Ideal.Ffn
-- ==== Proof.FfnTile.lean ====
module

public import proofs.«01_k».proof.Proof.FfnPay
public import Idealize.ShloMosaic.Lib.StableHlo.ReadAt
public import proofs.«01_k».proof.Proof.FfnRef

@[expose] public section

set_option maxRecDepth 16384

noncomputable section

namespace Cert.Kernel2Ideal.Tile

open Cert.Kernel2Ideal Cert.Kernel2Ideal.Gen Idealize.ShloMosaic Idealize.ShloMosaic.TcCoe Idealize.SL.Sem
open Cert.FfnSpec
open Cert.KernelIdeal.Pay (rstd dnorm)

/-- The blocks of one tile hold the operands `I` at the rows `ρ`. -/
structure Reads (I : In) (ρ : Fin 256 → Fin 8192) (ct x : FVec Ideal S256x1024 .f32) (y : FVec Ideal S256x1024 .bf16) (v0 v1 v3 : FVec Ideal S1x1024 .f32)
    (s0 s1 s2 s3 : FVec Ideal S1x256x1408 .bf16) (a0 b0 a1 b1 : FVec Ideal S1x1024x1408 .bf16) (o0 o1 : FVec Ideal S1408x1024 .bf16) : Prop where
  hct : ∀ (a : Fin 256) (d : Fin 1024), ct (ix2 a d) = I.ct (ρ a) d
  hx : ∀ (a : Fin 256) (d : Fin 1024), x (ix2 a d) = I.x (ρ a) d
  hy : ∀ (a : Fin 256) (d : Fin 1024), (y (ix2 a d) : EReal) = I.y (ρ a) d
  hv0 : ∀ d : Fin 1024, v0 (ix2 0 d) = I.g d
  hv1 : ∀ d : Fin 1024, v1 (ix2 0 d) = I.sc d
  hv3 : ∀ d : Fin 1024, v3 (ix2 0 d) = I.gt d
  hs0 : ∀ (a : Fin 256) (k : Fin 1408), (s0 (ix3 0 a k) : EReal) = I.a (ρ a) ⟨k.val, by omega⟩
  hs1 : ∀ (a : Fin 256) (k : Fin 1408), (s1 (ix3 0 a k) : EReal) = I.b (ρ a) ⟨k.val, by omega⟩
  hs2 : ∀ (a : Fin 256) (k : Fin 1408), (s2 (ix3 0 a k) : EReal) = I.a (ρ a) ⟨1408 + k.val, by omega⟩
  hs3 : ∀ (a : Fin 256) (k : Fin 1408), (s3 (ix3 0 a k) : EReal) = I.b (ρ a) ⟨1408 + k.val, by omega⟩
  ha0 : ∀ (d : Fin 1024) (j : Fin 1408), (a0 (ix3 0 d j) : EReal) = I.wi d ⟨j.val, by omega⟩
  ha1 : ∀ (d : Fin 1024) (j : Fin 1408), (a1 (ix3 0 d j) : EReal) = I.wi d ⟨1408 + j.val, by omega⟩
  hb0 : ∀ (d : Fin 1024) (j : Fin 1408), (b0 (ix3 0 d j) : EReal) = I.wi d ⟨2816 + j.val, by omega⟩
  hb1 : ∀ (d : Fin 1024) (j : Fin 1408), (b1 (ix3 0 d j) : EReal) = I.wi d ⟨2816 + (1408 + j.val), by omega⟩
  ho0 : ∀ (k : Fin 1408) (d : Fin 1024), (o0 (ix2 k d) : EReal) = I.wo ⟨k.val, by omega⟩ d
  ho1 : ∀ (k : Fin 1408) (d : Fin 1024), (o1 (ix2 k d) : EReal) = I.wo ⟨1408 + k.val, by omega⟩ d

/-- The cotangent of the normed and modulated tokens, as a tile computes it. -/
abbrev DH (ct : FVec Ideal S256x1024 .f32) (v3 : FVec Ideal S1x1024 .f32) (s0 s1 s2 s3 : FVec Ideal S1x256x1408 .bf16) (a0 b0 a1 b1 : FVec Ideal S1x1024x1408 .bf16)
    (o0 o1 : FVec Ideal S1408x1024 .bf16) : FVec Ideal S256x1024 .f32 :=
  k0_pay29 (k0_pay18 (k0_pay5 v3 ct o0) (k0_pay8 s0) (k0_pay9 s0) (k0_pay11 v3 ct o0 s1) (k0_pay12 s0) k0_pay13 a0 b0)
    (k0_pay19 (k0_pay4 v3 ct) o1) (k0_pay20 s2) (k0_pay21 s3) (k0_pay22 s2) (k0_pay23 s2) a1 b1

section Of
variable {I : In} {ρ : Fin 256 → Fin 8192} {ct x : FVec Ideal S256x1024 .f32} {y : FVec Ideal S256x1024 .bf16} {v0 v1 v3 : FVec Ideal S1x1024 .f32}
  {s0 s1 s2 s3 : FVec Ideal S1x256x1408 .bf16} {a0 b0 a1 b1 : FVec Ideal S1x1024x1408 .bf16} {o0 o1 : FVec Ideal S1408x1024 .bf16}
  (h : Reads I ρ ct x y v0 v1 v3 s0 s1 s2 s3 a0 b0 a1 b1 o0 o1)
include h

theorem dy_of (a : Fin 256) (d : Fin 1024) : (k0_pay4 (F := Ideal) v3 ct (ix2 a d) : EReal) = I.dy (ρ a) d := by
  rw [pay4_at, h.hv3, h.hct]; rfl

theorem du0_of (a : Fin 256) (k : Fin 1408) : (k0_pay5 (F := Ideal) v3 ct o0 (ix2 a k) : EReal) = I.du (ρ a) ⟨k.val, by omega⟩ := by
  rw [pay5_at]
  simp only [dy_of h, h.ho0]; rfl

theorem du1_of (a : Fin 256) (k : Fin 1408) : (k0_pay19 (F := Ideal) (k0_pay4 v3 ct) o1 (ix2 a k) : EReal) = I.du (ρ a) ⟨1408 + k.val, by omega⟩ := by
  rw [pay19_at]
  simp only [dy_of h, h.ho1]; rfl

theorem u0_of (a : Fin 256) (k : Fin 1408) : (k0_pay10 (F := Ideal) s0 s1 (ix2 a k) : EReal) = I.u (ρ a) ⟨k.val, by omega⟩ := by
  rw [pay10_at, h.hs0, h.hs1]; rfl

theorem u1_of (a : Fin 256) (k : Fin 1408) : (k0_pay24 (F := Ideal) s2 s3 (ix2 a k) : EReal) = I.u (ρ a) ⟨1408 + k.val, by omega⟩ := by
  rw [pay24_at, h.hs2, h.hs3]; rfl

theorem da0_of (a : Fin 256) (k : Fin 1408) :
    (k0_pay14 (F := Ideal) (k0_pay8 s0) (k0_pay11 v3 ct o0 s1) (k0_pay12 s0) k0_pay13 (ix2 a k) : EReal) = I.da (ρ a) ⟨k.val, by omega⟩ := by
  rw [pay14_at, pay8_at, pay11_at, pay12_at, du0_of h, h.hs0, h.hs1]; rfl

theorem db0_of (a : Fin 256) (k : Fin 1408) :
    (k0_pay15 (F := Ideal) (k0_pay5 v3 ct o0) (k0_pay9 s0) (ix2 a k) : EReal) = I.db (ρ a) ⟨k.val, by omega⟩ := by
  rw [pay15_at, pay9_at, du0_of h, h.hs0]; rfl

theorem da1_of (a : Fin 256) (k : Fin 1408) :
    (k0_pay25 (F := Ideal) (k0_pay19 (k0_pay4 v3 ct) o1) (k0_pay20 s2) (k0_pay21 s3) (k0_pay22 s2) (ix2 a k) : EReal) = I.da (ρ a) ⟨1408 + k.val, by omega⟩ := by
  rw [pay25_at, pay20_at, pay21_at, pay22_at, du1_of h, h.hs2, h.hs3]; rfl

theorem db1_of (a : Fin 256) (k : Fin 1408) :
    (k0_pay26 (F := Ideal) (k0_pay19 (k0_pay4 v3 ct) o1) (k0_pay23 s2) (ix2 a k) : EReal) = I.db (ρ a) ⟨1408 + k.val, by omega⟩ := by
  rw [pay26_at, pay23_at, du1_of h, h.hs2]; rfl

theorem dh_of (a : Fin 256) (d : Fin 1024) : (DH ct v3 s0 s1 s2 s3 a0 b0 a1 b1 o0 o1 (ix2 a d) : EReal) = I.dh (ρ a) d := by
  rw [DH, pay29_at, pay18_at]
  simp only [da0_of h, db0_of h, da1_of h, db1_of h, h.ha0, h.ha1, h.hb0, h.hb1]
  exact sum_blocks (fun k => I.da (ρ a) k * I.wi d ⟨k.val, by omega⟩) (fun k => I.db (ρ a) k * I.wi d ⟨2816 + k.val, by omega⟩)

theorem dx_of (a : Fin 256) (d : Fin 1024) :
    (k0_pay2 (F := Ideal) ct (k0_pay32 x) (k0_pay33 x) (k0_pay35 (DH ct v3 s0 s1 s2 s3 a0 b0 a1 b1 o0 o1) (k0_pay31 v0) v1) (ix2 a d) : EReal) = I.dx (ρ a) d := by
  rw [pay2_at]
  simp only [pay35_at, dh_of h, h.hct, h.hx, h.hv0, h.hv1]; rfl

theorem red0_of (acc : FVec Ideal S1x1024 .f32) (d : Fin 1024) :
    (k0_pay36 (F := Ideal) (DH ct v3 s0 s1 s2 s3 a0 b0 a1 b1 o0 o1) x v1 acc (ix2 0 d) : EReal) = acc (ix2 0 d) + ∑ a : Fin 256, I.redT 0 d (ρ a) := by
  rw [pay36_at]
  simp only [dh_of h, h.hx, h.hv1]; rfl

theorem red1_of (acc : FVec Ideal S1x1024 .f32) (d : Fin 1024) :
    (k0_pay37 (F := Ideal) (DH ct v3 s0 s1 s2 s3 a0 b0 a1 b1 o0 o1) x (k0_pay31 v0) acc (ix2 0 d) : EReal) = acc (ix2 0 d) + ∑ a : Fin 256, I.redT 1 d (ρ a) := by
  rw [pay37_at]
  simp only [dh_of h, h.hx, h.hv0]; rfl

theorem red2_of (acc : FVec Ideal S1x1024 .f32) (d : Fin 1024) :
    (k0_pay38 (F := Ideal) (DH ct v3 s0 s1 s2 s3 a0 b0 a1 b1 o0 o1) acc (ix2 0 d) : EReal) = acc (ix2 0 d) + ∑ a : Fin 256, I.redT 2 d (ρ a) := by
  rw [pay38_at]
  simp only [dh_of h]; rfl

theorem red3_of (acc : FVec Ideal S1x1024 .f32) (d : Fin 1024) :
    (k0_pay1 (F := Ideal) ct (k0_pay30 y) acc (ix2 0 d) : EReal) = acc (ix2 0 d) + ∑ a : Fin 256, I.redT 3 d (ρ a) := by
  rw [pay1_at, half_mul_sum]
  simp only [h.hct, h.hy]; rfl

end Of

variable (m : (ℓ : Loc nD τ sig) → Buf (Elt Ideal) ℓ) (c : Dev nD)

/-- The call's operands as functions of the program's arguments. -/
def opnd : In := ofArgs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

theorem idx : ∀ t : Fin cfg0.N,
    win0_0.index t = ![t.val, 0] ∧ win0_1.index t = ![0, 0] ∧ win0_2.index t = ![0, t.val, 0] ∧ win0_3.index t = ![0, 0, 0] ∧ win0_4.index t = ![1, 0, 0]
      ∧ win0_5.index t = ![0, 0] ∧ win0_6.index t = ![t.val, 0] ∧ win0_7.index t = ![t.val, 0] ∧ win0_8.index t = ![t.val, 0]
      ∧ win0_9.index t = ![t.val, 0] ∧ win0_10.index t = ![0, t.val, 0] ∧ win0_11.index t = ![t.val, 0] :=
  (by decide +kernel : ∀ t : Fin grid0.N, _)

theorem N32 (t : Fin cfg0.N) : t.val < 32 := t.isLt.trans_le (le_of_eq N_0)

/-- The token that row `a` of the tile of point `t` holds. -/
def row (t : Fin cfg0.N) (a : Fin 256) : Fin 8192 := ⟨t.val * 256 + a.val, by have := N32 t; omega⟩

/-! What the host leaves in the arrays that the call reads. -/

open Cert.Reference2Ideal.Read in
/-- The product with the second weight, as the reference has it of the same arguments. -/
theorem V_y : (V m c main_v27 : FVec Ideal S8192x1024 .bf16) = fun i => (val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) i : EReal) := by
  entry_read
  rfl

/-- The product with the first weight, its two halves of columns stacked. -/
def stk (a b : FVec Ideal S8192x2816 .f32) : FVec Ideal S2x8192x2816 .bf16 :=
  truncf .bf16 (concatenate S2x8192x2816 0 [⟨S1x8192x2816, broadcastInDim S1x8192x2816 ![1, 2] bcast_S8192x2816_S1x8192x2816_1_2 a⟩,
    ⟨S1x8192x2816, broadcastInDim S1x8192x2816 ![1, 2] bcast_S8192x2816_S1x8192x2816_1_2 b⟩] concatenates_S1x8192x2816_S1x8192x2816_S2x8192x2816_d0) bitsLt_bf16_f32

theorem stk0 (a b : FVec Ideal S8192x2816 .f32) (t k) : (stk a b (ix3 0 t k) : EReal) = a (ix2 t k) := by pointwise [stk]
theorem stk1 (a b : FVec Ideal S8192x2816 .f32) (t k) : (stk a b (ix3 1 t k) : EReal) = b (ix2 t k) := by pointwise [stk]

open Cert.Reference2Ideal.Read in
set_option maxHeartbeats 2000000 in
theorem V_ab : (V m c main_v42 : FVec Ideal S2x8192x2816 .bf16) = stk (val_main_v25 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))) (val_main_v26 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))) := by
  unfold_abbrev_sides
  after_reads_simp
  rfl

theorem V_g (d : Fin 1024) : ((V m c main_v36 : FVec Ideal S8x1024 .f32) (ix2 0 d) : EReal) = (opnd m c).g d := by
  unfold_abbrev_sides
  after_reads_at
  rw [StableHlo.reshape_result']
  after_reads_at
theorem V_sc (d : Fin 1024) : ((V m c main_v36 : FVec Ideal S8x1024 .f32) (ix2 1 d) : EReal) = (opnd m c).sc d := by
  unfold_abbrev_sides
  after_reads_at
  rw [StableHlo.reshape_result']
  after_reads_at
theorem V_gt (d : Fin 1024) : ((V m c main_v36 : FVec Ideal S8x1024 .f32) (ix2 3 d) : EReal) = (opnd m c).gt d := by
  unfold_abbrev_sides
  after_reads_at
  rw [StableHlo.reshape_result']
  after_reads_at
theorem V_wo (k : Fin 2816) (d : Fin 1024) : ((V m c main_v43 : FVec Ideal S2816x1024 .bf16) (ix2 k d) : EReal) = (opnd m c).wo k d := by
  unfold_abbrev_sides
  after_reads_at
theorem V_wi (q : Fin 4) (d : Fin 1024) (j : Fin 1408) : ((V m c main_v30 : FVec Ideal S4x1024x1408 .bf16) (ix3 q d j) : EReal)
    = (opnd m c).wi d ⟨q.val * 1408 + j.val, by omega⟩ := by
  unfold_abbrev_sides
  after_reads_at

open Cert.Reference2Ideal.Ffn in
theorem V_yI (t : Fin 8192) (d : Fin 1024) : ((V m c main_v27 : FVec Ideal S8192x1024 .bf16) (ix2 t d) : EReal) = (opnd m c).y t d :=
  (congrFun (V_y m c) (ix2 t d)).trans (y_at _ _ _ _ _ _ _ _ t d)
open Cert.Reference2Ideal.Ffn in
theorem V_a (t : Fin 8192) (k : Fin 2816) : ((V m c main_v42 : FVec Ideal S2x8192x2816 .bf16) (ix3 0 t k) : EReal) = (opnd m c).a t k :=
  (congrFun (V_ab m c) (ix3 0 t k)).trans ((stk0 _ _ t k).trans (a_at _ _ _ _ _ _ _ _ t k))
open Cert.Reference2Ideal.Ffn in
theorem V_b (t : Fin 8192) (k : Fin 2816) : ((V m c main_v42 : FVec Ideal S2x8192x2816 .bf16) (ix3 1 t k) : EReal) = (opnd m c).b t k :=
  (congrFun (V_ab m c) (ix3 1 t k)).trans ((stk1 _ _ t k).trans (b_at _ _ _ _ _ _ _ _ t k))

section Point
variable (t : Fin cfg0.N)

theorem b0 (a : Fin 256) (d : Fin 1024) : (iblk m c 0 t : FVec Ideal S256x1024 .f32) (ix2 a d) = (V m c main_arg7 : FVec Ideal S8192x1024 .f32) (ix2 (row t a) d) := by
  blk_ext [iblk, row, idx t]
theorem b1 (r : Fin 8) (d : Fin 1024) : (iblk m c 1 t : FVec Ideal S8x1024 .f32) (ix2 r d) = (V m c main_v36 : FVec Ideal S8x1024 .f32) (ix2 r d) := by
  blk_ext [iblk, idx t]
theorem b2 (q : Fin 2) (a : Fin 256) (k : Fin 2816) : (iblk m c 2 t : FVec Ideal S2x256x2816 .bf16) (ix3 q a k) = (V m c main_v42 : FVec Ideal S2x8192x2816 .bf16) (ix3 q (row t a) k) := by
  blk_ext [iblk, row, idx t]
theorem b3 (q : Fin 2) (d : Fin 1024) (j : Fin 1408) : (iblk m c 3 t : FVec Ideal S2x1024x1408 .bf16) (ix3 q d j) = (V m c main_v30 : FVec Ideal S4x1024x1408 .bf16) (ix3 ⟨q.val, by omega⟩ d j) := by
  blk_ext [iblk, idx t]
theorem b4 (q : Fin 2) (d : Fin 1024) (j : Fin 1408) : (iblk m c 4 t : FVec Ideal S2x1024x1408 .bf16) (ix3 q d j) = (V m c main_v30 : FVec Ideal S4x1024x1408 .bf16) (ix3 ⟨2 + q.val, by omega⟩ d j) := by
  blk_ext [iblk, idx t]
theorem b5 (k : Fin 2816) (d : Fin 1024) : (iblk m c 5 t : FVec Ideal S2816x1024 .bf16) (ix2 k d) = (V m c main_v43 : FVec Ideal S2816x1024 .bf16) (ix2 k d) := by
  blk_ext [iblk, idx t]
theorem b6 (a : Fin 256) (d : Fin 1024) : (iblk m c 6 t : FVec Ideal S256x1024 .f32) (ix2 a d) = (V m c main_arg0 : FVec Ideal S8192x1024 .f32) (ix2 (row t a) d) := by
  blk_ext [iblk, row, idx t]
theorem b7 (a : Fin 256) (d : Fin 1024) : (iblk m c 7 t : FVec Ideal S256x1024 .bf16) (ix2 a d) = (V m c main_v27 : FVec Ideal S8192x1024 .bf16) (ix2 (row t a) d) := by
  blk_ext [iblk, row, idx t]

set_option maxHeartbeats 2000000 in
theorem reads : Reads (opnd m c) (row t) (iblk m c 0 t : FVec Ideal S256x1024 .f32) (iblk m c 6 t : FVec Ideal S256x1024 .f32) (iblk m c 7 t : FVec Ideal S256x1024 .bf16)
    (View.ld (iblk m c 1 t : FVec Ideal S8x1024 .f32) (Rect.unit ![0, 0] ![1, 1024] inb_S8x1024_S1x1024_0_0))
    (View.ld (iblk m c 1 t : FVec Ideal S8x1024 .f32) (Rect.unit ![1, 0] ![1, 1024] inb_S8x1024_S1x1024_1_0))
    (View.ld (iblk m c 1 t : FVec Ideal S8x1024 .f32) (Rect.unit ![3, 0] ![1, 1024] inb_S8x1024_S1x1024_3_0))
    (View.ld (iblk m c 2 t : FVec Ideal S2x256x2816 .bf16) (Rect.unit ![0, 0, 0] ![1, 256, 1408] inb_S2x256x2816_S1x256x1408_0_0_0))
    (View.ld (iblk m c 2 t : FVec Ideal S2x256x2816 .bf16) (Rect.unit ![1, 0, 0] ![1, 256, 1408] inb_S2x256x2816_S1x256x1408_1_0_0))
    (View.ld (iblk m c 2 t : FVec Ideal S2x256x2816 .bf16) (Rect.unit ![0, 0, 1408] ![1, 256, 1408] inb_S2x256x2816_S1x256x1408_0_0_1408))
    (View.ld (iblk m c 2 t : FVec Ideal S2x256x2816 .bf16) (Rect.unit ![1, 0, 1408] ![1, 256, 1408] inb_S2x256x2816_S1x256x1408_1_0_1408))
    (View.ld (iblk m c 3 t : FVec Ideal S2x1024x1408 .bf16) (Rect.unit ![0, 0, 0] ![1, 1024, 1408] inb_S2x1024x1408_S1x1024x1408_0_0_0))
    (View.ld (iblk m c 4 t : FVec Ideal S2x1024x1408 .bf16) (Rect.unit ![0, 0, 0] ![1, 1024, 1408] inb_S2x1024x1408_S1x1024x1408_0_0_0))
    (View.ld (iblk m c 3 t : FVec Ideal S2x1024x1408 .bf16) (Rect.unit ![1, 0, 0] ![1, 1024, 1408] inb_S2x1024x1408_S1x1024x1408_1_0_0))
    (View.ld (iblk m c 4 t : FVec Ideal S2x1024x1408 .bf16) (Rect.unit ![1, 0, 0] ![1, 1024, 1408] inb_S2x1024x1408_S1x1024x1408_1_0_0))
    (View.ld (iblk m c 5 t : FVec Ideal S2816x1024 .bf16) (Rect.unit ![0, 0] ![1408, 1024] inb_S2816x1024_S1408x1024_0_0))
    (View.ld (iblk m c 5 t : FVec Ideal S2816x1024 .bf16) (Rect.unit ![1408, 0] ![1408, 1024] inb_S2816x1024_S1408x1024_1408_0)) where
  hct a d := (b0 m c t a d).trans (congrFun (V_main_arg7 m c) _)
  hx a d := (b6 m c t a d).trans (congrFun (V_main_arg0 m c) _)
  hy a d := (b7 m c t a d).trans (V_yI m c _ d)
  hv0 d := (View.ld_unit_apply_of _ _ _ _ _ (ix2 0 d : S8x1024.Idx) (fun a => by match a with | ⟨0, _⟩ => simp | ⟨1, _⟩ => simp)).trans ((b1 m c t 0 d).trans (V_g m c d))
  hv1 d := (View.ld_unit_apply_of _ _ _ _ _ (ix2 1 d : S8x1024.Idx) (fun a => by match a with | ⟨0, _⟩ => simp | ⟨1, _⟩ => simp)).trans ((b1 m c t 1 d).trans (V_sc m c d))
  hv3 d := (View.ld_unit_apply_of _ _ _ _ _ (ix2 3 d : S8x1024.Idx) (fun a => by match a with | ⟨0, _⟩ => rfl | ⟨1, _⟩ => simp)).trans ((b1 m c t 3 d).trans (V_gt m c d))
  hs0 a k := (View.ld_unit_apply_of _ _ _ _ _ (ix3 0 a ⟨k.val, by omega⟩ : S2x256x2816.Idx) (fun a => by match a with | ⟨0, _⟩ => rfl | ⟨1, _⟩ => simp | ⟨2, _⟩ => simp)).trans ((b2 m c t 0 a _).trans (V_a m c _ _))
  hs1 a k := (View.ld_unit_apply_of _ _ _ _ _ (ix3 1 a ⟨k.val, by omega⟩ : S2x256x2816.Idx) (fun a => by match a with | ⟨0, _⟩ => rfl | ⟨1, _⟩ => simp | ⟨2, _⟩ => simp)).trans ((b2 m c t 1 a _).trans (V_b m c _ _))
  hs2 a k := (View.ld_unit_apply_of _ _ _ _ _ (ix3 0 a ⟨1408 + k.val, by omega⟩ : S2x256x2816.Idx) (fun a => by match a with | ⟨0, _⟩ => rfl | ⟨1, _⟩ => simp | ⟨2, _⟩ => simp)).trans ((b2 m c t 0 a _).trans (V_a m c _ _))
  hs3 a k := (View.ld_unit_apply_of _ _ _ _ _ (ix3 1 a ⟨1408 + k.val, by omega⟩ : S2x256x2816.Idx) (fun a => by match a with | ⟨0, _⟩ => rfl | ⟨1, _⟩ => simp | ⟨2, _⟩ => simp)).trans ((b2 m c t 1 a _).trans (V_b m c _ _))
  ha0 d j := (View.ld_unit_apply_of _ _ _ _ _ (ix3 0 d j : S2x1024x1408.Idx) (fun a => by match a with | ⟨0, _⟩ => rfl | ⟨1, _⟩ => simp | ⟨2, _⟩ => simp)).trans
    ((b3 m c t 0 d j).trans ((V_wi m c _ d j).trans (congrArg ((opnd m c).wi d) (Fin.ext (by simp)))))
  hb0 d j := (View.ld_unit_apply_of _ _ _ _ _ (ix3 0 d j : S2x1024x1408.Idx) (fun a => by match a with | ⟨0, _⟩ => rfl | ⟨1, _⟩ => simp | ⟨2, _⟩ => simp)).trans
    ((b4 m c t 0 d j).trans ((V_wi m c _ d j).trans (congrArg ((opnd m c).wi d) (Fin.ext (by simp)))))
  ha1 d j := (View.ld_unit_apply_of _ _ _ _ _ (ix3 1 d j : S2x1024x1408.Idx) (fun a => by match a with | ⟨0, _⟩ => rfl | ⟨1, _⟩ => simp | ⟨2, _⟩ => simp)).trans
    ((b3 m c t 1 d j).trans ((V_wi m c _ d j).trans (congrArg ((opnd m c).wi d) (Fin.ext (by simp)))))
  hb1 d j := (View.ld_unit_apply_of _ _ _ _ _ (ix3 1 d j : S2x1024x1408.Idx) (fun a => by match a with | ⟨0, _⟩ => rfl | ⟨1, _⟩ => simp | ⟨2, _⟩ => simp)).trans
    ((b4 m c t 1 d j).trans ((V_wi m c _ d j).trans (congrArg ((opnd m c).wi d) (Fin.ext (by simp; omega)))))
  ho0 k d := (View.ld_unit_apply_of _ _ _ _ _ (ix2 ⟨k.val, by omega⟩ d : S2816x1024.Idx) (fun a => by match a with | ⟨0, _⟩ => simp | ⟨1, _⟩ => simp)).trans
    ((b5 m c t _ d).trans (V_wo m c _ d))
  ho1 k d := (View.ld_unit_apply_of _ _ _ _ _ (ix2 ⟨1408 + k.val, by omega⟩ d : S2816x1024.Idx) (fun a => by match a with | ⟨0, _⟩ => simp | ⟨1, _⟩ => simp)).trans
    ((b5 m c t _ d).trans (V_wo m c _ d))

end Point

end Cert.Kernel2Ideal.Tile
-- ==== Proof.FfnOut.lean ====
module

public import proofs.«01_k».proof.Proof.FfnTile

@[expose] public section

set_option maxRecDepth 16384

noncomputable section

namespace Cert.Kernel2Ideal.Tile

open Cert.Kernel2Ideal Cert.Kernel2Ideal.Gen Idealize.ShloMosaic Idealize.ShloMosaic.TcCoe Idealize.SL.Sem
open Cert.FfnSpec
open Cert.KernelIdeal.Tile (canon_hit canon_miss rows4_A rows4_B ld_row)

variable (m : (ℓ : Loc nD τ sig) → Buf (Elt Ideal) ℓ) (c : Dev nD)

/-! What each tile leaves in the outputs' buffers. -/

section Point
variable (t : Fin cfg0.N)

set_option maxHeartbeats 2000000 in
theorem out8 (a : Fin 256) (d : Fin 1024) : (((outsAt0 m c t.val t.isLt).1 : FVec Ideal S256x1024 .bf16) (ix2 a d) : EReal) = (opnd m c).dy (row t a) d := by
  by_cases h0 : t.val % 32 = 0
  · rw [outsAt0_A m c t h0]; frame_open
    simp (disch := decide) only [↓ View.readCov_skip, ↓ View.readCov_cons_toLoadRect, ↓ View.readCov_fill]
    frame_out
    exact dy_of (reads m c t) a d
  · rw [outsAt0_B m c t h0]; frame_open
    simp (disch := decide) only [↓ View.readCov_skip, ↓ View.readCov_cons_toLoadRect, ↓ View.readCov_fill]
    frame_out
    exact dy_of (reads m c t) a d

set_option maxHeartbeats 2000000 in
theorem out9_lo (a : Fin 256) (k : Fin 1408) : (((outsAt0 m c t.val t.isLt).2.1 : FVec Ideal S256x2816 .bf16) (ix2 a ⟨k.val, by omega⟩) : EReal) = (opnd m c).u (row t a) ⟨k.val, by omega⟩ := by
  by_cases h0 : t.val % 32 = 0
  · rw [outsAt0_A m c t h0]; frame_open
    simp (disch := decide) only [↓ View.readCov_skip, ↓ View.readCov_cons_toLoadRect, ↓ View.readCov_fill]
    frame_out
    rw [canon_miss _ _ _ _ (1 : Fin 2) (by left; simp)]
    refine (canon_hit _ _ _ _ (ix2 a k : S256x1408.Idx) (fun a => by match a with | ⟨0, _⟩ => simp | ⟨1, _⟩ => simp)).trans ?_
    exact u0_of (reads m c t) a k
  · rw [outsAt0_B m c t h0]; frame_open
    simp (disch := decide) only [↓ View.readCov_skip, ↓ View.readCov_cons_toLoadRect, ↓ View.readCov_fill]
    frame_out
    rw [canon_miss _ _ _ _ (1 : Fin 2) (by left; simp)]
    refine (canon_hit _ _ _ _ (ix2 a k : S256x1408.Idx) (fun a => by match a with | ⟨0, _⟩ => simp | ⟨1, _⟩ => simp)).trans ?_
    exact u0_of (reads m c t) a k

set_option maxHeartbeats 2000000 in
theorem out9_hi (a : Fin 256) (k : Fin 1408) : (((outsAt0 m c t.val t.isLt).2.1 : FVec Ideal S256x2816 .bf16) (ix2 a ⟨1408 + k.val, by omega⟩) : EReal) = (opnd m c).u (row t a) ⟨1408 + k.val, by omega⟩ := by
  by_cases h0 : t.val % 32 = 0
  · rw [outsAt0_A m c t h0]; frame_open
    simp (disch := decide) only [↓ View.readCov_skip, ↓ View.readCov_cons_toLoadRect, ↓ View.readCov_fill]
    frame_out
    refine (canon_hit _ _ _ _ (ix2 a k : S256x1408.Idx) (fun a => by match a with | ⟨0, _⟩ => simp | ⟨1, _⟩ => simp)).trans ?_
    exact u1_of (reads m c t) a k
  · rw [outsAt0_B m c t h0]; frame_open
    simp (disch := decide) only [↓ View.readCov_skip, ↓ View.readCov_cons_toLoadRect, ↓ View.readCov_fill]
    frame_out
    refine (canon_hit _ _ _ _ (ix2 a k : S256x1408.Idx) (fun a => by match a with | ⟨0, _⟩ => simp | ⟨1, _⟩ => simp)).trans ?_
    exact u1_of (reads m c t) a k

set_option maxHeartbeats 2000000 in
theorem out10_lo (q : Fin 2) (a : Fin 256) (k : Fin 1408) : (((outsAt0 m c t.val t.isLt).2.2.1 : FVec Ideal S2x256x2816 .bf16) (ix3 q a ⟨k.val, by omega⟩) : EReal) = (opnd m c).dab q (row t a) ⟨k.val, by omega⟩ := by
  by_cases h0 : t.val % 32 = 0
  · rw [outsAt0_A m c t h0]; frame_open
    simp (disch := decide) only [↓ View.readCov_skip, ↓ View.readCov_cons_toLoadRect, ↓ View.readCov_fill]
    frame_out
    rw [canon_miss _ _ _ _ (2 : Fin 3) (by left; simp), canon_miss _ _ _ _ (2 : Fin 3) (by left; simp)]
    obtain rfl | rfl : q = 0 ∨ q = 1 := by revert q; decide
    · rw [canon_miss _ _ _ _ (0 : Fin 3) (by left; simp)]
      refine (canon_hit _ _ _ _ (ix3 0 a k : S1x256x1408.Idx) (fun a => by match a with | ⟨0, _⟩ => rfl | ⟨1, _⟩ => simp | ⟨2, _⟩ => simp)).trans ?_
      exact (pay16_at _ _ _ _ _ _ _).trans (da0_of (reads m c t) a k)
    · refine (canon_hit _ _ _ _ (ix3 0 a k : S1x256x1408.Idx) (fun a => by match a with | ⟨0, _⟩ => rfl | ⟨1, _⟩ => simp | ⟨2, _⟩ => simp)).trans ?_
      exact (pay17_at _ _ _ _ _).trans (db0_of (reads m c t) a k)
  · rw [outsAt0_B m c t h0]; frame_open
    simp (disch := decide) only [↓ View.readCov_skip, ↓ View.readCov_cons_toLoadRect, ↓ View.readCov_fill]
    frame_out
    rw [canon_miss _ _ _ _ (2 : Fin 3) (by left; simp), canon_miss _ _ _ _ (2 : Fin 3) (by left; simp)]
    obtain rfl | rfl : q = 0 ∨ q = 1 := by revert q; decide
    · rw [canon_miss _ _ _ _ (0 : Fin 3) (by left; simp)]
      refine (canon_hit _ _ _ _ (ix3 0 a k : S1x256x1408.Idx) (fun a => by match a with | ⟨0, _⟩ => rfl | ⟨1, _⟩ => simp | ⟨2, _⟩ => simp)).trans ?_
      exact (pay16_at _ _ _ _ _ _ _).trans (da0_of (reads m c t) a k)
    · refine (canon_hit _ _ _ _ (ix3 0 a k : S1x256x1408.Idx) (fun a => by match a with | ⟨0, _⟩ => rfl | ⟨1, _⟩ => simp | ⟨2, _⟩ => simp)).trans ?_
      exact (pay17_at _ _ _ _ _).trans (db0_of (reads m c t) a k)

set_option maxHeartbeats 2000000 in
theorem out10_hi (q : Fin 2) (a : Fin 256) (k : Fin 1408) : (((outsAt0 m c t.val t.isLt).2.2.1 : FVec Ideal S2x256x2816 .bf16) (ix3 q a ⟨1408 + k.val, by omega⟩) : EReal) = (opnd m c).dab q (row t a) ⟨1408 + k.val, by omega⟩ := by
  by_cases h0 : t.val % 32 = 0
  · rw [outsAt0_A m c t h0]; frame_open
    simp (disch := decide) only [↓ View.readCov_skip, ↓ View.readCov_cons_toLoadRect, ↓ View.readCov_fill]
    frame_out
    obtain rfl | rfl : q = 0 ∨ q = 1 := by revert q; decide
    · rw [canon_miss _ _ _ _ (0 : Fin 3) (by left; simp)]
      refine (canon_hit _ _ _ _ (ix3 0 a k : S1x256x1408.Idx) (fun a => by match a with | ⟨0, _⟩ => rfl | ⟨1, _⟩ => simp | ⟨2, _⟩ => simp)).trans ?_
      exact (pay27_at _ _ _ _ _ _ _).trans (da1_of (reads m c t) a k)
    · refine (canon_hit _ _ _ _ (ix3 0 a k : S1x256x1408.Idx) (fun a => by match a with | ⟨0, _⟩ => rfl | ⟨1, _⟩ => simp | ⟨2, _⟩ => simp)).trans ?_
      exact (pay28_at _ _ _ _ _).trans (db1_of (reads m c t) a k)
  · rw [outsAt0_B m c t h0]; frame_open
    simp (disch := decide) only [↓ View.readCov_skip, ↓ View.readCov_cons_toLoadRect, ↓ View.readCov_fill]
    frame_out
    obtain rfl | rfl : q = 0 ∨ q = 1 := by revert q; decide
    · rw [canon_miss _ _ _ _ (0 : Fin 3) (by left; simp)]
      refine (canon_hit _ _ _ _ (ix3 0 a k : S1x256x1408.Idx) (fun a => by match a with | ⟨0, _⟩ => rfl | ⟨1, _⟩ => simp | ⟨2, _⟩ => simp)).trans ?_
      exact (pay27_at _ _ _ _ _ _ _).trans (da1_of (reads m c t) a k)
    · refine (canon_hit _ _ _ _ (ix3 0 a k : S1x256x1408.Idx) (fun a => by match a with | ⟨0, _⟩ => rfl | ⟨1, _⟩ => simp | ⟨2, _⟩ => simp)).trans ?_
      exact (pay28_at _ _ _ _ _).trans (db1_of (reads m c t) a k)

set_option maxHeartbeats 2000000 in
theorem out11 (a : Fin 256) (d : Fin 1024) : (((outsAt0 m c t.val t.isLt).2.2.2.1 : FVec Ideal S256x1024 .f32) (ix2 a d) : EReal) = (opnd m c).dx (row t a) d := by
  by_cases h0 : t.val % 32 = 0
  · rw [outsAt0_A m c t h0]; frame_open
    simp (disch := decide) only [↓ View.readCov_skip, ↓ View.readCov_cons_toLoadRect, ↓ View.readCov_fill]
    frame_out
    exact dx_of (reads m c t) a d
  · rw [outsAt0_B m c t h0]; frame_open
    simp (disch := decide) only [↓ View.readCov_skip, ↓ View.readCov_cons_toLoadRect, ↓ View.readCov_fill]
    frame_out
    exact dx_of (reads m c t) a d

theorem out9 (a : Fin 256) (k : Fin 2816) : (((outsAt0 m c t.val t.isLt).2.1 : FVec Ideal S256x2816 .bf16) (ix2 a k) : EReal) = (opnd m c).u (row t a) k := by
  by_cases hk : k.val < 1408
  · exact out9_lo m c t a ⟨k.val, hk⟩
  · have e : k = ⟨1408 + (⟨k.val - 1408, by omega⟩ : Fin 1408).val, by have := k.isLt; simp only; omega⟩ := Fin.ext (by simp only; omega)
    rw [e]
    exact out9_hi m c t a ⟨k.val - 1408, by omega⟩

theorem out10 (q : Fin 2) (a : Fin 256) (k : Fin 2816) : (((outsAt0 m c t.val t.isLt).2.2.1 : FVec Ideal S2x256x2816 .bf16) (ix3 q a k) : EReal) = (opnd m c).dab q (row t a) k := by
  by_cases hk : k.val < 1408
  · exact out10_lo m c t q a ⟨k.val, hk⟩
  · have e : k = ⟨1408 + (⟨k.val - 1408, by omega⟩ : Fin 1408).val, by have := k.isLt; simp only; omega⟩ := Fin.ext (by simp only; omega)
    rw [e]
    exact out10_hi m c t q a ⟨k.val - 1408, by omega⟩

set_option maxHeartbeats 2000000 in
theorem red_A (r : Fin 8) (d : Fin 1024) (h0 : t.val % 32 = 0) :
    ((outsAt0 m c t.val t.isLt).2.2.2.2 : FVec Ideal S8x1024 .f32) (ix2 r d) = 0 + ∑ a : Fin 256, (opnd m c).redT r d (row t a) := by
  rw [outsAt0_A m c t h0]; frame_open
  simp (disch := decide) only [↓ View.readCov_skip, ↓ View.readCov_cons_toLoadRect, ↓ View.readCov_fill]
  frame_out
  refine Eq.trans ?_ (congrArg (· + ∑ a : Fin 256, (opnd m c).redT r d (row t a)) (pay3_at (ix2 r d)))
  exact rows4_A (T := fun r => ∑ a : Fin 256, (opnd m c).redT r d (row t a)) (z := k0_pay3) d _ _ _ _ _ ((red0_of (reads m c t) _ d).trans (congrArg (· + _) (ld_row _ 0 (by decide) _ d))) ((red1_of (reads m c t) _ d).trans (congrArg (· + _) (ld_row _ 1 (by decide) _ d))) ((red2_of (reads m c t) _ d).trans (congrArg (· + _) (ld_row _ 2 (by decide) _ d)))
    ((red3_of (reads m c t) _ d).trans (congrArg (· + _) (ld_row _ 3 (by decide) _ d)))
    (fun r hr => Finset.sum_eq_zero fun a _ => by
      simp only [In.redT]; repeat rw [if_neg (by omega)]) r

set_option maxHeartbeats 2000000 in
theorem red_B (r : Fin 8) (d : Fin 1024) (h0 : ¬t.val % 32 = 0) :
    ((outsAt0 m c t.val t.isLt).2.2.2.2 : FVec Ideal S8x1024 .f32) (ix2 r d)
      = ((outsAt0 m c (t.val - 1) (Nat.lt_of_le_of_lt (Nat.sub_le _ _) t.isLt)).2.2.2.2 : FVec Ideal S8x1024 .f32) (ix2 r d)
        + ∑ a : Fin 256, (opnd m c).redT r d (row t a) := by
  rw [outsAt0_B m c t h0]; frame_open
  simp (disch := decide) only [↓ View.readCov_skip, ↓ View.readCov_cons_toLoadRect, ↓ View.readCov_fill]
  frame_out
  exact rows4_B (T := fun r => ∑ a : Fin 256, (opnd m c).redT r d (row t a)) _ _ d _ _ _ _ ((red0_of (reads m c t) _ d).trans (congrArg (· + _) (ld_row _ 0 (by decide) _ d))) ((red1_of (reads m c t) _ d).trans (congrArg (· + _) (ld_row _ 1 (by decide) _ d))) ((red2_of (reads m c t) _ d).trans (congrArg (· + _) (ld_row _ 2 (by decide) _ d)))
    ((red3_of (reads m c t) _ d).trans (congrArg (· + _) (ld_row _ 3 (by decide) _ d))) (Memref.IsWhole.read_unread _ _)
    (fun r hr => Finset.sum_eq_zero fun a _ => by
      simp only [In.redT]; repeat rw [if_neg (by omega)]) r

end Point

/-- The tiles together are all the tokens. -/
theorem sum_rows (f : Fin 8192 → EReal) : ∑ t : Fin cfg0.N, ∑ a : Fin 256, f (row t a) = ∑ l : Fin 8192, f l :=
  Fin.sum_mul_add_congr (fun s k hl => by congr 1) (congrArg (· * 256) N_0.symm)

/-! What the call returns. -/

theorem arr8 : (dats m 0 c).arrAt 8 cfg0.N = fun i : S8192x1024.Idx => (opnd m c).dy (i 0) (i 1) := by
  refine (dats m 0 c).arrAt_eq_of_covers 8 _ (by decide +kernel) fun t hf y => ?_
  blk_simp
  rw [after0_8]
  have e : ∀ f : S8192x1024.Idx → EReal, f ((win0_8.blk t).view.emb y) = f (ix2 (row t (y 0)) (y 1)) := by
    intro f; blk_ext [row, idx t]
  refine Eq.trans ?_ (e fun i => (opnd m c).dy (i 0) (i 1)).symm
  exact (congrArg _ (eq_ix2 y)).trans (out8 m c t (y 0) (y 1))

theorem arr9 : (dats m 0 c).arrAt 9 cfg0.N = fun i : S8192x2816.Idx => (opnd m c).u (i 0) (i 1) := by
  refine (dats m 0 c).arrAt_eq_of_covers 9 _ (by decide +kernel) fun t hf y => ?_
  blk_simp
  rw [after0_9]
  have e : ∀ f : S8192x2816.Idx → EReal, f ((win0_9.blk t).view.emb y) = f (ix2 (row t (y 0)) (y 1)) := by
    intro f; blk_ext [row, idx t]
  refine Eq.trans ?_ (e fun i => (opnd m c).u (i 0) (i 1)).symm
  exact (congrArg _ (eq_ix2 y)).trans (out9 m c t (y 0) (y 1))

theorem arr10 : (dats m 0 c).arrAt 10 cfg0.N = fun i : S2x8192x2816.Idx => (opnd m c).dab (i 0) (i 1) (i 2) := by
  refine (dats m 0 c).arrAt_eq_of_covers 10 _ (by decide +kernel) fun t hf y => ?_
  blk_simp
  rw [after0_10]
  have e : ∀ f : S2x8192x2816.Idx → EReal, f ((win0_10.blk t).view.emb y) = f (ix3 (y 0) (row t (y 1)) (y 2)) := by
    intro f; blk_ext [row, idx t]
  refine Eq.trans ?_ (e fun i => (opnd m c).dab (i 0) (i 1) (i 2)).symm
  exact (congrArg _ (eq_ix3 y)).trans (out10 m c t (y 0) (y 1) (y 2))

theorem arr11 : (dats m 0 c).arrAt 11 cfg0.N = fun i : S8192x1024.Idx => (opnd m c).dx (i 0) (i 1) := by
  refine (dats m 0 c).arrAt_eq_of_covers 11 _ (by decide +kernel) fun t hf y => ?_
  blk_simp
  rw [after0_11]
  have e : ∀ f : S8192x1024.Idx → EReal, f ((win0_11.blk t).view.emb y) = f (ix2 (row t (y 0)) (y 1)) := by
    intro f; blk_ext [row, idx t]
  refine Eq.trans ?_ (e fun i => (opnd m c).dx (i 0) (i 1)).symm
  exact (congrArg _ (eq_ix2 y)).trans (out11 m c t (y 0) (y 1))

/-- The last point. -/
def tLast : Fin cfg0.N := ⟨31, by rw [show cfg0.N = 32 from N_0]; decide⟩

/-- The running sums after the last tile, as one array. -/
theorem arr12 : (dats m 0 c).arrAt 12 cfg0.N = fun i : S8x1024.Idx => (opnd m c).red (i 0) (i 1) := by
  refine (dats m 0 c).arrAt_eq_of_after_last 12 tLast (by decide +kernel) _ fun j => ?_
  blk_simp
  obtain ⟨r, d, rfl⟩ : ∃ r d, j = ix2 r d := ⟨_, _, eq_ix2 j⟩
  rw [after0_12, Pipeline.eq_sum_fin_of_reset_step_apply_last (fun n h => (outsAt0 m c n h).2.2.2.2) 32 (fun _ => 0)
    (fun t i => ∑ a : Fin 256, (opnd m c).redT (i 0) (i 1) (row t a))
    (fun t h i => (congrArg _ (eq_ix2 i)).trans (red_A m c t (i 0) (i 1) h)) (fun t h i => by
      rw [eq_ix2 i]; exact red_B m c t (i 0) (i 1) h) (le_of_eq N_0) tLast rfl, zero_add]
  exact sum_rows fun l => (opnd m c).redT r d l

end Cert.Kernel2Ideal.Tile
-- ==== Proof.FfnPre.lean ====
module

public import proofs.«01_k».proof.Pre_finite_ffn
public import proofs.«01_k».proof.Proof.Finite
public import Idealize.ShloMosaic.Lib.ReduceAll
public import Idealize.ShloMosaic.Lib.ValueIdx

@[expose] public section

noncomputable section

namespace Cert.Pre_finite_ffn

open Idealize.ShloMosaic Cert.Finite

/-! The precondition's side conditions, and what it says: every element of every argument is a real number. -/

instance facts : Cert.Pre_finite_ffn.Facts where
  bcast_S_S8192x1024 := by decide +kernel
  reducesTo_S8192x1024_S_d0_1 := by decide +kernel
  h_S_ := by decide +kernel
  bcast_S_S1024 := by decide +kernel
  reducesTo_S1024_S_d0 := by decide +kernel
  bcast_S_S1024x5632 := by decide +kernel
  reducesTo_S1024x5632_S_d0_1 := by decide +kernel
  bcast_S_S2816x1024 := by decide +kernel
  reducesTo_S2816x1024_S_d0_1 := by decide +kernel

instance : Subsingleton S_.Idx := ⟨fun a b => funext fun i => i.elim0⟩

/-- One argument's conjunct. -/
theorem re_of_all {s : Shape} {axes : List (Fin s.rank)} (x : FVec Ideal s .f32) (hb : S_.BroadcastsInDim s (![] : Fin 0 → Fin s.rank))
    (h : s.ReducesTo axes S_) (hu : 0 < S_.numel) (j : S_.Idx)
    (e : Host.reduce IntOp.andi (cmpf .olt (Host.absf x) (broadcastInDim s ![] hb (constant (F := Ideal) S_ .f32 0x7F800000#32))) (constantI S_ 1 1#1) h hu j = 1#1)
    (i : s.Idx) : Re (x i) := by
  have e' := Host.reduce_andi_all _ _ h hu j e i
  change Ideal.cmp .olt (max (x i) (-(x i))) (Ideal.ofBits .f32 0x7F800000#32) = 1#1 at e'
  rw [ofBits_top] at e'
  refine re_of_abs_lt ?_
  by_contra hn
  simp [Ideal.cmp, hn] at e'

theorem re_args {a0 : FVec Ideal S8192x1024 .f32} {a1 a2 a3 a4 : FVec Ideal S1024 .f32} {a5 : FVec Ideal S1024x5632 .f32} {a6 : FVec Ideal S2816x1024 .f32}
    {a7 : FVec Ideal S8192x1024 .f32} (h : fn (F := Ideal) a0 a1 a2 a3 a4 a5 a6 a7 = fun _ => 1#1) :
    (∀ i, Re (a0 i)) ∧ (∀ i, Re (a1 i)) ∧ (∀ i, Re (a2 i)) ∧ (∀ i, Re (a3 i)) ∧ (∀ i, Re (a4 i)) ∧ (∀ i, Re (a5 i)) ∧ (∀ i, Re (a6 i)) ∧ (∀ i, Re (a7 i)) := by
  have hh := congrFun h (fun a => a.elim0)
  dsimp only [fn, fn_part1, fn_part2] at hh
  obtain ⟨hh, e7⟩ := IntOp.andi_eq_one.1 hh
  obtain ⟨hh, e6⟩ := IntOp.andi_eq_one.1 hh
  obtain ⟨hh, e5⟩ := IntOp.andi_eq_one.1 hh
  obtain ⟨hh, e4⟩ := IntOp.andi_eq_one.1 hh
  obtain ⟨hh, e3⟩ := IntOp.andi_eq_one.1 hh
  obtain ⟨hh, e2⟩ := IntOp.andi_eq_one.1 hh
  obtain ⟨e0, e1⟩ := IntOp.andi_eq_one.1 hh
  exact ⟨re_of_all a0 _ _ _ _ e0, re_of_all a1 _ _ _ _ e1, re_of_all a2 _ _ _ _ e2, re_of_all a3 _ _ _ _ e3, re_of_all a4 _ _ _ _ e4, re_of_all a5 _ _ _ _ e5, re_of_all a6 _ _ _ _ e6, re_of_all a7 _ _ _ _ e7⟩

end Cert.Pre_finite_ffn
-- ==== Proof.FfnAlg.lean ====
module

public import proofs.«01_k».proof.Defs
public import proofs.«01_k».proof.Proof.FfnOut
public import proofs.«01_k».proof.Proof.FfnPre
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Read
public import proofs.«01_k».proof.Proof.Gen.Reference2Ideal.Run

@[expose] public section

set_option maxRecDepth 16384

noncomputable section

/-! The FFN layer's backward call: frames, and the kernel's results are the reference's for finite arguments. -/

namespace Cert.Proof

open Idealize.ShloMosaic Idealize.ShloMosaic.TcCoe Idealize.SL.Sem

theorem frame_k2 : Cert.quiescent_Kernel2 := fun m ρ _ => Cert.Kernel2.Gen.frame m ρ
theorem frame_i2 : Cert.quiescent_Kernel2Ideal := fun m ρ _ => Cert.Kernel2Ideal.Gen.frame m ρ
theorem frame_ip2 : Cert.quiescent_Kernel2Ideal_pre_finite_ffn := fun m ρ _ => Cert.Kernel2Ideal.Gen.frame m ρ
theorem frame_r2 : Cert.quiescent_Reference2Ideal := fun m ρ _ =>
  (θ_run Cert.Reference2Ideal.defs _ _).mono (fun r h => ⟨fun c => (h c).2.2.2.2.2, sem_eq_zero_of_no_sems (by decide) r.2⟩)
    (Cert.Reference2Ideal.Value.run (F := Ideal) m ρ)
theorem frame_rp2 : Cert.quiescent_Reference2Ideal_pre_finite_ffn := fun m ρ _ => frame_r2 m ρ trivial

namespace FfnD
open Cert.Reference2Ideal
/-- Each result as one array over the operands. -/
def dyOf (I : Cert.FfnSpec.In) : S8192x1024.Idx → EReal := fun i => I.dy (i 0) (i 1)
def uOf (I : Cert.FfnSpec.In) : S8192x2816.Idx → EReal := fun i => I.u (i 0) (i 1)
def dabOf (I : Cert.FfnSpec.In) : S2x8192x2816.Idx → EReal := fun i => I.dab (i 0) (i 1) (i 2)
def dxOf (I : Cert.FfnSpec.In) : S8192x1024.Idx → EReal := fun i => I.dx (i 0) (i 1)
def redOf (I : Cert.FfnSpec.In) : S8x1024.Idx → EReal := fun i => I.red (i 0) (i 1)

open Cert.Reference2Ideal.Read Cert.Reference2Ideal.Ffn
section
variable (x0 : FVec Ideal S8192x1024 .f32) (x1 x2 x3 x4 : FVec Ideal S1024 .f32) (x5 : FVec Ideal S1024x5632 .f32) (x6 : FVec Ideal S2816x1024 .f32)
  (x7 : FVec Ideal S8192x1024 .f32) (h : Reals (opr x0 x1 x2 x3 x4 x5 x6 x7))

theorem dy_arr : val_main_v93 (F := Ideal) x4 x7 = dyOf (opr x0 x1 x2 x3 x4 x5 x6 x7) :=
  funext fun i => (congrArg _ (eq_ix2 i)).trans (dy_at x0 x1 x2 x3 x4 x5 x6 x7 (i 0) (i 1))
theorem u_arr : val_main_v94 (F := Ideal) x0 x1 x2 x3 x5 = uOf (opr x0 x1 x2 x3 x4 x5 x6 x7) :=
  funext fun i => (congrArg _ (eq_ix2 i)).trans (u_at x0 x1 x2 x3 x4 x5 x6 x7 (i 0) (i 1))
include h
theorem dab_arr : val_main_v100 (F := Ideal) x0 x1 x2 x3 x4 x5 x6 x7 = dabOf (opr x0 x1 x2 x3 x4 x5 x6 x7) :=
  funext fun i => (congrArg _ (eq_ix3 i)).trans (halves_at x0 x1 x2 x3 x4 x5 x6 x7 h (i 0) (i 1) (i 2))
theorem dx_arr : val_main_v101 (F := Ideal) x0 x1 x2 x3 x4 x5 x6 x7 = dxOf (opr x0 x1 x2 x3 x4 x5 x6 x7) :=
  funext fun i => (congrArg _ (eq_ix2 i)).trans (dx_at x0 x1 x2 x3 x4 x5 x6 x7 h (i 0) (i 1))
theorem red_arr : val_main_v92 (F := Ideal) x0 x1 x2 x3 x4 x5 x6 x7 = redOf (opr x0 x1 x2 x3 x4 x5 x6 x7) :=
  funext fun i => (congrArg _ (eq_ix2 i)).trans (red_at x0 x1 x2 x3 x4 x5 x6 x7 h (i 0) (i 1))
end
end FfnD

open Cert.Reference2Ideal.Ffn FfnD in
theorem algebraic2 : Cert.algebraic_Kernel2Ideal_Reference2Ideal_pre_finite_ffn := by
  intro m ρ m' ρ' hpre hag
  refine ⟨fun c => dyOf (Cert.Kernel2Ideal.Tile.opnd m c), fun c => uOf (Cert.Kernel2Ideal.Tile.opnd m c), fun c => dabOf (Cert.Kernel2Ideal.Tile.opnd m c),
    fun c => dxOf (Cert.Kernel2Ideal.Tile.opnd m c), fun c => redOf (Cert.Kernel2Ideal.Tile.opnd m c), ?_, ?_⟩
  · refine (θ_run Cert.Kernel2Ideal.defs _ _).mono (fun r h c => ?_) (Cert.Kernel2Ideal.Value.run_blocks (F := Ideal) m ρ)
    obtain ⟨h0, h1, h2, h3, h4, hk⟩ := h c
    exact ⟨h0.trans (Cert.Kernel2Ideal.Tile.arr8 m c), h1.trans (Cert.Kernel2Ideal.Tile.arr9 m c), h2.trans (Cert.Kernel2Ideal.Tile.arr10 m c),
      h3.trans (Cert.Kernel2Ideal.Tile.arr11 m c), h4.trans (Cert.Kernel2Ideal.Tile.arr12 m c), hk⟩
  · refine (θ_run Cert.Reference2Ideal.defs _ _).mono (fun r h c => ?_) (Cert.Reference2Ideal.Value.run (F := Ideal) m' ρ')
    obtain ⟨h0, h1, h2, h3, h4, hk⟩ := h c
    obtain ⟨a0, a1, a2, a3, a4, a5, a6, a7⟩ := hag c
    obtain ⟨p0, p1, p2, p3, p4, p5, p6, p7⟩ := Cert.Pre_finite_ffn.re_args (hpre c)
    rw [← a0] at p0
    rw [← a1] at p1
    rw [← a2] at p2
    rw [← a3] at p3
    rw [← a4] at p4
    rw [← a5] at p5
    rw [← a6] at p6
    rw [← a7] at p7
    have hr : Reals (opr (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7))) :=
      ⟨fun t d => p7 _, fun t d => p0 _, fun d => p1 _, fun d => p3 _, fun d => p2 _, fun d => p4 _, fun d j => p5 _, fun k d => p6 _⟩
    have e : opr (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) = Cert.Kernel2Ideal.Tile.opnd m c := by
      unfold Cert.Kernel2Ideal.Tile.opnd opr
      rw [a0, a1, a2, a3, a4, a5, a6, a7]
    exact ⟨h0.trans ((Cert.Reference2Ideal.Read.val_main_v93_eq _ _).trans ((dy_arr _ _ _ _ _ _ _ _).trans (congrArg dyOf e))),
      h1.trans ((Cert.Reference2Ideal.Read.val_main_v94_eq _ _).trans ((u_arr _ _ _ _ _ _ _ _).trans (congrArg uOf e))),
      h2.trans ((Cert.Reference2Ideal.Read.val_main_v100_eq _ _).trans ((dab_arr _ _ _ _ _ _ _ _ hr).trans (congrArg dabOf e))),
      h3.trans ((Cert.Reference2Ideal.Read.val_main_v101_eq _ _).trans ((dx_arr _ _ _ _ _ _ _ _ hr).trans (congrArg dxOf e))),
      h4.trans ((Cert.Reference2Ideal.Read.val_main_v92_eq _ _).trans ((red_arr _ _ _ _ _ _ _ _ hr).trans (congrArg redOf e))), hk⟩

end Cert.Proof
-- ==== Proof.FwdTile.lean ====
module

public import proofs.«01_k».proof.Proof.FfnSpec
public import proofs.«01_k».proof.Proof.Gen.Kernel5Ideal.Value
public import Idealize.ShloMosaic.Lib.StableHlo.ReadAt

@[expose] public section

set_option maxRecDepth 16384

noncomputable section

namespace Cert.Kernel5Ideal.Tile

open Cert.Kernel5Ideal Cert.Kernel5Ideal.Gen Idealize.ShloMosaic Idealize.ShloMosaic.TcCoe Idealize.SL.Sem
open Cert.FfnSpec Cert.KernelIdeal.Pay

/-! The forward call of an FFN layer, one tile of tokens. -/

theorem pay1_at (x y : FVec Ideal S512x1024 .f32) (v : FVec Ideal S1x1024 .f32) (a : Fin 512) (d : Fin 1024) :
    (k0_pay1 (F := Ideal) x y v (ix2 a d) : EReal) = x (ix2 a d) + In.half * (1 + v (ix2 0 d)) * y (ix2 a d) := by
  unfold In.half
  pointwise [k0_pay1]

theorem pay2_at (x : FVec Ideal S512x1024 .f32) (v : FVec Ideal S8x1024 .f32) (a : Fin 512) (d : Fin 1024) :
    (k0_pay2 (F := Ideal) x v (ix2 a d) : EReal)
      = x (ix2 a d) * rstd (fun d => x (ix2 a d)) * v (ix2 0 d) * (1 + v (ix2 1 d)) + v (ix2 2 d) := by
  unfold rstd
  pointwise [k0_pay2]

theorem pay3_at (x : FVec Ideal S512x1024 .f32) (v : FVec Ideal S8x1024 .f32) (w : FVec Ideal S1x1024x1408 .bf16) (a : Fin 512) (j : Fin 1408) :
    (k0_pay3 (F := Ideal) x v w (ix2 a j) : EReal) = ∑ d : Fin 1024, (k0_pay2 (F := Ideal) x v (ix2 a d) : EReal) * (w (ix3 0 d j) : EReal) := by
  rw [k0_pay3]
  generalize k0_pay2 (F := Ideal) x v = h
  pointwise []

theorem pay4_at (x : FVec Ideal S512x1024 .f32) (v : FVec Ideal S8x1024 .f32) (w : FVec Ideal S1x1024x1408 .bf16) (a : Fin 512) (j : Fin 1408) :
    (k0_pay4 (F := Ideal) x v w (ix2 a j) : EReal) = ∑ d : Fin 1024, (k0_pay2 (F := Ideal) x v (ix2 a d) : EReal) * (w (ix3 0 d j) : EReal) := by
  rw [k0_pay4]
  generalize k0_pay2 (F := Ideal) x v = h
  pointwise []

theorem pay5_at (x : FVec Ideal S512x1024 .f32) (v : FVec Ideal S8x1024 .f32) (w : FVec Ideal S1x1024x1408 .bf16) (q : Fin 1) (a : Fin 512) (j : Fin 1408) :
    (k0_pay5 (F := Ideal) x v w (ix3 q a j) : EReal) = k0_pay3 (F := Ideal) x v w (ix2 a j) := by
  rw [k0_pay5]
  generalize k0_pay3 (F := Ideal) x v w = h
  pointwise []

theorem pay6_at (h : FVec Ideal S512x1408 .f32) (q : Fin 1) (a : Fin 512) (j : Fin 1408) :
    (k0_pay6 (F := Ideal) h (ix3 q a j) : EReal) = h (ix2 a j) := by
  pointwise [k0_pay6]

theorem pay7_at (h : FVec Ideal S512x1024 .bf16) (w : FVec Ideal S1x1024x1408 .bf16) (a : Fin 512) (j : Fin 1408) :
    (k0_pay7 (F := Ideal) h w (ix2 a j) : EReal) = ∑ d : Fin 1024, (h (ix2 a d) : EReal) * (w (ix3 0 d j) : EReal) := by
  pointwise [k0_pay7]

theorem pay8_at (h : FVec Ideal S512x1024 .bf16) (w : FVec Ideal S1x1024x1408 .bf16) (a : Fin 512) (j : Fin 1408) :
    (k0_pay8 (F := Ideal) h w (ix2 a j) : EReal) = ∑ d : Fin 1024, (h (ix2 a d) : EReal) * (w (ix3 0 d j) : EReal) := by
  pointwise [k0_pay8]

theorem pay9_at (h : FVec Ideal S512x1024 .bf16) (w : FVec Ideal S1x1024x1408 .bf16) (q : Fin 1) (a : Fin 512) (j : Fin 1408) :
    (k0_pay9 (F := Ideal) h w (ix3 q a j) : EReal) = k0_pay7 (F := Ideal) h w (ix2 a j) := by
  rw [k0_pay9]
  generalize k0_pay7 (F := Ideal) h w = z
  pointwise []

theorem pay10_at (h : FVec Ideal S512x1024 .bf16) (w : FVec Ideal S1x1024x1408 .bf16) (q : Fin 1) (a : Fin 512) (j : Fin 1408) :
    (k0_pay10 (F := Ideal) h w (ix3 q a j) : EReal) = k0_pay8 (F := Ideal) h w (ix2 a j) := by
  rw [k0_pay10]
  generalize k0_pay8 (F := Ideal) h w = z
  pointwise []

theorem pay11_at (h : FVec Ideal S512x1024 .bf16) (a0 b0 : FVec Ideal S512x1408 .f32) (o0 : FVec Ideal S1408x1024 .bf16) (wa wb : FVec Ideal S1x1024x1408 .bf16)
    (o1 : FVec Ideal S1408x1024 .bf16) (a : Fin 512) (d : Fin 1024) :
    (k0_pay11 (F := Ideal) h a0 b0 o0 wa wb o1 (ix2 a d) : EReal)
      = (∑ k : Fin 1408, a0 (ix2 a k) * Ideal.logistic (a0 (ix2 a k)) * b0 (ix2 a k) * (o0 (ix2 k d) : EReal))
        + ∑ k : Fin 1408, (k0_pay7 (F := Ideal) h wa (ix2 a k) : EReal) * Ideal.logistic (k0_pay7 (F := Ideal) h wa (ix2 a k)) * (k0_pay8 (F := Ideal) h wb (ix2 a k) : EReal) * (o1 (ix2 k d) : EReal) := by
  rw [k0_pay11]
  generalize k0_pay7 (F := Ideal) h wa = z7
  generalize k0_pay8 (F := Ideal) h wb = z8
  pointwise []

theorem pay12_at (h : FVec Ideal S512x1024 .bf16) (a0 b0 : FVec Ideal S512x1408 .f32) (o0 : FVec Ideal S1408x1024 .bf16) (wa wb : FVec Ideal S1x1024x1408 .bf16)
    (o1 : FVec Ideal S1408x1024 .bf16) (a : Fin 512) (d : Fin 1024) :
    (k0_pay12 (F := Ideal) h a0 b0 o0 wa wb o1 (ix2 a d) : EReal) = k0_pay11 (F := Ideal) h a0 b0 o0 wa wb o1 (ix2 a d) := by
  rw [k0_pay12]
  generalize k0_pay11 (F := Ideal) h a0 b0 o0 wa wb o1 = z
  pointwise []

/-- The blocks of one tile hold the operands `I` at the rows `ρ`. -/
structure Reads (I : In) (ρ : Fin 512 → Fin 8192) (x : FVec Ideal S512x1024 .f32) (v : FVec Ideal S8x1024 .f32) (v3 : FVec Ideal S1x1024 .f32)
    (a0 b0 a1 b1 : FVec Ideal S1x1024x1408 .bf16) (o0 o1 : FVec Ideal S1408x1024 .bf16) : Prop where
  hx : ∀ (a : Fin 512) (d : Fin 1024), x (ix2 a d) = I.x (ρ a) d
  hg : ∀ d : Fin 1024, v (ix2 0 d) = I.g d
  hsc : ∀ d : Fin 1024, v (ix2 1 d) = I.sc d
  hsh : ∀ d : Fin 1024, v (ix2 2 d) = I.sh d
  hgt : ∀ d : Fin 1024, v3 (ix2 0 d) = I.gt d
  ha0 : ∀ (d : Fin 1024) (j : Fin 1408), (a0 (ix3 0 d j) : EReal) = I.wi d ⟨j.val, by omega⟩
  ha1 : ∀ (d : Fin 1024) (j : Fin 1408), (a1 (ix3 0 d j) : EReal) = I.wi d ⟨1408 + j.val, by omega⟩
  hb0 : ∀ (d : Fin 1024) (j : Fin 1408), (b0 (ix3 0 d j) : EReal) = I.wi d ⟨2816 + j.val, by omega⟩
  hb1 : ∀ (d : Fin 1024) (j : Fin 1408), (b1 (ix3 0 d j) : EReal) = I.wi d ⟨2816 + (1408 + j.val), by omega⟩
  ho0 : ∀ (k : Fin 1408) (d : Fin 1024), (o0 (ix2 k d) : EReal) = I.wo ⟨k.val, by omega⟩ d
  ho1 : ∀ (k : Fin 1408) (d : Fin 1024), (o1 (ix2 k d) : EReal) = I.wo ⟨1408 + k.val, by omega⟩ d

section Of
variable {I : In} {ρ : Fin 512 → Fin 8192} {x : FVec Ideal S512x1024 .f32} {v : FVec Ideal S8x1024 .f32} {v3 : FVec Ideal S1x1024 .f32}
  {a0 b0 a1 b1 : FVec Ideal S1x1024x1408 .bf16} {o0 o1 : FVec Ideal S1408x1024 .bf16} (h : Reads I ρ x v v3 a0 b0 a1 b1 o0 o1)
include h

theorem h_of (a : Fin 512) (d : Fin 1024) : (k0_pay2 (F := Ideal) x v (ix2 a d) : EReal) = I.hn (ρ a) d := by
  rw [pay2_at, h.hg, h.hsc, h.hsh, h.hx]
  simp only [h.hx]
  rfl

theorem a0_of (a : Fin 512) (k : Fin 1408) : (k0_pay3 (F := Ideal) x v a0 (ix2 a k) : EReal) = I.a (ρ a) ⟨k.val, by omega⟩ := by
  rw [pay3_at]
  simp only [h_of h, h.ha0]
  rfl

theorem b0_of (a : Fin 512) (k : Fin 1408) : (k0_pay4 (F := Ideal) x v b0 (ix2 a k) : EReal) = I.b (ρ a) ⟨k.val, by omega⟩ := by
  rw [pay4_at]
  simp only [h_of h, h.hb0]
  rfl

theorem a1_of (a : Fin 512) (k : Fin 1408) : (k0_pay7 (F := Ideal) (k0_pay2 x v) a1 (ix2 a k) : EReal) = I.a (ρ a) ⟨1408 + k.val, by omega⟩ := by
  rw [pay7_at]
  simp only [h_of h, h.ha1]
  rfl

theorem b1_of (a : Fin 512) (k : Fin 1408) : (k0_pay8 (F := Ideal) (k0_pay2 x v) b1 (ix2 a k) : EReal) = I.b (ρ a) ⟨1408 + k.val, by omega⟩ := by
  rw [pay8_at]
  simp only [h_of h, h.hb1]
  rfl

theorem y_of (a : Fin 512) (d : Fin 1024) :
    (k0_pay11 (F := Ideal) (k0_pay2 x v) (k0_pay3 x v a0) (k0_pay4 x v b0) o0 a1 b1 o1 (ix2 a d) : EReal) = I.y (ρ a) d := by
  rw [pay11_at]
  simp only [a0_of h, b0_of h, a1_of h, b1_of h, h.ho0, h.ho1]
  exact sum_halves fun k => I.u (ρ a) k * I.wo k d

theorem xo_of (a : Fin 512) (d : Fin 1024) :
    (k0_pay1 (F := Ideal) x (k0_pay11 (k0_pay2 x v) (k0_pay3 x v a0) (k0_pay4 x v b0) o0 a1 b1 o1) v3 (ix2 a d) : EReal) = I.xo (ρ a) d := by
  rw [pay1_at, y_of h, h.hx, h.hgt]
  rfl

end Of

variable (m : (ℓ : Loc nD τ sig) → Buf (Elt Ideal) ℓ) (c : Dev nD)

/-- The call's operands as functions of the program's arguments. -/
def opnd : In := ofArgs (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5)) (m ((c.tc : Thread nD τ).loc main_arg6)) (fun _ => 0)

theorem idx : ∀ t : Fin cfg0.N,
    win0_0.index t = ![t.val, 0] ∧ win0_1.index t = ![0, 0] ∧ win0_2.index t = ![0, 0, 0] ∧ win0_3.index t = ![1, 0, 0]
      ∧ win0_4.index t = ![0, 0] ∧ win0_5.index t = ![t.val, 0] ∧ win0_6.index t = ![t.val, 0] ∧ win0_7.index t = ![0, t.val, 0]
      ∧ win0_8.index t = ![t.val, 0] :=
  (by decide +kernel : ∀ t : Fin grid0.N, _)

theorem N16 (t : Fin cfg0.N) : t.val < 16 := t.isLt.trans_le (le_of_eq N_0)

/-- The token that row `a` of the tile of point `t` holds. -/
def row (t : Fin cfg0.N) (a : Fin 512) : Fin 8192 := ⟨t.val * 512 + a.val, by have := N16 t; omega⟩

/-! What the host leaves in the arrays that the call reads. -/

theorem V_g (d : Fin 1024) : ((V m c main_v8 : FVec Ideal S8x1024 .f32) (ix2 0 d) : EReal) = (opnd m c).g d := by
  unfold_abbrev_sides
  after_reads_at
  rw [StableHlo.reshape_result']
  after_reads_at
theorem V_sc (d : Fin 1024) : ((V m c main_v8 : FVec Ideal S8x1024 .f32) (ix2 1 d) : EReal) = (opnd m c).sc d := by
  unfold_abbrev_sides
  after_reads_at
  rw [StableHlo.reshape_result']
  after_reads_at
theorem V_sh (d : Fin 1024) : ((V m c main_v8 : FVec Ideal S8x1024 .f32) (ix2 2 d) : EReal) = (opnd m c).sh d := by
  unfold_abbrev_sides
  after_reads_at
  rw [StableHlo.reshape_result']
  after_reads_at
theorem V_gt (d : Fin 1024) : ((V m c main_v8 : FVec Ideal S8x1024 .f32) (ix2 3 d) : EReal) = (opnd m c).gt d := by
  unfold_abbrev_sides
  after_reads_at
  rw [StableHlo.reshape_result']
  after_reads_at
theorem V_wo (k : Fin 2816) (d : Fin 1024) : ((V m c main_v9 : FVec Ideal S2816x1024 .bf16) (ix2 k d) : EReal) = (opnd m c).wo k d := by
  unfold_abbrev_sides
  after_reads_at
theorem V_wi (q : Fin 4) (d : Fin 1024) (j : Fin 1408) : ((V m c main_v2 : FVec Ideal S4x1024x1408 .bf16) (ix3 q d j) : EReal)
    = (opnd m c).wi d ⟨q.val * 1408 + j.val, by omega⟩ := by
  unfold_abbrev_sides
  after_reads_at

section Point
variable (t : Fin cfg0.N)

theorem b0 (a : Fin 512) (d : Fin 1024) : (iblk m c 0 t : FVec Ideal S512x1024 .f32) (ix2 a d) = (V m c main_arg0 : FVec Ideal S8192x1024 .f32) (ix2 (row t a) d) := by
  blk_ext [iblk, row, idx t]
theorem b1 (r : Fin 8) (d : Fin 1024) : (iblk m c 1 t : FVec Ideal S8x1024 .f32) (ix2 r d) = (V m c main_v8 : FVec Ideal S8x1024 .f32) (ix2 r d) := by
  blk_ext [iblk, idx t]
theorem b2 (q : Fin 2) (d : Fin 1024) (j : Fin 1408) : (iblk m c 2 t : FVec Ideal S2x1024x1408 .bf16) (ix3 q d j)
    = (V m c main_v2 : FVec Ideal S4x1024x1408 .bf16) (ix3 ⟨q.val, by omega⟩ d j) := by
  blk_ext [iblk, idx t]
theorem b3 (q : Fin 2) (d : Fin 1024) (j : Fin 1408) : (iblk m c 3 t : FVec Ideal S2x1024x1408 .bf16) (ix3 q d j)
    = (V m c main_v2 : FVec Ideal S4x1024x1408 .bf16) (ix3 ⟨2 + q.val, by omega⟩ d j) := by
  blk_ext [iblk, idx t]
theorem b4 (k : Fin 2816) (d : Fin 1024) : (iblk m c 4 t : FVec Ideal S2816x1024 .bf16) (ix2 k d) = (V m c main_v9 : FVec Ideal S2816x1024 .bf16) (ix2 k d) := by
  blk_ext [iblk, idx t]

set_option maxHeartbeats 2000000 in
theorem reads : Reads (opnd m c) (row t) (View.ld (iblk m c 0 t : FVec Ideal S512x1024 .f32) r0_0) (View.ld (iblk m c 1 t : FVec Ideal S8x1024 .f32) r0_1)
    (View.ld (iblk m c 1 t : FVec Ideal S8x1024 .f32) r0_10)
    (View.ld (iblk m c 2 t : FVec Ideal S2x1024x1408 .bf16) r0_2) (View.ld (iblk m c 3 t : FVec Ideal S2x1024x1408 .bf16) r0_2)
    (View.ld (iblk m c 2 t : FVec Ideal S2x1024x1408 .bf16) r0_6) (View.ld (iblk m c 3 t : FVec Ideal S2x1024x1408 .bf16) r0_6)
    (View.ld (iblk m c 4 t : FVec Ideal S2816x1024 .bf16) r0_5) (View.ld (iblk m c 4 t : FVec Ideal S2816x1024 .bf16) r0_9) where
  hx a d := (View.ld_unit_apply_of _ _ _ _ _ (ix2 a d : S512x1024.Idx) (fun a => by match a with | ⟨0, _⟩ => simp | ⟨1, _⟩ => simp)).trans ((b0 m c t a d).trans (congrFun (V_main_arg0 m c) _))
  hg d := (View.ld_unit_apply_of _ _ _ _ _ (ix2 0 d : S8x1024.Idx) (fun a => by match a with | ⟨0, _⟩ => simp | ⟨1, _⟩ => simp)).trans ((b1 m c t 0 d).trans (V_g m c d))
  hsc d := (View.ld_unit_apply_of _ _ _ _ _ (ix2 1 d : S8x1024.Idx) (fun a => by match a with | ⟨0, _⟩ => simp | ⟨1, _⟩ => simp)).trans ((b1 m c t 1 d).trans (V_sc m c d))
  hsh d := (View.ld_unit_apply_of _ _ _ _ _ (ix2 2 d : S8x1024.Idx) (fun a => by match a with | ⟨0, _⟩ => simp | ⟨1, _⟩ => simp)).trans ((b1 m c t 2 d).trans (V_sh m c d))
  hgt d := (View.ld_unit_apply_of _ _ _ _ _ (ix2 3 d : S8x1024.Idx) (fun a => by match a with | ⟨0, _⟩ => rfl | ⟨1, _⟩ => simp)).trans ((b1 m c t 3 d).trans (V_gt m c d))
  ha0 d j := (View.ld_unit_apply_of _ _ _ _ _ (ix3 0 d j : S2x1024x1408.Idx) (fun a => by match a with | ⟨0, _⟩ => rfl | ⟨1, _⟩ => simp | ⟨2, _⟩ => simp)).trans
    ((b2 m c t 0 d j).trans ((V_wi m c _ d j).trans (congrArg ((opnd m c).wi d) (Fin.ext (by simp)))))
  hb0 d j := (View.ld_unit_apply_of _ _ _ _ _ (ix3 0 d j : S2x1024x1408.Idx) (fun a => by match a with | ⟨0, _⟩ => rfl | ⟨1, _⟩ => simp | ⟨2, _⟩ => simp)).trans
    ((b3 m c t 0 d j).trans ((V_wi m c _ d j).trans (congrArg ((opnd m c).wi d) (Fin.ext (by simp)))))
  ha1 d j := (View.ld_unit_apply_of _ _ _ _ _ (ix3 1 d j : S2x1024x1408.Idx) (fun a => by match a with | ⟨0, _⟩ => rfl | ⟨1, _⟩ => simp | ⟨2, _⟩ => simp)).trans
    ((b2 m c t 1 d j).trans ((V_wi m c _ d j).trans (congrArg ((opnd m c).wi d) (Fin.ext (by simp)))))
  hb1 d j := (View.ld_unit_apply_of _ _ _ _ _ (ix3 1 d j : S2x1024x1408.Idx) (fun a => by match a with | ⟨0, _⟩ => rfl | ⟨1, _⟩ => simp | ⟨2, _⟩ => simp)).trans
    ((b3 m c t 1 d j).trans ((V_wi m c _ d j).trans (congrArg ((opnd m c).wi d) (Fin.ext (by simp; omega)))))
  ho0 k d := (View.ld_unit_apply_of _ _ _ _ _ (ix2 ⟨k.val, by omega⟩ d : S2816x1024.Idx) (fun a => by match a with | ⟨0, _⟩ => simp | ⟨1, _⟩ => simp)).trans
    ((b4 m c t _ d).trans (V_wo m c _ d))
  ho1 k d := (View.ld_unit_apply_of _ _ _ _ _ (ix2 ⟨1408 + k.val, by omega⟩ d : S2816x1024.Idx) (fun a => by match a with | ⟨0, _⟩ => simp | ⟨1, _⟩ => simp)).trans
    ((b4 m c t _ d).trans (V_wo m c _ d))

end Point

end Cert.Kernel5Ideal.Tile
-- ==== Proof.FwdOut.lean ====
module

public import proofs.«01_k».proof.Proof.FwdTile

@[expose] public section

set_option maxRecDepth 16384

noncomputable section

namespace Cert.Kernel5Ideal.Tile

open Cert.Kernel5Ideal Cert.Kernel5Ideal.Gen Idealize.ShloMosaic Idealize.ShloMosaic.TcCoe Idealize.SL.Sem
open Cert.FfnSpec
open Cert.KernelIdeal.Tile (canon_hit canon_miss)

variable (m : (ℓ : Loc nD τ sig) → Buf (Elt Ideal) ℓ) (c : Dev nD)

/-! What each tile writes. -/

section Point
variable (t : Fin cfg0.N)

theorem out5 (a : Fin 512) (d : Fin 1024) : ((out0_5 (iblk m c 0 t) (iblk m c 1 t) (iblk m c 2 t) (iblk m c 3 t) (iblk m c 4 t) : FVec Ideal S512x1024 .f32) (ix2 a d) : EReal)
    = (opnd m c).xo (row t a) d := by
  unfold_out out0_5
  rw [View.canon_cons_unit_lit _ _ _ (by decide)]
  exact (xo_of (reads m c t) a d)

theorem out6 (a : Fin 512) (d : Fin 1024) : ((out0_6 (iblk m c 0 t) (iblk m c 1 t) (iblk m c 2 t) (iblk m c 3 t) (iblk m c 4 t) : FVec Ideal S512x1024 .bf16) (ix2 a d) : EReal)
    = (opnd m c).hn (row t a) d := by
  unfold_out out0_6
  rw [View.canon_cons_unit_lit _ _ _ (by decide)]
  exact (h_of (reads m c t) a d)

theorem out8 (a : Fin 512) (d : Fin 1024) : ((out0_8 (iblk m c 0 t) (iblk m c 1 t) (iblk m c 2 t) (iblk m c 3 t) (iblk m c 4 t) : FVec Ideal S512x1024 .bf16) (ix2 a d) : EReal)
    = (opnd m c).y (row t a) d := by
  unfold_out out0_8
  rw [View.canon_cons_unit_lit _ _ _ (by decide)]
  exact ((pay12_at _ _ _ _ _ _ _ _ _).trans (y_of (reads m c t) a d))

/-- The two halves of the product with the first weight. -/
def halves (I : In) (q : Fin 2) (t : Fin 8192) (k : Fin 2816) : EReal := I.ab t ⟨q.val * 2816 + k.val, by omega⟩

theorem halves_0 (I : In) (t : Fin 8192) (k : Fin 2816) : halves I 0 t k = I.a t k := by
  simp [halves, In.a]
theorem halves_1 (I : In) (t : Fin 8192) (k : Fin 2816) : halves I 1 t k = I.b t k := by
  simp [halves, In.b]

theorem out7_lo (q : Fin 2) (a : Fin 512) (k : Fin 1408) :
    ((out0_7 (iblk m c 0 t) (iblk m c 1 t) (iblk m c 2 t) (iblk m c 3 t) (iblk m c 4 t) : FVec Ideal S2x512x2816 .f32) (ix3 q a ⟨k.val, by omega⟩) : EReal) = halves (opnd m c) q (row t a) ⟨k.val, by omega⟩ := by
  unfold_out out0_7
  rw [canon_miss _ _ _ _ (2 : Fin 3) (by left; simp), canon_miss _ _ _ _ (2 : Fin 3) (by left; simp)]
  obtain rfl | rfl : q = 0 ∨ q = 1 := by revert q; decide
  · rw [canon_miss _ _ _ _ (0 : Fin 3) (by left; simp), halves_0]
    refine (canon_hit _ _ _ _ (ix3 0 a k : S1x512x1408.Idx) (fun a => by match a with | ⟨0, _⟩ => rfl | ⟨1, _⟩ => simp | ⟨2, _⟩ => simp)).trans ?_
    exact (pay5_at _ _ _ _ _ _).trans (a0_of (reads m c t) a k)
  · rw [halves_1]
    refine (canon_hit _ _ _ _ (ix3 0 a k : S1x512x1408.Idx) (fun a => by match a with | ⟨0, _⟩ => rfl | ⟨1, _⟩ => simp | ⟨2, _⟩ => simp)).trans ?_
    exact (pay6_at _ _ _ _).trans (b0_of (reads m c t) a k)

theorem out7_hi (q : Fin 2) (a : Fin 512) (k : Fin 1408) :
    ((out0_7 (iblk m c 0 t) (iblk m c 1 t) (iblk m c 2 t) (iblk m c 3 t) (iblk m c 4 t) : FVec Ideal S2x512x2816 .f32) (ix3 q a ⟨1408 + k.val, by omega⟩) : EReal) = halves (opnd m c) q (row t a) ⟨1408 + k.val, by omega⟩ := by
  unfold_out out0_7
  obtain rfl | rfl : q = 0 ∨ q = 1 := by revert q; decide
  · rw [canon_miss _ _ _ _ (0 : Fin 3) (by left; simp), halves_0]
    refine (canon_hit _ _ _ _ (ix3 0 a k : S1x512x1408.Idx) (fun a => by match a with | ⟨0, _⟩ => rfl | ⟨1, _⟩ => simp | ⟨2, _⟩ => simp)).trans ?_
    exact (pay9_at _ _ _ _ _).trans (a1_of (reads m c t) a k)
  · rw [halves_1]
    refine (canon_hit _ _ _ _ (ix3 0 a k : S1x512x1408.Idx) (fun a => by match a with | ⟨0, _⟩ => rfl | ⟨1, _⟩ => simp | ⟨2, _⟩ => simp)).trans ?_
    exact (pay10_at _ _ _ _ _).trans (b1_of (reads m c t) a k)

theorem out7 (q : Fin 2) (a : Fin 512) (k : Fin 2816) : ((out0_7 (iblk m c 0 t) (iblk m c 1 t) (iblk m c 2 t) (iblk m c 3 t) (iblk m c 4 t) : FVec Ideal S2x512x2816 .f32) (ix3 q a k) : EReal) = halves (opnd m c) q (row t a) k := by
  by_cases hk : k.val < 1408
  · exact out7_lo m c t q a ⟨k.val, hk⟩
  · have e : k = ⟨1408 + (⟨k.val - 1408, by omega⟩ : Fin 1408).val, by have := k.isLt; simp only; omega⟩ := Fin.ext (by simp only; omega)
    rw [e]
    exact out7_hi m c t q a ⟨k.val - 1408, by omega⟩

end Point

/-! What the call returns. -/

theorem arr5 : (dats m 0 c).arrAt 5 cfg0.N = fun i : S8192x1024.Idx => (opnd m c).xo (i 0) (i 1) := by
  refine (dats m 0 c).arrAt_eq_of_covers 5 _ (by decide +kernel) fun t hf y => ?_
  blk_simp
  rw [after0_5]
  have e : ∀ f : S8192x1024.Idx → EReal, f ((win0_5.blk t).view.emb y) = f (ix2 (row t (y 0)) (y 1)) := by
    intro f; blk_ext [row, idx t]
  refine Eq.trans ?_ (e fun i => (opnd m c).xo (i 0) (i 1)).symm
  exact (congrArg _ (eq_ix2 y)).trans (out5 m c t (y 0) (y 1))

theorem arr6 : (dats m 0 c).arrAt 6 cfg0.N = fun i : S8192x1024.Idx => (opnd m c).hn (i 0) (i 1) := by
  refine (dats m 0 c).arrAt_eq_of_covers 6 _ (by decide +kernel) fun t hf y => ?_
  blk_simp
  rw [after0_6]
  have e : ∀ f : S8192x1024.Idx → EReal, f ((win0_6.blk t).view.emb y) = f (ix2 (row t (y 0)) (y 1)) := by
    intro f; blk_ext [row, idx t]
  refine Eq.trans ?_ (e fun i => (opnd m c).hn (i 0) (i 1)).symm
  exact (congrArg _ (eq_ix2 y)).trans (out6 m c t (y 0) (y 1))

theorem arr7 : (dats m 0 c).arrAt 7 cfg0.N = fun i : S2x8192x2816.Idx => halves (opnd m c) (i 0) (i 1) (i 2) := by
  refine (dats m 0 c).arrAt_eq_of_covers 7 _ (by decide +kernel) fun t hf y => ?_
  blk_simp
  rw [after0_7]
  have e : ∀ f : S2x8192x2816.Idx → EReal, f ((win0_7.blk t).view.emb y) = f (ix3 (y 0) (row t (y 1)) (y 2)) := by
    intro f; blk_ext [row, idx t]
  refine Eq.trans ?_ (e fun i => halves (opnd m c) (i 0) (i 1) (i 2)).symm
  exact (congrArg _ (eq_ix3 y)).trans (out7 m c t (y 0) (y 1) (y 2))

theorem arr8 : (dats m 0 c).arrAt 8 cfg0.N = fun i : S8192x1024.Idx => (opnd m c).y (i 0) (i 1) := by
  refine (dats m 0 c).arrAt_eq_of_covers 8 _ (by decide +kernel) fun t hf y => ?_
  blk_simp
  rw [after0_8]
  have e : ∀ f : S8192x1024.Idx → EReal, f ((win0_8.blk t).view.emb y) = f (ix2 (row t (y 0)) (y 1)) := by
    intro f; blk_ext [row, idx t]
  refine Eq.trans ?_ (e fun i => (opnd m c).y (i 0) (i 1)).symm
  exact (congrArg _ (eq_ix2 y)).trans (out8 m c t (y 0) (y 1))

end Cert.Kernel5Ideal.Tile
-- ==== Proof.FwdRef.lean ====
module

public import proofs.«01_k».proof.Proof.FwdOut
public import proofs.«01_k».proof.Proof.Gen.Reference5Ideal.Read

@[expose] public section

set_option maxRecDepth 16384

noncomputable section

namespace Cert.Reference5Ideal.Fwd

open Cert.Reference5Ideal Cert.Reference5Ideal.Gen Idealize.ShloMosaic Idealize.ShloMosaic.TcCoe Idealize.SL.Sem
open Cert.Reference5Ideal.Read Cert.FfnSpec Cert.KernelIdeal.Pay

variable (x0 : FVec Ideal S8192x1024 .f32) (x1 x2 x3 x4 : FVec Ideal S1024 .f32) (x5 : FVec Ideal S1024x5632 .f32) (x6 : FVec Ideal S2816x1024 .f32)

/-! The reference's values, stage by stage, in the words of `FfnSpec`. -/

/-- The operands. -/
abbrev opr : In := ofArgs x0 x1 x2 x3 x4 x5 x6 (fun _ => 0)

theorem hn_at (t : Fin 8192) (d : Fin 1024) : (val_main_v20 (F := Ideal) x0 x1 x2 x3 (ix2 t d) : EReal) = (opr x0 x1 x2 x3 x4 x5 x6).hn t d := by
  unfold In.hn rstd
  pointwise [val_main_v20, val_main_v19, val_main_v18, val_main_v17, val_main_v16, val_main_v15, val_main_v14, val_main_v13, val_main_v12,
    val_main_v11, val_main_v10, val_main_v9, val_main_v8, val_main_v7, val_main_v6, val_main_v5, val_main_v4, val_main_v3, val_main_v2, val_main_v1, val_main_v0,
    val_main_cst, val_main_cst_0, val_main_cst_1, val_main_cst_2, ofArgs]

theorem ab_at (t : Fin 8192) (j : Fin 5632) : (val_main_v21 (F := Ideal) x0 x1 x2 x3 x5 (ix2 t j) : EReal) = (opr x0 x1 x2 x3 x4 x5 x6).ab t j := by
  unfold In.ab
  simp only [← hn_at]
  rw [val_main_v21]
  generalize val_main_v20 (F := Ideal) x0 x1 x2 x3 = D
  pointwise [ofArgs]

theorem a_at (t : Fin 8192) (k : Fin 2816) : (val_main_v22 (F := Ideal) x0 x1 x2 x3 x5 (ix2 t k) : EReal) = (opr x0 x1 x2 x3 x4 x5 x6).a t k := by
  unfold In.a
  rw [← ab_at, val_main_v22]
  generalize val_main_v21 (F := Ideal) x0 x1 x2 x3 x5 = D
  pointwise []

theorem b_at (t : Fin 8192) (k : Fin 2816) : (val_main_v23 (F := Ideal) x0 x1 x2 x3 x5 (ix2 t k) : EReal) = (opr x0 x1 x2 x3 x4 x5 x6).b t k := by
  unfold In.b
  rw [← ab_at, val_main_v23]
  generalize val_main_v21 (F := Ideal) x0 x1 x2 x3 x5 = D
  pointwise []

theorem u_at (t : Fin 8192) (k : Fin 2816) : (val_main_v25 (F := Ideal) x0 x1 x2 x3 x5 (ix2 t k) : EReal) = (opr x0 x1 x2 x3 x4 x5 x6).u t k := by
  unfold In.u
  rw [← a_at, ← b_at, val_main_v25, val_main_v24, val_main_call0_v5, val_main_call0_v3, val_main_call0_v1, val_main_call0_v0]
  generalize val_main_v22 (F := Ideal) x0 x1 x2 x3 x5 = D
  generalize val_main_v23 (F := Ideal) x0 x1 x2 x3 x5 = E
  pointwise [val_main_call0_v4, val_main_call0_v2, val_main_call0_cst, val_main_call0_cst_0]
  rfl

theorem y_at (t : Fin 8192) (d : Fin 1024) : (val_main_v26 (F := Ideal) x0 x1 x2 x3 x5 x6 (ix2 t d) : EReal) = (opr x0 x1 x2 x3 x4 x5 x6).y t d := by
  unfold In.y
  simp only [← u_at]
  rw [val_main_v26]
  generalize val_main_v25 (F := Ideal) x0 x1 x2 x3 x5 = D
  pointwise [ofArgs]

theorem xo_at (t : Fin 8192) (d : Fin 1024) : (val_main_v34 (F := Ideal) x0 x1 x2 x3 x4 x5 x6 (ix2 t d) : EReal) = (opr x0 x1 x2 x3 x4 x5 x6).xo t d := by
  unfold In.xo In.half
  rw [← y_at, val_main_v34, val_main_v33]
  generalize val_main_v26 (F := Ideal) x0 x1 x2 x3 x5 x6 = D
  pointwise [val_main_v32, val_main_v31, val_main_v30, val_main_v29, val_main_v28, val_main_v27, val_main_cst_3, val_main_cst_4, ofArgs]

theorem hb_at (t : Fin 8192) (d : Fin 1024) : (val_main_v35 (F := Ideal) x0 x1 x2 x3 (ix2 t d) : EReal) = (opr x0 x1 x2 x3 x4 x5 x6).hn t d := by
  rw [← hn_at, val_main_v35]
  generalize val_main_v20 (F := Ideal) x0 x1 x2 x3 = D
  pointwise []

theorem yb_at (t : Fin 8192) (d : Fin 1024) : (val_main_v42 (F := Ideal) x0 x1 x2 x3 x5 x6 (ix2 t d) : EReal) = (opr x0 x1 x2 x3 x4 x5 x6).y t d := by
  rw [← y_at, val_main_v42]
  generalize val_main_v26 (F := Ideal) x0 x1 x2 x3 x5 x6 = D
  pointwise []

theorem halves_at (q : Fin 2) (t : Fin 8192) (k : Fin 2816) : (val_main_v41 (F := Ideal) x0 x1 x2 x3 x5 (ix3 q t k) : EReal)
    = Cert.Kernel5Ideal.Tile.halves (opr x0 x1 x2 x3 x4 x5 x6) q t k := by
  unfold Cert.Kernel5Ideal.Tile.halves
  rw [← ab_at, val_main_v41, val_main_v40, val_main_v39, val_main_v38, val_main_v37, val_main_v36]
  generalize val_main_v21 (F := Ideal) x0 x1 x2 x3 x5 = D
  obtain rfl | rfl : q = 0 ∨ q = 1 := by revert q; decide
  · refine Eq.trans (b := D (ix2 t ⟨k.val, by omega⟩)) ?_ (congrArg (fun j => D (ix2 t j)) (Fin.ext (by simp)))
    pointwise []
  · refine Eq.trans (b := D (ix2 t ⟨2816 + k.val, by omega⟩)) ?_ (congrArg (fun j => D (ix2 t j)) (Fin.ext (by simp)))
    pointwise []

/-- The results as arrays. -/
def xoOf (I : In) : S8192x1024.Idx → EReal := fun i => I.xo (i 0) (i 1)
def hnOf (I : In) : S8192x1024.Idx → EReal := fun i => I.hn (i 0) (i 1)
def abOf (I : In) : S2x8192x2816.Idx → EReal := fun i => Cert.Kernel5Ideal.Tile.halves I (i 0) (i 1) (i 2)
def yOf (I : In) : S8192x1024.Idx → EReal := fun i => I.y (i 0) (i 1)

theorem xo_arr : val_main_v34 (F := Ideal) x0 x1 x2 x3 x4 x5 x6 = xoOf (opr x0 x1 x2 x3 x4 x5 x6) :=
  funext fun i => (congrArg _ (eq_ix2 i)).trans (xo_at x0 x1 x2 x3 x4 x5 x6 (i 0) (i 1))
theorem hn_arr : val_main_v35 (F := Ideal) x0 x1 x2 x3 = hnOf (opr x0 x1 x2 x3 x4 x5 x6) :=
  funext fun i => (congrArg _ (eq_ix2 i)).trans (hb_at x0 x1 x2 x3 x4 x5 x6 (i 0) (i 1))
theorem ab_arr : val_main_v41 (F := Ideal) x0 x1 x2 x3 x5 = abOf (opr x0 x1 x2 x3 x4 x5 x6) :=
  funext fun i => (congrArg _ (eq_ix3 i)).trans (halves_at x0 x1 x2 x3 x4 x5 x6 (i 0) (i 1) (i 2))
theorem y_arr : val_main_v42 (F := Ideal) x0 x1 x2 x3 x5 x6 = yOf (opr x0 x1 x2 x3 x4 x5 x6) :=
  funext fun i => (congrArg _ (eq_ix2 i)).trans (yb_at x0 x1 x2 x3 x4 x5 x6 (i 0) (i 1))

end Cert.Reference5Ideal.Fwd
-- ==== Proof.FwdAlg.lean ====
module

public import proofs.«01_k».proof.Defs
public import proofs.«01_k».proof.Proof.FwdRef
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Read
public import proofs.«01_k».proof.Proof.Gen.Reference5Ideal.Run

@[expose] public section

set_option maxRecDepth 16384

noncomputable section

/-! The FFN layer's forward call: frames, and the kernel's results are the reference's. -/

namespace Cert.Proof

open Idealize.ShloMosaic Idealize.ShloMosaic.TcCoe Idealize.SL.Sem

theorem frame_k5 : Cert.quiescent_Kernel5 := fun m ρ _ => Cert.Kernel5.Gen.frame m ρ
theorem frame_i5 : Cert.quiescent_Kernel5Ideal := fun m ρ _ => Cert.Kernel5Ideal.Gen.frame m ρ
theorem frame_r5 : Cert.quiescent_Reference5Ideal := fun m ρ _ =>
  (θ_run Cert.Reference5Ideal.defs _ _).mono (fun r h => ⟨fun c => (h c).2.2.2.2, sem_eq_zero_of_no_sems (by decide) r.2⟩)
    (Cert.Reference5Ideal.Value.run (F := Ideal) m ρ)

open Cert.Reference5Ideal.Fwd in
theorem algebraic5 : Cert.algebraic_Kernel5Ideal_Reference5Ideal := by
  intro m ρ m' ρ' _ hag
  refine ⟨fun c => xoOf (Cert.Kernel5Ideal.Tile.opnd m c), fun c => hnOf (Cert.Kernel5Ideal.Tile.opnd m c), fun c => abOf (Cert.Kernel5Ideal.Tile.opnd m c),
    fun c => yOf (Cert.Kernel5Ideal.Tile.opnd m c), ?_, ?_⟩
  · refine (θ_run Cert.Kernel5Ideal.defs _ _).mono (fun r h c => ?_) (Cert.Kernel5Ideal.Value.run_blocks (F := Ideal) m ρ)
    obtain ⟨h0, h1, h2, h3, hk⟩ := h c
    exact ⟨h0.trans (Cert.Kernel5Ideal.Tile.arr5 m c), h1.trans (Cert.Kernel5Ideal.Tile.arr6 m c), h2.trans (Cert.Kernel5Ideal.Tile.arr7 m c),
      h3.trans (Cert.Kernel5Ideal.Tile.arr8 m c), hk⟩
  · refine (θ_run Cert.Reference5Ideal.defs _ _).mono (fun r h c => ?_) (Cert.Reference5Ideal.Value.run (F := Ideal) m' ρ')
    obtain ⟨h0, h1, h2, h3, hk⟩ := h c
    obtain ⟨a0, a1, a2, a3, a4, a5, a6⟩ := hag c
    have e : opr (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) = Cert.Kernel5Ideal.Tile.opnd m c := by
      unfold Cert.Kernel5Ideal.Tile.opnd opr
      rw [a0, a1, a2, a3, a4, a5, a6]
    exact ⟨h0.trans ((Cert.Reference5Ideal.Read.val_main_v34_eq _ _).trans ((xo_arr _ _ _ _ _ _ _).trans (congrArg xoOf e))),
      h1.trans ((Cert.Reference5Ideal.Read.val_main_v35_eq _ _ _ _).trans ((hn_arr _ _ _ _ _ _ _).trans (congrArg hnOf e))),
      h2.trans ((Cert.Reference5Ideal.Read.val_main_v41_eq _ _ _ _ _).trans ((ab_arr _ _ _ _ _ _ _).trans (congrArg abOf e))),
      h3.trans ((Cert.Reference5Ideal.Read.val_main_v42_eq _ _).trans ((y_arr _ _ _ _ _ _ _).trans (congrArg yOf e))), hk⟩

end Cert.Proof
-- ==== Proof.Slots.lean ====
module

public import proofs.«01_k».proof.Proof.Tile
public import Idealize.ShloMosaic.Lib.Pipeline.ValueKit
public import Idealize.ShloMosaic.Lib.Pipeline.ReadBack

@[expose] public section

set_option maxRecDepth 16384

noncomputable section

namespace Cert.Slots

open Idealize.ShloMosaic Idealize.ShloMosaic.TcCoe Idealize.SL.Sem
open Cert.KernelIdeal.Tile (canon_hit canon_miss)

/-! An accumulator of several slots, each updated by its own store; and a load of some columns of a block. -/

variable {Val : EltTy → Type} {e : EltTy}

/-- A load of slot `s` reads that slot. -/
theorem ld_slot {n a b : ℕ} (X : (⟨3, ![n, a, b]⟩ : Shape).Idx → Val e) (s : ℕ) (hs : s < n) (inb) (i : Fin a) (j : Fin b) :
    View.ld X (Rect.unit (s := ⟨3, ![n, a, b]⟩) ![s, 0, 0] ![1, a, b] inb) (ix3 (0 : Fin 1) i j) = X (ix3 (⟨s, hs⟩ : Fin n) i j) :=
  View.ld_unit_apply_of _ _ _ _ _ (ix3 (⟨s, hs⟩ : Fin n) i j) (fun x => by match x with | ⟨0, _⟩ => simp | ⟨1, _⟩ => simp | ⟨2, _⟩ => simp)

/-- A load of the columns from `o` on reads those columns. -/
theorem ld_cols {a w b : ℕ} (X : (⟨3, ![1, a, w]⟩ : Shape).Idx → Val e) (o : ℕ) (inb) (i : Fin a) (j : Fin b) (h : o + j.val < w) :
    View.ld X (Rect.unit (s := ⟨3, ![1, a, w]⟩) ![0, 0, o] ![1, a, b] inb) (ix3 (0 : Fin 1) i j) = X (ix3 (0 : Fin 1) i (⟨o + j.val, h⟩ : Fin w)) :=
  View.ld_unit_apply_of _ _ _ _ _ (ix3 (0 : Fin 1) i (⟨o + j.val, h⟩ : Fin w)) (fun x => by match x with | ⟨0, _⟩ => simp | ⟨1, _⟩ => simp | ⟨2, _⟩ => simp)

/-- Slot `s` plus a product of a block with some columns of another, in terms of what the blocks hold. -/
theorem add {n a b w K : ℕ} (X : FVec Ideal (⟨3, ![n, a, b]⟩ : Shape) .f32) (h : (⟨2, ![K, a]⟩ : Shape).Idx → EReal) (d : FVec Ideal (⟨3, ![1, K, w]⟩ : Shape) .bf16)
    (H : Fin K → Fin a → EReal) (D : Fin K → Fin w → EReal) (hh : ∀ k i, h (ix2 k i) = H k i) (hd : ∀ k l, (d (ix3 (0 : Fin 1) k l) : EReal) = D k l)
    (s : ℕ) (hs : s < n) (x) (o : ℕ) (y) (i : Fin a) (j : Fin b) (hj : o + j.val < w) :
    ((View.ld (Val := Elt Ideal) (e' := .f32) X (Rect.unit (s := ⟨3, ![n, a, b]⟩) ![s, 0, 0] ![1, a, b] x) (ix3 (0 : Fin 1) i j) : EReal)
      + ∑ k : Fin K, h (ix2 k i) * (View.ld (Val := Elt Ideal) (e' := .bf16) d (Rect.unit (s := ⟨3, ![1, K, w]⟩) ![0, 0, o] ![1, K, b] y) (ix3 (0 : Fin 1) k j) : EReal))
      = X (ix3 (⟨s, hs⟩ : Fin n) i j) + ∑ k : Fin K, H k i * D k ⟨o + j.val, hj⟩ :=
  congrArg₂ (· + ·) (ld_slot (Val := Elt Ideal) (e := .f32) X s hs x i j)
    (Finset.sum_congr rfl fun k _ => congrArg₂ (· * ·) (hh k i) ((ld_cols (Val := Elt Ideal) (e := .bf16) d o y k j hj).trans (hd k _)))

variable [∀ e, Nonempty (Val e)]

/-- Two stores, one to each of two slots. -/
theorem two {a b : ℕ} (w0 w1 : (⟨3, ![1, a, b]⟩ : Shape).Idx → Val e) (h0 h1) (L : List (View.Piece Val (⟨3, ![2, a, b]⟩ : Shape) e)) (q : Fin 2) (i : Fin a) (j : Fin b) :
    View.canon (⟨Rect.unit (s := ⟨3, ![2, a, b]⟩) ![1, 0, 0] ![1, a, b] h1, w1⟩ :: ⟨Rect.unit (s := ⟨3, ![2, a, b]⟩) ![0, 0, 0] ![1, a, b] h0, w0⟩ :: L) (ix3 q i j)
      = (![w0, w1] q) (ix3 (0 : Fin 1) i j) := by
  have hit : ∀ (s : ℕ) (hs : s < 2) (w : (⟨3, ![1, a, b]⟩ : Shape).Idx → Val e) (h) (L : List (View.Piece Val (⟨3, ![2, a, b]⟩ : Shape) e)),
      View.canon (⟨Rect.unit (s := ⟨3, ![2, a, b]⟩) ![s, 0, 0] ![1, a, b] h, w⟩ :: L) (ix3 (⟨s, hs⟩ : Fin 2) i j) = w (ix3 (0 : Fin 1) i j) := by
    intro s hs w h L
    refine canon_hit h w L _ (ix3 (0 : Fin 1) i j) fun x => ?_
    match x with | ⟨0, _⟩ => simp | ⟨1, _⟩ => simp | ⟨2, _⟩ => simp
  match q with
  | ⟨0, _⟩ => exact (canon_miss _ _ _ _ (0 : Fin 3) (by simp)).trans (hit 0 _ _ _ _)
  | ⟨1, _⟩ => exact hit 1 _ _ _ _

/-- Four stores, one to each of four slots. -/
theorem four {a b : ℕ} (w0 w1 w2 w3 : (⟨3, ![1, a, b]⟩ : Shape).Idx → Val e) (h0 h1 h2 h3) (L : List (View.Piece Val (⟨3, ![4, a, b]⟩ : Shape) e)) (q : Fin 4) (i : Fin a) (j : Fin b) :
    View.canon (⟨Rect.unit (s := ⟨3, ![4, a, b]⟩) ![3, 0, 0] ![1, a, b] h3, w3⟩ :: ⟨Rect.unit (s := ⟨3, ![4, a, b]⟩) ![2, 0, 0] ![1, a, b] h2, w2⟩
        :: ⟨Rect.unit (s := ⟨3, ![4, a, b]⟩) ![1, 0, 0] ![1, a, b] h1, w1⟩ :: ⟨Rect.unit (s := ⟨3, ![4, a, b]⟩) ![0, 0, 0] ![1, a, b] h0, w0⟩ :: L) (ix3 q i j)
      = (![w0, w1, w2, w3] q) (ix3 (0 : Fin 1) i j) := by
  have hit : ∀ (s : ℕ) (hs : s < 4) (w : (⟨3, ![1, a, b]⟩ : Shape).Idx → Val e) (h) (L : List (View.Piece Val (⟨3, ![4, a, b]⟩ : Shape) e)),
      View.canon (⟨Rect.unit (s := ⟨3, ![4, a, b]⟩) ![s, 0, 0] ![1, a, b] h, w⟩ :: L) (ix3 (⟨s, hs⟩ : Fin 4) i j) = w (ix3 (0 : Fin 1) i j) := by
    intro s hs w h L
    refine canon_hit h w L _ (ix3 (0 : Fin 1) i j) fun x => ?_
    match x with | ⟨0, _⟩ => simp | ⟨1, _⟩ => simp | ⟨2, _⟩ => simp
  match q with
  | ⟨0, _⟩ => exact (canon_miss _ _ _ _ (0 : Fin 3) (by simp)).trans ((canon_miss _ _ _ _ (0 : Fin 3) (by simp)).trans ((canon_miss _ _ _ _ (0 : Fin 3) (by simp)).trans (hit 0 _ _ _ _)))
  | ⟨1, _⟩ => exact (canon_miss _ _ _ _ (0 : Fin 3) (by simp)).trans ((canon_miss _ _ _ _ (0 : Fin 3) (by simp)).trans (hit 1 _ _ _ _))
  | ⟨2, _⟩ => exact (canon_miss _ _ _ _ (0 : Fin 3) (by simp)).trans (hit 2 _ _ _ _)
  | ⟨3, _⟩ => exact hit 3 _ _ _ _

/-- A load of the whole of a buffer after stores reads what they left. -/
theorem whole {n a b : ℕ} {sig : RefSig} {κ : Kind} {sp : Space} (v : View sig κ sp (⟨3, ![n, a, b]⟩ : Shape) e) (L : List (View.Piece Val (⟨3, ![n, a, b]⟩ : Shape) e)) (inb)
    (q : Fin n) (i : Fin a) (j : Fin b) :
    v.readCov L (Rect.unit (s := ⟨3, ![n, a, b]⟩) ![0, 0, 0] ![n, a, b] inb).toLoadRect (ix3 q i j) = View.canon L (ix3 q i j) := by
  rw [View.readCov_eq_canon']
  refine congrArg (View.canon L) (funext fun x => Fin.ext ?_)
  match x with
  | ⟨0, _⟩ => simp [Rect.toLoadRect]
  | ⟨1, _⟩ => simp [Rect.toLoadRect]
  | ⟨2, _⟩ => simp [Rect.toLoadRect]

end Cert.Slots
-- ==== Proof.WgradCol.lean ====
module

public import proofs.«01_k».proof.Proof.Gen.Kernel6Ideal.Value
public import proofs.«01_k».proof.Proof.Slots
public import Idealize.ShloMosaic.Lib.Pipeline.ValueKit
public import Idealize.ShloMosaic.Lib.Pipeline.ReadBack
public import Idealize.ShloMosaic.PureOps.Ideal.Laws
public import Idealize.ShloMosaic.Lib.StableHlo.ReadAt

@[expose] public section

set_option maxRecDepth 16384

noncomputable section

namespace Cert.Kernel6Ideal.Tile

open Cert.Kernel6Ideal Cert.Kernel6Ideal.Gen Idealize.ShloMosaic Idealize.ShloMosaic.TcCoe Idealize.SL.Sem
open Cert.Slots

/-! The gradient of the convolution layer's first weights: two column blocks at a time, summed over the tokens tile by tile. -/

theorem pay1_at (i) : k0_pay1 (F := Ideal) i = 0 := by pointwise [k0_pay1]

theorem pay2_at (h : FVec Ideal S2048x1024 .bf16) (acc : FVec Ideal S1x1024x768 .f32) (b : FVec Ideal S1x2048x768 .bf16) (i : Fin 1024) (j : Fin 768) :
    (k0_pay2 (F := Ideal) h acc b (ix3 0 i j) : EReal) = acc (ix3 0 i j) + ∑ a : Fin 2048, (h (ix2 a i) : EReal) * (b (ix3 0 a j) : EReal) := by
  pointwise [k0_pay2]

theorem pay3_at (h : FVec Ideal S2048x1024 .bf16) (acc : FVec Ideal S1x1024x768 .f32) (b : FVec Ideal S1x2048x768 .bf16) (i : Fin 1024) (j : Fin 768) :
    (k0_pay3 (F := Ideal) h acc b (ix3 0 i j) : EReal) = acc (ix3 0 i j) + ∑ a : Fin 2048, (h (ix2 a i) : EReal) * (b (ix3 0 a j) : EReal) := by
  pointwise [k0_pay3]

theorem pay4_at (acc : FVec Ideal S2x1024x768 .f32) (i) : (k0_pay4 (F := Ideal) acc i : EReal) = acc i := by
  pointwise [k0_pay4]

/-- The result: for column block `q`, `∑ token, h token i · d token (column of q)`. -/
def dw (h : FVec Ideal S8192x1024 .bf16) (d : FVec Ideal S8192x3072 .bf16) (q : Fin 4) (i : Fin 1024) (j : Fin 768) : EReal :=
  ∑ l : Fin 8192, (h (ix2 l i) : EReal) * (d (ix2 l ⟨q.val * 768 + j.val, by omega⟩) : EReal)

variable (m : (ℓ : Loc nD τ sig) → Buf (Elt Ideal) ℓ) (c : Dev nD)

theorem idx : ∀ t : Fin cfg0.N, win0_0.index t = ![t.val % 4, 0] ∧ win0_1.index t = ![0, t.val % 4, t.val / 4]
    ∧ win0_2.index t = ![t.val / 4, 0, 0] :=
  (by decide +kernel : ∀ t : Fin grid0.N, _)

theorem N8 (t : Fin cfg0.N) : t.val < 8 := t.isLt.trans_le (le_of_eq N_0)

theorem V_v0 (r : Fin 1) (l : Fin 8192) (j : Fin 3072) : ((V m c main_v0 : FVec Ideal S1x8192x3072 .bf16) (ix3 r l j) : EReal) = (V m c main_arg1 : FVec Ideal S8192x3072 .bf16) (ix2 l j) := by
  unfold_abbrev_sides
  after_reads_at

/-- The token of row `a` of the tile that point `t` reads. -/
def row (t : Fin cfg0.N) (a : Fin 2048) : Fin 8192 := ⟨t.val % 4 * 2048 + a.val, by omega⟩

/-- What point `t` adds to slot `q`. -/
def part (h : FVec Ideal S8192x1024 .bf16) (d : FVec Ideal S8192x3072 .bf16) (t : Fin cfg0.N) (q : Fin 2) (i : Fin 1024) (j : Fin 768) : EReal :=
  ∑ a : Fin 2048, (h (ix2 (row t a) i) : EReal) * (d (ix2 (row t a) ⟨t.val / 4 * 1536 + (q.val * 768 + j.val), by have := N8 t; omega⟩) : EReal)

abbrev term : Fin cfg0.N → Fin 2 → Fin 1024 → Fin 768 → EReal := part (V m c main_arg0) (V m c main_arg1)

section Point
variable (t : Fin cfg0.N)

theorem b0 (a : Fin 2048) (d : Fin 1024) : (iblk m c 0 t : FVec Ideal S2048x1024 .bf16) (ix2 a d) = (V m c main_arg0 : FVec Ideal S8192x1024 .bf16) (ix2 (row t a) d) := by
  blk_ext [iblk, row, idx t]
theorem b1 (a : Fin 2048) (k : Fin 1536) : (iblk m c 1 t : FVec Ideal S1x2048x1536 .bf16) (ix3 0 a k)
    = (V m c main_v0 : FVec Ideal S1x8192x3072 .bf16) (ix3 0 (row t a) ⟨t.val / 4 * 1536 + k.val, by have := N8 t; omega⟩) := by
  blk_ext [iblk, row, idx t]
theorem b1d (a : Fin 2048) (k : Fin 1536) : (iblk m c 1 t : FVec Ideal S1x2048x1536 .bf16) (ix3 0 a k)
    = (V m c main_arg1 : FVec Ideal S8192x3072 .bf16) (ix2 (row t a) ⟨t.val / 4 * 1536 + k.val, by have := N8 t; omega⟩) :=
  (b1 m c t a k).trans (V_v0 m c 0 _ _)

/-- The two slots after point `t`, from the accumulator `X` before it. -/
theorem slots (X : FVec Ideal S2x1024x768 .f32) (x0 x1 y0 y1) (q : Fin 2) (i : Fin 1024) (j : Fin 768) :
    ((![k0_pay2 (F := Ideal) (iblk m c 0 t) (View.ld X (Rect.unit (s := S2x1024x768) ![0, 0, 0] S1x1024x768.size x0)) (View.ld (iblk m c 1 t) (Rect.unit (s := S1x2048x1536) ![0, 0, 0] S1x2048x768.size y0)),
        k0_pay3 (F := Ideal) (iblk m c 0 t) (View.ld X (Rect.unit (s := S2x1024x768) ![1, 0, 0] S1x1024x768.size x1)) (View.ld (iblk m c 1 t) (Rect.unit (s := S1x2048x1536) ![0, 0, 768] S1x2048x768.size y1))] q
        : FVec Ideal S1x1024x768 .f32) (ix3 0 i j) : EReal) = X (ix3 q i j) + term m c t q i j := by
  match q with
  | ⟨0, _⟩ => exact (pay2_at _ _ _ i j).trans (congrArg₂ (· + ·) (ld_slot (Val := Elt Ideal) (e := .f32) (n := 2) X 0 (by omega) x0 i j) (Finset.sum_congr rfl fun a _ => congrArg₂ (· * ·) (b0 m c t a i)
      ((ld_cols (Val := Elt Ideal) (e := .bf16) (w := 1536) _ 0 y0 a j (by omega)).trans ((b1d m c t a _).trans (by simp)))))
  | ⟨1, _⟩ => exact (pay3_at _ _ _ i j).trans (congrArg₂ (· + ·) (ld_slot (Val := Elt Ideal) (e := .f32) (n := 2) X 1 (by omega) x1 i j) (Finset.sum_congr rfl fun a _ => congrArg₂ (· * ·) (b0 m c t a i)
      ((ld_cols (Val := Elt Ideal) (e := .bf16) (w := 1536) _ 768 y1 a j (by omega)).trans ((b1d m c t a _).trans (by simp)))))

theorem sc_A (h : t.val % 4 = 0) (q : Fin 2) (i : Fin 1024) (j : Fin 768) :
    ((outsAt0 m c t.val t.isLt).2 : FVec Ideal S2x1024x768 .f32) (ix3 q i j) = 0 + term m c t q i j := by
  rw [outsAt0_A m c t h (by omega)]; frame_open
  simp (disch := decide) only [↓ View.readCov_skip, ↓ View.readCov_cons_toLoadRect, ↓ View.readCov_fill]
  frame_out
  exact (two _ _ _ _ _ q i j).trans ((slots m c t _ _ _ _ _ q i j).trans (congrArg (· + _) (pay1_at _)))

theorem sc_B (h : ¬ t.val % 4 = 0) (q : Fin 2) (i : Fin 1024) (j : Fin 768) :
    ((outsAt0 m c t.val t.isLt).2 : FVec Ideal S2x1024x768 .f32) (ix3 q i j)
      = ((outsAt0 m c (t.val - 1) (Nat.lt_of_le_of_lt (Nat.sub_le _ _) t.isLt)).2 : FVec Ideal S2x1024x768 .f32) (ix3 q i j) + term m c t q i j := by
  by_cases h1 : t.val % 4 = 3
  · rw [outsAt0_C m c t h h1]; frame_open
    simp (disch := decide) only [↓ View.readCov_skip, ↓ View.readCov_cons_toLoadRect, ↓ View.readCov_fill]
    frame_out
    exact (two _ _ _ _ _ q i j).trans ((slots m c t _ _ _ _ _ q i j).trans (congrArg (· + _) (congrFun (read_unread_whole cc0_scratch0 (Memref.isWhole_whole _) _) _)))
  · rw [outsAt0_B m c t h h1]; frame_open
    simp (disch := decide) only [↓ View.readCov_skip, ↓ View.readCov_cons_toLoadRect, ↓ View.readCov_fill]
    frame_out
    exact (two _ _ _ _ _ q i j).trans ((slots m c t _ _ _ _ _ q i j).trans (congrArg (· + _) (congrFun (read_unread_whole cc0_scratch0 (Memref.isWhole_whole _) _) _)))

theorem out_C (h : t.val % 4 = 3) (q : Fin 2) (i : Fin 1024) (j : Fin 768) :
    ((outsAt0 m c t.val t.isLt).1 : FVec Ideal S2x1024x768 .bf16) (ix3 q i j)
      = ((outsAt0 m c t.val t.isLt).2 : FVec Ideal S2x1024x768 .f32) (ix3 q i j) := by
  rw [outsAt0_C m c t (by omega) h]; frame_open
  simp (disch := decide) only [↓ View.readCov_skip, ↓ View.readCov_cons_toLoadRect, ↓ View.readCov_fill]
  frame_out
  exact (pay4_at _ _).trans (whole _ _ _ q i j)

end Point

/-- The four tiles of tokens are all the tokens. -/
theorem sum_rows (h : FVec Ideal S8192x1024 .bf16) (d : FVec Ideal S8192x3072 .bf16) (t : Fin cfg0.N) (ht : t.val % 4 = 3) (s : Fin 2) (i : Fin 1024) (j : Fin 768) (q : Fin 4)
    (hq : q.val = t.val / 4 * 2 + s.val) (hl : ∀ k : Fin 4, 4 * (t.val / 4) + k.val < cfg0.N) :
    ∑ k : Fin 4, part h d ⟨4 * (t.val / 4) + k.val, hl k⟩ s i j = dw h d q i j := by
  refine Fin.sum_mul_add_congr ?_ rfl
  intro k a hl
  have e1 : (4 * (t.val / 4) + k.val) % 4 = k.val := by omega
  have e2 : (4 * (t.val / 4) + k.val) / 4 * 1536 + (s.val * 768 + j.val) = q.val * 768 + j.val := by omega
  simp only [row, e1, e2]

theorem arr2 : (dats m 0 c).arrAt 2 cfg0.N = fun i : S4x1024x768.Idx => dw (V m c main_arg0) (V m c main_arg1) (i 0) (i 1) (i 2) := by
  refine (dats m 0 c).arrAt_eq_of_covers 2 _ (by decide +kernel) fun t hf y => ?_
  blk_simp
  rw [after0_2]
  have hm : t.val % 4 = 3 := (flush0_2 t).mp hf
  have ht := N8 t
  have hy : (y 0).val < 2 := (y 0).isLt
  have e : ∀ f : S4x1024x768.Idx → EReal, f ((win0_2.blk t).view.emb y) = f (ix3 (⟨t.val / 4 * 2 + (y 0).val, by omega⟩ : Fin 4) (y 1) (y 2)) := by
    intro f; blk_ext [idx t]
  refine Eq.trans ?_ (e fun i => dw (V m c main_arg0) (V m c main_arg1) (i 0) (i 1) (i 2)).symm
  refine (congrArg _ (eq_ix3 y)).trans ((out_C m c t hm _ _ _).trans ?_)
  rw [Pipeline.eq_sum_fin_of_reset_step_apply_of_flush (fun n h => (outsAt0 m c n h).2) 4 (fun _ => 0)
    (fun t i => term m c t (i 0) (i 1) (i 2))
    (fun t h i => (congrArg _ (eq_ix3 i)).trans (sc_A m c t h (i 0) (i 1) (i 2))) (fun t h i => by
      rw [eq_ix3 i]; exact sc_B m c t h (i 0) (i 1) (i 2)) t hm, zero_add]
  exact sum_rows (V m c main_arg0) (V m c main_arg1) t hm (y 0) (y 1) (y 2) ⟨t.val / 4 * 2 + (y 0).val, by omega⟩ rfl _

end Cert.Kernel6Ideal.Tile
-- ==== Proof.WgradSq.lean ====
module

public import proofs.«01_k».proof.Proof.Gen.Kernel7Ideal.Value
public import Idealize.ShloMosaic.Lib.Pipeline.ValueKit
public import Idealize.ShloMosaic.Lib.Pipeline.ReadBack
public import Idealize.ShloMosaic.PureOps.Ideal.Laws
public import Idealize.ShloMosaic.Lib.StableHlo.ReadAt

@[expose] public section

set_option maxRecDepth 16384

noncomputable section

namespace Cert.Kernel7Ideal.Tile

open Cert.Kernel7Ideal Cert.Kernel7Ideal.Gen Idealize.ShloMosaic Idealize.ShloMosaic.TcCoe Idealize.SL.Sem

/-! The gradient of the weights behind the convolution, summed over the tokens tile by tile. -/

theorem pay1_at (i) : k0_pay1 (F := Ideal) i = 0 := by pointwise [k0_pay1]

theorem pay2_at (u : FVec Ideal S2048x1024 .bf16) (acc : FVec Ideal S1024x1024 .f32) (b : FVec Ideal S1x2048x1024 .bf16) (i : Fin 1024) (j : Fin 1024) :
    (k0_pay2 (F := Ideal) u acc b (ix2 i j) : EReal) = acc (ix2 i j) + ∑ a : Fin 2048, (u (ix2 a i) : EReal) * (b (ix3 0 a j) : EReal) := by
  pointwise [k0_pay2]

theorem pay3_at (acc : FVec Ideal S1024x1024 .f32) (q : Fin 1) (i : Fin 1024) (j : Fin 1024) :
    (k0_pay3 (F := Ideal) acc (ix3 q i j) : EReal) = acc (ix2 i j) := by
  pointwise [k0_pay3]

/-- The result: `∑ token, u token i · dy token j`. -/
def dw (u : FVec Ideal S8192x1024 .bf16) (dy : FVec Ideal S8192x1024 .bf16) (i : Fin 1024) (j : Fin 1024) : EReal :=
  ∑ l : Fin 8192, (u (ix2 l i) : EReal) * (dy (ix2 l j) : EReal)

/-- What one tile of tokens adds. -/
def part (u : FVec Ideal S8192x1024 .bf16) (dy : FVec Ideal S8192x1024 .bf16) (i : Fin 1024) (j : Fin 1024) (s : Fin 4) : EReal :=
  ∑ a : Fin 2048, (u (ix2 ⟨s.val * 2048 + a.val, by omega⟩ i) : EReal) * (dy (ix2 ⟨s.val * 2048 + a.val, by omega⟩ j) : EReal)

theorem sum_part (u : FVec Ideal S8192x1024 .bf16) (dy : FVec Ideal S8192x1024 .bf16) (i : Fin 1024) (j : Fin 1024) : ∑ s : Fin 4, part u dy i j s = dw u dy i j :=
  Fin.sum_mul_add_fin 4 2048 fun l => (u (ix2 l i) : EReal) * (dy (ix2 l j) : EReal)

variable (m : (ℓ : Loc nD τ sig) → Buf (Elt Ideal) ℓ) (c : Dev nD)

theorem idx : ∀ t : Fin cfg0.N, win0_0.index t = ![t.val % 4, 0] ∧ win0_1.index t = ![0, t.val % 4, 0]
    ∧ win0_2.index t = ![0, 0, 0] :=
  (by decide +kernel : ∀ t : Fin grid0.N, _)

theorem N4 (t : Fin cfg0.N) : t.val < 4 := t.isLt.trans_le (le_of_eq N_0)

theorem V_v0 (r : Fin 1) (l : Fin 8192) (j : Fin 1024) : ((V m c main_v0 : FVec Ideal S1x8192x1024 .bf16) (ix3 r l j) : EReal) = (V m c main_arg1 : FVec Ideal S8192x1024 .bf16) (ix2 l j) := by
  unfold_abbrev_sides
  after_reads_at

def term (t : Fin cfg0.N) (i : Fin 1024) (j : Fin 1024) : EReal :=
  part (V m c main_arg0) (V m c main_arg1) i j ⟨t.val % 4, by omega⟩

section Point
variable (t : Fin cfg0.N)

theorem b0 (a : Fin 2048) (i : Fin 1024) : (iblk m c 0 t : FVec Ideal S2048x1024 .bf16) (ix2 a i)
    = (V m c main_arg0 : FVec Ideal S8192x1024 .bf16) (ix2 ⟨t.val % 4 * 2048 + a.val, by omega⟩ i) := by
  blk_ext [iblk, idx t]
theorem b1 (a : Fin 2048) (j : Fin 1024) : (iblk m c 1 t : FVec Ideal S1x2048x1024 .bf16) (ix3 0 a j)
    = (V m c main_v0 : FVec Ideal S1x8192x1024 .bf16) (ix3 0 ⟨t.val % 4 * 2048 + a.val, by omega⟩ j) := by
  blk_ext [iblk, idx t]
theorem b1d (a : Fin 2048) (j : Fin 1024) : (iblk m c 1 t : FVec Ideal S1x2048x1024 .bf16) (ix3 0 a j)
    = (V m c main_arg1 : FVec Ideal S8192x1024 .bf16) (ix2 ⟨t.val % 4 * 2048 + a.val, by omega⟩ j) :=
  (b1 m c t a j).trans (V_v0 m c 0 _ j)

theorem acc_of (acc : FVec Ideal S1024x1024 .f32) (i : Fin 1024) (j : Fin 1024) :
    (k0_pay2 (F := Ideal) (iblk m c 0 t) acc (iblk m c 1 t) (ix2 i j) : EReal) = acc (ix2 i j) + term m c t i j := by
  rw [pay2_at]
  simp only [b0, b1d]
  rfl

theorem sc_A (h : t.val % 4 = 0) (i : Fin 1024) (j : Fin 1024) :
    ((outsAt0 m c t.val t.isLt).2 : FVec Ideal S1024x1024 .f32) (ix2 i j) = 0 + term m c t i j := by
  rw [outsAt0_A m c t h (by omega)]; frame_open
  simp (disch := decide) only [↓ View.readCov_skip, ↓ View.readCov_cons_toLoadRect, ↓ View.readCov_fill]
  frame_out
  exact (acc_of m c t _ i j).trans (congrArg (· + _) (pay1_at _))

theorem sc_B (h : ¬ t.val % 4 = 0) (i : Fin 1024) (j : Fin 1024) :
    ((outsAt0 m c t.val t.isLt).2 : FVec Ideal S1024x1024 .f32) (ix2 i j)
      = ((outsAt0 m c (t.val - 1) (Nat.lt_of_le_of_lt (Nat.sub_le _ _) t.isLt)).2 : FVec Ideal S1024x1024 .f32) (ix2 i j) + term m c t i j := by
  by_cases h1 : t.val % 4 = 3
  · rw [outsAt0_C m c t h h1]; frame_open
    simp (disch := decide) only [↓ View.readCov_skip, ↓ View.readCov_cons_toLoadRect, ↓ View.readCov_fill]
    frame_out
    exact (acc_of m c t _ i j).trans (congrArg (· + _) (congrFun (read_unread_whole cc0_scratch0 (Memref.isWhole_whole _) _) _))
  · rw [outsAt0_B m c t h h1]; frame_open
    simp (disch := decide) only [↓ View.readCov_skip, ↓ View.readCov_cons_toLoadRect, ↓ View.readCov_fill]
    frame_out
    exact (acc_of m c t _ i j).trans (congrArg (· + _) (congrFun (read_unread_whole cc0_scratch0 (Memref.isWhole_whole _) _) _))

theorem out_C (h : t.val % 4 = 3) (q : Fin 1) (i : Fin 1024) (j : Fin 1024) :
    ((outsAt0 m c t.val t.isLt).1 : FVec Ideal S1x1024x1024 .bf16) (ix3 q i j)
      = ((outsAt0 m c t.val t.isLt).2 : FVec Ideal S1024x1024 .f32) (ix2 i j) := by
  rw [outsAt0_C m c t (by omega) h]; frame_open
  simp (disch := decide) only [↓ View.readCov_skip, ↓ View.readCov_cons_toLoadRect, ↓ View.readCov_fill]
  frame_out
  exact pay3_at _ q i j

end Point

theorem arr2 : (dats m 0 c).arrAt 2 cfg0.N = fun i : S1x1024x1024.Idx => dw (V m c main_arg0) (V m c main_arg1) (i 1) (i 2) := by
  refine (dats m 0 c).arrAt_eq_of_covers 2 _ (by decide +kernel) fun t hf y => ?_
  blk_simp
  rw [after0_2]
  have hm : t.val % 4 = 3 := (flush0_2 t).mp hf
  have ht := N4 t
  have e : ∀ f : S1x1024x1024.Idx → EReal, f ((win0_2.blk t).view.emb y) = f (ix3 (0 : Fin 1) (y 1) (y 2)) := by
    intro f; blk_ext [idx t]
  refine Eq.trans ?_ (e fun i => dw (V m c main_arg0) (V m c main_arg1) (i 1) (i 2)).symm
  refine (congrArg _ (eq_ix3 y)).trans ((out_C m c t hm _ _ _).trans ?_)
  rw [Pipeline.eq_sum_fin_of_reset_step_apply_of_flush (fun n h => (outsAt0 m c n h).2) 4 (fun _ => 0)
    (fun t i => term m c t (i 0) (i 1))
    (fun t h i => (congrArg _ (eq_ix2 i)).trans (sc_A m c t h (i 0) (i 1))) (fun t h i => by
      rw [eq_ix2 i]; exact sc_B m c t h (i 0) (i 1)) t hm, zero_add]
  refine Eq.trans (Finset.sum_congr rfl fun s _ => ?_) (sum_part (V m c main_arg0) (V m c main_arg1) (y 1) (y 2))
  have e1 : (4 * (t.val / 4) + s.val) % 4 = s.val := by omega
  have e2 : (4 * (t.val / 4) + s.val) / 4 = t.val / 4 := by omega
  simp only [term, e1, e2]
  rfl

end Cert.Kernel7Ideal.Tile
-- ==== Proof.WgradQ.lean ====
module

public import proofs.«01_k».proof.Proof.Gen.Kernel8Ideal.Value
public import proofs.«01_k».proof.Proof.Slots
public import Idealize.ShloMosaic.Lib.Pipeline.ValueKit
public import Idealize.ShloMosaic.Lib.Pipeline.ReadBack
public import Idealize.ShloMosaic.PureOps.Ideal.Laws
public import Idealize.ShloMosaic.Lib.StableHlo.ReadAt

@[expose] public section

set_option maxRecDepth 16384

noncomputable section

namespace Cert.Kernel8Ideal.Tile

open Cert.Kernel8Ideal Cert.Kernel8Ideal.Gen Idealize.ShloMosaic Idealize.ShloMosaic.TcCoe Idealize.SL.Sem
open Cert.Slots

/-! The gradient of the weights of the queries: four column blocks at once, summed over the tokens tile by tile. -/

theorem zero_at (i) : k0_pay4 (F := Ideal) i = 0 := by pointwise [k0_pay4]

theorem slot0 (h : FVec Ideal S2048x1024 .bf16) (acc : FVec Ideal S1x1024x384 .f32) (b : FVec Ideal S1x2048x384 .bf16) (i : Fin 1024) (j : Fin 384) :
    (k0_pay5 (F := Ideal) h acc b (ix3 0 i j) : EReal) = acc (ix3 0 i j) + ∑ a : Fin 2048, (h (ix2 a i) : EReal) * (b (ix3 0 a j) : EReal) := by
  pointwise [k0_pay5]

theorem slot1 (h : FVec Ideal S2048x1024 .bf16) (acc : FVec Ideal S1x1024x384 .f32) (b : FVec Ideal S1x2048x384 .bf16) (i : Fin 1024) (j : Fin 384) :
    (k0_pay6 (F := Ideal) h acc b (ix3 0 i j) : EReal) = acc (ix3 0 i j) + ∑ a : Fin 2048, (h (ix2 a i) : EReal) * (b (ix3 0 a j) : EReal) := by
  pointwise [k0_pay6]

theorem slot2 (h : FVec Ideal S2048x1024 .bf16) (acc : FVec Ideal S1x1024x384 .f32) (b : FVec Ideal S1x2048x384 .bf16) (i : Fin 1024) (j : Fin 384) :
    (k0_pay1 (F := Ideal) h (k0_pay7 (F := Ideal) acc) b (ix3 0 i j) : EReal) = acc (ix3 0 i j) + ∑ a : Fin 2048, (h (ix2 a i) : EReal) * (b (ix3 0 a j) : EReal) := by
  pointwise [k0_pay1, k0_pay7]

theorem slot3 (h : FVec Ideal S2048x1024 .bf16) (acc : FVec Ideal S1x1024x384 .f32) (b : FVec Ideal S1x2048x384 .bf16) (i : Fin 1024) (j : Fin 384) :
    (k0_pay2 (F := Ideal) h acc b (ix3 0 i j) : EReal) = acc (ix3 0 i j) + ∑ a : Fin 2048, (h (ix2 a i) : EReal) * (b (ix3 0 a j) : EReal) := by
  pointwise [k0_pay2]

theorem last_at (acc : FVec Ideal S4x1024x384 .f32) (i) : (k0_pay3 (F := Ideal) acc i : EReal) = acc i := by
  pointwise [k0_pay3]

/-- The result: for column block `q`, `∑ token, h token i · d token (column of q)`. -/
def dw (h : FVec Ideal S8192x1024 .bf16) (d : FVec Ideal S8192x1536 .bf16) (q : Fin 4) (i : Fin 1024) (j : Fin 384) : EReal :=
  ∑ l : Fin 8192, (h (ix2 l i) : EReal) * (d (ix2 l ⟨q.val * 384 + j.val, by omega⟩) : EReal)

variable (m : (ℓ : Loc nD τ sig) → Buf (Elt Ideal) ℓ) (c : Dev nD)

theorem idx : ∀ t : Fin cfg0.N, win0_0.index t = ![t.val % 4, 0] ∧ win0_1.index t = ![0, t.val % 4, t.val / 4]
    ∧ win0_2.index t = ![t.val / 4, 0, 0] :=
  (by decide +kernel : ∀ t : Fin grid0.N, _)

theorem N4 (t : Fin cfg0.N) : t.val < 4 := t.isLt.trans_le (le_of_eq N_0)

theorem V_v0 (r : Fin 1) (l : Fin 8192) (j : Fin 1536) : ((V m c main_v0 : FVec Ideal S1x8192x1536 .bf16) (ix3 r l j) : EReal) = (V m c main_arg1 : FVec Ideal S8192x1536 .bf16) (ix2 l j) := by
  unfold_abbrev_sides
  after_reads_at

/-- The token of row `a` of the tile that point `t` reads. -/
def row (t : Fin cfg0.N) (a : Fin 2048) : Fin 8192 := ⟨t.val % 4 * 2048 + a.val, by omega⟩

/-- What point `t` adds to slot `q`. -/
def part (h : FVec Ideal S8192x1024 .bf16) (d : FVec Ideal S8192x1536 .bf16) (t : Fin cfg0.N) (q : Fin 4) (i : Fin 1024) (j : Fin 384) : EReal :=
  ∑ a : Fin 2048, (h (ix2 (row t a) i) : EReal) * (d (ix2 (row t a) ⟨t.val / 4 * 1536 + (q.val * 384 + j.val), by have := N4 t; omega⟩) : EReal)

abbrev term : Fin cfg0.N → Fin 4 → Fin 1024 → Fin 384 → EReal := part (V m c main_arg0) (V m c main_arg1)

section Point
variable (t : Fin cfg0.N)

theorem b0 (a : Fin 2048) (d : Fin 1024) : (iblk m c 0 t : FVec Ideal S2048x1024 .bf16) (ix2 a d) = (V m c main_arg0 : FVec Ideal S8192x1024 .bf16) (ix2 (row t a) d) := by
  blk_ext [iblk, row, idx t]
theorem b1 (a : Fin 2048) (k : Fin 1536) : (iblk m c 1 t : FVec Ideal S1x2048x1536 .bf16) (ix3 0 a k)
    = (V m c main_v0 : FVec Ideal S1x8192x1536 .bf16) (ix3 0 (row t a) ⟨t.val / 4 * 1536 + k.val, by have := N4 t; omega⟩) := by
  blk_ext [iblk, row, idx t]
theorem b1d (a : Fin 2048) (k : Fin 1536) : (iblk m c 1 t : FVec Ideal S1x2048x1536 .bf16) (ix3 0 a k)
    = (V m c main_arg1 : FVec Ideal S8192x1536 .bf16) (ix2 (row t a) ⟨t.val / 4 * 1536 + k.val, by have := N4 t; omega⟩) :=
  (b1 m c t a k).trans (V_v0 m c 0 _ _)

/-- The four slots after point `t`, from the accumulator `X` before it. -/
theorem slots (X : FVec Ideal S4x1024x384 .f32) (x0 x1 x2 x3 y0 y1 y2 y3) (q : Fin 4) (i : Fin 1024) (j : Fin 384) :
    ((![k0_pay5 (F := Ideal) (iblk m c 0 t) (View.ld X (Rect.unit (s := S4x1024x384) ![0, 0, 0] S1x1024x384.size x0)) (View.ld (iblk m c 1 t) (Rect.unit (s := S1x2048x1536) ![0, 0, 0] S1x2048x384.size y0)),
        k0_pay6 (F := Ideal) (iblk m c 0 t) (View.ld X (Rect.unit (s := S4x1024x384) ![1, 0, 0] S1x1024x384.size x1)) (View.ld (iblk m c 1 t) (Rect.unit (s := S1x2048x1536) ![0, 0, 384] S1x2048x384.size y1)),
        k0_pay1 (F := Ideal) (iblk m c 0 t) (k0_pay7 (F := Ideal) (View.ld X (Rect.unit (s := S4x1024x384) ![2, 0, 0] S1x1024x384.size x2))) (View.ld (iblk m c 1 t) (Rect.unit (s := S1x2048x1536) ![0, 0, 768] S1x2048x384.size y2)),
        k0_pay2 (F := Ideal) (iblk m c 0 t) (View.ld X (Rect.unit (s := S4x1024x384) ![3, 0, 0] S1x1024x384.size x3)) (View.ld (iblk m c 1 t) (Rect.unit (s := S1x2048x1536) ![0, 0, 1152] S1x2048x384.size y3))] q
        : FVec Ideal S1x1024x384 .f32) (ix3 0 i j) : EReal) = X (ix3 q i j) + term m c t q i j := by
  match q with
  | ⟨0, _⟩ => exact (slot0 _ _ _ i j).trans (add X (iblk m c 0 t) (iblk m c 1 t) _ _ (b0 m c t) (b1d m c t) 0 (by omega) x0 0 y0 i j (by omega))
  | ⟨1, _⟩ => exact (slot1 _ _ _ i j).trans (add X (iblk m c 0 t) (iblk m c 1 t) _ _ (b0 m c t) (b1d m c t) 1 (by omega) x1 384 y1 i j (by omega))
  | ⟨2, _⟩ => exact (slot2 _ _ _ i j).trans (add X (iblk m c 0 t) (iblk m c 1 t) _ _ (b0 m c t) (b1d m c t) 2 (by omega) x2 768 y2 i j (by omega))
  | ⟨3, _⟩ => exact (slot3 _ _ _ i j).trans (add X (iblk m c 0 t) (iblk m c 1 t) _ _ (b0 m c t) (b1d m c t) 3 (by omega) x3 1152 y3 i j (by omega))

theorem sc_A (h : t.val % 4 = 0) (q : Fin 4) (i : Fin 1024) (j : Fin 384) :
    ((outsAt0 m c t.val t.isLt).2 : FVec Ideal S4x1024x384 .f32) (ix3 q i j) = 0 + term m c t q i j := by
  rw [outsAt0_A m c t h (by omega)]; frame_open
  simp (disch := decide) only [↓ View.readCov_skip, ↓ View.readCov_cons_toLoadRect, ↓ View.readCov_fill]
  frame_out
  exact (four _ _ _ _ _ _ _ _ _ q i j).trans ((slots m c t _ _ _ _ _ _ _ _ _ q i j).trans (congrArg (· + _) (zero_at _)))

theorem sc_B (h : ¬ t.val % 4 = 0) (q : Fin 4) (i : Fin 1024) (j : Fin 384) :
    ((outsAt0 m c t.val t.isLt).2 : FVec Ideal S4x1024x384 .f32) (ix3 q i j)
      = ((outsAt0 m c (t.val - 1) (Nat.lt_of_le_of_lt (Nat.sub_le _ _) t.isLt)).2 : FVec Ideal S4x1024x384 .f32) (ix3 q i j) + term m c t q i j := by
  by_cases h1 : t.val % 4 = 3
  · rw [outsAt0_C m c t h h1]; frame_open
    simp (disch := decide) only [↓ View.readCov_skip, ↓ View.readCov_cons_toLoadRect, ↓ View.readCov_fill]
    frame_out
    exact (four _ _ _ _ _ _ _ _ _ q i j).trans ((slots m c t _ _ _ _ _ _ _ _ _ q i j).trans (congrArg (· + _) (congrFun (read_unread_whole cc0_scratch0 (Memref.isWhole_whole _) _) _)))
  · rw [outsAt0_B m c t h h1]; frame_open
    simp (disch := decide) only [↓ View.readCov_skip, ↓ View.readCov_cons_toLoadRect, ↓ View.readCov_fill]
    frame_out
    exact (four _ _ _ _ _ _ _ _ _ q i j).trans ((slots m c t _ _ _ _ _ _ _ _ _ q i j).trans (congrArg (· + _) (congrFun (read_unread_whole cc0_scratch0 (Memref.isWhole_whole _) _) _)))

theorem out_C (h : t.val % 4 = 3) (q : Fin 4) (i : Fin 1024) (j : Fin 384) :
    ((outsAt0 m c t.val t.isLt).1 : FVec Ideal S4x1024x384 .bf16) (ix3 q i j)
      = ((outsAt0 m c t.val t.isLt).2 : FVec Ideal S4x1024x384 .f32) (ix3 q i j) := by
  rw [outsAt0_C m c t (by omega) h]; frame_open
  simp (disch := decide) only [↓ View.readCov_skip, ↓ View.readCov_cons_toLoadRect, ↓ View.readCov_fill]
  frame_out
  exact (last_at _ _).trans (whole _ _ _ q i j)

end Point

/-- The four tiles of tokens are all the tokens. -/
theorem sum_rows (h : FVec Ideal S8192x1024 .bf16) (d : FVec Ideal S8192x1536 .bf16) (t : Fin cfg0.N) (ht : t.val % 4 = 3) (s : Fin 4) (i : Fin 1024) (j : Fin 384) (q : Fin 4)
    (hq : q.val = t.val / 4 * 4 + s.val) (hl : ∀ k : Fin 4, 4 * (t.val / 4) + k.val < cfg0.N) :
    ∑ k : Fin 4, part h d ⟨4 * (t.val / 4) + k.val, hl k⟩ s i j = dw h d q i j := by
  refine Fin.sum_mul_add_congr ?_ rfl
  intro k a hl
  have e1 : (4 * (t.val / 4) + k.val) % 4 = k.val := by omega
  have e2 : (4 * (t.val / 4) + k.val) / 4 * 1536 + (s.val * 384 + j.val) = q.val * 384 + j.val := by omega
  simp only [row, e1, e2]

theorem arr2 : (dats m 0 c).arrAt 2 cfg0.N = fun i : S4x1024x384.Idx => dw (V m c main_arg0) (V m c main_arg1) (i 0) (i 1) (i 2) := by
  refine (dats m 0 c).arrAt_eq_of_covers 2 _ (by decide +kernel) fun t hf y => ?_
  blk_simp
  rw [after0_2]
  have hm : t.val % 4 = 3 := (flush0_2 t).mp hf
  have ht := N4 t
  have hy : (y 0).val < 4 := (y 0).isLt
  have e : ∀ f : S4x1024x384.Idx → EReal, f ((win0_2.blk t).view.emb y) = f (ix3 (⟨t.val / 4 * 4 + (y 0).val, by omega⟩ : Fin 4) (y 1) (y 2)) := by
    intro f; blk_ext [idx t]
  refine Eq.trans ?_ (e fun i => dw (V m c main_arg0) (V m c main_arg1) (i 0) (i 1) (i 2)).symm
  refine (congrArg _ (eq_ix3 y)).trans ((out_C m c t hm _ _ _).trans ?_)
  rw [Pipeline.eq_sum_fin_of_reset_step_apply_of_flush (fun n h => (outsAt0 m c n h).2) 4 (fun _ => 0)
    (fun t i => term m c t (i 0) (i 1) (i 2))
    (fun t h i => (congrArg _ (eq_ix3 i)).trans (sc_A m c t h (i 0) (i 1) (i 2))) (fun t h i => by
      rw [eq_ix3 i]; exact sc_B m c t h (i 0) (i 1) (i 2)) t hm, zero_add]
  exact sum_rows (V m c main_arg0) (V m c main_arg1) t hm (y 0) (y 1) (y 2) ⟨t.val / 4 * 4 + (y 0).val, by omega⟩ rfl _

end Cert.Kernel8Ideal.Tile
-- ==== Proof.WgradO.lean ====
module

public import proofs.«01_k».proof.Proof.Gen.Kernel9Ideal.Value
public import proofs.«01_k».proof.Proof.Slots
public import Idealize.ShloMosaic.Lib.Pipeline.ValueKit
public import Idealize.ShloMosaic.Lib.Pipeline.ReadBack
public import Idealize.ShloMosaic.PureOps.Ideal.Laws
public import Idealize.ShloMosaic.Lib.StableHlo.ReadAt

@[expose] public section

set_option maxRecDepth 16384

noncomputable section

namespace Cert.Kernel9Ideal.Tile

open Cert.Kernel9Ideal Cert.Kernel9Ideal.Gen Idealize.ShloMosaic Idealize.ShloMosaic.TcCoe Idealize.SL.Sem
open Cert.Slots

/-! The gradient of the weights behind the attention: four column blocks at once, summed over the tokens tile by tile. -/

theorem zero_at (i) : k0_pay4 (F := Ideal) i = 0 := by pointwise [k0_pay4]

theorem slot0 (h : FVec Ideal S2048x512 .f32) (acc : FVec Ideal S1x512x256 .f32) (b : FVec Ideal S1x2048x256 .bf16) (i : Fin 512) (j : Fin 256) :
    (k0_pay6 (F := Ideal) h acc b (ix3 0 i j) : EReal) = acc (ix3 0 i j) + ∑ a : Fin 2048, (h (ix2 a i) : EReal) * (b (ix3 0 a j) : EReal) := by
  pointwise [k0_pay6, k0_pay5]

theorem slot1 (h : FVec Ideal S2048x512 .f32) (acc : FVec Ideal S1x512x256 .f32) (b : FVec Ideal S1x2048x256 .bf16) (i : Fin 512) (j : Fin 256) :
    (k0_pay7 (F := Ideal) h acc b (ix3 0 i j) : EReal) = acc (ix3 0 i j) + ∑ a : Fin 2048, (h (ix2 a i) : EReal) * (b (ix3 0 a j) : EReal) := by
  pointwise [k0_pay7, k0_pay5]

theorem slot2 (h : FVec Ideal S2048x512 .f32) (acc : FVec Ideal S1x512x256 .f32) (b : FVec Ideal S1x2048x256 .bf16) (i : Fin 512) (j : Fin 256) :
    (k0_pay1 (F := Ideal) (k0_pay5 (F := Ideal) h) (k0_pay8 (F := Ideal) acc) b (ix3 0 i j) : EReal) = acc (ix3 0 i j) + ∑ a : Fin 2048, (h (ix2 a i) : EReal) * (b (ix3 0 a j) : EReal) := by
  pointwise [k0_pay1, k0_pay5, k0_pay8]

theorem slot3 (h : FVec Ideal S2048x512 .f32) (acc : FVec Ideal S1x512x256 .f32) (b : FVec Ideal S1x2048x256 .bf16) (i : Fin 512) (j : Fin 256) :
    (k0_pay2 (F := Ideal) (k0_pay5 (F := Ideal) h) acc b (ix3 0 i j) : EReal) = acc (ix3 0 i j) + ∑ a : Fin 2048, (h (ix2 a i) : EReal) * (b (ix3 0 a j) : EReal) := by
  pointwise [k0_pay2, k0_pay5]

theorem last_at (acc : FVec Ideal S4x512x256 .f32) (i) : (k0_pay3 (F := Ideal) acc i : EReal) = acc i := by
  pointwise [k0_pay3]

/-- The result: for column block `q`, `∑ token, h token i · d token (column of q)`. -/
def dw (h : FVec Ideal S8192x512 .f32) (d : FVec Ideal S8192x1024 .bf16) (q : Fin 4) (i : Fin 512) (j : Fin 256) : EReal :=
  ∑ l : Fin 8192, (h (ix2 l i) : EReal) * (d (ix2 l ⟨q.val * 256 + j.val, by omega⟩) : EReal)

variable (m : (ℓ : Loc nD τ sig) → Buf (Elt Ideal) ℓ) (c : Dev nD)

theorem idx : ∀ t : Fin cfg0.N, win0_0.index t = ![t.val % 4, 0] ∧ win0_1.index t = ![0, t.val % 4, t.val / 4]
    ∧ win0_2.index t = ![t.val / 4, 0, 0] :=
  (by decide +kernel : ∀ t : Fin grid0.N, _)

theorem N4 (t : Fin cfg0.N) : t.val < 4 := t.isLt.trans_le (le_of_eq N_0)

theorem V_v0 (r : Fin 1) (l : Fin 8192) (j : Fin 1024) : ((V m c main_v0 : FVec Ideal S1x8192x1024 .bf16) (ix3 r l j) : EReal) = (V m c main_arg1 : FVec Ideal S8192x1024 .bf16) (ix2 l j) := by
  unfold_abbrev_sides
  after_reads_at

/-- The token of row `a` of the tile that point `t` reads. -/
def row (t : Fin cfg0.N) (a : Fin 2048) : Fin 8192 := ⟨t.val % 4 * 2048 + a.val, by omega⟩

/-- What point `t` adds to slot `q`. -/
def part (h : FVec Ideal S8192x512 .f32) (d : FVec Ideal S8192x1024 .bf16) (t : Fin cfg0.N) (q : Fin 4) (i : Fin 512) (j : Fin 256) : EReal :=
  ∑ a : Fin 2048, (h (ix2 (row t a) i) : EReal) * (d (ix2 (row t a) ⟨t.val / 4 * 1024 + (q.val * 256 + j.val), by have := N4 t; omega⟩) : EReal)

abbrev term : Fin cfg0.N → Fin 4 → Fin 512 → Fin 256 → EReal := part (V m c main_arg0) (V m c main_arg1)

section Point
variable (t : Fin cfg0.N)

theorem b0 (a : Fin 2048) (d : Fin 512) : (iblk m c 0 t : FVec Ideal S2048x512 .f32) (ix2 a d) = (V m c main_arg0 : FVec Ideal S8192x512 .f32) (ix2 (row t a) d) := by
  blk_ext [iblk, row, idx t]
theorem b1 (a : Fin 2048) (k : Fin 1024) : (iblk m c 1 t : FVec Ideal S1x2048x1024 .bf16) (ix3 0 a k)
    = (V m c main_v0 : FVec Ideal S1x8192x1024 .bf16) (ix3 0 (row t a) ⟨t.val / 4 * 1024 + k.val, by have := N4 t; omega⟩) := by
  blk_ext [iblk, row, idx t]
theorem b1d (a : Fin 2048) (k : Fin 1024) : (iblk m c 1 t : FVec Ideal S1x2048x1024 .bf16) (ix3 0 a k)
    = (V m c main_arg1 : FVec Ideal S8192x1024 .bf16) (ix2 (row t a) ⟨t.val / 4 * 1024 + k.val, by have := N4 t; omega⟩) :=
  (b1 m c t a k).trans (V_v0 m c 0 _ _)

/-- The four slots after point `t`, from the accumulator `X` before it. -/
theorem slots (X : FVec Ideal S4x512x256 .f32) (x0 x1 x2 x3 y0 y1 y2 y3) (q : Fin 4) (i : Fin 512) (j : Fin 256) :
    ((![k0_pay6 (F := Ideal) (iblk m c 0 t) (View.ld X (Rect.unit (s := S4x512x256) ![0, 0, 0] S1x512x256.size x0)) (View.ld (iblk m c 1 t) (Rect.unit (s := S1x2048x1024) ![0, 0, 0] S1x2048x256.size y0)),
        k0_pay7 (F := Ideal) (iblk m c 0 t) (View.ld X (Rect.unit (s := S4x512x256) ![1, 0, 0] S1x512x256.size x1)) (View.ld (iblk m c 1 t) (Rect.unit (s := S1x2048x1024) ![0, 0, 256] S1x2048x256.size y1)),
        k0_pay1 (F := Ideal) (k0_pay5 (F := Ideal) (iblk m c 0 t)) (k0_pay8 (F := Ideal) (View.ld X (Rect.unit (s := S4x512x256) ![2, 0, 0] S1x512x256.size x2))) (View.ld (iblk m c 1 t) (Rect.unit (s := S1x2048x1024) ![0, 0, 512] S1x2048x256.size y2)),
        k0_pay2 (F := Ideal) (k0_pay5 (F := Ideal) (iblk m c 0 t)) (View.ld X (Rect.unit (s := S4x512x256) ![3, 0, 0] S1x512x256.size x3)) (View.ld (iblk m c 1 t) (Rect.unit (s := S1x2048x1024) ![0, 0, 768] S1x2048x256.size y3))] q
        : FVec Ideal S1x512x256 .f32) (ix3 0 i j) : EReal) = X (ix3 q i j) + term m c t q i j := by
  match q with
  | ⟨0, _⟩ => exact (slot0 _ _ _ i j).trans (add X (iblk m c 0 t) (iblk m c 1 t) _ _ (b0 m c t) (b1d m c t) 0 (by omega) x0 0 y0 i j (by omega))
  | ⟨1, _⟩ => exact (slot1 _ _ _ i j).trans (add X (iblk m c 0 t) (iblk m c 1 t) _ _ (b0 m c t) (b1d m c t) 1 (by omega) x1 256 y1 i j (by omega))
  | ⟨2, _⟩ => exact (slot2 _ _ _ i j).trans (add X (iblk m c 0 t) (iblk m c 1 t) _ _ (b0 m c t) (b1d m c t) 2 (by omega) x2 512 y2 i j (by omega))
  | ⟨3, _⟩ => exact (slot3 _ _ _ i j).trans (add X (iblk m c 0 t) (iblk m c 1 t) _ _ (b0 m c t) (b1d m c t) 3 (by omega) x3 768 y3 i j (by omega))

theorem sc_A (h : t.val % 4 = 0) (q : Fin 4) (i : Fin 512) (j : Fin 256) :
    ((outsAt0 m c t.val t.isLt).2 : FVec Ideal S4x512x256 .f32) (ix3 q i j) = 0 + term m c t q i j := by
  rw [outsAt0_A m c t h (by omega)]; frame_open
  simp (disch := decide) only [↓ View.readCov_skip, ↓ View.readCov_cons_toLoadRect, ↓ View.readCov_fill]
  frame_out
  exact (four _ _ _ _ _ _ _ _ _ q i j).trans ((slots m c t _ _ _ _ _ _ _ _ _ q i j).trans (congrArg (· + _) (zero_at _)))

theorem sc_B (h : ¬ t.val % 4 = 0) (q : Fin 4) (i : Fin 512) (j : Fin 256) :
    ((outsAt0 m c t.val t.isLt).2 : FVec Ideal S4x512x256 .f32) (ix3 q i j)
      = ((outsAt0 m c (t.val - 1) (Nat.lt_of_le_of_lt (Nat.sub_le _ _) t.isLt)).2 : FVec Ideal S4x512x256 .f32) (ix3 q i j) + term m c t q i j := by
  by_cases h1 : t.val % 4 = 3
  · rw [outsAt0_C m c t h h1]; frame_open
    simp (disch := decide) only [↓ View.readCov_skip, ↓ View.readCov_cons_toLoadRect, ↓ View.readCov_fill]
    frame_out
    exact (four _ _ _ _ _ _ _ _ _ q i j).trans ((slots m c t _ _ _ _ _ _ _ _ _ q i j).trans (congrArg (· + _) (congrFun (read_unread_whole cc0_scratch0 (Memref.isWhole_whole _) _) _)))
  · rw [outsAt0_B m c t h h1]; frame_open
    simp (disch := decide) only [↓ View.readCov_skip, ↓ View.readCov_cons_toLoadRect, ↓ View.readCov_fill]
    frame_out
    exact (four _ _ _ _ _ _ _ _ _ q i j).trans ((slots m c t _ _ _ _ _ _ _ _ _ q i j).trans (congrArg (· + _) (congrFun (read_unread_whole cc0_scratch0 (Memref.isWhole_whole _) _) _)))

theorem out_C (h : t.val % 4 = 3) (q : Fin 4) (i : Fin 512) (j : Fin 256) :
    ((outsAt0 m c t.val t.isLt).1 : FVec Ideal S4x512x256 .bf16) (ix3 q i j)
      = ((outsAt0 m c t.val t.isLt).2 : FVec Ideal S4x512x256 .f32) (ix3 q i j) := by
  rw [outsAt0_C m c t (by omega) h]; frame_open
  simp (disch := decide) only [↓ View.readCov_skip, ↓ View.readCov_cons_toLoadRect, ↓ View.readCov_fill]
  frame_out
  exact (last_at _ _).trans (whole _ _ _ q i j)

end Point

/-- The four tiles of tokens are all the tokens. -/
theorem sum_rows (h : FVec Ideal S8192x512 .f32) (d : FVec Ideal S8192x1024 .bf16) (t : Fin cfg0.N) (ht : t.val % 4 = 3) (s : Fin 4) (i : Fin 512) (j : Fin 256) (q : Fin 4)
    (hq : q.val = t.val / 4 * 4 + s.val) (hl : ∀ k : Fin 4, 4 * (t.val / 4) + k.val < cfg0.N) :
    ∑ k : Fin 4, part h d ⟨4 * (t.val / 4) + k.val, hl k⟩ s i j = dw h d q i j := by
  refine Fin.sum_mul_add_congr ?_ rfl
  intro k a hl
  have e1 : (4 * (t.val / 4) + k.val) % 4 = k.val := by omega
  have e2 : (4 * (t.val / 4) + k.val) / 4 * 1024 + (s.val * 256 + j.val) = q.val * 256 + j.val := by omega
  simp only [row, e1, e2]

theorem arr2 : (dats m 0 c).arrAt 2 cfg0.N = fun i : S4x512x256.Idx => dw (V m c main_arg0) (V m c main_arg1) (i 0) (i 1) (i 2) := by
  refine (dats m 0 c).arrAt_eq_of_covers 2 _ (by decide +kernel) fun t hf y => ?_
  blk_simp
  rw [after0_2]
  have hm : t.val % 4 = 3 := (flush0_2 t).mp hf
  have ht := N4 t
  have hy : (y 0).val < 4 := (y 0).isLt
  have e : ∀ f : S4x512x256.Idx → EReal, f ((win0_2.blk t).view.emb y) = f (ix3 (⟨t.val / 4 * 4 + (y 0).val, by omega⟩ : Fin 4) (y 1) (y 2)) := by
    intro f; blk_ext [idx t]
  refine Eq.trans ?_ (e fun i => dw (V m c main_arg0) (V m c main_arg1) (i 0) (i 1) (i 2)).symm
  refine (congrArg _ (eq_ix3 y)).trans ((out_C m c t hm _ _ _).trans ?_)
  rw [Pipeline.eq_sum_fin_of_reset_step_apply_of_flush (fun n h => (outsAt0 m c n h).2) 4 (fun _ => 0)
    (fun t i => term m c t (i 0) (i 1) (i 2))
    (fun t h i => (congrArg _ (eq_ix3 i)).trans (sc_A m c t h (i 0) (i 1) (i 2))) (fun t h i => by
      rw [eq_ix3 i]; exact sc_B m c t h (i 0) (i 1) (i 2)) t hm, zero_add]
  exact sum_rows (V m c main_arg0) (V m c main_arg1) t hm (y 0) (y 1) (y 2) ⟨t.val / 4 * 4 + (y 0).val, by omega⟩ rfl _

end Cert.Kernel9Ideal.Tile
-- ==== Proof.ColRef.lean ====
module

public import proofs.«01_k».proof.Proof.WgradCol
public import proofs.«01_k».proof.Proof.WgradSq
public import proofs.«01_k».proof.Proof.WgradQ
public import proofs.«01_k».proof.Proof.WgradO
public import proofs.«01_k».proof.Proof.Gen.Reference6Ideal.Read
public import proofs.«01_k».proof.Proof.Gen.Reference7Ideal.Read
public import proofs.«01_k».proof.Proof.Gen.Reference8Ideal.Read
public import proofs.«01_k».proof.Proof.Gen.Reference9Ideal.Read

@[expose] public section

set_option maxRecDepth 16384

noncomputable section

namespace Cert.Reference6Ideal.Wgrad

open Cert.Reference6Ideal Cert.Reference6Ideal.Gen Idealize.ShloMosaic Idealize.ShloMosaic.TcCoe Idealize.SL.Sem
open Cert.Reference6Ideal.Read

/-- The reference's gradient of the convolution layer's first weights, which is also that of the weights of keys and values. -/
theorem dw_eq (h : FVec Ideal S8192x1024 .bf16) (d : FVec Ideal S8192x3072 .bf16) (q : Fin 4) (i : Fin 1024) (j : Fin 768) :
    (val_main_v8 (F := Ideal) h d (ix3 q i j) : EReal) = Cert.Kernel6Ideal.Tile.dw h d q i j := by
  pointwise [val_main_v8, val_main_v7, val_main_v6, val_main_v5, val_main_v4, val_main_v3, val_main_v1, Cert.Kernel6Ideal.Tile.dw]
  exact Finset.sum_congr rfl fun l _ => mul_comm _ _

end Cert.Reference6Ideal.Wgrad

namespace Cert.Reference7Ideal.Wgrad

open Cert.Reference7Ideal Cert.Reference7Ideal.Gen Idealize.ShloMosaic Idealize.ShloMosaic.TcCoe Idealize.SL.Sem
open Cert.Reference7Ideal.Read

/-- The reference's gradient of the weights behind the convolution. -/
theorem dw_eq (h : FVec Ideal S8192x1024 .bf16) (d : FVec Ideal S8192x1024 .bf16) (q : Fin 1) (i : Fin 1024) (j : Fin 1024) :
    (val_main_v7 (F := Ideal) h d (ix3 q i j) : EReal) = Cert.Kernel7Ideal.Tile.dw h d i j := by
  pointwise [val_main_v7, val_main_v6, val_main_v5, val_main_v4, val_main_v3, val_main_v1, Cert.Kernel7Ideal.Tile.dw]
  exact Finset.sum_congr rfl fun l _ => mul_comm _ _

end Cert.Reference7Ideal.Wgrad

namespace Cert.Reference8Ideal.Wgrad

open Cert.Reference8Ideal Cert.Reference8Ideal.Gen Idealize.ShloMosaic Idealize.ShloMosaic.TcCoe Idealize.SL.Sem
open Cert.Reference8Ideal.Read

/-- The reference's gradient of the weights of the queries. -/
theorem dw_eq (h : FVec Ideal S8192x1024 .bf16) (d : FVec Ideal S8192x1536 .bf16) (q : Fin 4) (i : Fin 1024) (j : Fin 384) :
    (val_main_v8 (F := Ideal) h d (ix3 q i j) : EReal) = Cert.Kernel8Ideal.Tile.dw h d q i j := by
  pointwise [val_main_v8, val_main_v7, val_main_v6, val_main_v5, val_main_v4, val_main_v3, val_main_v1, Cert.Kernel8Ideal.Tile.dw]
  exact Finset.sum_congr rfl fun l _ => mul_comm _ _

end Cert.Reference8Ideal.Wgrad

namespace Cert.Reference9Ideal.Wgrad

open Cert.Reference9Ideal Cert.Reference9Ideal.Gen Idealize.ShloMosaic Idealize.ShloMosaic.TcCoe Idealize.SL.Sem
open Cert.Reference9Ideal.Read

/-- The reference's gradient of the weights behind the attention. -/
theorem dw_eq (h : FVec Ideal S8192x512 .f32) (d : FVec Ideal S8192x1024 .bf16) (q : Fin 4) (i : Fin 512) (j : Fin 256) :
    (val_main_v7 (F := Ideal) h d (ix3 q i j) : EReal) = Cert.Kernel9Ideal.Tile.dw h d q i j := by
  pointwise [val_main_v7, val_main_v6, val_main_v5, val_main_v4, val_main_v3, val_main_v2, Cert.Kernel9Ideal.Tile.dw]
  exact Finset.sum_congr rfl fun l _ => mul_comm _ _

end Cert.Reference9Ideal.Wgrad
-- ==== Proof.ColAlg.lean ====
module

public import proofs.«01_k».proof.Defs
public import proofs.«01_k».proof.Proof.ColRef
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Read
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Read
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Read
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Read
public import proofs.«01_k».proof.Proof.Gen.Reference9Ideal.Run

@[expose] public section

set_option maxRecDepth 16384

noncomputable section

/-! Four more weight-gradient products: frames, and the kernel's result is the reference's. -/

namespace Cert.Proof

open Idealize.ShloMosaic Idealize.ShloMosaic.TcCoe Idealize.SL.Sem

theorem frame_k6 : Cert.quiescent_Kernel6 := fun m ρ _ => Cert.Kernel6.Gen.frame m ρ
theorem frame_i6 : Cert.quiescent_Kernel6Ideal := fun m ρ _ => Cert.Kernel6Ideal.Gen.frame m ρ
theorem frame_r6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The result as one array over the two arguments. -/
def res6 (a : FVec Ideal Cert.Kernel6Ideal.S8192x1024 .bf16) (b : FVec Ideal Cert.Kernel6Ideal.S8192x3072 .bf16) : Cert.Kernel6Ideal.S4x1024x768.Idx → EReal := fun i => Cert.Kernel6Ideal.Tile.dw a b (i 0) (i 1) (i 2)

theorem ref6 (a : FVec Ideal Cert.Kernel6Ideal.S8192x1024 .bf16) (b : FVec Ideal Cert.Kernel6Ideal.S8192x3072 .bf16) : Cert.Reference6Ideal.Read.val_main_v8 (F := Ideal) a b = res6 a b :=
  funext fun i => (congrArg _ (eq_ix3 i)).trans (Cert.Reference6Ideal.Wgrad.dw_eq a b (i 0) (i 1) (i 2))

theorem algebraic6 : Cert.algebraic_Kernel6Ideal_Reference6Ideal := by
  intro m ρ m' ρ' _ hag
  refine ⟨fun c => res6 (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)), ?_, ?_⟩
  · refine (θ_run Cert.Kernel6Ideal.defs _ _).mono (fun r h c => ?_) (Cert.Kernel6Ideal.Value.run_blocks (F := Ideal) m ρ)
    obtain ⟨h0, hk⟩ := h c
    exact ⟨h0.trans (Cert.Kernel6Ideal.Tile.arr2 m c), hk⟩
  · refine (θ_run Cert.Reference6Ideal.defs _ _).mono (fun r h c => ?_) (Cert.Reference6Ideal.Value.run (F := Ideal) m' ρ')
    obtain ⟨h0, hk⟩ := h c
    obtain ⟨a0, a1⟩ := hag c
    have e : res6 (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) = res6 (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) := by
      rw [a0, a1]
    exact ⟨h0.trans ((Cert.Reference6Ideal.Read.val_main_v8_eq _ _).trans ((ref6 _ _).trans e)), hk⟩

theorem frame_k7 : Cert.quiescent_Kernel7 := fun m ρ _ => Cert.Kernel7.Gen.frame m ρ
theorem frame_i7 : Cert.quiescent_Kernel7Ideal := fun m ρ _ => Cert.Kernel7Ideal.Gen.frame m ρ
theorem frame_r7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The result as one array over the two arguments. -/
def res7 (a : FVec Ideal Cert.Kernel7Ideal.S8192x1024 .bf16) (b : FVec Ideal Cert.Kernel7Ideal.S8192x1024 .bf16) : Cert.Kernel7Ideal.S1x1024x1024.Idx → EReal := fun i => Cert.Kernel7Ideal.Tile.dw a b (i 1) (i 2)

theorem ref7 (a : FVec Ideal Cert.Kernel7Ideal.S8192x1024 .bf16) (b : FVec Ideal Cert.Kernel7Ideal.S8192x1024 .bf16) : Cert.Reference7Ideal.Read.val_main_v7 (F := Ideal) a b = res7 a b :=
  funext fun i => (congrArg _ (eq_ix3 i)).trans (Cert.Reference7Ideal.Wgrad.dw_eq a b (i 0) (i 1) (i 2))

theorem algebraic7 : Cert.algebraic_Kernel7Ideal_Reference7Ideal := by
  intro m ρ m' ρ' _ hag
  refine ⟨fun c => res7 (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)), ?_, ?_⟩
  · refine (θ_run Cert.Kernel7Ideal.defs _ _).mono (fun r h c => ?_) (Cert.Kernel7Ideal.Value.run_blocks (F := Ideal) m ρ)
    obtain ⟨h0, hk⟩ := h c
    exact ⟨h0.trans (Cert.Kernel7Ideal.Tile.arr2 m c), hk⟩
  · refine (θ_run Cert.Reference7Ideal.defs _ _).mono (fun r h c => ?_) (Cert.Reference7Ideal.Value.run (F := Ideal) m' ρ')
    obtain ⟨h0, hk⟩ := h c
    obtain ⟨a0, a1⟩ := hag c
    have e : res7 (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) = res7 (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) := by
      rw [a0, a1]
    exact ⟨h0.trans ((Cert.Reference7Ideal.Read.val_main_v7_eq _ _).trans ((ref7 _ _).trans e)), hk⟩

theorem frame_k8 : Cert.quiescent_Kernel8 := fun m ρ _ => Cert.Kernel8.Gen.frame m ρ
theorem frame_i8 : Cert.quiescent_Kernel8Ideal := fun m ρ _ => Cert.Kernel8Ideal.Gen.frame m ρ
theorem frame_r8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The result as one array over the two arguments. -/
def res8 (a : FVec Ideal Cert.Kernel8Ideal.S8192x1024 .bf16) (b : FVec Ideal Cert.Kernel8Ideal.S8192x1536 .bf16) : Cert.Kernel8Ideal.S4x1024x384.Idx → EReal := fun i => Cert.Kernel8Ideal.Tile.dw a b (i 0) (i 1) (i 2)

theorem ref8 (a : FVec Ideal Cert.Kernel8Ideal.S8192x1024 .bf16) (b : FVec Ideal Cert.Kernel8Ideal.S8192x1536 .bf16) : Cert.Reference8Ideal.Read.val_main_v8 (F := Ideal) a b = res8 a b :=
  funext fun i => (congrArg _ (eq_ix3 i)).trans (Cert.Reference8Ideal.Wgrad.dw_eq a b (i 0) (i 1) (i 2))

theorem algebraic8 : Cert.algebraic_Kernel8Ideal_Reference8Ideal := by
  intro m ρ m' ρ' _ hag
  refine ⟨fun c => res8 (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)), ?_, ?_⟩
  · refine (θ_run Cert.Kernel8Ideal.defs _ _).mono (fun r h c => ?_) (Cert.Kernel8Ideal.Value.run_blocks (F := Ideal) m ρ)
    obtain ⟨h0, hk⟩ := h c
    exact ⟨h0.trans (Cert.Kernel8Ideal.Tile.arr2 m c), hk⟩
  · refine (θ_run Cert.Reference8Ideal.defs _ _).mono (fun r h c => ?_) (Cert.Reference8Ideal.Value.run (F := Ideal) m' ρ')
    obtain ⟨h0, hk⟩ := h c
    obtain ⟨a0, a1⟩ := hag c
    have e : res8 (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) = res8 (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) := by
      rw [a0, a1]
    exact ⟨h0.trans ((Cert.Reference8Ideal.Read.val_main_v8_eq _ _).trans ((ref8 _ _).trans e)), hk⟩

theorem frame_k9 : Cert.quiescent_Kernel9 := fun m ρ _ => Cert.Kernel9.Gen.frame m ρ
theorem frame_i9 : Cert.quiescent_Kernel9Ideal := fun m ρ _ => Cert.Kernel9Ideal.Gen.frame m ρ
theorem frame_r9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The result as one array over the two arguments. -/
def res9 (a : FVec Ideal Cert.Kernel9Ideal.S8192x512 .f32) (b : FVec Ideal Cert.Kernel9Ideal.S8192x1024 .bf16) : Cert.Kernel9Ideal.S4x512x256.Idx → EReal := fun i => Cert.Kernel9Ideal.Tile.dw a b (i 0) (i 1) (i 2)

theorem ref9 (a : FVec Ideal Cert.Kernel9Ideal.S8192x512 .f32) (b : FVec Ideal Cert.Kernel9Ideal.S8192x1024 .bf16) : Cert.Reference9Ideal.Read.val_main_v7 (F := Ideal) a b = res9 a b :=
  funext fun i => (congrArg _ (eq_ix3 i)).trans (Cert.Reference9Ideal.Wgrad.dw_eq a b (i 0) (i 1) (i 2))

theorem algebraic9 : Cert.algebraic_Kernel9Ideal_Reference9Ideal := by
  intro m ρ m' ρ' _ hag
  refine ⟨fun c => res9 (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)), ?_, ?_⟩
  · refine (θ_run Cert.Kernel9Ideal.defs _ _).mono (fun r h c => ?_) (Cert.Kernel9Ideal.Value.run_blocks (F := Ideal) m ρ)
    obtain ⟨h0, hk⟩ := h c
    exact ⟨h0.trans (Cert.Kernel9Ideal.Tile.arr2 m c), hk⟩
  · refine (θ_run Cert.Reference9Ideal.defs _ _).mono (fun r h c => ?_) (Cert.Reference9Ideal.Value.run (F := Ideal) m' ρ')
    obtain ⟨h0, hk⟩ := h c
    obtain ⟨a0, a1⟩ := hag c
    have e : res9 (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) = res9 (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) := by
      rw [a0, a1]
    exact ⟨h0.trans ((Cert.Reference9Ideal.Read.val_main_v7_eq _ _).trans ((ref9 _ _).trans e)), hk⟩

end Cert.Proof
-- ==== Proof.CfSpec.lean ====
module

public import proofs.«01_k».proof.Proof.Arr

@[expose] public section

set_option maxRecDepth 16384

noncomputable section

namespace Cert.CfSpec

open Idealize.ShloMosaic Cert.KernelIdeal.Pay

/-- The operands of a convolution layer on one device, over the extended reals. -/
structure In where
  x : Fin 8192 → Fin 1024 → EReal
  g : Fin 1024 → EReal
  sc : Fin 1024 → EReal
  sh : Fin 1024 → EReal
  gt : Fin 1024 → EReal
  wi : Fin 1024 → Fin 3072 → EReal
  cw : Fin 3 → Fin 1024 → EReal
  wo : Fin 1024 → Fin 1024 → EReal

/-- Row `t - n`, zero before the start. -/
def behind (f : Fin 8192 → Fin 1024 → EReal) (n : ℕ) (t : Fin 8192) (k : Fin 1024) : EReal :=
  if n ≤ t.val then f ⟨t.val - n, by omega⟩ k else 0

namespace In
variable (I : In)

/-- The normed and modulated tokens. -/
def hn (t : Fin 8192) (d : Fin 1024) : EReal := I.x t d * rstd (I.x t) * I.g d * (1 + I.sc d) + I.sh d
/-- The first product and its three parts. -/
def bcu (t : Fin 8192) (j : Fin 3072) : EReal := ∑ d : Fin 1024, I.hn t d * I.wi d j
def b (t : Fin 8192) (k : Fin 1024) : EReal := I.bcu t ⟨k.val, by omega⟩
def cg (t : Fin 8192) (k : Fin 1024) : EReal := I.bcu t ⟨1024 + k.val, by omega⟩
def u (t : Fin 8192) (k : Fin 1024) : EReal := I.bcu t ⟨2048 + k.val, by omega⟩
def v (t : Fin 8192) (k : Fin 1024) : EReal := I.cg t k * I.u t k
/-- The convolution over the last three tokens. -/
def conv (t : Fin 8192) (k : Fin 1024) : EReal := I.cw 0 k * behind I.v 2 t k + I.cw 1 k * behind I.v 1 t k + I.cw 2 k * I.v t k
def z (t : Fin 8192) (k : Fin 1024) : EReal := I.b t k * I.conv t k
/-- The second product. -/
def y (t : Fin 8192) (d : Fin 1024) : EReal := ∑ k : Fin 1024, I.z t k * I.wo k d
/-- The layer's output. -/
def xo (t : Fin 8192) (d : Fin 1024) : EReal := I.x t d + (1 + I.gt d) * I.y t d
/-- The gates, the input of the convolution and the convolution, one on the other. -/
def s4 (q : Fin 4) (t : Fin 8192) (k : Fin 1024) : EReal := (![I.b, I.cg, I.u, I.conv] q) t k

end In

/-- The operands of the layer as functions of its arguments. -/
def ofArgs (x : FVec Ideal ⟨2, ![8192, 1024]⟩ .f32) (g sh sc gt : FVec Ideal ⟨1, ![1024]⟩ .f32) (wi : FVec Ideal ⟨2, ![1024, 3072]⟩ .f32)
    (cw : FVec Ideal ⟨2, ![3, 1024]⟩ .f32) (wo : FVec Ideal ⟨2, ![1024, 1024]⟩ .f32) : In where
  x t d := x (ix2 t d)
  g d := g (ix1 d)
  sc d := sc (ix1 d)
  sh d := sh (ix1 d)
  gt d := gt (ix1 d)
  wi d j := wi (ix2 d j)
  cw r d := cw (ix2 r d)
  wo k d := wo (ix2 k d)

end Cert.CfSpec
-- ==== Proof.CfTile.lean ====
module

public import proofs.«01_k».proof.Proof.CfSpec
public import proofs.«01_k».proof.Proof.Slots
public import proofs.«01_k».proof.Proof.Gen.Kernel10Ideal.Value
public import Idealize.ShloMosaic.Lib.StableHlo.ReadAt
public import Idealize.ShloMosaic.Lib.WritesUnit

@[expose] public section

set_option maxRecDepth 16384

noncomputable section

namespace Cert.Kernel10Ideal.Tile

open Cert.Kernel10Ideal Cert.Kernel10Ideal.Gen Idealize.ShloMosaic Idealize.ShloMosaic.TcCoe Idealize.SL.Sem
open Cert.CfSpec Cert.KernelIdeal.Pay Cert.Slots

/-! The forward call of a convolution layer, one tile of tokens. -/

theorem pay1_at (i) : k0_pay1 (F := Ideal) i = 0 := by pointwise [k0_pay1]

theorem pay2_at (x : FVec Ideal S512x1024 .f32) (v : FVec Ideal S8x1024 .f32) (a : Fin 512) (d : Fin 1024) :
    (k0_pay2 (F := Ideal) x v (ix2 a d) : EReal)
      = x (ix2 a d) * rstd (fun d => x (ix2 a d)) * v (ix2 0 d) * (1 + v (ix2 1 d)) + v (ix2 2 d) := by
  unfold rstd
  pointwise [k0_pay2]

theorem pay3_at (x : FVec Ideal S512x1024 .f32) (v : FVec Ideal S8x1024 .f32) (w : FVec Ideal S1x1024x768 .bf16) (a : Fin 512) (j : Fin 768) :
    (k0_pay3 (F := Ideal) x v w (ix2 a j) : EReal) = ∑ d : Fin 1024, (k0_pay2 (F := Ideal) x v (ix2 a d) : EReal) * (w (ix3 0 d j) : EReal) := by
  rw [k0_pay3]
  generalize k0_pay2 (F := Ideal) x v = h
  pointwise []

theorem pay4_at (x : FVec Ideal S512x1024 .f32) (v : FVec Ideal S8x1024 .f32) (w : FVec Ideal S1x1024x768 .bf16) (a : Fin 512) (j : Fin 768) :
    (k0_pay4 (F := Ideal) x v w (ix2 a j) : EReal) = ∑ d : Fin 1024, (k0_pay2 (F := Ideal) x v (ix2 a d) : EReal) * (w (ix3 0 d j) : EReal) := by
  rw [k0_pay4]
  generalize k0_pay2 (F := Ideal) x v = h
  pointwise []

section Pays
variable (h : FVec Ideal S512x1024 .bf16) (p q : FVec Ideal S512x768 .f32) (w2 w3 : FVec Ideal S1x1024x768 .bf16) (a : Fin 512)

theorem pay5_at (j : Fin 3072) : (k0_pay5 (F := Ideal) h p q w2 w3 (ix2 a j) : EReal)
    = if h0 : j.val < 768 then p (ix2 a ⟨j.val, h0⟩) else if h1 : j.val - 768 < 768 then q (ix2 a ⟨j.val - 768, h1⟩)
      else if h2 : j.val - 768 - 768 < 768 then ∑ d : Fin 1024, (h (ix2 a d) : EReal) * (w2 (ix3 0 d ⟨j.val - 768 - 768, h2⟩) : EReal)
      else ∑ d : Fin 1024, (h (ix2 a d) : EReal) * (w3 (ix3 0 d ⟨j.val - 768 - 768 - 768, by omega⟩) : EReal) := by
  pointwise [k0_pay5]

theorem pay6_at (k : Fin 1024) : (k0_pay6 (F := Ideal) h p q w2 w3 (ix2 a k) : EReal) = k0_pay5 (F := Ideal) h p q w2 w3 (ix2 a ⟨k.val, by omega⟩) := by
  rw [k0_pay6]
  generalize k0_pay5 (F := Ideal) h p q w2 w3 = z
  pointwise []
theorem pay7_at (k : Fin 1024) : (k0_pay7 (F := Ideal) h p q w2 w3 (ix2 a k) : EReal) = k0_pay5 (F := Ideal) h p q w2 w3 (ix2 a ⟨1024 + k.val, by omega⟩) := by
  rw [k0_pay7]
  generalize k0_pay5 (F := Ideal) h p q w2 w3 = z
  pointwise []
theorem pay8_at (k : Fin 1024) : (k0_pay8 (F := Ideal) h p q w2 w3 (ix2 a k) : EReal) = k0_pay5 (F := Ideal) h p q w2 w3 (ix2 a ⟨2048 + k.val, by omega⟩) := by
  rw [k0_pay8]
  generalize k0_pay5 (F := Ideal) h p q w2 w3 = z
  pointwise []
theorem pay9_at (k : Fin 1024) : (k0_pay9 (F := Ideal) h p q w2 w3 (ix2 a k) : EReal) = k0_pay7 (F := Ideal) h p q w2 w3 (ix2 a k) * k0_pay8 (F := Ideal) h p q w2 w3 (ix2 a k) := by
  rw [k0_pay9]
  generalize k0_pay7 (F := Ideal) h p q w2 w3 = z
  generalize k0_pay8 (F := Ideal) h p q w2 w3 = z'
  pointwise []
theorem pay10_at (k : Fin 1024) : (k0_pay10 (F := Ideal) h p q w2 w3 (ix2 a k) : EReal) = k0_pay9 (F := Ideal) h p q w2 w3 (ix2 a k) := by
  rw [k0_pay10]
  generalize k0_pay9 (F := Ideal) h p q w2 w3 = z
  pointwise []
variable (c0 c1 c2 : FVec Ideal S1x1024 .f32) (v2 v1 : FVec Ideal S512x1024 .f32)
theorem pay11_at (k : Fin 1024) : (k0_pay11 (F := Ideal) h p q w2 w3 c0 v2 c1 v1 c2 (ix2 a k) : EReal)
    = c0 (ix2 0 k) * v2 (ix2 a k) + c1 (ix2 0 k) * v1 (ix2 a k) + c2 (ix2 0 k) * k0_pay9 (F := Ideal) h p q w2 w3 (ix2 a k) := by
  rw [k0_pay11]
  generalize k0_pay9 (F := Ideal) h p q w2 w3 = z
  pointwise []
theorem pay13_at (k : Fin 1024) : (k0_pay13 (F := Ideal) h p q w2 w3 c0 v2 c1 v1 c2 (ix2 a k) : EReal)
    = k0_pay6 (F := Ideal) h p q w2 w3 (ix2 a k) * k0_pay11 (F := Ideal) h p q w2 w3 c0 v2 c1 v1 c2 (ix2 a k) := by
  rw [k0_pay13]
  generalize k0_pay6 (F := Ideal) h p q w2 w3 = z
  generalize k0_pay11 (F := Ideal) h p q w2 w3 c0 v2 c1 v1 c2 = z'
  pointwise []
end Pays

theorem pay12_eq (v : FVec Ideal S8x1024 .f32) : k0_pay12 (F := Ideal) v = v := by
  funext i; pointwise [k0_pay12]
theorem pay14_at (v : FVec Ideal S512x1024 .f32) (q : Fin 1) (a : Fin 512) (k : Fin 1024) : (k0_pay14 (F := Ideal) v (ix3 q a k) : EReal) = v (ix2 a k) := by
  pointwise [k0_pay14]
theorem pay15_at (v : FVec Ideal S512x1024 .f32) (q : Fin 1) (a : Fin 512) (k : Fin 1024) : (k0_pay15 (F := Ideal) v (ix3 q a k) : EReal) = v (ix2 a k) := by
  pointwise [k0_pay15]
theorem pay16_at (v : FVec Ideal S512x1024 .f32) (q : Fin 1) (a : Fin 512) (k : Fin 1024) : (k0_pay16 (F := Ideal) v (ix3 q a k) : EReal) = v (ix2 a k) := by
  pointwise [k0_pay16]
theorem pay17_at (v : FVec Ideal S512x1024 .f32) (q : Fin 1) (a : Fin 512) (k : Fin 1024) : (k0_pay17 (F := Ideal) v (ix3 q a k) : EReal) = v (ix2 a k) := by
  pointwise [k0_pay17]
theorem pay18_at (z : FVec Ideal S512x1024 .bf16) (w : FVec Ideal S1024x1024 .bf16) (a : Fin 512) (d : Fin 1024) :
    (k0_pay18 (F := Ideal) z w (ix2 a d) : EReal) = ∑ k : Fin 1024, (z (ix2 a k) : EReal) * (w (ix2 k d) : EReal) := by
  pointwise [k0_pay18]
theorem pay19_at (z : FVec Ideal S512x1024 .bf16) (w : FVec Ideal S1024x1024 .bf16) (a : Fin 512) (d : Fin 1024) :
    (k0_pay19 (F := Ideal) z w (ix2 a d) : EReal) = k0_pay18 (F := Ideal) z w (ix2 a d) := by
  rw [k0_pay19]
  generalize k0_pay18 (F := Ideal) z w = y
  pointwise []
theorem pay20_at (x : FVec Ideal S512x1024 .f32) (z : FVec Ideal S512x1024 .bf16) (w : FVec Ideal S1024x1024 .bf16) (v : FVec Ideal S1x1024 .f32) (a : Fin 512) (d : Fin 1024) :
    (k0_pay20 (F := Ideal) x z w v (ix2 a d) : EReal) = x (ix2 a d) + (1 + v (ix2 0 d)) * k0_pay18 (F := Ideal) z w (ix2 a d) := by
  rw [k0_pay20]
  generalize k0_pay18 (F := Ideal) z w = y
  pointwise []

/-- The blocks of one tile hold the operands `I` at the rows `ρ`. -/
structure Reads (I : In) (ρ : Fin 512 → Fin 8192) (x : FVec Ideal S512x1024 .f32) (v : FVec Ideal S8x1024 .f32) (v3 c0 c1 c2 : FVec Ideal S1x1024 .f32)
    (w0 w1 w2 w3 : FVec Ideal S1x1024x768 .bf16) (o : FVec Ideal S1024x1024 .bf16) : Prop where
  hx : ∀ (a : Fin 512) (d : Fin 1024), x (ix2 a d) = I.x (ρ a) d
  hg : ∀ d : Fin 1024, v (ix2 0 d) = I.g d
  hsc : ∀ d : Fin 1024, v (ix2 1 d) = I.sc d
  hsh : ∀ d : Fin 1024, v (ix2 2 d) = I.sh d
  hgt : ∀ d : Fin 1024, v3 (ix2 0 d) = I.gt d
  hc0 : ∀ d : Fin 1024, c0 (ix2 0 d) = I.cw 0 d
  hc1 : ∀ d : Fin 1024, c1 (ix2 0 d) = I.cw 1 d
  hc2 : ∀ d : Fin 1024, c2 (ix2 0 d) = I.cw 2 d
  hw0 : ∀ (d : Fin 1024) (j : Fin 768), (w0 (ix3 0 d j) : EReal) = I.wi d ⟨0 * 768 + j.val, by omega⟩
  hw1 : ∀ (d : Fin 1024) (j : Fin 768), (w1 (ix3 0 d j) : EReal) = I.wi d ⟨1 * 768 + j.val, by omega⟩
  hw2 : ∀ (d : Fin 1024) (j : Fin 768), (w2 (ix3 0 d j) : EReal) = I.wi d ⟨2 * 768 + j.val, by omega⟩
  hw3 : ∀ (d : Fin 1024) (j : Fin 768), (w3 (ix3 0 d j) : EReal) = I.wi d ⟨3 * 768 + j.val, by omega⟩
  ho : ∀ (k : Fin 1024) (d : Fin 1024), (o (ix2 k d) : EReal) = I.wo k d

section Of
variable {I : In} {ρ : Fin 512 → Fin 8192} {x : FVec Ideal S512x1024 .f32} {v : FVec Ideal S8x1024 .f32} {v3 c0 c1 c2 : FVec Ideal S1x1024 .f32}
  {w0 w1 w2 w3 : FVec Ideal S1x1024x768 .bf16} {o : FVec Ideal S1024x1024 .bf16} (h : Reads I ρ x v v3 c0 c1 c2 w0 w1 w2 w3 o)
include h

theorem h_of (a : Fin 512) (d : Fin 1024) : (k0_pay2 (F := Ideal) x v (ix2 a d) : EReal) = I.hn (ρ a) d := by
  rw [pay2_at, h.hg, h.hsc, h.hsh, h.hx]
  simp only [h.hx]
  rfl

theorem bcu_of (a : Fin 512) (j : Fin 3072) :
    (k0_pay5 (F := Ideal) (k0_pay2 x v) (k0_pay3 x v w0) (k0_pay4 x v w1) w2 w3 (ix2 a j) : EReal) = I.bcu (ρ a) j := by
  rw [pay5_at]
  simp only [pay3_at, pay4_at, h_of h, h.hw0, h.hw1, h.hw2, h.hw3]
  have e : ∀ l : Fin 3072, l = j → ∑ d : Fin 1024, I.hn (ρ a) d * I.wi d l = I.bcu (ρ a) j := fun l hl => by rw [hl]; rfl
  split_ifs <;> exact e _ (Fin.ext (by simp only; omega))

theorem b_of (a : Fin 512) (k : Fin 1024) : (k0_pay6 (F := Ideal) (k0_pay2 x v) (k0_pay3 x v w0) (k0_pay4 x v w1) w2 w3 (ix2 a k) : EReal) = I.b (ρ a) k :=
  (pay6_at _ _ _ _ _ _ _).trans (bcu_of h _ _)
theorem cg_of (a : Fin 512) (k : Fin 1024) : (k0_pay7 (F := Ideal) (k0_pay2 x v) (k0_pay3 x v w0) (k0_pay4 x v w1) w2 w3 (ix2 a k) : EReal) = I.cg (ρ a) k :=
  (pay7_at _ _ _ _ _ _ _).trans (bcu_of h _ _)
theorem u_of (a : Fin 512) (k : Fin 1024) : (k0_pay8 (F := Ideal) (k0_pay2 x v) (k0_pay3 x v w0) (k0_pay4 x v w1) w2 w3 (ix2 a k) : EReal) = I.u (ρ a) k :=
  (pay8_at _ _ _ _ _ _ _).trans (bcu_of h _ _)
theorem v_of (a : Fin 512) (k : Fin 1024) : (k0_pay9 (F := Ideal) (k0_pay2 x v) (k0_pay3 x v w0) (k0_pay4 x v w1) w2 w3 (ix2 a k) : EReal) = I.v (ρ a) k :=
  (pay9_at _ _ _ _ _ _ _).trans (congrArg₂ (· * ·) (cg_of h a k) (u_of h a k))
theorem vs_of (a : Fin 512) (k : Fin 1024) : (k0_pay10 (F := Ideal) (k0_pay2 x v) (k0_pay3 x v w0) (k0_pay4 x v w1) w2 w3 (ix2 a k) : EReal) = I.v (ρ a) k :=
  (pay10_at _ _ _ _ _ _ _).trans (v_of h a k)

variable {v2 v1 : FVec Ideal S512x1024 .f32} (h2 : ∀ a k, v2 (ix2 a k) = behind I.v 2 (ρ a) k) (h1 : ∀ a k, v1 (ix2 a k) = behind I.v 1 (ρ a) k)
include h2 h1

theorem conv_of (a : Fin 512) (k : Fin 1024) :
    (k0_pay11 (F := Ideal) (k0_pay2 x v) (k0_pay3 x v w0) (k0_pay4 x v w1) w2 w3 c0 v2 c1 v1 c2 (ix2 a k) : EReal) = I.conv (ρ a) k := by
  rw [pay11_at, v_of h, h1, h2, h.hc0, h.hc1, h.hc2]
  rfl

theorem z_of (a : Fin 512) (k : Fin 1024) :
    (k0_pay13 (F := Ideal) (k0_pay2 x v) (k0_pay3 x v w0) (k0_pay4 x v w1) w2 w3 c0 v2 c1 v1 c2 (ix2 a k) : EReal) = I.z (ρ a) k := by
  rw [pay13_at, b_of h, conv_of h h2 h1]
  rfl

theorem y_of (a : Fin 512) (d : Fin 1024) :
    (k0_pay18 (F := Ideal) (k0_pay13 (k0_pay2 x v) (k0_pay3 x v w0) (k0_pay4 x v w1) w2 w3 c0 v2 c1 v1 c2) o (ix2 a d) : EReal) = I.y (ρ a) d := by
  rw [pay18_at]
  simp only [z_of h h2 h1, h.ho]
  rfl

theorem xo_of (a : Fin 512) (d : Fin 1024) :
    (k0_pay20 (F := Ideal) x (k0_pay13 (k0_pay2 x v) (k0_pay3 x v w0) (k0_pay4 x v w1) w2 w3 c0 v2 c1 v1 c2) o v3 (ix2 a d) : EReal) = I.xo (ρ a) d := by
  rw [pay20_at, y_of h h2 h1, h.hx, h.hgt]
  rfl

end Of

variable (m : (ℓ : Loc nD τ sig) → Buf (Elt Ideal) ℓ) (c : Dev nD)

/-- The call's operands as functions of the program's arguments. -/
def opnd : In := ofArgs (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5)) (m ((c.tc : Thread nD τ).loc main_arg6))
  (m ((c.tc : Thread nD τ).loc main_arg7))

theorem idx : ∀ t : Fin cfg0.N,
    win0_0.index t = ![t.val, 0] ∧ win0_1.index t = ![0, 0] ∧ win0_2.index t = ![0, 0] ∧ win0_3.index t = ![0, 0, 0]
      ∧ win0_4.index t = ![0, 0] ∧ win0_5.index t = ![t.val, 0] ∧ win0_6.index t = ![t.val, 0] ∧ win0_7.index t = ![0, t.val, 0]
      ∧ win0_8.index t = ![t.val, 0] ∧ win0_9.index t = ![t.val, 0] :=
  (by decide +kernel : ∀ t : Fin grid0.N, _)

theorem N16 (t : Fin cfg0.N) : t.val < 16 := t.isLt.trans_le (le_of_eq N_0)

/-- The token that row `a` of the tile of point `t` holds. -/
def row (t : Fin cfg0.N) (a : Fin 512) : Fin 8192 := ⟨t.val * 512 + a.val, by have := N16 t; omega⟩

/-! What the host leaves in the arrays that the call reads. -/

theorem V_g (d : Fin 1024) : ((V m c main_v8 : FVec Ideal S8x1024 .f32) (ix2 0 d) : EReal) = (opnd m c).g d := by
  unfold_abbrev_sides
  after_reads_at
  rw [StableHlo.reshape_result']
  after_reads_at
theorem V_sc (d : Fin 1024) : ((V m c main_v8 : FVec Ideal S8x1024 .f32) (ix2 1 d) : EReal) = (opnd m c).sc d := by
  unfold_abbrev_sides
  after_reads_at
  rw [StableHlo.reshape_result']
  after_reads_at
theorem V_sh (d : Fin 1024) : ((V m c main_v8 : FVec Ideal S8x1024 .f32) (ix2 2 d) : EReal) = (opnd m c).sh d := by
  unfold_abbrev_sides
  after_reads_at
  rw [StableHlo.reshape_result']
  after_reads_at
theorem V_gt (d : Fin 1024) : ((V m c main_v8 : FVec Ideal S8x1024 .f32) (ix2 3 d) : EReal) = (opnd m c).gt d := by
  unfold_abbrev_sides
  after_reads_at
  rw [StableHlo.reshape_result']
  after_reads_at
theorem V_c0 (d : Fin 1024) : ((V m c main_v19 : FVec Ideal S8x1024 .f32) (ix2 0 d) : EReal) = (opnd m c).cw 0 d := by
  unfold_abbrev_sides
  after_reads_at
  rw [StableHlo.reshape_result']
  after_reads_at
theorem V_c1 (d : Fin 1024) : ((V m c main_v19 : FVec Ideal S8x1024 .f32) (ix2 1 d) : EReal) = (opnd m c).cw 1 d := by
  unfold_abbrev_sides
  after_reads_at
  rw [StableHlo.reshape_result']
  after_reads_at
theorem V_c2 (d : Fin 1024) : ((V m c main_v19 : FVec Ideal S8x1024 .f32) (ix2 2 d) : EReal) = (opnd m c).cw 2 d := by
  unfold_abbrev_sides
  after_reads_at
  rw [StableHlo.reshape_result']
  after_reads_at
theorem V_wo (k : Fin 1024) (d : Fin 1024) : ((V m c main_v20 : FVec Ideal S1024x1024 .bf16) (ix2 k d) : EReal) = (opnd m c).wo k d := by
  unfold_abbrev_sides
  after_reads_at
theorem V_wi (q : Fin 4) (d : Fin 1024) (j : Fin 768) : ((V m c main_v2 : FVec Ideal S4x1024x768 .bf16) (ix3 q d j) : EReal)
    = (opnd m c).wi d ⟨q.val * 768 + j.val, by omega⟩ := by
  unfold_abbrev_sides
  after_reads_at

section Point
variable (t : Fin cfg0.N)

theorem b0 (a : Fin 512) (d : Fin 1024) : (iblk m c 0 t : FVec Ideal S512x1024 .f32) (ix2 a d) = (V m c main_arg0 : FVec Ideal S8192x1024 .f32) (ix2 (row t a) d) := by
  blk_ext [iblk, row, idx t]
theorem b1 (r : Fin 8) (d : Fin 1024) : (iblk m c 1 t : FVec Ideal S8x1024 .f32) (ix2 r d) = (V m c main_v8 : FVec Ideal S8x1024 .f32) (ix2 r d) := by
  blk_ext [iblk, idx t]
theorem b2 (r : Fin 8) (d : Fin 1024) : (iblk m c 2 t : FVec Ideal S8x1024 .f32) (ix2 r d) = (V m c main_v19 : FVec Ideal S8x1024 .f32) (ix2 r d) := by
  blk_ext [iblk, idx t]
theorem b3 (q : Fin 4) (d : Fin 1024) (j : Fin 768) : (iblk m c 3 t : FVec Ideal S4x1024x768 .bf16) (ix3 q d j)
    = (V m c main_v2 : FVec Ideal S4x1024x768 .bf16) (ix3 q d j) := by
  blk_ext [iblk, idx t]
theorem b4 (k : Fin 1024) (d : Fin 1024) : (iblk m c 4 t : FVec Ideal S1024x1024 .bf16) (ix2 k d) = (V m c main_v20 : FVec Ideal S1024x1024 .bf16) (ix2 k d) := by
  blk_ext [iblk, idx t]

theorem row8 (X : FVec Ideal S8x1024 .f32) (r : Fin 8) (inb) (d : Fin 1024) :
    (View.ld (Val := Elt Ideal) (e' := .f32) X (Rect.unit (s := S8x1024) ![r.val, 0] ![1, 1024] inb) (ix2 0 d : S1x1024.Idx) : EReal) = X (ix2 r d) :=
  View.ld_unit_apply_of _ _ _ _ _ (ix2 r d : S8x1024.Idx) (fun a => by match a with | ⟨0, _⟩ => simp | ⟨1, _⟩ => simp)

theorem wi_ld (q : Fin 4) (inb) (d : Fin 1024) (j : Fin 768) :
    (View.ld (Val := Elt Ideal) (e' := .bf16) (iblk m c 3 t : FVec Ideal S4x1024x768 .bf16) (Rect.unit (s := S4x1024x768) ![q.val, 0, 0] ![1, 1024, 768] inb) (ix3 0 d j : S1x1024x768.Idx) : EReal)
      = (opnd m c).wi d ⟨q.val * 768 + j.val, by omega⟩ :=
  (ld_slot (Val := Elt Ideal) (e := .bf16) (n := 4) (iblk m c 3 t : FVec Ideal S4x1024x768 .bf16) q.val q.isLt inb d j).trans ((b3 m c t q d j).trans (V_wi m c q d j))

theorem reads : Reads (opnd m c) (row t) (iblk m c 0 t : FVec Ideal S512x1024 .f32) (iblk m c 1 t : FVec Ideal S8x1024 .f32)
    (View.ld (iblk m c 1 t : FVec Ideal S8x1024 .f32) (Rect.unit ![3, 0] ![1, 1024] inb_S8x1024_S1x1024_3_0))
    (View.ld (iblk m c 2 t : FVec Ideal S8x1024 .f32) (Rect.unit ![0, 0] ![1, 1024] inb_S8x1024_S1x1024_0_0))
    (View.ld (iblk m c 2 t : FVec Ideal S8x1024 .f32) (Rect.unit ![1, 0] ![1, 1024] inb_S8x1024_S1x1024_1_0))
    (View.ld (iblk m c 2 t : FVec Ideal S8x1024 .f32) (Rect.unit ![2, 0] ![1, 1024] inb_S8x1024_S1x1024_2_0))
    (View.ld (iblk m c 3 t : FVec Ideal S4x1024x768 .bf16) (Rect.unit ![0, 0, 0] ![1, 1024, 768] inb_S4x1024x768_S1x1024x768_0_0_0))
    (View.ld (iblk m c 3 t : FVec Ideal S4x1024x768 .bf16) (Rect.unit ![1, 0, 0] ![1, 1024, 768] inb_S4x1024x768_S1x1024x768_1_0_0))
    (View.ld (iblk m c 3 t : FVec Ideal S4x1024x768 .bf16) (Rect.unit ![2, 0, 0] ![1, 1024, 768] inb_S4x1024x768_S1x1024x768_2_0_0))
    (View.ld (iblk m c 3 t : FVec Ideal S4x1024x768 .bf16) (Rect.unit ![3, 0, 0] ![1, 1024, 768] inb_S4x1024x768_S1x1024x768_3_0_0))
    (iblk m c 4 t : FVec Ideal S1024x1024 .bf16) where
  hx a d := (b0 m c t a d).trans (congrFun (V_main_arg0 m c) _)
  hg d := (b1 m c t 0 d).trans (V_g m c d)
  hsc d := (b1 m c t 1 d).trans (V_sc m c d)
  hsh d := (b1 m c t 2 d).trans (V_sh m c d)
  hgt d := (row8 _ 3 _ d).trans ((b1 m c t 3 d).trans (V_gt m c d))
  hc0 d := (row8 _ 0 _ d).trans ((b2 m c t 0 d).trans (V_c0 m c d))
  hc1 d := (row8 _ 1 _ d).trans ((b2 m c t 1 d).trans (V_c1 m c d))
  hc2 d := (row8 _ 2 _ d).trans ((b2 m c t 2 d).trans (V_c2 m c d))
  hw0 d j := wi_ld m c t 0 _ d j
  hw1 d j := wi_ld m c t 1 _ d j
  hw2 d j := wi_ld m c t 2 _ d j
  hw3 d j := wi_ld m c t 3 _ d j
  ho k d := (b4 m c t k d).trans (V_wo m c k d)

end Point

end Cert.Kernel10Ideal.Tile
-- ==== Proof.CfOut.lean ====
module

public import proofs.«01_k».proof.Proof.CfTile

@[expose] public section

set_option maxRecDepth 16384

noncomputable section

namespace Cert.Kernel10Ideal.Tile

open Cert.Kernel10Ideal Cert.Kernel10Ideal.Gen Idealize.ShloMosaic Idealize.ShloMosaic.TcCoe Idealize.SL.Sem
open Cert.CfSpec Cert.KernelIdeal.Pay Cert.Slots
open Cert.KernelIdeal.Tile (canon_hit canon_miss)

variable (m : (ℓ : Loc nD τ sig) → Buf (Elt Ideal) ℓ) (c : Dev nD)

/-! The rows carried from one tile to the next. -/

/-- What the carried buffer holds after point `t` at row `j` of its first eight: row `504 + j` of the tile. -/
theorem scr_row (t : Fin cfg0.N) (j : Fin 8) (k : Fin 1024) :
    ((outsAt0 m c t.val t.isLt).2.2.2.2.2 : FVec Ideal S520x1024 .f32) (ix2 ⟨j.val, by omega⟩ k)
      = (opnd m c).v (row t ⟨504 + j.val, by omega⟩) k := by
  by_cases h0 : t.val % 16 = 0
  · rw [outsAt0_A m c t h0]; frame_open; frame_out
    rw [canon_hit _ _ _ _ (ix2 j k : S8x1024.Idx) (fun a => by match a with | ⟨0, _⟩ => simp | ⟨1, _⟩ => simp)]
    rw [pay12_eq, View.readCov_eq_canon']
    dsimp only
    rw [canon_hit _ _ _ _ (ix2 ⟨504 + j.val, by omega⟩ k : S512x1024.Idx) (fun a => by match a with | ⟨0, _⟩ => simp; omega | ⟨1, _⟩ => simp)]
    exact vs_of (reads m c t) _ k
  · rw [outsAt0_B m c t h0]; frame_open; frame_out
    rw [canon_hit _ _ _ _ (ix2 j k : S8x1024.Idx) (fun a => by match a with | ⟨0, _⟩ => simp | ⟨1, _⟩ => simp)]
    rw [pay12_eq, View.readCov_eq_canon']
    dsimp only
    rw [canon_hit _ _ _ _ (ix2 ⟨504 + j.val, by omega⟩ k : S512x1024.Idx) (fun a => by match a with | ⟨0, _⟩ => simp; omega | ⟨1, _⟩ => simp)]
    exact vs_of (reads m c t) _ k

section Behind
variable {sp : Space} (v : View sig .tc sp S520x1024 .f32) (t : Fin cfg0.N) (o : ℕ) (n : ℕ) (hn : o + n = 8) (P : FVec Ideal S512x1024 .f32)
  (hP : ∀ (a : Fin 512) (k : Fin 1024), P (ix2 a k) = (opnd m c).v (row t a) k)
  (inb0 : ∀ a : Fin 2, (![8, 0] : Fin 2 → ℕ) a + (![512, 1024] : Fin 2 → ℕ) a ≤ S520x1024.size a)
  (inb1 : ∀ a : Fin 2, (![0, 0] : Fin 2 → ℕ) a + (![8, 1024] : Fin 2 → ℕ) a ≤ S520x1024.size a)
  (inb : ∀ a : Fin 2, (![o, 0] : Fin 2 → ℕ) a + (![512, 1024] : Fin 2 → ℕ) a ≤ S520x1024.size a)
include hn hP

/-- A row read `n` rows back in the buffer of the first tile: zero before the start. -/
theorem behind_A (h0 : t.val % 16 = 0) (a : Fin 512) (k : Fin 1024) :
    (v.readCov (Val := Elt Ideal) [⟨Rect.unit ![8, 0] ![512, 1024] inb0, P⟩, ⟨Rect.unit ![0, 0] ![8, 1024] inb1, k0_pay1 (F := Ideal)⟩]
        (Rect.unit (s := S520x1024) ![o, 0] ![512, 1024] inb).toLoadRect (ix2 a k : S512x1024.Idx) : EReal)
      = behind (opnd m c).v n (row t a) k := by
  have ht := N16 t
  rw [View.readCov_eq_canon']
  dsimp only
  unfold behind
  by_cases h : n ≤ a.val
  · rw [canon_hit _ _ _ _ (ix2 ⟨a.val - n, by omega⟩ k : S512x1024.Idx) (fun a => by match a with | ⟨0, _⟩ => simp; omega | ⟨1, _⟩ => simp), hP,
      if_pos (by simp only [row]; omega)]
    congr 1; apply Fin.ext; simp only [row]; omega
  · rw [canon_miss _ _ _ _ (0 : Fin 2) (by left; simp; omega),
      canon_hit _ _ _ _ (ix2 ⟨o + a.val, by omega⟩ k : S8x1024.Idx) (fun a => by match a with | ⟨0, _⟩ => simp | ⟨1, _⟩ => simp),
      pay1_at, if_neg (by simp only [row]; omega)]

/-- A row read `n` rows back in the buffer of any other tile: before the tile, the rows the tile before carried. -/
theorem behind_B (h0 : ¬t.val % 16 = 0) (f : v.ty.Contents (Elt Ideal)) (hlt : t.val - 1 < cfg0.N)
    (hf : v.read (Elt Ideal) f = (outsAt0 m c (t.val - 1) hlt).2.2.2.2.2) (a : Fin 512) (k : Fin 1024) :
    (View.ld (v.read (Elt Ideal) (v.writes (Elt Ideal) f [⟨Rect.unit ![8, 0] ![512, 1024] inb0, P⟩])) (Rect.unit ![o, 0] ![512, 1024] inb) : FVec Ideal S512x1024 .f32) (ix2 a k)
      = behind (opnd m c).v n (row t a) k := by
  have ht := N16 t
  unfold behind
  by_cases h : n ≤ a.val
  · rw [View.ld_unit_apply_of _ _ _ _ _ (ix2 ⟨8 + (a.val - n), by omega⟩ k : S520x1024.Idx) (fun a => by match a with | ⟨0, _⟩ => simp; omega | ⟨1, _⟩ => simp)]
    rw [View.read_writes_cons_unit_of_mem _ _ inb0 _ _ _ (ix2 ⟨a.val - n, by omega⟩ k : S512x1024.Idx) rfl (fun a => by match a with | ⟨0, _⟩ => simp | ⟨1, _⟩ => simp), hP,
      if_pos (by simp only [row]; omega)]
    congr 1; apply Fin.ext; simp only [row]; omega
  · rw [View.ld_unit_apply_of _ _ _ _ _ (ix2 ⟨o + a.val, by omega⟩ k : S520x1024.Idx) (fun a => by match a with | ⟨0, _⟩ => simp | ⟨1, _⟩ => simp)]
    rw [View.read_writes_cons_unit_of_not_mem _ _ inb0 _ _ _ rfl (0 : Fin 2) (by left; simp; omega), View.writes_nil, hf]
    refine (scr_row m c ⟨t.val - 1, hlt⟩ ⟨o + a.val, by omega⟩ k).trans ?_
    rw [if_pos (by simp only [row]; omega)]
    congr 1; apply Fin.ext; simp only [row]; omega
end Behind

/-! What each tile writes. -/

section Point
variable (t : Fin cfg0.N)

theorem out5 (a : Fin 512) (d : Fin 1024) : ((outsAt0 m c t.val t.isLt).1 : FVec Ideal S512x1024 .f32) (ix2 a d) = (opnd m c).xo (row t a) d := by
  by_cases h0 : t.val % 16 = 0
  · rw [outsAt0_A m c t h0]; frame_open; frame_out
    exact xo_of (reads m c t) (behind_A m c _ t 6 2 rfl _ (vs_of (reads m c t)) _ _ _ h0) (behind_A m c _ t 7 1 rfl _ (vs_of (reads m c t)) _ _ _ h0) a d
  · rw [outsAt0_B m c t h0]; frame_open; frame_out
    exact xo_of (reads m c t) (behind_B m c _ t 6 2 rfl _ (vs_of (reads m c t)) _ _ h0 _ _ (read_unread_whole cc0_scratch0 (Memref.isWhole_whole _) _))
      (behind_B m c _ t 7 1 rfl _ (vs_of (reads m c t)) _ _ h0 _ _ (read_unread_whole cc0_scratch0 (Memref.isWhole_whole _) _)) a d

theorem out6 (a : Fin 512) (d : Fin 1024) : ((outsAt0 m c t.val t.isLt).2.1 : FVec Ideal S512x1024 .bf16) (ix2 a d) = (opnd m c).hn (row t a) d := by
  by_cases h0 : t.val % 16 = 0
  · rw [outsAt0_A m c t h0]; frame_open; frame_out
    exact h_of (reads m c t) a d
  · rw [outsAt0_B m c t h0]; frame_open; frame_out
    exact h_of (reads m c t) a d

theorem out7 (q : Fin 4) (a : Fin 512) (k : Fin 1024) : ((outsAt0 m c t.val t.isLt).2.2.1 : FVec Ideal S4x512x1024 .bf16) (ix3 q a k) = (opnd m c).s4 q (row t a) k := by
  by_cases h0 : t.val % 16 = 0
  · rw [outsAt0_A m c t h0]; frame_open; frame_out
    refine (four _ _ _ _ _ _ _ _ _ q a k).trans ?_
    obtain rfl | rfl | rfl | rfl : q = 0 ∨ q = 1 ∨ q = 2 ∨ q = 3 := by revert q; decide
    · exact (pay14_at _ _ _ _).trans (b_of (reads m c t) a k)
    · exact (pay15_at _ _ _ _).trans (cg_of (reads m c t) a k)
    · exact (pay16_at _ _ _ _).trans (u_of (reads m c t) a k)
    · exact (pay17_at _ _ _ _).trans (conv_of (reads m c t) (behind_A m c _ t 6 2 rfl _ (vs_of (reads m c t)) _ _ _ h0) (behind_A m c _ t 7 1 rfl _ (vs_of (reads m c t)) _ _ _ h0) a k)
  · rw [outsAt0_B m c t h0]; frame_open; frame_out
    refine (four _ _ _ _ _ _ _ _ _ q a k).trans ?_
    obtain rfl | rfl | rfl | rfl : q = 0 ∨ q = 1 ∨ q = 2 ∨ q = 3 := by revert q; decide
    · exact (pay14_at _ _ _ _).trans (b_of (reads m c t) a k)
    · exact (pay15_at _ _ _ _).trans (cg_of (reads m c t) a k)
    · exact (pay16_at _ _ _ _).trans (u_of (reads m c t) a k)
    · exact (pay17_at _ _ _ _).trans (conv_of (reads m c t) (behind_B m c _ t 6 2 rfl _ (vs_of (reads m c t)) _ _ h0 _ _ (read_unread_whole cc0_scratch0 (Memref.isWhole_whole _) _))
        (behind_B m c _ t 7 1 rfl _ (vs_of (reads m c t)) _ _ h0 _ _ (read_unread_whole cc0_scratch0 (Memref.isWhole_whole _) _)) a k)

theorem out8 (a : Fin 512) (d : Fin 1024) : ((outsAt0 m c t.val t.isLt).2.2.2.1 : FVec Ideal S512x1024 .bf16) (ix2 a d) = (opnd m c).z (row t a) d := by
  by_cases h0 : t.val % 16 = 0
  · rw [outsAt0_A m c t h0]; frame_open; frame_out
    exact z_of (reads m c t) (behind_A m c _ t 6 2 rfl _ (vs_of (reads m c t)) _ _ _ h0) (behind_A m c _ t 7 1 rfl _ (vs_of (reads m c t)) _ _ _ h0) a d
  · rw [outsAt0_B m c t h0]; frame_open; frame_out
    exact z_of (reads m c t) (behind_B m c _ t 6 2 rfl _ (vs_of (reads m c t)) _ _ h0 _ _ (read_unread_whole cc0_scratch0 (Memref.isWhole_whole _) _))
      (behind_B m c _ t 7 1 rfl _ (vs_of (reads m c t)) _ _ h0 _ _ (read_unread_whole cc0_scratch0 (Memref.isWhole_whole _) _)) a d

theorem out9 (a : Fin 512) (d : Fin 1024) : ((outsAt0 m c t.val t.isLt).2.2.2.2.1 : FVec Ideal S512x1024 .bf16) (ix2 a d) = (opnd m c).y (row t a) d := by
  by_cases h0 : t.val % 16 = 0
  · rw [outsAt0_A m c t h0]; frame_open; frame_out
    exact (pay19_at _ _ _ _).trans (y_of (reads m c t) (behind_A m c _ t 6 2 rfl _ (vs_of (reads m c t)) _ _ _ h0) (behind_A m c _ t 7 1 rfl _ (vs_of (reads m c t)) _ _ _ h0) a d)
  · rw [outsAt0_B m c t h0]; frame_open; frame_out
    exact (pay19_at _ _ _ _).trans (y_of (reads m c t) (behind_B m c _ t 6 2 rfl _ (vs_of (reads m c t)) _ _ h0 _ _ (read_unread_whole cc0_scratch0 (Memref.isWhole_whole _) _))
      (behind_B m c _ t 7 1 rfl _ (vs_of (reads m c t)) _ _ h0 _ _ (read_unread_whole cc0_scratch0 (Memref.isWhole_whole _) _)) a d)

end Point

/-! What the call returns. -/

/-- The results as arrays. -/
def xoOf (I : In) : S8192x1024.Idx → EReal := fun i => I.xo (i 0) (i 1)
def hnOf (I : In) : S8192x1024.Idx → EReal := fun i => I.hn (i 0) (i 1)
def s4Of (I : In) : S4x8192x1024.Idx → EReal := fun i => I.s4 (i 0) (i 1) (i 2)
def zOf (I : In) : S8192x1024.Idx → EReal := fun i => I.z (i 0) (i 1)
def yOf (I : In) : S8192x1024.Idx → EReal := fun i => I.y (i 0) (i 1)

theorem arr5 : (dats m 0 c).arrAt 5 cfg0.N = xoOf (opnd m c) := by
  refine (dats m 0 c).arrAt_eq_of_covers 5 _ (by decide +kernel) fun t hf y => ?_
  blk_simp
  rw [after0_5]
  have e : ∀ f : S8192x1024.Idx → EReal, f ((win0_5.blk t).view.emb y) = f (ix2 (row t (y 0)) (y 1)) := by
    intro f; blk_ext [row, idx t]
  refine Eq.trans ?_ (e (xoOf (opnd m c))).symm
  exact (congrArg _ (eq_ix2 y)).trans (out5 m c t (y 0) (y 1))

theorem arr6 : (dats m 0 c).arrAt 6 cfg0.N = hnOf (opnd m c) := by
  refine (dats m 0 c).arrAt_eq_of_covers 6 _ (by decide +kernel) fun t hf y => ?_
  blk_simp
  rw [after0_6]
  have e : ∀ f : S8192x1024.Idx → EReal, f ((win0_6.blk t).view.emb y) = f (ix2 (row t (y 0)) (y 1)) := by
    intro f; blk_ext [row, idx t]
  refine Eq.trans ?_ (e (hnOf (opnd m c))).symm
  exact (congrArg _ (eq_ix2 y)).trans (out6 m c t (y 0) (y 1))

theorem arr7 : (dats m 0 c).arrAt 7 cfg0.N = s4Of (opnd m c) := by
  refine (dats m 0 c).arrAt_eq_of_covers 7 _ (by decide +kernel) fun t hf y => ?_
  blk_simp
  rw [after0_7]
  have e : ∀ f : S4x8192x1024.Idx → EReal, f ((win0_7.blk t).view.emb y) = f (ix3 (y 0) (row t (y 1)) (y 2)) := by
    intro f; blk_ext [row, idx t]
  refine Eq.trans ?_ (e (s4Of (opnd m c))).symm
  exact (congrArg _ (eq_ix3 y)).trans (out7 m c t (y 0) (y 1) (y 2))

theorem arr8 : (dats m 0 c).arrAt 8 cfg0.N = zOf (opnd m c) := by
  refine (dats m 0 c).arrAt_eq_of_covers 8 _ (by decide +kernel) fun t hf y => ?_
  blk_simp
  rw [after0_8]
  have e : ∀ f : S8192x1024.Idx → EReal, f ((win0_8.blk t).view.emb y) = f (ix2 (row t (y 0)) (y 1)) := by
    intro f; blk_ext [row, idx t]
  refine Eq.trans ?_ (e (zOf (opnd m c))).symm
  exact (congrArg _ (eq_ix2 y)).trans (out8 m c t (y 0) (y 1))

theorem arr9 : (dats m 0 c).arrAt 9 cfg0.N = yOf (opnd m c) := by
  refine (dats m 0 c).arrAt_eq_of_covers 9 _ (by decide +kernel) fun t hf y => ?_
  blk_simp
  rw [after0_9]
  have e : ∀ f : S8192x1024.Idx → EReal, f ((win0_9.blk t).view.emb y) = f (ix2 (row t (y 0)) (y 1)) := by
    intro f; blk_ext [row, idx t]
  refine Eq.trans ?_ (e (yOf (opnd m c))).symm
  exact (congrArg _ (eq_ix2 y)).trans (out9 m c t (y 0) (y 1))

end Cert.Kernel10Ideal.Tile
-- ==== Proof.CfRef.lean ====
module

public import proofs.«01_k».proof.Proof.CfOut
public import proofs.«01_k».proof.Proof.Gen.Reference10Ideal.Read

@[expose] public section

set_option maxRecDepth 16384

noncomputable section

namespace Cert.Reference10Ideal.Cf

open Cert.Reference10Ideal Cert.Reference10Ideal.Gen Idealize.ShloMosaic Idealize.ShloMosaic.TcCoe Idealize.SL.Sem
open Cert.Reference10Ideal.Read Cert.CfSpec Cert.KernelIdeal.Pay
open Cert.Kernel10Ideal.Tile (xoOf hnOf s4Of zOf yOf)

variable (x0 : FVec Ideal S8192x1024 .f32) (x1 x2 x3 x4 : FVec Ideal S1024 .f32) (x5 : FVec Ideal S1024x3072 .f32) (x6 : FVec Ideal S3x1024 .f32)
  (x7 : FVec Ideal S1024x1024 .f32)

/-! The reference's values, stage by stage, in the words of `CfSpec`. -/

/-- The operands. -/
abbrev opr : In := ofArgs x0 x1 x2 x3 x4 x5 x6 x7

theorem hn_at (t : Fin 8192) (d : Fin 1024) : ((val_main_v20 (F := Ideal) x0 x1 x2 x3) (ix2 t d) : EReal) = (opr x0 x1 x2 x3 x4 x5 x6 x7).hn t d := by
  unfold In.hn rstd
  pointwise [val_main_v20, val_main_v19, val_main_v18, val_main_v17, val_main_v16, val_main_v15, val_main_v14, val_main_v13, val_main_v12,
    val_main_v11, val_main_v10, val_main_v9, val_main_v8, val_main_v7, val_main_v6, val_main_v5, val_main_v4, val_main_v3, val_main_v2, val_main_v1, val_main_v0,
    val_main_cst, val_main_cst_0, val_main_cst_1, val_main_cst_2, ofArgs]

theorem bcu_at (t : Fin 8192) (j : Fin 3072) : ((val_main_v21 (F := Ideal) x0 x1 x2 x3 x5) (ix2 t j) : EReal) = (opr x0 x1 x2 x3 x4 x5 x6 x7).bcu t j := by
  unfold In.bcu
  simp only [← hn_at]
  rw [val_main_v21]
  generalize (val_main_v20 (F := Ideal) x0 x1 x2 x3) = D
  pointwise [ofArgs]

theorem b_at (t : Fin 8192) (k : Fin 1024) : ((val_main_v22 (F := Ideal) x0 x1 x2 x3 x5) (ix2 t k) : EReal) = (opr x0 x1 x2 x3 x4 x5 x6 x7).b t k := by
  unfold In.b
  rw [← bcu_at, val_main_v22]
  generalize (val_main_v21 (F := Ideal) x0 x1 x2 x3 x5) = D
  pointwise []

theorem cg_at (t : Fin 8192) (k : Fin 1024) : ((val_main_v23 (F := Ideal) x0 x1 x2 x3 x5) (ix2 t k) : EReal) = (opr x0 x1 x2 x3 x4 x5 x6 x7).cg t k := by
  unfold In.cg
  rw [← bcu_at, val_main_v23]
  generalize (val_main_v21 (F := Ideal) x0 x1 x2 x3 x5) = D
  pointwise []

theorem u_at (t : Fin 8192) (k : Fin 1024) : ((val_main_v24 (F := Ideal) x0 x1 x2 x3 x5) (ix2 t k) : EReal) = (opr x0 x1 x2 x3 x4 x5 x6 x7).u t k := by
  unfold In.u
  rw [← bcu_at, val_main_v24]
  generalize (val_main_v21 (F := Ideal) x0 x1 x2 x3 x5) = D
  pointwise []

theorem v_at (t : Fin 8192) (k : Fin 1024) : ((val_main_v25 (F := Ideal) x0 x1 x2 x3 x5) (ix2 t k) : EReal) = (opr x0 x1 x2 x3 x4 x5 x6 x7).v t k := by
  unfold In.v
  rw [← cg_at, ← u_at, val_main_v25]
  generalize (val_main_v23 (F := Ideal) x0 x1 x2 x3 x5) = D
  generalize (val_main_v24 (F := Ideal) x0 x1 x2 x3 x5) = E
  pointwise []

/-- The products with zero rows before the start. -/
theorem pad_at (n : ℕ) (hn : n ≤ 2) (t : Fin 8192) (k : Fin 1024) (j : Fin 8194) (hj : j.val + n = t.val + 2) :
    ((val_main_v27 (F := Ideal) x0 x1 x2 x3 x5) (ix2 j k) : EReal) = behind (opr x0 x1 x2 x3 x4 x5 x6 x7).v n t k := by
  have e : ((val_main_v27 (F := Ideal) x0 x1 x2 x3 x5) (ix2 j k) : EReal) = if h : j.val < 2 then 0 else ((val_main_v25 (F := Ideal) x0 x1 x2 x3 x5) (ix2 ⟨j.val - 2, by omega⟩ k) : EReal) := by
    rw [val_main_v27]
    generalize (val_main_v25 (F := Ideal) x0 x1 x2 x3 x5) = D
    pointwise [val_main_v26, val_main_cst_3]
  rw [e]
  unfold behind
  by_cases h : n ≤ t.val
  · rw [dif_neg (by omega), if_pos h, v_at]
    exact congrArg (fun i => (opr x0 x1 x2 x3 x4 x5 x6 x7).v i k) (Fin.ext (by simp only; omega))
  · rw [dif_pos (by omega), if_neg h]

theorem tap0_at (t : Fin 8192) (k : Fin 1024) : ((val_main_v33 (F := Ideal) x0 x1 x2 x3 x5 x6) (ix2 t k) : EReal) = (opr x0 x1 x2 x3 x4 x5 x6 x7).cw 0 k * behind (opr x0 x1 x2 x3 x4 x5 x6 x7).v 2 t k := by
  rw [← pad_at x0 x1 x2 x3 x4 x5 x6 x7 2 (by decide) t k ⟨0 + t.val, by omega⟩ (by simp only; omega), val_main_v33, val_main_v30]
  generalize (val_main_v27 (F := Ideal) x0 x1 x2 x3 x5) = D
  pointwise [val_main_v32, val_main_v31, val_main_v29, val_main_v28, ofArgs]

theorem tap1_at (t : Fin 8192) (k : Fin 1024) : ((val_main_v39 (F := Ideal) x0 x1 x2 x3 x5 x6) (ix2 t k) : EReal) = (opr x0 x1 x2 x3 x4 x5 x6 x7).cw 1 k * behind (opr x0 x1 x2 x3 x4 x5 x6 x7).v 1 t k := by
  rw [← pad_at x0 x1 x2 x3 x4 x5 x6 x7 1 (by decide) t k ⟨1 + t.val, by omega⟩ (by simp only; omega), val_main_v39, val_main_v36]
  generalize (val_main_v27 (F := Ideal) x0 x1 x2 x3 x5) = D
  pointwise [val_main_v38, val_main_v37, val_main_v35, val_main_v34, ofArgs]

theorem tap2_at (t : Fin 8192) (k : Fin 1024) : ((val_main_v46 (F := Ideal) x0 x1 x2 x3 x5 x6) (ix2 t k) : EReal) = (opr x0 x1 x2 x3 x4 x5 x6 x7).cw 2 k * behind (opr x0 x1 x2 x3 x4 x5 x6 x7).v 0 t k := by
  rw [← pad_at x0 x1 x2 x3 x4 x5 x6 x7 0 (by decide) t k ⟨2 + t.val, by omega⟩ (by simp only; omega), val_main_v46, val_main_v43]
  generalize (val_main_v27 (F := Ideal) x0 x1 x2 x3 x5) = D
  pointwise [val_main_v45, val_main_v44, val_main_v42, val_main_v41, ofArgs]

theorem conv_at (t : Fin 8192) (k : Fin 1024) : ((val_main_v47 (F := Ideal) x0 x1 x2 x3 x5 x6) (ix2 t k) : EReal) = (opr x0 x1 x2 x3 x4 x5 x6 x7).conv t k := by
  have e : (opr x0 x1 x2 x3 x4 x5 x6 x7).v t k = behind (opr x0 x1 x2 x3 x4 x5 x6 x7).v 0 t k := by
    unfold behind
    rw [if_pos (Nat.zero_le _)]
    exact congrArg (fun i => (opr x0 x1 x2 x3 x4 x5 x6 x7).v i k) (Fin.ext (by simp only; omega))
  unfold In.conv
  rw [e, ← tap0_at, ← tap1_at, ← tap2_at, val_main_v47, val_main_v40]
  generalize (val_main_v33 (F := Ideal) x0 x1 x2 x3 x5 x6) = D0
  generalize (val_main_v39 (F := Ideal) x0 x1 x2 x3 x5 x6) = D1
  generalize (val_main_v46 (F := Ideal) x0 x1 x2 x3 x5 x6) = D2
  pointwise []

theorem z_at (t : Fin 8192) (k : Fin 1024) : ((val_main_v48 (F := Ideal) x0 x1 x2 x3 x5 x6) (ix2 t k) : EReal) = (opr x0 x1 x2 x3 x4 x5 x6 x7).z t k := by
  unfold In.z
  rw [← b_at, ← conv_at, val_main_v48]
  generalize (val_main_v22 (F := Ideal) x0 x1 x2 x3 x5) = D
  generalize (val_main_v47 (F := Ideal) x0 x1 x2 x3 x5 x6) = E
  pointwise []

theorem y_at (t : Fin 8192) (d : Fin 1024) : ((val_main_v49 (F := Ideal) x0 x1 x2 x3 x5 x6 x7) (ix2 t d) : EReal) = (opr x0 x1 x2 x3 x4 x5 x6 x7).y t d := by
  unfold In.y
  simp only [← z_at]
  rw [val_main_v49]
  generalize (val_main_v48 (F := Ideal) x0 x1 x2 x3 x5 x6) = D
  pointwise [ofArgs]

theorem xo_at (t : Fin 8192) (d : Fin 1024) : ((val_main_v55 (F := Ideal) x0 x1 x2 x3 x4 x5 x6 x7) (ix2 t d) : EReal) = (opr x0 x1 x2 x3 x4 x5 x6 x7).xo t d := by
  unfold In.xo
  rw [← y_at, val_main_v55, val_main_v54]
  generalize (val_main_v49 (F := Ideal) x0 x1 x2 x3 x5 x6 x7) = D
  pointwise [val_main_v53, val_main_v52, val_main_v51, val_main_v50, val_main_cst_4, ofArgs]

theorem hb_at (t : Fin 8192) (d : Fin 1024) : ((val_main_v56 (F := Ideal) x0 x1 x2 x3) (ix2 t d) : EReal) = (opr x0 x1 x2 x3 x4 x5 x6 x7).hn t d := by
  rw [← hn_at, val_main_v56]
  generalize (val_main_v20 (F := Ideal) x0 x1 x2 x3) = D
  pointwise []

theorem zb_at (t : Fin 8192) (d : Fin 1024) : ((val_main_v63 (F := Ideal) x0 x1 x2 x3 x5 x6) (ix2 t d) : EReal) = (opr x0 x1 x2 x3 x4 x5 x6 x7).z t d := by
  rw [← z_at, val_main_v63]
  generalize (val_main_v48 (F := Ideal) x0 x1 x2 x3 x5 x6) = D
  pointwise []

theorem yb_at (t : Fin 8192) (d : Fin 1024) : ((val_main_v64 (F := Ideal) x0 x1 x2 x3 x5 x6 x7) (ix2 t d) : EReal) = (opr x0 x1 x2 x3 x4 x5 x6 x7).y t d := by
  rw [← y_at, val_main_v64]
  generalize (val_main_v49 (F := Ideal) x0 x1 x2 x3 x5 x6 x7) = D
  pointwise []

theorem s4_at (q : Fin 4) (t : Fin 8192) (k : Fin 1024) : ((val_main_v62 (F := Ideal) x0 x1 x2 x3 x5 x6) (ix3 q t k) : EReal) = (opr x0 x1 x2 x3 x4 x5 x6 x7).s4 q t k := by
  have e : (opr x0 x1 x2 x3 x4 x5 x6 x7).s4 q t k = (![(val_main_v22 (F := Ideal) x0 x1 x2 x3 x5), (val_main_v23 (F := Ideal) x0 x1 x2 x3 x5), (val_main_v24 (F := Ideal) x0 x1 x2 x3 x5), (val_main_v47 (F := Ideal) x0 x1 x2 x3 x5 x6)] q) (ix2 t k) := by
    obtain rfl | rfl | rfl | rfl : q = 0 ∨ q = 1 ∨ q = 2 ∨ q = 3 := by revert q; decide
    · exact (b_at x0 x1 x2 x3 x4 x5 x6 x7 t k).symm
    · exact (cg_at x0 x1 x2 x3 x4 x5 x6 x7 t k).symm
    · exact (u_at x0 x1 x2 x3 x4 x5 x6 x7 t k).symm
    · exact (conv_at x0 x1 x2 x3 x4 x5 x6 x7 t k).symm
  rw [e, val_main_v62, val_main_v61, val_main_v60, val_main_v59, val_main_v58, val_main_v57]
  generalize (val_main_v22 (F := Ideal) x0 x1 x2 x3 x5) = D0
  generalize (val_main_v23 (F := Ideal) x0 x1 x2 x3 x5) = D1
  generalize (val_main_v24 (F := Ideal) x0 x1 x2 x3 x5) = D2
  generalize (val_main_v47 (F := Ideal) x0 x1 x2 x3 x5 x6) = D3
  clear e
  obtain rfl | rfl | rfl | rfl : q = 0 ∨ q = 1 ∨ q = 2 ∨ q = 3 := by revert q; decide
  · refine Eq.trans (b := D0 (ix2 t k)) ?_ rfl
    pointwise []
  · refine Eq.trans (b := D1 (ix2 t k)) ?_ rfl
    pointwise []
  · refine Eq.trans (b := D2 (ix2 t k)) ?_ rfl
    pointwise []
  · refine Eq.trans (b := D3 (ix2 t k)) ?_ rfl
    pointwise []

theorem xo_arr : (val_main_v55 (F := Ideal) x0 x1 x2 x3 x4 x5 x6 x7) = xoOf (opr x0 x1 x2 x3 x4 x5 x6 x7) := funext fun i => (congrArg _ (eq_ix2 i)).trans (xo_at x0 x1 x2 x3 x4 x5 x6 x7 (i 0) (i 1))
theorem hn_arr : (val_main_v56 (F := Ideal) x0 x1 x2 x3) = hnOf (opr x0 x1 x2 x3 x4 x5 x6 x7) := funext fun i => (congrArg _ (eq_ix2 i)).trans (hb_at x0 x1 x2 x3 x4 x5 x6 x7 (i 0) (i 1))
theorem s4_arr : (val_main_v62 (F := Ideal) x0 x1 x2 x3 x5 x6) = s4Of (opr x0 x1 x2 x3 x4 x5 x6 x7) := funext fun i => (congrArg _ (eq_ix3 i)).trans (s4_at x0 x1 x2 x3 x4 x5 x6 x7 (i 0) (i 1) (i 2))
theorem z_arr : (val_main_v63 (F := Ideal) x0 x1 x2 x3 x5 x6) = zOf (opr x0 x1 x2 x3 x4 x5 x6 x7) := funext fun i => (congrArg _ (eq_ix2 i)).trans (zb_at x0 x1 x2 x3 x4 x5 x6 x7 (i 0) (i 1))
theorem y_arr : (val_main_v64 (F := Ideal) x0 x1 x2 x3 x5 x6 x7) = yOf (opr x0 x1 x2 x3 x4 x5 x6 x7) := funext fun i => (congrArg _ (eq_ix2 i)).trans (yb_at x0 x1 x2 x3 x4 x5 x6 x7 (i 0) (i 1))

end Cert.Reference10Ideal.Cf
-- ==== Proof.CfAlg.lean ====
module

public import proofs.«01_k».proof.Defs
public import proofs.«01_k».proof.Proof.CfRef
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Read
public import proofs.«01_k».proof.Proof.Gen.Reference10Ideal.Run

@[expose] public section

set_option maxRecDepth 16384

noncomputable section

/-! A convolution layer's forward call: frames, and the kernel's results are the reference's. -/

namespace Cert.Proof

open Idealize.ShloMosaic Idealize.ShloMosaic.TcCoe Idealize.SL.Sem

theorem frame_k10 : Cert.quiescent_Kernel10 := fun m ρ _ => Cert.Kernel10.Gen.frame m ρ
theorem frame_i10 : Cert.quiescent_Kernel10Ideal := fun m ρ _ => Cert.Kernel10Ideal.Gen.frame m ρ
theorem frame_r10 : Cert.quiescent_Reference10Ideal := fun m ρ _ =>
  (θ_run Cert.Reference10Ideal.defs _ _).mono (fun r h => ⟨fun c => (h c).2.2.2.2.2, sem_eq_zero_of_no_sems (by decide) r.2⟩)
    (Cert.Reference10Ideal.Value.run (F := Ideal) m ρ)

open Cert.Reference10Ideal.Cf Cert.Kernel10Ideal.Tile in
theorem algebraic10 : Cert.algebraic_Kernel10Ideal_Reference10Ideal := by
  intro m ρ m' ρ' _ hag
  refine ⟨fun c => xoOf (opnd m c), fun c => hnOf (opnd m c), fun c => s4Of (opnd m c), fun c => zOf (opnd m c), fun c => yOf (opnd m c), ?_, ?_⟩
  · refine (θ_run Cert.Kernel10Ideal.defs _ _).mono (fun r h c => ?_) (Cert.Kernel10Ideal.Value.run_blocks (F := Ideal) m ρ)
    obtain ⟨h0, h1, h2, h3, h4, hk⟩ := h c
    exact ⟨h0.trans (arr5 m c), h1.trans (arr6 m c), h2.trans (arr7 m c), h3.trans (arr8 m c), h4.trans (arr9 m c), hk⟩
  · refine (θ_run Cert.Reference10Ideal.defs _ _).mono (fun r h c => ?_) (Cert.Reference10Ideal.Value.run (F := Ideal) m' ρ')
    obtain ⟨h0, h1, h2, h3, h4, hk⟩ := h c
    obtain ⟨a0, a1, a2, a3, a4, a5, a6, a7⟩ := hag c
    have e : opr (m' ((c.tc : Thread Cert.Reference10Ideal.nD Cert.Reference10Ideal.τ).loc Cert.Reference10Ideal.main_arg0)) (m' ((c.tc : Thread Cert.Reference10Ideal.nD Cert.Reference10Ideal.τ).loc Cert.Reference10Ideal.main_arg1)) (m' ((c.tc : Thread Cert.Reference10Ideal.nD Cert.Reference10Ideal.τ).loc Cert.Reference10Ideal.main_arg2)) (m' ((c.tc : Thread Cert.Reference10Ideal.nD Cert.Reference10Ideal.τ).loc Cert.Reference10Ideal.main_arg3)) (m' ((c.tc : Thread Cert.Reference10Ideal.nD Cert.Reference10Ideal.τ).loc Cert.Reference10Ideal.main_arg4)) (m' ((c.tc : Thread Cert.Reference10Ideal.nD Cert.Reference10Ideal.τ).loc Cert.Reference10Ideal.main_arg5)) (m' ((c.tc : Thread Cert.Reference10Ideal.nD Cert.Reference10Ideal.τ).loc Cert.Reference10Ideal.main_arg6)) (m' ((c.tc : Thread Cert.Reference10Ideal.nD Cert.Reference10Ideal.τ).loc Cert.Reference10Ideal.main_arg7)) = opnd m c := by
      unfold opnd opr
      rw [a0, a1, a2, a3, a4, a5, a6, a7]
    exact ⟨h0.trans ((Cert.Reference10Ideal.Read.val_main_v55_eq _ _).trans ((xo_arr _ _ _ _ _ _ _ _).trans (congrArg xoOf e))),
      h1.trans ((Cert.Reference10Ideal.Read.val_main_v56_eq _ _ _ _).trans ((hn_arr _ _ _ _ _ _ _ _).trans (congrArg hnOf e))),
      h2.trans ((Cert.Reference10Ideal.Read.val_main_v62_eq _ _).trans ((s4_arr _ _ _ _ _ _ _ _).trans (congrArg s4Of e))),
      h3.trans ((Cert.Reference10Ideal.Read.val_main_v63_eq _ _).trans ((z_arr _ _ _ _ _ _ _ _).trans (congrArg zOf e))),
      h4.trans ((Cert.Reference10Ideal.Read.val_main_v64_eq _ _).trans ((y_arr _ _ _ _ _ _ _ _).trans (congrArg yOf e))), hk⟩

end Cert.Proof
-- ==== Proof.Adam.lean ====
module

public import Idealize.ShloMosaic.Lib.Pipeline.ValueKit
public import Idealize.ShloMosaic.Lib.Pipeline.ReadBack
public import Idealize.ShloMosaic.PureOps.Ideal.Laws
public import Idealize.ShloMosaic.Lib.StableHlo.ReadAt
public import Idealize.ShloMosaic.Lib.UnfoldOut

@[expose] public section

set_option maxRecDepth 16384

noncomputable section

namespace Cert.Adam

open Idealize.ShloMosaic

/-! One step of the optimiser, index by index. -/

/-- The mean of the gradients. -/
def newM (g m : EReal) : EReal := Ideal.ofBits .f32 0x3F666666#32 * m + Ideal.ofBits .f32 0x3DCCCCCD#32 * g
/-- The mean of their squares. -/
def newV (g v : EReal) : EReal := Ideal.ofBits .f32 0x3F7FBE77#32 * v + Ideal.ofBits .f32 0x3A83126F#32 * (g * g)
/-- The step. -/
def delta (w g m v : EReal) : EReal :=
  Ideal.ofBits .f32 0xBA83126F#32 * (Ideal.div (Ideal.div (newM g m) (Ideal.ofBits .f32 0x3F26BD02#32)) (Ideal.sqrt (Ideal.div (newV g v) (Ideal.ofBits .f32 0x3C231ACC#32)) + Ideal.ofBits .f32 0x322BCC77#32)
    + Ideal.ofBits .f32 0x3C23D70A#32 * w)

section Arrays
variable {s t : Shape} (h : s.ShapeCasts t) (w g m v : s.Idx → EReal)
/-- The three results laid out as the call returns them. -/
def newMs : t.Idx → EReal := shapeCast t (fun i => newM (g i) (m i)) h
def newVs : t.Idx → EReal := shapeCast t (fun i => newV (g i) (v i)) h
def deltas : t.Idx → EReal := shapeCast t (fun i => delta (w i) (g i) (m i) (v i)) h
/-- The same where the arguments are matrices already. -/
def newMs2 : s.Idx → EReal := fun i => newM (g i) (m i)
def newVs2 : s.Idx → EReal := fun i => newV (g i) (v i)
def deltas2 : s.Idx → EReal := fun i => delta (w i) (g i) (m i) (v i)
end Arrays

end Cert.Adam
-- ==== Proof.AdamFfn.lean ====
module

public import proofs.«01_k».proof.Defs
public import proofs.«01_k».proof.Proof.Adam
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Read
public import proofs.«01_k».proof.Proof.Gen.Reference12Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Read
public import proofs.«01_k».proof.Proof.Gen.Reference16Ideal.Run

@[expose] public section

set_option maxRecDepth 16384

noncomputable section

/-! The optimiser on the weights of the FFN. -/

namespace Cert.Kernel12Ideal.Tile
open Cert.Kernel12Ideal Cert.Kernel12Ideal.Gen Idealize.ShloMosaic Idealize.ShloMosaic.TcCoe Idealize.SL.Sem Cert.Adam

theorem pay_g (a : FVec Ideal S256x1408 .f32) (i) : k0_pay1 (F := Ideal) a i = a i := by pointwise [k0_pay1]
theorem pay_m (a b : FVec Ideal S256x1408 .f32) (i) : k0_pay2 (F := Ideal) a b i = newM (a i) (b i) := by
  unfold newM; pointwise [k0_pay2, k0_pay1]
theorem pay_v (a b : FVec Ideal S256x1408 .f32) (i) : k0_pay3 (F := Ideal) a b i = newV (a i) (b i) := by
  unfold newV; pointwise [k0_pay3, k0_pay1]
theorem pay_w (a b c d : FVec Ideal S256x1408 .f32) (i) : k0_pay4 (F := Ideal) a b c d i = delta (d i) (a i) (b i) (c i) := by
  unfold delta newM newV; pointwise [k0_pay4, k0_pay3, k0_pay2, k0_pay1]

variable (m : (ℓ : Loc nD τ sig) → Buf (Elt Ideal) ℓ) (c : Dev nD)
abbrev w := m ((c.tc : Thread nD τ).loc main_arg0)
abbrev g := m ((c.tc : Thread nD τ).loc main_arg1)
abbrev μ := m ((c.tc : Thread nD τ).loc main_arg2)
abbrev v := m ((c.tc : Thread nD τ).loc main_arg3)
abbrev h := shapeCasts_S4x1024x1408_S4096x1408

/-- The four arguments as the call reads them. -/
theorem args : V m c main_v0 = (fun i => shapeCast S4096x1408 (w m c) h i) ∧ V m c main_v1 = (fun i => shapeCast S4096x1408 (g m c) h i) ∧ V m c main_v2 = (fun i => shapeCast S4096x1408 (μ m c) h i) ∧ V m c main_v3 = (fun i => shapeCast S4096x1408 (v m c) h i) := by
  refine ⟨?_, ?_, ?_, ?_⟩ <;> (unfold_abbrev_sides; after_reads_at; rfl)

theorem arrs : (dats m 0 c).arrAt 4 cfg0.N = deltas h (w m c) (g m c) (μ m c) (v m c) ∧ (dats m 0 c).arrAt 5 cfg0.N = newMs h (g m c) (μ m c)
    ∧ (dats m 0 c).arrAt 6 cfg0.N = newVs h (g m c) (v m c) ∧ (dats m 0 c).arrAt 7 cfg0.N = (fun i => shapeCast S4096x1408 (g m c) h i) := by
  have ld (x : FVec Ideal S256x1408 .f32) : View.ld (Val := Elt Ideal) (e' := .f32) x r0_0 = x := View.ld_unit_lit _ _ (by decide)
  obtain ⟨e0, e1, e2, e3⟩ := args m c
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp
  all_goals
    have i0 : (iblk m c 0 t : FVec Ideal S256x1408 .f32) y = _ := congrFun e0 ((win0_4.blk t).view.emb y)
    have i1 : (iblk m c 1 t : FVec Ideal S256x1408 .f32) y = _ := congrFun e1 ((win0_4.blk t).view.emb y)
    have i2 : (iblk m c 2 t : FVec Ideal S256x1408 .f32) y = _ := congrFun e2 ((win0_4.blk t).view.emb y)
    have i3 : (iblk m c 3 t : FVec Ideal S256x1408 .f32) y = _ := congrFun e3 ((win0_4.blk t).view.emb y)
  · rw [after0_4]; unfold out0_4
    rw [View.canon_cons_unit_lit _ _ _ (by decide), pay_w, ld, ld, ld, ld, i0, i1, i2, i3]; rfl
  · rw [after0_5]; unfold out0_5
    rw [View.canon_cons_unit_lit _ _ _ (by decide), pay_m, ld, ld, i1, i2]; rfl
  · rw [after0_6]; unfold out0_6
    rw [View.canon_cons_unit_lit _ _ _ (by decide), pay_v, ld, ld, i1, i3]; rfl
  · rw [after0_7]; unfold out0_7
    rw [View.canon_cons_unit_lit _ _ _ (by decide), pay_g, ld, i1]; rfl

end Cert.Kernel12Ideal.Tile

namespace Cert.Kernel16Ideal.Tile
open Cert.Kernel16Ideal Cert.Kernel16Ideal.Gen Idealize.ShloMosaic Idealize.ShloMosaic.TcCoe Idealize.SL.Sem Cert.Adam

theorem pay_g (a : FVec Ideal S256x1024 .f32) (i) : k0_pay1 (F := Ideal) a i = a i := by pointwise [k0_pay1]
theorem pay_m (a b : FVec Ideal S256x1024 .f32) (i) : k0_pay2 (F := Ideal) a b i = newM (a i) (b i) := by
  unfold newM; pointwise [k0_pay2, k0_pay1]
theorem pay_v (a b : FVec Ideal S256x1024 .f32) (i) : k0_pay3 (F := Ideal) a b i = newV (a i) (b i) := by
  unfold newV; pointwise [k0_pay3, k0_pay1]
theorem pay_w (a b c d : FVec Ideal S256x1024 .f32) (i) : k0_pay4 (F := Ideal) a b c d i = delta (d i) (a i) (b i) (c i) := by
  unfold delta newM newV; pointwise [k0_pay4, k0_pay3, k0_pay2, k0_pay1]

variable (m : (ℓ : Loc nD τ sig) → Buf (Elt Ideal) ℓ) (c : Dev nD)
abbrev w := m ((c.tc : Thread nD τ).loc main_arg0)
abbrev g := m ((c.tc : Thread nD τ).loc main_arg1)
abbrev μ := m ((c.tc : Thread nD τ).loc main_arg2)
abbrev v := m ((c.tc : Thread nD τ).loc main_arg3)
abbrev h := shapeCasts_S4x704x1024_S2816x1024

/-- The four arguments as the call reads them. -/
theorem args : V m c main_v0 = (fun i => shapeCast S2816x1024 (w m c) h i) ∧ V m c main_v1 = (fun i => shapeCast S2816x1024 (g m c) h i) ∧ V m c main_v2 = (fun i => shapeCast S2816x1024 (μ m c) h i) ∧ V m c main_v3 = (fun i => shapeCast S2816x1024 (v m c) h i) := by
  refine ⟨?_, ?_, ?_, ?_⟩ <;> (unfold_abbrev_sides; after_reads_at; rfl)

theorem arrs : (dats m 0 c).arrAt 4 cfg0.N = deltas h (w m c) (g m c) (μ m c) (v m c) ∧ (dats m 0 c).arrAt 5 cfg0.N = newMs h (g m c) (μ m c)
    ∧ (dats m 0 c).arrAt 6 cfg0.N = newVs h (g m c) (v m c) ∧ (dats m 0 c).arrAt 7 cfg0.N = (fun i => shapeCast S2816x1024 (g m c) h i) := by
  have ld (x : FVec Ideal S256x1024 .f32) : View.ld (Val := Elt Ideal) (e' := .f32) x r0_0 = x := View.ld_unit_lit _ _ (by decide)
  obtain ⟨e0, e1, e2, e3⟩ := args m c
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp
  all_goals
    have i0 : (iblk m c 0 t : FVec Ideal S256x1024 .f32) y = _ := congrFun e0 ((win0_4.blk t).view.emb y)
    have i1 : (iblk m c 1 t : FVec Ideal S256x1024 .f32) y = _ := congrFun e1 ((win0_4.blk t).view.emb y)
    have i2 : (iblk m c 2 t : FVec Ideal S256x1024 .f32) y = _ := congrFun e2 ((win0_4.blk t).view.emb y)
    have i3 : (iblk m c 3 t : FVec Ideal S256x1024 .f32) y = _ := congrFun e3 ((win0_4.blk t).view.emb y)
  · rw [after0_4]; unfold out0_4
    rw [View.canon_cons_unit_lit _ _ _ (by decide), pay_w, ld, ld, ld, ld, i0, i1, i2, i3]; rfl
  · rw [after0_5]; unfold out0_5
    rw [View.canon_cons_unit_lit _ _ _ (by decide), pay_m, ld, ld, i1, i2]; rfl
  · rw [after0_6]; unfold out0_6
    rw [View.canon_cons_unit_lit _ _ _ (by decide), pay_v, ld, ld, i1, i3]; rfl
  · rw [after0_7]; unfold out0_7
    rw [View.canon_cons_unit_lit _ _ _ (by decide), pay_g, ld, i1]; rfl

end Cert.Kernel16Ideal.Tile

namespace Cert.Proof

open Idealize.ShloMosaic Idealize.ShloMosaic.TcCoe Idealize.SL.Sem Cert.Adam

theorem frame_k12 : Cert.quiescent_Kernel12 := fun m ρ _ => Cert.Kernel12.Gen.frame m ρ
theorem frame_i12 : Cert.quiescent_Kernel12Ideal := fun m ρ _ => Cert.Kernel12Ideal.Gen.frame m ρ
theorem frame_r12 : Cert.quiescent_Reference12Ideal := fun m ρ _ =>
  (θ_run Cert.Reference12Ideal.defs _ _).mono (fun r h => ⟨fun c => (h c).2.2.2.2, sem_eq_zero_of_no_sems (by decide) r.2⟩) (Cert.Reference12Ideal.Value.run (F := Ideal) m ρ)

theorem algebraic12 : Cert.algebraic_Kernel12Ideal_Reference12Ideal := by
  intro m ρ m' ρ' _ hag
  refine ⟨fun c => deltas Cert.Kernel12Ideal.Tile.h (Cert.Kernel12Ideal.Tile.w m c) (Cert.Kernel12Ideal.Tile.g m c) (Cert.Kernel12Ideal.Tile.μ m c) (Cert.Kernel12Ideal.Tile.v m c), fun c => newMs Cert.Kernel12Ideal.Tile.h (Cert.Kernel12Ideal.Tile.g m c) (Cert.Kernel12Ideal.Tile.μ m c), fun c => newVs Cert.Kernel12Ideal.Tile.h (Cert.Kernel12Ideal.Tile.g m c) (Cert.Kernel12Ideal.Tile.v m c), fun c => fun i => shapeCast _ (Cert.Kernel12Ideal.Tile.g m c) Cert.Kernel12Ideal.Tile.h i, ?_, ?_⟩
  · refine (θ_run Cert.Kernel12Ideal.defs _ _).mono (fun r h c => ?_) (Cert.Kernel12Ideal.Value.run_blocks (F := Ideal) m ρ)
    obtain ⟨h0, h1, h2, h3, hk⟩ := h c
    obtain ⟨eh0, eh1, eh2, eh3⟩ := Cert.Kernel12Ideal.Tile.arrs m c
    exact ⟨h0.trans eh0, h1.trans eh1, h2.trans eh2, h3.trans eh3, hk⟩
  · refine (θ_run Cert.Reference12Ideal.defs _ _).mono (fun r h c => ?_) (Cert.Reference12Ideal.Value.run (F := Ideal) m' ρ')
    obtain ⟨h0, h1, h2, h3, hk⟩ := h c
    obtain ⟨a0, a1, a2, a3⟩ := hag c
    refine ⟨h0.trans ((Cert.Reference12Ideal.Read.val_main_v24_eq _ _ _ _).trans ?_), h1.trans ((Cert.Reference12Ideal.Read.val_main_v25_eq _ _).trans ?_), h2.trans ((Cert.Reference12Ideal.Read.val_main_v26_eq _ _).trans ?_), h3.trans ((Cert.Reference12Ideal.Read.val_main_v27_eq _).trans ?_), hk⟩
    · rw [a0, a1, a2, a3]; rfl
    · rw [a1, a2]; rfl
    · rw [a1, a3]; rfl
    · rw [a1]; rfl

theorem frame_k16 : Cert.quiescent_Kernel16 := fun m ρ _ => Cert.Kernel16.Gen.frame m ρ
theorem frame_i16 : Cert.quiescent_Kernel16Ideal := fun m ρ _ => Cert.Kernel16Ideal.Gen.frame m ρ
theorem frame_r16 : Cert.quiescent_Reference16Ideal := fun m ρ _ =>
  (θ_run Cert.Reference16Ideal.defs _ _).mono (fun r h => ⟨fun c => (h c).2.2.2.2, sem_eq_zero_of_no_sems (by decide) r.2⟩) (Cert.Reference16Ideal.Value.run (F := Ideal) m ρ)

theorem algebraic16 : Cert.algebraic_Kernel16Ideal_Reference16Ideal := by
  intro m ρ m' ρ' _ hag
  refine ⟨fun c => deltas Cert.Kernel16Ideal.Tile.h (Cert.Kernel16Ideal.Tile.w m c) (Cert.Kernel16Ideal.Tile.g m c) (Cert.Kernel16Ideal.Tile.μ m c) (Cert.Kernel16Ideal.Tile.v m c), fun c => newMs Cert.Kernel16Ideal.Tile.h (Cert.Kernel16Ideal.Tile.g m c) (Cert.Kernel16Ideal.Tile.μ m c), fun c => newVs Cert.Kernel16Ideal.Tile.h (Cert.Kernel16Ideal.Tile.g m c) (Cert.Kernel16Ideal.Tile.v m c), fun c => fun i => shapeCast _ (Cert.Kernel16Ideal.Tile.g m c) Cert.Kernel16Ideal.Tile.h i, ?_, ?_⟩
  · refine (θ_run Cert.Kernel16Ideal.defs _ _).mono (fun r h c => ?_) (Cert.Kernel16Ideal.Value.run_blocks (F := Ideal) m ρ)
    obtain ⟨h0, h1, h2, h3, hk⟩ := h c
    obtain ⟨eh0, eh1, eh2, eh3⟩ := Cert.Kernel16Ideal.Tile.arrs m c
    exact ⟨h0.trans eh0, h1.trans eh1, h2.trans eh2, h3.trans eh3, hk⟩
  · refine (θ_run Cert.Reference16Ideal.defs _ _).mono (fun r h c => ?_) (Cert.Reference16Ideal.Value.run (F := Ideal) m' ρ')
    obtain ⟨h0, h1, h2, h3, hk⟩ := h c
    obtain ⟨a0, a1, a2, a3⟩ := hag c
    refine ⟨h0.trans ((Cert.Reference16Ideal.Read.val_main_v24_eq _ _ _ _).trans ?_), h1.trans ((Cert.Reference16Ideal.Read.val_main_v25_eq _ _).trans ?_), h2.trans ((Cert.Reference16Ideal.Read.val_main_v26_eq _ _).trans ?_), h3.trans ((Cert.Reference16Ideal.Read.val_main_v27_eq _).trans ?_), hk⟩
    · rw [a0, a1, a2, a3]; rfl
    · rw [a1, a2]; rfl
    · rw [a1, a3]; rfl
    · rw [a1]; rfl

end Cert.Proof
-- ==== Proof.AdamConv.lean ====
module

public import proofs.«01_k».proof.Defs
public import proofs.«01_k».proof.Proof.Adam
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Read
public import proofs.«01_k».proof.Proof.Gen.Reference17Ideal.Run
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Read
public import proofs.«01_k».proof.Proof.Gen.Reference18Ideal.Run
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Read
public import proofs.«01_k».proof.Proof.Gen.Reference22Ideal.Run
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Read
public import proofs.«01_k».proof.Proof.Gen.Reference25Ideal.Run

@[expose] public section

set_option maxRecDepth 16384

noncomputable section

/-! The optimiser on the weights and gains of the convolution layers. -/

namespace Cert.Kernel17Ideal.Tile
open Cert.Kernel17Ideal Cert.Kernel17Ideal.Gen Idealize.ShloMosaic Idealize.ShloMosaic.TcCoe Idealize.SL.Sem Cert.Adam

theorem pay_g (a : FVec Ideal S256x768 .f32) (i) : k0_pay1 (F := Ideal) a i = a i := by pointwise [k0_pay1]
theorem pay_m (a b : FVec Ideal S256x768 .f32) (i) : k0_pay2 (F := Ideal) a b i = newM (a i) (b i) := by
  unfold newM; pointwise [k0_pay2, k0_pay1]
theorem pay_v (a b : FVec Ideal S256x768 .f32) (i) : k0_pay3 (F := Ideal) a b i = newV (a i) (b i) := by
  unfold newV; pointwise [k0_pay3, k0_pay1]
theorem pay_w (a b c d : FVec Ideal S256x768 .f32) (i) : k0_pay4 (F := Ideal) a b c d i = delta (d i) (a i) (b i) (c i) := by
  unfold delta newM newV; pointwise [k0_pay4, k0_pay3, k0_pay2, k0_pay1]

variable (m : (ℓ : Loc nD τ sig) → Buf (Elt Ideal) ℓ) (c : Dev nD)
abbrev w := m ((c.tc : Thread nD τ).loc main_arg0)
abbrev g := m ((c.tc : Thread nD τ).loc main_arg1)
abbrev μ := m ((c.tc : Thread nD τ).loc main_arg2)
abbrev v := m ((c.tc : Thread nD τ).loc main_arg3)
abbrev h := shapeCasts_S2x1024x768_S2048x768

/-- The four arguments as the call reads them. -/
theorem args : V m c main_v0 = (fun i => shapeCast S2048x768 (w m c) h i) ∧ V m c main_v1 = (fun i => shapeCast S2048x768 (g m c) h i) ∧ V m c main_v2 = (fun i => shapeCast S2048x768 (μ m c) h i) ∧ V m c main_v3 = (fun i => shapeCast S2048x768 (v m c) h i) := by
  refine ⟨?_, ?_, ?_, ?_⟩ <;> (unfold_abbrev_sides; after_reads_at; rfl)

theorem arrs : (dats m 0 c).arrAt 4 cfg0.N = deltas h (w m c) (g m c) (μ m c) (v m c) ∧ (dats m 0 c).arrAt 5 cfg0.N = newMs h (g m c) (μ m c)
    ∧ (dats m 0 c).arrAt 6 cfg0.N = newVs h (g m c) (v m c) ∧ (dats m 0 c).arrAt 7 cfg0.N = (fun i => shapeCast S2048x768 (g m c) h i) := by
  have ld (x : FVec Ideal S256x768 .f32) : View.ld (Val := Elt Ideal) (e' := .f32) x r0_0 = x := View.ld_unit_lit _ _ (by decide)
  obtain ⟨e0, e1, e2, e3⟩ := args m c
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp
  all_goals
    have i0 : (iblk m c 0 t : FVec Ideal S256x768 .f32) y = _ := congrFun e0 ((win0_4.blk t).view.emb y)
    have i1 : (iblk m c 1 t : FVec Ideal S256x768 .f32) y = _ := congrFun e1 ((win0_4.blk t).view.emb y)
    have i2 : (iblk m c 2 t : FVec Ideal S256x768 .f32) y = _ := congrFun e2 ((win0_4.blk t).view.emb y)
    have i3 : (iblk m c 3 t : FVec Ideal S256x768 .f32) y = _ := congrFun e3 ((win0_4.blk t).view.emb y)
  · rw [after0_4]; unfold out0_4
    rw [View.canon_cons_unit_lit _ _ _ (by decide), pay_w, ld, ld, ld, ld, i0, i1, i2, i3]; rfl
  · rw [after0_5]; unfold out0_5
    rw [View.canon_cons_unit_lit _ _ _ (by decide), pay_m, ld, ld, i1, i2]; rfl
  · rw [after0_6]; unfold out0_6
    rw [View.canon_cons_unit_lit _ _ _ (by decide), pay_v, ld, ld, i1, i3]; rfl
  · rw [after0_7]; unfold out0_7
    rw [View.canon_cons_unit_lit _ _ _ (by decide), pay_g, ld, i1]; rfl

end Cert.Kernel17Ideal.Tile

namespace Cert.Kernel18Ideal.Tile
open Cert.Kernel18Ideal Cert.Kernel18Ideal.Gen Idealize.ShloMosaic Idealize.ShloMosaic.TcCoe Idealize.SL.Sem Cert.Adam

theorem pay_g (a : FVec Ideal S256x1024 .f32) (i) : k0_pay1 (F := Ideal) a i = a i := by pointwise [k0_pay1]
theorem pay_m (a b : FVec Ideal S256x1024 .f32) (i) : k0_pay2 (F := Ideal) a b i = newM (a i) (b i) := by
  unfold newM; pointwise [k0_pay2, k0_pay1]
theorem pay_v (a b : FVec Ideal S256x1024 .f32) (i) : k0_pay3 (F := Ideal) a b i = newV (a i) (b i) := by
  unfold newV; pointwise [k0_pay3, k0_pay1]
theorem pay_w (a b c d : FVec Ideal S256x1024 .f32) (i) : k0_pay4 (F := Ideal) a b c d i = delta (d i) (a i) (b i) (c i) := by
  unfold delta newM newV; pointwise [k0_pay4, k0_pay3, k0_pay2, k0_pay1]

variable (m : (ℓ : Loc nD τ sig) → Buf (Elt Ideal) ℓ) (c : Dev nD)
abbrev w := m ((c.tc : Thread nD τ).loc main_arg0)
abbrev g := m ((c.tc : Thread nD τ).loc main_arg1)
abbrev μ := m ((c.tc : Thread nD τ).loc main_arg2)
abbrev v := m ((c.tc : Thread nD τ).loc main_arg3)
abbrev h := shapeCasts_S2x256x1024_S512x1024

/-- The four arguments as the call reads them. -/
theorem args : V m c main_v0 = (fun i => shapeCast S512x1024 (w m c) h i) ∧ V m c main_v1 = (fun i => shapeCast S512x1024 (g m c) h i) ∧ V m c main_v2 = (fun i => shapeCast S512x1024 (μ m c) h i) ∧ V m c main_v3 = (fun i => shapeCast S512x1024 (v m c) h i) := by
  refine ⟨?_, ?_, ?_, ?_⟩ <;> (unfold_abbrev_sides; after_reads_at; rfl)

theorem arrs : (dats m 0 c).arrAt 4 cfg0.N = deltas h (w m c) (g m c) (μ m c) (v m c) ∧ (dats m 0 c).arrAt 5 cfg0.N = newMs h (g m c) (μ m c)
    ∧ (dats m 0 c).arrAt 6 cfg0.N = newVs h (g m c) (v m c) ∧ (dats m 0 c).arrAt 7 cfg0.N = (fun i => shapeCast S512x1024 (g m c) h i) := by
  have ld (x : FVec Ideal S256x1024 .f32) : View.ld (Val := Elt Ideal) (e' := .f32) x r0_0 = x := View.ld_unit_lit _ _ (by decide)
  obtain ⟨e0, e1, e2, e3⟩ := args m c
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp
  all_goals
    have i0 : (iblk m c 0 t : FVec Ideal S256x1024 .f32) y = _ := congrFun e0 ((win0_4.blk t).view.emb y)
    have i1 : (iblk m c 1 t : FVec Ideal S256x1024 .f32) y = _ := congrFun e1 ((win0_4.blk t).view.emb y)
    have i2 : (iblk m c 2 t : FVec Ideal S256x1024 .f32) y = _ := congrFun e2 ((win0_4.blk t).view.emb y)
    have i3 : (iblk m c 3 t : FVec Ideal S256x1024 .f32) y = _ := congrFun e3 ((win0_4.blk t).view.emb y)
  · rw [after0_4]; unfold out0_4
    rw [View.canon_cons_unit_lit _ _ _ (by decide), pay_w, ld, ld, ld, ld, i0, i1, i2, i3]; rfl
  · rw [after0_5]; unfold out0_5
    rw [View.canon_cons_unit_lit _ _ _ (by decide), pay_m, ld, ld, i1, i2]; rfl
  · rw [after0_6]; unfold out0_6
    rw [View.canon_cons_unit_lit _ _ _ (by decide), pay_v, ld, ld, i1, i3]; rfl
  · rw [after0_7]; unfold out0_7
    rw [View.canon_cons_unit_lit _ _ _ (by decide), pay_g, ld, i1]; rfl

end Cert.Kernel18Ideal.Tile

namespace Cert.Kernel22Ideal.Tile
open Cert.Kernel22Ideal Cert.Kernel22Ideal.Gen Idealize.ShloMosaic Idealize.ShloMosaic.TcCoe Idealize.SL.Sem Cert.Adam

theorem pay_m (a b : FVec Ideal S12x256 .f32) (i) : k0_pay2 (F := Ideal) a b i = newM (a i) (b i) := by
  unfold newM; pointwise [k0_pay2, k0_pay1]
theorem pay_v (a b : FVec Ideal S12x256 .f32) (i) : k0_pay3 (F := Ideal) a b i = newV (a i) (b i) := by
  unfold newV; pointwise [k0_pay3, k0_pay1]
theorem pay_w (a b c d : FVec Ideal S12x256 .f32) (i) : k0_pay4 (F := Ideal) a b c d i = delta (d i) (a i) (b i) (c i) := by
  unfold delta newM newV; pointwise [k0_pay4, k0_pay3, k0_pay2, k0_pay1]

variable (m : (ℓ : Loc nD τ sig) → Buf (Elt Ideal) ℓ) (c : Dev nD)
abbrev w := m ((c.tc : Thread nD τ).loc main_arg0)
abbrev g := m ((c.tc : Thread nD τ).loc main_arg1)
abbrev μ := m ((c.tc : Thread nD τ).loc main_arg2)
abbrev v := m ((c.tc : Thread nD τ).loc main_arg3)
abbrev h := shapeCasts_S4x3x256_S12x256

/-- The four arguments as the call reads them. -/
theorem args : V m c main_v0 = (fun i => shapeCast S12x256 (w m c) h i) ∧ V m c main_v1 = (fun i => shapeCast S12x256 (g m c) h i) ∧ V m c main_v2 = (fun i => shapeCast S12x256 (μ m c) h i) ∧ V m c main_v3 = (fun i => shapeCast S12x256 (v m c) h i) := by
  refine ⟨?_, ?_, ?_, ?_⟩ <;> (unfold_abbrev_sides; after_reads_at; rfl)

theorem arrs : (dats m 0 c).arrAt 4 cfg0.N = deltas h (w m c) (g m c) (μ m c) (v m c) ∧ (dats m 0 c).arrAt 5 cfg0.N = newMs h (g m c) (μ m c)
    ∧ (dats m 0 c).arrAt 6 cfg0.N = newVs h (g m c) (v m c) := by
  have ld (x : FVec Ideal S12x256 .f32) : View.ld (Val := Elt Ideal) (e' := .f32) x r0_0 = x := View.ld_unit_lit _ _ (by decide)
  obtain ⟨e0, e1, e2, e3⟩ := args m c
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩ <;> blk_simp
  all_goals
    have i0 : (iblk m c 0 t : FVec Ideal S12x256 .f32) y = _ := congrFun e0 ((win0_4.blk t).view.emb y)
    have i1 : (iblk m c 1 t : FVec Ideal S12x256 .f32) y = _ := congrFun e1 ((win0_4.blk t).view.emb y)
    have i2 : (iblk m c 2 t : FVec Ideal S12x256 .f32) y = _ := congrFun e2 ((win0_4.blk t).view.emb y)
    have i3 : (iblk m c 3 t : FVec Ideal S12x256 .f32) y = _ := congrFun e3 ((win0_4.blk t).view.emb y)
  · rw [after0_4]; unfold out0_4
    rw [View.canon_cons_unit_lit _ _ _ (by decide), pay_w, ld, ld, ld, ld, i0, i1, i2, i3]; rfl
  · rw [after0_5]; unfold out0_5
    rw [View.canon_cons_unit_lit _ _ _ (by decide), pay_m, ld, ld, i1, i2]; rfl
  · rw [after0_6]; unfold out0_6
    rw [View.canon_cons_unit_lit _ _ _ (by decide), pay_v, ld, ld, i1, i3]; rfl

end Cert.Kernel22Ideal.Tile

namespace Cert.Kernel25Ideal.Tile
open Cert.Kernel25Ideal Cert.Kernel25Ideal.Gen Idealize.ShloMosaic Idealize.ShloMosaic.TcCoe Idealize.SL.Sem Cert.Adam

theorem pay_m (a b : FVec Ideal S6x256 .f32) (i) : k0_pay2 (F := Ideal) a b i = newM (a i) (b i) := by
  unfold newM; pointwise [k0_pay2, k0_pay1]
theorem pay_v (a b : FVec Ideal S6x256 .f32) (i) : k0_pay3 (F := Ideal) a b i = newV (a i) (b i) := by
  unfold newV; pointwise [k0_pay3, k0_pay1]
theorem pay_w (a b c d : FVec Ideal S6x256 .f32) (i) : k0_pay4 (F := Ideal) a b c d i = delta (d i) (a i) (b i) (c i) := by
  unfold delta newM newV; pointwise [k0_pay4, k0_pay3, k0_pay2, k0_pay1]

variable (m : (ℓ : Loc nD τ sig) → Buf (Elt Ideal) ℓ) (c : Dev nD)
abbrev w := m ((c.tc : Thread nD τ).loc main_arg0)
abbrev g := m ((c.tc : Thread nD τ).loc main_arg1)
abbrev μ := m ((c.tc : Thread nD τ).loc main_arg2)
abbrev v := m ((c.tc : Thread nD τ).loc main_arg3)
abbrev h := shapeCasts_S2x3x256_S6x256

/-- The four arguments as the call reads them. -/
theorem args : V m c main_v0 = (fun i => shapeCast S6x256 (w m c) h i) ∧ V m c main_v1 = (fun i => shapeCast S6x256 (g m c) h i) ∧ V m c main_v2 = (fun i => shapeCast S6x256 (μ m c) h i) ∧ V m c main_v3 = (fun i => shapeCast S6x256 (v m c) h i) := by
  refine ⟨?_, ?_, ?_, ?_⟩ <;> (unfold_abbrev_sides; after_reads_at; rfl)

theorem arrs : (dats m 0 c).arrAt 4 cfg0.N = deltas h (w m c) (g m c) (μ m c) (v m c) ∧ (dats m 0 c).arrAt 5 cfg0.N = newMs h (g m c) (μ m c)
    ∧ (dats m 0 c).arrAt 6 cfg0.N = newVs h (g m c) (v m c) := by
  have ld (x : FVec Ideal S6x256 .f32) : View.ld (Val := Elt Ideal) (e' := .f32) x r0_0 = x := View.ld_unit_lit _ _ (by decide)
  obtain ⟨e0, e1, e2, e3⟩ := args m c
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩ <;> blk_simp
  all_goals
    have i0 : (iblk m c 0 t : FVec Ideal S6x256 .f32) y = _ := congrFun e0 ((win0_4.blk t).view.emb y)
    have i1 : (iblk m c 1 t : FVec Ideal S6x256 .f32) y = _ := congrFun e1 ((win0_4.blk t).view.emb y)
    have i2 : (iblk m c 2 t : FVec Ideal S6x256 .f32) y = _ := congrFun e2 ((win0_4.blk t).view.emb y)
    have i3 : (iblk m c 3 t : FVec Ideal S6x256 .f32) y = _ := congrFun e3 ((win0_4.blk t).view.emb y)
  · rw [after0_4]; unfold out0_4
    rw [View.canon_cons_unit_lit _ _ _ (by decide), pay_w, ld, ld, ld, ld, i0, i1, i2, i3]; rfl
  · rw [after0_5]; unfold out0_5
    rw [View.canon_cons_unit_lit _ _ _ (by decide), pay_m, ld, ld, i1, i2]; rfl
  · rw [after0_6]; unfold out0_6
    rw [View.canon_cons_unit_lit _ _ _ (by decide), pay_v, ld, ld, i1, i3]; rfl

end Cert.Kernel25Ideal.Tile

namespace Cert.Proof

open Idealize.ShloMosaic Idealize.ShloMosaic.TcCoe Idealize.SL.Sem Cert.Adam

theorem frame_k17 : Cert.quiescent_Kernel17 := fun m ρ _ => Cert.Kernel17.Gen.frame m ρ
theorem frame_i17 : Cert.quiescent_Kernel17Ideal := fun m ρ _ => Cert.Kernel17Ideal.Gen.frame m ρ
theorem frame_r17 : Cert.quiescent_Reference17Ideal := fun m ρ _ =>
  (θ_run Cert.Reference17Ideal.defs _ _).mono (fun r h => ⟨fun c => (h c).2.2.2.2, sem_eq_zero_of_no_sems (by decide) r.2⟩) (Cert.Reference17Ideal.Value.run (F := Ideal) m ρ)

theorem algebraic17 : Cert.algebraic_Kernel17Ideal_Reference17Ideal := by
  intro m ρ m' ρ' _ hag
  refine ⟨fun c => deltas Cert.Kernel17Ideal.Tile.h (Cert.Kernel17Ideal.Tile.w m c) (Cert.Kernel17Ideal.Tile.g m c) (Cert.Kernel17Ideal.Tile.μ m c) (Cert.Kernel17Ideal.Tile.v m c), fun c => newMs Cert.Kernel17Ideal.Tile.h (Cert.Kernel17Ideal.Tile.g m c) (Cert.Kernel17Ideal.Tile.μ m c), fun c => newVs Cert.Kernel17Ideal.Tile.h (Cert.Kernel17Ideal.Tile.g m c) (Cert.Kernel17Ideal.Tile.v m c), fun c => fun i => shapeCast _ (Cert.Kernel17Ideal.Tile.g m c) Cert.Kernel17Ideal.Tile.h i, ?_, ?_⟩
  · refine (θ_run Cert.Kernel17Ideal.defs _ _).mono (fun r h c => ?_) (Cert.Kernel17Ideal.Value.run_blocks (F := Ideal) m ρ)
    obtain ⟨h0, h1, h2, h3, hk⟩ := h c
    obtain ⟨eh0, eh1, eh2, eh3⟩ := Cert.Kernel17Ideal.Tile.arrs m c
    exact ⟨h0.trans eh0, h1.trans eh1, h2.trans eh2, h3.trans eh3, hk⟩
  · refine (θ_run Cert.Reference17Ideal.defs _ _).mono (fun r h c => ?_) (Cert.Reference17Ideal.Value.run (F := Ideal) m' ρ')
    obtain ⟨h0, h1, h2, h3, hk⟩ := h c
    obtain ⟨a0, a1, a2, a3⟩ := hag c
    refine ⟨h0.trans ((Cert.Reference17Ideal.Read.val_main_v24_eq _ _ _ _).trans ?_), h1.trans ((Cert.Reference17Ideal.Read.val_main_v25_eq _ _).trans ?_), h2.trans ((Cert.Reference17Ideal.Read.val_main_v26_eq _ _).trans ?_), h3.trans ((Cert.Reference17Ideal.Read.val_main_v27_eq _).trans ?_), hk⟩
    · rw [a0, a1, a2, a3]; rfl
    · rw [a1, a2]; rfl
    · rw [a1, a3]; rfl
    · rw [a1]; rfl

theorem frame_k18 : Cert.quiescent_Kernel18 := fun m ρ _ => Cert.Kernel18.Gen.frame m ρ
theorem frame_i18 : Cert.quiescent_Kernel18Ideal := fun m ρ _ => Cert.Kernel18Ideal.Gen.frame m ρ
theorem frame_r18 : Cert.quiescent_Reference18Ideal := fun m ρ _ =>
  (θ_run Cert.Reference18Ideal.defs _ _).mono (fun r h => ⟨fun c => (h c).2.2.2.2, sem_eq_zero_of_no_sems (by decide) r.2⟩) (Cert.Reference18Ideal.Value.run (F := Ideal) m ρ)

theorem algebraic18 : Cert.algebraic_Kernel18Ideal_Reference18Ideal := by
  intro m ρ m' ρ' _ hag
  refine ⟨fun c => deltas Cert.Kernel18Ideal.Tile.h (Cert.Kernel18Ideal.Tile.w m c) (Cert.Kernel18Ideal.Tile.g m c) (Cert.Kernel18Ideal.Tile.μ m c) (Cert.Kernel18Ideal.Tile.v m c), fun c => newMs Cert.Kernel18Ideal.Tile.h (Cert.Kernel18Ideal.Tile.g m c) (Cert.Kernel18Ideal.Tile.μ m c), fun c => newVs Cert.Kernel18Ideal.Tile.h (Cert.Kernel18Ideal.Tile.g m c) (Cert.Kernel18Ideal.Tile.v m c), fun c => fun i => shapeCast _ (Cert.Kernel18Ideal.Tile.g m c) Cert.Kernel18Ideal.Tile.h i, ?_, ?_⟩
  · refine (θ_run Cert.Kernel18Ideal.defs _ _).mono (fun r h c => ?_) (Cert.Kernel18Ideal.Value.run_blocks (F := Ideal) m ρ)
    obtain ⟨h0, h1, h2, h3, hk⟩ := h c
    obtain ⟨eh0, eh1, eh2, eh3⟩ := Cert.Kernel18Ideal.Tile.arrs m c
    exact ⟨h0.trans eh0, h1.trans eh1, h2.trans eh2, h3.trans eh3, hk⟩
  · refine (θ_run Cert.Reference18Ideal.defs _ _).mono (fun r h c => ?_) (Cert.Reference18Ideal.Value.run (F := Ideal) m' ρ')
    obtain ⟨h0, h1, h2, h3, hk⟩ := h c
    obtain ⟨a0, a1, a2, a3⟩ := hag c
    refine ⟨h0.trans ((Cert.Reference18Ideal.Read.val_main_v24_eq _ _ _ _).trans ?_), h1.trans ((Cert.Reference18Ideal.Read.val_main_v25_eq _ _).trans ?_), h2.trans ((Cert.Reference18Ideal.Read.val_main_v26_eq _ _).trans ?_), h3.trans ((Cert.Reference18Ideal.Read.val_main_v27_eq _).trans ?_), hk⟩
    · rw [a0, a1, a2, a3]; rfl
    · rw [a1, a2]; rfl
    · rw [a1, a3]; rfl
    · rw [a1]; rfl

theorem frame_k22 : Cert.quiescent_Kernel22 := fun m ρ _ => Cert.Kernel22.Gen.frame m ρ
theorem frame_i22 : Cert.quiescent_Kernel22Ideal := fun m ρ _ => Cert.Kernel22Ideal.Gen.frame m ρ
theorem frame_r22 : Cert.quiescent_Reference22Ideal := fun m ρ _ =>
  (θ_run Cert.Reference22Ideal.defs _ _).mono (fun r h => ⟨fun c => (h c).2.2.2, sem_eq_zero_of_no_sems (by decide) r.2⟩) (Cert.Reference22Ideal.Value.run (F := Ideal) m ρ)

theorem algebraic22 : Cert.algebraic_Kernel22Ideal_Reference22Ideal := by
  intro m ρ m' ρ' _ hag
  refine ⟨fun c => deltas Cert.Kernel22Ideal.Tile.h (Cert.Kernel22Ideal.Tile.w m c) (Cert.Kernel22Ideal.Tile.g m c) (Cert.Kernel22Ideal.Tile.μ m c) (Cert.Kernel22Ideal.Tile.v m c), fun c => newMs Cert.Kernel22Ideal.Tile.h (Cert.Kernel22Ideal.Tile.g m c) (Cert.Kernel22Ideal.Tile.μ m c), fun c => newVs Cert.Kernel22Ideal.Tile.h (Cert.Kernel22Ideal.Tile.g m c) (Cert.Kernel22Ideal.Tile.v m c), ?_, ?_⟩
  · refine (θ_run Cert.Kernel22Ideal.defs _ _).mono (fun r h c => ?_) (Cert.Kernel22Ideal.Value.run_blocks (F := Ideal) m ρ)
    obtain ⟨h0, h1, h2, hk⟩ := h c
    obtain ⟨eh0, eh1, eh2⟩ := Cert.Kernel22Ideal.Tile.arrs m c
    exact ⟨h0.trans eh0, h1.trans eh1, h2.trans eh2, hk⟩
  · refine (θ_run Cert.Reference22Ideal.defs _ _).mono (fun r h c => ?_) (Cert.Reference22Ideal.Value.run (F := Ideal) m' ρ')
    obtain ⟨h0, h1, h2, hk⟩ := h c
    obtain ⟨a0, a1, a2, a3⟩ := hag c
    refine ⟨h0.trans ((Cert.Reference22Ideal.Read.val_main_v24_eq _ _ _ _).trans ?_), h1.trans ((Cert.Reference22Ideal.Read.val_main_v25_eq _ _).trans ?_), h2.trans ((Cert.Reference22Ideal.Read.val_main_v26_eq _ _).trans ?_), hk⟩
    · rw [a0, a1, a2, a3]; rfl
    · rw [a1, a2]; rfl
    · rw [a1, a3]; rfl

theorem frame_k25 : Cert.quiescent_Kernel25 := fun m ρ _ => Cert.Kernel25.Gen.frame m ρ
theorem frame_i25 : Cert.quiescent_Kernel25Ideal := fun m ρ _ => Cert.Kernel25Ideal.Gen.frame m ρ
theorem frame_r25 : Cert.quiescent_Reference25Ideal := fun m ρ _ =>
  (θ_run Cert.Reference25Ideal.defs _ _).mono (fun r h => ⟨fun c => (h c).2.2.2, sem_eq_zero_of_no_sems (by decide) r.2⟩) (Cert.Reference25Ideal.Value.run (F := Ideal) m ρ)

theorem algebraic25 : Cert.algebraic_Kernel25Ideal_Reference25Ideal := by
  intro m ρ m' ρ' _ hag
  refine ⟨fun c => deltas Cert.Kernel25Ideal.Tile.h (Cert.Kernel25Ideal.Tile.w m c) (Cert.Kernel25Ideal.Tile.g m c) (Cert.Kernel25Ideal.Tile.μ m c) (Cert.Kernel25Ideal.Tile.v m c), fun c => newMs Cert.Kernel25Ideal.Tile.h (Cert.Kernel25Ideal.Tile.g m c) (Cert.Kernel25Ideal.Tile.μ m c), fun c => newVs Cert.Kernel25Ideal.Tile.h (Cert.Kernel25Ideal.Tile.g m c) (Cert.Kernel25Ideal.Tile.v m c), ?_, ?_⟩
  · refine (θ_run Cert.Kernel25Ideal.defs _ _).mono (fun r h c => ?_) (Cert.Kernel25Ideal.Value.run_blocks (F := Ideal) m ρ)
    obtain ⟨h0, h1, h2, hk⟩ := h c
    obtain ⟨eh0, eh1, eh2⟩ := Cert.Kernel25Ideal.Tile.arrs m c
    exact ⟨h0.trans eh0, h1.trans eh1, h2.trans eh2, hk⟩
  · refine (θ_run Cert.Reference25Ideal.defs _ _).mono (fun r h c => ?_) (Cert.Reference25Ideal.Value.run (F := Ideal) m' ρ')
    obtain ⟨h0, h1, h2, hk⟩ := h c
    obtain ⟨a0, a1, a2, a3⟩ := hag c
    refine ⟨h0.trans ((Cert.Reference25Ideal.Read.val_main_v24_eq _ _ _ _).trans ?_), h1.trans ((Cert.Reference25Ideal.Read.val_main_v25_eq _ _).trans ?_), h2.trans ((Cert.Reference25Ideal.Read.val_main_v26_eq _ _).trans ?_), hk⟩
    · rw [a0, a1, a2, a3]; rfl
    · rw [a1, a2]; rfl
    · rw [a1, a3]; rfl

end Cert.Proof
-- ==== Proof.AdamAttn.lean ====
module

public import proofs.«01_k».proof.Defs
public import proofs.«01_k».proof.Proof.Adam
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Read
public import proofs.«01_k».proof.Proof.Gen.Reference19Ideal.Run
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Read
public import proofs.«01_k».proof.Proof.Gen.Reference20Ideal.Run
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Read
public import proofs.«01_k».proof.Proof.Gen.Reference21Ideal.Run

@[expose] public section

set_option maxRecDepth 16384

noncomputable section

/-! The optimiser on the weights of the attention layers. -/

namespace Cert.Kernel19Ideal.Tile
open Cert.Kernel19Ideal Cert.Kernel19Ideal.Gen Idealize.ShloMosaic Idealize.ShloMosaic.TcCoe Idealize.SL.Sem Cert.Adam

theorem pay_m (a b : FVec Ideal S256x768 .f32) (i) : k0_pay1 (F := Ideal) a b i = newM (a i) (b i) := by
  unfold newM; pointwise [k0_pay1]
theorem pay_v (a b : FVec Ideal S256x768 .f32) (i) : k0_pay2 (F := Ideal) a b i = newV (a i) (b i) := by
  unfold newV; pointwise [k0_pay2]
theorem pay_w (a b c d : FVec Ideal S256x768 .f32) (i) : k0_pay3 (F := Ideal) a b c d i = delta (d i) (a i) (b i) (c i) := by
  unfold delta newM newV; pointwise [k0_pay3, k0_pay2, k0_pay1]

variable (m : (ℓ : Loc nD τ sig) → Buf (Elt Ideal) ℓ) (c : Dev nD)
abbrev w := m ((c.tc : Thread nD τ).loc main_arg0)
abbrev g := m ((c.tc : Thread nD τ).loc main_arg1)
abbrev μ := m ((c.tc : Thread nD τ).loc main_arg2)
abbrev v := m ((c.tc : Thread nD τ).loc main_arg3)

/-- The four arguments as the call reads them. -/
theorem args : V m c main_arg0 = w m c ∧ V m c main_arg1 = g m c ∧ V m c main_arg2 = μ m c ∧ V m c main_arg3 = v m c := by
  refine ⟨?_, ?_, ?_, ?_⟩ <;> rfl

theorem arrs : (dats m 0 c).arrAt 4 cfg0.N = deltas2 (w m c) (g m c) (μ m c) (v m c) ∧ (dats m 0 c).arrAt 5 cfg0.N = newMs2 (g m c) (μ m c)
    ∧ (dats m 0 c).arrAt 6 cfg0.N = newVs2 (g m c) (v m c) ∧ (dats m 0 c).arrAt 7 cfg0.N = g m c := by
  have ld (x : FVec Ideal S256x768 .f32) : View.ld (Val := Elt Ideal) (e' := .f32) x r0_0 = x := View.ld_unit_lit _ _ (by decide)
  obtain ⟨e0, e1, e2, e3⟩ := args m c
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp
  all_goals
    have i0 : (iblk m c 0 t : FVec Ideal S256x768 .f32) y = _ := congrFun e0 ((win0_4.blk t).view.emb y)
    have i1 : (iblk m c 1 t : FVec Ideal S256x768 .f32) y = _ := congrFun e1 ((win0_4.blk t).view.emb y)
    have i2 : (iblk m c 2 t : FVec Ideal S256x768 .f32) y = _ := congrFun e2 ((win0_4.blk t).view.emb y)
    have i3 : (iblk m c 3 t : FVec Ideal S256x768 .f32) y = _ := congrFun e3 ((win0_4.blk t).view.emb y)
  · rw [after0_4]; unfold out0_4
    rw [View.canon_cons_unit_lit _ _ _ (by decide), pay_w, ld, ld, ld, ld, i0, i1, i2, i3]; rfl
  · rw [after0_5]; unfold out0_5
    rw [View.canon_cons_unit_lit _ _ _ (by decide), pay_m, ld, ld, i1, i2]; rfl
  · rw [after0_6]; unfold out0_6
    rw [View.canon_cons_unit_lit _ _ _ (by decide), pay_v, ld, ld, i1, i3]; rfl
  · rw [after0_7]; unfold out0_7
    rw [View.canon_cons_unit_lit _ _ _ (by decide), ld, i1]; rfl

end Cert.Kernel19Ideal.Tile

namespace Cert.Kernel20Ideal.Tile
open Cert.Kernel20Ideal Cert.Kernel20Ideal.Gen Idealize.ShloMosaic Idealize.ShloMosaic.TcCoe Idealize.SL.Sem Cert.Adam

theorem pay_g (a : FVec Ideal S256x384 .f32) (i) : k0_pay1 (F := Ideal) a i = a i := by pointwise [k0_pay1]
theorem pay_m (a b : FVec Ideal S256x384 .f32) (i) : k0_pay2 (F := Ideal) a b i = newM (a i) (b i) := by
  unfold newM; pointwise [k0_pay2, k0_pay1]
theorem pay_v (a b : FVec Ideal S256x384 .f32) (i) : k0_pay3 (F := Ideal) a b i = newV (a i) (b i) := by
  unfold newV; pointwise [k0_pay3, k0_pay1]
theorem pay_w (a b c d : FVec Ideal S256x384 .f32) (i) : k0_pay4 (F := Ideal) a b c d i = delta (d i) (a i) (b i) (c i) := by
  unfold delta newM newV; pointwise [k0_pay4, k0_pay3, k0_pay2, k0_pay1]

variable (m : (ℓ : Loc nD τ sig) → Buf (Elt Ideal) ℓ) (c : Dev nD)
abbrev w := m ((c.tc : Thread nD τ).loc main_arg0)
abbrev g := m ((c.tc : Thread nD τ).loc main_arg1)
abbrev μ := m ((c.tc : Thread nD τ).loc main_arg2)
abbrev v := m ((c.tc : Thread nD τ).loc main_arg3)
abbrev h := shapeCasts_S2x1024x384_S2048x384

/-- The four arguments as the call reads them. -/
theorem args : V m c main_v0 = (fun i => shapeCast S2048x384 (w m c) h i) ∧ V m c main_v1 = (fun i => shapeCast S2048x384 (g m c) h i) ∧ V m c main_v2 = (fun i => shapeCast S2048x384 (μ m c) h i) ∧ V m c main_v3 = (fun i => shapeCast S2048x384 (v m c) h i) := by
  refine ⟨?_, ?_, ?_, ?_⟩ <;> (unfold_abbrev_sides; after_reads_at; rfl)

theorem arrs : (dats m 0 c).arrAt 4 cfg0.N = deltas h (w m c) (g m c) (μ m c) (v m c) ∧ (dats m 0 c).arrAt 5 cfg0.N = newMs h (g m c) (μ m c)
    ∧ (dats m 0 c).arrAt 6 cfg0.N = newVs h (g m c) (v m c) ∧ (dats m 0 c).arrAt 7 cfg0.N = (fun i => shapeCast S2048x384 (g m c) h i) := by
  have ld (x : FVec Ideal S256x384 .f32) : View.ld (Val := Elt Ideal) (e' := .f32) x r0_0 = x := View.ld_unit_lit _ _ (by decide)
  obtain ⟨e0, e1, e2, e3⟩ := args m c
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp
  all_goals
    have i0 : (iblk m c 0 t : FVec Ideal S256x384 .f32) y = _ := congrFun e0 ((win0_4.blk t).view.emb y)
    have i1 : (iblk m c 1 t : FVec Ideal S256x384 .f32) y = _ := congrFun e1 ((win0_4.blk t).view.emb y)
    have i2 : (iblk m c 2 t : FVec Ideal S256x384 .f32) y = _ := congrFun e2 ((win0_4.blk t).view.emb y)
    have i3 : (iblk m c 3 t : FVec Ideal S256x384 .f32) y = _ := congrFun e3 ((win0_4.blk t).view.emb y)
  · rw [after0_4]; unfold out0_4
    rw [View.canon_cons_unit_lit _ _ _ (by decide), pay_w, ld, ld, ld, ld, i0, i1, i2, i3]; rfl
  · rw [after0_5]; unfold out0_5
    rw [View.canon_cons_unit_lit _ _ _ (by decide), pay_m, ld, ld, i1, i2]; rfl
  · rw [after0_6]; unfold out0_6
    rw [View.canon_cons_unit_lit _ _ _ (by decide), pay_v, ld, ld, i1, i3]; rfl
  · rw [after0_7]; unfold out0_7
    rw [View.canon_cons_unit_lit _ _ _ (by decide), pay_g, ld, i1]; rfl

end Cert.Kernel20Ideal.Tile

namespace Cert.Kernel21Ideal.Tile
open Cert.Kernel21Ideal Cert.Kernel21Ideal.Gen Idealize.ShloMosaic Idealize.ShloMosaic.TcCoe Idealize.SL.Sem Cert.Adam

theorem pay_g (a : FVec Ideal S256x256 .f32) (i) : k0_pay1 (F := Ideal) a i = a i := by pointwise [k0_pay1]
theorem pay_m (a b : FVec Ideal S256x256 .f32) (i) : k0_pay2 (F := Ideal) a b i = newM (a i) (b i) := by
  unfold newM; pointwise [k0_pay2, k0_pay1]
theorem pay_v (a b : FVec Ideal S256x256 .f32) (i) : k0_pay3 (F := Ideal) a b i = newV (a i) (b i) := by
  unfold newV; pointwise [k0_pay3, k0_pay1]
theorem pay_w (a b c d : FVec Ideal S256x256 .f32) (i) : k0_pay4 (F := Ideal) a b c d i = delta (d i) (a i) (b i) (c i) := by
  unfold delta newM newV; pointwise [k0_pay4, k0_pay3, k0_pay2, k0_pay1]

variable (m : (ℓ : Loc nD τ sig) → Buf (Elt Ideal) ℓ) (c : Dev nD)
abbrev w := m ((c.tc : Thread nD τ).loc main_arg0)
abbrev g := m ((c.tc : Thread nD τ).loc main_arg1)
abbrev μ := m ((c.tc : Thread nD τ).loc main_arg2)
abbrev v := m ((c.tc : Thread nD τ).loc main_arg3)
abbrev h := shapeCasts_S2x512x256_S1024x256

/-- The four arguments as the call reads them. -/
theorem args : V m c main_v0 = (fun i => shapeCast S1024x256 (w m c) h i) ∧ V m c main_v1 = (fun i => shapeCast S1024x256 (g m c) h i) ∧ V m c main_v2 = (fun i => shapeCast S1024x256 (μ m c) h i) ∧ V m c main_v3 = (fun i => shapeCast S1024x256 (v m c) h i) := by
  refine ⟨?_, ?_, ?_, ?_⟩ <;> (unfold_abbrev_sides; after_reads_at; rfl)

theorem arrs : (dats m 0 c).arrAt 4 cfg0.N = deltas h (w m c) (g m c) (μ m c) (v m c) ∧ (dats m 0 c).arrAt 5 cfg0.N = newMs h (g m c) (μ m c)
    ∧ (dats m 0 c).arrAt 6 cfg0.N = newVs h (g m c) (v m c) ∧ (dats m 0 c).arrAt 7 cfg0.N = (fun i => shapeCast S1024x256 (g m c) h i) := by
  have ld (x : FVec Ideal S256x256 .f32) : View.ld (Val := Elt Ideal) (e' := .f32) x r0_0 = x := View.ld_unit_lit _ _ (by decide)
  obtain ⟨e0, e1, e2, e3⟩ := args m c
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp
  all_goals
    have i0 : (iblk m c 0 t : FVec Ideal S256x256 .f32) y = _ := congrFun e0 ((win0_4.blk t).view.emb y)
    have i1 : (iblk m c 1 t : FVec Ideal S256x256 .f32) y = _ := congrFun e1 ((win0_4.blk t).view.emb y)
    have i2 : (iblk m c 2 t : FVec Ideal S256x256 .f32) y = _ := congrFun e2 ((win0_4.blk t).view.emb y)
    have i3 : (iblk m c 3 t : FVec Ideal S256x256 .f32) y = _ := congrFun e3 ((win0_4.blk t).view.emb y)
  · rw [after0_4]; unfold out0_4
    rw [View.canon_cons_unit_lit _ _ _ (by decide), pay_w, ld, ld, ld, ld, i0, i1, i2, i3]; rfl
  · rw [after0_5]; unfold out0_5
    rw [View.canon_cons_unit_lit _ _ _ (by decide), pay_m, ld, ld, i1, i2]; rfl
  · rw [after0_6]; unfold out0_6
    rw [View.canon_cons_unit_lit _ _ _ (by decide), pay_v, ld, ld, i1, i3]; rfl
  · rw [after0_7]; unfold out0_7
    rw [View.canon_cons_unit_lit _ _ _ (by decide), pay_g, ld, i1]; rfl

end Cert.Kernel21Ideal.Tile

namespace Cert.Proof

open Idealize.ShloMosaic Idealize.ShloMosaic.TcCoe Idealize.SL.Sem Cert.Adam

theorem frame_k19 : Cert.quiescent_Kernel19 := fun m ρ _ => Cert.Kernel19.Gen.frame m ρ
theorem frame_i19 : Cert.quiescent_Kernel19Ideal := fun m ρ _ => Cert.Kernel19Ideal.Gen.frame m ρ
theorem frame_r19 : Cert.quiescent_Reference19Ideal := fun m ρ _ =>
  (θ_run Cert.Reference19Ideal.defs _ _).mono (fun r h => ⟨fun c => (h c).2.2.2.2, sem_eq_zero_of_no_sems (by decide) r.2⟩) (Cert.Reference19Ideal.Value.run (F := Ideal) m ρ)

theorem algebraic19 : Cert.algebraic_Kernel19Ideal_Reference19Ideal := by
  intro m ρ m' ρ' _ hag
  refine ⟨fun c => deltas2 (Cert.Kernel19Ideal.Tile.w m c) (Cert.Kernel19Ideal.Tile.g m c) (Cert.Kernel19Ideal.Tile.μ m c) (Cert.Kernel19Ideal.Tile.v m c), fun c => newMs2 (Cert.Kernel19Ideal.Tile.g m c) (Cert.Kernel19Ideal.Tile.μ m c), fun c => newVs2 (Cert.Kernel19Ideal.Tile.g m c) (Cert.Kernel19Ideal.Tile.v m c), fun c => Cert.Kernel19Ideal.Tile.g m c, ?_, ?_⟩
  · refine (θ_run Cert.Kernel19Ideal.defs _ _).mono (fun r h c => ?_) (Cert.Kernel19Ideal.Value.run_blocks (F := Ideal) m ρ)
    obtain ⟨h0, h1, h2, h3, hk⟩ := h c
    obtain ⟨eh0, eh1, eh2, eh3⟩ := Cert.Kernel19Ideal.Tile.arrs m c
    exact ⟨h0.trans eh0, h1.trans eh1, h2.trans eh2, h3.trans eh3, hk⟩
  · refine (θ_run Cert.Reference19Ideal.defs _ _).mono (fun r h c => ?_) (Cert.Reference19Ideal.Value.run (F := Ideal) m' ρ')
    obtain ⟨h0, h1, h2, h3, hk⟩ := h c
    obtain ⟨a0, a1, a2, a3⟩ := hag c
    refine ⟨h0.trans ((Cert.Reference19Ideal.Read.val_main_v23_eq _ _ _ _).trans ?_), h1.trans ?_, h2.trans ?_, h3.trans a1, hk⟩
    · rw [a0, a1, a2, a3]; rfl
    · rw [a1, a2]; rfl
    · rw [a1, a3]; rfl

theorem frame_k20 : Cert.quiescent_Kernel20 := fun m ρ _ => Cert.Kernel20.Gen.frame m ρ
theorem frame_i20 : Cert.quiescent_Kernel20Ideal := fun m ρ _ => Cert.Kernel20Ideal.Gen.frame m ρ
theorem frame_r20 : Cert.quiescent_Reference20Ideal := fun m ρ _ =>
  (θ_run Cert.Reference20Ideal.defs _ _).mono (fun r h => ⟨fun c => (h c).2.2.2.2, sem_eq_zero_of_no_sems (by decide) r.2⟩) (Cert.Reference20Ideal.Value.run (F := Ideal) m ρ)

theorem algebraic20 : Cert.algebraic_Kernel20Ideal_Reference20Ideal := by
  intro m ρ m' ρ' _ hag
  refine ⟨fun c => deltas Cert.Kernel20Ideal.Tile.h (Cert.Kernel20Ideal.Tile.w m c) (Cert.Kernel20Ideal.Tile.g m c) (Cert.Kernel20Ideal.Tile.μ m c) (Cert.Kernel20Ideal.Tile.v m c), fun c => newMs Cert.Kernel20Ideal.Tile.h (Cert.Kernel20Ideal.Tile.g m c) (Cert.Kernel20Ideal.Tile.μ m c), fun c => newVs Cert.Kernel20Ideal.Tile.h (Cert.Kernel20Ideal.Tile.g m c) (Cert.Kernel20Ideal.Tile.v m c), fun c => fun i => shapeCast _ (Cert.Kernel20Ideal.Tile.g m c) Cert.Kernel20Ideal.Tile.h i, ?_, ?_⟩
  · refine (θ_run Cert.Kernel20Ideal.defs _ _).mono (fun r h c => ?_) (Cert.Kernel20Ideal.Value.run_blocks (F := Ideal) m ρ)
    obtain ⟨h0, h1, h2, h3, hk⟩ := h c
    obtain ⟨eh0, eh1, eh2, eh3⟩ := Cert.Kernel20Ideal.Tile.arrs m c
    exact ⟨h0.trans eh0, h1.trans eh1, h2.trans eh2, h3.trans eh3, hk⟩
  · refine (θ_run Cert.Reference20Ideal.defs _ _).mono (fun r h c => ?_) (Cert.Reference20Ideal.Value.run (F := Ideal) m' ρ')
    obtain ⟨h0, h1, h2, h3, hk⟩ := h c
    obtain ⟨a0, a1, a2, a3⟩ := hag c
    refine ⟨h0.trans ((Cert.Reference20Ideal.Read.val_main_v24_eq _ _ _ _).trans ?_), h1.trans ((Cert.Reference20Ideal.Read.val_main_v25_eq _ _).trans ?_), h2.trans ((Cert.Reference20Ideal.Read.val_main_v26_eq _ _).trans ?_), h3.trans ((Cert.Reference20Ideal.Read.val_main_v27_eq _).trans ?_), hk⟩
    · rw [a0, a1, a2, a3]; rfl
    · rw [a1, a2]; rfl
    · rw [a1, a3]; rfl
    · rw [a1]; rfl

theorem frame_k21 : Cert.quiescent_Kernel21 := fun m ρ _ => Cert.Kernel21.Gen.frame m ρ
theorem frame_i21 : Cert.quiescent_Kernel21Ideal := fun m ρ _ => Cert.Kernel21Ideal.Gen.frame m ρ
theorem frame_r21 : Cert.quiescent_Reference21Ideal := fun m ρ _ =>
  (θ_run Cert.Reference21Ideal.defs _ _).mono (fun r h => ⟨fun c => (h c).2.2.2.2, sem_eq_zero_of_no_sems (by decide) r.2⟩) (Cert.Reference21Ideal.Value.run (F := Ideal) m ρ)

theorem algebraic21 : Cert.algebraic_Kernel21Ideal_Reference21Ideal := by
  intro m ρ m' ρ' _ hag
  refine ⟨fun c => deltas Cert.Kernel21Ideal.Tile.h (Cert.Kernel21Ideal.Tile.w m c) (Cert.Kernel21Ideal.Tile.g m c) (Cert.Kernel21Ideal.Tile.μ m c) (Cert.Kernel21Ideal.Tile.v m c), fun c => newMs Cert.Kernel21Ideal.Tile.h (Cert.Kernel21Ideal.Tile.g m c) (Cert.Kernel21Ideal.Tile.μ m c), fun c => newVs Cert.Kernel21Ideal.Tile.h (Cert.Kernel21Ideal.Tile.g m c) (Cert.Kernel21Ideal.Tile.v m c), fun c => fun i => shapeCast _ (Cert.Kernel21Ideal.Tile.g m c) Cert.Kernel21Ideal.Tile.h i, ?_, ?_⟩
  · refine (θ_run Cert.Kernel21Ideal.defs _ _).mono (fun r h c => ?_) (Cert.Kernel21Ideal.Value.run_blocks (F := Ideal) m ρ)
    obtain ⟨h0, h1, h2, h3, hk⟩ := h c
    obtain ⟨eh0, eh1, eh2, eh3⟩ := Cert.Kernel21Ideal.Tile.arrs m c
    exact ⟨h0.trans eh0, h1.trans eh1, h2.trans eh2, h3.trans eh3, hk⟩
  · refine (θ_run Cert.Reference21Ideal.defs _ _).mono (fun r h c => ?_) (Cert.Reference21Ideal.Value.run (F := Ideal) m' ρ')
    obtain ⟨h0, h1, h2, h3, hk⟩ := h c
    obtain ⟨a0, a1, a2, a3⟩ := hag c
    refine ⟨h0.trans ((Cert.Reference21Ideal.Read.val_main_v24_eq _ _ _ _).trans ?_), h1.trans ((Cert.Reference21Ideal.Read.val_main_v25_eq _ _).trans ?_), h2.trans ((Cert.Reference21Ideal.Read.val_main_v26_eq _ _).trans ?_), h3.trans ((Cert.Reference21Ideal.Read.val_main_v27_eq _).trans ?_), hk⟩
    · rw [a0, a1, a2, a3]; rfl
    · rw [a1, a2]; rfl
    · rw [a1, a3]; rfl
    · rw [a1]; rfl

end Cert.Proof
-- ==== Proof.AdamAda.lean ====
module

public import proofs.«01_k».proof.Defs
public import proofs.«01_k».proof.Proof.Adam
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Read
public import proofs.«01_k».proof.Proof.Gen.Reference23Ideal.Run
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Read
public import proofs.«01_k».proof.Proof.Gen.Reference24Ideal.Run
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Read
public import proofs.«01_k».proof.Proof.Gen.Reference26Ideal.Run
public import proofs.«01_k».proof.Proof.Gen.Kernel27
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Read
public import proofs.«01_k».proof.Proof.Gen.Reference27Ideal.Run
public import proofs.«01_k».proof.Proof.Gen.Kernel28
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Read
public import proofs.«01_k».proof.Proof.Gen.Reference28Ideal.Run

@[expose] public section

set_option maxRecDepth 16384

noncomputable section

/-! The optimiser on the modulation weights, the biases and the two gains of one row. -/

namespace Cert.Kernel23Ideal.Tile
open Cert.Kernel23Ideal Cert.Kernel23Ideal.Gen Idealize.ShloMosaic Idealize.ShloMosaic.TcCoe Idealize.SL.Sem Cert.Adam

theorem pay_m (a b : FVec Ideal S256x2304 .f32) (i) : k0_pay2 (F := Ideal) a b i = newM (a i) (b i) := by
  unfold newM; pointwise [k0_pay2, k0_pay1]
theorem pay_v (a b : FVec Ideal S256x2304 .f32) (i) : k0_pay3 (F := Ideal) a b i = newV (a i) (b i) := by
  unfold newV; pointwise [k0_pay3, k0_pay1]
theorem pay_w (a b c d : FVec Ideal S256x2304 .f32) (i) : k0_pay4 (F := Ideal) a b c d i = delta (d i) (a i) (b i) (c i) := by
  unfold delta newM newV; pointwise [k0_pay4, k0_pay3, k0_pay2, k0_pay1]

variable (m : (ℓ : Loc nD τ sig) → Buf (Elt Ideal) ℓ) (c : Dev nD)
abbrev w := m ((c.tc : Thread nD τ).loc main_arg0)
abbrev g := m ((c.tc : Thread nD τ).loc main_arg1)
abbrev μ := m ((c.tc : Thread nD τ).loc main_arg2)
abbrev v := m ((c.tc : Thread nD τ).loc main_arg3)
abbrev h := shapeCasts_S4x1024x2304_S4096x2304

/-- The four arguments as the call reads them. -/
theorem args : V m c main_v0 = (fun i => shapeCast S4096x2304 (w m c) h i) ∧ V m c main_v1 = (fun i => shapeCast S4096x2304 (g m c) h i) ∧ V m c main_v2 = (fun i => shapeCast S4096x2304 (μ m c) h i) ∧ V m c main_v3 = (fun i => shapeCast S4096x2304 (v m c) h i) := by
  refine ⟨?_, ?_, ?_, ?_⟩ <;> (unfold_abbrev_sides; after_reads_at; rfl)

theorem arrs : (dats m 0 c).arrAt 4 cfg0.N = deltas h (w m c) (g m c) (μ m c) (v m c) ∧ (dats m 0 c).arrAt 5 cfg0.N = newMs h (g m c) (μ m c)
    ∧ (dats m 0 c).arrAt 6 cfg0.N = newVs h (g m c) (v m c) := by
  have ld (x : FVec Ideal S256x2304 .f32) : View.ld (Val := Elt Ideal) (e' := .f32) x r0_0 = x := View.ld_unit_lit _ _ (by decide)
  obtain ⟨e0, e1, e2, e3⟩ := args m c
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩ <;> blk_simp
  all_goals
    have i0 : (iblk m c 0 t : FVec Ideal S256x2304 .f32) y = _ := congrFun e0 ((win0_4.blk t).view.emb y)
    have i1 : (iblk m c 1 t : FVec Ideal S256x2304 .f32) y = _ := congrFun e1 ((win0_4.blk t).view.emb y)
    have i2 : (iblk m c 2 t : FVec Ideal S256x2304 .f32) y = _ := congrFun e2 ((win0_4.blk t).view.emb y)
    have i3 : (iblk m c 3 t : FVec Ideal S256x2304 .f32) y = _ := congrFun e3 ((win0_4.blk t).view.emb y)
  · rw [after0_4]; unfold out0_4
    rw [View.canon_cons_unit_lit _ _ _ (by decide), pay_w, ld, ld, ld, ld, i0, i1, i2, i3]; rfl
  · rw [after0_5]; unfold out0_5
    rw [View.canon_cons_unit_lit _ _ _ (by decide), pay_m, ld, ld, i1, i2]; rfl
  · rw [after0_6]; unfold out0_6
    rw [View.canon_cons_unit_lit _ _ _ (by decide), pay_v, ld, ld, i1, i3]; rfl

end Cert.Kernel23Ideal.Tile

namespace Cert.Kernel24Ideal.Tile
open Cert.Kernel24Ideal Cert.Kernel24Ideal.Gen Idealize.ShloMosaic Idealize.ShloMosaic.TcCoe Idealize.SL.Sem Cert.Adam

theorem pay_m (a b : FVec Ideal S4x9216 .f32) (i) : k0_pay1 (F := Ideal) a b i = newM (a i) (b i) := by
  unfold newM; pointwise [k0_pay1]
theorem pay_v (a b : FVec Ideal S4x9216 .f32) (i) : k0_pay2 (F := Ideal) a b i = newV (a i) (b i) := by
  unfold newV; pointwise [k0_pay2]
theorem pay_w (a b c d : FVec Ideal S4x9216 .f32) (i) : k0_pay3 (F := Ideal) a b c d i = delta (d i) (a i) (b i) (c i) := by
  unfold delta newM newV; pointwise [k0_pay3, k0_pay2, k0_pay1]

variable (m : (ℓ : Loc nD τ sig) → Buf (Elt Ideal) ℓ) (c : Dev nD)
abbrev w := m ((c.tc : Thread nD τ).loc main_arg0)
abbrev g := m ((c.tc : Thread nD τ).loc main_arg1)
abbrev μ := m ((c.tc : Thread nD τ).loc main_arg2)
abbrev v := m ((c.tc : Thread nD τ).loc main_arg3)

/-- The four arguments as the call reads them. -/
theorem args : V m c main_arg0 = w m c ∧ V m c main_arg1 = g m c ∧ V m c main_arg2 = μ m c ∧ V m c main_arg3 = v m c := by
  refine ⟨?_, ?_, ?_, ?_⟩ <;> rfl

theorem arrs : (dats m 0 c).arrAt 4 cfg0.N = deltas2 (w m c) (g m c) (μ m c) (v m c) ∧ (dats m 0 c).arrAt 5 cfg0.N = newMs2 (g m c) (μ m c)
    ∧ (dats m 0 c).arrAt 6 cfg0.N = newVs2 (g m c) (v m c) := by
  have ld (x : FVec Ideal S4x9216 .f32) : View.ld (Val := Elt Ideal) (e' := .f32) x r0_0 = x := View.ld_unit_lit _ _ (by decide)
  obtain ⟨e0, e1, e2, e3⟩ := args m c
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩ <;> blk_simp
  all_goals
    have i0 : (iblk m c 0 t : FVec Ideal S4x9216 .f32) y = _ := congrFun e0 ((win0_4.blk t).view.emb y)
    have i1 : (iblk m c 1 t : FVec Ideal S4x9216 .f32) y = _ := congrFun e1 ((win0_4.blk t).view.emb y)
    have i2 : (iblk m c 2 t : FVec Ideal S4x9216 .f32) y = _ := congrFun e2 ((win0_4.blk t).view.emb y)
    have i3 : (iblk m c 3 t : FVec Ideal S4x9216 .f32) y = _ := congrFun e3 ((win0_4.blk t).view.emb y)
  · rw [after0_4]; unfold out0_4
    rw [View.canon_cons_unit_lit _ _ _ (by decide), pay_w, ld, ld, ld, ld, i0, i1, i2, i3]; rfl
  · rw [after0_5]; unfold out0_5
    rw [View.canon_cons_unit_lit _ _ _ (by decide), pay_m, ld, ld, i1, i2]; rfl
  · rw [after0_6]; unfold out0_6
    rw [View.canon_cons_unit_lit _ _ _ (by decide), pay_v, ld, ld, i1, i3]; rfl

end Cert.Kernel24Ideal.Tile

namespace Cert.Kernel26Ideal.Tile
open Cert.Kernel26Ideal Cert.Kernel26Ideal.Gen Idealize.ShloMosaic Idealize.ShloMosaic.TcCoe Idealize.SL.Sem Cert.Adam

theorem pay_m (a b : FVec Ideal S1x1024 .f32) (i) : k0_pay2 (F := Ideal) a b i = newM (a i) (b i) := by
  unfold newM; pointwise [k0_pay2, k0_pay1]
theorem pay_v (a b : FVec Ideal S1x1024 .f32) (i) : k0_pay3 (F := Ideal) a b i = newV (a i) (b i) := by
  unfold newV; pointwise [k0_pay3, k0_pay1]
theorem pay_w (a b c d : FVec Ideal S1x1024 .f32) (i) : k0_pay4 (F := Ideal) a b c d i = delta (d i) (a i) (b i) (c i) := by
  unfold delta newM newV; pointwise [k0_pay4, k0_pay3, k0_pay2, k0_pay1]

variable (m : (ℓ : Loc nD τ sig) → Buf (Elt Ideal) ℓ) (c : Dev nD)
abbrev w := m ((c.tc : Thread nD τ).loc main_arg0)
abbrev g := m ((c.tc : Thread nD τ).loc main_arg1)
abbrev μ := m ((c.tc : Thread nD τ).loc main_arg2)
abbrev v := m ((c.tc : Thread nD τ).loc main_arg3)
abbrev h := shapeCasts_S1024_S1x1024

/-- The four arguments as the call reads them. -/
theorem args : V m c main_v0 = (fun i => shapeCast S1x1024 (w m c) h i) ∧ V m c main_v1 = (fun i => shapeCast S1x1024 (g m c) h i) ∧ V m c main_v2 = (fun i => shapeCast S1x1024 (μ m c) h i) ∧ V m c main_v3 = (fun i => shapeCast S1x1024 (v m c) h i) := by
  refine ⟨?_, ?_, ?_, ?_⟩ <;> (unfold_abbrev_sides; after_reads_at; rfl)

theorem arrs : (dats m 0 c).arrAt 4 cfg0.N = deltas h (w m c) (g m c) (μ m c) (v m c) ∧ (dats m 0 c).arrAt 5 cfg0.N = newMs h (g m c) (μ m c)
    ∧ (dats m 0 c).arrAt 6 cfg0.N = newVs h (g m c) (v m c) := by
  have ld (x : FVec Ideal S1x1024 .f32) : View.ld (Val := Elt Ideal) (e' := .f32) x r0_0 = x := View.ld_unit_lit _ _ (by decide)
  obtain ⟨e0, e1, e2, e3⟩ := args m c
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩ <;> blk_simp
  all_goals
    have i0 : (iblk m c 0 t : FVec Ideal S1x1024 .f32) y = _ := congrFun e0 ((win0_4.blk t).view.emb y)
    have i1 : (iblk m c 1 t : FVec Ideal S1x1024 .f32) y = _ := congrFun e1 ((win0_4.blk t).view.emb y)
    have i2 : (iblk m c 2 t : FVec Ideal S1x1024 .f32) y = _ := congrFun e2 ((win0_4.blk t).view.emb y)
    have i3 : (iblk m c 3 t : FVec Ideal S1x1024 .f32) y = _ := congrFun e3 ((win0_4.blk t).view.emb y)
  · rw [after0_4]; unfold out0_4
    rw [View.canon_cons_unit_lit _ _ _ (by decide), pay_w, ld, ld, ld, ld, i0, i1, i2, i3]; rfl
  · rw [after0_5]; unfold out0_5
    rw [View.canon_cons_unit_lit _ _ _ (by decide), pay_m, ld, ld, i1, i2]; rfl
  · rw [after0_6]; unfold out0_6
    rw [View.canon_cons_unit_lit _ _ _ (by decide), pay_v, ld, ld, i1, i3]; rfl

end Cert.Kernel26Ideal.Tile

namespace Cert.Kernel27Ideal.Tile
open Cert.Kernel27Ideal Cert.Kernel27Ideal.Gen Idealize.ShloMosaic Idealize.ShloMosaic.TcCoe Idealize.SL.Sem Cert.Adam

theorem pay_m (a b : FVec Ideal S256x512 .f32) (i) : k0_pay1 (F := Ideal) a b i = newM (a i) (b i) := by
  unfold newM; pointwise [k0_pay1]
theorem pay_v (a b : FVec Ideal S256x512 .f32) (i) : k0_pay2 (F := Ideal) a b i = newV (a i) (b i) := by
  unfold newV; pointwise [k0_pay2]
theorem pay_w (a b c d : FVec Ideal S256x512 .f32) (i) : k0_pay3 (F := Ideal) a b c d i = delta (d i) (a i) (b i) (c i) := by
  unfold delta newM newV; pointwise [k0_pay3, k0_pay2, k0_pay1]

variable (m : (ℓ : Loc nD τ sig) → Buf (Elt Ideal) ℓ) (c : Dev nD)
abbrev w := m ((c.tc : Thread nD τ).loc main_arg0)
abbrev g := m ((c.tc : Thread nD τ).loc main_arg1)
abbrev μ := m ((c.tc : Thread nD τ).loc main_arg2)
abbrev v := m ((c.tc : Thread nD τ).loc main_arg3)

/-- The four arguments as the call reads them. -/
theorem args : V m c main_arg0 = w m c ∧ V m c main_arg1 = g m c ∧ V m c main_arg2 = μ m c ∧ V m c main_arg3 = v m c := by
  refine ⟨?_, ?_, ?_, ?_⟩ <;> rfl

theorem arrs : (dats m 0 c).arrAt 4 cfg0.N = deltas2 (w m c) (g m c) (μ m c) (v m c) ∧ (dats m 0 c).arrAt 5 cfg0.N = newMs2 (g m c) (μ m c)
    ∧ (dats m 0 c).arrAt 6 cfg0.N = newVs2 (g m c) (v m c) := by
  have ld (x : FVec Ideal S256x512 .f32) : View.ld (Val := Elt Ideal) (e' := .f32) x r0_0 = x := View.ld_unit_lit _ _ (by decide)
  obtain ⟨e0, e1, e2, e3⟩ := args m c
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩ <;> blk_simp
  all_goals
    have i0 : (iblk m c 0 t : FVec Ideal S256x512 .f32) y = _ := congrFun e0 ((win0_4.blk t).view.emb y)
    have i1 : (iblk m c 1 t : FVec Ideal S256x512 .f32) y = _ := congrFun e1 ((win0_4.blk t).view.emb y)
    have i2 : (iblk m c 2 t : FVec Ideal S256x512 .f32) y = _ := congrFun e2 ((win0_4.blk t).view.emb y)
    have i3 : (iblk m c 3 t : FVec Ideal S256x512 .f32) y = _ := congrFun e3 ((win0_4.blk t).view.emb y)
  · rw [after0_4]; unfold out0_4
    rw [View.canon_cons_unit_lit _ _ _ (by decide), pay_w, ld, ld, ld, ld, i0, i1, i2, i3]; rfl
  · rw [after0_5]; unfold out0_5
    rw [View.canon_cons_unit_lit _ _ _ (by decide), pay_m, ld, ld, i1, i2]; rfl
  · rw [after0_6]; unfold out0_6
    rw [View.canon_cons_unit_lit _ _ _ (by decide), pay_v, ld, ld, i1, i3]; rfl

end Cert.Kernel27Ideal.Tile

namespace Cert.Kernel28Ideal.Tile
open Cert.Kernel28Ideal Cert.Kernel28Ideal.Gen Idealize.ShloMosaic Idealize.ShloMosaic.TcCoe Idealize.SL.Sem Cert.Adam

theorem pay_m (a b : FVec Ideal S1x2048 .f32) (i) : k0_pay2 (F := Ideal) a b i = newM (a i) (b i) := by
  unfold newM; pointwise [k0_pay2, k0_pay1]
theorem pay_v (a b : FVec Ideal S1x2048 .f32) (i) : k0_pay3 (F := Ideal) a b i = newV (a i) (b i) := by
  unfold newV; pointwise [k0_pay3, k0_pay1]
theorem pay_w (a b c d : FVec Ideal S1x2048 .f32) (i) : k0_pay4 (F := Ideal) a b c d i = delta (d i) (a i) (b i) (c i) := by
  unfold delta newM newV; pointwise [k0_pay4, k0_pay3, k0_pay2, k0_pay1]

variable (m : (ℓ : Loc nD τ sig) → Buf (Elt Ideal) ℓ) (c : Dev nD)
abbrev w := m ((c.tc : Thread nD τ).loc main_arg0)
abbrev g := m ((c.tc : Thread nD τ).loc main_arg1)
abbrev μ := m ((c.tc : Thread nD τ).loc main_arg2)
abbrev v := m ((c.tc : Thread nD τ).loc main_arg3)
abbrev h := shapeCasts_S2048_S1x2048

/-- The four arguments as the call reads them. -/
theorem args : V m c main_v0 = (fun i => shapeCast S1x2048 (w m c) h i) ∧ V m c main_v1 = (fun i => shapeCast S1x2048 (g m c) h i) ∧ V m c main_v2 = (fun i => shapeCast S1x2048 (μ m c) h i) ∧ V m c main_v3 = (fun i => shapeCast S1x2048 (v m c) h i) := by
  refine ⟨?_, ?_, ?_, ?_⟩ <;> (unfold_abbrev_sides; after_reads_at; rfl)

theorem arrs : (dats m 0 c).arrAt 4 cfg0.N = deltas h (w m c) (g m c) (μ m c) (v m c) ∧ (dats m 0 c).arrAt 5 cfg0.N = newMs h (g m c) (μ m c)
    ∧ (dats m 0 c).arrAt 6 cfg0.N = newVs h (g m c) (v m c) := by
  have ld (x : FVec Ideal S1x2048 .f32) : View.ld (Val := Elt Ideal) (e' := .f32) x r0_0 = x := View.ld_unit_lit _ _ (by decide)
  obtain ⟨e0, e1, e2, e3⟩ := args m c
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩ <;> blk_simp
  all_goals
    have i0 : (iblk m c 0 t : FVec Ideal S1x2048 .f32) y = _ := congrFun e0 ((win0_4.blk t).view.emb y)
    have i1 : (iblk m c 1 t : FVec Ideal S1x2048 .f32) y = _ := congrFun e1 ((win0_4.blk t).view.emb y)
    have i2 : (iblk m c 2 t : FVec Ideal S1x2048 .f32) y = _ := congrFun e2 ((win0_4.blk t).view.emb y)
    have i3 : (iblk m c 3 t : FVec Ideal S1x2048 .f32) y = _ := congrFun e3 ((win0_4.blk t).view.emb y)
  · rw [after0_4]; unfold out0_4
    rw [View.canon_cons_unit_lit _ _ _ (by decide), pay_w, ld, ld, ld, ld, i0, i1, i2, i3]; rfl
  · rw [after0_5]; unfold out0_5
    rw [View.canon_cons_unit_lit _ _ _ (by decide), pay_m, ld, ld, i1, i2]; rfl
  · rw [after0_6]; unfold out0_6
    rw [View.canon_cons_unit_lit _ _ _ (by decide), pay_v, ld, ld, i1, i3]; rfl

end Cert.Kernel28Ideal.Tile

namespace Cert.Proof

open Idealize.ShloMosaic Idealize.ShloMosaic.TcCoe Idealize.SL.Sem Cert.Adam

theorem frame_k23 : Cert.quiescent_Kernel23 := fun m ρ _ => Cert.Kernel23.Gen.frame m ρ
theorem frame_i23 : Cert.quiescent_Kernel23Ideal := fun m ρ _ => Cert.Kernel23Ideal.Gen.frame m ρ
theorem frame_r23 : Cert.quiescent_Reference23Ideal := fun m ρ _ =>
  (θ_run Cert.Reference23Ideal.defs _ _).mono (fun r h => ⟨fun c => (h c).2.2.2, sem_eq_zero_of_no_sems (by decide) r.2⟩) (Cert.Reference23Ideal.Value.run (F := Ideal) m ρ)

theorem algebraic23 : Cert.algebraic_Kernel23Ideal_Reference23Ideal := by
  intro m ρ m' ρ' _ hag
  refine ⟨fun c => deltas Cert.Kernel23Ideal.Tile.h (Cert.Kernel23Ideal.Tile.w m c) (Cert.Kernel23Ideal.Tile.g m c) (Cert.Kernel23Ideal.Tile.μ m c) (Cert.Kernel23Ideal.Tile.v m c), fun c => newMs Cert.Kernel23Ideal.Tile.h (Cert.Kernel23Ideal.Tile.g m c) (Cert.Kernel23Ideal.Tile.μ m c), fun c => newVs Cert.Kernel23Ideal.Tile.h (Cert.Kernel23Ideal.Tile.g m c) (Cert.Kernel23Ideal.Tile.v m c), ?_, ?_⟩
  · refine (θ_run Cert.Kernel23Ideal.defs _ _).mono (fun r h c => ?_) (Cert.Kernel23Ideal.Value.run_blocks (F := Ideal) m ρ)
    obtain ⟨h0, h1, h2, hk⟩ := h c
    obtain ⟨eh0, eh1, eh2⟩ := Cert.Kernel23Ideal.Tile.arrs m c
    exact ⟨h0.trans eh0, h1.trans eh1, h2.trans eh2, hk⟩
  · refine (θ_run Cert.Reference23Ideal.defs _ _).mono (fun r h c => ?_) (Cert.Reference23Ideal.Value.run (F := Ideal) m' ρ')
    obtain ⟨h0, h1, h2, hk⟩ := h c
    obtain ⟨a0, a1, a2, a3⟩ := hag c
    refine ⟨h0.trans ((Cert.Reference23Ideal.Read.val_main_v24_eq _ _ _ _).trans ?_), h1.trans ((Cert.Reference23Ideal.Read.val_main_v25_eq _ _).trans ?_), h2.trans ((Cert.Reference23Ideal.Read.val_main_v26_eq _ _).trans ?_), hk⟩
    · rw [a0, a1, a2, a3]; rfl
    · rw [a1, a2]; rfl
    · rw [a1, a3]; rfl

theorem frame_k24 : Cert.quiescent_Kernel24 := fun m ρ _ => Cert.Kernel24.Gen.frame m ρ
theorem frame_i24 : Cert.quiescent_Kernel24Ideal := fun m ρ _ => Cert.Kernel24Ideal.Gen.frame m ρ
theorem frame_r24 : Cert.quiescent_Reference24Ideal := fun m ρ _ =>
  (θ_run Cert.Reference24Ideal.defs _ _).mono (fun r h => ⟨fun c => (h c).2.2.2, sem_eq_zero_of_no_sems (by decide) r.2⟩) (Cert.Reference24Ideal.Value.run (F := Ideal) m ρ)

theorem algebraic24 : Cert.algebraic_Kernel24Ideal_Reference24Ideal := by
  intro m ρ m' ρ' _ hag
  refine ⟨fun c => deltas2 (Cert.Kernel24Ideal.Tile.w m c) (Cert.Kernel24Ideal.Tile.g m c) (Cert.Kernel24Ideal.Tile.μ m c) (Cert.Kernel24Ideal.Tile.v m c), fun c => newMs2 (Cert.Kernel24Ideal.Tile.g m c) (Cert.Kernel24Ideal.Tile.μ m c), fun c => newVs2 (Cert.Kernel24Ideal.Tile.g m c) (Cert.Kernel24Ideal.Tile.v m c), ?_, ?_⟩
  · refine (θ_run Cert.Kernel24Ideal.defs _ _).mono (fun r h c => ?_) (Cert.Kernel24Ideal.Value.run_blocks (F := Ideal) m ρ)
    obtain ⟨h0, h1, h2, hk⟩ := h c
    obtain ⟨eh0, eh1, eh2⟩ := Cert.Kernel24Ideal.Tile.arrs m c
    exact ⟨h0.trans eh0, h1.trans eh1, h2.trans eh2, hk⟩
  · refine (θ_run Cert.Reference24Ideal.defs _ _).mono (fun r h c => ?_) (Cert.Reference24Ideal.Value.run (F := Ideal) m' ρ')
    obtain ⟨h0, h1, h2, hk⟩ := h c
    obtain ⟨a0, a1, a2, a3⟩ := hag c
    refine ⟨h0.trans ((Cert.Reference24Ideal.Read.val_main_v23_eq _ _ _ _).trans ?_), h1.trans ?_, h2.trans ?_, hk⟩
    · rw [a0, a1, a2, a3]; rfl
    · rw [a1, a2]; rfl
    · rw [a1, a3]; rfl

theorem frame_k26 : Cert.quiescent_Kernel26 := fun m ρ _ => Cert.Kernel26.Gen.frame m ρ
theorem frame_i26 : Cert.quiescent_Kernel26Ideal := fun m ρ _ => Cert.Kernel26Ideal.Gen.frame m ρ
theorem frame_r26 : Cert.quiescent_Reference26Ideal := fun m ρ _ =>
  (θ_run Cert.Reference26Ideal.defs _ _).mono (fun r h => ⟨fun c => (h c).2.2.2, sem_eq_zero_of_no_sems (by decide) r.2⟩) (Cert.Reference26Ideal.Value.run (F := Ideal) m ρ)

theorem algebraic26 : Cert.algebraic_Kernel26Ideal_Reference26Ideal := by
  intro m ρ m' ρ' _ hag
  refine ⟨fun c => deltas Cert.Kernel26Ideal.Tile.h (Cert.Kernel26Ideal.Tile.w m c) (Cert.Kernel26Ideal.Tile.g m c) (Cert.Kernel26Ideal.Tile.μ m c) (Cert.Kernel26Ideal.Tile.v m c), fun c => newMs Cert.Kernel26Ideal.Tile.h (Cert.Kernel26Ideal.Tile.g m c) (Cert.Kernel26Ideal.Tile.μ m c), fun c => newVs Cert.Kernel26Ideal.Tile.h (Cert.Kernel26Ideal.Tile.g m c) (Cert.Kernel26Ideal.Tile.v m c), ?_, ?_⟩
  · refine (θ_run Cert.Kernel26Ideal.defs _ _).mono (fun r h c => ?_) (Cert.Kernel26Ideal.Value.run_blocks (F := Ideal) m ρ)
    obtain ⟨h0, h1, h2, hk⟩ := h c
    obtain ⟨eh0, eh1, eh2⟩ := Cert.Kernel26Ideal.Tile.arrs m c
    exact ⟨h0.trans eh0, h1.trans eh1, h2.trans eh2, hk⟩
  · refine (θ_run Cert.Reference26Ideal.defs _ _).mono (fun r h c => ?_) (Cert.Reference26Ideal.Value.run (F := Ideal) m' ρ')
    obtain ⟨h0, h1, h2, hk⟩ := h c
    obtain ⟨a0, a1, a2, a3⟩ := hag c
    refine ⟨h0.trans ((Cert.Reference26Ideal.Read.val_main_v24_eq _ _ _ _).trans ?_), h1.trans ((Cert.Reference26Ideal.Read.val_main_v25_eq _ _).trans ?_), h2.trans ((Cert.Reference26Ideal.Read.val_main_v26_eq _ _).trans ?_), hk⟩
    · rw [a0, a1, a2, a3]; rfl
    · rw [a1, a2]; rfl
    · rw [a1, a3]; rfl

theorem frame_k27 : Cert.quiescent_Kernel27 := fun m ρ _ => Cert.Kernel27.Gen.frame m ρ
theorem frame_i27 : Cert.quiescent_Kernel27Ideal := fun m ρ _ => Cert.Kernel27Ideal.Gen.frame m ρ
theorem frame_r27 : Cert.quiescent_Reference27Ideal := fun m ρ _ =>
  (θ_run Cert.Reference27Ideal.defs _ _).mono (fun r h => ⟨fun c => (h c).2.2.2, sem_eq_zero_of_no_sems (by decide) r.2⟩) (Cert.Reference27Ideal.Value.run (F := Ideal) m ρ)

theorem algebraic27 : Cert.algebraic_Kernel27Ideal_Reference27Ideal := by
  intro m ρ m' ρ' _ hag
  refine ⟨fun c => deltas2 (Cert.Kernel27Ideal.Tile.w m c) (Cert.Kernel27Ideal.Tile.g m c) (Cert.Kernel27Ideal.Tile.μ m c) (Cert.Kernel27Ideal.Tile.v m c), fun c => newMs2 (Cert.Kernel27Ideal.Tile.g m c) (Cert.Kernel27Ideal.Tile.μ m c), fun c => newVs2 (Cert.Kernel27Ideal.Tile.g m c) (Cert.Kernel27Ideal.Tile.v m c), ?_, ?_⟩
  · refine (θ_run Cert.Kernel27Ideal.defs _ _).mono (fun r h c => ?_) (Cert.Kernel27Ideal.Value.run_blocks (F := Ideal) m ρ)
    obtain ⟨h0, h1, h2, hk⟩ := h c
    obtain ⟨eh0, eh1, eh2⟩ := Cert.Kernel27Ideal.Tile.arrs m c
    exact ⟨h0.trans eh0, h1.trans eh1, h2.trans eh2, hk⟩
  · refine (θ_run Cert.Reference27Ideal.defs _ _).mono (fun r h c => ?_) (Cert.Reference27Ideal.Value.run (F := Ideal) m' ρ')
    obtain ⟨h0, h1, h2, hk⟩ := h c
    obtain ⟨a0, a1, a2, a3⟩ := hag c
    refine ⟨h0.trans ((Cert.Reference27Ideal.Read.val_main_v23_eq _ _ _ _).trans ?_), h1.trans ?_, h2.trans ?_, hk⟩
    · rw [a0, a1, a2, a3]; rfl
    · rw [a1, a2]; rfl
    · rw [a1, a3]; rfl

theorem frame_k28 : Cert.quiescent_Kernel28 := fun m ρ _ => Cert.Kernel28.Gen.frame m ρ
theorem frame_i28 : Cert.quiescent_Kernel28Ideal := fun m ρ _ => Cert.Kernel28Ideal.Gen.frame m ρ
theorem frame_r28 : Cert.quiescent_Reference28Ideal := fun m ρ _ =>
  (θ_run Cert.Reference28Ideal.defs _ _).mono (fun r h => ⟨fun c => (h c).2.2.2, sem_eq_zero_of_no_sems (by decide) r.2⟩) (Cert.Reference28Ideal.Value.run (F := Ideal) m ρ)

theorem algebraic28 : Cert.algebraic_Kernel28Ideal_Reference28Ideal := by
  intro m ρ m' ρ' _ hag
  refine ⟨fun c => deltas Cert.Kernel28Ideal.Tile.h (Cert.Kernel28Ideal.Tile.w m c) (Cert.Kernel28Ideal.Tile.g m c) (Cert.Kernel28Ideal.Tile.μ m c) (Cert.Kernel28Ideal.Tile.v m c), fun c => newMs Cert.Kernel28Ideal.Tile.h (Cert.Kernel28Ideal.Tile.g m c) (Cert.Kernel28Ideal.Tile.μ m c), fun c => newVs Cert.Kernel28Ideal.Tile.h (Cert.Kernel28Ideal.Tile.g m c) (Cert.Kernel28Ideal.Tile.v m c), ?_, ?_⟩
  · refine (θ_run Cert.Kernel28Ideal.defs _ _).mono (fun r h c => ?_) (Cert.Kernel28Ideal.Value.run_blocks (F := Ideal) m ρ)
    obtain ⟨h0, h1, h2, hk⟩ := h c
    obtain ⟨eh0, eh1, eh2⟩ := Cert.Kernel28Ideal.Tile.arrs m c
    exact ⟨h0.trans eh0, h1.trans eh1, h2.trans eh2, hk⟩
  · refine (θ_run Cert.Reference28Ideal.defs _ _).mono (fun r h c => ?_) (Cert.Reference28Ideal.Value.run (F := Ideal) m' ρ')
    obtain ⟨h0, h1, h2, hk⟩ := h c
    obtain ⟨a0, a1, a2, a3⟩ := hag c
    refine ⟨h0.trans ((Cert.Reference28Ideal.Read.val_main_v24_eq _ _ _ _).trans ?_), h1.trans ((Cert.Reference28Ideal.Read.val_main_v25_eq _ _).trans ?_), h2.trans ((Cert.Reference28Ideal.Read.val_main_v26_eq _ _).trans ?_), hk⟩
    · rw [a0, a1, a2, a3]; rfl
    · rw [a1, a2]; rfl
    · rw [a1, a3]; rfl

end Cert.Proof
-- ==== Proof.AdaAlg.lean ====
module

public import proofs.«01_k».proof.Defs
public import Idealize.ShloMosaic.Lib.Pipeline.ValueKit
public import Idealize.ShloMosaic.Lib.Pipeline.ReadBack
public import Idealize.ShloMosaic.PureOps.Ideal.Laws
public import Idealize.ShloMosaic.Lib.StableHlo.ReadAt
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Read
public import proofs.«01_k».proof.Proof.Gen.Reference13Ideal.Run
public import proofs.«01_k».proof.Proof.Gen.Kernel29
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Read
public import proofs.«01_k».proof.Proof.Gen.Reference29Ideal.Run

@[expose] public section

set_option maxRecDepth 16384

noncomputable section

/-! The gradients of the two modulation weights, from every device's condition and the gathered rows. -/

namespace Cert.Ada
open Idealize.ShloMosaic

/-- The gate applied to the condition. -/
def silu (x : EReal) : EReal := x * Ideal.logistic x

/-- The sum over the devices. -/
def grad (a d : Fin 8 → EReal) : EReal := ∑ b : Fin 8, silu (a b) * d b

end Cert.Ada

namespace Cert.Kernel13Ideal.Tile
open Cert.Kernel13Ideal Cert.Kernel13Ideal.Gen Idealize.ShloMosaic Idealize.ShloMosaic.TcCoe Idealize.SL.Sem Cert.Ada

/-- One block of columns: eight products, added one after the other. -/
theorem pay_at (a : FVec Ideal S1024x8 .f32) (d0 d1 d2 d3 d4 d5 d6 d7 : FVec Ideal S1x1x256 .f32) (q : Fin 1) (i : Fin 1024) (j : Fin 256) :
    (k0_pay1 (F := Ideal) (k0_pay2 a) (k0_pay3 a d0 d1 d2 d3 d4) (k0_pay4 a) d5 d6 d7 (ix3 q i j) : EReal)
      = silu (a (ix2 i 0)) * d0 (ix3 0 0 j) + silu (a (ix2 i 1)) * d1 (ix3 0 0 j) + silu (a (ix2 i 2)) * d2 (ix3 0 0 j) + silu (a (ix2 i 3)) * d3 (ix3 0 0 j)
        + silu (a (ix2 i 4)) * d4 (ix3 0 0 j) + silu (a (ix2 i 5)) * d5 (ix3 0 0 j) + silu (a (ix2 i 6)) * d6 (ix3 0 0 j) + silu (a (ix2 i 7)) * d7 (ix3 0 0 j) := by
  unfold silu
  pointwise [k0_pay1, k0_pay3, k0_pay4, k0_pay2]

variable (m : (ℓ : Loc nD τ sig) → Buf (Elt Ideal) ℓ) (c : Dev nD)

theorem idx : ∀ t : Fin cfg0.N, win0_0.index t = ![0, 0] ∧ win0_1.index t = ![t.val / 9, 0, t.val % 9] ∧ win0_2.index t = ![t.val / 9, 0, t.val % 9] :=
  (by decide +kernel : ∀ t : Fin grid0.N, _)

theorem ld_a (x : FVec Ideal S1024x8 .f32) : View.ld (Val := Elt Ideal) (e' := .f32) x r0_0 = x := View.ld_unit_lit _ _ (by decide)

theorem ld_d (z : FVec Ideal S1x8x256 .f32) (b : ℕ) (hb : b < 8) (h) (j : Fin 256) :
    (View.ld (Val := Elt Ideal) (e' := .f32) z (Rect.unit (s := S1x8x256) ![0, b, 0] S1x1x256.size h) : FVec Ideal S1x1x256 .f32) (ix3 0 0 j) = z (ix3 0 ⟨b, hb⟩ j) :=
  View.ld_unit_apply_of _ _ _ _ _ (ix3 0 ⟨b, hb⟩ j) fun a => by match a with | ⟨0, _⟩ => rfl | ⟨1, _⟩ => simp | ⟨2, _⟩ => simp

/-- What one grid point writes. -/
theorem block_at (x : FVec Ideal S1024x8 .f32) (z : FVec Ideal S1x8x256 .f32) (q : Fin 1) (i : Fin 1024) (j : Fin 256) :
    (out0_2 (F := Ideal) x z (ix3 q i j) : EReal) = grad (fun b => x (ix2 i b)) fun b => z (ix3 0 b j) := by
  unfold out0_2
  rw [View.canon_cons_unit_lit _ _ _ (by decide), pay_at, ld_a, grad, Fin.sum_univ_eight,
    ld_d z 0 (by decide), ld_d z 1 (by decide), ld_d z 2 (by decide), ld_d z 3 (by decide), ld_d z 4 (by decide), ld_d z 5 (by decide),
    ld_d z 6 (by decide), ld_d z 7 (by decide)]
  rfl

theorem arr2 : (dats m 0 c).arrAt 2 cfg0.N = fun i : S4x1024x2304.Idx => grad (fun b => m ((c.tc : Thread nD τ).loc main_arg0) (ix2 (i 1) b)) fun b => m ((c.tc : Thread nD τ).loc main_arg1) (ix3 (i 0) b (i 2)) := by
  refine (dats m 0 c).arrAt_eq_of_covers 2 _ (by decide +kernel) fun t _ y => ?_
  blk_simp
  rw [after0_2]
  have ht : t.val < 36 := t.isLt.trans_le (le_of_eq N_0)
  have hy : (y 2).val < 256 := (y 2).isLt
  have e : ∀ f : S4x1024x2304.Idx → EReal, f ((win0_2.blk t).view.emb y) = f (ix3 (⟨t.val / 9, by omega⟩ : Fin 4) (y 1) (⟨t.val % 9 * 256 + (y 2).val, by omega⟩ : Fin 2304)) := by
    intro f; blk_ext [idx t]
  have e0 (i : Fin 1024) (b : Fin 8) : (iblk m c 0 t : S1024x8.Idx → EReal) (ix2 i b) = m ((c.tc : Thread nD τ).loc main_arg0) (ix2 i b) := by
    blk_ext [iblk, idx t]
  have e1 (b : Fin 8) (j : Fin 256) : (iblk m c 1 t : S1x8x256.Idx → EReal) (ix3 0 b j)
      = m ((c.tc : Thread nD τ).loc main_arg1) (ix3 (⟨t.val / 9, by omega⟩ : Fin 4) b (⟨t.val % 9 * 256 + j.val, by omega⟩ : Fin 2304)) := by
    blk_ext [iblk, idx t]
  refine Eq.trans ?_ (e fun i : S4x1024x2304.Idx => grad (fun b => m ((c.tc : Thread nD τ).loc main_arg0) (ix2 (i 1) b)) fun b => m ((c.tc : Thread nD τ).loc main_arg1) (ix3 (i 0) b (i 2))).symm
  refine (congrArg _ (eq_ix3 y)).trans ((block_at _ _ (y 0) (y 1) (y 2)).trans ?_)
  exact congrArg₂ grad (funext fun b => e0 _ b) (funext fun b => e1 b _)

end Cert.Kernel13Ideal.Tile

namespace Cert.Reference13Ideal.Read
open Cert.Reference13Ideal Cert.Reference13Ideal.Gen Idealize.ShloMosaic Idealize.ShloMosaic.TcCoe Idealize.SL.Sem Cert.Ada

theorem silu_at (x0 : FVec Ideal S1024x8 .f32) (b : Fin 8) (i : Fin 1024) : (val_main_v2 (F := Ideal) x0 (ix2 b i) : EReal) = silu (x0 (ix2 i b)) := by
  unfold silu
  pointwise [val_main_v2, val_main_v1, val_main_call0_v5, val_main_call0_v4, val_main_call0_v3, val_main_call0_v2, val_main_call0_v1, val_main_call0_v0, val_main_call0_cst, val_main_call0_cst_0]
  rfl

theorem out_at (x0 : FVec Ideal S1024x8 .f32) (x1 : FVec Ideal S4x8x2304 .f32) (l : Fin 4) (i : Fin 1024) (j : Fin 2304) :
    (val_main_v7 (F := Ideal) x0 x1 (ix3 l i j) : EReal) = grad (fun b => x0 (ix2 i b)) fun b => x1 (ix3 l b j) := by
  unfold grad
  simp only [← silu_at]
  rw [val_main_v7, val_main_v6]
  generalize val_main_v2 (F := Ideal) x0 = D
  refine Eq.trans ?_ (Finset.sum_congr rfl fun b _ => mul_comm (x1 (ix3 l b j) : EReal) (D (ix2 b i)))
  pointwise [val_main_v5]

def outOf (x0 : FVec Ideal S1024x8 .f32) (x1 : FVec Ideal S4x8x2304 .f32) : S4x1024x2304.Idx → EReal :=
  fun i => grad (fun b => x0 (ix2 (i 1) b)) fun b => x1 (ix3 (i 0) b (i 2))

theorem out_arr (x0 : FVec Ideal S1024x8 .f32) (x1 : FVec Ideal S4x8x2304 .f32) : val_main_v7 (F := Ideal) x0 x1 = outOf x0 x1 :=
  funext fun i => (congrArg _ (eq_ix3 i)).trans (out_at x0 x1 (i 0) (i 1) (i 2))

end Cert.Reference13Ideal.Read

namespace Cert.Kernel29Ideal.Tile
open Cert.Kernel29Ideal Cert.Kernel29Ideal.Gen Idealize.ShloMosaic Idealize.ShloMosaic.TcCoe Idealize.SL.Sem Cert.Ada

/-- One block of columns: eight products, added one after the other. -/
theorem pay_at (a : FVec Ideal S1024x8 .f32) (d0 d1 d2 d3 d4 d5 d6 d7 : FVec Ideal S1x1x256 .f32) (q : Fin 1) (i : Fin 1024) (j : Fin 256) :
    (k0_pay1 (F := Ideal) (k0_pay2 a) (k0_pay3 a d0 d1 d2 d3 d4) (k0_pay4 a) d5 d6 d7 (ix3 q i j) : EReal)
      = silu (a (ix2 i 0)) * d0 (ix3 0 0 j) + silu (a (ix2 i 1)) * d1 (ix3 0 0 j) + silu (a (ix2 i 2)) * d2 (ix3 0 0 j) + silu (a (ix2 i 3)) * d3 (ix3 0 0 j)
        + silu (a (ix2 i 4)) * d4 (ix3 0 0 j) + silu (a (ix2 i 5)) * d5 (ix3 0 0 j) + silu (a (ix2 i 6)) * d6 (ix3 0 0 j) + silu (a (ix2 i 7)) * d7 (ix3 0 0 j) := by
  unfold silu
  pointwise [k0_pay1, k0_pay3, k0_pay4, k0_pay2]

variable (m : (ℓ : Loc nD τ sig) → Buf (Elt Ideal) ℓ) (c : Dev nD)

theorem idx : ∀ t : Fin cfg0.N, win0_0.index t = ![0, 0] ∧ win0_1.index t = ![t.val / 2, 0, t.val % 2] ∧ win0_2.index t = ![t.val / 2, 0, t.val % 2] :=
  (by decide +kernel : ∀ t : Fin grid0.N, _)

theorem ld_a (x : FVec Ideal S1024x8 .f32) : View.ld (Val := Elt Ideal) (e' := .f32) x r0_0 = x := View.ld_unit_lit _ _ (by decide)

theorem ld_d (z : FVec Ideal S1x8x256 .f32) (b : ℕ) (hb : b < 8) (h) (j : Fin 256) :
    (View.ld (Val := Elt Ideal) (e' := .f32) z (Rect.unit (s := S1x8x256) ![0, b, 0] S1x1x256.size h) : FVec Ideal S1x1x256 .f32) (ix3 0 0 j) = z (ix3 0 ⟨b, hb⟩ j) :=
  View.ld_unit_apply_of _ _ _ _ _ (ix3 0 ⟨b, hb⟩ j) fun a => by match a with | ⟨0, _⟩ => rfl | ⟨1, _⟩ => simp | ⟨2, _⟩ => simp

/-- What one grid point writes. -/
theorem block_at (x : FVec Ideal S1024x8 .f32) (z : FVec Ideal S1x8x256 .f32) (q : Fin 1) (i : Fin 1024) (j : Fin 256) :
    (out0_2 (F := Ideal) x z (ix3 q i j) : EReal) = grad (fun b => x (ix2 i b)) fun b => z (ix3 0 b j) := by
  unfold out0_2
  rw [View.canon_cons_unit_lit _ _ _ (by decide), pay_at, ld_a, grad, Fin.sum_univ_eight,
    ld_d z 0 (by decide), ld_d z 1 (by decide), ld_d z 2 (by decide), ld_d z 3 (by decide), ld_d z 4 (by decide), ld_d z 5 (by decide),
    ld_d z 6 (by decide), ld_d z 7 (by decide)]
  rfl

theorem arr2 : (dats m 0 c).arrAt 2 cfg0.N = fun i : S1x1024x512.Idx => grad (fun b => m ((c.tc : Thread nD τ).loc main_arg0) (ix2 (i 1) b)) fun b => m ((c.tc : Thread nD τ).loc main_arg1) (ix3 (i 0) b (i 2)) := by
  refine (dats m 0 c).arrAt_eq_of_covers 2 _ (by decide +kernel) fun t _ y => ?_
  blk_simp
  rw [after0_2]
  have ht : t.val < 2 := t.isLt.trans_le (le_of_eq N_0)
  have hy : (y 2).val < 256 := (y 2).isLt
  have e : ∀ f : S1x1024x512.Idx → EReal, f ((win0_2.blk t).view.emb y) = f (ix3 (⟨t.val / 2, by omega⟩ : Fin 1) (y 1) (⟨t.val % 2 * 256 + (y 2).val, by omega⟩ : Fin 512)) := by
    intro f; blk_ext [idx t]
  have e0 (i : Fin 1024) (b : Fin 8) : (iblk m c 0 t : S1024x8.Idx → EReal) (ix2 i b) = m ((c.tc : Thread nD τ).loc main_arg0) (ix2 i b) := by
    blk_ext [iblk, idx t]
  have e1 (b : Fin 8) (j : Fin 256) : (iblk m c 1 t : S1x8x256.Idx → EReal) (ix3 0 b j)
      = m ((c.tc : Thread nD τ).loc main_arg1) (ix3 (⟨t.val / 2, by omega⟩ : Fin 1) b (⟨t.val % 2 * 256 + j.val, by omega⟩ : Fin 512)) := by
    blk_ext [iblk, idx t]
  refine Eq.trans ?_ (e fun i : S1x1024x512.Idx => grad (fun b => m ((c.tc : Thread nD τ).loc main_arg0) (ix2 (i 1) b)) fun b => m ((c.tc : Thread nD τ).loc main_arg1) (ix3 (i 0) b (i 2))).symm
  refine (congrArg _ (eq_ix3 y)).trans ((block_at _ _ (y 0) (y 1) (y 2)).trans ?_)
  exact congrArg₂ grad (funext fun b => e0 _ b) (funext fun b => e1 b _)

end Cert.Kernel29Ideal.Tile

namespace Cert.Reference29Ideal.Read
open Cert.Reference29Ideal Cert.Reference29Ideal.Gen Idealize.ShloMosaic Idealize.ShloMosaic.TcCoe Idealize.SL.Sem Cert.Ada

theorem silu_at (x0 : FVec Ideal S1024x8 .f32) (b : Fin 8) (i : Fin 1024) : (val_main_v2 (F := Ideal) x0 (ix2 b i) : EReal) = silu (x0 (ix2 i b)) := by
  unfold silu
  pointwise [val_main_v2, val_main_v1, val_main_call0_v5, val_main_call0_v4, val_main_call0_v3, val_main_call0_v2, val_main_call0_v1, val_main_call0_v0, val_main_call0_cst, val_main_call0_cst_0]
  rfl

theorem out_at (x0 : FVec Ideal S1024x8 .f32) (x1 : FVec Ideal S1x8x512 .f32) (l : Fin 1) (i : Fin 1024) (j : Fin 512) :
    (val_main_v7 (F := Ideal) x0 x1 (ix3 l i j) : EReal) = grad (fun b => x0 (ix2 i b)) fun b => x1 (ix3 l b j) := by
  obtain rfl : l = 0 := Subsingleton.elim _ _
  unfold grad
  simp only [← silu_at]
  rw [val_main_v7, val_main_v6]
  generalize val_main_v2 (F := Ideal) x0 = D
  refine Eq.trans ?_ (Finset.sum_congr rfl fun b _ => mul_comm (x1 (ix3 0 b j) : EReal) (D (ix2 b i)))
  pointwise [val_main_v5]

def outOf (x0 : FVec Ideal S1024x8 .f32) (x1 : FVec Ideal S1x8x512 .f32) : S1x1024x512.Idx → EReal :=
  fun i => grad (fun b => x0 (ix2 (i 1) b)) fun b => x1 (ix3 (i 0) b (i 2))

theorem out_arr (x0 : FVec Ideal S1024x8 .f32) (x1 : FVec Ideal S1x8x512 .f32) : val_main_v7 (F := Ideal) x0 x1 = outOf x0 x1 :=
  funext fun i => (congrArg _ (eq_ix3 i)).trans (out_at x0 x1 (i 0) (i 1) (i 2))

end Cert.Reference29Ideal.Read

namespace Cert.Proof

open Idealize.ShloMosaic Idealize.ShloMosaic.TcCoe Idealize.SL.Sem Cert.Ada

theorem frame_k13 : Cert.quiescent_Kernel13 := fun m ρ _ => Cert.Kernel13.Gen.frame m ρ
theorem frame_i13 : Cert.quiescent_Kernel13Ideal := fun m ρ _ => Cert.Kernel13Ideal.Gen.frame m ρ
theorem frame_r13 : Cert.quiescent_Reference13Ideal := fun m ρ _ =>
  (θ_run Cert.Reference13Ideal.defs _ _).mono (fun r h => ⟨fun c => (h c).2, sem_eq_zero_of_no_sems (by decide) r.2⟩) (Cert.Reference13Ideal.Value.run (F := Ideal) m ρ)

theorem algebraic13 : Cert.algebraic_Kernel13Ideal_Reference13Ideal := by
  intro m ρ m' ρ' _ hag
  refine ⟨fun c => Cert.Reference13Ideal.Read.outOf (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)), ?_, ?_⟩
  · refine (θ_run Cert.Kernel13Ideal.defs _ _).mono (fun r h c => ?_) (Cert.Kernel13Ideal.Value.run_blocks (F := Ideal) m ρ)
    obtain ⟨h0, hk⟩ := h c
    exact ⟨h0.trans (Cert.Kernel13Ideal.Tile.arr2 m c), hk⟩
  · refine (θ_run Cert.Reference13Ideal.defs _ _).mono (fun r h c => ?_) (Cert.Reference13Ideal.Value.run (F := Ideal) m' ρ')
    obtain ⟨h0, hk⟩ := h c
    obtain ⟨a0, a1⟩ := hag c
    exact ⟨h0.trans ((Cert.Reference13Ideal.Read.val_main_v7_eq _ _).trans ((Cert.Reference13Ideal.Read.out_arr _ _).trans (congrArg₂ Cert.Reference13Ideal.Read.outOf a0 a1))), hk⟩

theorem frame_k29 : Cert.quiescent_Kernel29 := fun m ρ _ => Cert.Kernel29.Gen.frame m ρ
theorem frame_i29 : Cert.quiescent_Kernel29Ideal := fun m ρ _ => Cert.Kernel29Ideal.Gen.frame m ρ
theorem frame_r29 : Cert.quiescent_Reference29Ideal := fun m ρ _ =>
  (θ_run Cert.Reference29Ideal.defs _ _).mono (fun r h => ⟨fun c => (h c).2, sem_eq_zero_of_no_sems (by decide) r.2⟩) (Cert.Reference29Ideal.Value.run (F := Ideal) m ρ)

theorem algebraic29 : Cert.algebraic_Kernel29Ideal_Reference29Ideal := by
  intro m ρ m' ρ' _ hag
  refine ⟨fun c => Cert.Reference29Ideal.Read.outOf (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)), ?_, ?_⟩
  · refine (θ_run Cert.Kernel29Ideal.defs _ _).mono (fun r h c => ?_) (Cert.Kernel29Ideal.Value.run_blocks (F := Ideal) m ρ)
    obtain ⟨h0, hk⟩ := h c
    exact ⟨h0.trans (Cert.Kernel29Ideal.Tile.arr2 m c), hk⟩
  · refine (θ_run Cert.Reference29Ideal.defs _ _).mono (fun r h c => ?_) (Cert.Reference29Ideal.Value.run (F := Ideal) m' ρ')
    obtain ⟨h0, hk⟩ := h c
    obtain ⟨a0, a1⟩ := hag c
    exact ⟨h0.trans ((Cert.Reference29Ideal.Read.val_main_v7_eq _ _).trans ((Cert.Reference29Ideal.Read.out_arr _ _).trans (congrArg₂ Cert.Reference29Ideal.Read.outOf a0 a1))), hk⟩

end Cert.Proof
-- ==== Proof.SumAlg.lean ====
module

public import proofs.«01_k».proof.Defs
public import Idealize.ShloMosaic.Lib.Pipeline.ValueKit
public import Idealize.ShloMosaic.Lib.Pipeline.FrameSuffix
public import Idealize.ShloMosaic.Lib.StableHlo.RunRead
public import Idealize.ShloMosaic.Lib.Pipeline.ReadBack
public import Idealize.ShloMosaic.PureOps.Ideal.Laws
public import Idealize.ShloMosaic.Lib.StableHlo.ReadAt
public import proofs.«01_k».proof.Proof.Gen.Kernel30
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Frame
public import proofs.«01_k».proof.Proof.Gen.Reference30Ideal
public import proofs.«01_k».proof.Proof.Gen.Reference30Ideal.Read
public import proofs.«01_k».proof.Proof.Gen.Reference30Ideal.Run

@[expose] public section

set_option maxRecDepth 16384

noncomputable section

/-! The sum over the devices of the gathered rows. -/

namespace Cert.Proof

open Idealize.ShloMosaic Idealize.ShloMosaic.TcCoe Idealize.SL.Sem

theorem frame_k30 : Cert.quiescent_Kernel30 := fun m ρ _ => Cert.Kernel30.Gen.frame m ρ
theorem frame_i30 : Cert.quiescent_Kernel30Ideal := fun m ρ _ => Cert.Kernel30Ideal.Gen.frame m ρ
theorem frame_r30 : Cert.quiescent_Reference30Ideal := fun m ρ _ =>
  (θ_run Cert.Reference30Ideal.defs _ _).mono (fun r h => ⟨fun c => (h c).2.2.2.2.2.2, sem_eq_zero_of_no_sems (by decide) r.2⟩) (Cert.Reference30Ideal.Value.run (F := Ideal) m ρ)

section
open Cert.Kernel30Ideal Cert.Kernel30Ideal.Gen

theorem sum8_pay (d0 d1 d2 d3 d4 d5 d6 d7 : FVec Ideal S1x464x128 .f32) (a : Fin 464) (k : Fin 128) :
    (k0_pay1 (F := Ideal) d0 d1 d2 d3 d4 d5 d6 d7 (ix2 a k) : EReal)
      = d0 (ix3 0 a k) + d1 (ix3 0 a k) + d2 (ix3 0 a k) + d3 (ix3 0 a k) + d4 (ix3 0 a k) + d5 (ix3 0 a k) + d6 (ix3 0 a k) + d7 (ix3 0 a k) := by
  pointwise [k0_pay1]

theorem sum8_ld (x : FVec Ideal S8x464x128 .f32) (b : ℕ) (hb : b < 8) (h) (a : Fin 464) (k : Fin 128) :
    (View.ld (Val := Elt Ideal) (e' := .f32) x (Rect.unit (s := S8x464x128) ![b, 0, 0] S1x464x128.size h) : FVec Ideal S1x464x128 .f32) (ix3 0 a k)
      = x (ix3 ⟨b, hb⟩ a k) :=
  View.ld_unit_apply_of _ _ _ _ _ (ix3 ⟨b, hb⟩ a k) fun a => by match a with | ⟨0, _⟩ => rfl | ⟨1, _⟩ => simp | ⟨2, _⟩ => simp

variable (m : (ℓ : Loc nD τ sig) → Buf (Elt Ideal) ℓ) (c : Dev nD)

/-- The sum over the devices, at one element of the gathered rows. -/
def sumTot (x : FVec Ideal S8x464x128 .f32) : FVec Ideal S464x128 .f32 := fun i => ∑ b : Fin 8, (x (ix3 b (i 0) (i 1)) : EReal)

/-- Eight rows added one after the other are their sum. -/
theorem sum8_out (x : FVec Ideal S8x464x128 .f32) (a : Fin 464) (k : Fin 128) : (out0_1 (F := Ideal) x (ix2 a k) : EReal) = sumTot x (ix2 a k) := by
  unfold out0_1
  rw [View.canon_cons_unit_lit _ _ _ (by decide), sum8_pay, sum8_ld x 0 (by decide), sum8_ld x 1 (by decide), sum8_ld x 2 (by decide), sum8_ld x 3 (by decide),
    sum8_ld x 4 (by decide), sum8_ld x 5 (by decide), sum8_ld x 6 (by decide), sum8_ld x 7 (by decide)]
  rw [sumTot, Fin.sum_univ_eight]
  rfl

theorem sum8_idx : ∀ t : Fin cfg0.N, win0_0.index t = ![0, 0, 0] ∧ win0_1.index t = ![0, 0] :=
  (by decide +kernel : ∀ t : Fin grid0.N, _)

theorem sum8_blk (t : Fin cfg0.N) : (iblk m c 0 t : FVec Ideal S8x464x128 .f32) = m ((c.tc : Thread nD τ).loc main_arg0) := by
  funext i
  obtain ⟨b, a, k, rfl⟩ : ∃ (b : Fin 8) (a : Fin 464) (k : Fin 128), i = ix3 b a k := ⟨_, _, _, eq_ix3 i⟩
  blk_ext [iblk, sum8_idx t]

theorem sum8_arr : (dats m 0 c).arrAt 1 cfg0.N = sumTot (m ((c.tc : Thread nD τ).loc main_arg0)) := by
  refine (dats m 0 c).arrAt_eq_of_covers 1 _ (by decide +kernel) fun t _ y => ?_
  blk_simp
  rw [after0_1]
  have e : ∀ f : S464x128.Idx → EReal, f ((win0_1.blk t).view.emb y) = f (ix2 (y 0) (y 1)) := by
    intro f; blk_ext [sum8_idx t]
  refine Eq.trans ?_ (e (sumTot (m ((c.tc : Thread nD τ).loc main_arg0)))).symm
  rw [sum8_blk]
  exact (congrArg _ (eq_ix2 y)).trans (sum8_out _ (y 0) (y 1))

/-- What the call leaves in its result, where the host's lines find it. -/
theorem sum8_left : Pipeline.withArrays (cfgs 0).spec c (V0 m c) (fun w => (dats m 0 c).arrAt w (cfgs 0).N) (Proc.tc.devRef main_v0) = sumTot (m ((c.tc : Thread nD τ).loc main_arg0)) :=
  (Pipeline.withArrays_arr (cfgs 0).spec launch0.win.arr_inj c (V0 m c) (fun w => (dats m 0 c).arrAt w (cfgs 0).N) 1).trans (sum8_arr m c)

/-! The six pieces of the sum, as the host cuts them. -/

/-- The sum in one row. -/
abbrev sumRow8 (x : FVec Ideal S8x464x128 .f32) : FVec Ideal S59392 .f32 := shapeCast S59392 (sumTot x) shapeCasts_S464x128_S59392

/-- The gradient of ada_b. -/
abbrev pieceSum3 (x : FVec Ideal S8x464x128 .f32) : FVec Ideal S4x9216 .f32 := shapeCast S4x9216 (extractStridedSlice S36864 ![0] (sumRow8 x) slices_S59392_S36864_0) shapeCasts_S36864_S4x9216

/-- The gradient of kv_ada_b. -/
abbrev pieceSum4 (x : FVec Ideal S8x464x128 .f32) : FVec Ideal S2048 .f32 := extractStridedSlice S2048 ![36864] (sumRow8 x) slices_S59392_S2048_36864

/-- The gradient of norm_g. -/
abbrev pieceSum6 (x : FVec Ideal S8x464x128 .f32) : FVec Ideal S4x3x1024 .f32 := shapeCast S4x3x1024 (extractStridedSlice S12288 ![38912] (sumRow8 x) slices_S59392_S12288_38912) shapeCasts_S12288_S4x3x1024

/-- The gradient of conv_w. -/
abbrev pieceSum8 (x : FVec Ideal S8x464x128 .f32) : FVec Ideal S2x3x1024 .f32 := shapeCast S2x3x1024 (extractStridedSlice S6144 ![51200] (sumRow8 x) slices_S59392_S6144_51200) shapeCasts_S6144_S2x3x1024

/-- The gradient of kv_norm_g. -/
abbrev pieceSum9 (x : FVec Ideal S8x464x128 .f32) : FVec Ideal S1024 .f32 := extractStridedSlice S1024 ![57344] (sumRow8 x) slices_S59392_S1024_57344

/-- The gradient of final_norm_g. -/
abbrev pieceSum10 (x : FVec Ideal S8x464x128 .f32) : FVec Ideal S1024 .f32 := extractStridedSlice S1024 ![58368] (sumRow8 x) slices_S59392_S1024_58368

/-! What the host leaves in the six results. -/

theorem finSum3 : Pipeline.afterTail₀ cfgs (dats m) 0 (V0 m) [hostOps1] c main_v3 = pieceSum3 (m ((c.tc : Thread nD τ).loc main_arg0)) := by
  unfold Pipeline.afterTail₀
  after_reads_simp
  rw [sum8_left]
  rfl

theorem finSum4 : Pipeline.afterTail₀ cfgs (dats m) 0 (V0 m) [hostOps1] c main_v4 = pieceSum4 (m ((c.tc : Thread nD τ).loc main_arg0)) := by
  unfold Pipeline.afterTail₀
  after_reads_simp
  rw [sum8_left]
  rfl

theorem finSum6 : Pipeline.afterTail₀ cfgs (dats m) 0 (V0 m) [hostOps1] c main_v6 = pieceSum6 (m ((c.tc : Thread nD τ).loc main_arg0)) := by
  unfold Pipeline.afterTail₀
  after_reads_simp
  rw [sum8_left]
  rfl

theorem finSum8 : Pipeline.afterTail₀ cfgs (dats m) 0 (V0 m) [hostOps1] c main_v8 = pieceSum8 (m ((c.tc : Thread nD τ).loc main_arg0)) := by
  unfold Pipeline.afterTail₀
  after_reads_simp
  rw [sum8_left]
  rfl

theorem finSum9 : Pipeline.afterTail₀ cfgs (dats m) 0 (V0 m) [hostOps1] c main_v9 = pieceSum9 (m ((c.tc : Thread nD τ).loc main_arg0)) := by
  unfold Pipeline.afterTail₀
  after_reads_simp
  rw [sum8_left]
  rfl

theorem finSum10 : Pipeline.afterTail₀ cfgs (dats m) 0 (V0 m) [hostOps1] c main_v10 = pieceSum10 (m ((c.tc : Thread nD τ).loc main_arg0)) := by
  unfold Pipeline.afterTail₀
  after_reads_simp
  rw [sum8_left]
  rfl

/-! The reference's six sums are these pieces. -/

open Cert.Reference30Ideal.Read

theorem refSum3 (x : FVec Ideal S8x464x128 .f32) : (val_main_v8 (F := Ideal) x : FVec Ideal S4x9216 .f32) = pieceSum3 x := by
  funext i
  obtain ⟨a, b, rfl⟩ : ∃ (a : Fin 4) (b : Fin 9216), i = ix2 a b := ⟨_, _, eq_ix2 i⟩
  rw [val_main_v8]
  pointwise [val_main_v7, val_main_v1, val_main_v0, val_main_cst, sumTot]

theorem refSum4 (x : FVec Ideal S8x464x128 .f32) : (val_main_v9 (F := Ideal) x : FVec Ideal S2048 .f32) = pieceSum4 x := by
  funext i
  obtain ⟨a, rfl⟩ : ∃ (a : Fin 2048), i = ix1 a := ⟨_, eq_ix1 i⟩
  rw [val_main_v9]
  pointwise [val_main_v2, val_main_v0, val_main_cst_0, sumTot]

theorem refSum6 (x : FVec Ideal S8x464x128 .f32) : (val_main_v11 (F := Ideal) x : FVec Ideal S4x3x1024 .f32) = pieceSum6 x := by
  funext i
  obtain ⟨a, b, d, rfl⟩ : ∃ (a : Fin 4) (b : Fin 3) (d : Fin 1024), i = ix3 a b d := ⟨_, _, _, eq_ix3 i⟩
  rw [val_main_v11]
  pointwise [val_main_v10, val_main_v3, val_main_v0, val_main_cst_1, sumTot]

theorem refSum8 (x : FVec Ideal S8x464x128 .f32) : (val_main_v13 (F := Ideal) x : FVec Ideal S2x3x1024 .f32) = pieceSum8 x := by
  funext i
  obtain ⟨a, b, d, rfl⟩ : ∃ (a : Fin 2) (b : Fin 3) (d : Fin 1024), i = ix3 a b d := ⟨_, _, _, eq_ix3 i⟩
  rw [val_main_v13]
  pointwise [val_main_v12, val_main_v4, val_main_v0, val_main_cst_2, sumTot]

theorem refSum9 (x : FVec Ideal S8x464x128 .f32) : (val_main_v14 (F := Ideal) x : FVec Ideal S1024 .f32) = pieceSum9 x := by
  funext i
  obtain ⟨a, rfl⟩ : ∃ (a : Fin 1024), i = ix1 a := ⟨_, eq_ix1 i⟩
  rw [val_main_v14]
  pointwise [val_main_v5, val_main_v0, val_main_cst_3, sumTot]

theorem refSum10 (x : FVec Ideal S8x464x128 .f32) : (val_main_v15 (F := Ideal) x : FVec Ideal S1024 .f32) = pieceSum10 x := by
  funext i
  obtain ⟨a, rfl⟩ : ∃ (a : Fin 1024), i = ix1 a := ⟨_, eq_ix1 i⟩
  rw [val_main_v15]
  pointwise [val_main_v6, val_main_v0, val_main_cst_4, sumTot]

/-- The whole run: the six results are the pieces of the sum, and the argument is as it was. -/
theorem run30 (ρ : Dev nD → PrngReg) : θ_run defs (onTc (τ := τ) (main (F := Ideal))) ⟨m, fun _ => 0, ρ⟩ fun r => ∀ c : Dev nD,
      r.2.mem ((c.tc : Thread nD τ).loc main_v3) = pieceSum3 (m ((c.tc : Thread nD τ).loc main_arg0))
      ∧ r.2.mem ((c.tc : Thread nD τ).loc main_v4) = pieceSum4 (m ((c.tc : Thread nD τ).loc main_arg0))
      ∧ r.2.mem ((c.tc : Thread nD τ).loc main_v6) = pieceSum6 (m ((c.tc : Thread nD τ).loc main_arg0))
      ∧ r.2.mem ((c.tc : Thread nD τ).loc main_v8) = pieceSum8 (m ((c.tc : Thread nD τ).loc main_arg0))
      ∧ r.2.mem ((c.tc : Thread nD τ).loc main_v9) = pieceSum9 (m ((c.tc : Thread nD τ).loc main_arg0))
      ∧ r.2.mem ((c.tc : Thread nD τ).loc main_v10) = pieceSum10 (m ((c.tc : Thread nD τ).loc main_arg0))
      ∧ r.2.mem ((c.tc : Thread nD τ).loc main_arg0) = m ((c.tc : Thread nD τ).loc main_arg0) :=
  (θ_run defs _ _).mono (fun r h c => ⟨((h c).2 main_v3 (Pipeline.mem_restRefs_of main_v3 (by decide) (by decide))).trans (finSum3 m c),
      ((h c).2 main_v4 (Pipeline.mem_restRefs_of main_v4 (by decide) (by decide))).trans (finSum4 m c),
      ((h c).2 main_v6 (Pipeline.mem_restRefs_of main_v6 (by decide) (by decide))).trans (finSum6 m c),
      ((h c).2 main_v8 (Pipeline.mem_restRefs_of main_v8 (by decide) (by decide))).trans (finSum8 m c),
      ((h c).2 main_v9 (Pipeline.mem_restRefs_of main_v9 (by decide) (by decide))).trans (finSum9 m c),
      ((h c).2 main_v10 (Pipeline.mem_restRefs_of main_v10 (by decide) (by decide))).trans (finSum10 m c),
      ((h c).1 0).trans (((dats m 0 c).arrAt_in 0 rfl _).trans ((A_eq m c 0).trans (V_main_arg0 m c)))⟩)
    (run_main m ρ)
end

theorem algebraic30 : Cert.algebraic_Kernel30Ideal_Reference30Ideal := by
  intro m ρ m' ρ' _ hag
  refine ⟨_, _, _, _, _, _, run30 m ρ, ?_⟩
  refine (θ_run Cert.Reference30Ideal.defs _ _).mono (fun r h c => ?_) (Cert.Reference30Ideal.Value.run (F := Ideal) m' ρ')
  obtain ⟨h0, h1, h2, h3, h4, h5, hk⟩ := h c
  have e := hag c
  exact ⟨h0.trans ((Cert.Reference30Ideal.Read.val_main_v8_eq _).trans ((congrArg _ e).trans (refSum3 _))),
    h1.trans ((Cert.Reference30Ideal.Read.val_main_v9_eq _).trans ((congrArg _ e).trans (refSum4 _))),
    h2.trans ((Cert.Reference30Ideal.Read.val_main_v11_eq _).trans ((congrArg _ e).trans (refSum6 _))),
    h3.trans ((Cert.Reference30Ideal.Read.val_main_v13_eq _).trans ((congrArg _ e).trans (refSum8 _))),
    h4.trans ((Cert.Reference30Ideal.Read.val_main_v14_eq _).trans ((congrArg _ e).trans (refSum9 _))),
    h5.trans ((Cert.Reference30Ideal.Read.val_main_v15_eq _).trans ((congrArg _ e).trans (refSum10 _))),
    hk⟩

end Cert.Proof
-- ==== Proof.AdaFwd.lean ====
module

public import proofs.«01_k».proof.Proof.AdaAlg
public import proofs.«01_k».proof.Proof.Gen.Kernel32
public import proofs.«01_k».proof.Proof.Gen.Kernel32.Frame
public import proofs.«01_k».proof.Proof.Gen.Kernel32Ideal
public import proofs.«01_k».proof.Proof.Gen.Kernel32Ideal.Skeleton
public import proofs.«01_k».proof.Proof.Gen.Kernel32Ideal.Frame
public import proofs.«01_k».proof.Proof.Gen.Kernel32Ideal.Value
public import proofs.«01_k».proof.Proof.Gen.Reference32Ideal
public import proofs.«01_k».proof.Proof.Gen.Reference32Ideal.Read
public import proofs.«01_k».proof.Proof.Gen.Reference32Ideal.Run
public import proofs.«01_k».proof.Proof.Gen.Kernel33
public import proofs.«01_k».proof.Proof.Gen.Kernel33.Frame
public import proofs.«01_k».proof.Proof.Gen.Kernel33Ideal
public import proofs.«01_k».proof.Proof.Gen.Kernel33Ideal.Skeleton
public import proofs.«01_k».proof.Proof.Gen.Kernel33Ideal.Frame
public import proofs.«01_k».proof.Proof.Gen.Kernel33Ideal.Value
public import proofs.«01_k».proof.Proof.Gen.Reference33Ideal
public import proofs.«01_k».proof.Proof.Gen.Reference33Ideal.Read
public import proofs.«01_k».proof.Proof.Gen.Reference33Ideal.Run

@[expose] public section

set_option maxRecDepth 16384

noncomputable section

/-! The modulation's columns, from every sequence's condition: the gated condition times the weight's columns, and the bias's. -/

namespace Cert.Ada
open Idealize.ShloMosaic

/-- One column of one sequence's modulation: the condition, the weight's column, the bias. -/
def fwd (a w : Fin 1024 → EReal) (b : EReal) : EReal := (∑ i : Fin 1024, silu (a i) * w i) + b

end Cert.Ada

namespace Cert.Kernel32Ideal.Tile
open Cert.Kernel32Ideal Cert.Kernel32Ideal.Gen Idealize.ShloMosaic Idealize.ShloMosaic.TcCoe Idealize.SL.Sem Cert.Ada

/-- One block of columns. -/
theorem pay_at (a : FVec Ideal S8x1024 .f32) (w : FVec Ideal S1x1024x768 .f32) (b : FVec Ideal S1x1x768 .f32) (q : Fin 1) (s : Fin 8) (j : Fin 768) :
    (k0_pay1 (F := Ideal) a w b (ix3 q s j) : EReal) = fwd (fun i => a (ix2 s i)) (fun i => w (ix3 0 i j)) (b (ix3 0 0 j)) := by
  obtain rfl : q = 0 := Subsingleton.elim _ _
  unfold fwd silu
  pointwise [k0_pay1]

variable (m : (ℓ : Loc nD τ sig) → Buf (Elt Ideal) ℓ) (c : Dev nD)

theorem idx : ∀ t : Fin cfg0.N, win0_0.index t = ![0, 0] ∧ win0_1.index t = ![t.val / 3, 0, t.val % 3] ∧ win0_2.index t = ![t.val / 3, 0, t.val % 3] ∧ win0_3.index t = ![t.val / 3, 0, t.val % 3] :=
  (by decide +kernel : ∀ t : Fin grid0.N, _)

/-- What one grid point writes. -/
theorem block_at (a : FVec Ideal S8x1024 .f32) (w : FVec Ideal S1x1024x768 .f32) (b : FVec Ideal S1x1x768 .f32) (q : Fin 1) (s : Fin 8) (j : Fin 768) :
    (out0_3 (F := Ideal) a w b (ix3 q s j) : EReal) = fwd (fun i => a (ix2 s i)) (fun i => w (ix3 0 i j)) (b (ix3 0 0 j)) := by
  unfold out0_3
  rw [View.canon_cons_unit_lit _ _ _ (by decide), pay_at]
  rw [show View.ld (Val := Elt Ideal) (e' := .f32) a r0_0 = a from View.ld_unit_lit _ _ (by decide),
    show View.ld (Val := Elt Ideal) (e' := .f32) w r0_1 = w from View.ld_unit_lit _ _ (by decide),
    show View.ld (Val := Elt Ideal) (e' := .f32) b r0_2 = b from View.ld_unit_lit _ _ (by decide)]

/-- The bias as the call finds it. -/
theorem V_b (l : Fin 4) (j : Fin 2304) : ((V m c main_v0 : FVec Ideal S4x1x2304 .f32) (ix3 l 0 j) : EReal) = m ((c.tc : Thread nD τ).loc main_arg2) (ix2 l j) := by
  unfold_abbrev_sides
  after_reads_at

theorem V_w (l : Fin 4) (i : Fin 1024) (j : Fin 2304) : ((V m c main_arg1 : FVec Ideal S4x1024x2304 .f32) (ix3 l i j) : EReal) = m ((c.tc : Thread nD τ).loc main_arg1) (ix3 l i j) :=
  congrFun (V_main_arg1 m c) _

def outOf (x : FVec Ideal S8x1024 .f32) (w : FVec Ideal S4x1024x2304 .f32) (b : FVec Ideal S4x2304 .f32) : S4x8x2304.Idx → EReal :=
  fun i => fwd (fun d => x (ix2 (i 1) d)) (fun d => w (ix3 (i 0) d (i 2))) (b (ix2 (i 0) (i 2)))

theorem arr3 : (dats m 0 c).arrAt 3 cfg0.N = outOf (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  blk_simp
  rw [after0_3]
  have ht : t.val < 12 := t.isLt.trans_le (le_of_eq N_0)
  have hy : (y 2).val < 768 := (y 2).isLt
  have e : ∀ f : S4x8x2304.Idx → EReal, f ((win0_3.blk t).view.emb y) = f (ix3 (⟨t.val / 3, by omega⟩ : Fin 4) (y 1) (⟨t.val % 3 * 768 + (y 2).val, by omega⟩ : Fin 2304)) := by
    intro f; blk_ext [idx t]
  have e0 (s : Fin 8) (i : Fin 1024) : (iblk m c 0 t : S8x1024.Idx → EReal) (ix2 s i) = (V m c main_arg0 : FVec Ideal S8x1024 .f32) (ix2 s i) := by
    blk_ext [iblk, idx t]
  have e1 (i : Fin 1024) (j : Fin 768) : (iblk m c 1 t : S1x1024x768.Idx → EReal) (ix3 0 i j)
      = (V m c main_arg1 : FVec Ideal S4x1024x2304 .f32) (ix3 (⟨t.val / 3, by omega⟩ : Fin 4) i (⟨t.val % 3 * 768 + j.val, by omega⟩ : Fin 2304)) := by
    blk_ext [iblk, idx t]
  have e2 (j : Fin 768) : (iblk m c 2 t : S1x1x768.Idx → EReal) (ix3 0 0 j)
      = (V m c main_v0 : FVec Ideal S4x1x2304 .f32) (ix3 (⟨t.val / 3, by omega⟩ : Fin 4) 0 (⟨t.val % 3 * 768 + j.val, by omega⟩ : Fin 2304)) := by
    blk_ext [iblk, idx t]
  refine Eq.trans ?_ (e (outOf _ _ _)).symm
  refine (congrArg _ (eq_ix3 y)).trans ((block_at _ _ _ (y 0) (y 1) (y 2)).trans ?_)
  refine congr (congrArg₂ fwd (funext fun i => ?_) (funext fun i => ?_)) ?_
  · exact (e0 _ i).trans (congrFun (V_main_arg0 m c) _)
  · exact (e1 i _).trans (V_w m c _ i _)
  · exact (e2 _).trans (V_b m c _ _)

end Cert.Kernel32Ideal.Tile

namespace Cert.Reference32Ideal.Read
open Cert.Reference32Ideal Cert.Reference32Ideal.Gen Idealize.ShloMosaic Idealize.ShloMosaic.TcCoe Idealize.SL.Sem Cert.Ada

theorem silu_at (x0 : FVec Ideal S8x1024 .f32) (s : Fin 8) (i : Fin 1024) : (val_main_v0 (F := Ideal) x0 (ix2 s i) : EReal) = silu (x0 (ix2 s i)) := by
  unfold silu
  pointwise [val_main_v0, val_main_call0_v5, val_main_call0_v4, val_main_call0_v3, val_main_call0_v2, val_main_call0_v1, val_main_call0_v0, val_main_call0_cst, val_main_call0_cst_0]
  rfl

section
variable (x0 : FVec Ideal S8x1024 .f32) (x1 : FVec Ideal S4x1024x2304 .f32) (x2 : FVec Ideal S4x2304 .f32) (s : Fin 8) (j : Fin 2304)

theorem row0 : (val_main_v33 (F := Ideal) x0 x1 x2 (ix3 0 s j) : EReal) = fwd (fun d => x0 (ix2 s d)) (fun d => x1 (ix3 0 d j)) (x2 (ix2 0 j)) := by
  unfold fwd
  simp only [← silu_at]
  rw [val_main_v33, val_main_v8, val_main_v3]
  generalize val_main_v0 (F := Ideal) x0 = D
  pointwise [val_main_v1, val_main_v2, val_main_v4, val_main_v5, val_main_v6, val_main_v7]

theorem row1 : (val_main_v34 (F := Ideal) x0 x1 x2 (ix3 0 s j) : EReal) = fwd (fun d => x0 (ix2 s d)) (fun d => x1 (ix3 1 d j)) (x2 (ix2 1 j)) := by
  unfold fwd
  simp only [← silu_at]
  rw [val_main_v34, val_main_v16, val_main_v11]
  generalize val_main_v0 (F := Ideal) x0 = D
  pointwise [val_main_v9, val_main_v10, val_main_v12, val_main_v13, val_main_v14, val_main_v15]

theorem row2 : (val_main_v35 (F := Ideal) x0 x1 x2 (ix3 0 s j) : EReal) = fwd (fun d => x0 (ix2 s d)) (fun d => x1 (ix3 2 d j)) (x2 (ix2 2 j)) := by
  unfold fwd
  simp only [← silu_at]
  rw [val_main_v35, val_main_v24, val_main_v19]
  generalize val_main_v0 (F := Ideal) x0 = D
  pointwise [val_main_v17, val_main_v18, val_main_v20, val_main_v21, val_main_v22, val_main_v23]

theorem row3 : (val_main_v36 (F := Ideal) x0 x1 x2 (ix3 0 s j) : EReal) = fwd (fun d => x0 (ix2 s d)) (fun d => x1 (ix3 3 d j)) (x2 (ix2 3 j)) := by
  unfold fwd
  simp only [← silu_at]
  rw [val_main_v36, val_main_v32, val_main_v27]
  generalize val_main_v0 (F := Ideal) x0 = D
  pointwise [val_main_v25, val_main_v26, val_main_v28, val_main_v29, val_main_v30, val_main_v31]

theorem out_at (l : Fin 4) : (val_main_v37 (F := Ideal) x0 x1 x2 (ix3 l s j) : EReal) = fwd (fun d => x0 (ix2 s d)) (fun d => x1 (ix3 l d j)) (x2 (ix2 l j)) := by
  rw [val_main_v37]
  fin_cases l
  · refine Eq.trans ?_ (row0 x0 x1 x2 s j)
    generalize val_main_v33 (F := Ideal) x0 x1 x2 = A
    pointwise []
  · refine Eq.trans ?_ (row1 x0 x1 x2 s j)
    generalize val_main_v34 (F := Ideal) x0 x1 x2 = A
    pointwise []
  · refine Eq.trans ?_ (row2 x0 x1 x2 s j)
    generalize val_main_v35 (F := Ideal) x0 x1 x2 = A
    pointwise []
  · refine Eq.trans ?_ (row3 x0 x1 x2 s j)
    generalize val_main_v36 (F := Ideal) x0 x1 x2 = A
    pointwise []

theorem out_arr : val_main_v37 (F := Ideal) x0 x1 x2 = Cert.Kernel32Ideal.Tile.outOf x0 x1 x2 :=
  funext fun i => (congrArg _ (eq_ix3 i)).trans (out_at x0 x1 x2 (i 1) (i 2) (i 0))

end

end Cert.Reference32Ideal.Read

namespace Cert.Kernel33Ideal.Tile
open Cert.Kernel33Ideal Cert.Kernel33Ideal.Gen Idealize.ShloMosaic Idealize.ShloMosaic.TcCoe Idealize.SL.Sem Cert.Ada

/-- One block of columns. -/
theorem pay_at (a : FVec Ideal S8x1024 .f32) (w : FVec Ideal S1x1024x512 .f32) (b : FVec Ideal S1x1x512 .f32) (q : Fin 1) (s : Fin 8) (j : Fin 512) :
    (k0_pay1 (F := Ideal) a w b (ix3 q s j) : EReal) = fwd (fun i => a (ix2 s i)) (fun i => w (ix3 0 i j)) (b (ix3 0 0 j)) := by
  obtain rfl : q = 0 := Subsingleton.elim _ _
  unfold fwd silu
  pointwise [k0_pay1]

variable (m : (ℓ : Loc nD τ sig) → Buf (Elt Ideal) ℓ) (c : Dev nD)

theorem idx : ∀ t : Fin cfg0.N, win0_0.index t = ![0, 0] ∧ win0_1.index t = ![t.val / 1, 0, t.val % 1] ∧ win0_2.index t = ![t.val / 1, 0, t.val % 1] ∧ win0_3.index t = ![t.val / 1, 0, t.val % 1] :=
  (by decide +kernel : ∀ t : Fin grid0.N, _)

/-- What one grid point writes. -/
theorem block_at (a : FVec Ideal S8x1024 .f32) (w : FVec Ideal S1x1024x512 .f32) (b : FVec Ideal S1x1x512 .f32) (q : Fin 1) (s : Fin 8) (j : Fin 512) :
    (out0_3 (F := Ideal) a w b (ix3 q s j) : EReal) = fwd (fun i => a (ix2 s i)) (fun i => w (ix3 0 i j)) (b (ix3 0 0 j)) := by
  unfold out0_3
  rw [View.canon_cons_unit_lit _ _ _ (by decide), pay_at]
  rw [show View.ld (Val := Elt Ideal) (e' := .f32) a r0_0 = a from View.ld_unit_lit _ _ (by decide),
    show View.ld (Val := Elt Ideal) (e' := .f32) w r0_1 = w from View.ld_unit_lit _ _ (by decide),
    show View.ld (Val := Elt Ideal) (e' := .f32) b r0_2 = b from View.ld_unit_lit _ _ (by decide)]

/-- The bias as the call finds it. -/
theorem V_b (l : Fin 1) (j : Fin 512) : ((V m c main_v1 : FVec Ideal S1x1x512 .f32) (ix3 l 0 j) : EReal) = m ((c.tc : Thread nD τ).loc main_arg2) (ix1 j) := by
  unfold_abbrev_sides
  after_reads_at

/-- The weight as the call finds it. -/
theorem V_w (l : Fin 1) (i : Fin 1024) (j : Fin 512) : ((V m c main_v0 : FVec Ideal S1x1024x512 .f32) (ix3 l i j) : EReal) = m ((c.tc : Thread nD τ).loc main_arg1) (ix2 i j) := by
  unfold_abbrev_sides
  after_reads_at

def outOf (x : FVec Ideal S8x1024 .f32) (w : FVec Ideal S1024x512 .f32) (b : FVec Ideal S512 .f32) : S1x8x512.Idx → EReal :=
  fun i => fwd (fun d => x (ix2 (i 1) d)) (fun d => w (ix2 d (i 2))) (b (ix1 (i 2)))

theorem arr3 : (dats m 0 c).arrAt 3 cfg0.N = outOf (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  blk_simp
  rw [after0_3]
  have ht : t.val < 1 := t.isLt.trans_le (le_of_eq N_0)
  have hy : (y 2).val < 512 := (y 2).isLt
  have e : ∀ f : S1x8x512.Idx → EReal, f ((win0_3.blk t).view.emb y) = f (ix3 (⟨t.val / 1, by omega⟩ : Fin 1) (y 1) (⟨t.val % 1 * 512 + (y 2).val, by omega⟩ : Fin 512)) := by
    intro f; blk_ext [idx t]
  have e0 (s : Fin 8) (i : Fin 1024) : (iblk m c 0 t : S8x1024.Idx → EReal) (ix2 s i) = (V m c main_arg0 : FVec Ideal S8x1024 .f32) (ix2 s i) := by
    blk_ext [iblk, idx t]
  have e1 (i : Fin 1024) (j : Fin 512) : (iblk m c 1 t : S1x1024x512.Idx → EReal) (ix3 0 i j)
      = (V m c main_v0 : FVec Ideal S1x1024x512 .f32) (ix3 (⟨t.val / 1, by omega⟩ : Fin 1) i (⟨t.val % 1 * 512 + j.val, by omega⟩ : Fin 512)) := by
    blk_ext [iblk, idx t]
  have e2 (j : Fin 512) : (iblk m c 2 t : S1x1x512.Idx → EReal) (ix3 0 0 j)
      = (V m c main_v1 : FVec Ideal S1x1x512 .f32) (ix3 (⟨t.val / 1, by omega⟩ : Fin 1) 0 (⟨t.val % 1 * 512 + j.val, by omega⟩ : Fin 512)) := by
    blk_ext [iblk, idx t]
  refine Eq.trans ?_ (e (outOf _ _ _)).symm
  refine (congrArg _ (eq_ix3 y)).trans ((block_at _ _ _ (y 0) (y 1) (y 2)).trans ?_)
  refine congr (congrArg₂ fwd (funext fun i => ?_) (funext fun i => ?_)) ?_
  · exact (e0 _ i).trans (congrFun (V_main_arg0 m c) _)
  · exact (e1 i _).trans (V_w m c _ i _)
  · exact (e2 _).trans (V_b m c _ _)

end Cert.Kernel33Ideal.Tile

namespace Cert.Reference33Ideal.Read
open Cert.Reference33Ideal Cert.Reference33Ideal.Gen Idealize.ShloMosaic Idealize.ShloMosaic.TcCoe Idealize.SL.Sem Cert.Ada

theorem silu_at (x0 : FVec Ideal S8x1024 .f32) (s : Fin 8) (i : Fin 1024) : (val_main_v0 (F := Ideal) x0 (ix2 s i) : EReal) = silu (x0 (ix2 s i)) := by
  unfold silu
  pointwise [val_main_v0, val_main_call0_v5, val_main_call0_v4, val_main_call0_v3, val_main_call0_v2, val_main_call0_v1, val_main_call0_v0, val_main_call0_cst, val_main_call0_cst_0]
  rfl

section
variable (x0 : FVec Ideal S8x1024 .f32) (x1 : FVec Ideal S1024x512 .f32) (x2 : FVec Ideal S512 .f32)

theorem out_at (l : Fin 1) (s : Fin 8) (j : Fin 512) : (val_main_v5 (F := Ideal) x0 x1 x2 (ix3 l s j) : EReal) = fwd (fun d => x0 (ix2 s d)) (fun d => x1 (ix2 d j)) (x2 (ix1 j)) := by
  unfold fwd
  simp only [← silu_at]
  rw [val_main_v5, val_main_v4, val_main_v1]
  generalize val_main_v0 (F := Ideal) x0 = D
  pointwise [val_main_v2, val_main_v3]

theorem out_arr : val_main_v5 (F := Ideal) x0 x1 x2 = Cert.Kernel33Ideal.Tile.outOf x0 x1 x2 :=
  funext fun i => (congrArg _ (eq_ix3 i)).trans (out_at x0 x1 x2 (i 0) (i 1) (i 2))

end

end Cert.Reference33Ideal.Read

namespace Cert.Proof

open Idealize.ShloMosaic Idealize.ShloMosaic.TcCoe Idealize.SL.Sem Cert.Ada

theorem frame_k32 : Cert.quiescent_Kernel32 := fun m ρ _ => Cert.Kernel32.Gen.frame m ρ
theorem frame_i32 : Cert.quiescent_Kernel32Ideal := fun m ρ _ => Cert.Kernel32Ideal.Gen.frame m ρ
theorem frame_r32 : Cert.quiescent_Reference32Ideal := fun m ρ _ =>
  (θ_run Cert.Reference32Ideal.defs _ _).mono (fun r h => ⟨fun c => (h c).2, sem_eq_zero_of_no_sems (by decide) r.2⟩) (Cert.Reference32Ideal.Value.run (F := Ideal) m ρ)

theorem algebraic32 : Cert.algebraic_Kernel32Ideal_Reference32Ideal := by
  intro m ρ m' ρ' _ hag
  refine ⟨fun c => Cert.Kernel32Ideal.Tile.outOf (m ((c.tc : Thread Cert.Kernel32Ideal.nD Cert.Kernel32Ideal.τ).loc Cert.Kernel32Ideal.main_arg0)) (m ((c.tc : Thread Cert.Kernel32Ideal.nD Cert.Kernel32Ideal.τ).loc Cert.Kernel32Ideal.main_arg1)) (m ((c.tc : Thread Cert.Kernel32Ideal.nD Cert.Kernel32Ideal.τ).loc Cert.Kernel32Ideal.main_arg2)), ?_, ?_⟩
  · refine (θ_run Cert.Kernel32Ideal.defs _ _).mono (fun r h c => ?_) (Cert.Kernel32Ideal.Value.run_blocks (F := Ideal) m ρ)
    obtain ⟨h0, hk⟩ := h c
    exact ⟨h0.trans (Cert.Kernel32Ideal.Tile.arr3 m c), hk⟩
  · refine (θ_run Cert.Reference32Ideal.defs _ _).mono (fun r h c => ?_) (Cert.Reference32Ideal.Value.run (F := Ideal) m' ρ')
    obtain ⟨h0, hk⟩ := h c
    obtain ⟨a0, a1, a2⟩ := hag c
    exact ⟨h0.trans ((Cert.Reference32Ideal.Read.val_main_v37_eq _ _ _).trans ((Cert.Reference32Ideal.Read.out_arr _ _ _).trans (congr (congrArg₂ Cert.Kernel32Ideal.Tile.outOf a0 a1) a2))), hk⟩

theorem frame_k33 : Cert.quiescent_Kernel33 := fun m ρ _ => Cert.Kernel33.Gen.frame m ρ
theorem frame_i33 : Cert.quiescent_Kernel33Ideal := fun m ρ _ => Cert.Kernel33Ideal.Gen.frame m ρ
theorem frame_r33 : Cert.quiescent_Reference33Ideal := fun m ρ _ =>
  (θ_run Cert.Reference33Ideal.defs _ _).mono (fun r h => ⟨fun c => (h c).2, sem_eq_zero_of_no_sems (by decide) r.2⟩) (Cert.Reference33Ideal.Value.run (F := Ideal) m ρ)

theorem algebraic33 : Cert.algebraic_Kernel33Ideal_Reference33Ideal := by
  intro m ρ m' ρ' _ hag
  refine ⟨fun c => Cert.Kernel33Ideal.Tile.outOf (m ((c.tc : Thread Cert.Kernel33Ideal.nD Cert.Kernel33Ideal.τ).loc Cert.Kernel33Ideal.main_arg0)) (m ((c.tc : Thread Cert.Kernel33Ideal.nD Cert.Kernel33Ideal.τ).loc Cert.Kernel33Ideal.main_arg1)) (m ((c.tc : Thread Cert.Kernel33Ideal.nD Cert.Kernel33Ideal.τ).loc Cert.Kernel33Ideal.main_arg2)), ?_, ?_⟩
  · refine (θ_run Cert.Kernel33Ideal.defs _ _).mono (fun r h c => ?_) (Cert.Kernel33Ideal.Value.run_blocks (F := Ideal) m ρ)
    obtain ⟨h0, hk⟩ := h c
    exact ⟨h0.trans (Cert.Kernel33Ideal.Tile.arr3 m c), hk⟩
  · refine (θ_run Cert.Reference33Ideal.defs _ _).mono (fun r h c => ?_) (Cert.Reference33Ideal.Value.run (F := Ideal) m' ρ')
    obtain ⟨h0, hk⟩ := h c
    obtain ⟨a0, a1, a2⟩ := hag c
    exact ⟨h0.trans ((Cert.Reference33Ideal.Read.val_main_v5_eq _ _ _).trans ((Cert.Reference33Ideal.Read.out_arr _ _ _).trans (congr (congrArg₂ Cert.Kernel33Ideal.Tile.outOf a0 a1) a2))), hk⟩

end Cert.Proof
-- ==== Proof.LossSpec.lean ====
module

public import proofs.«01_k».proof.Proof.Norm

@[expose] public section

noncomputable section

namespace Cert.LossSpec

open Idealize.ShloMosaic Cert.KernelIdeal.Pay Cert.Finite

/-! The loss head over its operands, one token at a time. -/

/-- The operands: the residual stream, the targets and the last normalisation's gain. -/
structure In where
  x : Fin 8192 → Fin 1024 → EReal
  tg : Fin 8192 → Fin 1024 → EReal
  g : Fin 1024 → EReal

variable (I : In)

/-- The error of the prediction. -/
def In.err (t : Fin 8192) (d : Fin 1024) : EReal := I.x t d * rstd (I.x t) * I.g d - I.tg t d

/-- The gradient of the prediction. -/
def In.dy (t : Fin 8192) (d : Fin 1024) : EReal := I.err t d * Ideal.ofBits .f32 0x3A800000#32

/-- The gradient of the normalised row. -/
def In.dxh (t : Fin 8192) (d : Fin 1024) : EReal := I.dy t d * I.g d

/-- The gradient of the residual stream. -/
def In.dx (t : Fin 8192) (d : Fin 1024) : EReal := dnorm (I.x t) (I.dxh t) d

/-- What one token adds to row `r` of the running sums: the gain's gradient, and the squared error. -/
def In.redT (r : Fin 8) (d : Fin 1024) (t : Fin 8192) : EReal :=
  if r.val = 0 then I.dy t d * (I.x t d * rstd (I.x t)) else if r.val = 1 then I.err t d * I.err t d else 0

/-- The running sums after all tokens. -/
def In.red (r : Fin 8) (d : Fin 1024) : EReal := ∑ t : Fin 8192, I.redT r d t

/-- The gradient of the gain. -/
def In.dg (d : Fin 1024) : EReal := ∑ t : Fin 8192, I.dy t d * (I.x t d * rstd (I.x t))

/-- The loss. -/
def In.loss : EReal :=
  Ideal.div (Ideal.ofBits .f32 0x3F000000#32 * ∑ d : Fin 1024, ∑ t : Fin 8192, I.err t d * I.err t d) (Ideal.ofBits .f32 0x44800000#32)

theorem ofBits_inv : Ideal.ofBits .f32 0x3A800000#32 = ((1 / 1024 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num

variable {I}

/-- The prediction's gradient as differentiation writes it: half of twice the error, over the width. -/
theorem dy_eq (t : Fin 8192) (d : Fin 1024) :
    Ideal.div (Ideal.ofBits .f32 0x3F000000#32 * Ideal.ofBits .f32 0x3F800000#32) (Ideal.ofBits .f32 0x44800000#32) * (Ideal.ofBits .f32 0x40000000#32 * I.err t d)
      = I.dy t d := by
  rw [In.dy, ofBits_inv, ofBits_two, ofBits_half, ofBits_one, ofBits_1024, Ideal.div_coe (by norm_num), ← mul_assoc, mul_comm (I.err t d)]
  simp only [← EReal.coe_mul]
  congr 2
  ring

/-- The loss, with the mean taken over each token first. -/
theorem loss_eq :
    Ideal.ofBits .f32 0x3F000000#32 * ∑ t : Fin 8192, Ideal.div (∑ d : Fin 1024, I.err t d * I.err t d) (Ideal.ofBits .f32 0x44800000#32) = I.loss := by
  rw [In.loss, ofBits_half, ofBits_1024]
  simp only [Ideal.div_coe (show (1024 : ℝ) ≠ 0 by norm_num)]
  rw [Cert.Norm.sum_mul_nn _ _ (by norm_num), Finset.sum_comm, mul_assoc]

end Cert.LossSpec
-- ==== Proof.LossTile.lean ====
module

public import proofs.«01_k».proof.Proof.LossSpec
public import proofs.«01_k».proof.Proof.Arr
public import Idealize.ShloMosaic.Lib.StableHlo.ReadAt
public import proofs.«01_k».proof.Proof.Gen.Kernel31Ideal
public import proofs.«01_k».proof.Proof.Gen.Kernel31Ideal.Skeleton
public import proofs.«01_k».proof.Proof.Gen.Kernel31Ideal.Frame

@[expose] public section

set_option maxRecDepth 16384

noncomputable section

namespace Cert.Kernel31Ideal.Loss

open Cert.Kernel31Ideal Cert.Kernel31Ideal.Gen Idealize.ShloMosaic Idealize.ShloMosaic.TcCoe Idealize.SL.Sem
open Cert.LossSpec
open Cert.KernelIdeal.Pay (rstd dnorm)
open Cert.KernelIdeal.Tile (ld_row canon_hit canon_miss)

/-! The payloads of the loss head's body, at an element. -/

section Pay
variable (x tg : FVec Ideal S512x1024 .f32) (v : FVec Ideal S1x1024 .f32) (a : Fin 512) (d : Fin 1024)

theorem pay5_at : (k0_pay5 (F := Ideal) x (ix2 a 0) : EReal) = rstd fun d => x (ix2 a d) := by
  unfold rstd
  pointwise [k0_pay5]

theorem pay6_at : (k0_pay6 (F := Ideal) x (ix2 a d) : EReal) = x (ix2 a d) * rstd fun d => x (ix2 a d) := by
  rw [← pay5_at]
  pointwise [k0_pay6]

theorem pay7_at : (k0_pay7 (F := Ideal) x v tg (ix2 a d) : EReal) = x (ix2 a d) * (rstd fun d => x (ix2 a d)) * v (ix2 0 d) - tg (ix2 a d) := by
  rw [← pay6_at]
  pointwise [k0_pay7, k0_pay4]

theorem pay8_at : (k0_pay8 (F := Ideal) x v tg (ix2 a d) : EReal)
    = (x (ix2 a d) * (rstd fun d => x (ix2 a d)) * v (ix2 0 d) - tg (ix2 a d)) * Ideal.ofBits .f32 0x3A800000#32 := by
  rw [← pay7_at]
  pointwise [k0_pay8]

theorem pay9_at : (k0_pay9 (F := Ideal) x v tg (ix2 a d) : EReal)
    = dnorm (fun d => x (ix2 a d)) (fun d => (k0_pay8 (F := Ideal) x v tg (ix2 a d) : EReal) * v (ix2 0 d)) d := by
  unfold dnorm
  simp only [← pay6_at]
  simp only [← pay5_at]
  pointwise [k0_pay9, k0_pay4]

theorem pay11_at : (k0_pay11 (F := Ideal) x v tg (ix2 a d) : EReal) = k0_pay8 (F := Ideal) x v tg (ix2 a d) * (x (ix2 a d) * rstd fun d => x (ix2 a d)) := by
  rw [← pay6_at]
  pointwise [k0_pay11]

theorem pay1_at (o : FVec Ideal S1x1024 .f32) (w : FVec Ideal S512x1024 .f32) :
    (k0_pay1 (F := Ideal) (k0_pay10 o) w (ix2 0 d) : EReal) = o (ix2 0 d) + ∑ a : Fin 512, w (ix2 a d) := by
  pointwise [k0_pay1, k0_pay10]

theorem pay2_at (o : FVec Ideal S1x1024 .f32) (w : FVec Ideal S512x1024 .f32) :
    (k0_pay2 (F := Ideal) w o (ix2 0 d) : EReal) = o (ix2 0 d) + ∑ a : Fin 512, w (ix2 a d) * w (ix2 a d) := by
  pointwise [k0_pay2]

theorem pay3_at (i : S8x1024.Idx) : (k0_pay3 (F := Ideal) i : EReal) = 0 := by pointwise [k0_pay3]
end Pay

/-! Two rows of eight, each updated by its own store. -/

section Rows
variable {σ : RefSig} {sp : Space} (v : View σ .tc sp S8x1024 .f32) (f : v.ty.Contents (Elt Ideal)) {T : Fin 8 → EReal} (d : Fin 1024)
  {z : FVec Ideal S8x1024 .f32} {p0 p1 : FVec Ideal S1x1024 .f32}
  (i0 : ∀ a : Fin 2, (![0, 0] : Fin 2 → ℕ) a + (![1, 1024] : Fin 2 → ℕ) a ≤ S8x1024.size a)
  (i1 : ∀ a : Fin 2, (![1, 0] : Fin 2 → ℕ) a + (![1, 1024] : Fin 2 → ℕ) a ≤ S8x1024.size a)
  (iz : ∀ a : Fin 2, (![0, 0] : Fin 2 → ℕ) a + (![8, 1024] : Fin 2 → ℕ) a ≤ S8x1024.size a)
  (h0 : p0 (ix2 0 d) = z (ix2 0 d) + T 0) (h1 : p1 (ix2 0 d) = z (ix2 1 d) + T 1)
include h0 h1

theorem rows2_A (hT : ∀ r : Fin 8, 2 ≤ r.val → T r = 0) (r : Fin 8) :
    (View.canon (Val := Elt Ideal) (s := S8x1024) (e := .f32) [⟨Rect.unit ![1, 0] ![1, 1024] i1, p1⟩, ⟨Rect.unit ![0, 0] ![1, 1024] i0, p0⟩,
      ⟨Rect.unit ![0, 0] ![8, 1024] iz, z⟩] (ix2 r d) : EReal) = z (ix2 r d) + T r := by
  match r with
  | ⟨1, _⟩ => exact (canon_hit _ _ _ _ (ix2 0 d : S1x1024.Idx) (fun a => by match a with | ⟨0, _⟩ => rfl | ⟨1, _⟩ => simp)).trans h1
  | ⟨0, _⟩ =>
    rw [canon_miss _ _ _ _ (0 : Fin 2) (by left; simp)]
    exact (canon_hit _ _ _ _ (ix2 0 d : S1x1024.Idx) (fun a => by match a with | ⟨0, _⟩ => rfl | ⟨1, _⟩ => simp)).trans h0
  | ⟨k + 2, hk⟩ =>
    rw [canon_miss _ _ _ _ (0 : Fin 2) (by right; simp), canon_miss _ _ _ _ (0 : Fin 2) (by right; simp), hT _ (by simp), add_zero]
    exact canon_hit (S := S8x1024) iz _ _ _ (ix2 ⟨k + 2, hk⟩ d : S8x1024.Idx) (fun a => by match a with | ⟨0, _⟩ => simp | ⟨1, _⟩ => simp)

theorem rows2_B (hf : v.read (Elt Ideal) f = z) (hT : ∀ r : Fin 8, 2 ≤ r.val → T r = 0) (r : Fin 8) :
    (v.read (Elt Ideal) (v.writes (Elt Ideal) f [⟨Rect.unit ![1, 0] ![1, 1024] i1, p1⟩, ⟨Rect.unit ![0, 0] ![1, 1024] i0, p0⟩]) (ix2 r d) : EReal)
      = z (ix2 r d) + T r := by
  match r with
  | ⟨1, _⟩ => exact (View.read_writes_cons_unit_of_mem _ _ i1 _ _ _ (ix2 0 d : S1x1024.Idx) rfl (fun a => by match a with | ⟨0, _⟩ => rfl | ⟨1, _⟩ => simp)).trans h1
  | ⟨0, _⟩ =>
    rw [View.read_writes_cons_unit_of_not_mem _ _ i1 _ _ _ rfl (0 : Fin 2) (by left; simp)]
    exact (View.read_writes_cons_unit_of_mem _ _ i0 _ _ _ (ix2 0 d : S1x1024.Idx) rfl (fun a => by match a with | ⟨0, _⟩ => rfl | ⟨1, _⟩ => simp)).trans h0
  | ⟨k + 2, hk⟩ =>
    rw [View.read_writes_cons_unit_of_not_mem _ _ i1 _ _ _ rfl (0 : Fin 2) (by right; simp),
      View.read_writes_cons_unit_of_not_mem _ _ i0 _ _ _ rfl (0 : Fin 2) (by right; simp), hT _ (by simp), add_zero]
    exact congrFun hf _
end Rows

/-- The blocks of one tile hold the operands `I` at the rows `ρ`. -/
structure Reads (I : In) (ρ : Fin 512 → Fin 8192) (x tg : FVec Ideal S512x1024 .f32) (v : FVec Ideal S1x1024 .f32) : Prop where
  hx : ∀ (a : Fin 512) (d : Fin 1024), x (ix2 a d) = I.x (ρ a) d
  ht : ∀ (a : Fin 512) (d : Fin 1024), tg (ix2 a d) = I.tg (ρ a) d
  hv : ∀ d : Fin 1024, v (ix2 0 d) = I.g d

section Of
variable {I : In} {ρ : Fin 512 → Fin 8192} {x tg : FVec Ideal S512x1024 .f32} {v : FVec Ideal S1x1024 .f32} (h : Reads I ρ x tg v)
include h

theorem err_of (a : Fin 512) (d : Fin 1024) : (k0_pay7 (F := Ideal) x v tg (ix2 a d) : EReal) = I.err (ρ a) d := by
  rw [pay7_at, In.err]
  simp only [h.hx, h.ht, h.hv]

theorem dy_of (a : Fin 512) (d : Fin 1024) : (k0_pay8 (F := Ideal) x v tg (ix2 a d) : EReal) = I.dy (ρ a) d := by
  rw [pay8_at, In.dy, In.err]
  simp only [h.hx, h.ht, h.hv]

theorem dx_of (a : Fin 512) (d : Fin 1024) : (k0_pay9 (F := Ideal) x v tg (ix2 a d) : EReal) = I.dx (ρ a) d := by
  rw [pay9_at, In.dx]
  simp only [dy_of h, h.hx, h.hv]
  rfl

theorem red0_of (o : FVec Ideal S1x1024 .f32) (d : Fin 1024) :
    (k0_pay1 (F := Ideal) (k0_pay10 o) (k0_pay11 x v tg) (ix2 0 d) : EReal) = o (ix2 0 d) + ∑ a : Fin 512, I.redT 0 d (ρ a) := by
  rw [pay1_at]
  simp only [pay11_at, dy_of h, h.hx]
  rfl

theorem red1_of (o : FVec Ideal S1x1024 .f32) (d : Fin 1024) :
    (k0_pay2 (F := Ideal) (k0_pay7 x v tg) o (ix2 0 d) : EReal) = o (ix2 0 d) + ∑ a : Fin 512, I.redT 1 d (ρ a) := by
  rw [pay2_at]
  simp only [err_of h]
  rfl
end Of

variable (m : (ℓ : Loc nD τ sig) → Buf (Elt Ideal) ℓ) (c : Dev nD)

/-- The arguments of one device as the operands. -/
def opnd : In where
  x t d := (m ((c.tc : Thread nD τ).loc main_arg0) : FVec Ideal S8192x1024 .f32) (ix2 t d)
  tg t d := (m ((c.tc : Thread nD τ).loc main_arg2) : FVec Ideal S8192x1024 .f32) (ix2 t d)
  g d := (m ((c.tc : Thread nD τ).loc main_arg1) : FVec Ideal S1024 .f32) (ix1 d)

theorem idx : ∀ t : Fin cfg0.N,
    win0_0.index t = ![t.val, 0] ∧ win0_1.index t = ![0, 0] ∧ win0_2.index t = ![t.val, 0] ∧ win0_3.index t = ![t.val, 0] :=
  (by decide +kernel : ∀ t : Fin grid0.N, _)

theorem N16 (t : Fin cfg0.N) : t.val < 16 := t.isLt.trans_le (le_of_eq N_0)

/-- The token that row `a` of the tile of point `t` holds. -/
def row (t : Fin cfg0.N) (a : Fin 512) : Fin 8192 := ⟨t.val * 512 + a.val, by have := N16 t; omega⟩

theorem V_g (d : Fin 1024) : ((V m c main_v2 : FVec Ideal S8x1024 .f32) (ix2 0 d) : EReal) = (opnd m c).g d := by
  unfold_abbrev_sides
  after_reads_at

section Point
variable (t : Fin cfg0.N)

theorem b0 (a : Fin 512) (d : Fin 1024) : (iblk m c 0 t : FVec Ideal S512x1024 .f32) (ix2 a d) = (V m c main_arg0 : FVec Ideal S8192x1024 .f32) (ix2 (row t a) d) := by
  blk_ext [iblk, row, idx t]
theorem b1 (r : Fin 8) (d : Fin 1024) : (iblk m c 1 t : FVec Ideal S8x1024 .f32) (ix2 r d) = (V m c main_v2 : FVec Ideal S8x1024 .f32) (ix2 r d) := by
  blk_ext [iblk, idx t]
theorem b2 (a : Fin 512) (d : Fin 1024) : (iblk m c 2 t : FVec Ideal S512x1024 .f32) (ix2 a d) = (V m c main_arg2 : FVec Ideal S8192x1024 .f32) (ix2 (row t a) d) := by
  blk_ext [iblk, row, idx t]

theorem reads : Reads (opnd m c) (row t) (iblk m c 0 t : FVec Ideal S512x1024 .f32) (iblk m c 2 t : FVec Ideal S512x1024 .f32)
    (View.ld (iblk m c 1 t : FVec Ideal S8x1024 .f32) (Rect.unit ![0, 0] ![1, 1024] inb_S8x1024_S1x1024_0_0)) where
  hx a d := (b0 m c t a d).trans (congrFun (V_main_arg0 m c) _)
  ht a d := (b2 m c t a d).trans (congrFun (V_main_arg2 m c) _)
  hv d := (View.ld_unit_apply_of _ _ _ _ _ (ix2 0 d : S8x1024.Idx) (fun a => by match a with | ⟨0, _⟩ => simp | ⟨1, _⟩ => simp)).trans ((b1 m c t 0 d).trans (V_g m c d))

set_option maxHeartbeats 2000000 in
theorem out3 (a : Fin 512) (d : Fin 1024) : (((outsAt0 m c t.val t.isLt).1 : FVec Ideal S512x1024 .f32) (ix2 a d) : EReal) = (opnd m c).dx (row t a) d := by
  by_cases h0 : t.val % 16 = 0
  · rw [outsAt0_A m c t h0]; frame_open
    simp (disch := decide) only [↓ View.readCov_skip, ↓ View.readCov_cons_toLoadRect, ↓ View.readCov_fill]
    frame_out
    exact dx_of (reads m c t) a d
  · rw [outsAt0_B m c t h0]; frame_open
    simp (disch := decide) only [↓ View.readCov_skip, ↓ View.readCov_cons_toLoadRect, ↓ View.readCov_fill]
    frame_out
    exact dx_of (reads m c t) a d

set_option maxHeartbeats 2000000 in
theorem red_A (r : Fin 8) (d : Fin 1024) (h0 : t.val % 16 = 0) :
    ((outsAt0 m c t.val t.isLt).2 : FVec Ideal S8x1024 .f32) (ix2 r d) = 0 + ∑ a : Fin 512, (opnd m c).redT r d (row t a) := by
  rw [outsAt0_A m c t h0]; frame_open
  simp (disch := decide) only [↓ View.readCov_skip, ↓ View.readCov_cons_toLoadRect, ↓ View.readCov_fill]
  frame_out
  refine Eq.trans ?_ (congrArg (· + ∑ a : Fin 512, (opnd m c).redT r d (row t a)) (pay3_at (ix2 r d)))
  exact rows2_A (T := fun r => ∑ a : Fin 512, (opnd m c).redT r d (row t a)) (z := k0_pay3) d _ _ _
    ((red0_of (reads m c t) _ d).trans (congrArg (· + _) (ld_row _ 0 (by decide) _ d))) ((red1_of (reads m c t) _ d).trans (congrArg (· + _) (ld_row _ 1 (by decide) _ d)))
    (fun r hr => Finset.sum_eq_zero fun a _ => by
      simp only [In.redT]; repeat rw [if_neg (by omega)]) r

set_option maxHeartbeats 2000000 in
theorem red_B (r : Fin 8) (d : Fin 1024) (h0 : ¬t.val % 16 = 0) :
    ((outsAt0 m c t.val t.isLt).2 : FVec Ideal S8x1024 .f32) (ix2 r d)
      = ((outsAt0 m c (t.val - 1) (Nat.lt_of_le_of_lt (Nat.sub_le _ _) t.isLt)).2 : FVec Ideal S8x1024 .f32) (ix2 r d)
        + ∑ a : Fin 512, (opnd m c).redT r d (row t a) := by
  rw [outsAt0_B m c t h0]; frame_open
  simp (disch := decide) only [↓ View.readCov_skip, ↓ View.readCov_cons_toLoadRect, ↓ View.readCov_fill]
  frame_out
  exact rows2_B (T := fun r => ∑ a : Fin 512, (opnd m c).redT r d (row t a)) _ _ d _ _
    ((red0_of (reads m c t) _ d).trans (congrArg (· + _) (ld_row _ 0 (by decide) _ d))) ((red1_of (reads m c t) _ d).trans (congrArg (· + _) (ld_row _ 1 (by decide) _ d)))
    (Memref.IsWhole.read_unread _ _)
    (fun r hr => Finset.sum_eq_zero fun a _ => by
      simp only [In.redT]; repeat rw [if_neg (by omega)]) r

end Point

/-- The tiles together are all the tokens. -/
theorem sum_rows (f : Fin 8192 → EReal) : ∑ t : Fin cfg0.N, ∑ a : Fin 512, f (row t a) = ∑ l : Fin 8192, f l :=
  Fin.sum_mul_add_congr (fun s k hl => by congr 1) (congrArg (· * 512) N_0.symm)

/-- The gradient of the residual stream, as one array. -/
def dxOf (I : In) : FVec Ideal S8192x1024 .f32 := fun i => I.dx (i 0) (i 1)

/-- The running sums, as one array. -/
def redOf (I : In) : FVec Ideal S8x1024 .f32 := fun i => I.red (i 0) (i 1)

theorem arr3 : (dats m 0 c).arrAt 3 cfg0.N = dxOf (opnd m c) := by
  refine (dats m 0 c).arrAt_eq_of_covers 3 _ (by decide +kernel) fun t hf y => ?_
  blk_simp
  rw [after0_3]
  have e : ∀ f : S8192x1024.Idx → EReal, f ((win0_3.blk t).view.emb y) = f (ix2 (row t (y 0)) (y 1)) := by
    intro f; blk_ext [row, idx t]
  refine Eq.trans ?_ (e (dxOf (opnd m c))).symm
  exact (congrArg _ (eq_ix2 y)).trans (out3 m c t (y 0) (y 1))

/-- The last point. -/
def tLast : Fin cfg0.N := ⟨15, by rw [show cfg0.N = 16 from N_0]; decide⟩

/-- The running sums after the last tile, as one array. -/
theorem arr4 : (dats m 0 c).arrAt 4 cfg0.N = redOf (opnd m c) := by
  refine (dats m 0 c).arrAt_eq_of_after_last 4 tLast (by decide +kernel) _ fun j => ?_
  blk_simp
  obtain ⟨r, d, rfl⟩ : ∃ r d, j = ix2 r d := ⟨_, _, eq_ix2 j⟩
  rw [after0_4, Pipeline.eq_sum_fin_of_reset_step_apply_last (fun n h => (outsAt0 m c n h).2) 16 (fun _ => 0)
    (fun t i => ∑ a : Fin 512, (opnd m c).redT (i 0) (i 1) (row t a))
    (fun t h i => (congrArg _ (eq_ix2 i)).trans (red_A m c t (i 0) (i 1) h)) (fun t h i => by
      rw [eq_ix2 i]; exact red_B m c t (i 0) (i 1) h) (le_of_eq N_0) tLast rfl, zero_add]
  exact sum_rows fun l => (opnd m c).redT r d l

/-! What the host's lines make of the running sums. -/

/-- The loss, as an array of one element. -/
def lossOf (I : In) : FVec Ideal S_ .f32 := fun _ => I.loss

/-- The gradient of the gain, as one array. -/
def dgOf (I : In) : FVec Ideal S1024 .f32 := fun i => I.dg (i 0)

theorem loss_of (I : In) : Host.divf (mulf (constant (F := Ideal) S_ .f32 0x3F000000#32)
      (Host.reduceAdd (shapeCast S1024 (extractStridedSlice S1x1024 ![1, 0] (redOf I) slices_S8x1024_S1x1024_1_0) shapeCasts_S1x1024_S1024)
        (constant (F := Ideal) S_ .f32 0x00000000#32) reducesTo_S1024_S_d0 h_S_)) (constant (F := Ideal) S_ .f32 0x44800000#32) = lossOf I := by
  funext i
  unfold lossOf In.loss
  pointwise [redOf, In.red, In.redT]

theorem dg_of (I : In) : shapeCast S1024 (extractStridedSlice S1x1024 ![0, 0] (redOf I) slices_S8x1024_S1x1024_0_0) shapeCasts_S1x1024_S1024 = dgOf I := by
  funext i
  obtain ⟨a, rfl⟩ : ∃ a : Fin 1024, i = ix1 a := ⟨_, eq_ix1 i⟩
  unfold dgOf In.dg
  pointwise [redOf, In.red, In.redT]

/-- What the call leaves in the running sums, where the host's lines find it. -/
theorem left4 : Pipeline.withArrays (cfgs 0).spec c (V0 m c) (fun w => (dats m 0 c).arrAt w (cfgs 0).N) (Proc.tc.devRef main_v3_1) = redOf (opnd m c) :=
  (Pipeline.withArrays_arr (cfgs 0).spec launch0.win.arr_inj c (V0 m c) (fun w => (dats m 0 c).arrAt w (cfgs 0).N) 4).trans (arr4 m c)

theorem fin8 : Pipeline.afterTail₀ cfgs (dats m) 0 (V0 m) [hostOps1] c main_v8 = lossOf (opnd m c) := by
  unfold Pipeline.afterTail₀
  after_reads_simp
  rw [left4]
  exact loss_of _

theorem fin10 : Pipeline.afterTail₀ cfgs (dats m) 0 (V0 m) [hostOps1] c main_v10 = dgOf (opnd m c) := by
  unfold Pipeline.afterTail₀
  after_reads_simp
  rw [left4]
  exact dg_of _

/-- The whole run: the three results, and the arguments as they were. -/
theorem run (ρ : Dev nD → PrngReg) : θ_run defs (onTc (τ := τ) (main (F := Ideal))) ⟨m, fun _ => 0, ρ⟩ fun r => ∀ c : Dev nD,
      r.2.mem ((c.tc : Thread nD τ).loc main_v8) = lossOf (opnd m c)
      ∧ r.2.mem ((c.tc : Thread nD τ).loc main_v3_0) = dxOf (opnd m c)
      ∧ r.2.mem ((c.tc : Thread nD τ).loc main_v10) = dgOf (opnd m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).2 main_v8 (Pipeline.mem_restRefs_of main_v8 (by decide) (by decide))).trans (fin8 m c),
      ((h c).1 3).trans (arr3 m c),
      ((h c).2 main_v10 (Pipeline.mem_restRefs_of main_v10 (by decide) (by decide))).trans (fin10 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩)
    (run_main m ρ)

end Cert.Kernel31Ideal.Loss
-- ==== Proof.LossRef.lean ====
module

public import proofs.«01_k».proof.Proof.LossSpec
public import Idealize.ShloMosaic.Lib.StableHlo.ReadAt
public import Idealize.ShloMosaic.PureOps.Ideal.Laws
public import proofs.«01_k».proof.Proof.Gen.Reference31Ideal
public import proofs.«01_k».proof.Proof.Gen.Reference31Ideal.Read
public import proofs.«01_k».proof.Proof.Gen.Reference31Ideal.Run

@[expose] public section

set_option maxRecDepth 16384

noncomputable section

namespace Cert.Reference31Ideal.Loss

open Cert.Reference31Ideal Cert.Reference31Ideal.Gen Idealize.ShloMosaic Idealize.ShloMosaic.TcCoe Idealize.SL.Sem
open Cert.Reference31Ideal.Read Cert.LossSpec Cert.KernelIdeal.Pay Cert.Finite Cert.Norm

variable (x0 : FVec Ideal S8192x1024 .f32) (x1 : FVec Ideal S1024 .f32) (x2 : FVec Ideal S8192x1024 .f32)

/-- The arguments as the operands. -/
def opr : In where
  x t d := x0 (ix2 t d)
  tg t d := x2 (ix2 t d)
  g d := x1 (ix1 d)

variable (t : Fin 8192) (d : Fin 1024)

/-! What differentiation writes, an element at a time. -/

theorem rstd_at : ((val_main_v7 (F := Ideal) x0) (ix2 t 0) : EReal) = rstd ((opr x0 x1 x2).x t) := by
  pointwise [val_main_v7, val_main_v6, val_main_v5, val_main_v4, val_main_v3, val_main_v2, val_main_v1, val_main_v0,
    val_main_cst, val_main_cst_0, val_main_cst_1, opr, rstd]

theorem half_at : ((val_main_v10 (F := Ideal) x0) (ix2 t 0) : EReal)
    = Ideal.ofBits .f32 0xBF000000#32 * Ideal.div (rstd ((opr x0 x1 x2).x t)) (msq ((opr x0 x1 x2).x t)) := by
  pointwise [val_main_v10, val_main_v9, val_main_v8, val_main_v7, val_main_v6, val_main_v5, val_main_v4, val_main_v3, val_main_v2, val_main_v1, val_main_v0,
    val_main_cst, val_main_cst_0, val_main_cst_1, val_main_cst_2, opr, rstd, msq]

theorem rstdB_at : ((val_main_v40 (F := Ideal) x0) (ix2 t d) : EReal) = rstd ((opr x0 x1 x2).x t) := by
  rw [← rstd_at, val_main_v40]
  generalize (val_main_v7 (F := Ideal) x0) = Q
  pointwise

theorem xh_at : ((val_main_v12 (F := Ideal) x0) (ix2 t d) : EReal) = (opr x0 x1 x2).x t d * rstd ((opr x0 x1 x2).x t) := by
  rw [← rstd_at, val_main_v12, val_main_v11]
  generalize (val_main_v7 (F := Ideal) x0) = Q
  pointwise [opr]

theorem err_at : ((val_main_v16 (F := Ideal) x0 x1 x2) (ix2 t d) : EReal) = (opr x0 x1 x2).err t d := by
  rw [In.err, ← xh_at, val_main_v16, val_main_v15]
  generalize (val_main_v12 (F := Ideal) x0) = Q
  pointwise [val_main_v14, val_main_v13, opr]

theorem dy_at : ((val_main_v30 (F := Ideal) x0 x1 x2) (ix2 t d) : EReal) = (opr x0 x1 x2).dy t d := by
  rw [← dy_eq, ← err_at, val_main_v30, val_main_v19]
  generalize (val_main_v16 (F := Ideal) x0 x1 x2) = E
  pointwise [val_main_v29, val_main_v28, val_main_v27, val_main_v26, val_main_v25, val_main_v18, val_main_cst_3, val_main_cst_8, val_main_cst_9, val_main_cst_10]

theorem dxh_at : ((val_main_v35 (F := Ideal) x0 x1 x2) (ix2 t d) : EReal) = (opr x0 x1 x2).dxh t d := by
  rw [In.dxh, ← dy_at x0 x1 x2 t d, val_main_v35]
  generalize (val_main_v30 (F := Ideal) x0 x1 x2) = D
  pointwise [val_main_v34, val_main_v13, opr]

theorem corr_at : ((val_main_v46 (F := Ideal) x0 x1 x2) (ix2 t d) : EReal)
    = Ideal.div ((∑ e : Fin 1024, (opr x0 x1 x2).x t e * (opr x0 x1 x2).dxh t e) * (Ideal.ofBits .f32 0xBF000000#32 * Ideal.div (rstd ((opr x0 x1 x2).x t)) (msq ((opr x0 x1 x2).x t))))
        (Ideal.ofBits .f32 0x44800000#32) := by
  rw [← half_at]
  simp only [← dxh_at x0 x1 x2 _ _]
  rw [val_main_v46, val_main_v45, val_main_v44, val_main_v42, val_main_v39, val_main_v38, val_main_v37]
  generalize (val_main_v35 (F := Ideal) x0 x1 x2) = D
  generalize (val_main_v10 (F := Ideal) x0) = Q
  pointwise [val_main_v43, val_main_cst_13, val_main_cst_14, val_main_cst_15, opr]
  exact Fin.sum_univ_one _

/-- The gradient of the residual stream. -/
theorem dx_at : ((val_main_v50 (F := Ideal) x0 x1 x2) (ix2 t d) : EReal) = (opr x0 x1 x2).dx t d := by
  rw [In.dx, ← dnorm_eq, ← corr_at x0 x1 x2 t d, ← dxh_at x0 x1 x2 t d, ← rstdB_at x0 x1 x2 t d,
    val_main_v50, val_main_v48, val_main_v49, val_main_v47, val_main_v41]
  generalize (val_main_v35 (F := Ideal) x0 x1 x2) = D
  generalize (val_main_v46 (F := Ideal) x0 x1 x2) = C
  generalize (val_main_v40 (F := Ideal) x0) = Q
  pointwise [opr]

/-- The gradient of the gain. -/
theorem dg_at : ((val_main_v36 (F := Ideal) x0 x1 x2) (ix1 d) : EReal) = (opr x0 x1 x2).dg d := by
  rw [In.dg]
  simp only [← dy_at x0 x1 x2 _ _, ← xh_at]
  rw [val_main_v36, val_main_v33, val_main_v32, val_main_v31]
  generalize (val_main_v30 (F := Ideal) x0 x1 x2) = D
  generalize (val_main_v12 (F := Ideal) x0) = Q
  pointwise [val_main_cst_11, val_main_cst_12]
  refine (Fin.sum_univ_one _).trans (Finset.sum_congr rfl fun t _ => mul_comm _ _)

/-- The loss. -/
theorem loss_at (i : S_.Idx) : ((val_main_v24 (F := Ideal) x0 x1 x2) i : EReal) = (opr x0 x1 x2).loss := by
  rw [← loss_eq]
  simp only [← err_at]
  rw [val_main_v24, val_main_v23, val_main_v22, val_main_v20, val_main_v17]
  generalize (val_main_v16 (F := Ideal) x0 x1 x2) = E
  pointwise [val_main_v21, val_main_cst_4, val_main_cst_5, val_main_cst_6, val_main_cst_7]

end Cert.Reference31Ideal.Loss
-- ==== Proof.LossAlg.lean ====
module

public import proofs.«01_k».proof.Defs
public import proofs.«01_k».proof.Proof.LossTile
public import proofs.«01_k».proof.Proof.LossRef
public import proofs.«01_k».proof.Proof.Gen.Kernel31
public import proofs.«01_k».proof.Proof.Gen.Kernel31.Frame

@[expose] public section

set_option maxRecDepth 16384

noncomputable section

/-! The loss head: frames, and the kernel's results are the reference's. -/

namespace Cert.Proof

open Idealize.ShloMosaic Idealize.ShloMosaic.TcCoe Idealize.SL.Sem

theorem frame_k31 : Cert.quiescent_Kernel31 := fun m ρ _ => Cert.Kernel31.Gen.frame m ρ
theorem frame_i31 : Cert.quiescent_Kernel31Ideal := fun m ρ _ => Cert.Kernel31Ideal.Gen.frame m ρ
theorem frame_r31 : Cert.quiescent_Reference31Ideal := fun m ρ _ =>
  (θ_run Cert.Reference31Ideal.defs _ _).mono (fun r h => ⟨fun c => (h c).2.2.2, sem_eq_zero_of_no_sems (by decide) r.2⟩)
    (Cert.Reference31Ideal.Value.run (F := Ideal) m ρ)

open Cert.Kernel31Ideal.Loss Cert.Reference31Ideal.Loss Cert.LossSpec in
theorem algebraic31 : Cert.algebraic_Kernel31Ideal_Reference31Ideal := by
  intro m ρ m' ρ' _ hag
  refine ⟨fun c => lossOf (opnd m c), fun c => dxOf (opnd m c), fun c => dgOf (opnd m c), Cert.Kernel31Ideal.Loss.run m ρ, ?_⟩
  refine (θ_run Cert.Reference31Ideal.defs _ _).mono (fun r h c => ?_) (Cert.Reference31Ideal.Value.run (F := Ideal) m' ρ')
  obtain ⟨h0, h1, h2, hk⟩ := h c
  obtain ⟨a0, a1, a2⟩ := hag c
  have e : opr (m' ((c.tc : Thread Cert.Reference31Ideal.nD Cert.Reference31Ideal.τ).loc Cert.Reference31Ideal.main_arg0)) (m' ((c.tc : Thread Cert.Reference31Ideal.nD Cert.Reference31Ideal.τ).loc Cert.Reference31Ideal.main_arg1))
      (m' ((c.tc : Thread Cert.Reference31Ideal.nD Cert.Reference31Ideal.τ).loc Cert.Reference31Ideal.main_arg2)) = opnd m c := by
    unfold opnd opr
    rw [a0, a1, a2]
  refine ⟨h0.trans ((Cert.Reference31Ideal.Read.val_main_v24_eq _ _ _).trans (funext fun i => ?_)),
    h1.trans ((Cert.Reference31Ideal.Read.val_main_v50_eq _ _).trans (funext fun i => ?_)),
    h2.trans ((Cert.Reference31Ideal.Read.val_main_v36_eq _ _ _).trans (funext fun i => ?_)), hk⟩
  · exact (loss_at _ _ _ i).trans (congrArg In.loss e)
  · exact (congrArg _ (eq_ix2 i)).trans ((dx_at _ _ _ (i 0) (i 1)).trans (congrArg (fun I => In.dx I (i 0) (i 1)) e))
  · exact (congrArg _ (eq_ix1 i)).trans ((dg_at _ _ _ (i 0)).trans (congrArg (fun I => In.dg I (i 0)) e))

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Read
public import proofs.«01_k».proof.Proof.Gen.ReferenceIdeal.Run
public import proofs.«01_k».proof.Proof.Gen.KernelIdeal.Value
public import proofs.«01_k».proof.Proof.Gen.Kernel2.Frame
public import proofs.«01_k».proof.Proof.Gen.Kernel2Ideal.Skeleton
public import proofs.«01_k».proof.Proof.Gen.Kernel2Ideal.Frame
public import proofs.«01_k».proof.Proof.Gen.Kernel2Ideal.Value
public import proofs.«01_k».proof.Proof.Gen.Reference2Ideal.Read
public import proofs.«01_k».proof.Proof.Gen.Reference2Ideal.Run
public import proofs.«01_k».proof.Proof.Gen.Kernel3.Frame
public import proofs.«01_k».proof.Proof.Gen.Kernel3Ideal.Skeleton
public import proofs.«01_k».proof.Proof.Gen.Kernel3Ideal.Frame
public import proofs.«01_k».proof.Proof.Gen.Kernel3Ideal.Value
public import proofs.«01_k».proof.Proof.Gen.Reference3Ideal.Read
public import proofs.«01_k».proof.Proof.Gen.Reference3Ideal.Run
public import proofs.«01_k».proof.Proof.Gen.Kernel4.Frame
public import proofs.«01_k».proof.Proof.Gen.Kernel4Ideal.Skeleton
public import proofs.«01_k».proof.Proof.Gen.Kernel4Ideal.Frame
public import proofs.«01_k».proof.Proof.Gen.Kernel4Ideal.Value
public import proofs.«01_k».proof.Proof.Gen.Reference4Ideal.Read
public import proofs.«01_k».proof.Proof.Gen.Reference4Ideal.Run
public import proofs.«01_k».proof.Proof.Gen.Kernel5.Frame
public import proofs.«01_k».proof.Proof.Gen.Kernel5Ideal.Skeleton
public import proofs.«01_k».proof.Proof.Gen.Kernel5Ideal.Frame
public import proofs.«01_k».proof.Proof.Gen.Kernel5Ideal.Value
public import proofs.«01_k».proof.Proof.Gen.Reference5Ideal.Read
public import proofs.«01_k».proof.Proof.Gen.Reference5Ideal.Run
public import proofs.«01_k».proof.Proof.Arr
public import proofs.«01_k».proof.Proof.Host
public import proofs.«01_k».proof.Proof.Ref
public import proofs.«01_k».proof.Proof.Dx
public import proofs.«01_k».proof.Proof.WgradAlg
public import proofs.«01_k».proof.Proof.FfnAlg
public import proofs.«01_k».proof.Proof.FwdAlg
public import proofs.«01_k».proof.Proof.ColAlg
public import proofs.«01_k».proof.Proof.CfAlg
public import proofs.«01_k».proof.Proof.AdamFfn
public import proofs.«01_k».proof.Proof.AdamConv
public import proofs.«01_k».proof.Proof.AdamAttn
public import proofs.«01_k».proof.Proof.AdamAda
public import proofs.«01_k».proof.Proof.AdaAlg
public import proofs.«01_k».proof.Proof.SumAlg
public import proofs.«01_k».proof.Proof.Gen.Kernel32
public import proofs.«01_k».proof.Proof.Gen.Kernel32.Frame
public import proofs.«01_k».proof.Proof.Gen.Kernel32Ideal
public import proofs.«01_k».proof.Proof.Gen.Kernel32Ideal.Skeleton
public import proofs.«01_k».proof.Proof.Gen.Kernel32Ideal.Frame
public import proofs.«01_k».proof.Proof.Gen.Kernel32Ideal.Value
public import proofs.«01_k».proof.Proof.Gen.Reference32Ideal
public import proofs.«01_k».proof.Proof.Gen.Reference32Ideal.Read
public import proofs.«01_k».proof.Proof.Gen.Reference32Ideal.Run
public import proofs.«01_k».proof.Proof.Gen.Kernel33
public import proofs.«01_k».proof.Proof.Gen.Kernel33.Frame
public import proofs.«01_k».proof.Proof.Gen.Kernel33Ideal
public import proofs.«01_k».proof.Proof.Gen.Kernel33Ideal.Skeleton
public import proofs.«01_k».proof.Proof.Gen.Kernel33Ideal.Frame
public import proofs.«01_k».proof.Proof.Gen.Kernel33Ideal.Value
public import proofs.«01_k».proof.Proof.Gen.Reference33Ideal
public import proofs.«01_k».proof.Proof.Gen.Reference33Ideal.Read
public import proofs.«01_k».proof.Proof.Gen.Reference33Ideal.Run
public import proofs.«01_k».proof.Proof.AdaFwd
public import proofs.«01_k».proof.Proof.LossAlg
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Read
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Read
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Read
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Read
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Read
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Read
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Read
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Read
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Read
public import proofs.«01_k».proof.Proof.Gen.Reference10Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Read
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Read
public import proofs.«01_k».proof.Proof.Gen.Reference13Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Read
public import proofs.«01_k».proof.Proof.Gen.Reference16Ideal.Run
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Read
public import proofs.«01_k».proof.Proof.Gen.Reference17Ideal.Run
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Read
public import proofs.«01_k».proof.Proof.Gen.Reference18Ideal.Run
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Read
public import proofs.«01_k».proof.Proof.Gen.Reference19Ideal.Run
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Read
public import proofs.«01_k».proof.Proof.Gen.Reference20Ideal.Run
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Read
public import proofs.«01_k».proof.Proof.Gen.Reference21Ideal.Run
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Read
public import proofs.«01_k».proof.Proof.Gen.Reference22Ideal.Run
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Read
public import proofs.«01_k».proof.Proof.Gen.Reference23Ideal.Run
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Read
public import proofs.«01_k».proof.Proof.Gen.Reference24Ideal.Run
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Read
public import proofs.«01_k».proof.Proof.Gen.Reference25Ideal.Run
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Read
public import proofs.«01_k».proof.Proof.Gen.Reference26Ideal.Run
public import proofs.«01_k».proof.Proof.Gen.Kernel27
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Read
public import proofs.«01_k».proof.Proof.Gen.Reference27Ideal.Run
public import proofs.«01_k».proof.Proof.Gen.Kernel28
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Read
public import proofs.«01_k».proof.Proof.Gen.Reference28Ideal.Run
public import proofs.«01_k».proof.Proof.Gen.Kernel29
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Read
public import proofs.«01_k».proof.Proof.Gen.Reference29Ideal.Run
public import proofs.«01_k».proof.Proof.Gen.Kernel30
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Frame
public import proofs.«01_k».proof.Proof.Gen.Reference30Ideal
public import proofs.«01_k».proof.Proof.Gen.Reference30Ideal.Read
public import proofs.«01_k».proof.Proof.Gen.Reference30Ideal.Run

@[expose] public section

set_option maxRecDepth 16384

noncomputable section

namespace Cert.Proof

open Idealize.ShloMosaic Idealize.ShloMosaic.TcCoe Idealize.SL.Sem

theorem frame_k : Cert.quiescent_Kernel := fun m ρ _ => Cert.Kernel.Gen.frame m ρ
theorem frame_i : Cert.quiescent_KernelIdeal := fun m ρ _ => Cert.KernelIdeal.Gen.frame m ρ

theorem frame_r : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

open Cert.KernelIdeal.Tile (opnd)

/-- Each result as one array over the operands. -/
def dyOf (J : Cert.ConvSpec.In) : Cert.KernelIdeal.S8192x1024.Idx → EReal := fun i => J.dy (i 0) (i 1)
def dbcuOf (J : Cert.ConvSpec.In) : Cert.KernelIdeal.S8192x3072.Idx → EReal := fun i => J.dbcu (i 0) (i 1)
def dxOf (J : Cert.ConvSpec.In) : Cert.KernelIdeal.S8192x1024.Idx → EReal := fun i => J.dx (i 0) (i 1)
def redOf (J : Cert.ConvSpec.In) : Cert.KernelIdeal.S8x1024.Idx → EReal := fun i => J.red (i 0) (i 1)
def dcwOf (J : Cert.ConvSpec.In) : Cert.KernelIdeal.S8x1024.Idx → EReal := fun i => J.dcw (i 0) (i 1)

theorem algebraic : Cert.algebraic_KernelIdeal_ReferenceIdeal := by
  intro m ρ m' ρ' _ hag
  refine ⟨fun c => dyOf (opnd m c), fun c => dbcuOf (opnd m c), fun c => dxOf (opnd m c), fun c => redOf (opnd m c), fun c => dcwOf (opnd m c), ?_, ?_⟩
  · refine (θ_run Cert.KernelIdeal.defs _ _).mono (fun r h c => ?_) (Cert.KernelIdeal.Value.run_blocks (F := Ideal) m ρ)
    obtain ⟨h0, h1, h2, h3, h4, hk⟩ := h c
    exact ⟨h0.trans (Cert.KernelIdeal.Tile.arr8 m c), h1.trans (Cert.KernelIdeal.Tile.arr9 m c), h2.trans (Cert.KernelIdeal.Tile.arr10 m c), h3.trans (Cert.KernelIdeal.Tile.arr11 m c), h4.trans (Cert.KernelIdeal.Tile.arr12 m c), hk⟩
  · refine (θ_run Cert.ReferenceIdeal.defs _ _).mono (fun r h c => ?_) (Cert.ReferenceIdeal.Value.run (F := Ideal) m' ρ')
    obtain ⟨h0, h1, h2, h3, h4, hk⟩ := h c
    obtain ⟨a0, a1, a2, a3, a4, a5, a6, a7, a8⟩ := hag c
    have e : Cert.KernelIdeal.Tile.opr (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) = opnd m c := by
      rw [Cert.KernelIdeal.Tile.opnd_eq, a0, a1, a2, a3, a4, a5, a6, a7, a8]
    refine ⟨h0.trans ((Cert.ReferenceIdeal.Read.val_main_v147_eq _).trans ((Cert.ReferenceIdeal.Conv.dy_arr _ _ _ _ _ _ _ _ _).trans (congrArg dyOf e))), h1.trans ((Cert.ReferenceIdeal.Read.val_main_v148_eq _).trans ((Cert.ReferenceIdeal.Conv.dbcu_arr _ _ _ _ _ _ _ _ _).trans (congrArg dbcuOf e))), h2.trans ((Cert.ReferenceIdeal.Read.val_main_v149_eq _).trans ((Cert.ReferenceIdeal.Conv.dx_arr _ _ _ _ _ _ _ _ _).trans (congrArg dxOf e))), h3.trans ((Cert.ReferenceIdeal.Read.val_main_v146_eq _).trans ((Cert.ReferenceIdeal.Conv.red_arr _ _ _ _ _ _ _ _ _).trans (congrArg redOf e))), h4.trans ((Cert.ReferenceIdeal.Read.val_main_v151_eq _).trans ((Cert.ReferenceIdeal.Conv.dcw_arr _ _ _ _ _ _ _ _ _).trans (congrArg dcwOf e))), hk⟩

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, Cert.Kernel30.Gen.facts, Cert.Kernel30Ideal.Gen.facts, Cert.Reference30Ideal.Gen.facts, Cert.Kernel31.Gen.facts, Cert.Kernel31Ideal.Gen.facts, Cert.Reference31Ideal.Gen.facts, Cert.Kernel32.Gen.facts, Cert.Kernel32Ideal.Gen.facts, Cert.Reference32Ideal.Gen.facts, Cert.Kernel33.Gen.facts, Cert.Kernel33Ideal.Gen.facts, Cert.Reference33Ideal.Gen.facts, Cert.Pre_finite_ffn.facts,
  frame_k, frame_i, frame_r,
  frame_k2, frame_i2, frame_ip2, frame_r2, frame_rp2,
  frame_k3, frame_i3, frame_r3,
  frame_k4, frame_i4, frame_r4,
  frame_k5, frame_i5, frame_r5,
  frame_k6, frame_i6, frame_r6,
  frame_k7, frame_i7, frame_r7,
  frame_k8, frame_i8, frame_r8,
  frame_k9, frame_i9, frame_r9,
  frame_k10, frame_i10, frame_r10,
  frame_k12, frame_i12, frame_r12,
  frame_k13, frame_i13, frame_r13,
  frame_k16, frame_i16, frame_r16,
  frame_k17, frame_i17, frame_r17,
  frame_k18, frame_i18, frame_r18,
  frame_k19, frame_i19, frame_r19,
  frame_k20, frame_i20, frame_r20,
  frame_k21, frame_i21, frame_r21,
  frame_k22, frame_i22, frame_r22,
  frame_k23, frame_i23, frame_r23,
  frame_k24, frame_i24, frame_r24,
  frame_k25, frame_i25, frame_r25,
  frame_k26, frame_i26, frame_r26,
  frame_k27, frame_i27, frame_r27,
  frame_k28, frame_i28, frame_r28,
  frame_k29, frame_i29, frame_r29,
  frame_k30, frame_i30, frame_r30,
  frame_k31, frame_i31, frame_r31,
  frame_k32, frame_i32, frame_r32,
  frame_k33, frame_i33, frame_r33,
  trivial, algebraic, trivial, algebraic2, trivial, algebraic3, trivial, algebraic4, trivial, algebraic5, trivial, algebraic6, trivial, algebraic7, trivial, algebraic8, trivial, algebraic9, trivial, algebraic10, trivial, algebraic12, trivial, algebraic13, trivial, algebraic16, trivial, algebraic17, trivial, algebraic18, trivial, algebraic19, trivial, algebraic20, trivial, algebraic21, trivial, algebraic22, trivial, algebraic23, trivial, algebraic24, trivial, algebraic25, trivial, algebraic26, trivial, algebraic27, trivial, algebraic28, trivial, algebraic29, trivial, algebraic30, trivial, algebraic31, trivial, algebraic32, trivial, algebraic33⟩

end Cert.Proof

end
